-- ==== Defs.lean ====
def Pre_Kernel [hPre_lengths_fit : Cert.Pre_lengths_fit.Facts] (m : (ℓ : Loc Cert.Kernel.nD Cert.Kernel.τ Cert.Kernel.sig) → Buf (Elt Bits) ℓ) : Prop :=
  ∀ c : Dev Cert.Kernel.nD,
    (Cert.Pre_lengths_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_lengths_fit : Cert.Pre_lengths_fit.Facts] (m : (ℓ : Loc Cert.KernelIdeal.nD Cert.KernelIdeal.τ Cert.KernelIdeal.sig) → Buf (Elt Ideal) ℓ) : Prop :=
  ∀ c : Dev Cert.KernelIdeal.nD,
    (Cert.Pre_lengths_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_lengths_fit : Cert.Pre_lengths_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lengths_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_lengths_fit : Cert.Pre_lengths_fit.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_lengths_fit : Cert.Pre_lengths_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] [hPre_lengths_fit : Cert.Pre_lengths_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_lengths_fit : Cert.Pre_lengths_fit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_lengths_fit : Cert.Pre_lengths_fit.Facts),
    quiescent_Kernel (hKernel := hKernel) (hPre_lengths_fit := hPre_lengths_fit)
    ∧ quiescent_KernelIdeal (hKernelIdeal := hKernelIdeal) (hPre_lengths_fit := hPre_lengths_fit)
    ∧ quiescent_ReferenceIdeal (hReferenceIdeal := hReferenceIdeal) (hPre_lengths_fit := hPre_lengths_fit)
    ∧ preserves_Kernel_KernelIdeal
    ∧ algebraic_KernelIdeal_ReferenceIdeal (hKernelIdeal := hKernelIdeal) (hReferenceIdeal := hReferenceIdeal) (hPre_lengths_fit := hPre_lengths_fit)
-- ==== Pre_lengths_fit.lean ====
abbrev S3x1x2048 : Shape := ⟨3, ![3, 1, 2048]⟩
abbrev S3x4x1x256 : Shape := ⟨4, ![3, 4, 1, 256]⟩
abbrev S3x4x65536x256 : Shape := ⟨4, ![3, 4, 65536, 256]⟩
abbrev S4x256 : Shape := ⟨2, ![4, 256]⟩
abbrev S4 : Shape := ⟨1, ![4]⟩
abbrev S3 : Shape := ⟨1, ![3]⟩
abbrev S_ : Shape := ⟨0, ![]⟩

class Facts : Prop where
  bcast_S_S3 : S_.BroadcastsInDim S3 (![] : Fin 0 → Fin S3.rank)

variable [Facts]

def fn {F : FTy → Type} [FloatOps F] (main_arg0 : FVec F S3x1x2048 .bf16) (main_arg1 : FVec F S3x4x1x256 .bf16) (main_arg2 : FVec F S3x4x1x256 .bf16) (main_arg3 : IVec S3x4x65536x256 8) (main_arg4 : IVec S3x4x65536x256 8) (main_arg5 : FVec F S4x256 .f32) (main_arg6 : FVec F S4 .f32) (main_arg7 : IVec S3 32) : IVec S3 1 :=
  let main_c : IVec S_ 32 := constantI S_ 32 0#32
  let main_v0 : IVec S3 32 := broadcastInDim S3 ![] bcast_S_S3 main_c
  let main_v1 : IVec S3 1 := cmpi .sge main_arg7 main_v0
  let main_c_0 : IVec S_ 32 := constantI S_ 32 65536#32
  let main_v2 : IVec S3 32 := broadcastInDim S3 ![] bcast_S_S3 main_c_0
  let main_v3 : IVec S3 1 := cmpi .sle main_arg7 main_v2
  let main_v4 : IVec S3 1 := andi main_v1 main_v3
  main_v4
-- ==== Kernel.lean ====
abbrev S3x1x2048 : Shape := ⟨3, ![3, 1, 2048]⟩
abbrev S3x4x1x256 : Shape := ⟨4, ![3, 4, 1, 256]⟩
abbrev S3x4x65536x256 : Shape := ⟨4, ![3, 4, 65536, 256]⟩
abbrev S4x256 : Shape := ⟨2, ![4, 256]⟩
abbrev S4 : Shape := ⟨1, ![4]⟩
abbrev S3 : Shape := ⟨1, ![3]⟩
abbrev S3x4x4096x256 : Shape := ⟨4, ![3, 4, 4096, 256]⟩
abbrev S3x4x32x256 : Shape := ⟨4, ![3, 4, 32, 256]⟩
abbrev S8x4096 : Shape := ⟨2, ![8, 4096]⟩
abbrev S3x4 : Shape := ⟨2, ![3, 4]⟩
abbrev S3x2 : Shape := ⟨2, ![3, 2]⟩
abbrev S1 : Shape := ⟨1, ![1]⟩
abbrev S1x1 : Shape := ⟨2, ![1, 1]⟩
abbrev S_ : Shape := ⟨0, ![]⟩
abbrev S1x4x32x256 : Shape := ⟨4, ![1, 4, 32, 256]⟩
abbrev S4x32x256 : Shape := ⟨3, ![4, 32, 256]⟩
abbrev S1x1x4096x256 : Shape := ⟨4, ![1, 1, 4096, 256]⟩
abbrev S4096x256 : Shape := ⟨2, ![4096, 256]⟩
abbrev S8x1 : Shape := ⟨2, ![8, 1]⟩
abbrev S1x1x2048 : Shape := ⟨3, ![1, 1, 2048]⟩
abbrev S1x2048 : Shape := ⟨2, ![1, 2048]⟩
abbrev S8x256 : Shape := ⟨2, ![8, 256]⟩
abbrev S1x1x1x256 : Shape := ⟨4, ![1, 1, 1, 256]⟩
abbrev S1x256 : Shape := ⟨2, ![1, 256]⟩
abbrev S1x1x32x256 : Shape := ⟨4, ![1, 1, 32, 256]⟩
abbrev S32x256 : Shape := ⟨2, ![32, 256]⟩
abbrev S1x1x1024x256 : Shape := ⟨4, ![1, 1, 1024, 256]⟩
abbrev S1024x256 : Shape := ⟨2, ![1024, 256]⟩
abbrev S8x1024 : Shape := ⟨2, ![8, 1024]⟩
abbrev S8 : Shape := ⟨1, ![8]⟩
abbrev S1x1x256 : Shape := ⟨3, ![1, 1, 256]⟩

abbrev nBuf : Space → Nat
  | .hbm => 11
  | .vmem => 12
  | .smem => 2
  | _ => 0

abbrev bufTy : (tb : Table) → Fin (tcTables nBuf tb) → BufTy
  | .hbm, ⟨0, _⟩ => ⟨S3x1x2048, .bf16⟩
  | .hbm, ⟨1, _⟩ => ⟨S3x4x1x256, .bf16⟩
  | .hbm, ⟨2, _⟩ => ⟨S3x4x1x256, .bf16⟩
  | .hbm, ⟨3, _⟩ => ⟨S3x4x65536x256, .i8⟩
  | .hbm, ⟨4, _⟩ => ⟨S3x4x65536x256, .i8⟩
  | .hbm, ⟨5, _⟩ => ⟨S4x256, .f32⟩
  | .hbm, ⟨6, _⟩ => ⟨S4, .f32⟩
  | .hbm, ⟨7, _⟩ => ⟨S3, .i32⟩
  | .hbm, ⟨8, _⟩ => ⟨S3x1x2048, .bf16⟩
  | .hbm, ⟨9, _⟩ => ⟨S3x4x1x256, .i8⟩
  | .hbm, ⟨10, _⟩ => ⟨S3x4x1x256, .i8⟩
  | .local _ .vmem, ⟨0, _⟩ => ⟨S3x1x2048, .bf16⟩
  | .local _ .vmem, ⟨1, _⟩ => ⟨S3x4x1x256, .bf16⟩
  | .local _ .vmem, ⟨2, _⟩ => ⟨S3x4x1x256, .bf16⟩
  | .local _ .vmem, ⟨3, _⟩ => ⟨S4x256, .f32⟩
  | .local _ .vmem, ⟨4, _⟩ => ⟨S3x1x2048, .bf16⟩
  | .local _ .vmem, ⟨5, _⟩ => ⟨S3x4x1x256, .i8⟩
  | .local _ .vmem, ⟨6, _⟩ => ⟨S3x4x1x256, .i8⟩
  | .local _ .vmem, ⟨7, _⟩ => ⟨S3x4x4096x256, .i8⟩
  | .local _ .vmem, ⟨8, _⟩ => ⟨S3x4x4096x256, .i8⟩
  | .local _ .vmem, ⟨9, _⟩ => ⟨S3x4x32x256, .i8⟩
  | .local _ .vmem, ⟨10, _⟩ => ⟨S3x4x32x256, .i8⟩
  | .local _ .vmem, ⟨11, _⟩ => ⟨S8x4096, .f32⟩
  | .local _ .smem, ⟨0, _⟩ => ⟨S3, .i32⟩
  | .local _ .smem, ⟨1, _⟩ => ⟨S4, .f32⟩
  | _, _ => ⟨S3x1x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg6_0 : Ref sig .tc := ⟨.vmem, 4, rfl⟩
abbrev cc0_stg7_0 : Ref sig .tc := ⟨.vmem, 5, rfl⟩
abbrev cc0_stg8_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_stg0_0 : Ref sig .tc := ⟨.smem, 0, rfl⟩
abbrev cc0_stg5_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

def k0_mult1 (v0 : BitVec 32) : BitVec 32 :=
  let c4095_i32 : BitVec 32 := 4095#32
  let v1 : BitVec 32 := Scalar.subi v0 c4095_i32
  let c0_i32 : BitVec 32 := 0#32
  let v2 : BitVec 32 := Scalar.maxsi v1 c0_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c32_i32 : BitVec 32 := 32#32
  let c0_i32_2 : BitVec 32 := 0#32
  let v9 : BitVec 1 := Scalar.cmpi .sgt c32_i32 c0_i32_2
  let v10 : BitVec 32 := Scalar.extui v9
  let c0_i32_3 : BitVec 32 := 0#32
  let v11 : BitVec 1 := Scalar.cmpi .slt c32_i32 c0_i32_3
  let v12 : BitVec 32 := Scalar.extui v11
  let v13 : BitVec 32 := Scalar.subi v10 v12
  let v14 : BitVec 1 := Scalar.cmpi .ne v8 v13
  let v15 : BitVec 32 := Scalar.remsi v2 c32_i32
  let c0_i32_4 : BitVec 32 := 0#32
  let v16 : BitVec 1 := Scalar.cmpi .ne v15 c0_i32_4
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c32_i32_5 : BitVec 32 := 32#32
  let v20 : BitVec 32 := Scalar.muli v19 c32_i32_5
  v20

def k0_mult2 (v0 : BitVec 32) : BitVec 32 :=
  let c4095_i32 : BitVec 32 := 4095#32
  let v1 : BitVec 32 := Scalar.subi v0 c4095_i32
  let c0_i32 : BitVec 32 := 0#32
  let v2 : BitVec 32 := Scalar.maxsi v1 c0_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c32_i32 : BitVec 32 := 32#32
  let c0_i32_2 : BitVec 32 := 0#32
  let v9 : BitVec 1 := Scalar.cmpi .sgt c32_i32 c0_i32_2
  let v10 : BitVec 32 := Scalar.extui v9
  let c0_i32_3 : BitVec 32 := 0#32
  let v11 : BitVec 1 := Scalar.cmpi .slt c32_i32 c0_i32_3
  let v12 : BitVec 32 := Scalar.extui v11
  let v13 : BitVec 32 := Scalar.subi v10 v12
  let v14 : BitVec 1 := Scalar.cmpi .ne v8 v13
  let v15 : BitVec 32 := Scalar.remsi v2 c32_i32
  let c0_i32_4 : BitVec 32 := 0#32
  let v16 : BitVec 1 := Scalar.cmpi .ne v15 c0_i32_4
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c32_i32_5 : BitVec 32 := 32#32
  let v20 : BitVec 32 := Scalar.muli v19 c32_i32_5
  let v21 : BitVec 32 := v20
  let c4096_i32 : BitVec 32 := 4096#32
  let v22 : BitVec 32 := Scalar.addi v21 c4096_i32
  let c65504_i32 : BitVec 32 := 65504#32
  let v23 : BitVec 32 := Scalar.minsi v22 c65504_i32
  v23
def k0_off1 (v0 : BitVec 32) : Fin 4 → Nat :=
  let c0_i32_6 : BitVec 32 := 0#32
  let c0_i32_13 : BitVec 32 := 0#32
  let c4095_i32 : BitVec 32 := 4095#32
  let v1 : BitVec 32 := Scalar.subi v0 c4095_i32
  let c0_i32 : BitVec 32 := 0#32
  let v2 : BitVec 32 := Scalar.maxsi v1 c0_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c32_i32 : BitVec 32 := 32#32
  let c0_i32_2 : BitVec 32 := 0#32
  let v9 : BitVec 1 := Scalar.cmpi .sgt c32_i32 c0_i32_2
  let v10 : BitVec 32 := Scalar.extui v9
  let c0_i32_3 : BitVec 32 := 0#32
  let v11 : BitVec 1 := Scalar.cmpi .slt c32_i32 c0_i32_3
  let v12 : BitVec 32 := Scalar.extui v11
  let v13 : BitVec 32 := Scalar.subi v10 v12
  let v14 : BitVec 1 := Scalar.cmpi .ne v8 v13
  let v15 : BitVec 32 := Scalar.remsi v2 c32_i32
  let c0_i32_4 : BitVec 32 := 0#32
  let v16 : BitVec 1 := Scalar.cmpi .ne v15 c0_i32_4
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c32_i32_5 : BitVec 32 := 32#32
  let v20 : BitVec 32 := Scalar.muli v19 c32_i32_5
  let v21 : BitVec 32 := v20
  let c4096_i32 : BitVec 32 := 4096#32
  let v22 : BitVec 32 := Scalar.addi v21 c4096_i32
  let c65504_i32 : BitVec 32 := 65504#32
  let v23 : BitVec 32 := Scalar.minsi v22 c65504_i32
  let v24 : BitVec 32 := v23
  let c0_i32_14 : BitVec 32 := 0#32
  ![0, 0, v24.toNat, 0]

def k0_chk1 (v0 : BitVec 32) : Prop :=
  (32 ∣ (k0_mult1 v0).toNat) ∧
  (32 ∣ (k0_mult2 v0).toNat) ∧
  (∀ a, (k0_off1 v0) a + S1x4x32x256.size a ≤ S3x4x65536x256.size a) ∧
  (∀ (hinb : ∀ a, (k0_off1 v0) a + S1x4x32x256.size a ≤ S3x4x65536x256.size a), (Rect.unit (s := S3x4x65536x256) (k0_off1 v0) S1x4x32x256.size hinb).WholeWords (EltTy.packing .i8))
theorem k0_mult1_dvd : ∀ (v0 : BitVec 32) (k0_hw1 : k0_chk1 v0), 32 ∣ (k0_mult1 v0).toNat := fun v0 k0_hw1 => k0_hw1.1
theorem k0_mult2_dvd : ∀ (v0 : BitVec 32) (k0_hw1 : k0_chk1 v0), 32 ∣ (k0_mult2 v0).toNat := fun v0 k0_hw1 => k0_hw1.2.1
theorem k0_off1_inb : ∀ (v0 : BitVec 32) (k0_hw1 : k0_chk1 v0), ∀ a, (k0_off1 v0) a + S1x4x32x256.size a ≤ S3x4x65536x256.size a := fun v0 k0_hw1 => k0_hw1.2.2.1
theorem k0_off1_wordsi8 : ∀ (v0 : BitVec 32) (k0_hw1 : k0_chk1 v0), (Rect.unit (s := S3x4x65536x256) (k0_off1 v0) S1x4x32x256.size (k0_off1_inb v0 k0_hw1)).WholeWords (EltTy.packing .i8) := fun v0 k0_hw1 => k0_hw1.2.2.2 (k0_off1_inb v0 k0_hw1)

def k0_mult3 (v31 : BitVec 32) : BitVec 32 :=
  let c4095_i32_16 : BitVec 32 := 4095#32
  let v32 : BitVec 32 := Scalar.subi v31 c4095_i32_16
  let c0_i32_17 : BitVec 32 := 0#32
  let v33 : BitVec 32 := Scalar.maxsi v32 c0_i32_17
  let c0_i32_19 : BitVec 32 := 0#32
  let v35 : BitVec 1 := Scalar.cmpi .sgt v33 c0_i32_19
  let v36 : BitVec 32 := Scalar.extui v35
  let c0_i32_20 : BitVec 32 := 0#32
  let v37 : BitVec 1 := Scalar.cmpi .slt v33 c0_i32_20
  let v38 : BitVec 32 := Scalar.extui v37
  let v39 : BitVec 32 := Scalar.subi v36 v38
  let c32_i32_18 : BitVec 32 := 32#32
  let c0_i32_21 : BitVec 32 := 0#32
  let v40 : BitVec 1 := Scalar.cmpi .sgt c32_i32_18 c0_i32_21
  let v41 : BitVec 32 := Scalar.extui v40
  let c0_i32_22 : BitVec 32 := 0#32
  let v42 : BitVec 1 := Scalar.cmpi .slt c32_i32_18 c0_i32_22
  let v43 : BitVec 32 := Scalar.extui v42
  let v44 : BitVec 32 := Scalar.subi v41 v43
  let v45 : BitVec 1 := Scalar.cmpi .ne v39 v44
  let v46 : BitVec 32 := Scalar.remsi v33 c32_i32_18
  let c0_i32_23 : BitVec 32 := 0#32
  let v47 : BitVec 1 := Scalar.cmpi .ne v46 c0_i32_23
  let v48 : BitVec 1 := Scalar.andi v45 v47
  let v34 : BitVec 32 := Scalar.divsi v33 c32_i32_18
  let c1_i32_24 : BitVec 32 := 1#32
  let v49 : BitVec 32 := Scalar.subi v34 c1_i32_24
  let v50 : BitVec 32 := Scalar.select v48 v49 v34
  let c32_i32_25 : BitVec 32 := 32#32
  let v51 : BitVec 32 := Scalar.muli v50 c32_i32_25
  v51

def k0_mult4 (v31 : BitVec 32) : BitVec 32 :=
  let c4095_i32_16 : BitVec 32 := 4095#32
  let v32 : BitVec 32 := Scalar.subi v31 c4095_i32_16
  let c0_i32_17 : BitVec 32 := 0#32
  let v33 : BitVec 32 := Scalar.maxsi v32 c0_i32_17
  let c0_i32_19 : BitVec 32 := 0#32
  let v35 : BitVec 1 := Scalar.cmpi .sgt v33 c0_i32_19
  let v36 : BitVec 32 := Scalar.extui v35
  let c0_i32_20 : BitVec 32 := 0#32
  let v37 : BitVec 1 := Scalar.cmpi .slt v33 c0_i32_20
  let v38 : BitVec 32 := Scalar.extui v37
  let v39 : BitVec 32 := Scalar.subi v36 v38
  let c32_i32_18 : BitVec 32 := 32#32
  let c0_i32_21 : BitVec 32 := 0#32
  let v40 : BitVec 1 := Scalar.cmpi .sgt c32_i32_18 c0_i32_21
  let v41 : BitVec 32 := Scalar.extui v40
  let c0_i32_22 : BitVec 32 := 0#32
  let v42 : BitVec 1 := Scalar.cmpi .slt c32_i32_18 c0_i32_22
  let v43 : BitVec 32 := Scalar.extui v42
  let v44 : BitVec 32 := Scalar.subi v41 v43
  let v45 : BitVec 1 := Scalar.cmpi .ne v39 v44
  let v46 : BitVec 32 := Scalar.remsi v33 c32_i32_18
  let c0_i32_23 : BitVec 32 := 0#32
  let v47 : BitVec 1 := Scalar.cmpi .ne v46 c0_i32_23
  let v48 : BitVec 1 := Scalar.andi v45 v47
  let v34 : BitVec 32 := Scalar.divsi v33 c32_i32_18
  let c1_i32_24 : BitVec 32 := 1#32
  let v49 : BitVec 32 := Scalar.subi v34 c1_i32_24
  let v50 : BitVec 32 := Scalar.select v48 v49 v34
  let c32_i32_25 : BitVec 32 := 32#32
  let v51 : BitVec 32 := Scalar.muli v50 c32_i32_25
  let v52 : BitVec 32 := v51
  let c4096_i32_26 : BitVec 32 := 4096#32
  let v53 : BitVec 32 := Scalar.addi v52 c4096_i32_26
  let c65504_i32_27 : BitVec 32 := 65504#32
  let v54 : BitVec 32 := Scalar.minsi v53 c65504_i32_27
  v54
def k0_off2 (v31 : BitVec 32) : Fin 4 → Nat :=
  let c0_i32_28 : BitVec 32 := 0#32
  let c0_i32_35 : BitVec 32 := 0#32
  let c4095_i32_16 : BitVec 32 := 4095#32
  let v32 : BitVec 32 := Scalar.subi v31 c4095_i32_16
  let c0_i32_17 : BitVec 32 := 0#32
  let v33 : BitVec 32 := Scalar.maxsi v32 c0_i32_17
  let c0_i32_19 : BitVec 32 := 0#32
  let v35 : BitVec 1 := Scalar.cmpi .sgt v33 c0_i32_19
  let v36 : BitVec 32 := Scalar.extui v35
  let c0_i32_20 : BitVec 32 := 0#32
  let v37 : BitVec 1 := Scalar.cmpi .slt v33 c0_i32_20
  let v38 : BitVec 32 := Scalar.extui v37
  let v39 : BitVec 32 := Scalar.subi v36 v38
  let c32_i32_18 : BitVec 32 := 32#32
  let c0_i32_21 : BitVec 32 := 0#32
  let v40 : BitVec 1 := Scalar.cmpi .sgt c32_i32_18 c0_i32_21
  let v41 : BitVec 32 := Scalar.extui v40
  let c0_i32_22 : BitVec 32 := 0#32
  let v42 : BitVec 1 := Scalar.cmpi .slt c32_i32_18 c0_i32_22
  let v43 : BitVec 32 := Scalar.extui v42
  let v44 : BitVec 32 := Scalar.subi v41 v43
  let v45 : BitVec 1 := Scalar.cmpi .ne v39 v44
  let v46 : BitVec 32 := Scalar.remsi v33 c32_i32_18
  let c0_i32_23 : BitVec 32 := 0#32
  let v47 : BitVec 1 := Scalar.cmpi .ne v46 c0_i32_23
  let v48 : BitVec 1 := Scalar.andi v45 v47
  let v34 : BitVec 32 := Scalar.divsi v33 c32_i32_18
  let c1_i32_24 : BitVec 32 := 1#32
  let v49 : BitVec 32 := Scalar.subi v34 c1_i32_24
  let v50 : BitVec 32 := Scalar.select v48 v49 v34
  let c32_i32_25 : BitVec 32 := 32#32
  let v51 : BitVec 32 := Scalar.muli v50 c32_i32_25
  let v52 : BitVec 32 := v51
  let c4096_i32_26 : BitVec 32 := 4096#32
  let v53 : BitVec 32 := Scalar.addi v52 c4096_i32_26
  let c65504_i32_27 : BitVec 32 := 65504#32
  let v54 : BitVec 32 := Scalar.minsi v53 c65504_i32_27
  let v55 : BitVec 32 := v54
  let c0_i32_36 : BitVec 32 := 0#32
  ![0, 0, v55.toNat, 0]

def k0_chk2 (v31 : BitVec 32) : Prop :=
  (32 ∣ (k0_mult3 v31).toNat) ∧
  (32 ∣ (k0_mult4 v31).toNat) ∧
  (∀ a, (k0_off2 v31) a + S1x4x32x256.size a ≤ S3x4x65536x256.size a) ∧
  (∀ (hinb : ∀ a, (k0_off2 v31) a + S1x4x32x256.size a ≤ S3x4x65536x256.size a), (Rect.unit (s := S3x4x65536x256) (k0_off2 v31) S1x4x32x256.size hinb).WholeWords (EltTy.packing .i8))
theorem k0_mult3_dvd : ∀ (v31 : BitVec 32) (k0_hw2 : k0_chk2 v31), 32 ∣ (k0_mult3 v31).toNat := fun v31 k0_hw2 => k0_hw2.1
theorem k0_mult4_dvd : ∀ (v31 : BitVec 32) (k0_hw2 : k0_chk2 v31), 32 ∣ (k0_mult4 v31).toNat := fun v31 k0_hw2 => k0_hw2.2.1
theorem k0_off2_inb : ∀ (v31 : BitVec 32) (k0_hw2 : k0_chk2 v31), ∀ a, (k0_off2 v31) a + S1x4x32x256.size a ≤ S3x4x65536x256.size a := fun v31 k0_hw2 => k0_hw2.2.2.1
theorem k0_off2_wordsi8 : ∀ (v31 : BitVec 32) (k0_hw2 : k0_chk2 v31), (Rect.unit (s := S3x4x65536x256) (k0_off2 v31) S1x4x32x256.size (k0_off2_inb v31 k0_hw2)).WholeWords (EltTy.packing .i8) := fun v31 k0_hw2 => k0_hw2.2.2.2 (k0_off2_inb v31 k0_hw2)

def k0_mult5 (v62 : BitVec 32) : BitVec 32 :=
  let c4095_i32_38 : BitVec 32 := 4095#32
  let v63 : BitVec 32 := Scalar.subi v62 c4095_i32_38
  let c0_i32_39 : BitVec 32 := 0#32
  let v64 : BitVec 32 := Scalar.maxsi v63 c0_i32_39
  let c0_i32_41 : BitVec 32 := 0#32
  let v66 : BitVec 1 := Scalar.cmpi .sgt v64 c0_i32_41
  let v67 : BitVec 32 := Scalar.extui v66
  let c0_i32_42 : BitVec 32 := 0#32
  let v68 : BitVec 1 := Scalar.cmpi .slt v64 c0_i32_42
  let v69 : BitVec 32 := Scalar.extui v68
  let v70 : BitVec 32 := Scalar.subi v67 v69
  let c32_i32_40 : BitVec 32 := 32#32
  let c0_i32_43 : BitVec 32 := 0#32
  let v71 : BitVec 1 := Scalar.cmpi .sgt c32_i32_40 c0_i32_43
  let v72 : BitVec 32 := Scalar.extui v71
  let c0_i32_44 : BitVec 32 := 0#32
  let v73 : BitVec 1 := Scalar.cmpi .slt c32_i32_40 c0_i32_44
  let v74 : BitVec 32 := Scalar.extui v73
  let v75 : BitVec 32 := Scalar.subi v72 v74
  let v76 : BitVec 1 := Scalar.cmpi .ne v70 v75
  let v77 : BitVec 32 := Scalar.remsi v64 c32_i32_40
  let c0_i32_45 : BitVec 32 := 0#32
  let v78 : BitVec 1 := Scalar.cmpi .ne v77 c0_i32_45
  let v79 : BitVec 1 := Scalar.andi v76 v78
  let v65 : BitVec 32 := Scalar.divsi v64 c32_i32_40
  let c1_i32_46 : BitVec 32 := 1#32
  let v80 : BitVec 32 := Scalar.subi v65 c1_i32_46
  let v81 : BitVec 32 := Scalar.select v79 v80 v65
  let c32_i32_47 : BitVec 32 := 32#32
  let v82 : BitVec 32 := Scalar.muli v81 c32_i32_47
  v82

def k0_off3 (v62 : BitVec 32) : Fin 4 → Nat :=
  let c0_i32_48 : BitVec 32 := 0#32
  let c0_i32_49 : BitVec 32 := 0#32
  let c4095_i32_38 : BitVec 32 := 4095#32
  let v63 : BitVec 32 := Scalar.subi v62 c4095_i32_38
  let c0_i32_39 : BitVec 32 := 0#32
  let v64 : BitVec 32 := Scalar.maxsi v63 c0_i32_39
  let c0_i32_41 : BitVec 32 := 0#32
  let v66 : BitVec 1 := Scalar.cmpi .sgt v64 c0_i32_41
  let v67 : BitVec 32 := Scalar.extui v66
  let c0_i32_42 : BitVec 32 := 0#32
  let v68 : BitVec 1 := Scalar.cmpi .slt v64 c0_i32_42
  let v69 : BitVec 32 := Scalar.extui v68
  let v70 : BitVec 32 := Scalar.subi v67 v69
  let c32_i32_40 : BitVec 32 := 32#32
  let c0_i32_43 : BitVec 32 := 0#32
  let v71 : BitVec 1 := Scalar.cmpi .sgt c32_i32_40 c0_i32_43
  let v72 : BitVec 32 := Scalar.extui v71
  let c0_i32_44 : BitVec 32 := 0#32
  let v73 : BitVec 1 := Scalar.cmpi .slt c32_i32_40 c0_i32_44
  let v74 : BitVec 32 := Scalar.extui v73
  let v75 : BitVec 32 := Scalar.subi v72 v74
  let v76 : BitVec 1 := Scalar.cmpi .ne v70 v75
  let v77 : BitVec 32 := Scalar.remsi v64 c32_i32_40
  let c0_i32_45 : BitVec 32 := 0#32
  let v78 : BitVec 1 := Scalar.cmpi .ne v77 c0_i32_45
  let v79 : BitVec 1 := Scalar.andi v76 v78
  let v65 : BitVec 32 := Scalar.divsi v64 c32_i32_40
  let c1_i32_46 : BitVec 32 := 1#32
  let v80 : BitVec 32 := Scalar.subi v65 c1_i32_46
  let v81 : BitVec 32 := Scalar.select v79 v80 v65
  let c32_i32_47 : BitVec 32 := 32#32
  let v82 : BitVec 32 := Scalar.muli v81 c32_i32_47
  let v83 : BitVec 32 := v82
  let c0_i32_56 : BitVec 32 := 0#32
  ![0, 0, v83.toNat, 0]

def k0_chk3 (v62 : BitVec 32) : Prop :=
  (32 ∣ (k0_mult5 v62).toNat) ∧
  (∀ a, (k0_off3 v62) a + S1x1x4096x256.size a ≤ S3x4x65536x256.size a) ∧
  (∀ (hinb : ∀ a, (k0_off3 v62) a + S1x1x4096x256.size a ≤ S3x4x65536x256.size a), (Rect.unit (s := S3x4x65536x256) (k0_off3 v62) S1x1x4096x256.size hinb).WholeWords (EltTy.packing .i8))
theorem k0_mult5_dvd : ∀ (v62 : BitVec 32) (k0_hw3 : k0_chk3 v62), 32 ∣ (k0_mult5 v62).toNat := fun v62 k0_hw3 => k0_hw3.1
theorem k0_off3_inb : ∀ (v62 : BitVec 32) (k0_hw3 : k0_chk3 v62), ∀ a, (k0_off3 v62) a + S1x1x4096x256.size a ≤ S3x4x65536x256.size a := fun v62 k0_hw3 => k0_hw3.2.1
theorem k0_off3_wordsi8 : ∀ (v62 : BitVec 32) (k0_hw3 : k0_chk3 v62), (Rect.unit (s := S3x4x65536x256) (k0_off3 v62) S1x1x4096x256.size (k0_off3_inb v62 k0_hw3)).WholeWords (EltTy.packing .i8) := fun v62 k0_hw3 => k0_hw3.2.2 (k0_off3_inb v62 k0_hw3)

def k0_mult6 (v90 : BitVec 32) : BitVec 32 :=
  let c4095_i32_58 : BitVec 32 := 4095#32
  let v91 : BitVec 32 := Scalar.subi v90 c4095_i32_58
  let c0_i32_59 : BitVec 32 := 0#32
  let v92 : BitVec 32 := Scalar.maxsi v91 c0_i32_59
  let c0_i32_61 : BitVec 32 := 0#32
  let v94 : BitVec 1 := Scalar.cmpi .sgt v92 c0_i32_61
  let v95 : BitVec 32 := Scalar.extui v94
  let c0_i32_62 : BitVec 32 := 0#32
  let v96 : BitVec 1 := Scalar.cmpi .slt v92 c0_i32_62
  let v97 : BitVec 32 := Scalar.extui v96
  let v98 : BitVec 32 := Scalar.subi v95 v97
  let c32_i32_60 : BitVec 32 := 32#32
  let c0_i32_63 : BitVec 32 := 0#32
  let v99 : BitVec 1 := Scalar.cmpi .sgt c32_i32_60 c0_i32_63
  let v100 : BitVec 32 := Scalar.extui v99
  let c0_i32_64 : BitVec 32 := 0#32
  let v101 : BitVec 1 := Scalar.cmpi .slt c32_i32_60 c0_i32_64
  let v102 : BitVec 32 := Scalar.extui v101
  let v103 : BitVec 32 := Scalar.subi v100 v102
  let v104 : BitVec 1 := Scalar.cmpi .ne v98 v103
  let v105 : BitVec 32 := Scalar.remsi v92 c32_i32_60
  let c0_i32_65 : BitVec 32 := 0#32
  let v106 : BitVec 1 := Scalar.cmpi .ne v105 c0_i32_65
  let v107 : BitVec 1 := Scalar.andi v104 v106
  let v93 : BitVec 32 := Scalar.divsi v92 c32_i32_60
  let c1_i32_66 : BitVec 32 := 1#32
  let v108 : BitVec 32 := Scalar.subi v93 c1_i32_66
  let v109 : BitVec 32 := Scalar.select v107 v108 v93
  let c32_i32_67 : BitVec 32 := 32#32
  let v110 : BitVec 32 := Scalar.muli v109 c32_i32_67
  v110

def k0_off4 (v90 : BitVec 32) : Fin 4 → Nat :=
  let c0_i32_68 : BitVec 32 := 0#32
  let c1_i32_69 : BitVec 32 := 1#32
  let c4095_i32_58 : BitVec 32 := 4095#32
  let v91 : BitVec 32 := Scalar.subi v90 c4095_i32_58
  let c0_i32_59 : BitVec 32 := 0#32
  let v92 : BitVec 32 := Scalar.maxsi v91 c0_i32_59
  let c0_i32_61 : BitVec 32 := 0#32
  let v94 : BitVec 1 := Scalar.cmpi .sgt v92 c0_i32_61
  let v95 : BitVec 32 := Scalar.extui v94
  let c0_i32_62 : BitVec 32 := 0#32
  let v96 : BitVec 1 := Scalar.cmpi .slt v92 c0_i32_62
  let v97 : BitVec 32 := Scalar.extui v96
  let v98 : BitVec 32 := Scalar.subi v95 v97
  let c32_i32_60 : BitVec 32 := 32#32
  let c0_i32_63 : BitVec 32 := 0#32
  let v99 : BitVec 1 := Scalar.cmpi .sgt c32_i32_60 c0_i32_63
  let v100 : BitVec 32 := Scalar.extui v99
  let c0_i32_64 : BitVec 32 := 0#32
  let v101 : BitVec 1 := Scalar.cmpi .slt c32_i32_60 c0_i32_64
  let v102 : BitVec 32 := Scalar.extui v101
  let v103 : BitVec 32 := Scalar.subi v100 v102
  let v104 : BitVec 1 := Scalar.cmpi .ne v98 v103
  let v105 : BitVec 32 := Scalar.remsi v92 c32_i32_60
  let c0_i32_65 : BitVec 32 := 0#32
  let v106 : BitVec 1 := Scalar.cmpi .ne v105 c0_i32_65
  let v107 : BitVec 1 := Scalar.andi v104 v106
  let v93 : BitVec 32 := Scalar.divsi v92 c32_i32_60
  let c1_i32_66 : BitVec 32 := 1#32
  let v108 : BitVec 32 := Scalar.subi v93 c1_i32_66
  let v109 : BitVec 32 := Scalar.select v107 v108 v93
  let c32_i32_67 : BitVec 32 := 32#32
  let v110 : BitVec 32 := Scalar.muli v109 c32_i32_67
  let v111 : BitVec 32 := v110
  let c0_i32_76 : BitVec 32 := 0#32
  ![0, 1, v111.toNat, 0]

def k0_chk4 (v90 : BitVec 32) : Prop :=
  (32 ∣ (k0_mult6 v90).toNat) ∧
  (∀ a, (k0_off4 v90) a + S1x1x4096x256.size a ≤ S3x4x65536x256.size a) ∧
  (∀ (hinb : ∀ a, (k0_off4 v90) a + S1x1x4096x256.size a ≤ S3x4x65536x256.size a), (Rect.unit (s := S3x4x65536x256) (k0_off4 v90) S1x1x4096x256.size hinb).WholeWords (EltTy.packing .i8))
theorem k0_mult6_dvd : ∀ (v90 : BitVec 32) (k0_hw4 : k0_chk4 v90), 32 ∣ (k0_mult6 v90).toNat := fun v90 k0_hw4 => k0_hw4.1
theorem k0_off4_inb : ∀ (v90 : BitVec 32) (k0_hw4 : k0_chk4 v90), ∀ a, (k0_off4 v90) a + S1x1x4096x256.size a ≤ S3x4x65536x256.size a := fun v90 k0_hw4 => k0_hw4.2.1
theorem k0_off4_wordsi8 : ∀ (v90 : BitVec 32) (k0_hw4 : k0_chk4 v90), (Rect.unit (s := S3x4x65536x256) (k0_off4 v90) S1x1x4096x256.size (k0_off4_inb v90 k0_hw4)).WholeWords (EltTy.packing .i8) := fun v90 k0_hw4 => k0_hw4.2.2 (k0_off4_inb v90 k0_hw4)

def k0_mult7 (v118 : BitVec 32) : BitVec 32 :=
  let c4095_i32_78 : BitVec 32 := 4095#32
  let v119 : BitVec 32 := Scalar.subi v118 c4095_i32_78
  let c0_i32_79 : BitVec 32 := 0#32
  let v120 : BitVec 32 := Scalar.maxsi v119 c0_i32_79
  let c0_i32_81 : BitVec 32 := 0#32
  let v122 : BitVec 1 := Scalar.cmpi .sgt v120 c0_i32_81
  let v123 : BitVec 32 := Scalar.extui v122
  let c0_i32_82 : BitVec 32 := 0#32
  let v124 : BitVec 1 := Scalar.cmpi .slt v120 c0_i32_82
  let v125 : BitVec 32 := Scalar.extui v124
  let v126 : BitVec 32 := Scalar.subi v123 v125
  let c32_i32_80 : BitVec 32 := 32#32
  let c0_i32_83 : BitVec 32 := 0#32
  let v127 : BitVec 1 := Scalar.cmpi .sgt c32_i32_80 c0_i32_83
  let v128 : BitVec 32 := Scalar.extui v127
  let c0_i32_84 : BitVec 32 := 0#32
  let v129 : BitVec 1 := Scalar.cmpi .slt c32_i32_80 c0_i32_84
  let v130 : BitVec 32 := Scalar.extui v129
  let v131 : BitVec 32 := Scalar.subi v128 v130
  let v132 : BitVec 1 := Scalar.cmpi .ne v126 v131
  let v133 : BitVec 32 := Scalar.remsi v120 c32_i32_80
  let c0_i32_85 : BitVec 32 := 0#32
  let v134 : BitVec 1 := Scalar.cmpi .ne v133 c0_i32_85
  let v135 : BitVec 1 := Scalar.andi v132 v134
  let v121 : BitVec 32 := Scalar.divsi v120 c32_i32_80
  let c1_i32_86 : BitVec 32 := 1#32
  let v136 : BitVec 32 := Scalar.subi v121 c1_i32_86
  let v137 : BitVec 32 := Scalar.select v135 v136 v121
  let c32_i32_87 : BitVec 32 := 32#32
  let v138 : BitVec 32 := Scalar.muli v137 c32_i32_87
  v138

def k0_off5 (v118 : BitVec 32) : Fin 4 → Nat :=
  let c0_i32_88 : BitVec 32 := 0#32
  let c2_i32 : BitVec 32 := 2#32
  let c4095_i32_78 : BitVec 32 := 4095#32
  let v119 : BitVec 32 := Scalar.subi v118 c4095_i32_78
  let c0_i32_79 : BitVec 32 := 0#32
  let v120 : BitVec 32 := Scalar.maxsi v119 c0_i32_79
  let c0_i32_81 : BitVec 32 := 0#32
  let v122 : BitVec 1 := Scalar.cmpi .sgt v120 c0_i32_81
  let v123 : BitVec 32 := Scalar.extui v122
  let c0_i32_82 : BitVec 32 := 0#32
  let v124 : BitVec 1 := Scalar.cmpi .slt v120 c0_i32_82
  let v125 : BitVec 32 := Scalar.extui v124
  let v126 : BitVec 32 := Scalar.subi v123 v125
  let c32_i32_80 : BitVec 32 := 32#32
  let c0_i32_83 : BitVec 32 := 0#32
  let v127 : BitVec 1 := Scalar.cmpi .sgt c32_i32_80 c0_i32_83
  let v128 : BitVec 32 := Scalar.extui v127
  let c0_i32_84 : BitVec 32 := 0#32
  let v129 : BitVec 1 := Scalar.cmpi .slt c32_i32_80 c0_i32_84
  let v130 : BitVec 32 := Scalar.extui v129
  let v131 : BitVec 32 := Scalar.subi v128 v130
  let v132 : BitVec 1 := Scalar.cmpi .ne v126 v131
  let v133 : BitVec 32 := Scalar.remsi v120 c32_i32_80
  let c0_i32_85 : BitVec 32 := 0#32
  let v134 : BitVec 1 := Scalar.cmpi .ne v133 c0_i32_85
  let v135 : BitVec 1 := Scalar.andi v132 v134
  let v121 : BitVec 32 := Scalar.divsi v120 c32_i32_80
  let c1_i32_86 : BitVec 32 := 1#32
  let v136 : BitVec 32 := Scalar.subi v121 c1_i32_86
  let v137 : BitVec 32 := Scalar.select v135 v136 v121
  let c32_i32_87 : BitVec 32 := 32#32
  let v138 : BitVec 32 := Scalar.muli v137 c32_i32_87
  let v139 : BitVec 32 := v138
  let c0_i32_95 : BitVec 32 := 0#32
  ![0, 2, v139.toNat, 0]

def k0_chk5 (v118 : BitVec 32) : Prop :=
  (32 ∣ (k0_mult7 v118).toNat) ∧
  (∀ a, (k0_off5 v118) a + S1x1x4096x256.size a ≤ S3x4x65536x256.size a) ∧
  (∀ (hinb : ∀ a, (k0_off5 v118) a + S1x1x4096x256.size a ≤ S3x4x65536x256.size a), (Rect.unit (s := S3x4x65536x256) (k0_off5 v118) S1x1x4096x256.size hinb).WholeWords (EltTy.packing .i8))
theorem k0_mult7_dvd : ∀ (v118 : BitVec 32) (k0_hw5 : k0_chk5 v118), 32 ∣ (k0_mult7 v118).toNat := fun v118 k0_hw5 => k0_hw5.1
theorem k0_off5_inb : ∀ (v118 : BitVec 32) (k0_hw5 : k0_chk5 v118), ∀ a, (k0_off5 v118) a + S1x1x4096x256.size a ≤ S3x4x65536x256.size a := fun v118 k0_hw5 => k0_hw5.2.1
theorem k0_off5_wordsi8 : ∀ (v118 : BitVec 32) (k0_hw5 : k0_chk5 v118), (Rect.unit (s := S3x4x65536x256) (k0_off5 v118) S1x1x4096x256.size (k0_off5_inb v118 k0_hw5)).WholeWords (EltTy.packing .i8) := fun v118 k0_hw5 => k0_hw5.2.2 (k0_off5_inb v118 k0_hw5)

def k0_mult8 (v146 : BitVec 32) : BitVec 32 :=
  let c4095_i32_97 : BitVec 32 := 4095#32
  let v147 : BitVec 32 := Scalar.subi v146 c4095_i32_97
  let c0_i32_98 : BitVec 32 := 0#32
  let v148 : BitVec 32 := Scalar.maxsi v147 c0_i32_98
  let c0_i32_100 : BitVec 32 := 0#32
  let v150 : BitVec 1 := Scalar.cmpi .sgt v148 c0_i32_100
  let v151 : BitVec 32 := Scalar.extui v150
  let c0_i32_101 : BitVec 32 := 0#32
  let v152 : BitVec 1 := Scalar.cmpi .slt v148 c0_i32_101
  let v153 : BitVec 32 := Scalar.extui v152
  let v154 : BitVec 32 := Scalar.subi v151 v153
  let c32_i32_99 : BitVec 32 := 32#32
  let c0_i32_102 : BitVec 32 := 0#32
  let v155 : BitVec 1 := Scalar.cmpi .sgt c32_i32_99 c0_i32_102
  let v156 : BitVec 32 := Scalar.extui v155
  let c0_i32_103 : BitVec 32 := 0#32
  let v157 : BitVec 1 := Scalar.cmpi .slt c32_i32_99 c0_i32_103
  let v158 : BitVec 32 := Scalar.extui v157
  let v159 : BitVec 32 := Scalar.subi v156 v158
  let v160 : BitVec 1 := Scalar.cmpi .ne v154 v159
  let v161 : BitVec 32 := Scalar.remsi v148 c32_i32_99
  let c0_i32_104 : BitVec 32 := 0#32
  let v162 : BitVec 1 := Scalar.cmpi .ne v161 c0_i32_104
  let v163 : BitVec 1 := Scalar.andi v160 v162
  let v149 : BitVec 32 := Scalar.divsi v148 c32_i32_99
  let c1_i32_105 : BitVec 32 := 1#32
  let v164 : BitVec 32 := Scalar.subi v149 c1_i32_105
  let v165 : BitVec 32 := Scalar.select v163 v164 v149
  let c32_i32_106 : BitVec 32 := 32#32
  let v166 : BitVec 32 := Scalar.muli v165 c32_i32_106
  v166

def k0_off6 (v146 : BitVec 32) : Fin 4 → Nat :=
  let c0_i32_107 : BitVec 32 := 0#32
  let c3_i32 : BitVec 32 := 3#32
  let c4095_i32_97 : BitVec 32 := 4095#32
  let v147 : BitVec 32 := Scalar.subi v146 c4095_i32_97
  let c0_i32_98 : BitVec 32 := 0#32
  let v148 : BitVec 32 := Scalar.maxsi v147 c0_i32_98
  let c0_i32_100 : BitVec 32 := 0#32
  let v150 : BitVec 1 := Scalar.cmpi .sgt v148 c0_i32_100
  let v151 : BitVec 32 := Scalar.extui v150
  let c0_i32_101 : BitVec 32 := 0#32
  let v152 : BitVec 1 := Scalar.cmpi .slt v148 c0_i32_101
  let v153 : BitVec 32 := Scalar.extui v152
  let v154 : BitVec 32 := Scalar.subi v151 v153
  let c32_i32_99 : BitVec 32 := 32#32
  let c0_i32_102 : BitVec 32 := 0#32
  let v155 : BitVec 1 := Scalar.cmpi .sgt c32_i32_99 c0_i32_102
  let v156 : BitVec 32 := Scalar.extui v155
  let c0_i32_103 : BitVec 32 := 0#32
  let v157 : BitVec 1 := Scalar.cmpi .slt c32_i32_99 c0_i32_103
  let v158 : BitVec 32 := Scalar.extui v157
  let v159 : BitVec 32 := Scalar.subi v156 v158
  let v160 : BitVec 1 := Scalar.cmpi .ne v154 v159
  let v161 : BitVec 32 := Scalar.remsi v148 c32_i32_99
  let c0_i32_104 : BitVec 32 := 0#32
  let v162 : BitVec 1 := Scalar.cmpi .ne v161 c0_i32_104
  let v163 : BitVec 1 := Scalar.andi v160 v162
  let v149 : BitVec 32 := Scalar.divsi v148 c32_i32_99
  let c1_i32_105 : BitVec 32 := 1#32
  let v164 : BitVec 32 := Scalar.subi v149 c1_i32_105
  let v165 : BitVec 32 := Scalar.select v163 v164 v149
  let c32_i32_106 : BitVec 32 := 32#32
  let v166 : BitVec 32 := Scalar.muli v165 c32_i32_106
  let v167 : BitVec 32 := v166
  let c0_i32_114 : BitVec 32 := 0#32
  ![0, 3, v167.toNat, 0]

def k0_chk6 (v146 : BitVec 32) : Prop :=
  (32 ∣ (k0_mult8 v146).toNat) ∧
  (∀ a, (k0_off6 v146) a + S1x1x4096x256.size a ≤ S3x4x65536x256.size a) ∧
  (∀ (hinb : ∀ a, (k0_off6 v146) a + S1x1x4096x256.size a ≤ S3x4x65536x256.size a), (Rect.unit (s := S3x4x65536x256) (k0_off6 v146) S1x1x4096x256.size hinb).WholeWords (EltTy.packing .i8))
theorem k0_mult8_dvd : ∀ (v146 : BitVec 32) (k0_hw6 : k0_chk6 v146), 32 ∣ (k0_mult8 v146).toNat := fun v146 k0_hw6 => k0_hw6.1
theorem k0_off6_inb : ∀ (v146 : BitVec 32) (k0_hw6 : k0_chk6 v146), ∀ a, (k0_off6 v146) a + S1x1x4096x256.size a ≤ S3x4x65536x256.size a := fun v146 k0_hw6 => k0_hw6.2.1
theorem k0_off6_wordsi8 : ∀ (v146 : BitVec 32) (k0_hw6 : k0_chk6 v146), (Rect.unit (s := S3x4x65536x256) (k0_off6 v146) S1x1x4096x256.size (k0_off6_inb v146 k0_hw6)).WholeWords (EltTy.packing .i8) := fun v146 k0_hw6 => k0_hw6.2.2 (k0_off6_inb v146 k0_hw6)

def k0_mult9 (v174 : BitVec 32) : BitVec 32 :=
  let c4095_i32_116 : BitVec 32 := 4095#32
  let v175 : BitVec 32 := Scalar.subi v174 c4095_i32_116
  let c0_i32_117 : BitVec 32 := 0#32
  let v176 : BitVec 32 := Scalar.maxsi v175 c0_i32_117
  let c0_i32_119 : BitVec 32 := 0#32
  let v178 : BitVec 1 := Scalar.cmpi .sgt v176 c0_i32_119
  let v179 : BitVec 32 := Scalar.extui v178
  let c0_i32_120 : BitVec 32 := 0#32
  let v180 : BitVec 1 := Scalar.cmpi .slt v176 c0_i32_120
  let v181 : BitVec 32 := Scalar.extui v180
  let v182 : BitVec 32 := Scalar.subi v179 v181
  let c32_i32_118 : BitVec 32 := 32#32
  let c0_i32_121 : BitVec 32 := 0#32
  let v183 : BitVec 1 := Scalar.cmpi .sgt c32_i32_118 c0_i32_121
  let v184 : BitVec 32 := Scalar.extui v183
  let c0_i32_122 : BitVec 32 := 0#32
  let v185 : BitVec 1 := Scalar.cmpi .slt c32_i32_118 c0_i32_122
  let v186 : BitVec 32 := Scalar.extui v185
  let v187 : BitVec 32 := Scalar.subi v184 v186
  let v188 : BitVec 1 := Scalar.cmpi .ne v182 v187
  let v189 : BitVec 32 := Scalar.remsi v176 c32_i32_118
  let c0_i32_123 : BitVec 32 := 0#32
  let v190 : BitVec 1 := Scalar.cmpi .ne v189 c0_i32_123
  let v191 : BitVec 1 := Scalar.andi v188 v190
  let v177 : BitVec 32 := Scalar.divsi v176 c32_i32_118
  let c1_i32_124 : BitVec 32 := 1#32
  let v192 : BitVec 32 := Scalar.subi v177 c1_i32_124
  let v193 : BitVec 32 := Scalar.select v191 v192 v177
  let c32_i32_125 : BitVec 32 := 32#32
  let v194 : BitVec 32 := Scalar.muli v193 c32_i32_125
  v194

def k0_off7 (v174 : BitVec 32) : Fin 4 → Nat :=
  let c0_i32_126 : BitVec 32 := 0#32
  let c0_i32_127 : BitVec 32 := 0#32
  let c4095_i32_116 : BitVec 32 := 4095#32
  let v175 : BitVec 32 := Scalar.subi v174 c4095_i32_116
  let c0_i32_117 : BitVec 32 := 0#32
  let v176 : BitVec 32 := Scalar.maxsi v175 c0_i32_117
  let c0_i32_119 : BitVec 32 := 0#32
  let v178 : BitVec 1 := Scalar.cmpi .sgt v176 c0_i32_119
  let v179 : BitVec 32 := Scalar.extui v178
  let c0_i32_120 : BitVec 32 := 0#32
  let v180 : BitVec 1 := Scalar.cmpi .slt v176 c0_i32_120
  let v181 : BitVec 32 := Scalar.extui v180
  let v182 : BitVec 32 := Scalar.subi v179 v181
  let c32_i32_118 : BitVec 32 := 32#32
  let c0_i32_121 : BitVec 32 := 0#32
  let v183 : BitVec 1 := Scalar.cmpi .sgt c32_i32_118 c0_i32_121
  let v184 : BitVec 32 := Scalar.extui v183
  let c0_i32_122 : BitVec 32 := 0#32
  let v185 : BitVec 1 := Scalar.cmpi .slt c32_i32_118 c0_i32_122
  let v186 : BitVec 32 := Scalar.extui v185
  let v187 : BitVec 32 := Scalar.subi v184 v186
  let v188 : BitVec 1 := Scalar.cmpi .ne v182 v187
  let v189 : BitVec 32 := Scalar.remsi v176 c32_i32_118
  let c0_i32_123 : BitVec 32 := 0#32
  let v190 : BitVec 1 := Scalar.cmpi .ne v189 c0_i32_123
  let v191 : BitVec 1 := Scalar.andi v188 v190
  let v177 : BitVec 32 := Scalar.divsi v176 c32_i32_118
  let c1_i32_124 : BitVec 32 := 1#32
  let v192 : BitVec 32 := Scalar.subi v177 c1_i32_124
  let v193 : BitVec 32 := Scalar.select v191 v192 v177
  let c32_i32_125 : BitVec 32 := 32#32
  let v194 : BitVec 32 := Scalar.muli v193 c32_i32_125
  let v195 : BitVec 32 := v194
  let c0_i32_134 : BitVec 32 := 0#32
  ![0, 0, v195.toNat, 0]

def k0_chk7 (v174 : BitVec 32) : Prop :=
  (32 ∣ (k0_mult9 v174).toNat) ∧
  (∀ a, (k0_off7 v174) a + S1x1x4096x256.size a ≤ S3x4x65536x256.size a) ∧
  (∀ (hinb : ∀ a, (k0_off7 v174) a + S1x1x4096x256.size a ≤ S3x4x65536x256.size a), (Rect.unit (s := S3x4x65536x256) (k0_off7 v174) S1x1x4096x256.size hinb).WholeWords (EltTy.packing .i8))
theorem k0_mult9_dvd : ∀ (v174 : BitVec 32) (k0_hw7 : k0_chk7 v174), 32 ∣ (k0_mult9 v174).toNat := fun v174 k0_hw7 => k0_hw7.1
theorem k0_off7_inb : ∀ (v174 : BitVec 32) (k0_hw7 : k0_chk7 v174), ∀ a, (k0_off7 v174) a + S1x1x4096x256.size a ≤ S3x4x65536x256.size a := fun v174 k0_hw7 => k0_hw7.2.1
theorem k0_off7_wordsi8 : ∀ (v174 : BitVec 32) (k0_hw7 : k0_chk7 v174), (Rect.unit (s := S3x4x65536x256) (k0_off7 v174) S1x1x4096x256.size (k0_off7_inb v174 k0_hw7)).WholeWords (EltTy.packing .i8) := fun v174 k0_hw7 => k0_hw7.2.2 (k0_off7_inb v174 k0_hw7)

def k0_mult10 (v202 : BitVec 32) : BitVec 32 :=
  let c4095_i32_136 : BitVec 32 := 4095#32
  let v203 : BitVec 32 := Scalar.subi v202 c4095_i32_136
  let c0_i32_137 : BitVec 32 := 0#32
  let v204 : BitVec 32 := Scalar.maxsi v203 c0_i32_137
  let c0_i32_139 : BitVec 32 := 0#32
  let v206 : BitVec 1 := Scalar.cmpi .sgt v204 c0_i32_139
  let v207 : BitVec 32 := Scalar.extui v206
  let c0_i32_140 : BitVec 32 := 0#32
  let v208 : BitVec 1 := Scalar.cmpi .slt v204 c0_i32_140
  let v209 : BitVec 32 := Scalar.extui v208
  let v210 : BitVec 32 := Scalar.subi v207 v209
  let c32_i32_138 : BitVec 32 := 32#32
  let c0_i32_141 : BitVec 32 := 0#32
  let v211 : BitVec 1 := Scalar.cmpi .sgt c32_i32_138 c0_i32_141
  let v212 : BitVec 32 := Scalar.extui v211
  let c0_i32_142 : BitVec 32 := 0#32
  let v213 : BitVec 1 := Scalar.cmpi .slt c32_i32_138 c0_i32_142
  let v214 : BitVec 32 := Scalar.extui v213
  let v215 : BitVec 32 := Scalar.subi v212 v214
  let v216 : BitVec 1 := Scalar.cmpi .ne v210 v215
  let v217 : BitVec 32 := Scalar.remsi v204 c32_i32_138
  let c0_i32_143 : BitVec 32 := 0#32
  let v218 : BitVec 1 := Scalar.cmpi .ne v217 c0_i32_143
  let v219 : BitVec 1 := Scalar.andi v216 v218
  let v205 : BitVec 32 := Scalar.divsi v204 c32_i32_138
  let c1_i32_144 : BitVec 32 := 1#32
  let v220 : BitVec 32 := Scalar.subi v205 c1_i32_144
  let v221 : BitVec 32 := Scalar.select v219 v220 v205
  let c32_i32_145 : BitVec 32 := 32#32
  let v222 : BitVec 32 := Scalar.muli v221 c32_i32_145
  v222

def k0_off8 (v202 : BitVec 32) : Fin 4 → Nat :=
  let c0_i32_146 : BitVec 32 := 0#32
  let c1_i32_147 : BitVec 32 := 1#32
  let c4095_i32_136 : BitVec 32 := 4095#32
  let v203 : BitVec 32 := Scalar.subi v202 c4095_i32_136
  let c0_i32_137 : BitVec 32 := 0#32
  let v204 : BitVec 32 := Scalar.maxsi v203 c0_i32_137
  let c0_i32_139 : BitVec 32 := 0#32
  let v206 : BitVec 1 := Scalar.cmpi .sgt v204 c0_i32_139
  let v207 : BitVec 32 := Scalar.extui v206
  let c0_i32_140 : BitVec 32 := 0#32
  let v208 : BitVec 1 := Scalar.cmpi .slt v204 c0_i32_140
  let v209 : BitVec 32 := Scalar.extui v208
  let v210 : BitVec 32 := Scalar.subi v207 v209
  let c32_i32_138 : BitVec 32 := 32#32
  let c0_i32_141 : BitVec 32 := 0#32
  let v211 : BitVec 1 := Scalar.cmpi .sgt c32_i32_138 c0_i32_141
  let v212 : BitVec 32 := Scalar.extui v211
  let c0_i32_142 : BitVec 32 := 0#32
  let v213 : BitVec 1 := Scalar.cmpi .slt c32_i32_138 c0_i32_142
  let v214 : BitVec 32 := Scalar.extui v213
  let v215 : BitVec 32 := Scalar.subi v212 v214
  let v216 : BitVec 1 := Scalar.cmpi .ne v210 v215
  let v217 : BitVec 32 := Scalar.remsi v204 c32_i32_138
  let c0_i32_143 : BitVec 32 := 0#32
  let v218 : BitVec 1 := Scalar.cmpi .ne v217 c0_i32_143
  let v219 : BitVec 1 := Scalar.andi v216 v218
  let v205 : BitVec 32 := Scalar.divsi v204 c32_i32_138
  let c1_i32_144 : BitVec 32 := 1#32
  let v220 : BitVec 32 := Scalar.subi v205 c1_i32_144
  let v221 : BitVec 32 := Scalar.select v219 v220 v205
  let c32_i32_145 : BitVec 32 := 32#32
  let v222 : BitVec 32 := Scalar.muli v221 c32_i32_145
  let v223 : BitVec 32 := v222
  let c0_i32_154 : BitVec 32 := 0#32
  ![0, 1, v223.toNat, 0]

def k0_chk8 (v202 : BitVec 32) : Prop :=
  (32 ∣ (k0_mult10 v202).toNat) ∧
  (∀ a, (k0_off8 v202) a + S1x1x4096x256.size a ≤ S3x4x65536x256.size a) ∧
  (∀ (hinb : ∀ a, (k0_off8 v202) a + S1x1x4096x256.size a ≤ S3x4x65536x256.size a), (Rect.unit (s := S3x4x65536x256) (k0_off8 v202) S1x1x4096x256.size hinb).WholeWords (EltTy.packing .i8))
theorem k0_mult10_dvd : ∀ (v202 : BitVec 32) (k0_hw8 : k0_chk8 v202), 32 ∣ (k0_mult10 v202).toNat := fun v202 k0_hw8 => k0_hw8.1
theorem k0_off8_inb : ∀ (v202 : BitVec 32) (k0_hw8 : k0_chk8 v202), ∀ a, (k0_off8 v202) a + S1x1x4096x256.size a ≤ S3x4x65536x256.size a := fun v202 k0_hw8 => k0_hw8.2.1
theorem k0_off8_wordsi8 : ∀ (v202 : BitVec 32) (k0_hw8 : k0_chk8 v202), (Rect.unit (s := S3x4x65536x256) (k0_off8 v202) S1x1x4096x256.size (k0_off8_inb v202 k0_hw8)).WholeWords (EltTy.packing .i8) := fun v202 k0_hw8 => k0_hw8.2.2 (k0_off8_inb v202 k0_hw8)

def k0_mult11 (v230 : BitVec 32) : BitVec 32 :=
  let c4095_i32_156 : BitVec 32 := 4095#32
  let v231 : BitVec 32 := Scalar.subi v230 c4095_i32_156
  let c0_i32_157 : BitVec 32 := 0#32
  let v232 : BitVec 32 := Scalar.maxsi v231 c0_i32_157
  let c0_i32_159 : BitVec 32 := 0#32
  let v234 : BitVec 1 := Scalar.cmpi .sgt v232 c0_i32_159
  let v235 : BitVec 32 := Scalar.extui v234
  let c0_i32_160 : BitVec 32 := 0#32
  let v236 : BitVec 1 := Scalar.cmpi .slt v232 c0_i32_160
  let v237 : BitVec 32 := Scalar.extui v236
  let v238 : BitVec 32 := Scalar.subi v235 v237
  let c32_i32_158 : BitVec 32 := 32#32
  let c0_i32_161 : BitVec 32 := 0#32
  let v239 : BitVec 1 := Scalar.cmpi .sgt c32_i32_158 c0_i32_161
  let v240 : BitVec 32 := Scalar.extui v239
  let c0_i32_162 : BitVec 32 := 0#32
  let v241 : BitVec 1 := Scalar.cmpi .slt c32_i32_158 c0_i32_162
  let v242 : BitVec 32 := Scalar.extui v241
  let v243 : BitVec 32 := Scalar.subi v240 v242
  let v244 : BitVec 1 := Scalar.cmpi .ne v238 v243
  let v245 : BitVec 32 := Scalar.remsi v232 c32_i32_158
  let c0_i32_163 : BitVec 32 := 0#32
  let v246 : BitVec 1 := Scalar.cmpi .ne v245 c0_i32_163
  let v247 : BitVec 1 := Scalar.andi v244 v246
  let v233 : BitVec 32 := Scalar.divsi v232 c32_i32_158
  let c1_i32_164 : BitVec 32 := 1#32
  let v248 : BitVec 32 := Scalar.subi v233 c1_i32_164
  let v249 : BitVec 32 := Scalar.select v247 v248 v233
  let c32_i32_165 : BitVec 32 := 32#32
  let v250 : BitVec 32 := Scalar.muli v249 c32_i32_165
  v250

def k0_off9 (v230 : BitVec 32) : Fin 4 → Nat :=
  let c0_i32_166 : BitVec 32 := 0#32
  let c2_i32_167 : BitVec 32 := 2#32
  let c4095_i32_156 : BitVec 32 := 4095#32
  let v231 : BitVec 32 := Scalar.subi v230 c4095_i32_156
  let c0_i32_157 : BitVec 32 := 0#32
  let v232 : BitVec 32 := Scalar.maxsi v231 c0_i32_157
  let c0_i32_159 : BitVec 32 := 0#32
  let v234 : BitVec 1 := Scalar.cmpi .sgt v232 c0_i32_159
  let v235 : BitVec 32 := Scalar.extui v234
  let c0_i32_160 : BitVec 32 := 0#32
  let v236 : BitVec 1 := Scalar.cmpi .slt v232 c0_i32_160
  let v237 : BitVec 32 := Scalar.extui v236
  let v238 : BitVec 32 := Scalar.subi v235 v237
  let c32_i32_158 : BitVec 32 := 32#32
  let c0_i32_161 : BitVec 32 := 0#32
  let v239 : BitVec 1 := Scalar.cmpi .sgt c32_i32_158 c0_i32_161
  let v240 : BitVec 32 := Scalar.extui v239
  let c0_i32_162 : BitVec 32 := 0#32
  let v241 : BitVec 1 := Scalar.cmpi .slt c32_i32_158 c0_i32_162
  let v242 : BitVec 32 := Scalar.extui v241
  let v243 : BitVec 32 := Scalar.subi v240 v242
  let v244 : BitVec 1 := Scalar.cmpi .ne v238 v243
  let v245 : BitVec 32 := Scalar.remsi v232 c32_i32_158
  let c0_i32_163 : BitVec 32 := 0#32
  let v246 : BitVec 1 := Scalar.cmpi .ne v245 c0_i32_163
  let v247 : BitVec 1 := Scalar.andi v244 v246
  let v233 : BitVec 32 := Scalar.divsi v232 c32_i32_158
  let c1_i32_164 : BitVec 32 := 1#32
  let v248 : BitVec 32 := Scalar.subi v233 c1_i32_164
  let v249 : BitVec 32 := Scalar.select v247 v248 v233
  let c32_i32_165 : BitVec 32 := 32#32
  let v250 : BitVec 32 := Scalar.muli v249 c32_i32_165
  let v251 : BitVec 32 := v250
  let c0_i32_174 : BitVec 32 := 0#32
  ![0, 2, v251.toNat, 0]

def k0_chk9 (v230 : BitVec 32) : Prop :=
  (32 ∣ (k0_mult11 v230).toNat) ∧
  (∀ a, (k0_off9 v230) a + S1x1x4096x256.size a ≤ S3x4x65536x256.size a) ∧
  (∀ (hinb : ∀ a, (k0_off9 v230) a + S1x1x4096x256.size a ≤ S3x4x65536x256.size a), (Rect.unit (s := S3x4x65536x256) (k0_off9 v230) S1x1x4096x256.size hinb).WholeWords (EltTy.packing .i8))
theorem k0_mult11_dvd : ∀ (v230 : BitVec 32) (k0_hw9 : k0_chk9 v230), 32 ∣ (k0_mult11 v230).toNat := fun v230 k0_hw9 => k0_hw9.1
theorem k0_off9_inb : ∀ (v230 : BitVec 32) (k0_hw9 : k0_chk9 v230), ∀ a, (k0_off9 v230) a + S1x1x4096x256.size a ≤ S3x4x65536x256.size a := fun v230 k0_hw9 => k0_hw9.2.1
theorem k0_off9_wordsi8 : ∀ (v230 : BitVec 32) (k0_hw9 : k0_chk9 v230), (Rect.unit (s := S3x4x65536x256) (k0_off9 v230) S1x1x4096x256.size (k0_off9_inb v230 k0_hw9)).WholeWords (EltTy.packing .i8) := fun v230 k0_hw9 => k0_hw9.2.2 (k0_off9_inb v230 k0_hw9)

def k0_mult12 (v258 : BitVec 32) : BitVec 32 :=
  let c4095_i32_176 : BitVec 32 := 4095#32
  let v259 : BitVec 32 := Scalar.subi v258 c4095_i32_176
  let c0_i32_177 : BitVec 32 := 0#32
  let v260 : BitVec 32 := Scalar.maxsi v259 c0_i32_177
  let c0_i32_179 : BitVec 32 := 0#32
  let v262 : BitVec 1 := Scalar.cmpi .sgt v260 c0_i32_179
  let v263 : BitVec 32 := Scalar.extui v262
  let c0_i32_180 : BitVec 32 := 0#32
  let v264 : BitVec 1 := Scalar.cmpi .slt v260 c0_i32_180
  let v265 : BitVec 32 := Scalar.extui v264
  let v266 : BitVec 32 := Scalar.subi v263 v265
  let c32_i32_178 : BitVec 32 := 32#32
  let c0_i32_181 : BitVec 32 := 0#32
  let v267 : BitVec 1 := Scalar.cmpi .sgt c32_i32_178 c0_i32_181
  let v268 : BitVec 32 := Scalar.extui v267
  let c0_i32_182 : BitVec 32 := 0#32
  let v269 : BitVec 1 := Scalar.cmpi .slt c32_i32_178 c0_i32_182
  let v270 : BitVec 32 := Scalar.extui v269
  let v271 : BitVec 32 := Scalar.subi v268 v270
  let v272 : BitVec 1 := Scalar.cmpi .ne v266 v271
  let v273 : BitVec 32 := Scalar.remsi v260 c32_i32_178
  let c0_i32_183 : BitVec 32 := 0#32
  let v274 : BitVec 1 := Scalar.cmpi .ne v273 c0_i32_183
  let v275 : BitVec 1 := Scalar.andi v272 v274
  let v261 : BitVec 32 := Scalar.divsi v260 c32_i32_178
  let c1_i32_184 : BitVec 32 := 1#32
  let v276 : BitVec 32 := Scalar.subi v261 c1_i32_184
  let v277 : BitVec 32 := Scalar.select v275 v276 v261
  let c32_i32_185 : BitVec 32 := 32#32
  let v278 : BitVec 32 := Scalar.muli v277 c32_i32_185
  v278

def k0_off10 (v258 : BitVec 32) : Fin 4 → Nat :=
  let c0_i32_186 : BitVec 32 := 0#32
  let c3_i32_187 : BitVec 32 := 3#32
  let c4095_i32_176 : BitVec 32 := 4095#32
  let v259 : BitVec 32 := Scalar.subi v258 c4095_i32_176
  let c0_i32_177 : BitVec 32 := 0#32
  let v260 : BitVec 32 := Scalar.maxsi v259 c0_i32_177
  let c0_i32_179 : BitVec 32 := 0#32
  let v262 : BitVec 1 := Scalar.cmpi .sgt v260 c0_i32_179
  let v263 : BitVec 32 := Scalar.extui v262
  let c0_i32_180 : BitVec 32 := 0#32
  let v264 : BitVec 1 := Scalar.cmpi .slt v260 c0_i32_180
  let v265 : BitVec 32 := Scalar.extui v264
  let v266 : BitVec 32 := Scalar.subi v263 v265
  let c32_i32_178 : BitVec 32 := 32#32
  let c0_i32_181 : BitVec 32 := 0#32
  let v267 : BitVec 1 := Scalar.cmpi .sgt c32_i32_178 c0_i32_181
  let v268 : BitVec 32 := Scalar.extui v267
  let c0_i32_182 : BitVec 32 := 0#32
  let v269 : BitVec 1 := Scalar.cmpi .slt c32_i32_178 c0_i32_182
  let v270 : BitVec 32 := Scalar.extui v269
  let v271 : BitVec 32 := Scalar.subi v268 v270
  let v272 : BitVec 1 := Scalar.cmpi .ne v266 v271
  let v273 : BitVec 32 := Scalar.remsi v260 c32_i32_178
  let c0_i32_183 : BitVec 32 := 0#32
  let v274 : BitVec 1 := Scalar.cmpi .ne v273 c0_i32_183
  let v275 : BitVec 1 := Scalar.andi v272 v274
  let v261 : BitVec 32 := Scalar.divsi v260 c32_i32_178
  let c1_i32_184 : BitVec 32 := 1#32
  let v276 : BitVec 32 := Scalar.subi v261 c1_i32_184
  let v277 : BitVec 32 := Scalar.select v275 v276 v261
  let c32_i32_185 : BitVec 32 := 32#32
  let v278 : BitVec 32 := Scalar.muli v277 c32_i32_185
  let v279 : BitVec 32 := v278
  let c0_i32_194 : BitVec 32 := 0#32
  ![0, 3, v279.toNat, 0]

def k0_chk10 (v258 : BitVec 32) : Prop :=
  (32 ∣ (k0_mult12 v258).toNat) ∧
  (∀ a, (k0_off10 v258) a + S1x1x4096x256.size a ≤ S3x4x65536x256.size a) ∧
  (∀ (hinb : ∀ a, (k0_off10 v258) a + S1x1x4096x256.size a ≤ S3x4x65536x256.size a), (Rect.unit (s := S3x4x65536x256) (k0_off10 v258) S1x1x4096x256.size hinb).WholeWords (EltTy.packing .i8))
theorem k0_mult12_dvd : ∀ (v258 : BitVec 32) (k0_hw10 : k0_chk10 v258), 32 ∣ (k0_mult12 v258).toNat := fun v258 k0_hw10 => k0_hw10.1
theorem k0_off10_inb : ∀ (v258 : BitVec 32) (k0_hw10 : k0_chk10 v258), ∀ a, (k0_off10 v258) a + S1x1x4096x256.size a ≤ S3x4x65536x256.size a := fun v258 k0_hw10 => k0_hw10.2.1
theorem k0_off10_wordsi8 : ∀ (v258 : BitVec 32) (k0_hw10 : k0_chk10 v258), (Rect.unit (s := S3x4x65536x256) (k0_off10 v258) S1x1x4096x256.size (k0_off10_inb v258 k0_hw10)).WholeWords (EltTy.packing .i8) := fun v258 k0_hw10 => k0_hw10.2.2 (k0_off10_inb v258 k0_hw10)

def k0_mult13 (v286 : BitVec 32) : BitVec 32 :=
  let c4095_i32_195 : BitVec 32 := 4095#32
  let v287 : BitVec 32 := Scalar.subi v286 c4095_i32_195
  let c0_i32_196 : BitVec 32 := 0#32
  let v288 : BitVec 32 := Scalar.maxsi v287 c0_i32_196
  let c0_i32_198 : BitVec 32 := 0#32
  let v290 : BitVec 1 := Scalar.cmpi .sgt v288 c0_i32_198
  let v291 : BitVec 32 := Scalar.extui v290
  let c0_i32_199 : BitVec 32 := 0#32
  let v292 : BitVec 1 := Scalar.cmpi .slt v288 c0_i32_199
  let v293 : BitVec 32 := Scalar.extui v292
  let v294 : BitVec 32 := Scalar.subi v291 v293
  let c32_i32_197 : BitVec 32 := 32#32
  let c0_i32_200 : BitVec 32 := 0#32
  let v295 : BitVec 1 := Scalar.cmpi .sgt c32_i32_197 c0_i32_200
  let v296 : BitVec 32 := Scalar.extui v295
  let c0_i32_201 : BitVec 32 := 0#32
  let v297 : BitVec 1 := Scalar.cmpi .slt c32_i32_197 c0_i32_201
  let v298 : BitVec 32 := Scalar.extui v297
  let v299 : BitVec 32 := Scalar.subi v296 v298
  let v300 : BitVec 1 := Scalar.cmpi .ne v294 v299
  let v301 : BitVec 32 := Scalar.remsi v288 c32_i32_197
  let c0_i32_202 : BitVec 32 := 0#32
  let v302 : BitVec 1 := Scalar.cmpi .ne v301 c0_i32_202
  let v303 : BitVec 1 := Scalar.andi v300 v302
  let v289 : BitVec 32 := Scalar.divsi v288 c32_i32_197
  let c1_i32_203 : BitVec 32 := 1#32
  let v304 : BitVec 32 := Scalar.subi v289 c1_i32_203
  let v305 : BitVec 32 := Scalar.select v303 v304 v289
  let c32_i32_204 : BitVec 32 := 32#32
  let v306 : BitVec 32 := Scalar.muli v305 c32_i32_204
  v306

def k0_mult14 (v286 : BitVec 32) : BitVec 32 :=
  let c4095_i32_195 : BitVec 32 := 4095#32
  let v287 : BitVec 32 := Scalar.subi v286 c4095_i32_195
  let c0_i32_196 : BitVec 32 := 0#32
  let v288 : BitVec 32 := Scalar.maxsi v287 c0_i32_196
  let c0_i32_198 : BitVec 32 := 0#32
  let v290 : BitVec 1 := Scalar.cmpi .sgt v288 c0_i32_198
  let v291 : BitVec 32 := Scalar.extui v290
  let c0_i32_199 : BitVec 32 := 0#32
  let v292 : BitVec 1 := Scalar.cmpi .slt v288 c0_i32_199
  let v293 : BitVec 32 := Scalar.extui v292
  let v294 : BitVec 32 := Scalar.subi v291 v293
  let c32_i32_197 : BitVec 32 := 32#32
  let c0_i32_200 : BitVec 32 := 0#32
  let v295 : BitVec 1 := Scalar.cmpi .sgt c32_i32_197 c0_i32_200
  let v296 : BitVec 32 := Scalar.extui v295
  let c0_i32_201 : BitVec 32 := 0#32
  let v297 : BitVec 1 := Scalar.cmpi .slt c32_i32_197 c0_i32_201
  let v298 : BitVec 32 := Scalar.extui v297
  let v299 : BitVec 32 := Scalar.subi v296 v298
  let v300 : BitVec 1 := Scalar.cmpi .ne v294 v299
  let v301 : BitVec 32 := Scalar.remsi v288 c32_i32_197
  let c0_i32_202 : BitVec 32 := 0#32
  let v302 : BitVec 1 := Scalar.cmpi .ne v301 c0_i32_202
  let v303 : BitVec 1 := Scalar.andi v300 v302
  let v289 : BitVec 32 := Scalar.divsi v288 c32_i32_197
  let c1_i32_203 : BitVec 32 := 1#32
  let v304 : BitVec 32 := Scalar.subi v289 c1_i32_203
  let v305 : BitVec 32 := Scalar.select v303 v304 v289
  let c32_i32_204 : BitVec 32 := 32#32
  let v306 : BitVec 32 := Scalar.muli v305 c32_i32_204
  let v307 : BitVec 32 := v306
  let c4096_i32_205 : BitVec 32 := 4096#32
  let v308 : BitVec 32 := Scalar.addi v307 c4096_i32_205
  let c65504_i32_206 : BitVec 32 := 65504#32
  let v309 : BitVec 32 := Scalar.minsi v308 c65504_i32_206
  v309
def k0_off11 (v286 : BitVec 32) : Fin 4 → Nat :=
  let c1_i32_207 : BitVec 32 := 1#32
  let c0_i32_214 : BitVec 32 := 0#32
  let c4095_i32_195 : BitVec 32 := 4095#32
  let v287 : BitVec 32 := Scalar.subi v286 c4095_i32_195
  let c0_i32_196 : BitVec 32 := 0#32
  let v288 : BitVec 32 := Scalar.maxsi v287 c0_i32_196
  let c0_i32_198 : BitVec 32 := 0#32
  let v290 : BitVec 1 := Scalar.cmpi .sgt v288 c0_i32_198
  let v291 : BitVec 32 := Scalar.extui v290
  let c0_i32_199 : BitVec 32 := 0#32
  let v292 : BitVec 1 := Scalar.cmpi .slt v288 c0_i32_199
  let v293 : BitVec 32 := Scalar.extui v292
  let v294 : BitVec 32 := Scalar.subi v291 v293
  let c32_i32_197 : BitVec 32 := 32#32
  let c0_i32_200 : BitVec 32 := 0#32
  let v295 : BitVec 1 := Scalar.cmpi .sgt c32_i32_197 c0_i32_200
  let v296 : BitVec 32 := Scalar.extui v295
  let c0_i32_201 : BitVec 32 := 0#32
  let v297 : BitVec 1 := Scalar.cmpi .slt c32_i32_197 c0_i32_201
  let v298 : BitVec 32 := Scalar.extui v297
  let v299 : BitVec 32 := Scalar.subi v296 v298
  let v300 : BitVec 1 := Scalar.cmpi .ne v294 v299
  let v301 : BitVec 32 := Scalar.remsi v288 c32_i32_197
  let c0_i32_202 : BitVec 32 := 0#32
  let v302 : BitVec 1 := Scalar.cmpi .ne v301 c0_i32_202
  let v303 : BitVec 1 := Scalar.andi v300 v302
  let v289 : BitVec 32 := Scalar.divsi v288 c32_i32_197
  let c1_i32_203 : BitVec 32 := 1#32
  let v304 : BitVec 32 := Scalar.subi v289 c1_i32_203
  let v305 : BitVec 32 := Scalar.select v303 v304 v289
  let c32_i32_204 : BitVec 32 := 32#32
  let v306 : BitVec 32 := Scalar.muli v305 c32_i32_204
  let v307 : BitVec 32 := v306
  let c4096_i32_205 : BitVec 32 := 4096#32
  let v308 : BitVec 32 := Scalar.addi v307 c4096_i32_205
  let c65504_i32_206 : BitVec 32 := 65504#32
  let v309 : BitVec 32 := Scalar.minsi v308 c65504_i32_206
  let v310 : BitVec 32 := v309
  let c0_i32_215 : BitVec 32 := 0#32
  ![1, 0, v310.toNat, 0]

def k0_chk11 (v286 : BitVec 32) : Prop :=
  (32 ∣ (k0_mult13 v286).toNat) ∧
  (32 ∣ (k0_mult14 v286).toNat) ∧
  (∀ a, (k0_off11 v286) a + S1x4x32x256.size a ≤ S3x4x65536x256.size a) ∧
  (∀ (hinb : ∀ a, (k0_off11 v286) a + S1x4x32x256.size a ≤ S3x4x65536x256.size a), (Rect.unit (s := S3x4x65536x256) (k0_off11 v286) S1x4x32x256.size hinb).WholeWords (EltTy.packing .i8))
theorem k0_mult13_dvd : ∀ (v286 : BitVec 32) (k0_hw11 : k0_chk11 v286), 32 ∣ (k0_mult13 v286).toNat := fun v286 k0_hw11 => k0_hw11.1
theorem k0_mult14_dvd : ∀ (v286 : BitVec 32) (k0_hw11 : k0_chk11 v286), 32 ∣ (k0_mult14 v286).toNat := fun v286 k0_hw11 => k0_hw11.2.1
theorem k0_off11_inb : ∀ (v286 : BitVec 32) (k0_hw11 : k0_chk11 v286), ∀ a, (k0_off11 v286) a + S1x4x32x256.size a ≤ S3x4x65536x256.size a := fun v286 k0_hw11 => k0_hw11.2.2.1
theorem k0_off11_wordsi8 : ∀ (v286 : BitVec 32) (k0_hw11 : k0_chk11 v286), (Rect.unit (s := S3x4x65536x256) (k0_off11 v286) S1x4x32x256.size (k0_off11_inb v286 k0_hw11)).WholeWords (EltTy.packing .i8) := fun v286 k0_hw11 => k0_hw11.2.2.2 (k0_off11_inb v286 k0_hw11)

def k0_mult15 (v317 : BitVec 32) : BitVec 32 :=
  let c4095_i32_217 : BitVec 32 := 4095#32
  let v318 : BitVec 32 := Scalar.subi v317 c4095_i32_217
  let c0_i32_218 : BitVec 32 := 0#32
  let v319 : BitVec 32 := Scalar.maxsi v318 c0_i32_218
  let c0_i32_220 : BitVec 32 := 0#32
  let v321 : BitVec 1 := Scalar.cmpi .sgt v319 c0_i32_220
  let v322 : BitVec 32 := Scalar.extui v321
  let c0_i32_221 : BitVec 32 := 0#32
  let v323 : BitVec 1 := Scalar.cmpi .slt v319 c0_i32_221
  let v324 : BitVec 32 := Scalar.extui v323
  let v325 : BitVec 32 := Scalar.subi v322 v324
  let c32_i32_219 : BitVec 32 := 32#32
  let c0_i32_222 : BitVec 32 := 0#32
  let v326 : BitVec 1 := Scalar.cmpi .sgt c32_i32_219 c0_i32_222
  let v327 : BitVec 32 := Scalar.extui v326
  let c0_i32_223 : BitVec 32 := 0#32
  let v328 : BitVec 1 := Scalar.cmpi .slt c32_i32_219 c0_i32_223
  let v329 : BitVec 32 := Scalar.extui v328
  let v330 : BitVec 32 := Scalar.subi v327 v329
  let v331 : BitVec 1 := Scalar.cmpi .ne v325 v330
  let v332 : BitVec 32 := Scalar.remsi v319 c32_i32_219
  let c0_i32_224 : BitVec 32 := 0#32
  let v333 : BitVec 1 := Scalar.cmpi .ne v332 c0_i32_224
  let v334 : BitVec 1 := Scalar.andi v331 v333
  let v320 : BitVec 32 := Scalar.divsi v319 c32_i32_219
  let c1_i32_225 : BitVec 32 := 1#32
  let v335 : BitVec 32 := Scalar.subi v320 c1_i32_225
  let v336 : BitVec 32 := Scalar.select v334 v335 v320
  let c32_i32_226 : BitVec 32 := 32#32
  let v337 : BitVec 32 := Scalar.muli v336 c32_i32_226
  v337

def k0_mult16 (v317 : BitVec 32) : BitVec 32 :=
  let c4095_i32_217 : BitVec 32 := 4095#32
  let v318 : BitVec 32 := Scalar.subi v317 c4095_i32_217
  let c0_i32_218 : BitVec 32 := 0#32
  let v319 : BitVec 32 := Scalar.maxsi v318 c0_i32_218
  let c0_i32_220 : BitVec 32 := 0#32
  let v321 : BitVec 1 := Scalar.cmpi .sgt v319 c0_i32_220
  let v322 : BitVec 32 := Scalar.extui v321
  let c0_i32_221 : BitVec 32 := 0#32
  let v323 : BitVec 1 := Scalar.cmpi .slt v319 c0_i32_221
  let v324 : BitVec 32 := Scalar.extui v323
  let v325 : BitVec 32 := Scalar.subi v322 v324
  let c32_i32_219 : BitVec 32 := 32#32
  let c0_i32_222 : BitVec 32 := 0#32
  let v326 : BitVec 1 := Scalar.cmpi .sgt c32_i32_219 c0_i32_222
  let v327 : BitVec 32 := Scalar.extui v326
  let c0_i32_223 : BitVec 32 := 0#32
  let v328 : BitVec 1 := Scalar.cmpi .slt c32_i32_219 c0_i32_223
  let v329 : BitVec 32 := Scalar.extui v328
  let v330 : BitVec 32 := Scalar.subi v327 v329
  let v331 : BitVec 1 := Scalar.cmpi .ne v325 v330
  let v332 : BitVec 32 := Scalar.remsi v319 c32_i32_219
  let c0_i32_224 : BitVec 32 := 0#32
  let v333 : BitVec 1 := Scalar.cmpi .ne v332 c0_i32_224
  let v334 : BitVec 1 := Scalar.andi v331 v333
  let v320 : BitVec 32 := Scalar.divsi v319 c32_i32_219
  let c1_i32_225 : BitVec 32 := 1#32
  let v335 : BitVec 32 := Scalar.subi v320 c1_i32_225
  let v336 : BitVec 32 := Scalar.select v334 v335 v320
  let c32_i32_226 : BitVec 32 := 32#32
  let v337 : BitVec 32 := Scalar.muli v336 c32_i32_226
  let v338 : BitVec 32 := v337
  let c4096_i32_227 : BitVec 32 := 4096#32
  let v339 : BitVec 32 := Scalar.addi v338 c4096_i32_227
  let c65504_i32_228 : BitVec 32 := 65504#32
  let v340 : BitVec 32 := Scalar.minsi v339 c65504_i32_228
  v340
def k0_off12 (v317 : BitVec 32) : Fin 4 → Nat :=
  let c1_i32_229 : BitVec 32 := 1#32
  let c0_i32_236 : BitVec 32 := 0#32
  let c4095_i32_217 : BitVec 32 := 4095#32
  let v318 : BitVec 32 := Scalar.subi v317 c4095_i32_217
  let c0_i32_218 : BitVec 32 := 0#32
  let v319 : BitVec 32 := Scalar.maxsi v318 c0_i32_218
  let c0_i32_220 : BitVec 32 := 0#32
  let v321 : BitVec 1 := Scalar.cmpi .sgt v319 c0_i32_220
  let v322 : BitVec 32 := Scalar.extui v321
  let c0_i32_221 : BitVec 32 := 0#32
  let v323 : BitVec 1 := Scalar.cmpi .slt v319 c0_i32_221
  let v324 : BitVec 32 := Scalar.extui v323
  let v325 : BitVec 32 := Scalar.subi v322 v324
  let c32_i32_219 : BitVec 32 := 32#32
  let c0_i32_222 : BitVec 32 := 0#32
  let v326 : BitVec 1 := Scalar.cmpi .sgt c32_i32_219 c0_i32_222
  let v327 : BitVec 32 := Scalar.extui v326
  let c0_i32_223 : BitVec 32 := 0#32
  let v328 : BitVec 1 := Scalar.cmpi .slt c32_i32_219 c0_i32_223
  let v329 : BitVec 32 := Scalar.extui v328
  let v330 : BitVec 32 := Scalar.subi v327 v329
  let v331 : BitVec 1 := Scalar.cmpi .ne v325 v330
  let v332 : BitVec 32 := Scalar.remsi v319 c32_i32_219
  let c0_i32_224 : BitVec 32 := 0#32
  let v333 : BitVec 1 := Scalar.cmpi .ne v332 c0_i32_224
  let v334 : BitVec 1 := Scalar.andi v331 v333
  let v320 : BitVec 32 := Scalar.divsi v319 c32_i32_219
  let c1_i32_225 : BitVec 32 := 1#32
  let v335 : BitVec 32 := Scalar.subi v320 c1_i32_225
  let v336 : BitVec 32 := Scalar.select v334 v335 v320
  let c32_i32_226 : BitVec 32 := 32#32
  let v337 : BitVec 32 := Scalar.muli v336 c32_i32_226
  let v338 : BitVec 32 := v337
  let c4096_i32_227 : BitVec 32 := 4096#32
  let v339 : BitVec 32 := Scalar.addi v338 c4096_i32_227
  let c65504_i32_228 : BitVec 32 := 65504#32
  let v340 : BitVec 32 := Scalar.minsi v339 c65504_i32_228
  let v341 : BitVec 32 := v340
  let c0_i32_237 : BitVec 32 := 0#32
  ![1, 0, v341.toNat, 0]

def k0_chk12 (v317 : BitVec 32) : Prop :=
  (32 ∣ (k0_mult15 v317).toNat) ∧
  (32 ∣ (k0_mult16 v317).toNat) ∧
  (∀ a, (k0_off12 v317) a + S1x4x32x256.size a ≤ S3x4x65536x256.size a) ∧
  (∀ (hinb : ∀ a, (k0_off12 v317) a + S1x4x32x256.size a ≤ S3x4x65536x256.size a), (Rect.unit (s := S3x4x65536x256) (k0_off12 v317) S1x4x32x256.size hinb).WholeWords (EltTy.packing .i8))
theorem k0_mult15_dvd : ∀ (v317 : BitVec 32) (k0_hw12 : k0_chk12 v317), 32 ∣ (k0_mult15 v317).toNat := fun v317 k0_hw12 => k0_hw12.1
theorem k0_mult16_dvd : ∀ (v317 : BitVec 32) (k0_hw12 : k0_chk12 v317), 32 ∣ (k0_mult16 v317).toNat := fun v317 k0_hw12 => k0_hw12.2.1
theorem k0_off12_inb : ∀ (v317 : BitVec 32) (k0_hw12 : k0_chk12 v317), ∀ a, (k0_off12 v317) a + S1x4x32x256.size a ≤ S3x4x65536x256.size a := fun v317 k0_hw12 => k0_hw12.2.2.1
theorem k0_off12_wordsi8 : ∀ (v317 : BitVec 32) (k0_hw12 : k0_chk12 v317), (Rect.unit (s := S3x4x65536x256) (k0_off12 v317) S1x4x32x256.size (k0_off12_inb v317 k0_hw12)).WholeWords (EltTy.packing .i8) := fun v317 k0_hw12 => k0_hw12.2.2.2 (k0_off12_inb v317 k0_hw12)

def k0_mult17 (v348 : BitVec 32) : BitVec 32 :=
  let c4095_i32_239 : BitVec 32 := 4095#32
  let v349 : BitVec 32 := Scalar.subi v348 c4095_i32_239
  let c0_i32_240 : BitVec 32 := 0#32
  let v350 : BitVec 32 := Scalar.maxsi v349 c0_i32_240
  let c0_i32_242 : BitVec 32 := 0#32
  let v352 : BitVec 1 := Scalar.cmpi .sgt v350 c0_i32_242
  let v353 : BitVec 32 := Scalar.extui v352
  let c0_i32_243 : BitVec 32 := 0#32
  let v354 : BitVec 1 := Scalar.cmpi .slt v350 c0_i32_243
  let v355 : BitVec 32 := Scalar.extui v354
  let v356 : BitVec 32 := Scalar.subi v353 v355
  let c32_i32_241 : BitVec 32 := 32#32
  let c0_i32_244 : BitVec 32 := 0#32
  let v357 : BitVec 1 := Scalar.cmpi .sgt c32_i32_241 c0_i32_244
  let v358 : BitVec 32 := Scalar.extui v357
  let c0_i32_245 : BitVec 32 := 0#32
  let v359 : BitVec 1 := Scalar.cmpi .slt c32_i32_241 c0_i32_245
  let v360 : BitVec 32 := Scalar.extui v359
  let v361 : BitVec 32 := Scalar.subi v358 v360
  let v362 : BitVec 1 := Scalar.cmpi .ne v356 v361
  let v363 : BitVec 32 := Scalar.remsi v350 c32_i32_241
  let c0_i32_246 : BitVec 32 := 0#32
  let v364 : BitVec 1 := Scalar.cmpi .ne v363 c0_i32_246
  let v365 : BitVec 1 := Scalar.andi v362 v364
  let v351 : BitVec 32 := Scalar.divsi v350 c32_i32_241
  let c1_i32_247 : BitVec 32 := 1#32
  let v366 : BitVec 32 := Scalar.subi v351 c1_i32_247
  let v367 : BitVec 32 := Scalar.select v365 v366 v351
  let c32_i32_248 : BitVec 32 := 32#32
  let v368 : BitVec 32 := Scalar.muli v367 c32_i32_248
  v368

def k0_off13 (v348 : BitVec 32) : Fin 4 → Nat :=
  let c1_i32_249 : BitVec 32 := 1#32
  let c0_i32_250 : BitVec 32 := 0#32
  let c4095_i32_239 : BitVec 32 := 4095#32
  let v349 : BitVec 32 := Scalar.subi v348 c4095_i32_239
  let c0_i32_240 : BitVec 32 := 0#32
  let v350 : BitVec 32 := Scalar.maxsi v349 c0_i32_240
  let c0_i32_242 : BitVec 32 := 0#32
  let v352 : BitVec 1 := Scalar.cmpi .sgt v350 c0_i32_242
  let v353 : BitVec 32 := Scalar.extui v352
  let c0_i32_243 : BitVec 32 := 0#32
  let v354 : BitVec 1 := Scalar.cmpi .slt v350 c0_i32_243
  let v355 : BitVec 32 := Scalar.extui v354
  let v356 : BitVec 32 := Scalar.subi v353 v355
  let c32_i32_241 : BitVec 32 := 32#32
  let c0_i32_244 : BitVec 32 := 0#32
  let v357 : BitVec 1 := Scalar.cmpi .sgt c32_i32_241 c0_i32_244
  let v358 : BitVec 32 := Scalar.extui v357
  let c0_i32_245 : BitVec 32 := 0#32
  let v359 : BitVec 1 := Scalar.cmpi .slt c32_i32_241 c0_i32_245
  let v360 : BitVec 32 := Scalar.extui v359
  let v361 : BitVec 32 := Scalar.subi v358 v360
  let v362 : BitVec 1 := Scalar.cmpi .ne v356 v361
  let v363 : BitVec 32 := Scalar.remsi v350 c32_i32_241
  let c0_i32_246 : BitVec 32 := 0#32
  let v364 : BitVec 1 := Scalar.cmpi .ne v363 c0_i32_246
  let v365 : BitVec 1 := Scalar.andi v362 v364
  let v351 : BitVec 32 := Scalar.divsi v350 c32_i32_241
  let c1_i32_247 : BitVec 32 := 1#32
  let v366 : BitVec 32 := Scalar.subi v351 c1_i32_247
  let v367 : BitVec 32 := Scalar.select v365 v366 v351
  let c32_i32_248 : BitVec 32 := 32#32
  let v368 : BitVec 32 := Scalar.muli v367 c32_i32_248
  let v369 : BitVec 32 := v368
  let c0_i32_257 : BitVec 32 := 0#32
  ![1, 0, v369.toNat, 0]

def k0_chk13 (v348 : BitVec 32) : Prop :=
  (32 ∣ (k0_mult17 v348).toNat) ∧
  (∀ a, (k0_off13 v348) a + S1x1x4096x256.size a ≤ S3x4x65536x256.size a) ∧
  (∀ (hinb : ∀ a, (k0_off13 v348) a + S1x1x4096x256.size a ≤ S3x4x65536x256.size a), (Rect.unit (s := S3x4x65536x256) (k0_off13 v348) S1x1x4096x256.size hinb).WholeWords (EltTy.packing .i8))
theorem k0_mult17_dvd : ∀ (v348 : BitVec 32) (k0_hw13 : k0_chk13 v348), 32 ∣ (k0_mult17 v348).toNat := fun v348 k0_hw13 => k0_hw13.1
theorem k0_off13_inb : ∀ (v348 : BitVec 32) (k0_hw13 : k0_chk13 v348), ∀ a, (k0_off13 v348) a + S1x1x4096x256.size a ≤ S3x4x65536x256.size a := fun v348 k0_hw13 => k0_hw13.2.1
theorem k0_off13_wordsi8 : ∀ (v348 : BitVec 32) (k0_hw13 : k0_chk13 v348), (Rect.unit (s := S3x4x65536x256) (k0_off13 v348) S1x1x4096x256.size (k0_off13_inb v348 k0_hw13)).WholeWords (EltTy.packing .i8) := fun v348 k0_hw13 => k0_hw13.2.2 (k0_off13_inb v348 k0_hw13)

def k0_mult18 (v376 : BitVec 32) : BitVec 32 :=
  let c4095_i32_259 : BitVec 32 := 4095#32
  let v377 : BitVec 32 := Scalar.subi v376 c4095_i32_259
  let c0_i32_260 : BitVec 32 := 0#32
  let v378 : BitVec 32 := Scalar.maxsi v377 c0_i32_260
  let c0_i32_262 : BitVec 32 := 0#32
  let v380 : BitVec 1 := Scalar.cmpi .sgt v378 c0_i32_262
  let v381 : BitVec 32 := Scalar.extui v380
  let c0_i32_263 : BitVec 32 := 0#32
  let v382 : BitVec 1 := Scalar.cmpi .slt v378 c0_i32_263
  let v383 : BitVec 32 := Scalar.extui v382
  let v384 : BitVec 32 := Scalar.subi v381 v383
  let c32_i32_261 : BitVec 32 := 32#32
  let c0_i32_264 : BitVec 32 := 0#32
  let v385 : BitVec 1 := Scalar.cmpi .sgt c32_i32_261 c0_i32_264
  let v386 : BitVec 32 := Scalar.extui v385
  let c0_i32_265 : BitVec 32 := 0#32
  let v387 : BitVec 1 := Scalar.cmpi .slt c32_i32_261 c0_i32_265
  let v388 : BitVec 32 := Scalar.extui v387
  let v389 : BitVec 32 := Scalar.subi v386 v388
  let v390 : BitVec 1 := Scalar.cmpi .ne v384 v389
  let v391 : BitVec 32 := Scalar.remsi v378 c32_i32_261
  let c0_i32_266 : BitVec 32 := 0#32
  let v392 : BitVec 1 := Scalar.cmpi .ne v391 c0_i32_266
  let v393 : BitVec 1 := Scalar.andi v390 v392
  let v379 : BitVec 32 := Scalar.divsi v378 c32_i32_261
  let c1_i32_267 : BitVec 32 := 1#32
  let v394 : BitVec 32 := Scalar.subi v379 c1_i32_267
  let v395 : BitVec 32 := Scalar.select v393 v394 v379
  let c32_i32_268 : BitVec 32 := 32#32
  let v396 : BitVec 32 := Scalar.muli v395 c32_i32_268
  v396

def k0_off14 (v376 : BitVec 32) : Fin 4 → Nat :=
  let c1_i32_269 : BitVec 32 := 1#32
  let c1_i32_270 : BitVec 32 := 1#32
  let c4095_i32_259 : BitVec 32 := 4095#32
  let v377 : BitVec 32 := Scalar.subi v376 c4095_i32_259
  let c0_i32_260 : BitVec 32 := 0#32
  let v378 : BitVec 32 := Scalar.maxsi v377 c0_i32_260
  let c0_i32_262 : BitVec 32 := 0#32
  let v380 : BitVec 1 := Scalar.cmpi .sgt v378 c0_i32_262
  let v381 : BitVec 32 := Scalar.extui v380
  let c0_i32_263 : BitVec 32 := 0#32
  let v382 : BitVec 1 := Scalar.cmpi .slt v378 c0_i32_263
  let v383 : BitVec 32 := Scalar.extui v382
  let v384 : BitVec 32 := Scalar.subi v381 v383
  let c32_i32_261 : BitVec 32 := 32#32
  let c0_i32_264 : BitVec 32 := 0#32
  let v385 : BitVec 1 := Scalar.cmpi .sgt c32_i32_261 c0_i32_264
  let v386 : BitVec 32 := Scalar.extui v385
  let c0_i32_265 : BitVec 32 := 0#32
  let v387 : BitVec 1 := Scalar.cmpi .slt c32_i32_261 c0_i32_265
  let v388 : BitVec 32 := Scalar.extui v387
  let v389 : BitVec 32 := Scalar.subi v386 v388
  let v390 : BitVec 1 := Scalar.cmpi .ne v384 v389
  let v391 : BitVec 32 := Scalar.remsi v378 c32_i32_261
  let c0_i32_266 : BitVec 32 := 0#32
  let v392 : BitVec 1 := Scalar.cmpi .ne v391 c0_i32_266
  let v393 : BitVec 1 := Scalar.andi v390 v392
  let v379 : BitVec 32 := Scalar.divsi v378 c32_i32_261
  let c1_i32_267 : BitVec 32 := 1#32
  let v394 : BitVec 32 := Scalar.subi v379 c1_i32_267
  let v395 : BitVec 32 := Scalar.select v393 v394 v379
  let c32_i32_268 : BitVec 32 := 32#32
  let v396 : BitVec 32 := Scalar.muli v395 c32_i32_268
  let v397 : BitVec 32 := v396
  let c0_i32_277 : BitVec 32 := 0#32
  ![1, 1, v397.toNat, 0]

def k0_chk14 (v376 : BitVec 32) : Prop :=
  (32 ∣ (k0_mult18 v376).toNat) ∧
  (∀ a, (k0_off14 v376) a + S1x1x4096x256.size a ≤ S3x4x65536x256.size a) ∧
  (∀ (hinb : ∀ a, (k0_off14 v376) a + S1x1x4096x256.size a ≤ S3x4x65536x256.size a), (Rect.unit (s := S3x4x65536x256) (k0_off14 v376) S1x1x4096x256.size hinb).WholeWords (EltTy.packing .i8))
theorem k0_mult18_dvd : ∀ (v376 : BitVec 32) (k0_hw14 : k0_chk14 v376), 32 ∣ (k0_mult18 v376).toNat := fun v376 k0_hw14 => k0_hw14.1
theorem k0_off14_inb : ∀ (v376 : BitVec 32) (k0_hw14 : k0_chk14 v376), ∀ a, (k0_off14 v376) a + S1x1x4096x256.size a ≤ S3x4x65536x256.size a := fun v376 k0_hw14 => k0_hw14.2.1
theorem k0_off14_wordsi8 : ∀ (v376 : BitVec 32) (k0_hw14 : k0_chk14 v376), (Rect.unit (s := S3x4x65536x256) (k0_off14 v376) S1x1x4096x256.size (k0_off14_inb v376 k0_hw14)).WholeWords (EltTy.packing .i8) := fun v376 k0_hw14 => k0_hw14.2.2 (k0_off14_inb v376 k0_hw14)

def k0_mult19 (v404 : BitVec 32) : BitVec 32 :=
  let c4095_i32_279 : BitVec 32 := 4095#32
  let v405 : BitVec 32 := Scalar.subi v404 c4095_i32_279
  let c0_i32_280 : BitVec 32 := 0#32
  let v406 : BitVec 32 := Scalar.maxsi v405 c0_i32_280
  let c0_i32_282 : BitVec 32 := 0#32
  let v408 : BitVec 1 := Scalar.cmpi .sgt v406 c0_i32_282
  let v409 : BitVec 32 := Scalar.extui v408
  let c0_i32_283 : BitVec 32 := 0#32
  let v410 : BitVec 1 := Scalar.cmpi .slt v406 c0_i32_283
  let v411 : BitVec 32 := Scalar.extui v410
  let v412 : BitVec 32 := Scalar.subi v409 v411
  let c32_i32_281 : BitVec 32 := 32#32
  let c0_i32_284 : BitVec 32 := 0#32
  let v413 : BitVec 1 := Scalar.cmpi .sgt c32_i32_281 c0_i32_284
  let v414 : BitVec 32 := Scalar.extui v413
  let c0_i32_285 : BitVec 32 := 0#32
  let v415 : BitVec 1 := Scalar.cmpi .slt c32_i32_281 c0_i32_285
  let v416 : BitVec 32 := Scalar.extui v415
  let v417 : BitVec 32 := Scalar.subi v414 v416
  let v418 : BitVec 1 := Scalar.cmpi .ne v412 v417
  let v419 : BitVec 32 := Scalar.remsi v406 c32_i32_281
  let c0_i32_286 : BitVec 32 := 0#32
  let v420 : BitVec 1 := Scalar.cmpi .ne v419 c0_i32_286
  let v421 : BitVec 1 := Scalar.andi v418 v420
  let v407 : BitVec 32 := Scalar.divsi v406 c32_i32_281
  let c1_i32_287 : BitVec 32 := 1#32
  let v422 : BitVec 32 := Scalar.subi v407 c1_i32_287
  let v423 : BitVec 32 := Scalar.select v421 v422 v407
  let c32_i32_288 : BitVec 32 := 32#32
  let v424 : BitVec 32 := Scalar.muli v423 c32_i32_288
  v424

def k0_off15 (v404 : BitVec 32) : Fin 4 → Nat :=
  let c1_i32_289 : BitVec 32 := 1#32
  let c2_i32_290 : BitVec 32 := 2#32
  let c4095_i32_279 : BitVec 32 := 4095#32
  let v405 : BitVec 32 := Scalar.subi v404 c4095_i32_279
  let c0_i32_280 : BitVec 32 := 0#32
  let v406 : BitVec 32 := Scalar.maxsi v405 c0_i32_280
  let c0_i32_282 : BitVec 32 := 0#32
  let v408 : BitVec 1 := Scalar.cmpi .sgt v406 c0_i32_282
  let v409 : BitVec 32 := Scalar.extui v408
  let c0_i32_283 : BitVec 32 := 0#32
  let v410 : BitVec 1 := Scalar.cmpi .slt v406 c0_i32_283
  let v411 : BitVec 32 := Scalar.extui v410
  let v412 : BitVec 32 := Scalar.subi v409 v411
  let c32_i32_281 : BitVec 32 := 32#32
  let c0_i32_284 : BitVec 32 := 0#32
  let v413 : BitVec 1 := Scalar.cmpi .sgt c32_i32_281 c0_i32_284
  let v414 : BitVec 32 := Scalar.extui v413
  let c0_i32_285 : BitVec 32 := 0#32
  let v415 : BitVec 1 := Scalar.cmpi .slt c32_i32_281 c0_i32_285
  let v416 : BitVec 32 := Scalar.extui v415
  let v417 : BitVec 32 := Scalar.subi v414 v416
  let v418 : BitVec 1 := Scalar.cmpi .ne v412 v417
  let v419 : BitVec 32 := Scalar.remsi v406 c32_i32_281
  let c0_i32_286 : BitVec 32 := 0#32
  let v420 : BitVec 1 := Scalar.cmpi .ne v419 c0_i32_286
  let v421 : BitVec 1 := Scalar.andi v418 v420
  let v407 : BitVec 32 := Scalar.divsi v406 c32_i32_281
  let c1_i32_287 : BitVec 32 := 1#32
  let v422 : BitVec 32 := Scalar.subi v407 c1_i32_287
  let v423 : BitVec 32 := Scalar.select v421 v422 v407
  let c32_i32_288 : BitVec 32 := 32#32
  let v424 : BitVec 32 := Scalar.muli v423 c32_i32_288
  let v425 : BitVec 32 := v424
  let c0_i32_297 : BitVec 32 := 0#32
  ![1, 2, v425.toNat, 0]

def k0_chk15 (v404 : BitVec 32) : Prop :=
  (32 ∣ (k0_mult19 v404).toNat) ∧
  (∀ a, (k0_off15 v404) a + S1x1x4096x256.size a ≤ S3x4x65536x256.size a) ∧
  (∀ (hinb : ∀ a, (k0_off15 v404) a + S1x1x4096x256.size a ≤ S3x4x65536x256.size a), (Rect.unit (s := S3x4x65536x256) (k0_off15 v404) S1x1x4096x256.size hinb).WholeWords (EltTy.packing .i8))
theorem k0_mult19_dvd : ∀ (v404 : BitVec 32) (k0_hw15 : k0_chk15 v404), 32 ∣ (k0_mult19 v404).toNat := fun v404 k0_hw15 => k0_hw15.1
theorem k0_off15_inb : ∀ (v404 : BitVec 32) (k0_hw15 : k0_chk15 v404), ∀ a, (k0_off15 v404) a + S1x1x4096x256.size a ≤ S3x4x65536x256.size a := fun v404 k0_hw15 => k0_hw15.2.1
theorem k0_off15_wordsi8 : ∀ (v404 : BitVec 32) (k0_hw15 : k0_chk15 v404), (Rect.unit (s := S3x4x65536x256) (k0_off15 v404) S1x1x4096x256.size (k0_off15_inb v404 k0_hw15)).WholeWords (EltTy.packing .i8) := fun v404 k0_hw15 => k0_hw15.2.2 (k0_off15_inb v404 k0_hw15)

def k0_mult20 (v432 : BitVec 32) : BitVec 32 :=
  let c4095_i32_299 : BitVec 32 := 4095#32
  let v433 : BitVec 32 := Scalar.subi v432 c4095_i32_299
  let c0_i32_300 : BitVec 32 := 0#32
  let v434 : BitVec 32 := Scalar.maxsi v433 c0_i32_300
  let c0_i32_302 : BitVec 32 := 0#32
  let v436 : BitVec 1 := Scalar.cmpi .sgt v434 c0_i32_302
  let v437 : BitVec 32 := Scalar.extui v436
  let c0_i32_303 : BitVec 32 := 0#32
  let v438 : BitVec 1 := Scalar.cmpi .slt v434 c0_i32_303
  let v439 : BitVec 32 := Scalar.extui v438
  let v440 : BitVec 32 := Scalar.subi v437 v439
  let c32_i32_301 : BitVec 32 := 32#32
  let c0_i32_304 : BitVec 32 := 0#32
  let v441 : BitVec 1 := Scalar.cmpi .sgt c32_i32_301 c0_i32_304
  let v442 : BitVec 32 := Scalar.extui v441
  let c0_i32_305 : BitVec 32 := 0#32
  let v443 : BitVec 1 := Scalar.cmpi .slt c32_i32_301 c0_i32_305
  let v444 : BitVec 32 := Scalar.extui v443
  let v445 : BitVec 32 := Scalar.subi v442 v444
  let v446 : BitVec 1 := Scalar.cmpi .ne v440 v445
  let v447 : BitVec 32 := Scalar.remsi v434 c32_i32_301
  let c0_i32_306 : BitVec 32 := 0#32
  let v448 : BitVec 1 := Scalar.cmpi .ne v447 c0_i32_306
  let v449 : BitVec 1 := Scalar.andi v446 v448
  let v435 : BitVec 32 := Scalar.divsi v434 c32_i32_301
  let c1_i32_307 : BitVec 32 := 1#32
  let v450 : BitVec 32 := Scalar.subi v435 c1_i32_307
  let v451 : BitVec 32 := Scalar.select v449 v450 v435
  let c32_i32_308 : BitVec 32 := 32#32
  let v452 : BitVec 32 := Scalar.muli v451 c32_i32_308
  v452

def k0_off16 (v432 : BitVec 32) : Fin 4 → Nat :=
  let c1_i32_309 : BitVec 32 := 1#32
  let c3_i32_310 : BitVec 32 := 3#32
  let c4095_i32_299 : BitVec 32 := 4095#32
  let v433 : BitVec 32 := Scalar.subi v432 c4095_i32_299
  let c0_i32_300 : BitVec 32 := 0#32
  let v434 : BitVec 32 := Scalar.maxsi v433 c0_i32_300
  let c0_i32_302 : BitVec 32 := 0#32
  let v436 : BitVec 1 := Scalar.cmpi .sgt v434 c0_i32_302
  let v437 : BitVec 32 := Scalar.extui v436
  let c0_i32_303 : BitVec 32 := 0#32
  let v438 : BitVec 1 := Scalar.cmpi .slt v434 c0_i32_303
  let v439 : BitVec 32 := Scalar.extui v438
  let v440 : BitVec 32 := Scalar.subi v437 v439
  let c32_i32_301 : BitVec 32 := 32#32
  let c0_i32_304 : BitVec 32 := 0#32
  let v441 : BitVec 1 := Scalar.cmpi .sgt c32_i32_301 c0_i32_304
  let v442 : BitVec 32 := Scalar.extui v441
  let c0_i32_305 : BitVec 32 := 0#32
  let v443 : BitVec 1 := Scalar.cmpi .slt c32_i32_301 c0_i32_305
  let v444 : BitVec 32 := Scalar.extui v443
  let v445 : BitVec 32 := Scalar.subi v442 v444
  let v446 : BitVec 1 := Scalar.cmpi .ne v440 v445
  let v447 : BitVec 32 := Scalar.remsi v434 c32_i32_301
  let c0_i32_306 : BitVec 32 := 0#32
  let v448 : BitVec 1 := Scalar.cmpi .ne v447 c0_i32_306
  let v449 : BitVec 1 := Scalar.andi v446 v448
  let v435 : BitVec 32 := Scalar.divsi v434 c32_i32_301
  let c1_i32_307 : BitVec 32 := 1#32
  let v450 : BitVec 32 := Scalar.subi v435 c1_i32_307
  let v451 : BitVec 32 := Scalar.select v449 v450 v435
  let c32_i32_308 : BitVec 32 := 32#32
  let v452 : BitVec 32 := Scalar.muli v451 c32_i32_308
  let v453 : BitVec 32 := v452
  let c0_i32_317 : BitVec 32 := 0#32
  ![1, 3, v453.toNat, 0]

def k0_chk16 (v432 : BitVec 32) : Prop :=
  (32 ∣ (k0_mult20 v432).toNat) ∧
  (∀ a, (k0_off16 v432) a + S1x1x4096x256.size a ≤ S3x4x65536x256.size a) ∧
  (∀ (hinb : ∀ a, (k0_off16 v432) a + S1x1x4096x256.size a ≤ S3x4x65536x256.size a), (Rect.unit (s := S3x4x65536x256) (k0_off16 v432) S1x1x4096x256.size hinb).WholeWords (EltTy.packing .i8))
theorem k0_mult20_dvd : ∀ (v432 : BitVec 32) (k0_hw16 : k0_chk16 v432), 32 ∣ (k0_mult20 v432).toNat := fun v432 k0_hw16 => k0_hw16.1
theorem k0_off16_inb : ∀ (v432 : BitVec 32) (k0_hw16 : k0_chk16 v432), ∀ a, (k0_off16 v432) a + S1x1x4096x256.size a ≤ S3x4x65536x256.size a := fun v432 k0_hw16 => k0_hw16.2.1
theorem k0_off16_wordsi8 : ∀ (v432 : BitVec 32) (k0_hw16 : k0_chk16 v432), (Rect.unit (s := S3x4x65536x256) (k0_off16 v432) S1x1x4096x256.size (k0_off16_inb v432 k0_hw16)).WholeWords (EltTy.packing .i8) := fun v432 k0_hw16 => k0_hw16.2.2 (k0_off16_inb v432 k0_hw16)

def k0_mult21 (v460 : BitVec 32) : BitVec 32 :=
  let c4095_i32_319 : BitVec 32 := 4095#32
  let v461 : BitVec 32 := Scalar.subi v460 c4095_i32_319
  let c0_i32_320 : BitVec 32 := 0#32
  let v462 : BitVec 32 := Scalar.maxsi v461 c0_i32_320
  let c0_i32_322 : BitVec 32 := 0#32
  let v464 : BitVec 1 := Scalar.cmpi .sgt v462 c0_i32_322
  let v465 : BitVec 32 := Scalar.extui v464
  let c0_i32_323 : BitVec 32 := 0#32
  let v466 : BitVec 1 := Scalar.cmpi .slt v462 c0_i32_323
  let v467 : BitVec 32 := Scalar.extui v466
  let v468 : BitVec 32 := Scalar.subi v465 v467
  let c32_i32_321 : BitVec 32 := 32#32
  let c0_i32_324 : BitVec 32 := 0#32
  let v469 : BitVec 1 := Scalar.cmpi .sgt c32_i32_321 c0_i32_324
  let v470 : BitVec 32 := Scalar.extui v469
  let c0_i32_325 : BitVec 32 := 0#32
  let v471 : BitVec 1 := Scalar.cmpi .slt c32_i32_321 c0_i32_325
  let v472 : BitVec 32 := Scalar.extui v471
  let v473 : BitVec 32 := Scalar.subi v470 v472
  let v474 : BitVec 1 := Scalar.cmpi .ne v468 v473
  let v475 : BitVec 32 := Scalar.remsi v462 c32_i32_321
  let c0_i32_326 : BitVec 32 := 0#32
  let v476 : BitVec 1 := Scalar.cmpi .ne v475 c0_i32_326
  let v477 : BitVec 1 := Scalar.andi v474 v476
  let v463 : BitVec 32 := Scalar.divsi v462 c32_i32_321
  let c1_i32_327 : BitVec 32 := 1#32
  let v478 : BitVec 32 := Scalar.subi v463 c1_i32_327
  let v479 : BitVec 32 := Scalar.select v477 v478 v463
  let c32_i32_328 : BitVec 32 := 32#32
  let v480 : BitVec 32 := Scalar.muli v479 c32_i32_328
  v480

def k0_off17 (v460 : BitVec 32) : Fin 4 → Nat :=
  let c1_i32_329 : BitVec 32 := 1#32
  let c0_i32_330 : BitVec 32 := 0#32
  let c4095_i32_319 : BitVec 32 := 4095#32
  let v461 : BitVec 32 := Scalar.subi v460 c4095_i32_319
  let c0_i32_320 : BitVec 32 := 0#32
  let v462 : BitVec 32 := Scalar.maxsi v461 c0_i32_320
  let c0_i32_322 : BitVec 32 := 0#32
  let v464 : BitVec 1 := Scalar.cmpi .sgt v462 c0_i32_322
  let v465 : BitVec 32 := Scalar.extui v464
  let c0_i32_323 : BitVec 32 := 0#32
  let v466 : BitVec 1 := Scalar.cmpi .slt v462 c0_i32_323
  let v467 : BitVec 32 := Scalar.extui v466
  let v468 : BitVec 32 := Scalar.subi v465 v467
  let c32_i32_321 : BitVec 32 := 32#32
  let c0_i32_324 : BitVec 32 := 0#32
  let v469 : BitVec 1 := Scalar.cmpi .sgt c32_i32_321 c0_i32_324
  let v470 : BitVec 32 := Scalar.extui v469
  let c0_i32_325 : BitVec 32 := 0#32
  let v471 : BitVec 1 := Scalar.cmpi .slt c32_i32_321 c0_i32_325
  let v472 : BitVec 32 := Scalar.extui v471
  let v473 : BitVec 32 := Scalar.subi v470 v472
  let v474 : BitVec 1 := Scalar.cmpi .ne v468 v473
  let v475 : BitVec 32 := Scalar.remsi v462 c32_i32_321
  let c0_i32_326 : BitVec 32 := 0#32
  let v476 : BitVec 1 := Scalar.cmpi .ne v475 c0_i32_326
  let v477 : BitVec 1 := Scalar.andi v474 v476
  let v463 : BitVec 32 := Scalar.divsi v462 c32_i32_321
  let c1_i32_327 : BitVec 32 := 1#32
  let v478 : BitVec 32 := Scalar.subi v463 c1_i32_327
  let v479 : BitVec 32 := Scalar.select v477 v478 v463
  let c32_i32_328 : BitVec 32 := 32#32
  let v480 : BitVec 32 := Scalar.muli v479 c32_i32_328
  let v481 : BitVec 32 := v480
  let c0_i32_337 : BitVec 32 := 0#32
  ![1, 0, v481.toNat, 0]

def k0_chk17 (v460 : BitVec 32) : Prop :=
  (32 ∣ (k0_mult21 v460).toNat) ∧
  (∀ a, (k0_off17 v460) a + S1x1x4096x256.size a ≤ S3x4x65536x256.size a) ∧
  (∀ (hinb : ∀ a, (k0_off17 v460) a + S1x1x4096x256.size a ≤ S3x4x65536x256.size a), (Rect.unit (s := S3x4x65536x256) (k0_off17 v460) S1x1x4096x256.size hinb).WholeWords (EltTy.packing .i8))
theorem k0_mult21_dvd : ∀ (v460 : BitVec 32) (k0_hw17 : k0_chk17 v460), 32 ∣ (k0_mult21 v460).toNat := fun v460 k0_hw17 => k0_hw17.1
theorem k0_off17_inb : ∀ (v460 : BitVec 32) (k0_hw17 : k0_chk17 v460), ∀ a, (k0_off17 v460) a + S1x1x4096x256.size a ≤ S3x4x65536x256.size a := fun v460 k0_hw17 => k0_hw17.2.1
theorem k0_off17_wordsi8 : ∀ (v460 : BitVec 32) (k0_hw17 : k0_chk17 v460), (Rect.unit (s := S3x4x65536x256) (k0_off17 v460) S1x1x4096x256.size (k0_off17_inb v460 k0_hw17)).WholeWords (EltTy.packing .i8) := fun v460 k0_hw17 => k0_hw17.2.2 (k0_off17_inb v460 k0_hw17)

def k0_mult22 (v488 : BitVec 32) : BitVec 32 :=
  let c4095_i32_339 : BitVec 32 := 4095#32
  let v489 : BitVec 32 := Scalar.subi v488 c4095_i32_339
  let c0_i32_340 : BitVec 32 := 0#32
  let v490 : BitVec 32 := Scalar.maxsi v489 c0_i32_340
  let c0_i32_342 : BitVec 32 := 0#32
  let v492 : BitVec 1 := Scalar.cmpi .sgt v490 c0_i32_342
  let v493 : BitVec 32 := Scalar.extui v492
  let c0_i32_343 : BitVec 32 := 0#32
  let v494 : BitVec 1 := Scalar.cmpi .slt v490 c0_i32_343
  let v495 : BitVec 32 := Scalar.extui v494
  let v496 : BitVec 32 := Scalar.subi v493 v495
  let c32_i32_341 : BitVec 32 := 32#32
  let c0_i32_344 : BitVec 32 := 0#32
  let v497 : BitVec 1 := Scalar.cmpi .sgt c32_i32_341 c0_i32_344
  let v498 : BitVec 32 := Scalar.extui v497
  let c0_i32_345 : BitVec 32 := 0#32
  let v499 : BitVec 1 := Scalar.cmpi .slt c32_i32_341 c0_i32_345
  let v500 : BitVec 32 := Scalar.extui v499
  let v501 : BitVec 32 := Scalar.subi v498 v500
  let v502 : BitVec 1 := Scalar.cmpi .ne v496 v501
  let v503 : BitVec 32 := Scalar.remsi v490 c32_i32_341
  let c0_i32_346 : BitVec 32 := 0#32
  let v504 : BitVec 1 := Scalar.cmpi .ne v503 c0_i32_346
  let v505 : BitVec 1 := Scalar.andi v502 v504
  let v491 : BitVec 32 := Scalar.divsi v490 c32_i32_341
  let c1_i32_347 : BitVec 32 := 1#32
  let v506 : BitVec 32 := Scalar.subi v491 c1_i32_347
  let v507 : BitVec 32 := Scalar.select v505 v506 v491
  let c32_i32_348 : BitVec 32 := 32#32
  let v508 : BitVec 32 := Scalar.muli v507 c32_i32_348
  v508

def k0_off18 (v488 : BitVec 32) : Fin 4 → Nat :=
  let c1_i32_349 : BitVec 32 := 1#32
  let c1_i32_350 : BitVec 32 := 1#32
  let c4095_i32_339 : BitVec 32 := 4095#32
  let v489 : BitVec 32 := Scalar.subi v488 c4095_i32_339
  let c0_i32_340 : BitVec 32 := 0#32
  let v490 : BitVec 32 := Scalar.maxsi v489 c0_i32_340
  let c0_i32_342 : BitVec 32 := 0#32
  let v492 : BitVec 1 := Scalar.cmpi .sgt v490 c0_i32_342
  let v493 : BitVec 32 := Scalar.extui v492
  let c0_i32_343 : BitVec 32 := 0#32
  let v494 : BitVec 1 := Scalar.cmpi .slt v490 c0_i32_343
  let v495 : BitVec 32 := Scalar.extui v494
  let v496 : BitVec 32 := Scalar.subi v493 v495
  let c32_i32_341 : BitVec 32 := 32#32
  let c0_i32_344 : BitVec 32 := 0#32
  let v497 : BitVec 1 := Scalar.cmpi .sgt c32_i32_341 c0_i32_344
  let v498 : BitVec 32 := Scalar.extui v497
  let c0_i32_345 : BitVec 32 := 0#32
  let v499 : BitVec 1 := Scalar.cmpi .slt c32_i32_341 c0_i32_345
  let v500 : BitVec 32 := Scalar.extui v499
  let v501 : BitVec 32 := Scalar.subi v498 v500
  let v502 : BitVec 1 := Scalar.cmpi .ne v496 v501
  let v503 : BitVec 32 := Scalar.remsi v490 c32_i32_341
  let c0_i32_346 : BitVec 32 := 0#32
  let v504 : BitVec 1 := Scalar.cmpi .ne v503 c0_i32_346
  let v505 : BitVec 1 := Scalar.andi v502 v504
  let v491 : BitVec 32 := Scalar.divsi v490 c32_i32_341
  let c1_i32_347 : BitVec 32 := 1#32
  let v506 : BitVec 32 := Scalar.subi v491 c1_i32_347
  let v507 : BitVec 32 := Scalar.select v505 v506 v491
  let c32_i32_348 : BitVec 32 := 32#32
  let v508 : BitVec 32 := Scalar.muli v507 c32_i32_348
  let v509 : BitVec 32 := v508
  let c0_i32_357 : BitVec 32 := 0#32
  ![1, 1, v509.toNat, 0]

def k0_chk18 (v488 : BitVec 32) : Prop :=
  (32 ∣ (k0_mult22 v488).toNat) ∧
  (∀ a, (k0_off18 v488) a + S1x1x4096x256.size a ≤ S3x4x65536x256.size a) ∧
  (∀ (hinb : ∀ a, (k0_off18 v488) a + S1x1x4096x256.size a ≤ S3x4x65536x256.size a), (Rect.unit (s := S3x4x65536x256) (k0_off18 v488) S1x1x4096x256.size hinb).WholeWords (EltTy.packing .i8))
theorem k0_mult22_dvd : ∀ (v488 : BitVec 32) (k0_hw18 : k0_chk18 v488), 32 ∣ (k0_mult22 v488).toNat := fun v488 k0_hw18 => k0_hw18.1
theorem k0_off18_inb : ∀ (v488 : BitVec 32) (k0_hw18 : k0_chk18 v488), ∀ a, (k0_off18 v488) a + S1x1x4096x256.size a ≤ S3x4x65536x256.size a := fun v488 k0_hw18 => k0_hw18.2.1
theorem k0_off18_wordsi8 : ∀ (v488 : BitVec 32) (k0_hw18 : k0_chk18 v488), (Rect.unit (s := S3x4x65536x256) (k0_off18 v488) S1x1x4096x256.size (k0_off18_inb v488 k0_hw18)).WholeWords (EltTy.packing .i8) := fun v488 k0_hw18 => k0_hw18.2.2 (k0_off18_inb v488 k0_hw18)

def k0_mult23 (v516 : BitVec 32) : BitVec 32 :=
  let c4095_i32_359 : BitVec 32 := 4095#32
  let v517 : BitVec 32 := Scalar.subi v516 c4095_i32_359
  let c0_i32_360 : BitVec 32 := 0#32
  let v518 : BitVec 32 := Scalar.maxsi v517 c0_i32_360
  let c0_i32_362 : BitVec 32 := 0#32
  let v520 : BitVec 1 := Scalar.cmpi .sgt v518 c0_i32_362
  let v521 : BitVec 32 := Scalar.extui v520
  let c0_i32_363 : BitVec 32 := 0#32
  let v522 : BitVec 1 := Scalar.cmpi .slt v518 c0_i32_363
  let v523 : BitVec 32 := Scalar.extui v522
  let v524 : BitVec 32 := Scalar.subi v521 v523
  let c32_i32_361 : BitVec 32 := 32#32
  let c0_i32_364 : BitVec 32 := 0#32
  let v525 : BitVec 1 := Scalar.cmpi .sgt c32_i32_361 c0_i32_364
  let v526 : BitVec 32 := Scalar.extui v525
  let c0_i32_365 : BitVec 32 := 0#32
  let v527 : BitVec 1 := Scalar.cmpi .slt c32_i32_361 c0_i32_365
  let v528 : BitVec 32 := Scalar.extui v527
  let v529 : BitVec 32 := Scalar.subi v526 v528
  let v530 : BitVec 1 := Scalar.cmpi .ne v524 v529
  let v531 : BitVec 32 := Scalar.remsi v518 c32_i32_361
  let c0_i32_366 : BitVec 32 := 0#32
  let v532 : BitVec 1 := Scalar.cmpi .ne v531 c0_i32_366
  let v533 : BitVec 1 := Scalar.andi v530 v532
  let v519 : BitVec 32 := Scalar.divsi v518 c32_i32_361
  let c1_i32_367 : BitVec 32 := 1#32
  let v534 : BitVec 32 := Scalar.subi v519 c1_i32_367
  let v535 : BitVec 32 := Scalar.select v533 v534 v519
  let c32_i32_368 : BitVec 32 := 32#32
  let v536 : BitVec 32 := Scalar.muli v535 c32_i32_368
  v536

def k0_off19 (v516 : BitVec 32) : Fin 4 → Nat :=
  let c1_i32_369 : BitVec 32 := 1#32
  let c2_i32_370 : BitVec 32 := 2#32
  let c4095_i32_359 : BitVec 32 := 4095#32
  let v517 : BitVec 32 := Scalar.subi v516 c4095_i32_359
  let c0_i32_360 : BitVec 32 := 0#32
  let v518 : BitVec 32 := Scalar.maxsi v517 c0_i32_360
  let c0_i32_362 : BitVec 32 := 0#32
  let v520 : BitVec 1 := Scalar.cmpi .sgt v518 c0_i32_362
  let v521 : BitVec 32 := Scalar.extui v520
  let c0_i32_363 : BitVec 32 := 0#32
  let v522 : BitVec 1 := Scalar.cmpi .slt v518 c0_i32_363
  let v523 : BitVec 32 := Scalar.extui v522
  let v524 : BitVec 32 := Scalar.subi v521 v523
  let c32_i32_361 : BitVec 32 := 32#32
  let c0_i32_364 : BitVec 32 := 0#32
  let v525 : BitVec 1 := Scalar.cmpi .sgt c32_i32_361 c0_i32_364
  let v526 : BitVec 32 := Scalar.extui v525
  let c0_i32_365 : BitVec 32 := 0#32
  let v527 : BitVec 1 := Scalar.cmpi .slt c32_i32_361 c0_i32_365
  let v528 : BitVec 32 := Scalar.extui v527
  let v529 : BitVec 32 := Scalar.subi v526 v528
  let v530 : BitVec 1 := Scalar.cmpi .ne v524 v529
  let v531 : BitVec 32 := Scalar.remsi v518 c32_i32_361
  let c0_i32_366 : BitVec 32 := 0#32
  let v532 : BitVec 1 := Scalar.cmpi .ne v531 c0_i32_366
  let v533 : BitVec 1 := Scalar.andi v530 v532
  let v519 : BitVec 32 := Scalar.divsi v518 c32_i32_361
  let c1_i32_367 : BitVec 32 := 1#32
  let v534 : BitVec 32 := Scalar.subi v519 c1_i32_367
  let v535 : BitVec 32 := Scalar.select v533 v534 v519
  let c32_i32_368 : BitVec 32 := 32#32
  let v536 : BitVec 32 := Scalar.muli v535 c32_i32_368
  let v537 : BitVec 32 := v536
  let c0_i32_377 : BitVec 32 := 0#32
  ![1, 2, v537.toNat, 0]

def k0_chk19 (v516 : BitVec 32) : Prop :=
  (32 ∣ (k0_mult23 v516).toNat) ∧
  (∀ a, (k0_off19 v516) a + S1x1x4096x256.size a ≤ S3x4x65536x256.size a) ∧
  (∀ (hinb : ∀ a, (k0_off19 v516) a + S1x1x4096x256.size a ≤ S3x4x65536x256.size a), (Rect.unit (s := S3x4x65536x256) (k0_off19 v516) S1x1x4096x256.size hinb).WholeWords (EltTy.packing .i8))
theorem k0_mult23_dvd : ∀ (v516 : BitVec 32) (k0_hw19 : k0_chk19 v516), 32 ∣ (k0_mult23 v516).toNat := fun v516 k0_hw19 => k0_hw19.1
theorem k0_off19_inb : ∀ (v516 : BitVec 32) (k0_hw19 : k0_chk19 v516), ∀ a, (k0_off19 v516) a + S1x1x4096x256.size a ≤ S3x4x65536x256.size a := fun v516 k0_hw19 => k0_hw19.2.1
theorem k0_off19_wordsi8 : ∀ (v516 : BitVec 32) (k0_hw19 : k0_chk19 v516), (Rect.unit (s := S3x4x65536x256) (k0_off19 v516) S1x1x4096x256.size (k0_off19_inb v516 k0_hw19)).WholeWords (EltTy.packing .i8) := fun v516 k0_hw19 => k0_hw19.2.2 (k0_off19_inb v516 k0_hw19)

def k0_mult24 (v544 : BitVec 32) : BitVec 32 :=
  let c4095_i32_379 : BitVec 32 := 4095#32
  let v545 : BitVec 32 := Scalar.subi v544 c4095_i32_379
  let c0_i32_380 : BitVec 32 := 0#32
  let v546 : BitVec 32 := Scalar.maxsi v545 c0_i32_380
  let c0_i32_382 : BitVec 32 := 0#32
  let v548 : BitVec 1 := Scalar.cmpi .sgt v546 c0_i32_382
  let v549 : BitVec 32 := Scalar.extui v548
  let c0_i32_383 : BitVec 32 := 0#32
  let v550 : BitVec 1 := Scalar.cmpi .slt v546 c0_i32_383
  let v551 : BitVec 32 := Scalar.extui v550
  let v552 : BitVec 32 := Scalar.subi v549 v551
  let c32_i32_381 : BitVec 32 := 32#32
  let c0_i32_384 : BitVec 32 := 0#32
  let v553 : BitVec 1 := Scalar.cmpi .sgt c32_i32_381 c0_i32_384
  let v554 : BitVec 32 := Scalar.extui v553
  let c0_i32_385 : BitVec 32 := 0#32
  let v555 : BitVec 1 := Scalar.cmpi .slt c32_i32_381 c0_i32_385
  let v556 : BitVec 32 := Scalar.extui v555
  let v557 : BitVec 32 := Scalar.subi v554 v556
  let v558 : BitVec 1 := Scalar.cmpi .ne v552 v557
  let v559 : BitVec 32 := Scalar.remsi v546 c32_i32_381
  let c0_i32_386 : BitVec 32 := 0#32
  let v560 : BitVec 1 := Scalar.cmpi .ne v559 c0_i32_386
  let v561 : BitVec 1 := Scalar.andi v558 v560
  let v547 : BitVec 32 := Scalar.divsi v546 c32_i32_381
  let c1_i32_387 : BitVec 32 := 1#32
  let v562 : BitVec 32 := Scalar.subi v547 c1_i32_387
  let v563 : BitVec 32 := Scalar.select v561 v562 v547
  let c32_i32_388 : BitVec 32 := 32#32
  let v564 : BitVec 32 := Scalar.muli v563 c32_i32_388
  v564

def k0_off20 (v544 : BitVec 32) : Fin 4 → Nat :=
  let c1_i32_389 : BitVec 32 := 1#32
  let c3_i32_390 : BitVec 32 := 3#32
  let c4095_i32_379 : BitVec 32 := 4095#32
  let v545 : BitVec 32 := Scalar.subi v544 c4095_i32_379
  let c0_i32_380 : BitVec 32 := 0#32
  let v546 : BitVec 32 := Scalar.maxsi v545 c0_i32_380
  let c0_i32_382 : BitVec 32 := 0#32
  let v548 : BitVec 1 := Scalar.cmpi .sgt v546 c0_i32_382
  let v549 : BitVec 32 := Scalar.extui v548
  let c0_i32_383 : BitVec 32 := 0#32
  let v550 : BitVec 1 := Scalar.cmpi .slt v546 c0_i32_383
  let v551 : BitVec 32 := Scalar.extui v550
  let v552 : BitVec 32 := Scalar.subi v549 v551
  let c32_i32_381 : BitVec 32 := 32#32
  let c0_i32_384 : BitVec 32 := 0#32
  let v553 : BitVec 1 := Scalar.cmpi .sgt c32_i32_381 c0_i32_384
  let v554 : BitVec 32 := Scalar.extui v553
  let c0_i32_385 : BitVec 32 := 0#32
  let v555 : BitVec 1 := Scalar.cmpi .slt c32_i32_381 c0_i32_385
  let v556 : BitVec 32 := Scalar.extui v555
  let v557 : BitVec 32 := Scalar.subi v554 v556
  let v558 : BitVec 1 := Scalar.cmpi .ne v552 v557
  let v559 : BitVec 32 := Scalar.remsi v546 c32_i32_381
  let c0_i32_386 : BitVec 32 := 0#32
  let v560 : BitVec 1 := Scalar.cmpi .ne v559 c0_i32_386
  let v561 : BitVec 1 := Scalar.andi v558 v560
  let v547 : BitVec 32 := Scalar.divsi v546 c32_i32_381
  let c1_i32_387 : BitVec 32 := 1#32
  let v562 : BitVec 32 := Scalar.subi v547 c1_i32_387
  let v563 : BitVec 32 := Scalar.select v561 v562 v547
  let c32_i32_388 : BitVec 32 := 32#32
  let v564 : BitVec 32 := Scalar.muli v563 c32_i32_388
  let v565 : BitVec 32 := v564
  let c0_i32_397 : BitVec 32 := 0#32
  ![1, 3, v565.toNat, 0]

def k0_chk20 (v544 : BitVec 32) : Prop :=
  (32 ∣ (k0_mult24 v544).toNat) ∧
  (∀ a, (k0_off20 v544) a + S1x1x4096x256.size a ≤ S3x4x65536x256.size a) ∧
  (∀ (hinb : ∀ a, (k0_off20 v544) a + S1x1x4096x256.size a ≤ S3x4x65536x256.size a), (Rect.unit (s := S3x4x65536x256) (k0_off20 v544) S1x1x4096x256.size hinb).WholeWords (EltTy.packing .i8))
theorem k0_mult24_dvd : ∀ (v544 : BitVec 32) (k0_hw20 : k0_chk20 v544), 32 ∣ (k0_mult24 v544).toNat := fun v544 k0_hw20 => k0_hw20.1
theorem k0_off20_inb : ∀ (v544 : BitVec 32) (k0_hw20 : k0_chk20 v544), ∀ a, (k0_off20 v544) a + S1x1x4096x256.size a ≤ S3x4x65536x256.size a := fun v544 k0_hw20 => k0_hw20.2.1
theorem k0_off20_wordsi8 : ∀ (v544 : BitVec 32) (k0_hw20 : k0_chk20 v544), (Rect.unit (s := S3x4x65536x256) (k0_off20 v544) S1x1x4096x256.size (k0_off20_inb v544 k0_hw20)).WholeWords (EltTy.packing .i8) := fun v544 k0_hw20 => k0_hw20.2.2 (k0_off20_inb v544 k0_hw20)

def k0_mult25 (v572 : BitVec 32) : BitVec 32 :=
  let c4095_i32_398 : BitVec 32 := 4095#32
  let v573 : BitVec 32 := Scalar.subi v572 c4095_i32_398
  let c0_i32_399 : BitVec 32 := 0#32
  let v574 : BitVec 32 := Scalar.maxsi v573 c0_i32_399
  let c0_i32_401 : BitVec 32 := 0#32
  let v576 : BitVec 1 := Scalar.cmpi .sgt v574 c0_i32_401
  let v577 : BitVec 32 := Scalar.extui v576
  let c0_i32_402 : BitVec 32 := 0#32
  let v578 : BitVec 1 := Scalar.cmpi .slt v574 c0_i32_402
  let v579 : BitVec 32 := Scalar.extui v578
  let v580 : BitVec 32 := Scalar.subi v577 v579
  let c32_i32_400 : BitVec 32 := 32#32
  let c0_i32_403 : BitVec 32 := 0#32
  let v581 : BitVec 1 := Scalar.cmpi .sgt c32_i32_400 c0_i32_403
  let v582 : BitVec 32 := Scalar.extui v581
  let c0_i32_404 : BitVec 32 := 0#32
  let v583 : BitVec 1 := Scalar.cmpi .slt c32_i32_400 c0_i32_404
  let v584 : BitVec 32 := Scalar.extui v583
  let v585 : BitVec 32 := Scalar.subi v582 v584
  let v586 : BitVec 1 := Scalar.cmpi .ne v580 v585
  let v587 : BitVec 32 := Scalar.remsi v574 c32_i32_400
  let c0_i32_405 : BitVec 32 := 0#32
  let v588 : BitVec 1 := Scalar.cmpi .ne v587 c0_i32_405
  let v589 : BitVec 1 := Scalar.andi v586 v588
  let v575 : BitVec 32 := Scalar.divsi v574 c32_i32_400
  let c1_i32_406 : BitVec 32 := 1#32
  let v590 : BitVec 32 := Scalar.subi v575 c1_i32_406
  let v591 : BitVec 32 := Scalar.select v589 v590 v575
  let c32_i32_407 : BitVec 32 := 32#32
  let v592 : BitVec 32 := Scalar.muli v591 c32_i32_407
  v592

def k0_mult26 (v572 : BitVec 32) : BitVec 32 :=
  let c4095_i32_398 : BitVec 32 := 4095#32
  let v573 : BitVec 32 := Scalar.subi v572 c4095_i32_398
  let c0_i32_399 : BitVec 32 := 0#32
  let v574 : BitVec 32 := Scalar.maxsi v573 c0_i32_399
  let c0_i32_401 : BitVec 32 := 0#32
  let v576 : BitVec 1 := Scalar.cmpi .sgt v574 c0_i32_401
  let v577 : BitVec 32 := Scalar.extui v576
  let c0_i32_402 : BitVec 32 := 0#32
  let v578 : BitVec 1 := Scalar.cmpi .slt v574 c0_i32_402
  let v579 : BitVec 32 := Scalar.extui v578
  let v580 : BitVec 32 := Scalar.subi v577 v579
  let c32_i32_400 : BitVec 32 := 32#32
  let c0_i32_403 : BitVec 32 := 0#32
  let v581 : BitVec 1 := Scalar.cmpi .sgt c32_i32_400 c0_i32_403
  let v582 : BitVec 32 := Scalar.extui v581
  let c0_i32_404 : BitVec 32 := 0#32
  let v583 : BitVec 1 := Scalar.cmpi .slt c32_i32_400 c0_i32_404
  let v584 : BitVec 32 := Scalar.extui v583
  let v585 : BitVec 32 := Scalar.subi v582 v584
  let v586 : BitVec 1 := Scalar.cmpi .ne v580 v585
  let v587 : BitVec 32 := Scalar.remsi v574 c32_i32_400
  let c0_i32_405 : BitVec 32 := 0#32
  let v588 : BitVec 1 := Scalar.cmpi .ne v587 c0_i32_405
  let v589 : BitVec 1 := Scalar.andi v586 v588
  let v575 : BitVec 32 := Scalar.divsi v574 c32_i32_400
  let c1_i32_406 : BitVec 32 := 1#32
  let v590 : BitVec 32 := Scalar.subi v575 c1_i32_406
  let v591 : BitVec 32 := Scalar.select v589 v590 v575
  let c32_i32_407 : BitVec 32 := 32#32
  let v592 : BitVec 32 := Scalar.muli v591 c32_i32_407
  let v593 : BitVec 32 := v592
  let c4096_i32_408 : BitVec 32 := 4096#32
  let v594 : BitVec 32 := Scalar.addi v593 c4096_i32_408
  let c65504_i32_409 : BitVec 32 := 65504#32
  let v595 : BitVec 32 := Scalar.minsi v594 c65504_i32_409
  v595
def k0_off21 (v572 : BitVec 32) : Fin 4 → Nat :=
  let c2_i32_410 : BitVec 32 := 2#32
  let c0_i32_417 : BitVec 32 := 0#32
  let c4095_i32_398 : BitVec 32 := 4095#32
  let v573 : BitVec 32 := Scalar.subi v572 c4095_i32_398
  let c0_i32_399 : BitVec 32 := 0#32
  let v574 : BitVec 32 := Scalar.maxsi v573 c0_i32_399
  let c0_i32_401 : BitVec 32 := 0#32
  let v576 : BitVec 1 := Scalar.cmpi .sgt v574 c0_i32_401
  let v577 : BitVec 32 := Scalar.extui v576
  let c0_i32_402 : BitVec 32 := 0#32
  let v578 : BitVec 1 := Scalar.cmpi .slt v574 c0_i32_402
  let v579 : BitVec 32 := Scalar.extui v578
  let v580 : BitVec 32 := Scalar.subi v577 v579
  let c32_i32_400 : BitVec 32 := 32#32
  let c0_i32_403 : BitVec 32 := 0#32
  let v581 : BitVec 1 := Scalar.cmpi .sgt c32_i32_400 c0_i32_403
  let v582 : BitVec 32 := Scalar.extui v581
  let c0_i32_404 : BitVec 32 := 0#32
  let v583 : BitVec 1 := Scalar.cmpi .slt c32_i32_400 c0_i32_404
  let v584 : BitVec 32 := Scalar.extui v583
  let v585 : BitVec 32 := Scalar.subi v582 v584
  let v586 : BitVec 1 := Scalar.cmpi .ne v580 v585
  let v587 : BitVec 32 := Scalar.remsi v574 c32_i32_400
  let c0_i32_405 : BitVec 32 := 0#32
  let v588 : BitVec 1 := Scalar.cmpi .ne v587 c0_i32_405
  let v589 : BitVec 1 := Scalar.andi v586 v588
  let v575 : BitVec 32 := Scalar.divsi v574 c32_i32_400
  let c1_i32_406 : BitVec 32 := 1#32
  let v590 : BitVec 32 := Scalar.subi v575 c1_i32_406
  let v591 : BitVec 32 := Scalar.select v589 v590 v575
  let c32_i32_407 : BitVec 32 := 32#32
  let v592 : BitVec 32 := Scalar.muli v591 c32_i32_407
  let v593 : BitVec 32 := v592
  let c4096_i32_408 : BitVec 32 := 4096#32
  let v594 : BitVec 32 := Scalar.addi v593 c4096_i32_408
  let c65504_i32_409 : BitVec 32 := 65504#32
  let v595 : BitVec 32 := Scalar.minsi v594 c65504_i32_409
  let v596 : BitVec 32 := v595
  let c0_i32_418 : BitVec 32 := 0#32
  ![2, 0, v596.toNat, 0]

def k0_chk21 (v572 : BitVec 32) : Prop :=
  (32 ∣ (k0_mult25 v572).toNat) ∧
  (32 ∣ (k0_mult26 v572).toNat) ∧
  (∀ a, (k0_off21 v572) a + S1x4x32x256.size a ≤ S3x4x65536x256.size a) ∧
  (∀ (hinb : ∀ a, (k0_off21 v572) a + S1x4x32x256.size a ≤ S3x4x65536x256.size a), (Rect.unit (s := S3x4x65536x256) (k0_off21 v572) S1x4x32x256.size hinb).WholeWords (EltTy.packing .i8))
theorem k0_mult25_dvd : ∀ (v572 : BitVec 32) (k0_hw21 : k0_chk21 v572), 32 ∣ (k0_mult25 v572).toNat := fun v572 k0_hw21 => k0_hw21.1
theorem k0_mult26_dvd : ∀ (v572 : BitVec 32) (k0_hw21 : k0_chk21 v572), 32 ∣ (k0_mult26 v572).toNat := fun v572 k0_hw21 => k0_hw21.2.1
theorem k0_off21_inb : ∀ (v572 : BitVec 32) (k0_hw21 : k0_chk21 v572), ∀ a, (k0_off21 v572) a + S1x4x32x256.size a ≤ S3x4x65536x256.size a := fun v572 k0_hw21 => k0_hw21.2.2.1
theorem k0_off21_wordsi8 : ∀ (v572 : BitVec 32) (k0_hw21 : k0_chk21 v572), (Rect.unit (s := S3x4x65536x256) (k0_off21 v572) S1x4x32x256.size (k0_off21_inb v572 k0_hw21)).WholeWords (EltTy.packing .i8) := fun v572 k0_hw21 => k0_hw21.2.2.2 (k0_off21_inb v572 k0_hw21)

def k0_mult27 (v603 : BitVec 32) : BitVec 32 :=
  let c4095_i32_420 : BitVec 32 := 4095#32
  let v604 : BitVec 32 := Scalar.subi v603 c4095_i32_420
  let c0_i32_421 : BitVec 32 := 0#32
  let v605 : BitVec 32 := Scalar.maxsi v604 c0_i32_421
  let c0_i32_423 : BitVec 32 := 0#32
  let v607 : BitVec 1 := Scalar.cmpi .sgt v605 c0_i32_423
  let v608 : BitVec 32 := Scalar.extui v607
  let c0_i32_424 : BitVec 32 := 0#32
  let v609 : BitVec 1 := Scalar.cmpi .slt v605 c0_i32_424
  let v610 : BitVec 32 := Scalar.extui v609
  let v611 : BitVec 32 := Scalar.subi v608 v610
  let c32_i32_422 : BitVec 32 := 32#32
  let c0_i32_425 : BitVec 32 := 0#32
  let v612 : BitVec 1 := Scalar.cmpi .sgt c32_i32_422 c0_i32_425
  let v613 : BitVec 32 := Scalar.extui v612
  let c0_i32_426 : BitVec 32 := 0#32
  let v614 : BitVec 1 := Scalar.cmpi .slt c32_i32_422 c0_i32_426
  let v615 : BitVec 32 := Scalar.extui v614
  let v616 : BitVec 32 := Scalar.subi v613 v615
  let v617 : BitVec 1 := Scalar.cmpi .ne v611 v616
  let v618 : BitVec 32 := Scalar.remsi v605 c32_i32_422
  let c0_i32_427 : BitVec 32 := 0#32
  let v619 : BitVec 1 := Scalar.cmpi .ne v618 c0_i32_427
  let v620 : BitVec 1 := Scalar.andi v617 v619
  let v606 : BitVec 32 := Scalar.divsi v605 c32_i32_422
  let c1_i32_428 : BitVec 32 := 1#32
  let v621 : BitVec 32 := Scalar.subi v606 c1_i32_428
  let v622 : BitVec 32 := Scalar.select v620 v621 v606
  let c32_i32_429 : BitVec 32 := 32#32
  let v623 : BitVec 32 := Scalar.muli v622 c32_i32_429
  v623

def k0_mult28 (v603 : BitVec 32) : BitVec 32 :=
  let c4095_i32_420 : BitVec 32 := 4095#32
  let v604 : BitVec 32 := Scalar.subi v603 c4095_i32_420
  let c0_i32_421 : BitVec 32 := 0#32
  let v605 : BitVec 32 := Scalar.maxsi v604 c0_i32_421
  let c0_i32_423 : BitVec 32 := 0#32
  let v607 : BitVec 1 := Scalar.cmpi .sgt v605 c0_i32_423
  let v608 : BitVec 32 := Scalar.extui v607
  let c0_i32_424 : BitVec 32 := 0#32
  let v609 : BitVec 1 := Scalar.cmpi .slt v605 c0_i32_424
  let v610 : BitVec 32 := Scalar.extui v609
  let v611 : BitVec 32 := Scalar.subi v608 v610
  let c32_i32_422 : BitVec 32 := 32#32
  let c0_i32_425 : BitVec 32 := 0#32
  let v612 : BitVec 1 := Scalar.cmpi .sgt c32_i32_422 c0_i32_425
  let v613 : BitVec 32 := Scalar.extui v612
  let c0_i32_426 : BitVec 32 := 0#32
  let v614 : BitVec 1 := Scalar.cmpi .slt c32_i32_422 c0_i32_426
  let v615 : BitVec 32 := Scalar.extui v614
  let v616 : BitVec 32 := Scalar.subi v613 v615
  let v617 : BitVec 1 := Scalar.cmpi .ne v611 v616
  let v618 : BitVec 32 := Scalar.remsi v605 c32_i32_422
  let c0_i32_427 : BitVec 32 := 0#32
  let v619 : BitVec 1 := Scalar.cmpi .ne v618 c0_i32_427
  let v620 : BitVec 1 := Scalar.andi v617 v619
  let v606 : BitVec 32 := Scalar.divsi v605 c32_i32_422
  let c1_i32_428 : BitVec 32 := 1#32
  let v621 : BitVec 32 := Scalar.subi v606 c1_i32_428
  let v622 : BitVec 32 := Scalar.select v620 v621 v606
  let c32_i32_429 : BitVec 32 := 32#32
  let v623 : BitVec 32 := Scalar.muli v622 c32_i32_429
  let v624 : BitVec 32 := v623
  let c4096_i32_430 : BitVec 32 := 4096#32
  let v625 : BitVec 32 := Scalar.addi v624 c4096_i32_430
  let c65504_i32_431 : BitVec 32 := 65504#32
  let v626 : BitVec 32 := Scalar.minsi v625 c65504_i32_431
  v626
def k0_off22 (v603 : BitVec 32) : Fin 4 → Nat :=
  let c2_i32_432 : BitVec 32 := 2#32
  let c0_i32_439 : BitVec 32 := 0#32
  let c4095_i32_420 : BitVec 32 := 4095#32
  let v604 : BitVec 32 := Scalar.subi v603 c4095_i32_420
  let c0_i32_421 : BitVec 32 := 0#32
  let v605 : BitVec 32 := Scalar.maxsi v604 c0_i32_421
  let c0_i32_423 : BitVec 32 := 0#32
  let v607 : BitVec 1 := Scalar.cmpi .sgt v605 c0_i32_423
  let v608 : BitVec 32 := Scalar.extui v607
  let c0_i32_424 : BitVec 32 := 0#32
  let v609 : BitVec 1 := Scalar.cmpi .slt v605 c0_i32_424
  let v610 : BitVec 32 := Scalar.extui v609
  let v611 : BitVec 32 := Scalar.subi v608 v610
  let c32_i32_422 : BitVec 32 := 32#32
  let c0_i32_425 : BitVec 32 := 0#32
  let v612 : BitVec 1 := Scalar.cmpi .sgt c32_i32_422 c0_i32_425
  let v613 : BitVec 32 := Scalar.extui v612
  let c0_i32_426 : BitVec 32 := 0#32
  let v614 : BitVec 1 := Scalar.cmpi .slt c32_i32_422 c0_i32_426
  let v615 : BitVec 32 := Scalar.extui v614
  let v616 : BitVec 32 := Scalar.subi v613 v615
  let v617 : BitVec 1 := Scalar.cmpi .ne v611 v616
  let v618 : BitVec 32 := Scalar.remsi v605 c32_i32_422
  let c0_i32_427 : BitVec 32 := 0#32
  let v619 : BitVec 1 := Scalar.cmpi .ne v618 c0_i32_427
  let v620 : BitVec 1 := Scalar.andi v617 v619
  let v606 : BitVec 32 := Scalar.divsi v605 c32_i32_422
  let c1_i32_428 : BitVec 32 := 1#32
  let v621 : BitVec 32 := Scalar.subi v606 c1_i32_428
  let v622 : BitVec 32 := Scalar.select v620 v621 v606
  let c32_i32_429 : BitVec 32 := 32#32
  let v623 : BitVec 32 := Scalar.muli v622 c32_i32_429
  let v624 : BitVec 32 := v623
  let c4096_i32_430 : BitVec 32 := 4096#32
  let v625 : BitVec 32 := Scalar.addi v624 c4096_i32_430
  let c65504_i32_431 : BitVec 32 := 65504#32
  let v626 : BitVec 32 := Scalar.minsi v625 c65504_i32_431
  let v627 : BitVec 32 := v626
  let c0_i32_440 : BitVec 32 := 0#32
  ![2, 0, v627.toNat, 0]

def k0_chk22 (v603 : BitVec 32) : Prop :=
  (32 ∣ (k0_mult27 v603).toNat) ∧
  (32 ∣ (k0_mult28 v603).toNat) ∧
  (∀ a, (k0_off22 v603) a + S1x4x32x256.size a ≤ S3x4x65536x256.size a) ∧
  (∀ (hinb : ∀ a, (k0_off22 v603) a + S1x4x32x256.size a ≤ S3x4x65536x256.size a), (Rect.unit (s := S3x4x65536x256) (k0_off22 v603) S1x4x32x256.size hinb).WholeWords (EltTy.packing .i8))
theorem k0_mult27_dvd : ∀ (v603 : BitVec 32) (k0_hw22 : k0_chk22 v603), 32 ∣ (k0_mult27 v603).toNat := fun v603 k0_hw22 => k0_hw22.1
theorem k0_mult28_dvd : ∀ (v603 : BitVec 32) (k0_hw22 : k0_chk22 v603), 32 ∣ (k0_mult28 v603).toNat := fun v603 k0_hw22 => k0_hw22.2.1
theorem k0_off22_inb : ∀ (v603 : BitVec 32) (k0_hw22 : k0_chk22 v603), ∀ a, (k0_off22 v603) a + S1x4x32x256.size a ≤ S3x4x65536x256.size a := fun v603 k0_hw22 => k0_hw22.2.2.1
theorem k0_off22_wordsi8 : ∀ (v603 : BitVec 32) (k0_hw22 : k0_chk22 v603), (Rect.unit (s := S3x4x65536x256) (k0_off22 v603) S1x4x32x256.size (k0_off22_inb v603 k0_hw22)).WholeWords (EltTy.packing .i8) := fun v603 k0_hw22 => k0_hw22.2.2.2 (k0_off22_inb v603 k0_hw22)

def k0_mult29 (v634 : BitVec 32) : BitVec 32 :=
  let c4095_i32_442 : BitVec 32 := 4095#32
  let v635 : BitVec 32 := Scalar.subi v634 c4095_i32_442
  let c0_i32_443 : BitVec 32 := 0#32
  let v636 : BitVec 32 := Scalar.maxsi v635 c0_i32_443
  let c0_i32_445 : BitVec 32 := 0#32
  let v638 : BitVec 1 := Scalar.cmpi .sgt v636 c0_i32_445
  let v639 : BitVec 32 := Scalar.extui v638
  let c0_i32_446 : BitVec 32 := 0#32
  let v640 : BitVec 1 := Scalar.cmpi .slt v636 c0_i32_446
  let v641 : BitVec 32 := Scalar.extui v640
  let v642 : BitVec 32 := Scalar.subi v639 v641
  let c32_i32_444 : BitVec 32 := 32#32
  let c0_i32_447 : BitVec 32 := 0#32
  let v643 : BitVec 1 := Scalar.cmpi .sgt c32_i32_444 c0_i32_447
  let v644 : BitVec 32 := Scalar.extui v643
  let c0_i32_448 : BitVec 32 := 0#32
  let v645 : BitVec 1 := Scalar.cmpi .slt c32_i32_444 c0_i32_448
  let v646 : BitVec 32 := Scalar.extui v645
  let v647 : BitVec 32 := Scalar.subi v644 v646
  let v648 : BitVec 1 := Scalar.cmpi .ne v642 v647
  let v649 : BitVec 32 := Scalar.remsi v636 c32_i32_444
  let c0_i32_449 : BitVec 32 := 0#32
  let v650 : BitVec 1 := Scalar.cmpi .ne v649 c0_i32_449
  let v651 : BitVec 1 := Scalar.andi v648 v650
  let v637 : BitVec 32 := Scalar.divsi v636 c32_i32_444
  let c1_i32_450 : BitVec 32 := 1#32
  let v652 : BitVec 32 := Scalar.subi v637 c1_i32_450
  let v653 : BitVec 32 := Scalar.select v651 v652 v637
  let c32_i32_451 : BitVec 32 := 32#32
  let v654 : BitVec 32 := Scalar.muli v653 c32_i32_451
  v654

def k0_off23 (v634 : BitVec 32) : Fin 4 → Nat :=
  let c2_i32_452 : BitVec 32 := 2#32
  let c0_i32_453 : BitVec 32 := 0#32
  let c4095_i32_442 : BitVec 32 := 4095#32
  let v635 : BitVec 32 := Scalar.subi v634 c4095_i32_442
  let c0_i32_443 : BitVec 32 := 0#32
  let v636 : BitVec 32 := Scalar.maxsi v635 c0_i32_443
  let c0_i32_445 : BitVec 32 := 0#32
  let v638 : BitVec 1 := Scalar.cmpi .sgt v636 c0_i32_445
  let v639 : BitVec 32 := Scalar.extui v638
  let c0_i32_446 : BitVec 32 := 0#32
  let v640 : BitVec 1 := Scalar.cmpi .slt v636 c0_i32_446
  let v641 : BitVec 32 := Scalar.extui v640
  let v642 : BitVec 32 := Scalar.subi v639 v641
  let c32_i32_444 : BitVec 32 := 32#32
  let c0_i32_447 : BitVec 32 := 0#32
  let v643 : BitVec 1 := Scalar.cmpi .sgt c32_i32_444 c0_i32_447
  let v644 : BitVec 32 := Scalar.extui v643
  let c0_i32_448 : BitVec 32 := 0#32
  let v645 : BitVec 1 := Scalar.cmpi .slt c32_i32_444 c0_i32_448
  let v646 : BitVec 32 := Scalar.extui v645
  let v647 : BitVec 32 := Scalar.subi v644 v646
  let v648 : BitVec 1 := Scalar.cmpi .ne v642 v647
  let v649 : BitVec 32 := Scalar.remsi v636 c32_i32_444
  let c0_i32_449 : BitVec 32 := 0#32
  let v650 : BitVec 1 := Scalar.cmpi .ne v649 c0_i32_449
  let v651 : BitVec 1 := Scalar.andi v648 v650
  let v637 : BitVec 32 := Scalar.divsi v636 c32_i32_444
  let c1_i32_450 : BitVec 32 := 1#32
  let v652 : BitVec 32 := Scalar.subi v637 c1_i32_450
  let v653 : BitVec 32 := Scalar.select v651 v652 v637
  let c32_i32_451 : BitVec 32 := 32#32
  let v654 : BitVec 32 := Scalar.muli v653 c32_i32_451
  let v655 : BitVec 32 := v654
  let c0_i32_460 : BitVec 32 := 0#32
  ![2, 0, v655.toNat, 0]

def k0_chk23 (v634 : BitVec 32) : Prop :=
  (32 ∣ (k0_mult29 v634).toNat) ∧
  (∀ a, (k0_off23 v634) a + S1x1x4096x256.size a ≤ S3x4x65536x256.size a) ∧
  (∀ (hinb : ∀ a, (k0_off23 v634) a + S1x1x4096x256.size a ≤ S3x4x65536x256.size a), (Rect.unit (s := S3x4x65536x256) (k0_off23 v634) S1x1x4096x256.size hinb).WholeWords (EltTy.packing .i8))
theorem k0_mult29_dvd : ∀ (v634 : BitVec 32) (k0_hw23 : k0_chk23 v634), 32 ∣ (k0_mult29 v634).toNat := fun v634 k0_hw23 => k0_hw23.1
theorem k0_off23_inb : ∀ (v634 : BitVec 32) (k0_hw23 : k0_chk23 v634), ∀ a, (k0_off23 v634) a + S1x1x4096x256.size a ≤ S3x4x65536x256.size a := fun v634 k0_hw23 => k0_hw23.2.1
theorem k0_off23_wordsi8 : ∀ (v634 : BitVec 32) (k0_hw23 : k0_chk23 v634), (Rect.unit (s := S3x4x65536x256) (k0_off23 v634) S1x1x4096x256.size (k0_off23_inb v634 k0_hw23)).WholeWords (EltTy.packing .i8) := fun v634 k0_hw23 => k0_hw23.2.2 (k0_off23_inb v634 k0_hw23)

def k0_mult30 (v662 : BitVec 32) : BitVec 32 :=
  let c4095_i32_462 : BitVec 32 := 4095#32
  let v663 : BitVec 32 := Scalar.subi v662 c4095_i32_462
  let c0_i32_463 : BitVec 32 := 0#32
  let v664 : BitVec 32 := Scalar.maxsi v663 c0_i32_463
  let c0_i32_465 : BitVec 32 := 0#32
  let v666 : BitVec 1 := Scalar.cmpi .sgt v664 c0_i32_465
  let v667 : BitVec 32 := Scalar.extui v666
  let c0_i32_466 : BitVec 32 := 0#32
  let v668 : BitVec 1 := Scalar.cmpi .slt v664 c0_i32_466
  let v669 : BitVec 32 := Scalar.extui v668
  let v670 : BitVec 32 := Scalar.subi v667 v669
  let c32_i32_464 : BitVec 32 := 32#32
  let c0_i32_467 : BitVec 32 := 0#32
  let v671 : BitVec 1 := Scalar.cmpi .sgt c32_i32_464 c0_i32_467
  let v672 : BitVec 32 := Scalar.extui v671
  let c0_i32_468 : BitVec 32 := 0#32
  let v673 : BitVec 1 := Scalar.cmpi .slt c32_i32_464 c0_i32_468
  let v674 : BitVec 32 := Scalar.extui v673
  let v675 : BitVec 32 := Scalar.subi v672 v674
  let v676 : BitVec 1 := Scalar.cmpi .ne v670 v675
  let v677 : BitVec 32 := Scalar.remsi v664 c32_i32_464
  let c0_i32_469 : BitVec 32 := 0#32
  let v678 : BitVec 1 := Scalar.cmpi .ne v677 c0_i32_469
  let v679 : BitVec 1 := Scalar.andi v676 v678
  let v665 : BitVec 32 := Scalar.divsi v664 c32_i32_464
  let c1_i32_470 : BitVec 32 := 1#32
  let v680 : BitVec 32 := Scalar.subi v665 c1_i32_470
  let v681 : BitVec 32 := Scalar.select v679 v680 v665
  let c32_i32_471 : BitVec 32 := 32#32
  let v682 : BitVec 32 := Scalar.muli v681 c32_i32_471
  v682

def k0_off24 (v662 : BitVec 32) : Fin 4 → Nat :=
  let c2_i32_472 : BitVec 32 := 2#32
  let c1_i32_473 : BitVec 32 := 1#32
  let c4095_i32_462 : BitVec 32 := 4095#32
  let v663 : BitVec 32 := Scalar.subi v662 c4095_i32_462
  let c0_i32_463 : BitVec 32 := 0#32
  let v664 : BitVec 32 := Scalar.maxsi v663 c0_i32_463
  let c0_i32_465 : BitVec 32 := 0#32
  let v666 : BitVec 1 := Scalar.cmpi .sgt v664 c0_i32_465
  let v667 : BitVec 32 := Scalar.extui v666
  let c0_i32_466 : BitVec 32 := 0#32
  let v668 : BitVec 1 := Scalar.cmpi .slt v664 c0_i32_466
  let v669 : BitVec 32 := Scalar.extui v668
  let v670 : BitVec 32 := Scalar.subi v667 v669
  let c32_i32_464 : BitVec 32 := 32#32
  let c0_i32_467 : BitVec 32 := 0#32
  let v671 : BitVec 1 := Scalar.cmpi .sgt c32_i32_464 c0_i32_467
  let v672 : BitVec 32 := Scalar.extui v671
  let c0_i32_468 : BitVec 32 := 0#32
  let v673 : BitVec 1 := Scalar.cmpi .slt c32_i32_464 c0_i32_468
  let v674 : BitVec 32 := Scalar.extui v673
  let v675 : BitVec 32 := Scalar.subi v672 v674
  let v676 : BitVec 1 := Scalar.cmpi .ne v670 v675
  let v677 : BitVec 32 := Scalar.remsi v664 c32_i32_464
  let c0_i32_469 : BitVec 32 := 0#32
  let v678 : BitVec 1 := Scalar.cmpi .ne v677 c0_i32_469
  let v679 : BitVec 1 := Scalar.andi v676 v678
  let v665 : BitVec 32 := Scalar.divsi v664 c32_i32_464
  let c1_i32_470 : BitVec 32 := 1#32
  let v680 : BitVec 32 := Scalar.subi v665 c1_i32_470
  let v681 : BitVec 32 := Scalar.select v679 v680 v665
  let c32_i32_471 : BitVec 32 := 32#32
  let v682 : BitVec 32 := Scalar.muli v681 c32_i32_471
  let v683 : BitVec 32 := v682
  let c0_i32_480 : BitVec 32 := 0#32
  ![2, 1, v683.toNat, 0]

def k0_chk24 (v662 : BitVec 32) : Prop :=
  (32 ∣ (k0_mult30 v662).toNat) ∧
  (∀ a, (k0_off24 v662) a + S1x1x4096x256.size a ≤ S3x4x65536x256.size a) ∧
  (∀ (hinb : ∀ a, (k0_off24 v662) a + S1x1x4096x256.size a ≤ S3x4x65536x256.size a), (Rect.unit (s := S3x4x65536x256) (k0_off24 v662) S1x1x4096x256.size hinb).WholeWords (EltTy.packing .i8))
theorem k0_mult30_dvd : ∀ (v662 : BitVec 32) (k0_hw24 : k0_chk24 v662), 32 ∣ (k0_mult30 v662).toNat := fun v662 k0_hw24 => k0_hw24.1
theorem k0_off24_inb : ∀ (v662 : BitVec 32) (k0_hw24 : k0_chk24 v662), ∀ a, (k0_off24 v662) a + S1x1x4096x256.size a ≤ S3x4x65536x256.size a := fun v662 k0_hw24 => k0_hw24.2.1
theorem k0_off24_wordsi8 : ∀ (v662 : BitVec 32) (k0_hw24 : k0_chk24 v662), (Rect.unit (s := S3x4x65536x256) (k0_off24 v662) S1x1x4096x256.size (k0_off24_inb v662 k0_hw24)).WholeWords (EltTy.packing .i8) := fun v662 k0_hw24 => k0_hw24.2.2 (k0_off24_inb v662 k0_hw24)

def k0_mult31 (v690 : BitVec 32) : BitVec 32 :=
  let c4095_i32_482 : BitVec 32 := 4095#32
  let v691 : BitVec 32 := Scalar.subi v690 c4095_i32_482
  let c0_i32_483 : BitVec 32 := 0#32
  let v692 : BitVec 32 := Scalar.maxsi v691 c0_i32_483
  let c0_i32_485 : BitVec 32 := 0#32
  let v694 : BitVec 1 := Scalar.cmpi .sgt v692 c0_i32_485
  let v695 : BitVec 32 := Scalar.extui v694
  let c0_i32_486 : BitVec 32 := 0#32
  let v696 : BitVec 1 := Scalar.cmpi .slt v692 c0_i32_486
  let v697 : BitVec 32 := Scalar.extui v696
  let v698 : BitVec 32 := Scalar.subi v695 v697
  let c32_i32_484 : BitVec 32 := 32#32
  let c0_i32_487 : BitVec 32 := 0#32
  let v699 : BitVec 1 := Scalar.cmpi .sgt c32_i32_484 c0_i32_487
  let v700 : BitVec 32 := Scalar.extui v699
  let c0_i32_488 : BitVec 32 := 0#32
  let v701 : BitVec 1 := Scalar.cmpi .slt c32_i32_484 c0_i32_488
  let v702 : BitVec 32 := Scalar.extui v701
  let v703 : BitVec 32 := Scalar.subi v700 v702
  let v704 : BitVec 1 := Scalar.cmpi .ne v698 v703
  let v705 : BitVec 32 := Scalar.remsi v692 c32_i32_484
  let c0_i32_489 : BitVec 32 := 0#32
  let v706 : BitVec 1 := Scalar.cmpi .ne v705 c0_i32_489
  let v707 : BitVec 1 := Scalar.andi v704 v706
  let v693 : BitVec 32 := Scalar.divsi v692 c32_i32_484
  let c1_i32_490 : BitVec 32 := 1#32
  let v708 : BitVec 32 := Scalar.subi v693 c1_i32_490
  let v709 : BitVec 32 := Scalar.select v707 v708 v693
  let c32_i32_491 : BitVec 32 := 32#32
  let v710 : BitVec 32 := Scalar.muli v709 c32_i32_491
  v710

def k0_off25 (v690 : BitVec 32) : Fin 4 → Nat :=
  let c2_i32_492 : BitVec 32 := 2#32
  let c2_i32_493 : BitVec 32 := 2#32
  let c4095_i32_482 : BitVec 32 := 4095#32
  let v691 : BitVec 32 := Scalar.subi v690 c4095_i32_482
  let c0_i32_483 : BitVec 32 := 0#32
  let v692 : BitVec 32 := Scalar.maxsi v691 c0_i32_483
  let c0_i32_485 : BitVec 32 := 0#32
  let v694 : BitVec 1 := Scalar.cmpi .sgt v692 c0_i32_485
  let v695 : BitVec 32 := Scalar.extui v694
  let c0_i32_486 : BitVec 32 := 0#32
  let v696 : BitVec 1 := Scalar.cmpi .slt v692 c0_i32_486
  let v697 : BitVec 32 := Scalar.extui v696
  let v698 : BitVec 32 := Scalar.subi v695 v697
  let c32_i32_484 : BitVec 32 := 32#32
  let c0_i32_487 : BitVec 32 := 0#32
  let v699 : BitVec 1 := Scalar.cmpi .sgt c32_i32_484 c0_i32_487
  let v700 : BitVec 32 := Scalar.extui v699
  let c0_i32_488 : BitVec 32 := 0#32
  let v701 : BitVec 1 := Scalar.cmpi .slt c32_i32_484 c0_i32_488
  let v702 : BitVec 32 := Scalar.extui v701
  let v703 : BitVec 32 := Scalar.subi v700 v702
  let v704 : BitVec 1 := Scalar.cmpi .ne v698 v703
  let v705 : BitVec 32 := Scalar.remsi v692 c32_i32_484
  let c0_i32_489 : BitVec 32 := 0#32
  let v706 : BitVec 1 := Scalar.cmpi .ne v705 c0_i32_489
  let v707 : BitVec 1 := Scalar.andi v704 v706
  let v693 : BitVec 32 := Scalar.divsi v692 c32_i32_484
  let c1_i32_490 : BitVec 32 := 1#32
  let v708 : BitVec 32 := Scalar.subi v693 c1_i32_490
  let v709 : BitVec 32 := Scalar.select v707 v708 v693
  let c32_i32_491 : BitVec 32 := 32#32
  let v710 : BitVec 32 := Scalar.muli v709 c32_i32_491
  let v711 : BitVec 32 := v710
  let c0_i32_500 : BitVec 32 := 0#32
  ![2, 2, v711.toNat, 0]

def k0_chk25 (v690 : BitVec 32) : Prop :=
  (32 ∣ (k0_mult31 v690).toNat) ∧
  (∀ a, (k0_off25 v690) a + S1x1x4096x256.size a ≤ S3x4x65536x256.size a) ∧
  (∀ (hinb : ∀ a, (k0_off25 v690) a + S1x1x4096x256.size a ≤ S3x4x65536x256.size a), (Rect.unit (s := S3x4x65536x256) (k0_off25 v690) S1x1x4096x256.size hinb).WholeWords (EltTy.packing .i8))
theorem k0_mult31_dvd : ∀ (v690 : BitVec 32) (k0_hw25 : k0_chk25 v690), 32 ∣ (k0_mult31 v690).toNat := fun v690 k0_hw25 => k0_hw25.1
theorem k0_off25_inb : ∀ (v690 : BitVec 32) (k0_hw25 : k0_chk25 v690), ∀ a, (k0_off25 v690) a + S1x1x4096x256.size a ≤ S3x4x65536x256.size a := fun v690 k0_hw25 => k0_hw25.2.1
theorem k0_off25_wordsi8 : ∀ (v690 : BitVec 32) (k0_hw25 : k0_chk25 v690), (Rect.unit (s := S3x4x65536x256) (k0_off25 v690) S1x1x4096x256.size (k0_off25_inb v690 k0_hw25)).WholeWords (EltTy.packing .i8) := fun v690 k0_hw25 => k0_hw25.2.2 (k0_off25_inb v690 k0_hw25)

def k0_mult32 (v718 : BitVec 32) : BitVec 32 :=
  let c4095_i32_502 : BitVec 32 := 4095#32
  let v719 : BitVec 32 := Scalar.subi v718 c4095_i32_502
  let c0_i32_503 : BitVec 32 := 0#32
  let v720 : BitVec 32 := Scalar.maxsi v719 c0_i32_503
  let c0_i32_505 : BitVec 32 := 0#32
  let v722 : BitVec 1 := Scalar.cmpi .sgt v720 c0_i32_505
  let v723 : BitVec 32 := Scalar.extui v722
  let c0_i32_506 : BitVec 32 := 0#32
  let v724 : BitVec 1 := Scalar.cmpi .slt v720 c0_i32_506
  let v725 : BitVec 32 := Scalar.extui v724
  let v726 : BitVec 32 := Scalar.subi v723 v725
  let c32_i32_504 : BitVec 32 := 32#32
  let c0_i32_507 : BitVec 32 := 0#32
  let v727 : BitVec 1 := Scalar.cmpi .sgt c32_i32_504 c0_i32_507
  let v728 : BitVec 32 := Scalar.extui v727
  let c0_i32_508 : BitVec 32 := 0#32
  let v729 : BitVec 1 := Scalar.cmpi .slt c32_i32_504 c0_i32_508
  let v730 : BitVec 32 := Scalar.extui v729
  let v731 : BitVec 32 := Scalar.subi v728 v730
  let v732 : BitVec 1 := Scalar.cmpi .ne v726 v731
  let v733 : BitVec 32 := Scalar.remsi v720 c32_i32_504
  let c0_i32_509 : BitVec 32 := 0#32
  let v734 : BitVec 1 := Scalar.cmpi .ne v733 c0_i32_509
  let v735 : BitVec 1 := Scalar.andi v732 v734
  let v721 : BitVec 32 := Scalar.divsi v720 c32_i32_504
  let c1_i32_510 : BitVec 32 := 1#32
  let v736 : BitVec 32 := Scalar.subi v721 c1_i32_510
  let v737 : BitVec 32 := Scalar.select v735 v736 v721
  let c32_i32_511 : BitVec 32 := 32#32
  let v738 : BitVec 32 := Scalar.muli v737 c32_i32_511
  v738

def k0_off26 (v718 : BitVec 32) : Fin 4 → Nat :=
  let c2_i32_512 : BitVec 32 := 2#32
  let c3_i32_513 : BitVec 32 := 3#32
  let c4095_i32_502 : BitVec 32 := 4095#32
  let v719 : BitVec 32 := Scalar.subi v718 c4095_i32_502
  let c0_i32_503 : BitVec 32 := 0#32
  let v720 : BitVec 32 := Scalar.maxsi v719 c0_i32_503
  let c0_i32_505 : BitVec 32 := 0#32
  let v722 : BitVec 1 := Scalar.cmpi .sgt v720 c0_i32_505
  let v723 : BitVec 32 := Scalar.extui v722
  let c0_i32_506 : BitVec 32 := 0#32
  let v724 : BitVec 1 := Scalar.cmpi .slt v720 c0_i32_506
  let v725 : BitVec 32 := Scalar.extui v724
  let v726 : BitVec 32 := Scalar.subi v723 v725
  let c32_i32_504 : BitVec 32 := 32#32
  let c0_i32_507 : BitVec 32 := 0#32
  let v727 : BitVec 1 := Scalar.cmpi .sgt c32_i32_504 c0_i32_507
  let v728 : BitVec 32 := Scalar.extui v727
  let c0_i32_508 : BitVec 32 := 0#32
  let v729 : BitVec 1 := Scalar.cmpi .slt c32_i32_504 c0_i32_508
  let v730 : BitVec 32 := Scalar.extui v729
  let v731 : BitVec 32 := Scalar.subi v728 v730
  let v732 : BitVec 1 := Scalar.cmpi .ne v726 v731
  let v733 : BitVec 32 := Scalar.remsi v720 c32_i32_504
  let c0_i32_509 : BitVec 32 := 0#32
  let v734 : BitVec 1 := Scalar.cmpi .ne v733 c0_i32_509
  let v735 : BitVec 1 := Scalar.andi v732 v734
  let v721 : BitVec 32 := Scalar.divsi v720 c32_i32_504
  let c1_i32_510 : BitVec 32 := 1#32
  let v736 : BitVec 32 := Scalar.subi v721 c1_i32_510
  let v737 : BitVec 32 := Scalar.select v735 v736 v721
  let c32_i32_511 : BitVec 32 := 32#32
  let v738 : BitVec 32 := Scalar.muli v737 c32_i32_511
  let v739 : BitVec 32 := v738
  let c0_i32_520 : BitVec 32 := 0#32
  ![2, 3, v739.toNat, 0]

def k0_chk26 (v718 : BitVec 32) : Prop :=
  (32 ∣ (k0_mult32 v718).toNat) ∧
  (∀ a, (k0_off26 v718) a + S1x1x4096x256.size a ≤ S3x4x65536x256.size a) ∧
  (∀ (hinb : ∀ a, (k0_off26 v718) a + S1x1x4096x256.size a ≤ S3x4x65536x256.size a), (Rect.unit (s := S3x4x65536x256) (k0_off26 v718) S1x1x4096x256.size hinb).WholeWords (EltTy.packing .i8))
theorem k0_mult32_dvd : ∀ (v718 : BitVec 32) (k0_hw26 : k0_chk26 v718), 32 ∣ (k0_mult32 v718).toNat := fun v718 k0_hw26 => k0_hw26.1
theorem k0_off26_inb : ∀ (v718 : BitVec 32) (k0_hw26 : k0_chk26 v718), ∀ a, (k0_off26 v718) a + S1x1x4096x256.size a ≤ S3x4x65536x256.size a := fun v718 k0_hw26 => k0_hw26.2.1
theorem k0_off26_wordsi8 : ∀ (v718 : BitVec 32) (k0_hw26 : k0_chk26 v718), (Rect.unit (s := S3x4x65536x256) (k0_off26 v718) S1x1x4096x256.size (k0_off26_inb v718 k0_hw26)).WholeWords (EltTy.packing .i8) := fun v718 k0_hw26 => k0_hw26.2.2 (k0_off26_inb v718 k0_hw26)

def k0_mult33 (v746 : BitVec 32) : BitVec 32 :=
  let c4095_i32_522 : BitVec 32 := 4095#32
  let v747 : BitVec 32 := Scalar.subi v746 c4095_i32_522
  let c0_i32_523 : BitVec 32 := 0#32
  let v748 : BitVec 32 := Scalar.maxsi v747 c0_i32_523
  let c0_i32_525 : BitVec 32 := 0#32
  let v750 : BitVec 1 := Scalar.cmpi .sgt v748 c0_i32_525
  let v751 : BitVec 32 := Scalar.extui v750
  let c0_i32_526 : BitVec 32 := 0#32
  let v752 : BitVec 1 := Scalar.cmpi .slt v748 c0_i32_526
  let v753 : BitVec 32 := Scalar.extui v752
  let v754 : BitVec 32 := Scalar.subi v751 v753
  let c32_i32_524 : BitVec 32 := 32#32
  let c0_i32_527 : BitVec 32 := 0#32
  let v755 : BitVec 1 := Scalar.cmpi .sgt c32_i32_524 c0_i32_527
  let v756 : BitVec 32 := Scalar.extui v755
  let c0_i32_528 : BitVec 32 := 0#32
  let v757 : BitVec 1 := Scalar.cmpi .slt c32_i32_524 c0_i32_528
  let v758 : BitVec 32 := Scalar.extui v757
  let v759 : BitVec 32 := Scalar.subi v756 v758
  let v760 : BitVec 1 := Scalar.cmpi .ne v754 v759
  let v761 : BitVec 32 := Scalar.remsi v748 c32_i32_524
  let c0_i32_529 : BitVec 32 := 0#32
  let v762 : BitVec 1 := Scalar.cmpi .ne v761 c0_i32_529
  let v763 : BitVec 1 := Scalar.andi v760 v762
  let v749 : BitVec 32 := Scalar.divsi v748 c32_i32_524
  let c1_i32_530 : BitVec 32 := 1#32
  let v764 : BitVec 32 := Scalar.subi v749 c1_i32_530
  let v765 : BitVec 32 := Scalar.select v763 v764 v749
  let c32_i32_531 : BitVec 32 := 32#32
  let v766 : BitVec 32 := Scalar.muli v765 c32_i32_531
  v766

def k0_off27 (v746 : BitVec 32) : Fin 4 → Nat :=
  let c2_i32_532 : BitVec 32 := 2#32
  let c0_i32_533 : BitVec 32 := 0#32
  let c4095_i32_522 : BitVec 32 := 4095#32
  let v747 : BitVec 32 := Scalar.subi v746 c4095_i32_522
  let c0_i32_523 : BitVec 32 := 0#32
  let v748 : BitVec 32 := Scalar.maxsi v747 c0_i32_523
  let c0_i32_525 : BitVec 32 := 0#32
  let v750 : BitVec 1 := Scalar.cmpi .sgt v748 c0_i32_525
  let v751 : BitVec 32 := Scalar.extui v750
  let c0_i32_526 : BitVec 32 := 0#32
  let v752 : BitVec 1 := Scalar.cmpi .slt v748 c0_i32_526
  let v753 : BitVec 32 := Scalar.extui v752
  let v754 : BitVec 32 := Scalar.subi v751 v753
  let c32_i32_524 : BitVec 32 := 32#32
  let c0_i32_527 : BitVec 32 := 0#32
  let v755 : BitVec 1 := Scalar.cmpi .sgt c32_i32_524 c0_i32_527
  let v756 : BitVec 32 := Scalar.extui v755
  let c0_i32_528 : BitVec 32 := 0#32
  let v757 : BitVec 1 := Scalar.cmpi .slt c32_i32_524 c0_i32_528
  let v758 : BitVec 32 := Scalar.extui v757
  let v759 : BitVec 32 := Scalar.subi v756 v758
  let v760 : BitVec 1 := Scalar.cmpi .ne v754 v759
  let v761 : BitVec 32 := Scalar.remsi v748 c32_i32_524
  let c0_i32_529 : BitVec 32 := 0#32
  let v762 : BitVec 1 := Scalar.cmpi .ne v761 c0_i32_529
  let v763 : BitVec 1 := Scalar.andi v760 v762
  let v749 : BitVec 32 := Scalar.divsi v748 c32_i32_524
  let c1_i32_530 : BitVec 32 := 1#32
  let v764 : BitVec 32 := Scalar.subi v749 c1_i32_530
  let v765 : BitVec 32 := Scalar.select v763 v764 v749
  let c32_i32_531 : BitVec 32 := 32#32
  let v766 : BitVec 32 := Scalar.muli v765 c32_i32_531
  let v767 : BitVec 32 := v766
  let c0_i32_540 : BitVec 32 := 0#32
  ![2, 0, v767.toNat, 0]

def k0_chk27 (v746 : BitVec 32) : Prop :=
  (32 ∣ (k0_mult33 v746).toNat) ∧
  (∀ a, (k0_off27 v746) a + S1x1x4096x256.size a ≤ S3x4x65536x256.size a) ∧
  (∀ (hinb : ∀ a, (k0_off27 v746) a + S1x1x4096x256.size a ≤ S3x4x65536x256.size a), (Rect.unit (s := S3x4x65536x256) (k0_off27 v746) S1x1x4096x256.size hinb).WholeWords (EltTy.packing .i8))
theorem k0_mult33_dvd : ∀ (v746 : BitVec 32) (k0_hw27 : k0_chk27 v746), 32 ∣ (k0_mult33 v746).toNat := fun v746 k0_hw27 => k0_hw27.1
theorem k0_off27_inb : ∀ (v746 : BitVec 32) (k0_hw27 : k0_chk27 v746), ∀ a, (k0_off27 v746) a + S1x1x4096x256.size a ≤ S3x4x65536x256.size a := fun v746 k0_hw27 => k0_hw27.2.1
theorem k0_off27_wordsi8 : ∀ (v746 : BitVec 32) (k0_hw27 : k0_chk27 v746), (Rect.unit (s := S3x4x65536x256) (k0_off27 v746) S1x1x4096x256.size (k0_off27_inb v746 k0_hw27)).WholeWords (EltTy.packing .i8) := fun v746 k0_hw27 => k0_hw27.2.2 (k0_off27_inb v746 k0_hw27)

def k0_mult34 (v774 : BitVec 32) : BitVec 32 :=
  let c4095_i32_542 : BitVec 32 := 4095#32
  let v775 : BitVec 32 := Scalar.subi v774 c4095_i32_542
  let c0_i32_543 : BitVec 32 := 0#32
  let v776 : BitVec 32 := Scalar.maxsi v775 c0_i32_543
  let c0_i32_545 : BitVec 32 := 0#32
  let v778 : BitVec 1 := Scalar.cmpi .sgt v776 c0_i32_545
  let v779 : BitVec 32 := Scalar.extui v778
  let c0_i32_546 : BitVec 32 := 0#32
  let v780 : BitVec 1 := Scalar.cmpi .slt v776 c0_i32_546
  let v781 : BitVec 32 := Scalar.extui v780
  let v782 : BitVec 32 := Scalar.subi v779 v781
  let c32_i32_544 : BitVec 32 := 32#32
  let c0_i32_547 : BitVec 32 := 0#32
  let v783 : BitVec 1 := Scalar.cmpi .sgt c32_i32_544 c0_i32_547
  let v784 : BitVec 32 := Scalar.extui v783
  let c0_i32_548 : BitVec 32 := 0#32
  let v785 : BitVec 1 := Scalar.cmpi .slt c32_i32_544 c0_i32_548
  let v786 : BitVec 32 := Scalar.extui v785
  let v787 : BitVec 32 := Scalar.subi v784 v786
  let v788 : BitVec 1 := Scalar.cmpi .ne v782 v787
  let v789 : BitVec 32 := Scalar.remsi v776 c32_i32_544
  let c0_i32_549 : BitVec 32 := 0#32
  let v790 : BitVec 1 := Scalar.cmpi .ne v789 c0_i32_549
  let v791 : BitVec 1 := Scalar.andi v788 v790
  let v777 : BitVec 32 := Scalar.divsi v776 c32_i32_544
  let c1_i32_550 : BitVec 32 := 1#32
  let v792 : BitVec 32 := Scalar.subi v777 c1_i32_550
  let v793 : BitVec 32 := Scalar.select v791 v792 v777
  let c32_i32_551 : BitVec 32 := 32#32
  let v794 : BitVec 32 := Scalar.muli v793 c32_i32_551
  v794

def k0_off28 (v774 : BitVec 32) : Fin 4 → Nat :=
  let c2_i32_552 : BitVec 32 := 2#32
  let c1_i32_553 : BitVec 32 := 1#32
  let c4095_i32_542 : BitVec 32 := 4095#32
  let v775 : BitVec 32 := Scalar.subi v774 c4095_i32_542
  let c0_i32_543 : BitVec 32 := 0#32
  let v776 : BitVec 32 := Scalar.maxsi v775 c0_i32_543
  let c0_i32_545 : BitVec 32 := 0#32
  let v778 : BitVec 1 := Scalar.cmpi .sgt v776 c0_i32_545
  let v779 : BitVec 32 := Scalar.extui v778
  let c0_i32_546 : BitVec 32 := 0#32
  let v780 : BitVec 1 := Scalar.cmpi .slt v776 c0_i32_546
  let v781 : BitVec 32 := Scalar.extui v780
  let v782 : BitVec 32 := Scalar.subi v779 v781
  let c32_i32_544 : BitVec 32 := 32#32
  let c0_i32_547 : BitVec 32 := 0#32
  let v783 : BitVec 1 := Scalar.cmpi .sgt c32_i32_544 c0_i32_547
  let v784 : BitVec 32 := Scalar.extui v783
  let c0_i32_548 : BitVec 32 := 0#32
  let v785 : BitVec 1 := Scalar.cmpi .slt c32_i32_544 c0_i32_548
  let v786 : BitVec 32 := Scalar.extui v785
  let v787 : BitVec 32 := Scalar.subi v784 v786
  let v788 : BitVec 1 := Scalar.cmpi .ne v782 v787
  let v789 : BitVec 32 := Scalar.remsi v776 c32_i32_544
  let c0_i32_549 : BitVec 32 := 0#32
  let v790 : BitVec 1 := Scalar.cmpi .ne v789 c0_i32_549
  let v791 : BitVec 1 := Scalar.andi v788 v790
  let v777 : BitVec 32 := Scalar.divsi v776 c32_i32_544
  let c1_i32_550 : BitVec 32 := 1#32
  let v792 : BitVec 32 := Scalar.subi v777 c1_i32_550
  let v793 : BitVec 32 := Scalar.select v791 v792 v777
  let c32_i32_551 : BitVec 32 := 32#32
  let v794 : BitVec 32 := Scalar.muli v793 c32_i32_551
  let v795 : BitVec 32 := v794
  let c0_i32_560 : BitVec 32 := 0#32
  ![2, 1, v795.toNat, 0]

def k0_chk28 (v774 : BitVec 32) : Prop :=
  (32 ∣ (k0_mult34 v774).toNat) ∧
  (∀ a, (k0_off28 v774) a + S1x1x4096x256.size a ≤ S3x4x65536x256.size a) ∧
  (∀ (hinb : ∀ a, (k0_off28 v774) a + S1x1x4096x256.size a ≤ S3x4x65536x256.size a), (Rect.unit (s := S3x4x65536x256) (k0_off28 v774) S1x1x4096x256.size hinb).WholeWords (EltTy.packing .i8))
theorem k0_mult34_dvd : ∀ (v774 : BitVec 32) (k0_hw28 : k0_chk28 v774), 32 ∣ (k0_mult34 v774).toNat := fun v774 k0_hw28 => k0_hw28.1
theorem k0_off28_inb : ∀ (v774 : BitVec 32) (k0_hw28 : k0_chk28 v774), ∀ a, (k0_off28 v774) a + S1x1x4096x256.size a ≤ S3x4x65536x256.size a := fun v774 k0_hw28 => k0_hw28.2.1
theorem k0_off28_wordsi8 : ∀ (v774 : BitVec 32) (k0_hw28 : k0_chk28 v774), (Rect.unit (s := S3x4x65536x256) (k0_off28 v774) S1x1x4096x256.size (k0_off28_inb v774 k0_hw28)).WholeWords (EltTy.packing .i8) := fun v774 k0_hw28 => k0_hw28.2.2 (k0_off28_inb v774 k0_hw28)

def k0_mult35 (v802 : BitVec 32) : BitVec 32 :=
  let c4095_i32_562 : BitVec 32 := 4095#32
  let v803 : BitVec 32 := Scalar.subi v802 c4095_i32_562
  let c0_i32_563 : BitVec 32 := 0#32
  let v804 : BitVec 32 := Scalar.maxsi v803 c0_i32_563
  let c0_i32_565 : BitVec 32 := 0#32
  let v806 : BitVec 1 := Scalar.cmpi .sgt v804 c0_i32_565
  let v807 : BitVec 32 := Scalar.extui v806
  let c0_i32_566 : BitVec 32 := 0#32
  let v808 : BitVec 1 := Scalar.cmpi .slt v804 c0_i32_566
  let v809 : BitVec 32 := Scalar.extui v808
  let v810 : BitVec 32 := Scalar.subi v807 v809
  let c32_i32_564 : BitVec 32 := 32#32
  let c0_i32_567 : BitVec 32 := 0#32
  let v811 : BitVec 1 := Scalar.cmpi .sgt c32_i32_564 c0_i32_567
  let v812 : BitVec 32 := Scalar.extui v811
  let c0_i32_568 : BitVec 32 := 0#32
  let v813 : BitVec 1 := Scalar.cmpi .slt c32_i32_564 c0_i32_568
  let v814 : BitVec 32 := Scalar.extui v813
  let v815 : BitVec 32 := Scalar.subi v812 v814
  let v816 : BitVec 1 := Scalar.cmpi .ne v810 v815
  let v817 : BitVec 32 := Scalar.remsi v804 c32_i32_564
  let c0_i32_569 : BitVec 32 := 0#32
  let v818 : BitVec 1 := Scalar.cmpi .ne v817 c0_i32_569
  let v819 : BitVec 1 := Scalar.andi v816 v818
  let v805 : BitVec 32 := Scalar.divsi v804 c32_i32_564
  let c1_i32_570 : BitVec 32 := 1#32
  let v820 : BitVec 32 := Scalar.subi v805 c1_i32_570
  let v821 : BitVec 32 := Scalar.select v819 v820 v805
  let c32_i32_571 : BitVec 32 := 32#32
  let v822 : BitVec 32 := Scalar.muli v821 c32_i32_571
  v822

def k0_off29 (v802 : BitVec 32) : Fin 4 → Nat :=
  let c2_i32_572 : BitVec 32 := 2#32
  let c2_i32_573 : BitVec 32 := 2#32
  let c4095_i32_562 : BitVec 32 := 4095#32
  let v803 : BitVec 32 := Scalar.subi v802 c4095_i32_562
  let c0_i32_563 : BitVec 32 := 0#32
  let v804 : BitVec 32 := Scalar.maxsi v803 c0_i32_563
  let c0_i32_565 : BitVec 32 := 0#32
  let v806 : BitVec 1 := Scalar.cmpi .sgt v804 c0_i32_565
  let v807 : BitVec 32 := Scalar.extui v806
  let c0_i32_566 : BitVec 32 := 0#32
  let v808 : BitVec 1 := Scalar.cmpi .slt v804 c0_i32_566
  let v809 : BitVec 32 := Scalar.extui v808
  let v810 : BitVec 32 := Scalar.subi v807 v809
  let c32_i32_564 : BitVec 32 := 32#32
  let c0_i32_567 : BitVec 32 := 0#32
  let v811 : BitVec 1 := Scalar.cmpi .sgt c32_i32_564 c0_i32_567
  let v812 : BitVec 32 := Scalar.extui v811
  let c0_i32_568 : BitVec 32 := 0#32
  let v813 : BitVec 1 := Scalar.cmpi .slt c32_i32_564 c0_i32_568
  let v814 : BitVec 32 := Scalar.extui v813
  let v815 : BitVec 32 := Scalar.subi v812 v814
  let v816 : BitVec 1 := Scalar.cmpi .ne v810 v815
  let v817 : BitVec 32 := Scalar.remsi v804 c32_i32_564
  let c0_i32_569 : BitVec 32 := 0#32
  let v818 : BitVec 1 := Scalar.cmpi .ne v817 c0_i32_569
  let v819 : BitVec 1 := Scalar.andi v816 v818
  let v805 : BitVec 32 := Scalar.divsi v804 c32_i32_564
  let c1_i32_570 : BitVec 32 := 1#32
  let v820 : BitVec 32 := Scalar.subi v805 c1_i32_570
  let v821 : BitVec 32 := Scalar.select v819 v820 v805
  let c32_i32_571 : BitVec 32 := 32#32
  let v822 : BitVec 32 := Scalar.muli v821 c32_i32_571
  let v823 : BitVec 32 := v822
  let c0_i32_580 : BitVec 32 := 0#32
  ![2, 2, v823.toNat, 0]

def k0_chk29 (v802 : BitVec 32) : Prop :=
  (32 ∣ (k0_mult35 v802).toNat) ∧
  (∀ a, (k0_off29 v802) a + S1x1x4096x256.size a ≤ S3x4x65536x256.size a) ∧
  (∀ (hinb : ∀ a, (k0_off29 v802) a + S1x1x4096x256.size a ≤ S3x4x65536x256.size a), (Rect.unit (s := S3x4x65536x256) (k0_off29 v802) S1x1x4096x256.size hinb).WholeWords (EltTy.packing .i8))
theorem k0_mult35_dvd : ∀ (v802 : BitVec 32) (k0_hw29 : k0_chk29 v802), 32 ∣ (k0_mult35 v802).toNat := fun v802 k0_hw29 => k0_hw29.1
theorem k0_off29_inb : ∀ (v802 : BitVec 32) (k0_hw29 : k0_chk29 v802), ∀ a, (k0_off29 v802) a + S1x1x4096x256.size a ≤ S3x4x65536x256.size a := fun v802 k0_hw29 => k0_hw29.2.1
theorem k0_off29_wordsi8 : ∀ (v802 : BitVec 32) (k0_hw29 : k0_chk29 v802), (Rect.unit (s := S3x4x65536x256) (k0_off29 v802) S1x1x4096x256.size (k0_off29_inb v802 k0_hw29)).WholeWords (EltTy.packing .i8) := fun v802 k0_hw29 => k0_hw29.2.2 (k0_off29_inb v802 k0_hw29)

def k0_mult36 (v830 : BitVec 32) : BitVec 32 :=
  let c4095_i32_582 : BitVec 32 := 4095#32
  let v831 : BitVec 32 := Scalar.subi v830 c4095_i32_582
  let c0_i32_583 : BitVec 32 := 0#32
  let v832 : BitVec 32 := Scalar.maxsi v831 c0_i32_583
  let c0_i32_585 : BitVec 32 := 0#32
  let v834 : BitVec 1 := Scalar.cmpi .sgt v832 c0_i32_585
  let v835 : BitVec 32 := Scalar.extui v834
  let c0_i32_586 : BitVec 32 := 0#32
  let v836 : BitVec 1 := Scalar.cmpi .slt v832 c0_i32_586
  let v837 : BitVec 32 := Scalar.extui v836
  let v838 : BitVec 32 := Scalar.subi v835 v837
  let c32_i32_584 : BitVec 32 := 32#32
  let c0_i32_587 : BitVec 32 := 0#32
  let v839 : BitVec 1 := Scalar.cmpi .sgt c32_i32_584 c0_i32_587
  let v840 : BitVec 32 := Scalar.extui v839
  let c0_i32_588 : BitVec 32 := 0#32
  let v841 : BitVec 1 := Scalar.cmpi .slt c32_i32_584 c0_i32_588
  let v842 : BitVec 32 := Scalar.extui v841
  let v843 : BitVec 32 := Scalar.subi v840 v842
  let v844 : BitVec 1 := Scalar.cmpi .ne v838 v843
  let v845 : BitVec 32 := Scalar.remsi v832 c32_i32_584
  let c0_i32_589 : BitVec 32 := 0#32
  let v846 : BitVec 1 := Scalar.cmpi .ne v845 c0_i32_589
  let v847 : BitVec 1 := Scalar.andi v844 v846
  let v833 : BitVec 32 := Scalar.divsi v832 c32_i32_584
  let c1_i32_590 : BitVec 32 := 1#32
  let v848 : BitVec 32 := Scalar.subi v833 c1_i32_590
  let v849 : BitVec 32 := Scalar.select v847 v848 v833
  let c32_i32_591 : BitVec 32 := 32#32
  let v850 : BitVec 32 := Scalar.muli v849 c32_i32_591
  v850

def k0_off30 (v830 : BitVec 32) : Fin 4 → Nat :=
  let c2_i32_592 : BitVec 32 := 2#32
  let c3_i32_593 : BitVec 32 := 3#32
  let c4095_i32_582 : BitVec 32 := 4095#32
  let v831 : BitVec 32 := Scalar.subi v830 c4095_i32_582
  let c0_i32_583 : BitVec 32 := 0#32
  let v832 : BitVec 32 := Scalar.maxsi v831 c0_i32_583
  let c0_i32_585 : BitVec 32 := 0#32
  let v834 : BitVec 1 := Scalar.cmpi .sgt v832 c0_i32_585
  let v835 : BitVec 32 := Scalar.extui v834
  let c0_i32_586 : BitVec 32 := 0#32
  let v836 : BitVec 1 := Scalar.cmpi .slt v832 c0_i32_586
  let v837 : BitVec 32 := Scalar.extui v836
  let v838 : BitVec 32 := Scalar.subi v835 v837
  let c32_i32_584 : BitVec 32 := 32#32
  let c0_i32_587 : BitVec 32 := 0#32
  let v839 : BitVec 1 := Scalar.cmpi .sgt c32_i32_584 c0_i32_587
  let v840 : BitVec 32 := Scalar.extui v839
  let c0_i32_588 : BitVec 32 := 0#32
  let v841 : BitVec 1 := Scalar.cmpi .slt c32_i32_584 c0_i32_588
  let v842 : BitVec 32 := Scalar.extui v841
  let v843 : BitVec 32 := Scalar.subi v840 v842
  let v844 : BitVec 1 := Scalar.cmpi .ne v838 v843
  let v845 : BitVec 32 := Scalar.remsi v832 c32_i32_584
  let c0_i32_589 : BitVec 32 := 0#32
  let v846 : BitVec 1 := Scalar.cmpi .ne v845 c0_i32_589
  let v847 : BitVec 1 := Scalar.andi v844 v846
  let v833 : BitVec 32 := Scalar.divsi v832 c32_i32_584
  let c1_i32_590 : BitVec 32 := 1#32
  let v848 : BitVec 32 := Scalar.subi v833 c1_i32_590
  let v849 : BitVec 32 := Scalar.select v847 v848 v833
  let c32_i32_591 : BitVec 32 := 32#32
  let v850 : BitVec 32 := Scalar.muli v849 c32_i32_591
  let v851 : BitVec 32 := v850
  let c0_i32_600 : BitVec 32 := 0#32
  ![2, 3, v851.toNat, 0]

def k0_chk30 (v830 : BitVec 32) : Prop :=
  (32 ∣ (k0_mult36 v830).toNat) ∧
  (∀ a, (k0_off30 v830) a + S1x1x4096x256.size a ≤ S3x4x65536x256.size a) ∧
  (∀ (hinb : ∀ a, (k0_off30 v830) a + S1x1x4096x256.size a ≤ S3x4x65536x256.size a), (Rect.unit (s := S3x4x65536x256) (k0_off30 v830) S1x1x4096x256.size hinb).WholeWords (EltTy.packing .i8))
theorem k0_mult36_dvd : ∀ (v830 : BitVec 32) (k0_hw30 : k0_chk30 v830), 32 ∣ (k0_mult36 v830).toNat := fun v830 k0_hw30 => k0_hw30.1
theorem k0_off30_inb : ∀ (v830 : BitVec 32) (k0_hw30 : k0_chk30 v830), ∀ a, (k0_off30 v830) a + S1x1x4096x256.size a ≤ S3x4x65536x256.size a := fun v830 k0_hw30 => k0_hw30.2.1
theorem k0_off30_wordsi8 : ∀ (v830 : BitVec 32) (k0_hw30 : k0_chk30 v830), (Rect.unit (s := S3x4x65536x256) (k0_off30 v830) S1x1x4096x256.size (k0_off30_inb v830 k0_hw30)).WholeWords (EltTy.packing .i8) := fun v830 k0_hw30 => k0_hw30.2.2 (k0_off30_inb v830 k0_hw30)

@[reducible] def k0_t1_loop : Scf.Loop 32 :=
  let c0_i32_638 : BitVec 32 := 0#32
  let c3_i32_639 : BitVec 32 := 3#32
  let v978 : BitVec 32 := Scalar.addi c0_i32_638 c3_i32_639
  let c1_i32_640 : BitVec 32 := 1#32
  ⟨c0_i32_638, v978, c1_i32_640⟩
def k0_off31 (k0_t1 : Fin k0_t1_loop.trips) : Fin 1 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let v981 : Index := Scalar.indexCast v980
  ![v981.toNat]
def k0_mult37 (v984 : BitVec 32) : BitVec 32 :=
  let c4095_i32_644 : BitVec 32 := 4095#32
  let v985 : BitVec 32 := Scalar.subi v984 c4095_i32_644
  let c0_i32_645 : BitVec 32 := 0#32
  let v986 : BitVec 32 := Scalar.maxsi v985 c0_i32_645
  let c0_i32_647 : BitVec 32 := 0#32
  let v988 : BitVec 1 := Scalar.cmpi .sgt v986 c0_i32_647
  let v989 : BitVec 32 := Scalar.extui v988
  let c0_i32_648 : BitVec 32 := 0#32
  let v990 : BitVec 1 := Scalar.cmpi .slt v986 c0_i32_648
  let v991 : BitVec 32 := Scalar.extui v990
  let v992 : BitVec 32 := Scalar.subi v989 v991
  let c32_i32_646 : BitVec 32 := 32#32
  let c0_i32_649 : BitVec 32 := 0#32
  let v993 : BitVec 1 := Scalar.cmpi .sgt c32_i32_646 c0_i32_649
  let v994 : BitVec 32 := Scalar.extui v993
  let c0_i32_650 : BitVec 32 := 0#32
  let v995 : BitVec 1 := Scalar.cmpi .slt c32_i32_646 c0_i32_650
  let v996 : BitVec 32 := Scalar.extui v995
  let v997 : BitVec 32 := Scalar.subi v994 v996
  let v998 : BitVec 1 := Scalar.cmpi .ne v992 v997
  let v999 : BitVec 32 := Scalar.remsi v986 c32_i32_646
  let c0_i32_651 : BitVec 32 := 0#32
  let v1000 : BitVec 1 := Scalar.cmpi .ne v999 c0_i32_651
  let v1001 : BitVec 1 := Scalar.andi v998 v1000
  let v987 : BitVec 32 := Scalar.divsi v986 c32_i32_646
  let c1_i32_652 : BitVec 32 := 1#32
  let v1002 : BitVec 32 := Scalar.subi v987 c1_i32_652
  let v1003 : BitVec 32 := Scalar.select v1001 v1002 v987
  let c32_i32_653 : BitVec 32 := 32#32
  let v1004 : BitVec 32 := Scalar.muli v1003 c32_i32_653
  v1004

def k0_chk31 (v984 : BitVec 32) : Prop :=
  (32 ∣ (k0_mult37 v984).toNat)
theorem k0_mult37_dvd : ∀ (v984 : BitVec 32) (k0_hw31 : k0_chk31 v984), 32 ∣ (k0_mult37 v984).toNat := fun v984 k0_hw31 => k0_hw31

def k0_off32 (k0_t1 : Fin k0_t1_loop.trips) : Fin 3 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let v1007 : Index := Scalar.indexCast v980
  let c0_654 : Index := 0#32
  let c0_655 : Index := 0#32
  ![v1007.toNat, 0, 0]
def k0_off33 (k0_t1 : Fin k0_t1_loop.trips) : Fin 4 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let v1014 : Index := Scalar.indexCast v980
  let c0_659 : Index := 0#32
  let c0_660 : Index := 0#32
  let c0_661 : Index := 0#32
  ![v1014.toNat, 0, 0, 0]
def k0_off34 (k0_t1 : Fin k0_t1_loop.trips) : Fin 4 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let v1113 : Index := Scalar.indexCast v980
  let c1_694 : Index := 1#32
  let c0_695 : Index := 0#32
  let c0_696 : Index := 0#32
  ![v1113.toNat, 1, 0, 0]
def k0_off35 (k0_t1 : Fin k0_t1_loop.trips) : Fin 4 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let v1212 : Index := Scalar.indexCast v980
  let c2_729 : Index := 2#32
  let c0_730 : Index := 0#32
  let c0_731 : Index := 0#32
  ![v1212.toNat, 2, 0, 0]
def k0_off36 (k0_t1 : Fin k0_t1_loop.trips) : Fin 4 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let v1311 : Index := Scalar.indexCast v980
  let c3_764 : Index := 3#32
  let c0_765 : Index := 0#32
  let c0_766 : Index := 0#32
  ![v1311.toNat, 3, 0, 0]
def k0_off37 (k0_t1 : Fin k0_t1_loop.trips) : Fin 1 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let v1474 : Index := Scalar.indexCast v980
  ![v1474.toNat]
def k0_mult38 (v1475 : BitVec 32) : BitVec 32 :=
  let c4095_i32_803 : BitVec 32 := 4095#32
  let v1476 : BitVec 32 := Scalar.subi v1475 c4095_i32_803
  let c0_i32_804 : BitVec 32 := 0#32
  let v1477 : BitVec 32 := Scalar.maxsi v1476 c0_i32_804
  let c0_i32_806 : BitVec 32 := 0#32
  let v1479 : BitVec 1 := Scalar.cmpi .sgt v1477 c0_i32_806
  let v1480 : BitVec 32 := Scalar.extui v1479
  let c0_i32_807 : BitVec 32 := 0#32
  let v1481 : BitVec 1 := Scalar.cmpi .slt v1477 c0_i32_807
  let v1482 : BitVec 32 := Scalar.extui v1481
  let v1483 : BitVec 32 := Scalar.subi v1480 v1482
  let c32_i32_805 : BitVec 32 := 32#32
  let c0_i32_808 : BitVec 32 := 0#32
  let v1484 : BitVec 1 := Scalar.cmpi .sgt c32_i32_805 c0_i32_808
  let v1485 : BitVec 32 := Scalar.extui v1484
  let c0_i32_809 : BitVec 32 := 0#32
  let v1486 : BitVec 1 := Scalar.cmpi .slt c32_i32_805 c0_i32_809
  let v1487 : BitVec 32 := Scalar.extui v1486
  let v1488 : BitVec 32 := Scalar.subi v1485 v1487
  let v1489 : BitVec 1 := Scalar.cmpi .ne v1483 v1488
  let v1490 : BitVec 32 := Scalar.remsi v1477 c32_i32_805
  let c0_i32_810 : BitVec 32 := 0#32
  let v1491 : BitVec 1 := Scalar.cmpi .ne v1490 c0_i32_810
  let v1492 : BitVec 1 := Scalar.andi v1489 v1491
  let v1478 : BitVec 32 := Scalar.divsi v1477 c32_i32_805
  let c1_i32_811 : BitVec 32 := 1#32
  let v1493 : BitVec 32 := Scalar.subi v1478 c1_i32_811
  let v1494 : BitVec 32 := Scalar.select v1492 v1493 v1478
  let c32_i32_812 : BitVec 32 := 32#32
  let v1495 : BitVec 32 := Scalar.muli v1494 c32_i32_812
  v1495

def k0_mult39 (v1475 : BitVec 32) : BitVec 32 :=
  let c4095_i32_803 : BitVec 32 := 4095#32
  let v1476 : BitVec 32 := Scalar.subi v1475 c4095_i32_803
  let c0_i32_804 : BitVec 32 := 0#32
  let v1477 : BitVec 32 := Scalar.maxsi v1476 c0_i32_804
  let c0_i32_806 : BitVec 32 := 0#32
  let v1479 : BitVec 1 := Scalar.cmpi .sgt v1477 c0_i32_806
  let v1480 : BitVec 32 := Scalar.extui v1479
  let c0_i32_807 : BitVec 32 := 0#32
  let v1481 : BitVec 1 := Scalar.cmpi .slt v1477 c0_i32_807
  let v1482 : BitVec 32 := Scalar.extui v1481
  let v1483 : BitVec 32 := Scalar.subi v1480 v1482
  let c32_i32_805 : BitVec 32 := 32#32
  let c0_i32_808 : BitVec 32 := 0#32
  let v1484 : BitVec 1 := Scalar.cmpi .sgt c32_i32_805 c0_i32_808
  let v1485 : BitVec 32 := Scalar.extui v1484
  let c0_i32_809 : BitVec 32 := 0#32
  let v1486 : BitVec 1 := Scalar.cmpi .slt c32_i32_805 c0_i32_809
  let v1487 : BitVec 32 := Scalar.extui v1486
  let v1488 : BitVec 32 := Scalar.subi v1485 v1487
  let v1489 : BitVec 1 := Scalar.cmpi .ne v1483 v1488
  let v1490 : BitVec 32 := Scalar.remsi v1477 c32_i32_805
  let c0_i32_810 : BitVec 32 := 0#32
  let v1491 : BitVec 1 := Scalar.cmpi .ne v1490 c0_i32_810
  let v1492 : BitVec 1 := Scalar.andi v1489 v1491
  let v1478 : BitVec 32 := Scalar.divsi v1477 c32_i32_805
  let c1_i32_811 : BitVec 32 := 1#32
  let v1493 : BitVec 32 := Scalar.subi v1478 c1_i32_811
  let v1494 : BitVec 32 := Scalar.select v1492 v1493 v1478
  let c32_i32_812 : BitVec 32 := 32#32
  let v1495 : BitVec 32 := Scalar.muli v1494 c32_i32_812
  let v1496 : BitVec 32 := v1495
  let c4096_i32_813 : BitVec 32 := 4096#32
  let v1497 : BitVec 32 := Scalar.addi v1496 c4096_i32_813
  let c65504_i32_814 : BitVec 32 := 65504#32
  let v1498 : BitVec 32 := Scalar.minsi v1497 c65504_i32_814
  v1498
def k0_off38 (k0_t1 : Fin k0_t1_loop.trips) : Fin 2 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let c0_i32_815 : BitVec 32 := 0#32
  ![v980.toNat, 0]
def k0_off39 (k0_t1 : Fin k0_t1_loop.trips) : Fin 4 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let c0_i32_816 : BitVec 32 := 0#32
  let c0_i32_817 : BitVec 32 := 0#32
  let c0_i32_818 : BitVec 32 := 0#32
  ![v980.toNat, 0, 0, 0]
def k0_off40 (k0_t1 : Fin k0_t1_loop.trips) (v1475 : BitVec 32) : Fin 4 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let c0_i32_819 : BitVec 32 := 0#32
  let c4095_i32_803 : BitVec 32 := 4095#32
  let v1476 : BitVec 32 := Scalar.subi v1475 c4095_i32_803
  let c0_i32_804 : BitVec 32 := 0#32
  let v1477 : BitVec 32 := Scalar.maxsi v1476 c0_i32_804
  let c0_i32_806 : BitVec 32 := 0#32
  let v1479 : BitVec 1 := Scalar.cmpi .sgt v1477 c0_i32_806
  let v1480 : BitVec 32 := Scalar.extui v1479
  let c0_i32_807 : BitVec 32 := 0#32
  let v1481 : BitVec 1 := Scalar.cmpi .slt v1477 c0_i32_807
  let v1482 : BitVec 32 := Scalar.extui v1481
  let v1483 : BitVec 32 := Scalar.subi v1480 v1482
  let c32_i32_805 : BitVec 32 := 32#32
  let c0_i32_808 : BitVec 32 := 0#32
  let v1484 : BitVec 1 := Scalar.cmpi .sgt c32_i32_805 c0_i32_808
  let v1485 : BitVec 32 := Scalar.extui v1484
  let c0_i32_809 : BitVec 32 := 0#32
  let v1486 : BitVec 1 := Scalar.cmpi .slt c32_i32_805 c0_i32_809
  let v1487 : BitVec 32 := Scalar.extui v1486
  let v1488 : BitVec 32 := Scalar.subi v1485 v1487
  let v1489 : BitVec 1 := Scalar.cmpi .ne v1483 v1488
  let v1490 : BitVec 32 := Scalar.remsi v1477 c32_i32_805
  let c0_i32_810 : BitVec 32 := 0#32
  let v1491 : BitVec 1 := Scalar.cmpi .ne v1490 c0_i32_810
  let v1492 : BitVec 1 := Scalar.andi v1489 v1491
  let v1478 : BitVec 32 := Scalar.divsi v1477 c32_i32_805
  let c1_i32_811 : BitVec 32 := 1#32
  let v1493 : BitVec 32 := Scalar.subi v1478 c1_i32_811
  let v1494 : BitVec 32 := Scalar.select v1492 v1493 v1478
  let c32_i32_812 : BitVec 32 := 32#32
  let v1495 : BitVec 32 := Scalar.muli v1494 c32_i32_812
  let v1496 : BitVec 32 := v1495
  let c4096_i32_813 : BitVec 32 := 4096#32
  let v1497 : BitVec 32 := Scalar.addi v1496 c4096_i32_813
  let c65504_i32_814 : BitVec 32 := 65504#32
  let v1498 : BitVec 32 := Scalar.minsi v1497 c65504_i32_814
  let v1499 : BitVec 32 := v1498
  let c0_i32_820 : BitVec 32 := 0#32
  ![v980.toNat, 0, v1499.toNat, 0]

def k0_chk32 (k0_t1 : Fin k0_t1_loop.trips) (v1475 : BitVec 32) : Prop :=
  (32 ∣ (k0_mult38 v1475).toNat) ∧
  (32 ∣ (k0_mult39 v1475).toNat) ∧
  (∀ a, (k0_off40 k0_t1 v1475) a + S1x4x32x256.size a ≤ S3x4x65536x256.size a) ∧
  (∀ (hinb : ∀ a, (k0_off40 k0_t1 v1475) a + S1x4x32x256.size a ≤ S3x4x65536x256.size a), (Rect.unit (s := S3x4x65536x256) (k0_off40 k0_t1 v1475) S1x4x32x256.size hinb).WholeWords (EltTy.packing .i8))
theorem k0_mult38_dvd : ∀ (k0_t1 : Fin k0_t1_loop.trips) (v1475 : BitVec 32) (k0_hw32 : k0_chk32 k0_t1 v1475), 32 ∣ (k0_mult38 v1475).toNat := fun k0_t1 v1475 k0_hw32 => k0_hw32.1
theorem k0_mult39_dvd : ∀ (k0_t1 : Fin k0_t1_loop.trips) (v1475 : BitVec 32) (k0_hw32 : k0_chk32 k0_t1 v1475), 32 ∣ (k0_mult39 v1475).toNat := fun k0_t1 v1475 k0_hw32 => k0_hw32.2.1
theorem k0_off40_inb : ∀ (k0_t1 : Fin k0_t1_loop.trips) (v1475 : BitVec 32) (k0_hw32 : k0_chk32 k0_t1 v1475), ∀ a, (k0_off40 k0_t1 v1475) a + S1x4x32x256.size a ≤ S3x4x65536x256.size a := fun k0_t1 v1475 k0_hw32 => k0_hw32.2.2.1
theorem k0_off40_wordsi8 : ∀ (k0_t1 : Fin k0_t1_loop.trips) (v1475 : BitVec 32) (k0_hw32 : k0_chk32 k0_t1 v1475), (Rect.unit (s := S3x4x65536x256) (k0_off40 k0_t1 v1475) S1x4x32x256.size (k0_off40_inb k0_t1 v1475 k0_hw32)).WholeWords (EltTy.packing .i8) := fun k0_t1 v1475 k0_hw32 => k0_hw32.2.2.2 (k0_off40_inb k0_t1 v1475 k0_hw32)

def k0_off41 (k0_t1 : Fin k0_t1_loop.trips) : Fin 1 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let v1506 : Index := Scalar.indexCast v980
  ![v1506.toNat]
def k0_mult40 (v1507 : BitVec 32) : BitVec 32 :=
  let c4095_i32_821 : BitVec 32 := 4095#32
  let v1508 : BitVec 32 := Scalar.subi v1507 c4095_i32_821
  let c0_i32_822 : BitVec 32 := 0#32
  let v1509 : BitVec 32 := Scalar.maxsi v1508 c0_i32_822
  let c0_i32_824 : BitVec 32 := 0#32
  let v1511 : BitVec 1 := Scalar.cmpi .sgt v1509 c0_i32_824
  let v1512 : BitVec 32 := Scalar.extui v1511
  let c0_i32_825 : BitVec 32 := 0#32
  let v1513 : BitVec 1 := Scalar.cmpi .slt v1509 c0_i32_825
  let v1514 : BitVec 32 := Scalar.extui v1513
  let v1515 : BitVec 32 := Scalar.subi v1512 v1514
  let c32_i32_823 : BitVec 32 := 32#32
  let c0_i32_826 : BitVec 32 := 0#32
  let v1516 : BitVec 1 := Scalar.cmpi .sgt c32_i32_823 c0_i32_826
  let v1517 : BitVec 32 := Scalar.extui v1516
  let c0_i32_827 : BitVec 32 := 0#32
  let v1518 : BitVec 1 := Scalar.cmpi .slt c32_i32_823 c0_i32_827
  let v1519 : BitVec 32 := Scalar.extui v1518
  let v1520 : BitVec 32 := Scalar.subi v1517 v1519
  let v1521 : BitVec 1 := Scalar.cmpi .ne v1515 v1520
  let v1522 : BitVec 32 := Scalar.remsi v1509 c32_i32_823
  let c0_i32_828 : BitVec 32 := 0#32
  let v1523 : BitVec 1 := Scalar.cmpi .ne v1522 c0_i32_828
  let v1524 : BitVec 1 := Scalar.andi v1521 v1523
  let v1510 : BitVec 32 := Scalar.divsi v1509 c32_i32_823
  let c1_i32_829 : BitVec 32 := 1#32
  let v1525 : BitVec 32 := Scalar.subi v1510 c1_i32_829
  let v1526 : BitVec 32 := Scalar.select v1524 v1525 v1510
  let c32_i32_830 : BitVec 32 := 32#32
  let v1527 : BitVec 32 := Scalar.muli v1526 c32_i32_830
  v1527

def k0_off42 (k0_t1 : Fin k0_t1_loop.trips) : Fin 2 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let c0_i32_833 : BitVec 32 := 0#32
  ![v980.toNat, 0]
def k0_off43 (k0_t1 : Fin k0_t1_loop.trips) : Fin 4 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let c0_i32_832 : BitVec 32 := 0#32
  let c0_i32_834 : BitVec 32 := 0#32
  let c0_i32_835 : BitVec 32 := 0#32
  ![v980.toNat, 0, 0, 0]
def k0_off44 (k0_t1 : Fin k0_t1_loop.trips) (v1507 : BitVec 32) : Fin 4 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let c0_i32_831 : BitVec 32 := 0#32
  let c4095_i32_821 : BitVec 32 := 4095#32
  let v1508 : BitVec 32 := Scalar.subi v1507 c4095_i32_821
  let c0_i32_822 : BitVec 32 := 0#32
  let v1509 : BitVec 32 := Scalar.maxsi v1508 c0_i32_822
  let c0_i32_824 : BitVec 32 := 0#32
  let v1511 : BitVec 1 := Scalar.cmpi .sgt v1509 c0_i32_824
  let v1512 : BitVec 32 := Scalar.extui v1511
  let c0_i32_825 : BitVec 32 := 0#32
  let v1513 : BitVec 1 := Scalar.cmpi .slt v1509 c0_i32_825
  let v1514 : BitVec 32 := Scalar.extui v1513
  let v1515 : BitVec 32 := Scalar.subi v1512 v1514
  let c32_i32_823 : BitVec 32 := 32#32
  let c0_i32_826 : BitVec 32 := 0#32
  let v1516 : BitVec 1 := Scalar.cmpi .sgt c32_i32_823 c0_i32_826
  let v1517 : BitVec 32 := Scalar.extui v1516
  let c0_i32_827 : BitVec 32 := 0#32
  let v1518 : BitVec 1 := Scalar.cmpi .slt c32_i32_823 c0_i32_827
  let v1519 : BitVec 32 := Scalar.extui v1518
  let v1520 : BitVec 32 := Scalar.subi v1517 v1519
  let v1521 : BitVec 1 := Scalar.cmpi .ne v1515 v1520
  let v1522 : BitVec 32 := Scalar.remsi v1509 c32_i32_823
  let c0_i32_828 : BitVec 32 := 0#32
  let v1523 : BitVec 1 := Scalar.cmpi .ne v1522 c0_i32_828
  let v1524 : BitVec 1 := Scalar.andi v1521 v1523
  let v1510 : BitVec 32 := Scalar.divsi v1509 c32_i32_823
  let c1_i32_829 : BitVec 32 := 1#32
  let v1525 : BitVec 32 := Scalar.subi v1510 c1_i32_829
  let v1526 : BitVec 32 := Scalar.select v1524 v1525 v1510
  let c32_i32_830 : BitVec 32 := 32#32
  let v1527 : BitVec 32 := Scalar.muli v1526 c32_i32_830
  let v1528 : BitVec 32 := v1527
  let c0_i32_836 : BitVec 32 := 0#32
  ![v980.toNat, 0, v1528.toNat, 0]

def k0_chk33 (k0_t1 : Fin k0_t1_loop.trips) (v1507 : BitVec 32) : Prop :=
  (32 ∣ (k0_mult40 v1507).toNat) ∧
  (∀ a, (k0_off44 k0_t1 v1507) a + S1x1x4096x256.size a ≤ S3x4x65536x256.size a) ∧
  (∀ (hinb : ∀ a, (k0_off44 k0_t1 v1507) a + S1x1x4096x256.size a ≤ S3x4x65536x256.size a), (Rect.unit (s := S3x4x65536x256) (k0_off44 k0_t1 v1507) S1x1x4096x256.size hinb).WholeWords (EltTy.packing .i8))
theorem k0_mult40_dvd : ∀ (k0_t1 : Fin k0_t1_loop.trips) (v1507 : BitVec 32) (k0_hw33 : k0_chk33 k0_t1 v1507), 32 ∣ (k0_mult40 v1507).toNat := fun k0_t1 v1507 k0_hw33 => k0_hw33.1
theorem k0_off44_inb : ∀ (k0_t1 : Fin k0_t1_loop.trips) (v1507 : BitVec 32) (k0_hw33 : k0_chk33 k0_t1 v1507), ∀ a, (k0_off44 k0_t1 v1507) a + S1x1x4096x256.size a ≤ S3x4x65536x256.size a := fun k0_t1 v1507 k0_hw33 => k0_hw33.2.1
theorem k0_off44_wordsi8 : ∀ (k0_t1 : Fin k0_t1_loop.trips) (v1507 : BitVec 32) (k0_hw33 : k0_chk33 k0_t1 v1507), (Rect.unit (s := S3x4x65536x256) (k0_off44 k0_t1 v1507) S1x1x4096x256.size (k0_off44_inb k0_t1 v1507 k0_hw33)).WholeWords (EltTy.packing .i8) := fun k0_t1 v1507 k0_hw33 => k0_hw33.2.2 (k0_off44_inb k0_t1 v1507 k0_hw33)

def k0_off45 (k0_t1 : Fin k0_t1_loop.trips) : Fin 4 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let v1554 : Index := Scalar.indexCast v980
  let c0_843 : Index := 0#32
  let c0_844 : Index := 0#32
  let c0_845 : Index := 0#32
  ![v1554.toNat, 0, 0, 0]
def k0_off46 (k0_t1 : Fin k0_t1_loop.trips) : Fin 4 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let v1558 : Index := Scalar.indexCast v980
  let c0_846 : Index := 0#32
  let c0_847 : Index := 0#32
  let c0_848 : Index := 0#32
  ![v1558.toNat, 0, 0, 0]
def k0_off47 (k0_t1 : Fin k0_t1_loop.trips) : Fin 4 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let v1602 : Index := Scalar.indexCast v980
  let c0_862 : Index := 0#32
  let c0_863 : Index := 0#32
  let c0_864 : Index := 0#32
  ![v1602.toNat, 0, 0, 0]
def k0_off48 (k0_t1 : Fin k0_t1_loop.trips) : Fin 4 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let v1613 : Index := Scalar.indexCast v980
  let c0_868 : Index := 0#32
  let c1024 : Index := 1024#32
  let c0_869 : Index := 0#32
  ![v1613.toNat, 0, 1024, 0]
def k0_off49 (k0_t1 : Fin k0_t1_loop.trips) : Fin 4 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let v1624 : Index := Scalar.indexCast v980
  let c0_873 : Index := 0#32
  let c2048 : Index := 2048#32
  let c0_874 : Index := 0#32
  ![v1624.toNat, 0, 2048, 0]
def k0_off50 (k0_t1 : Fin k0_t1_loop.trips) : Fin 4 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let v1635 : Index := Scalar.indexCast v980
  let c0_878 : Index := 0#32
  let c3072 : Index := 3072#32
  let c0_879 : Index := 0#32
  ![v1635.toNat, 0, 3072, 0]
def k0_off51 (k0_t1 : Fin k0_t1_loop.trips) : Fin 1 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let v1646 : Index := Scalar.indexCast v980
  ![v1646.toNat]
def k0_mult41 (v1647 : BitVec 32) : BitVec 32 :=
  let c4095_i32_883 : BitVec 32 := 4095#32
  let v1648 : BitVec 32 := Scalar.subi v1647 c4095_i32_883
  let c0_i32_884 : BitVec 32 := 0#32
  let v1649 : BitVec 32 := Scalar.maxsi v1648 c0_i32_884
  let c0_i32_886 : BitVec 32 := 0#32
  let v1651 : BitVec 1 := Scalar.cmpi .sgt v1649 c0_i32_886
  let v1652 : BitVec 32 := Scalar.extui v1651
  let c0_i32_887 : BitVec 32 := 0#32
  let v1653 : BitVec 1 := Scalar.cmpi .slt v1649 c0_i32_887
  let v1654 : BitVec 32 := Scalar.extui v1653
  let v1655 : BitVec 32 := Scalar.subi v1652 v1654
  let c32_i32_885 : BitVec 32 := 32#32
  let c0_i32_888 : BitVec 32 := 0#32
  let v1656 : BitVec 1 := Scalar.cmpi .sgt c32_i32_885 c0_i32_888
  let v1657 : BitVec 32 := Scalar.extui v1656
  let c0_i32_889 : BitVec 32 := 0#32
  let v1658 : BitVec 1 := Scalar.cmpi .slt c32_i32_885 c0_i32_889
  let v1659 : BitVec 32 := Scalar.extui v1658
  let v1660 : BitVec 32 := Scalar.subi v1657 v1659
  let v1661 : BitVec 1 := Scalar.cmpi .ne v1655 v1660
  let v1662 : BitVec 32 := Scalar.remsi v1649 c32_i32_885
  let c0_i32_890 : BitVec 32 := 0#32
  let v1663 : BitVec 1 := Scalar.cmpi .ne v1662 c0_i32_890
  let v1664 : BitVec 1 := Scalar.andi v1661 v1663
  let v1650 : BitVec 32 := Scalar.divsi v1649 c32_i32_885
  let c1_i32_891 : BitVec 32 := 1#32
  let v1665 : BitVec 32 := Scalar.subi v1650 c1_i32_891
  let v1666 : BitVec 32 := Scalar.select v1664 v1665 v1650
  let c32_i32_892 : BitVec 32 := 32#32
  let v1667 : BitVec 32 := Scalar.muli v1666 c32_i32_892
  v1667

def k0_off52 (k0_t1 : Fin k0_t1_loop.trips) : Fin 2 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let c1_i32_895 : BitVec 32 := 1#32
  ![v980.toNat, 1]
def k0_off53 (k0_t1 : Fin k0_t1_loop.trips) : Fin 4 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let c1_i32_894 : BitVec 32 := 1#32
  let c0_i32_896 : BitVec 32 := 0#32
  let c0_i32_897 : BitVec 32 := 0#32
  ![v980.toNat, 1, 0, 0]
def k0_off54 (k0_t1 : Fin k0_t1_loop.trips) (v1647 : BitVec 32) : Fin 4 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let c1_i32_893 : BitVec 32 := 1#32
  let c4095_i32_883 : BitVec 32 := 4095#32
  let v1648 : BitVec 32 := Scalar.subi v1647 c4095_i32_883
  let c0_i32_884 : BitVec 32 := 0#32
  let v1649 : BitVec 32 := Scalar.maxsi v1648 c0_i32_884
  let c0_i32_886 : BitVec 32 := 0#32
  let v1651 : BitVec 1 := Scalar.cmpi .sgt v1649 c0_i32_886
  let v1652 : BitVec 32 := Scalar.extui v1651
  let c0_i32_887 : BitVec 32 := 0#32
  let v1653 : BitVec 1 := Scalar.cmpi .slt v1649 c0_i32_887
  let v1654 : BitVec 32 := Scalar.extui v1653
  let v1655 : BitVec 32 := Scalar.subi v1652 v1654
  let c32_i32_885 : BitVec 32 := 32#32
  let c0_i32_888 : BitVec 32 := 0#32
  let v1656 : BitVec 1 := Scalar.cmpi .sgt c32_i32_885 c0_i32_888
  let v1657 : BitVec 32 := Scalar.extui v1656
  let c0_i32_889 : BitVec 32 := 0#32
  let v1658 : BitVec 1 := Scalar.cmpi .slt c32_i32_885 c0_i32_889
  let v1659 : BitVec 32 := Scalar.extui v1658
  let v1660 : BitVec 32 := Scalar.subi v1657 v1659
  let v1661 : BitVec 1 := Scalar.cmpi .ne v1655 v1660
  let v1662 : BitVec 32 := Scalar.remsi v1649 c32_i32_885
  let c0_i32_890 : BitVec 32 := 0#32
  let v1663 : BitVec 1 := Scalar.cmpi .ne v1662 c0_i32_890
  let v1664 : BitVec 1 := Scalar.andi v1661 v1663
  let v1650 : BitVec 32 := Scalar.divsi v1649 c32_i32_885
  let c1_i32_891 : BitVec 32 := 1#32
  let v1665 : BitVec 32 := Scalar.subi v1650 c1_i32_891
  let v1666 : BitVec 32 := Scalar.select v1664 v1665 v1650
  let c32_i32_892 : BitVec 32 := 32#32
  let v1667 : BitVec 32 := Scalar.muli v1666 c32_i32_892
  let v1668 : BitVec 32 := v1667
  let c0_i32_898 : BitVec 32 := 0#32
  ![v980.toNat, 1, v1668.toNat, 0]

def k0_chk34 (k0_t1 : Fin k0_t1_loop.trips) (v1647 : BitVec 32) : Prop :=
  (32 ∣ (k0_mult41 v1647).toNat) ∧
  (∀ a, (k0_off54 k0_t1 v1647) a + S1x1x4096x256.size a ≤ S3x4x65536x256.size a) ∧
  (∀ (hinb : ∀ a, (k0_off54 k0_t1 v1647) a + S1x1x4096x256.size a ≤ S3x4x65536x256.size a), (Rect.unit (s := S3x4x65536x256) (k0_off54 k0_t1 v1647) S1x1x4096x256.size hinb).WholeWords (EltTy.packing .i8))
theorem k0_mult41_dvd : ∀ (k0_t1 : Fin k0_t1_loop.trips) (v1647 : BitVec 32) (k0_hw34 : k0_chk34 k0_t1 v1647), 32 ∣ (k0_mult41 v1647).toNat := fun k0_t1 v1647 k0_hw34 => k0_hw34.1
theorem k0_off54_inb : ∀ (k0_t1 : Fin k0_t1_loop.trips) (v1647 : BitVec 32) (k0_hw34 : k0_chk34 k0_t1 v1647), ∀ a, (k0_off54 k0_t1 v1647) a + S1x1x4096x256.size a ≤ S3x4x65536x256.size a := fun k0_t1 v1647 k0_hw34 => k0_hw34.2.1
theorem k0_off54_wordsi8 : ∀ (k0_t1 : Fin k0_t1_loop.trips) (v1647 : BitVec 32) (k0_hw34 : k0_chk34 k0_t1 v1647), (Rect.unit (s := S3x4x65536x256) (k0_off54 k0_t1 v1647) S1x1x4096x256.size (k0_off54_inb k0_t1 v1647 k0_hw34)).WholeWords (EltTy.packing .i8) := fun k0_t1 v1647 k0_hw34 => k0_hw34.2.2 (k0_off54_inb k0_t1 v1647 k0_hw34)

def k0_off55 (k0_t1 : Fin k0_t1_loop.trips) : Fin 4 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let v1694 : Index := Scalar.indexCast v980
  let c1_907 : Index := 1#32
  let c0_908 : Index := 0#32
  let c0_909 : Index := 0#32
  ![v1694.toNat, 1, 0, 0]
def k0_off56 (k0_t1 : Fin k0_t1_loop.trips) : Fin 4 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let v1698 : Index := Scalar.indexCast v980
  let c1_910 : Index := 1#32
  let c0_911 : Index := 0#32
  let c0_912 : Index := 0#32
  ![v1698.toNat, 1, 0, 0]
def k0_off57 (k0_t1 : Fin k0_t1_loop.trips) : Fin 4 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let v1742 : Index := Scalar.indexCast v980
  let c1_926 : Index := 1#32
  let c0_927 : Index := 0#32
  let c0_928 : Index := 0#32
  ![v1742.toNat, 1, 0, 0]
def k0_off58 (k0_t1 : Fin k0_t1_loop.trips) : Fin 4 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let v1755 : Index := Scalar.indexCast v980
  let c1_934 : Index := 1#32
  let c1024_935 : Index := 1024#32
  let c0_936 : Index := 0#32
  ![v1755.toNat, 1, 1024, 0]
def k0_off59 (k0_t1 : Fin k0_t1_loop.trips) : Fin 4 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let v1768 : Index := Scalar.indexCast v980
  let c1_942 : Index := 1#32
  let c2048_943 : Index := 2048#32
  let c0_944 : Index := 0#32
  ![v1768.toNat, 1, 2048, 0]
def k0_off60 (k0_t1 : Fin k0_t1_loop.trips) : Fin 4 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let v1781 : Index := Scalar.indexCast v980
  let c1_950 : Index := 1#32
  let c3072_951 : Index := 3072#32
  let c0_952 : Index := 0#32
  ![v1781.toNat, 1, 3072, 0]
def k0_off61 (k0_t1 : Fin k0_t1_loop.trips) : Fin 1 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let v1794 : Index := Scalar.indexCast v980
  ![v1794.toNat]
def k0_mult42 (v1795 : BitVec 32) : BitVec 32 :=
  let c4095_i32_958 : BitVec 32 := 4095#32
  let v1796 : BitVec 32 := Scalar.subi v1795 c4095_i32_958
  let c0_i32_959 : BitVec 32 := 0#32
  let v1797 : BitVec 32 := Scalar.maxsi v1796 c0_i32_959
  let c0_i32_961 : BitVec 32 := 0#32
  let v1799 : BitVec 1 := Scalar.cmpi .sgt v1797 c0_i32_961
  let v1800 : BitVec 32 := Scalar.extui v1799
  let c0_i32_962 : BitVec 32 := 0#32
  let v1801 : BitVec 1 := Scalar.cmpi .slt v1797 c0_i32_962
  let v1802 : BitVec 32 := Scalar.extui v1801
  let v1803 : BitVec 32 := Scalar.subi v1800 v1802
  let c32_i32_960 : BitVec 32 := 32#32
  let c0_i32_963 : BitVec 32 := 0#32
  let v1804 : BitVec 1 := Scalar.cmpi .sgt c32_i32_960 c0_i32_963
  let v1805 : BitVec 32 := Scalar.extui v1804
  let c0_i32_964 : BitVec 32 := 0#32
  let v1806 : BitVec 1 := Scalar.cmpi .slt c32_i32_960 c0_i32_964
  let v1807 : BitVec 32 := Scalar.extui v1806
  let v1808 : BitVec 32 := Scalar.subi v1805 v1807
  let v1809 : BitVec 1 := Scalar.cmpi .ne v1803 v1808
  let v1810 : BitVec 32 := Scalar.remsi v1797 c32_i32_960
  let c0_i32_965 : BitVec 32 := 0#32
  let v1811 : BitVec 1 := Scalar.cmpi .ne v1810 c0_i32_965
  let v1812 : BitVec 1 := Scalar.andi v1809 v1811
  let v1798 : BitVec 32 := Scalar.divsi v1797 c32_i32_960
  let c1_i32_966 : BitVec 32 := 1#32
  let v1813 : BitVec 32 := Scalar.subi v1798 c1_i32_966
  let v1814 : BitVec 32 := Scalar.select v1812 v1813 v1798
  let c32_i32_967 : BitVec 32 := 32#32
  let v1815 : BitVec 32 := Scalar.muli v1814 c32_i32_967
  v1815

def k0_off62 (k0_t1 : Fin k0_t1_loop.trips) : Fin 2 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let c2_i32_970 : BitVec 32 := 2#32
  ![v980.toNat, 2]
def k0_off63 (k0_t1 : Fin k0_t1_loop.trips) : Fin 4 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let c2_i32_969 : BitVec 32 := 2#32
  let c0_i32_971 : BitVec 32 := 0#32
  let c0_i32_972 : BitVec 32 := 0#32
  ![v980.toNat, 2, 0, 0]
def k0_off64 (k0_t1 : Fin k0_t1_loop.trips) (v1795 : BitVec 32) : Fin 4 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let c2_i32_968 : BitVec 32 := 2#32
  let c4095_i32_958 : BitVec 32 := 4095#32
  let v1796 : BitVec 32 := Scalar.subi v1795 c4095_i32_958
  let c0_i32_959 : BitVec 32 := 0#32
  let v1797 : BitVec 32 := Scalar.maxsi v1796 c0_i32_959
  let c0_i32_961 : BitVec 32 := 0#32
  let v1799 : BitVec 1 := Scalar.cmpi .sgt v1797 c0_i32_961
  let v1800 : BitVec 32 := Scalar.extui v1799
  let c0_i32_962 : BitVec 32 := 0#32
  let v1801 : BitVec 1 := Scalar.cmpi .slt v1797 c0_i32_962
  let v1802 : BitVec 32 := Scalar.extui v1801
  let v1803 : BitVec 32 := Scalar.subi v1800 v1802
  let c32_i32_960 : BitVec 32 := 32#32
  let c0_i32_963 : BitVec 32 := 0#32
  let v1804 : BitVec 1 := Scalar.cmpi .sgt c32_i32_960 c0_i32_963
  let v1805 : BitVec 32 := Scalar.extui v1804
  let c0_i32_964 : BitVec 32 := 0#32
  let v1806 : BitVec 1 := Scalar.cmpi .slt c32_i32_960 c0_i32_964
  let v1807 : BitVec 32 := Scalar.extui v1806
  let v1808 : BitVec 32 := Scalar.subi v1805 v1807
  let v1809 : BitVec 1 := Scalar.cmpi .ne v1803 v1808
  let v1810 : BitVec 32 := Scalar.remsi v1797 c32_i32_960
  let c0_i32_965 : BitVec 32 := 0#32
  let v1811 : BitVec 1 := Scalar.cmpi .ne v1810 c0_i32_965
  let v1812 : BitVec 1 := Scalar.andi v1809 v1811
  let v1798 : BitVec 32 := Scalar.divsi v1797 c32_i32_960
  let c1_i32_966 : BitVec 32 := 1#32
  let v1813 : BitVec 32 := Scalar.subi v1798 c1_i32_966
  let v1814 : BitVec 32 := Scalar.select v1812 v1813 v1798
  let c32_i32_967 : BitVec 32 := 32#32
  let v1815 : BitVec 32 := Scalar.muli v1814 c32_i32_967
  let v1816 : BitVec 32 := v1815
  let c0_i32_973 : BitVec 32 := 0#32
  ![v980.toNat, 2, v1816.toNat, 0]

def k0_chk35 (k0_t1 : Fin k0_t1_loop.trips) (v1795 : BitVec 32) : Prop :=
  (32 ∣ (k0_mult42 v1795).toNat) ∧
  (∀ a, (k0_off64 k0_t1 v1795) a + S1x1x4096x256.size a ≤ S3x4x65536x256.size a) ∧
  (∀ (hinb : ∀ a, (k0_off64 k0_t1 v1795) a + S1x1x4096x256.size a ≤ S3x4x65536x256.size a), (Rect.unit (s := S3x4x65536x256) (k0_off64 k0_t1 v1795) S1x1x4096x256.size hinb).WholeWords (EltTy.packing .i8))
theorem k0_mult42_dvd : ∀ (k0_t1 : Fin k0_t1_loop.trips) (v1795 : BitVec 32) (k0_hw35 : k0_chk35 k0_t1 v1795), 32 ∣ (k0_mult42 v1795).toNat := fun k0_t1 v1795 k0_hw35 => k0_hw35.1
theorem k0_off64_inb : ∀ (k0_t1 : Fin k0_t1_loop.trips) (v1795 : BitVec 32) (k0_hw35 : k0_chk35 k0_t1 v1795), ∀ a, (k0_off64 k0_t1 v1795) a + S1x1x4096x256.size a ≤ S3x4x65536x256.size a := fun k0_t1 v1795 k0_hw35 => k0_hw35.2.1
theorem k0_off64_wordsi8 : ∀ (k0_t1 : Fin k0_t1_loop.trips) (v1795 : BitVec 32) (k0_hw35 : k0_chk35 k0_t1 v1795), (Rect.unit (s := S3x4x65536x256) (k0_off64 k0_t1 v1795) S1x1x4096x256.size (k0_off64_inb k0_t1 v1795 k0_hw35)).WholeWords (EltTy.packing .i8) := fun k0_t1 v1795 k0_hw35 => k0_hw35.2.2 (k0_off64_inb k0_t1 v1795 k0_hw35)

def k0_off65 (k0_t1 : Fin k0_t1_loop.trips) : Fin 4 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let v1842 : Index := Scalar.indexCast v980
  let c2_982 : Index := 2#32
  let c0_983 : Index := 0#32
  let c0_984 : Index := 0#32
  ![v1842.toNat, 2, 0, 0]
def k0_off66 (k0_t1 : Fin k0_t1_loop.trips) : Fin 4 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let v1846 : Index := Scalar.indexCast v980
  let c2_985 : Index := 2#32
  let c0_986 : Index := 0#32
  let c0_987 : Index := 0#32
  ![v1846.toNat, 2, 0, 0]
def k0_off67 (k0_t1 : Fin k0_t1_loop.trips) : Fin 4 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let v1890 : Index := Scalar.indexCast v980
  let c2_1001 : Index := 2#32
  let c0_1002 : Index := 0#32
  let c0_1003 : Index := 0#32
  ![v1890.toNat, 2, 0, 0]
def k0_off68 (k0_t1 : Fin k0_t1_loop.trips) : Fin 4 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let v1903 : Index := Scalar.indexCast v980
  let c2_1009 : Index := 2#32
  let c1024_1010 : Index := 1024#32
  let c0_1011 : Index := 0#32
  ![v1903.toNat, 2, 1024, 0]
def k0_off69 (k0_t1 : Fin k0_t1_loop.trips) : Fin 4 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let v1916 : Index := Scalar.indexCast v980
  let c2_1017 : Index := 2#32
  let c2048_1018 : Index := 2048#32
  let c0_1019 : Index := 0#32
  ![v1916.toNat, 2, 2048, 0]
def k0_off70 (k0_t1 : Fin k0_t1_loop.trips) : Fin 4 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let v1929 : Index := Scalar.indexCast v980
  let c2_1025 : Index := 2#32
  let c3072_1026 : Index := 3072#32
  let c0_1027 : Index := 0#32
  ![v1929.toNat, 2, 3072, 0]
def k0_off71 (k0_t1 : Fin k0_t1_loop.trips) : Fin 1 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let v1942 : Index := Scalar.indexCast v980
  ![v1942.toNat]
def k0_mult43 (v1943 : BitVec 32) : BitVec 32 :=
  let c4095_i32_1033 : BitVec 32 := 4095#32
  let v1944 : BitVec 32 := Scalar.subi v1943 c4095_i32_1033
  let c0_i32_1034 : BitVec 32 := 0#32
  let v1945 : BitVec 32 := Scalar.maxsi v1944 c0_i32_1034
  let c0_i32_1036 : BitVec 32 := 0#32
  let v1947 : BitVec 1 := Scalar.cmpi .sgt v1945 c0_i32_1036
  let v1948 : BitVec 32 := Scalar.extui v1947
  let c0_i32_1037 : BitVec 32 := 0#32
  let v1949 : BitVec 1 := Scalar.cmpi .slt v1945 c0_i32_1037
  let v1950 : BitVec 32 := Scalar.extui v1949
  let v1951 : BitVec 32 := Scalar.subi v1948 v1950
  let c32_i32_1035 : BitVec 32 := 32#32
  let c0_i32_1038 : BitVec 32 := 0#32
  let v1952 : BitVec 1 := Scalar.cmpi .sgt c32_i32_1035 c0_i32_1038
  let v1953 : BitVec 32 := Scalar.extui v1952
  let c0_i32_1039 : BitVec 32 := 0#32
  let v1954 : BitVec 1 := Scalar.cmpi .slt c32_i32_1035 c0_i32_1039
  let v1955 : BitVec 32 := Scalar.extui v1954
  let v1956 : BitVec 32 := Scalar.subi v1953 v1955
  let v1957 : BitVec 1 := Scalar.cmpi .ne v1951 v1956
  let v1958 : BitVec 32 := Scalar.remsi v1945 c32_i32_1035
  let c0_i32_1040 : BitVec 32 := 0#32
  let v1959 : BitVec 1 := Scalar.cmpi .ne v1958 c0_i32_1040
  let v1960 : BitVec 1 := Scalar.andi v1957 v1959
  let v1946 : BitVec 32 := Scalar.divsi v1945 c32_i32_1035
  let c1_i32_1041 : BitVec 32 := 1#32
  let v1961 : BitVec 32 := Scalar.subi v1946 c1_i32_1041
  let v1962 : BitVec 32 := Scalar.select v1960 v1961 v1946
  let c32_i32_1042 : BitVec 32 := 32#32
  let v1963 : BitVec 32 := Scalar.muli v1962 c32_i32_1042
  v1963

def k0_off72 (k0_t1 : Fin k0_t1_loop.trips) : Fin 2 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let c3_i32_1045 : BitVec 32 := 3#32
  ![v980.toNat, 3]
def k0_off73 (k0_t1 : Fin k0_t1_loop.trips) : Fin 4 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let c3_i32_1044 : BitVec 32 := 3#32
  let c0_i32_1046 : BitVec 32 := 0#32
  let c0_i32_1047 : BitVec 32 := 0#32
  ![v980.toNat, 3, 0, 0]
def k0_off74 (k0_t1 : Fin k0_t1_loop.trips) (v1943 : BitVec 32) : Fin 4 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let c3_i32_1043 : BitVec 32 := 3#32
  let c4095_i32_1033 : BitVec 32 := 4095#32
  let v1944 : BitVec 32 := Scalar.subi v1943 c4095_i32_1033
  let c0_i32_1034 : BitVec 32 := 0#32
  let v1945 : BitVec 32 := Scalar.maxsi v1944 c0_i32_1034
  let c0_i32_1036 : BitVec 32 := 0#32
  let v1947 : BitVec 1 := Scalar.cmpi .sgt v1945 c0_i32_1036
  let v1948 : BitVec 32 := Scalar.extui v1947
  let c0_i32_1037 : BitVec 32 := 0#32
  let v1949 : BitVec 1 := Scalar.cmpi .slt v1945 c0_i32_1037
  let v1950 : BitVec 32 := Scalar.extui v1949
  let v1951 : BitVec 32 := Scalar.subi v1948 v1950
  let c32_i32_1035 : BitVec 32 := 32#32
  let c0_i32_1038 : BitVec 32 := 0#32
  let v1952 : BitVec 1 := Scalar.cmpi .sgt c32_i32_1035 c0_i32_1038
  let v1953 : BitVec 32 := Scalar.extui v1952
  let c0_i32_1039 : BitVec 32 := 0#32
  let v1954 : BitVec 1 := Scalar.cmpi .slt c32_i32_1035 c0_i32_1039
  let v1955 : BitVec 32 := Scalar.extui v1954
  let v1956 : BitVec 32 := Scalar.subi v1953 v1955
  let v1957 : BitVec 1 := Scalar.cmpi .ne v1951 v1956
  let v1958 : BitVec 32 := Scalar.remsi v1945 c32_i32_1035
  let c0_i32_1040 : BitVec 32 := 0#32
  let v1959 : BitVec 1 := Scalar.cmpi .ne v1958 c0_i32_1040
  let v1960 : BitVec 1 := Scalar.andi v1957 v1959
  let v1946 : BitVec 32 := Scalar.divsi v1945 c32_i32_1035
  let c1_i32_1041 : BitVec 32 := 1#32
  let v1961 : BitVec 32 := Scalar.subi v1946 c1_i32_1041
  let v1962 : BitVec 32 := Scalar.select v1960 v1961 v1946
  let c32_i32_1042 : BitVec 32 := 32#32
  let v1963 : BitVec 32 := Scalar.muli v1962 c32_i32_1042
  let v1964 : BitVec 32 := v1963
  let c0_i32_1048 : BitVec 32 := 0#32
  ![v980.toNat, 3, v1964.toNat, 0]

def k0_chk36 (k0_t1 : Fin k0_t1_loop.trips) (v1943 : BitVec 32) : Prop :=
  (32 ∣ (k0_mult43 v1943).toNat) ∧
  (∀ a, (k0_off74 k0_t1 v1943) a + S1x1x4096x256.size a ≤ S3x4x65536x256.size a) ∧
  (∀ (hinb : ∀ a, (k0_off74 k0_t1 v1943) a + S1x1x4096x256.size a ≤ S3x4x65536x256.size a), (Rect.unit (s := S3x4x65536x256) (k0_off74 k0_t1 v1943) S1x1x4096x256.size hinb).WholeWords (EltTy.packing .i8))
theorem k0_mult43_dvd : ∀ (k0_t1 : Fin k0_t1_loop.trips) (v1943 : BitVec 32) (k0_hw36 : k0_chk36 k0_t1 v1943), 32 ∣ (k0_mult43 v1943).toNat := fun k0_t1 v1943 k0_hw36 => k0_hw36.1
theorem k0_off74_inb : ∀ (k0_t1 : Fin k0_t1_loop.trips) (v1943 : BitVec 32) (k0_hw36 : k0_chk36 k0_t1 v1943), ∀ a, (k0_off74 k0_t1 v1943) a + S1x1x4096x256.size a ≤ S3x4x65536x256.size a := fun k0_t1 v1943 k0_hw36 => k0_hw36.2.1
theorem k0_off74_wordsi8 : ∀ (k0_t1 : Fin k0_t1_loop.trips) (v1943 : BitVec 32) (k0_hw36 : k0_chk36 k0_t1 v1943), (Rect.unit (s := S3x4x65536x256) (k0_off74 k0_t1 v1943) S1x1x4096x256.size (k0_off74_inb k0_t1 v1943 k0_hw36)).WholeWords (EltTy.packing .i8) := fun k0_t1 v1943 k0_hw36 => k0_hw36.2.2 (k0_off74_inb k0_t1 v1943 k0_hw36)

def k0_off75 (k0_t1 : Fin k0_t1_loop.trips) : Fin 4 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let v1990 : Index := Scalar.indexCast v980
  let c3_1057 : Index := 3#32
  let c0_1058 : Index := 0#32
  let c0_1059 : Index := 0#32
  ![v1990.toNat, 3, 0, 0]
def k0_off76 (k0_t1 : Fin k0_t1_loop.trips) : Fin 4 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let v1994 : Index := Scalar.indexCast v980
  let c3_1060 : Index := 3#32
  let c0_1061 : Index := 0#32
  let c0_1062 : Index := 0#32
  ![v1994.toNat, 3, 0, 0]
def k0_off77 (k0_t1 : Fin k0_t1_loop.trips) : Fin 4 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let v2038 : Index := Scalar.indexCast v980
  let c3_1076 : Index := 3#32
  let c0_1077 : Index := 0#32
  let c0_1078 : Index := 0#32
  ![v2038.toNat, 3, 0, 0]
def k0_off78 (k0_t1 : Fin k0_t1_loop.trips) : Fin 4 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let v2051 : Index := Scalar.indexCast v980
  let c3_1084 : Index := 3#32
  let c1024_1085 : Index := 1024#32
  let c0_1086 : Index := 0#32
  ![v2051.toNat, 3, 1024, 0]
def k0_off79 (k0_t1 : Fin k0_t1_loop.trips) : Fin 4 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let v2064 : Index := Scalar.indexCast v980
  let c3_1092 : Index := 3#32
  let c2048_1093 : Index := 2048#32
  let c0_1094 : Index := 0#32
  ![v2064.toNat, 3, 2048, 0]
def k0_off80 (k0_t1 : Fin k0_t1_loop.trips) : Fin 4 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let v2077 : Index := Scalar.indexCast v980
  let c3_1100 : Index := 3#32
  let c3072_1101 : Index := 3072#32
  let c0_1102 : Index := 0#32
  ![v2077.toNat, 3, 3072, 0]
def k0_off81 (k0_t1 : Fin k0_t1_loop.trips) : Fin 1 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let v2144 : Index := Scalar.indexCast v980
  ![v2144.toNat]
def k0_mult44 (v2145 : BitVec 32) : BitVec 32 :=
  let c4095_i32_1123 : BitVec 32 := 4095#32
  let v2146 : BitVec 32 := Scalar.subi v2145 c4095_i32_1123
  let c0_i32_1124 : BitVec 32 := 0#32
  let v2147 : BitVec 32 := Scalar.maxsi v2146 c0_i32_1124
  let c0_i32_1126 : BitVec 32 := 0#32
  let v2149 : BitVec 1 := Scalar.cmpi .sgt v2147 c0_i32_1126
  let v2150 : BitVec 32 := Scalar.extui v2149
  let c0_i32_1127 : BitVec 32 := 0#32
  let v2151 : BitVec 1 := Scalar.cmpi .slt v2147 c0_i32_1127
  let v2152 : BitVec 32 := Scalar.extui v2151
  let v2153 : BitVec 32 := Scalar.subi v2150 v2152
  let c32_i32_1125 : BitVec 32 := 32#32
  let c0_i32_1128 : BitVec 32 := 0#32
  let v2154 : BitVec 1 := Scalar.cmpi .sgt c32_i32_1125 c0_i32_1128
  let v2155 : BitVec 32 := Scalar.extui v2154
  let c0_i32_1129 : BitVec 32 := 0#32
  let v2156 : BitVec 1 := Scalar.cmpi .slt c32_i32_1125 c0_i32_1129
  let v2157 : BitVec 32 := Scalar.extui v2156
  let v2158 : BitVec 32 := Scalar.subi v2155 v2157
  let v2159 : BitVec 1 := Scalar.cmpi .ne v2153 v2158
  let v2160 : BitVec 32 := Scalar.remsi v2147 c32_i32_1125
  let c0_i32_1130 : BitVec 32 := 0#32
  let v2161 : BitVec 1 := Scalar.cmpi .ne v2160 c0_i32_1130
  let v2162 : BitVec 1 := Scalar.andi v2159 v2161
  let v2148 : BitVec 32 := Scalar.divsi v2147 c32_i32_1125
  let c1_i32_1131 : BitVec 32 := 1#32
  let v2163 : BitVec 32 := Scalar.subi v2148 c1_i32_1131
  let v2164 : BitVec 32 := Scalar.select v2162 v2163 v2148
  let c32_i32_1132 : BitVec 32 := 32#32
  let v2165 : BitVec 32 := Scalar.muli v2164 c32_i32_1132
  v2165

def k0_mult45 (v2145 : BitVec 32) : BitVec 32 :=
  let c4095_i32_1123 : BitVec 32 := 4095#32
  let v2146 : BitVec 32 := Scalar.subi v2145 c4095_i32_1123
  let c0_i32_1124 : BitVec 32 := 0#32
  let v2147 : BitVec 32 := Scalar.maxsi v2146 c0_i32_1124
  let c0_i32_1126 : BitVec 32 := 0#32
  let v2149 : BitVec 1 := Scalar.cmpi .sgt v2147 c0_i32_1126
  let v2150 : BitVec 32 := Scalar.extui v2149
  let c0_i32_1127 : BitVec 32 := 0#32
  let v2151 : BitVec 1 := Scalar.cmpi .slt v2147 c0_i32_1127
  let v2152 : BitVec 32 := Scalar.extui v2151
  let v2153 : BitVec 32 := Scalar.subi v2150 v2152
  let c32_i32_1125 : BitVec 32 := 32#32
  let c0_i32_1128 : BitVec 32 := 0#32
  let v2154 : BitVec 1 := Scalar.cmpi .sgt c32_i32_1125 c0_i32_1128
  let v2155 : BitVec 32 := Scalar.extui v2154
  let c0_i32_1129 : BitVec 32 := 0#32
  let v2156 : BitVec 1 := Scalar.cmpi .slt c32_i32_1125 c0_i32_1129
  let v2157 : BitVec 32 := Scalar.extui v2156
  let v2158 : BitVec 32 := Scalar.subi v2155 v2157
  let v2159 : BitVec 1 := Scalar.cmpi .ne v2153 v2158
  let v2160 : BitVec 32 := Scalar.remsi v2147 c32_i32_1125
  let c0_i32_1130 : BitVec 32 := 0#32
  let v2161 : BitVec 1 := Scalar.cmpi .ne v2160 c0_i32_1130
  let v2162 : BitVec 1 := Scalar.andi v2159 v2161
  let v2148 : BitVec 32 := Scalar.divsi v2147 c32_i32_1125
  let c1_i32_1131 : BitVec 32 := 1#32
  let v2163 : BitVec 32 := Scalar.subi v2148 c1_i32_1131
  let v2164 : BitVec 32 := Scalar.select v2162 v2163 v2148
  let c32_i32_1132 : BitVec 32 := 32#32
  let v2165 : BitVec 32 := Scalar.muli v2164 c32_i32_1132
  let v2166 : BitVec 32 := v2165
  let c4096_i32_1133 : BitVec 32 := 4096#32
  let v2167 : BitVec 32 := Scalar.addi v2166 c4096_i32_1133
  let c65504_i32_1134 : BitVec 32 := 65504#32
  let v2168 : BitVec 32 := Scalar.minsi v2167 c65504_i32_1134
  v2168
def k0_off82 (k0_t1 : Fin k0_t1_loop.trips) : Fin 2 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let c1_i32_1135 : BitVec 32 := 1#32
  ![v980.toNat, 1]
def k0_off83 (k0_t1 : Fin k0_t1_loop.trips) : Fin 4 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let c0_i32_1136 : BitVec 32 := 0#32
  let c0_i32_1137 : BitVec 32 := 0#32
  let c0_i32_1138 : BitVec 32 := 0#32
  ![v980.toNat, 0, 0, 0]
def k0_off84 (k0_t1 : Fin k0_t1_loop.trips) (v2145 : BitVec 32) : Fin 4 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let c0_i32_1139 : BitVec 32 := 0#32
  let c4095_i32_1123 : BitVec 32 := 4095#32
  let v2146 : BitVec 32 := Scalar.subi v2145 c4095_i32_1123
  let c0_i32_1124 : BitVec 32 := 0#32
  let v2147 : BitVec 32 := Scalar.maxsi v2146 c0_i32_1124
  let c0_i32_1126 : BitVec 32 := 0#32
  let v2149 : BitVec 1 := Scalar.cmpi .sgt v2147 c0_i32_1126
  let v2150 : BitVec 32 := Scalar.extui v2149
  let c0_i32_1127 : BitVec 32 := 0#32
  let v2151 : BitVec 1 := Scalar.cmpi .slt v2147 c0_i32_1127
  let v2152 : BitVec 32 := Scalar.extui v2151
  let v2153 : BitVec 32 := Scalar.subi v2150 v2152
  let c32_i32_1125 : BitVec 32 := 32#32
  let c0_i32_1128 : BitVec 32 := 0#32
  let v2154 : BitVec 1 := Scalar.cmpi .sgt c32_i32_1125 c0_i32_1128
  let v2155 : BitVec 32 := Scalar.extui v2154
  let c0_i32_1129 : BitVec 32 := 0#32
  let v2156 : BitVec 1 := Scalar.cmpi .slt c32_i32_1125 c0_i32_1129
  let v2157 : BitVec 32 := Scalar.extui v2156
  let v2158 : BitVec 32 := Scalar.subi v2155 v2157
  let v2159 : BitVec 1 := Scalar.cmpi .ne v2153 v2158
  let v2160 : BitVec 32 := Scalar.remsi v2147 c32_i32_1125
  let c0_i32_1130 : BitVec 32 := 0#32
  let v2161 : BitVec 1 := Scalar.cmpi .ne v2160 c0_i32_1130
  let v2162 : BitVec 1 := Scalar.andi v2159 v2161
  let v2148 : BitVec 32 := Scalar.divsi v2147 c32_i32_1125
  let c1_i32_1131 : BitVec 32 := 1#32
  let v2163 : BitVec 32 := Scalar.subi v2148 c1_i32_1131
  let v2164 : BitVec 32 := Scalar.select v2162 v2163 v2148
  let c32_i32_1132 : BitVec 32 := 32#32
  let v2165 : BitVec 32 := Scalar.muli v2164 c32_i32_1132
  let v2166 : BitVec 32 := v2165
  let c4096_i32_1133 : BitVec 32 := 4096#32
  let v2167 : BitVec 32 := Scalar.addi v2166 c4096_i32_1133
  let c65504_i32_1134 : BitVec 32 := 65504#32
  let v2168 : BitVec 32 := Scalar.minsi v2167 c65504_i32_1134
  let v2169 : BitVec 32 := v2168
  let c0_i32_1140 : BitVec 32 := 0#32
  ![v980.toNat, 0, v2169.toNat, 0]

def k0_chk37 (k0_t1 : Fin k0_t1_loop.trips) (v2145 : BitVec 32) : Prop :=
  (32 ∣ (k0_mult44 v2145).toNat) ∧
  (32 ∣ (k0_mult45 v2145).toNat) ∧
  (∀ a, (k0_off84 k0_t1 v2145) a + S1x4x32x256.size a ≤ S3x4x65536x256.size a) ∧
  (∀ (hinb : ∀ a, (k0_off84 k0_t1 v2145) a + S1x4x32x256.size a ≤ S3x4x65536x256.size a), (Rect.unit (s := S3x4x65536x256) (k0_off84 k0_t1 v2145) S1x4x32x256.size hinb).WholeWords (EltTy.packing .i8))
theorem k0_mult44_dvd : ∀ (k0_t1 : Fin k0_t1_loop.trips) (v2145 : BitVec 32) (k0_hw37 : k0_chk37 k0_t1 v2145), 32 ∣ (k0_mult44 v2145).toNat := fun k0_t1 v2145 k0_hw37 => k0_hw37.1
theorem k0_mult45_dvd : ∀ (k0_t1 : Fin k0_t1_loop.trips) (v2145 : BitVec 32) (k0_hw37 : k0_chk37 k0_t1 v2145), 32 ∣ (k0_mult45 v2145).toNat := fun k0_t1 v2145 k0_hw37 => k0_hw37.2.1
theorem k0_off84_inb : ∀ (k0_t1 : Fin k0_t1_loop.trips) (v2145 : BitVec 32) (k0_hw37 : k0_chk37 k0_t1 v2145), ∀ a, (k0_off84 k0_t1 v2145) a + S1x4x32x256.size a ≤ S3x4x65536x256.size a := fun k0_t1 v2145 k0_hw37 => k0_hw37.2.2.1
theorem k0_off84_wordsi8 : ∀ (k0_t1 : Fin k0_t1_loop.trips) (v2145 : BitVec 32) (k0_hw37 : k0_chk37 k0_t1 v2145), (Rect.unit (s := S3x4x65536x256) (k0_off84 k0_t1 v2145) S1x4x32x256.size (k0_off84_inb k0_t1 v2145 k0_hw37)).WholeWords (EltTy.packing .i8) := fun k0_t1 v2145 k0_hw37 => k0_hw37.2.2.2 (k0_off84_inb k0_t1 v2145 k0_hw37)

def k0_off85 (k0_t1 : Fin k0_t1_loop.trips) : Fin 1 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let v2176 : Index := Scalar.indexCast v980
  ![v2176.toNat]
def k0_mult46 (v2177 : BitVec 32) : BitVec 32 :=
  let c4095_i32_1141 : BitVec 32 := 4095#32
  let v2178 : BitVec 32 := Scalar.subi v2177 c4095_i32_1141
  let c0_i32_1142 : BitVec 32 := 0#32
  let v2179 : BitVec 32 := Scalar.maxsi v2178 c0_i32_1142
  let c0_i32_1144 : BitVec 32 := 0#32
  let v2181 : BitVec 1 := Scalar.cmpi .sgt v2179 c0_i32_1144
  let v2182 : BitVec 32 := Scalar.extui v2181
  let c0_i32_1145 : BitVec 32 := 0#32
  let v2183 : BitVec 1 := Scalar.cmpi .slt v2179 c0_i32_1145
  let v2184 : BitVec 32 := Scalar.extui v2183
  let v2185 : BitVec 32 := Scalar.subi v2182 v2184
  let c32_i32_1143 : BitVec 32 := 32#32
  let c0_i32_1146 : BitVec 32 := 0#32
  let v2186 : BitVec 1 := Scalar.cmpi .sgt c32_i32_1143 c0_i32_1146
  let v2187 : BitVec 32 := Scalar.extui v2186
  let c0_i32_1147 : BitVec 32 := 0#32
  let v2188 : BitVec 1 := Scalar.cmpi .slt c32_i32_1143 c0_i32_1147
  let v2189 : BitVec 32 := Scalar.extui v2188
  let v2190 : BitVec 32 := Scalar.subi v2187 v2189
  let v2191 : BitVec 1 := Scalar.cmpi .ne v2185 v2190
  let v2192 : BitVec 32 := Scalar.remsi v2179 c32_i32_1143
  let c0_i32_1148 : BitVec 32 := 0#32
  let v2193 : BitVec 1 := Scalar.cmpi .ne v2192 c0_i32_1148
  let v2194 : BitVec 1 := Scalar.andi v2191 v2193
  let v2180 : BitVec 32 := Scalar.divsi v2179 c32_i32_1143
  let c1_i32_1149 : BitVec 32 := 1#32
  let v2195 : BitVec 32 := Scalar.subi v2180 c1_i32_1149
  let v2196 : BitVec 32 := Scalar.select v2194 v2195 v2180
  let c32_i32_1150 : BitVec 32 := 32#32
  let v2197 : BitVec 32 := Scalar.muli v2196 c32_i32_1150
  v2197

def k0_off86 (k0_t1 : Fin k0_t1_loop.trips) : Fin 2 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let c0_i32_1153 : BitVec 32 := 0#32
  ![v980.toNat, 0]
def k0_off87 (k0_t1 : Fin k0_t1_loop.trips) : Fin 4 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let c0_i32_1152 : BitVec 32 := 0#32
  let c0_i32_1154 : BitVec 32 := 0#32
  let c0_i32_1155 : BitVec 32 := 0#32
  ![v980.toNat, 0, 0, 0]
def k0_off88 (k0_t1 : Fin k0_t1_loop.trips) (v2177 : BitVec 32) : Fin 4 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let c0_i32_1151 : BitVec 32 := 0#32
  let c4095_i32_1141 : BitVec 32 := 4095#32
  let v2178 : BitVec 32 := Scalar.subi v2177 c4095_i32_1141
  let c0_i32_1142 : BitVec 32 := 0#32
  let v2179 : BitVec 32 := Scalar.maxsi v2178 c0_i32_1142
  let c0_i32_1144 : BitVec 32 := 0#32
  let v2181 : BitVec 1 := Scalar.cmpi .sgt v2179 c0_i32_1144
  let v2182 : BitVec 32 := Scalar.extui v2181
  let c0_i32_1145 : BitVec 32 := 0#32
  let v2183 : BitVec 1 := Scalar.cmpi .slt v2179 c0_i32_1145
  let v2184 : BitVec 32 := Scalar.extui v2183
  let v2185 : BitVec 32 := Scalar.subi v2182 v2184
  let c32_i32_1143 : BitVec 32 := 32#32
  let c0_i32_1146 : BitVec 32 := 0#32
  let v2186 : BitVec 1 := Scalar.cmpi .sgt c32_i32_1143 c0_i32_1146
  let v2187 : BitVec 32 := Scalar.extui v2186
  let c0_i32_1147 : BitVec 32 := 0#32
  let v2188 : BitVec 1 := Scalar.cmpi .slt c32_i32_1143 c0_i32_1147
  let v2189 : BitVec 32 := Scalar.extui v2188
  let v2190 : BitVec 32 := Scalar.subi v2187 v2189
  let v2191 : BitVec 1 := Scalar.cmpi .ne v2185 v2190
  let v2192 : BitVec 32 := Scalar.remsi v2179 c32_i32_1143
  let c0_i32_1148 : BitVec 32 := 0#32
  let v2193 : BitVec 1 := Scalar.cmpi .ne v2192 c0_i32_1148
  let v2194 : BitVec 1 := Scalar.andi v2191 v2193
  let v2180 : BitVec 32 := Scalar.divsi v2179 c32_i32_1143
  let c1_i32_1149 : BitVec 32 := 1#32
  let v2195 : BitVec 32 := Scalar.subi v2180 c1_i32_1149
  let v2196 : BitVec 32 := Scalar.select v2194 v2195 v2180
  let c32_i32_1150 : BitVec 32 := 32#32
  let v2197 : BitVec 32 := Scalar.muli v2196 c32_i32_1150
  let v2198 : BitVec 32 := v2197
  let c0_i32_1156 : BitVec 32 := 0#32
  ![v980.toNat, 0, v2198.toNat, 0]

def k0_chk38 (k0_t1 : Fin k0_t1_loop.trips) (v2177 : BitVec 32) : Prop :=
  (32 ∣ (k0_mult46 v2177).toNat) ∧
  (∀ a, (k0_off88 k0_t1 v2177) a + S1x1x4096x256.size a ≤ S3x4x65536x256.size a) ∧
  (∀ (hinb : ∀ a, (k0_off88 k0_t1 v2177) a + S1x1x4096x256.size a ≤ S3x4x65536x256.size a), (Rect.unit (s := S3x4x65536x256) (k0_off88 k0_t1 v2177) S1x1x4096x256.size hinb).WholeWords (EltTy.packing .i8))
theorem k0_mult46_dvd : ∀ (k0_t1 : Fin k0_t1_loop.trips) (v2177 : BitVec 32) (k0_hw38 : k0_chk38 k0_t1 v2177), 32 ∣ (k0_mult46 v2177).toNat := fun k0_t1 v2177 k0_hw38 => k0_hw38.1
theorem k0_off88_inb : ∀ (k0_t1 : Fin k0_t1_loop.trips) (v2177 : BitVec 32) (k0_hw38 : k0_chk38 k0_t1 v2177), ∀ a, (k0_off88 k0_t1 v2177) a + S1x1x4096x256.size a ≤ S3x4x65536x256.size a := fun k0_t1 v2177 k0_hw38 => k0_hw38.2.1
theorem k0_off88_wordsi8 : ∀ (k0_t1 : Fin k0_t1_loop.trips) (v2177 : BitVec 32) (k0_hw38 : k0_chk38 k0_t1 v2177), (Rect.unit (s := S3x4x65536x256) (k0_off88 k0_t1 v2177) S1x1x4096x256.size (k0_off88_inb k0_t1 v2177 k0_hw38)).WholeWords (EltTy.packing .i8) := fun k0_t1 v2177 k0_hw38 => k0_hw38.2.2 (k0_off88_inb k0_t1 v2177 k0_hw38)

def k0_off89 (k0_t1 : Fin k0_t1_loop.trips) : Fin 4 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let v2224 : Index := Scalar.indexCast v980
  let c0_1165 : Index := 0#32
  let c0_1166 : Index := 0#32
  let c0_1167 : Index := 0#32
  ![v2224.toNat, 0, 0, 0]
def k0_off90 (k0_t1 : Fin k0_t1_loop.trips) : Fin 4 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let v2228 : Index := Scalar.indexCast v980
  let c0_1168 : Index := 0#32
  let c0_1169 : Index := 0#32
  let c0_1170 : Index := 0#32
  ![v2228.toNat, 0, 0, 0]
def k0_off91 (k0_t1 : Fin k0_t1_loop.trips) : Fin 4 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let v2243 : Index := Scalar.indexCast v980
  let c0_1176 : Index := 0#32
  let c0_1177 : Index := 0#32
  let c0_1178 : Index := 0#32
  ![v2243.toNat, 0, 0, 0]
def k0_off92 (k0_t1 : Fin k0_t1_loop.trips) : Fin 4 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let v2250 : Index := Scalar.indexCast v980
  let c0_1180 : Index := 0#32
  let c1024_1181 : Index := 1024#32
  let c0_1182 : Index := 0#32
  ![v2250.toNat, 0, 1024, 0]
def k0_off93 (k0_t1 : Fin k0_t1_loop.trips) : Fin 4 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let v2257 : Index := Scalar.indexCast v980
  let c0_1184 : Index := 0#32
  let c2048_1185 : Index := 2048#32
  let c0_1186 : Index := 0#32
  ![v2257.toNat, 0, 2048, 0]
def k0_off94 (k0_t1 : Fin k0_t1_loop.trips) : Fin 4 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let v2264 : Index := Scalar.indexCast v980
  let c0_1188 : Index := 0#32
  let c3072_1189 : Index := 3072#32
  let c0_1190 : Index := 0#32
  ![v2264.toNat, 0, 3072, 0]
def k0_off95 (k0_t1 : Fin k0_t1_loop.trips) : Fin 1 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let v2300 : Index := Scalar.indexCast v980
  ![v2300.toNat]
def k0_mult47 (v2301 : BitVec 32) : BitVec 32 :=
  let c4095_i32_1200 : BitVec 32 := 4095#32
  let v2302 : BitVec 32 := Scalar.subi v2301 c4095_i32_1200
  let c0_i32_1201 : BitVec 32 := 0#32
  let v2303 : BitVec 32 := Scalar.maxsi v2302 c0_i32_1201
  let c0_i32_1203 : BitVec 32 := 0#32
  let v2305 : BitVec 1 := Scalar.cmpi .sgt v2303 c0_i32_1203
  let v2306 : BitVec 32 := Scalar.extui v2305
  let c0_i32_1204 : BitVec 32 := 0#32
  let v2307 : BitVec 1 := Scalar.cmpi .slt v2303 c0_i32_1204
  let v2308 : BitVec 32 := Scalar.extui v2307
  let v2309 : BitVec 32 := Scalar.subi v2306 v2308
  let c32_i32_1202 : BitVec 32 := 32#32
  let c0_i32_1205 : BitVec 32 := 0#32
  let v2310 : BitVec 1 := Scalar.cmpi .sgt c32_i32_1202 c0_i32_1205
  let v2311 : BitVec 32 := Scalar.extui v2310
  let c0_i32_1206 : BitVec 32 := 0#32
  let v2312 : BitVec 1 := Scalar.cmpi .slt c32_i32_1202 c0_i32_1206
  let v2313 : BitVec 32 := Scalar.extui v2312
  let v2314 : BitVec 32 := Scalar.subi v2311 v2313
  let v2315 : BitVec 1 := Scalar.cmpi .ne v2309 v2314
  let v2316 : BitVec 32 := Scalar.remsi v2303 c32_i32_1202
  let c0_i32_1207 : BitVec 32 := 0#32
  let v2317 : BitVec 1 := Scalar.cmpi .ne v2316 c0_i32_1207
  let v2318 : BitVec 1 := Scalar.andi v2315 v2317
  let v2304 : BitVec 32 := Scalar.divsi v2303 c32_i32_1202
  let c1_i32_1208 : BitVec 32 := 1#32
  let v2319 : BitVec 32 := Scalar.subi v2304 c1_i32_1208
  let v2320 : BitVec 32 := Scalar.select v2318 v2319 v2304
  let c32_i32_1209 : BitVec 32 := 32#32
  let v2321 : BitVec 32 := Scalar.muli v2320 c32_i32_1209
  v2321

def k0_off96 (k0_t1 : Fin k0_t1_loop.trips) : Fin 2 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let c1_i32_1212 : BitVec 32 := 1#32
  ![v980.toNat, 1]
def k0_off97 (k0_t1 : Fin k0_t1_loop.trips) : Fin 4 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let c1_i32_1211 : BitVec 32 := 1#32
  let c0_i32_1213 : BitVec 32 := 0#32
  let c0_i32_1214 : BitVec 32 := 0#32
  ![v980.toNat, 1, 0, 0]
def k0_off98 (k0_t1 : Fin k0_t1_loop.trips) (v2301 : BitVec 32) : Fin 4 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let c1_i32_1210 : BitVec 32 := 1#32
  let c4095_i32_1200 : BitVec 32 := 4095#32
  let v2302 : BitVec 32 := Scalar.subi v2301 c4095_i32_1200
  let c0_i32_1201 : BitVec 32 := 0#32
  let v2303 : BitVec 32 := Scalar.maxsi v2302 c0_i32_1201
  let c0_i32_1203 : BitVec 32 := 0#32
  let v2305 : BitVec 1 := Scalar.cmpi .sgt v2303 c0_i32_1203
  let v2306 : BitVec 32 := Scalar.extui v2305
  let c0_i32_1204 : BitVec 32 := 0#32
  let v2307 : BitVec 1 := Scalar.cmpi .slt v2303 c0_i32_1204
  let v2308 : BitVec 32 := Scalar.extui v2307
  let v2309 : BitVec 32 := Scalar.subi v2306 v2308
  let c32_i32_1202 : BitVec 32 := 32#32
  let c0_i32_1205 : BitVec 32 := 0#32
  let v2310 : BitVec 1 := Scalar.cmpi .sgt c32_i32_1202 c0_i32_1205
  let v2311 : BitVec 32 := Scalar.extui v2310
  let c0_i32_1206 : BitVec 32 := 0#32
  let v2312 : BitVec 1 := Scalar.cmpi .slt c32_i32_1202 c0_i32_1206
  let v2313 : BitVec 32 := Scalar.extui v2312
  let v2314 : BitVec 32 := Scalar.subi v2311 v2313
  let v2315 : BitVec 1 := Scalar.cmpi .ne v2309 v2314
  let v2316 : BitVec 32 := Scalar.remsi v2303 c32_i32_1202
  let c0_i32_1207 : BitVec 32 := 0#32
  let v2317 : BitVec 1 := Scalar.cmpi .ne v2316 c0_i32_1207
  let v2318 : BitVec 1 := Scalar.andi v2315 v2317
  let v2304 : BitVec 32 := Scalar.divsi v2303 c32_i32_1202
  let c1_i32_1208 : BitVec 32 := 1#32
  let v2319 : BitVec 32 := Scalar.subi v2304 c1_i32_1208
  let v2320 : BitVec 32 := Scalar.select v2318 v2319 v2304
  let c32_i32_1209 : BitVec 32 := 32#32
  let v2321 : BitVec 32 := Scalar.muli v2320 c32_i32_1209
  let v2322 : BitVec 32 := v2321
  let c0_i32_1215 : BitVec 32 := 0#32
  ![v980.toNat, 1, v2322.toNat, 0]

def k0_chk39 (k0_t1 : Fin k0_t1_loop.trips) (v2301 : BitVec 32) : Prop :=
  (32 ∣ (k0_mult47 v2301).toNat) ∧
  (∀ a, (k0_off98 k0_t1 v2301) a + S1x1x4096x256.size a ≤ S3x4x65536x256.size a) ∧
  (∀ (hinb : ∀ a, (k0_off98 k0_t1 v2301) a + S1x1x4096x256.size a ≤ S3x4x65536x256.size a), (Rect.unit (s := S3x4x65536x256) (k0_off98 k0_t1 v2301) S1x1x4096x256.size hinb).WholeWords (EltTy.packing .i8))
theorem k0_mult47_dvd : ∀ (k0_t1 : Fin k0_t1_loop.trips) (v2301 : BitVec 32) (k0_hw39 : k0_chk39 k0_t1 v2301), 32 ∣ (k0_mult47 v2301).toNat := fun k0_t1 v2301 k0_hw39 => k0_hw39.1
theorem k0_off98_inb : ∀ (k0_t1 : Fin k0_t1_loop.trips) (v2301 : BitVec 32) (k0_hw39 : k0_chk39 k0_t1 v2301), ∀ a, (k0_off98 k0_t1 v2301) a + S1x1x4096x256.size a ≤ S3x4x65536x256.size a := fun k0_t1 v2301 k0_hw39 => k0_hw39.2.1
theorem k0_off98_wordsi8 : ∀ (k0_t1 : Fin k0_t1_loop.trips) (v2301 : BitVec 32) (k0_hw39 : k0_chk39 k0_t1 v2301), (Rect.unit (s := S3x4x65536x256) (k0_off98 k0_t1 v2301) S1x1x4096x256.size (k0_off98_inb k0_t1 v2301 k0_hw39)).WholeWords (EltTy.packing .i8) := fun k0_t1 v2301 k0_hw39 => k0_hw39.2.2 (k0_off98_inb k0_t1 v2301 k0_hw39)

def k0_off99 (k0_t1 : Fin k0_t1_loop.trips) : Fin 4 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let v2348 : Index := Scalar.indexCast v980
  let c1_1224 : Index := 1#32
  let c0_1225 : Index := 0#32
  let c0_1226 : Index := 0#32
  ![v2348.toNat, 1, 0, 0]
def k0_off100 (k0_t1 : Fin k0_t1_loop.trips) : Fin 4 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let v2352 : Index := Scalar.indexCast v980
  let c1_1227 : Index := 1#32
  let c0_1228 : Index := 0#32
  let c0_1229 : Index := 0#32
  ![v2352.toNat, 1, 0, 0]
def k0_off101 (k0_t1 : Fin k0_t1_loop.trips) : Fin 4 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let v2367 : Index := Scalar.indexCast v980
  let c1_1235 : Index := 1#32
  let c0_1236 : Index := 0#32
  let c0_1237 : Index := 0#32
  ![v2367.toNat, 1, 0, 0]
def k0_off102 (k0_t1 : Fin k0_t1_loop.trips) : Fin 4 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let v2374 : Index := Scalar.indexCast v980
  let c1_1239 : Index := 1#32
  let c1024_1240 : Index := 1024#32
  let c0_1241 : Index := 0#32
  ![v2374.toNat, 1, 1024, 0]
def k0_off103 (k0_t1 : Fin k0_t1_loop.trips) : Fin 4 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let v2381 : Index := Scalar.indexCast v980
  let c1_1243 : Index := 1#32
  let c2048_1244 : Index := 2048#32
  let c0_1245 : Index := 0#32
  ![v2381.toNat, 1, 2048, 0]
def k0_off104 (k0_t1 : Fin k0_t1_loop.trips) : Fin 4 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let v2388 : Index := Scalar.indexCast v980
  let c1_1247 : Index := 1#32
  let c3072_1248 : Index := 3072#32
  let c0_1249 : Index := 0#32
  ![v2388.toNat, 1, 3072, 0]
def k0_off105 (k0_t1 : Fin k0_t1_loop.trips) : Fin 1 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let v2424 : Index := Scalar.indexCast v980
  ![v2424.toNat]
def k0_mult48 (v2425 : BitVec 32) : BitVec 32 :=
  let c4095_i32_1259 : BitVec 32 := 4095#32
  let v2426 : BitVec 32 := Scalar.subi v2425 c4095_i32_1259
  let c0_i32_1260 : BitVec 32 := 0#32
  let v2427 : BitVec 32 := Scalar.maxsi v2426 c0_i32_1260
  let c0_i32_1262 : BitVec 32 := 0#32
  let v2429 : BitVec 1 := Scalar.cmpi .sgt v2427 c0_i32_1262
  let v2430 : BitVec 32 := Scalar.extui v2429
  let c0_i32_1263 : BitVec 32 := 0#32
  let v2431 : BitVec 1 := Scalar.cmpi .slt v2427 c0_i32_1263
  let v2432 : BitVec 32 := Scalar.extui v2431
  let v2433 : BitVec 32 := Scalar.subi v2430 v2432
  let c32_i32_1261 : BitVec 32 := 32#32
  let c0_i32_1264 : BitVec 32 := 0#32
  let v2434 : BitVec 1 := Scalar.cmpi .sgt c32_i32_1261 c0_i32_1264
  let v2435 : BitVec 32 := Scalar.extui v2434
  let c0_i32_1265 : BitVec 32 := 0#32
  let v2436 : BitVec 1 := Scalar.cmpi .slt c32_i32_1261 c0_i32_1265
  let v2437 : BitVec 32 := Scalar.extui v2436
  let v2438 : BitVec 32 := Scalar.subi v2435 v2437
  let v2439 : BitVec 1 := Scalar.cmpi .ne v2433 v2438
  let v2440 : BitVec 32 := Scalar.remsi v2427 c32_i32_1261
  let c0_i32_1266 : BitVec 32 := 0#32
  let v2441 : BitVec 1 := Scalar.cmpi .ne v2440 c0_i32_1266
  let v2442 : BitVec 1 := Scalar.andi v2439 v2441
  let v2428 : BitVec 32 := Scalar.divsi v2427 c32_i32_1261
  let c1_i32_1267 : BitVec 32 := 1#32
  let v2443 : BitVec 32 := Scalar.subi v2428 c1_i32_1267
  let v2444 : BitVec 32 := Scalar.select v2442 v2443 v2428
  let c32_i32_1268 : BitVec 32 := 32#32
  let v2445 : BitVec 32 := Scalar.muli v2444 c32_i32_1268
  v2445

def k0_off106 (k0_t1 : Fin k0_t1_loop.trips) : Fin 2 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let c2_i32_1271 : BitVec 32 := 2#32
  ![v980.toNat, 2]
def k0_off107 (k0_t1 : Fin k0_t1_loop.trips) : Fin 4 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let c2_i32_1270 : BitVec 32 := 2#32
  let c0_i32_1272 : BitVec 32 := 0#32
  let c0_i32_1273 : BitVec 32 := 0#32
  ![v980.toNat, 2, 0, 0]
def k0_off108 (k0_t1 : Fin k0_t1_loop.trips) (v2425 : BitVec 32) : Fin 4 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let c2_i32_1269 : BitVec 32 := 2#32
  let c4095_i32_1259 : BitVec 32 := 4095#32
  let v2426 : BitVec 32 := Scalar.subi v2425 c4095_i32_1259
  let c0_i32_1260 : BitVec 32 := 0#32
  let v2427 : BitVec 32 := Scalar.maxsi v2426 c0_i32_1260
  let c0_i32_1262 : BitVec 32 := 0#32
  let v2429 : BitVec 1 := Scalar.cmpi .sgt v2427 c0_i32_1262
  let v2430 : BitVec 32 := Scalar.extui v2429
  let c0_i32_1263 : BitVec 32 := 0#32
  let v2431 : BitVec 1 := Scalar.cmpi .slt v2427 c0_i32_1263
  let v2432 : BitVec 32 := Scalar.extui v2431
  let v2433 : BitVec 32 := Scalar.subi v2430 v2432
  let c32_i32_1261 : BitVec 32 := 32#32
  let c0_i32_1264 : BitVec 32 := 0#32
  let v2434 : BitVec 1 := Scalar.cmpi .sgt c32_i32_1261 c0_i32_1264
  let v2435 : BitVec 32 := Scalar.extui v2434
  let c0_i32_1265 : BitVec 32 := 0#32
  let v2436 : BitVec 1 := Scalar.cmpi .slt c32_i32_1261 c0_i32_1265
  let v2437 : BitVec 32 := Scalar.extui v2436
  let v2438 : BitVec 32 := Scalar.subi v2435 v2437
  let v2439 : BitVec 1 := Scalar.cmpi .ne v2433 v2438
  let v2440 : BitVec 32 := Scalar.remsi v2427 c32_i32_1261
  let c0_i32_1266 : BitVec 32 := 0#32
  let v2441 : BitVec 1 := Scalar.cmpi .ne v2440 c0_i32_1266
  let v2442 : BitVec 1 := Scalar.andi v2439 v2441
  let v2428 : BitVec 32 := Scalar.divsi v2427 c32_i32_1261
  let c1_i32_1267 : BitVec 32 := 1#32
  let v2443 : BitVec 32 := Scalar.subi v2428 c1_i32_1267
  let v2444 : BitVec 32 := Scalar.select v2442 v2443 v2428
  let c32_i32_1268 : BitVec 32 := 32#32
  let v2445 : BitVec 32 := Scalar.muli v2444 c32_i32_1268
  let v2446 : BitVec 32 := v2445
  let c0_i32_1274 : BitVec 32 := 0#32
  ![v980.toNat, 2, v2446.toNat, 0]

def k0_chk40 (k0_t1 : Fin k0_t1_loop.trips) (v2425 : BitVec 32) : Prop :=
  (32 ∣ (k0_mult48 v2425).toNat) ∧
  (∀ a, (k0_off108 k0_t1 v2425) a + S1x1x4096x256.size a ≤ S3x4x65536x256.size a) ∧
  (∀ (hinb : ∀ a, (k0_off108 k0_t1 v2425) a + S1x1x4096x256.size a ≤ S3x4x65536x256.size a), (Rect.unit (s := S3x4x65536x256) (k0_off108 k0_t1 v2425) S1x1x4096x256.size hinb).WholeWords (EltTy.packing .i8))
theorem k0_mult48_dvd : ∀ (k0_t1 : Fin k0_t1_loop.trips) (v2425 : BitVec 32) (k0_hw40 : k0_chk40 k0_t1 v2425), 32 ∣ (k0_mult48 v2425).toNat := fun k0_t1 v2425 k0_hw40 => k0_hw40.1
theorem k0_off108_inb : ∀ (k0_t1 : Fin k0_t1_loop.trips) (v2425 : BitVec 32) (k0_hw40 : k0_chk40 k0_t1 v2425), ∀ a, (k0_off108 k0_t1 v2425) a + S1x1x4096x256.size a ≤ S3x4x65536x256.size a := fun k0_t1 v2425 k0_hw40 => k0_hw40.2.1
theorem k0_off108_wordsi8 : ∀ (k0_t1 : Fin k0_t1_loop.trips) (v2425 : BitVec 32) (k0_hw40 : k0_chk40 k0_t1 v2425), (Rect.unit (s := S3x4x65536x256) (k0_off108 k0_t1 v2425) S1x1x4096x256.size (k0_off108_inb k0_t1 v2425 k0_hw40)).WholeWords (EltTy.packing .i8) := fun k0_t1 v2425 k0_hw40 => k0_hw40.2.2 (k0_off108_inb k0_t1 v2425 k0_hw40)

def k0_off109 (k0_t1 : Fin k0_t1_loop.trips) : Fin 4 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let v2472 : Index := Scalar.indexCast v980
  let c2_1283 : Index := 2#32
  let c0_1284 : Index := 0#32
  let c0_1285 : Index := 0#32
  ![v2472.toNat, 2, 0, 0]
def k0_off110 (k0_t1 : Fin k0_t1_loop.trips) : Fin 4 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let v2476 : Index := Scalar.indexCast v980
  let c2_1286 : Index := 2#32
  let c0_1287 : Index := 0#32
  let c0_1288 : Index := 0#32
  ![v2476.toNat, 2, 0, 0]
def k0_off111 (k0_t1 : Fin k0_t1_loop.trips) : Fin 4 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let v2491 : Index := Scalar.indexCast v980
  let c2_1294 : Index := 2#32
  let c0_1295 : Index := 0#32
  let c0_1296 : Index := 0#32
  ![v2491.toNat, 2, 0, 0]
def k0_off112 (k0_t1 : Fin k0_t1_loop.trips) : Fin 4 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let v2498 : Index := Scalar.indexCast v980
  let c2_1298 : Index := 2#32
  let c1024_1299 : Index := 1024#32
  let c0_1300 : Index := 0#32
  ![v2498.toNat, 2, 1024, 0]
def k0_off113 (k0_t1 : Fin k0_t1_loop.trips) : Fin 4 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let v2505 : Index := Scalar.indexCast v980
  let c2_1302 : Index := 2#32
  let c2048_1303 : Index := 2048#32
  let c0_1304 : Index := 0#32
  ![v2505.toNat, 2, 2048, 0]
def k0_off114 (k0_t1 : Fin k0_t1_loop.trips) : Fin 4 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let v2512 : Index := Scalar.indexCast v980
  let c2_1306 : Index := 2#32
  let c3072_1307 : Index := 3072#32
  let c0_1308 : Index := 0#32
  ![v2512.toNat, 2, 3072, 0]
def k0_off115 (k0_t1 : Fin k0_t1_loop.trips) : Fin 1 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let v2548 : Index := Scalar.indexCast v980
  ![v2548.toNat]
def k0_mult49 (v2549 : BitVec 32) : BitVec 32 :=
  let c4095_i32_1318 : BitVec 32 := 4095#32
  let v2550 : BitVec 32 := Scalar.subi v2549 c4095_i32_1318
  let c0_i32_1319 : BitVec 32 := 0#32
  let v2551 : BitVec 32 := Scalar.maxsi v2550 c0_i32_1319
  let c0_i32_1321 : BitVec 32 := 0#32
  let v2553 : BitVec 1 := Scalar.cmpi .sgt v2551 c0_i32_1321
  let v2554 : BitVec 32 := Scalar.extui v2553
  let c0_i32_1322 : BitVec 32 := 0#32
  let v2555 : BitVec 1 := Scalar.cmpi .slt v2551 c0_i32_1322
  let v2556 : BitVec 32 := Scalar.extui v2555
  let v2557 : BitVec 32 := Scalar.subi v2554 v2556
  let c32_i32_1320 : BitVec 32 := 32#32
  let c0_i32_1323 : BitVec 32 := 0#32
  let v2558 : BitVec 1 := Scalar.cmpi .sgt c32_i32_1320 c0_i32_1323
  let v2559 : BitVec 32 := Scalar.extui v2558
  let c0_i32_1324 : BitVec 32 := 0#32
  let v2560 : BitVec 1 := Scalar.cmpi .slt c32_i32_1320 c0_i32_1324
  let v2561 : BitVec 32 := Scalar.extui v2560
  let v2562 : BitVec 32 := Scalar.subi v2559 v2561
  let v2563 : BitVec 1 := Scalar.cmpi .ne v2557 v2562
  let v2564 : BitVec 32 := Scalar.remsi v2551 c32_i32_1320
  let c0_i32_1325 : BitVec 32 := 0#32
  let v2565 : BitVec 1 := Scalar.cmpi .ne v2564 c0_i32_1325
  let v2566 : BitVec 1 := Scalar.andi v2563 v2565
  let v2552 : BitVec 32 := Scalar.divsi v2551 c32_i32_1320
  let c1_i32_1326 : BitVec 32 := 1#32
  let v2567 : BitVec 32 := Scalar.subi v2552 c1_i32_1326
  let v2568 : BitVec 32 := Scalar.select v2566 v2567 v2552
  let c32_i32_1327 : BitVec 32 := 32#32
  let v2569 : BitVec 32 := Scalar.muli v2568 c32_i32_1327
  v2569

def k0_off116 (k0_t1 : Fin k0_t1_loop.trips) : Fin 2 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let c3_i32_1330 : BitVec 32 := 3#32
  ![v980.toNat, 3]
def k0_off117 (k0_t1 : Fin k0_t1_loop.trips) : Fin 4 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let c3_i32_1329 : BitVec 32 := 3#32
  let c0_i32_1331 : BitVec 32 := 0#32
  let c0_i32_1332 : BitVec 32 := 0#32
  ![v980.toNat, 3, 0, 0]
def k0_off118 (k0_t1 : Fin k0_t1_loop.trips) (v2549 : BitVec 32) : Fin 4 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let c3_i32_1328 : BitVec 32 := 3#32
  let c4095_i32_1318 : BitVec 32 := 4095#32
  let v2550 : BitVec 32 := Scalar.subi v2549 c4095_i32_1318
  let c0_i32_1319 : BitVec 32 := 0#32
  let v2551 : BitVec 32 := Scalar.maxsi v2550 c0_i32_1319
  let c0_i32_1321 : BitVec 32 := 0#32
  let v2553 : BitVec 1 := Scalar.cmpi .sgt v2551 c0_i32_1321
  let v2554 : BitVec 32 := Scalar.extui v2553
  let c0_i32_1322 : BitVec 32 := 0#32
  let v2555 : BitVec 1 := Scalar.cmpi .slt v2551 c0_i32_1322
  let v2556 : BitVec 32 := Scalar.extui v2555
  let v2557 : BitVec 32 := Scalar.subi v2554 v2556
  let c32_i32_1320 : BitVec 32 := 32#32
  let c0_i32_1323 : BitVec 32 := 0#32
  let v2558 : BitVec 1 := Scalar.cmpi .sgt c32_i32_1320 c0_i32_1323
  let v2559 : BitVec 32 := Scalar.extui v2558
  let c0_i32_1324 : BitVec 32 := 0#32
  let v2560 : BitVec 1 := Scalar.cmpi .slt c32_i32_1320 c0_i32_1324
  let v2561 : BitVec 32 := Scalar.extui v2560
  let v2562 : BitVec 32 := Scalar.subi v2559 v2561
  let v2563 : BitVec 1 := Scalar.cmpi .ne v2557 v2562
  let v2564 : BitVec 32 := Scalar.remsi v2551 c32_i32_1320
  let c0_i32_1325 : BitVec 32 := 0#32
  let v2565 : BitVec 1 := Scalar.cmpi .ne v2564 c0_i32_1325
  let v2566 : BitVec 1 := Scalar.andi v2563 v2565
  let v2552 : BitVec 32 := Scalar.divsi v2551 c32_i32_1320
  let c1_i32_1326 : BitVec 32 := 1#32
  let v2567 : BitVec 32 := Scalar.subi v2552 c1_i32_1326
  let v2568 : BitVec 32 := Scalar.select v2566 v2567 v2552
  let c32_i32_1327 : BitVec 32 := 32#32
  let v2569 : BitVec 32 := Scalar.muli v2568 c32_i32_1327
  let v2570 : BitVec 32 := v2569
  let c0_i32_1333 : BitVec 32 := 0#32
  ![v980.toNat, 3, v2570.toNat, 0]

def k0_chk41 (k0_t1 : Fin k0_t1_loop.trips) (v2549 : BitVec 32) : Prop :=
  (32 ∣ (k0_mult49 v2549).toNat) ∧
  (∀ a, (k0_off118 k0_t1 v2549) a + S1x1x4096x256.size a ≤ S3x4x65536x256.size a) ∧
  (∀ (hinb : ∀ a, (k0_off118 k0_t1 v2549) a + S1x1x4096x256.size a ≤ S3x4x65536x256.size a), (Rect.unit (s := S3x4x65536x256) (k0_off118 k0_t1 v2549) S1x1x4096x256.size hinb).WholeWords (EltTy.packing .i8))
theorem k0_mult49_dvd : ∀ (k0_t1 : Fin k0_t1_loop.trips) (v2549 : BitVec 32) (k0_hw41 : k0_chk41 k0_t1 v2549), 32 ∣ (k0_mult49 v2549).toNat := fun k0_t1 v2549 k0_hw41 => k0_hw41.1
theorem k0_off118_inb : ∀ (k0_t1 : Fin k0_t1_loop.trips) (v2549 : BitVec 32) (k0_hw41 : k0_chk41 k0_t1 v2549), ∀ a, (k0_off118 k0_t1 v2549) a + S1x1x4096x256.size a ≤ S3x4x65536x256.size a := fun k0_t1 v2549 k0_hw41 => k0_hw41.2.1
theorem k0_off118_wordsi8 : ∀ (k0_t1 : Fin k0_t1_loop.trips) (v2549 : BitVec 32) (k0_hw41 : k0_chk41 k0_t1 v2549), (Rect.unit (s := S3x4x65536x256) (k0_off118 k0_t1 v2549) S1x1x4096x256.size (k0_off118_inb k0_t1 v2549 k0_hw41)).WholeWords (EltTy.packing .i8) := fun k0_t1 v2549 k0_hw41 => k0_hw41.2.2 (k0_off118_inb k0_t1 v2549 k0_hw41)

def k0_off119 (k0_t1 : Fin k0_t1_loop.trips) : Fin 4 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let v2596 : Index := Scalar.indexCast v980
  let c3_1342 : Index := 3#32
  let c0_1343 : Index := 0#32
  let c0_1344 : Index := 0#32
  ![v2596.toNat, 3, 0, 0]
def k0_off120 (k0_t1 : Fin k0_t1_loop.trips) : Fin 4 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let v2600 : Index := Scalar.indexCast v980
  let c3_1345 : Index := 3#32
  let c0_1346 : Index := 0#32
  let c0_1347 : Index := 0#32
  ![v2600.toNat, 3, 0, 0]
def k0_off121 (k0_t1 : Fin k0_t1_loop.trips) : Fin 4 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let v2615 : Index := Scalar.indexCast v980
  let c3_1353 : Index := 3#32
  let c0_1354 : Index := 0#32
  let c0_1355 : Index := 0#32
  ![v2615.toNat, 3, 0, 0]
def k0_off122 (k0_t1 : Fin k0_t1_loop.trips) : Fin 4 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let v2622 : Index := Scalar.indexCast v980
  let c3_1357 : Index := 3#32
  let c1024_1358 : Index := 1024#32
  let c0_1359 : Index := 0#32
  ![v2622.toNat, 3, 1024, 0]
def k0_off123 (k0_t1 : Fin k0_t1_loop.trips) : Fin 4 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let v2629 : Index := Scalar.indexCast v980
  let c3_1361 : Index := 3#32
  let c2048_1362 : Index := 2048#32
  let c0_1363 : Index := 0#32
  ![v2629.toNat, 3, 2048, 0]
def k0_off124 (k0_t1 : Fin k0_t1_loop.trips) : Fin 4 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let v2636 : Index := Scalar.indexCast v980
  let c3_1365 : Index := 3#32
  let c3072_1366 : Index := 3072#32
  let c0_1367 : Index := 0#32
  ![v2636.toNat, 3, 3072, 0]
def k0_off125 (k0_t1 : Fin k0_t1_loop.trips) : Fin 3 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let v2676 : Index := Scalar.indexCast v980
  let c0_1377 : Index := 0#32
  let c0_1378 : Index := 0#32
  ![v2676.toNat, 0, 0]
def k0_off126 (k0_t1 : Fin k0_t1_loop.trips) : Fin 3 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let v2681 : Index := Scalar.indexCast v980
  let c0_1379 : Index := 0#32
  let c256 : Index := 256#32
  ![v2681.toNat, 0, 256]
def k0_off127 (k0_t1 : Fin k0_t1_loop.trips) : Fin 3 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let v2686 : Index := Scalar.indexCast v980
  let c0_1380 : Index := 0#32
  let c512 : Index := 512#32
  ![v2686.toNat, 0, 512]
def k0_off128 (k0_t1 : Fin k0_t1_loop.trips) : Fin 3 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let v2691 : Index := Scalar.indexCast v980
  let c0_1381 : Index := 0#32
  let c768 : Index := 768#32
  ![v2691.toNat, 0, 768]
def k0_off129 (k0_t1 : Fin k0_t1_loop.trips) : Fin 3 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let v2696 : Index := Scalar.indexCast v980
  let c0_1382 : Index := 0#32
  let c1024_1383 : Index := 1024#32
  ![v2696.toNat, 0, 1024]
def k0_off130 (k0_t1 : Fin k0_t1_loop.trips) : Fin 3 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let v2701 : Index := Scalar.indexCast v980
  let c0_1384 : Index := 0#32
  let c1280 : Index := 1280#32
  ![v2701.toNat, 0, 1280]
def k0_off131 (k0_t1 : Fin k0_t1_loop.trips) : Fin 3 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let v2706 : Index := Scalar.indexCast v980
  let c0_1385 : Index := 0#32
  let c1536 : Index := 1536#32
  ![v2706.toNat, 0, 1536]
def k0_off132 (k0_t1 : Fin k0_t1_loop.trips) : Fin 3 → Nat :=
  let c0_i32_643 : BitVec 32 := 0#32
  let c0_i32_638 : BitVec 32 := 0#32
  let c1_i32_640 : BitVec 32 := 1#32
  let arg19 : BitVec 32 := Scf.iv c0_i32_638 c1_i32_640 k0_t1
  let c1_i32_642 : BitVec 32 := 1#32
  let v979 : BitVec 32 := Scalar.muli arg19 c1_i32_642
  let v980 : BitVec 32 := Scalar.addi c0_i32_643 v979
  let v2711 : Index := Scalar.indexCast v980
  let c0_1386 : Index := 0#32
  let c1792 : Index := 1792#32
  ![v2711.toNat, 0, 1792]
abbrev stage0_0 : Fin 1 → Memref sig .tc .smem S3 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x1x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x4x1x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x4x1x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x1x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x4x1x256 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x4x1x256 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ReferenceIdeal.lean ====
abbrev S3x1x2048 : Shape := ⟨3, ![3, 1, 2048]⟩
abbrev S3x4x1x256 : Shape := ⟨4, ![3, 4, 1, 256]⟩
abbrev S3x4x65536x256 : Shape := ⟨4, ![3, 4, 65536, 256]⟩
abbrev S4x256 : Shape := ⟨2, ![4, 256]⟩
abbrev S4 : Shape := ⟨1, ![4]⟩
abbrev S3 : Shape := ⟨1, ![3]⟩
abbrev S1x4x1x256 : Shape := ⟨4, ![1, 4, 1, 256]⟩
abbrev S1x4x1x1 : Shape := ⟨4, ![1, 4, 1, 1]⟩
abbrev S12x2x256 : Shape := ⟨3, ![12, 2, 256]⟩
abbrev S12x65536x256 : Shape := ⟨3, ![12, 65536, 256]⟩
abbrev S12x2x65536 : Shape := ⟨3, ![12, 2, 65536]⟩
abbrev S12x1x256 : Shape := ⟨3, ![12, 1, 256]⟩
abbrev S12x2x1 : Shape := ⟨3, ![12, 2, 1]⟩
abbrev S3x4x2x65536 : Shape := ⟨4, ![3, 4, 2, 65536]⟩
abbrev S3x4x2x1 : Shape := ⟨4, ![3, 4, 2, 1]⟩
abbrev S3x1x1x1 : Shape := ⟨4, ![3, 1, 1, 1]⟩
abbrev S3x4x2 : Shape := ⟨3, ![3, 4, 2]⟩
abbrev S3x4x2x256 : Shape := ⟨4, ![3, 4, 2, 256]⟩

abbrev nBuf : Space → Nat
  | .hbm => 11
  | .vmem => 11
  | .smem => 0
  | _ => 0

abbrev bufTy : (tb : Table) → Fin (tcTables nBuf tb) → BufTy
  | .hbm, ⟨0, _⟩ => ⟨S3x1x2048, .bf16⟩
  | .hbm, ⟨1, _⟩ => ⟨S3x4x1x256, .bf16⟩
  | .hbm, ⟨2, _⟩ => ⟨S3x4x1x256, .bf16⟩
  | .hbm, ⟨3, _⟩ => ⟨S3x4x65536x256, .i8⟩
  | .hbm, ⟨4, _⟩ => ⟨S3x4x65536x256, .i8⟩
  | .hbm, ⟨5, _⟩ => ⟨S4x256, .f32⟩
  | .hbm, ⟨6, _⟩ => ⟨S4, .f32⟩
  | .hbm, ⟨7, _⟩ => ⟨S3, .i32⟩
  | .hbm, ⟨8, _⟩ => ⟨S3x1x2048, .bf16⟩
  | .hbm, ⟨9, _⟩ => ⟨S3x4x1x256, .i8⟩
  | .hbm, ⟨10, _⟩ => ⟨S3x4x1x256, .i8⟩
  | .local _ .vmem, ⟨0, _⟩ => ⟨S3x1x2048, .bf16⟩
  | .local _ .vmem, ⟨1, _⟩ => ⟨S3x4x1x256, .bf16⟩
  | .local _ .vmem, ⟨2, _⟩ => ⟨S3x4x1x256, .bf16⟩
  | .local _ .vmem, ⟨3, _⟩ => ⟨S3x4x65536x256, .i8⟩
  | .local _ .vmem, ⟨4, _⟩ => ⟨S3x4x65536x256, .i8⟩
  | .local _ .vmem, ⟨5, _⟩ => ⟨S4x256, .f32⟩
  | .local _ .vmem, ⟨6, _⟩ => ⟨S4, .f32⟩
  | .local _ .vmem, ⟨7, _⟩ => ⟨S3, .i32⟩
  | .local _ .vmem, ⟨8, _⟩ => ⟨S3x1x2048, .bf16⟩
  | .local _ .vmem, ⟨9, _⟩ => ⟨S3x4x1x256, .i8⟩
  | .local _ .vmem, ⟨10, _⟩ => ⟨S3x4x1x256, .i8⟩
  | _, _ => ⟨S3x1x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S3x1x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x4x1x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x4x1x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x4x65536x256 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x4x65536x256 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x1x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3x4x1x256 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3x4x1x256 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Kernel.Checks.lean ====
/- The first row of a window, and the side conditions the body assumes of the words it reads: each of them
   holds for a length between 0 and 65536. -/
module

public import proofs.«01_k».proof.Proof.Gen.Kernel
public import Idealize.ShloMosaic.Lib.Affine

@[expose] public section

namespace Cert.Kernel.Hand

open Cert.Kernel Cert.Kernel.Gen
open Idealize.ShloMosaic
open Idealize.ShloMosaic.Affine (IsInt)

/-- A length the kernel is called with: between 0 and 65536. -/
def InRange (v : BitVec 32) : Prop := 0 ≤ v.toInt ∧ v.toInt ≤ 65536

/-- The first row of the window of 4096 rows the kernel fetches, as the kernel computes it. -/
def baseW (v : BitVec 32) : BitVec 32 := k0_mult1 v
/-- The first of the 32 further rows it fetches, as the kernel computes it. -/
def extraW (v : BitVec 32) : BitVec 32 := k0_mult2 v

/-- `max(len - 4095, 0)` rounded down to a multiple of 32. -/
theorem isInt_base {v : BitVec 32} (hv : InRange v) : IsInt (baseW v) (max (v.toInt - 4095) 0 / 32 * 32) := by
  obtain ⟨h0, h1⟩ := hv
  have hw := Affine.word v
  have h4095 : IsInt 4095#32 4095 := Affine.ofNat 4095 (by omega)
  have hz : IsInt 0#32 0 := Affine.ofNat 0 (by omega)
  have hone : IsInt 1#32 1 := Affine.ofNat 1 (by omega)
  have h32 : IsInt 32#32 32 := Affine.ofNat 32 (by omega)
  have hm : IsInt (Scalar.maxsi (Scalar.subi v 4095#32) 0#32) (max (v.toInt - 4095) 0) :=
    Affine.maxsi (Affine.subi hw h4095 (e := v.toInt - 4095) (by omega)) hz rfl
  have hq : IsInt (Scalar.divsi (Scalar.maxsi (Scalar.subi v 4095#32) 0#32) 32#32) (max (v.toInt - 4095) 0 / 32) :=
    Affine.divsi hm h32 (by omega)
  have hr : IsInt (Scalar.remsi (Scalar.maxsi (Scalar.subi v 4095#32) 0#32) 32#32) (max (v.toInt - 4095) 0 % 32) :=
    Affine.remsi hm h32 (by omega)
  unfold baseW k0_mult1
  refine Affine.muli (ea := max (v.toInt - 4095) 0 / 32) (Affine.select_fails ?_
    (Affine.subi hq hone (e := max (v.toInt - 4095) 0 / 32 - 1) (by omega)) hq rfl) h32 (by omega)
  by_cases hs : v.toInt ≤ 4095
  · exact Affine.andi_fails_right trivial (Affine.ne_fails hr hz (by omega))
  · refine Affine.andi_fails_left (Affine.ne_fails (ea := 1) (eb := 1) ?_ ?_ rfl) trivial
    · exact Affine.subi (Affine.extui_holds (Affine.sgt_holds hm hz (by omega)) rfl)
        (Affine.extui_fails (Affine.slt_fails hm hz (by omega)) rfl) (by omega)
    · exact Affine.subi (Affine.extui_holds (Affine.sgt_holds h32 hz (by omega)) rfl)
        (Affine.extui_fails (Affine.slt_fails h32 hz (by omega)) rfl) (by omega)

/-- The further rows start where the window ends, but not past row 65504. -/
theorem isInt_extra {v : BitVec 32} (hv : InRange v) :
    IsInt (extraW v) (min (max (v.toInt - 4095) 0 / 32 * 32 + 4096) 65504) := by
  have hb := isInt_base hv
  obtain ⟨h0, h1⟩ := hv
  exact Affine.minsi (Affine.addi hb (Affine.ofNat (e := 4096) 4096 (by omega)) (e := max (v.toInt - 4095) 0 / 32 * 32 + 4096) (by omega)) (Affine.ofNat (e := 65504) 65504 (by omega)) rfl

/-- The length as a natural number. -/
theorem toInt_eq {v : BitVec 32} (hv : InRange v) : v.toInt = (v.toNat : Int) := by
  obtain ⟨h0, h1⟩ := hv
  have := Affine.toNat_of (Affine.word v) h0
  omega

theorem len_le {v : BitVec 32} (hv : InRange v) : v.toNat ≤ 65536 := by
  have := toInt_eq hv; obtain ⟨h0, h1⟩ := hv; omega

theorem base_eq {v : BitVec 32} (hv : InRange v) : (baseW v).toNat = (v.toNat - 4095) / 32 * 32 := by
  have h := Affine.toNat_of (isInt_base hv) (by omega)
  have := toInt_eq hv
  omega

theorem extra_eq {v : BitVec 32} (hv : InRange v) : (extraW v).toNat = min ((baseW v).toNat + 4096) 65504 := by
  have h := Affine.toNat_of (isInt_extra hv) (by omega)
  have := toInt_eq hv
  have := base_eq hv
  omega

/-- What a fetch of one head's 4096 rows asks of its place. -/
theorem chk_main {v : BitVec 32} (hv : InRange v) {off : Fin 4 → Nat} (b h : Nat) (hb : b < 3) (hh : h < 4)
    (e : off = ![b, h, (baseW v).toNat, 0]) :
    (32 ∣ (baseW v).toNat) ∧ (∀ a, off a + S1x1x4096x256.size a ≤ S3x4x65536x256.size a) ∧
    (∀ (hinb : ∀ a, off a + S1x1x4096x256.size a ≤ S3x4x65536x256.size a),
      (Rect.unit (s := S3x4x65536x256) off S1x1x4096x256.size hinb).WholeWords (EltTy.packing .i8)) := by
  have hbe := base_eq hv
  have hl := len_le hv
  have hd : 32 ∣ (baseW v).toNat := by omega
  subst e
  refine ⟨hd, ?_, fun hinb => Affine.words_of_packed (Affine.packed_dvd (by decide) ?_ ?_)⟩
  · intro a; fin_cases a <;> simp [S1x1x4096x256, S3x4x65536x256] <;> omega
  · exact Dvd.dvd.trans (by decide : (4:Nat) ∣ 32) hd
  · decide

/-- What a fetch of the further rows asks of its place. -/
theorem chk_extra {v : BitVec 32} (hv : InRange v) {off : Fin 4 → Nat} (b : Nat) (hb : b < 3)
    (e : off = ![b, 0, (extraW v).toNat, 0]) :
    (32 ∣ (baseW v).toNat) ∧ (32 ∣ (extraW v).toNat) ∧ (∀ a, off a + S1x4x32x256.size a ≤ S3x4x65536x256.size a) ∧
    (∀ (hinb : ∀ a, off a + S1x4x32x256.size a ≤ S3x4x65536x256.size a),
      (Rect.unit (s := S3x4x65536x256) off S1x4x32x256.size hinb).WholeWords (EltTy.packing .i8)) := by
  have hbe := base_eq hv
  have hxe := extra_eq hv
  have hl := len_le hv
  have hd : 32 ∣ (extraW v).toNat := by omega
  subst e
  refine ⟨by omega, hd, ?_, fun hinb => Affine.words_of_packed (Affine.packed_dvd (by decide) ?_ ?_)⟩
  · intro a; fin_cases a <;> simp [S1x4x32x256, S3x4x65536x256] <;> omega
  · exact Dvd.dvd.trans (by decide : (4:Nat) ∣ 32) hd
  · decide

variable {v : BitVec 32} (hv : InRange v) (k : Fin k0_t1_loop.trips)
include hv

theorem chk1 : k0_chk1 v := chk_extra hv 0 (by decide) rfl
theorem chk2 : k0_chk2 v := chk_extra hv 0 (by decide) rfl
theorem chk3 : k0_chk3 v := chk_main hv 0 0 (by decide) (by decide) rfl
theorem chk4 : k0_chk4 v := chk_main hv 0 1 (by decide) (by decide) rfl
theorem chk5 : k0_chk5 v := chk_main hv 0 2 (by decide) (by decide) rfl
theorem chk6 : k0_chk6 v := chk_main hv 0 3 (by decide) (by decide) rfl
theorem chk7 : k0_chk7 v := chk_main hv 0 0 (by decide) (by decide) rfl
theorem chk8 : k0_chk8 v := chk_main hv 0 1 (by decide) (by decide) rfl
theorem chk9 : k0_chk9 v := chk_main hv 0 2 (by decide) (by decide) rfl
theorem chk10 : k0_chk10 v := chk_main hv 0 3 (by decide) (by decide) rfl
theorem chk11 : k0_chk11 v := chk_extra hv 1 (by decide) rfl
theorem chk12 : k0_chk12 v := chk_extra hv 1 (by decide) rfl
theorem chk13 : k0_chk13 v := chk_main hv 1 0 (by decide) (by decide) rfl
theorem chk14 : k0_chk14 v := chk_main hv 1 1 (by decide) (by decide) rfl
theorem chk15 : k0_chk15 v := chk_main hv 1 2 (by decide) (by decide) rfl
theorem chk16 : k0_chk16 v := chk_main hv 1 3 (by decide) (by decide) rfl
theorem chk17 : k0_chk17 v := chk_main hv 1 0 (by decide) (by decide) rfl
theorem chk18 : k0_chk18 v := chk_main hv 1 1 (by decide) (by decide) rfl
theorem chk19 : k0_chk19 v := chk_main hv 1 2 (by decide) (by decide) rfl
theorem chk20 : k0_chk20 v := chk_main hv 1 3 (by decide) (by decide) rfl
theorem chk21 : k0_chk21 v := chk_extra hv 2 (by decide) rfl
theorem chk22 : k0_chk22 v := chk_extra hv 2 (by decide) rfl
theorem chk23 : k0_chk23 v := chk_main hv 2 0 (by decide) (by decide) rfl
theorem chk24 : k0_chk24 v := chk_main hv 2 1 (by decide) (by decide) rfl
theorem chk25 : k0_chk25 v := chk_main hv 2 2 (by decide) (by decide) rfl
theorem chk26 : k0_chk26 v := chk_main hv 2 3 (by decide) (by decide) rfl
theorem chk27 : k0_chk27 v := chk_main hv 2 0 (by decide) (by decide) rfl
theorem chk28 : k0_chk28 v := chk_main hv 2 1 (by decide) (by decide) rfl
theorem chk29 : k0_chk29 v := chk_main hv 2 2 (by decide) (by decide) rfl
theorem chk30 : k0_chk30 v := chk_main hv 2 3 (by decide) (by decide) rfl
theorem chk31 : k0_chk31 v := (chk_main hv 0 0 (by decide) (by decide) rfl).1

omit hv in
/-- The trip counter of a loop of three trips, as the word the body computes it by, is the trip. -/
theorem trip_word : ∀ k : Fin k0_t1_loop.trips, k.val < 3 ∧
    (Scalar.indexCast (Scalar.addi 0#32 (Scalar.muli (Scf.iv 0#32 1#32 k) 1#32))).toNat = k.val := by decide
theorem chk32 : k0_chk32 k v := chk_extra hv k.val (trip_word k).1 (congrArg (fun n => ![n, 0, (extraW v).toNat, 0]) (trip_word k).2)
theorem chk33 : k0_chk33 k v := chk_main hv k.val 0 (trip_word k).1 (by decide) (congrArg (fun n => ![n, 0, (baseW v).toNat, 0]) (trip_word k).2)
theorem chk34 : k0_chk34 k v := chk_main hv k.val 1 (trip_word k).1 (by decide) (congrArg (fun n => ![n, 1, (baseW v).toNat, 0]) (trip_word k).2)
theorem chk35 : k0_chk35 k v := chk_main hv k.val 2 (trip_word k).1 (by decide) (congrArg (fun n => ![n, 2, (baseW v).toNat, 0]) (trip_word k).2)
theorem chk36 : k0_chk36 k v := chk_main hv k.val 3 (trip_word k).1 (by decide) (congrArg (fun n => ![n, 3, (baseW v).toNat, 0]) (trip_word k).2)
theorem chk37 : k0_chk37 k v := chk_extra hv k.val (trip_word k).1 (congrArg (fun n => ![n, 0, (extraW v).toNat, 0]) (trip_word k).2)
theorem chk38 : k0_chk38 k v := chk_main hv k.val 0 (trip_word k).1 (by decide) (congrArg (fun n => ![n, 0, (baseW v).toNat, 0]) (trip_word k).2)
theorem chk39 : k0_chk39 k v := chk_main hv k.val 1 (trip_word k).1 (by decide) (congrArg (fun n => ![n, 1, (baseW v).toNat, 0]) (trip_word k).2)
theorem chk40 : k0_chk40 k v := chk_main hv k.val 2 (trip_word k).1 (by decide) (congrArg (fun n => ![n, 2, (baseW v).toNat, 0]) (trip_word k).2)
theorem chk41 : k0_chk41 k v := chk_main hv k.val 3 (trip_word k).1 (by decide) (congrArg (fun n => ![n, 3, (baseW v).toNat, 0]) (trip_word k).2)

end Cert.Kernel.Hand

end
-- ==== Proof.Kernel.Slots.lean ====
/- The windows of the scratch buffers and the semaphore cells the kernel's transfers use, under one name each:
   a window of 4096 cached rows per batch entry and head, a window of 32 further rows of all heads per batch
   entry, and the cell each transfer is counted on. -/
module

public import proofs.«01_k».proof.Proof.Gen.Kernel.Launch
public import proofs.«01_k».proof.Proof.Gen.Kernel.Skeleton
public import Idealize.ShloMosaic.Lib.Pipeline.FrameBody
public import Idealize.ShloMosaic.Lib.Ring
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic

/-- A trip of the loop over the batch, as a number below 3. -/
abbrev bt (k : Fin k0_t1_loop.trips) : Fin 3 := ⟨k.val, Nat.lt_of_lt_of_eq k.isLt (by decide +kernel)⟩

/-- The four scratch buffers the transfers fill, and the two caches they read. -/
abbrev kM : Memref sig .tc .vmem S3x4x4096x256 .i8 := Memref.whole cc0_scratch0
abbrev vM : Memref sig .tc .vmem S3x4x4096x256 .i8 := Memref.whole cc0_scratch1
abbrev kxM : Memref sig .tc .vmem S3x4x32x256 .i8 := Memref.whole cc0_scratch2
abbrev vxM : Memref sig .tc .vmem S3x4x32x256 .i8 := Memref.whole cc0_scratch3
abbrev sM : Memref sig .tc .vmem S8x4096 .f32 := Memref.whole cc0_scratch4
abbrev ckM : Memref sig .tc .hbm S3x4x65536x256 .i8 := Memref.whole main_arg3
abbrev cvM : Memref sig .tc .hbm S3x4x65536x256 .i8 := Memref.whole main_arg4

abbrev mainOff (b : Fin 3) (h : Fin 4) : Fin 4 → Nat := ![b.val, h.val, 0, 0]
theorem mainOff_inb (b : Fin 3) (h : Fin 4) : ∀ a, mainOff b h a + S1x1x4096x256.size a ≤ S3x4x4096x256.size a := by
  have := b.isLt; have := h.isLt; intro a; fin_cases a
  · show b.val + 1 ≤ 3; omega
  · show h.val + 1 ≤ 4; omega
  · show 0 + 4096 ≤ 4096; omega
  · show 0 + 256 ≤ 256; omega
abbrev extraOff (b : Fin 3) : Fin 4 → Nat := ![b.val, 0, 0, 0]
theorem extraOff_inb (b : Fin 3) : ∀ a, extraOff b a + S1x4x32x256.size a ≤ S3x4x32x256.size a := by
  have := b.isLt; intro a; fin_cases a
  · show b.val + 1 ≤ 3; omega
  · show 0 + 4 ≤ 4; omega
  · show 0 + 32 ≤ 32; omega
  · show 0 + 256 ≤ 256; omega
abbrev cellOff (b : Fin 3) (h : Fin 4) : Fin 2 → Nat := ![b.val, h.val]
theorem cellOff_inb (b : Fin 3) (h : Fin 4) : ∀ a, cellOff b h a + S1x1.size a ≤ S3x4.size a := by
  have := b.isLt; have := h.isLt; intro a; fin_cases a
  · show b.val + 1 ≤ 3; omega
  · show h.val + 1 ≤ 4; omega
abbrev xcellOff (b : Fin 3) (j : Fin 2) : Fin 2 → Nat := ![b.val, j.val]
theorem xcellOff_inb (b : Fin 3) (j : Fin 2) : ∀ a, xcellOff b j a + S1x1.size a ≤ S3x2.size a := by
  have := b.isLt; have := j.isLt; intro a; fin_cases a
  · show b.val + 1 ≤ 3; omega
  · show j.val + 1 ≤ 2; omega

/-- The window of 4096 key rows of batch entry `b`, head `h`. -/
def kslot (b : Fin 3) (h : Fin 4) : Memref sig .tc .vmem S4096x256 .i8 :=
  (kM.slice (Rect.unit (s := S3x4x4096x256) (mainOff b h) S1x1x4096x256.size (mainOff_inb b h)) (fun _ => rfl)).squeeze S4096x256 squeezes_S1x1x4096x256_S4096x256
/-- The window of 4096 value rows of batch entry `b`, head `h`. -/
def vslot (b : Fin 3) (h : Fin 4) : Memref sig .tc .vmem S4096x256 .i8 :=
  (vM.slice (Rect.unit (s := S3x4x4096x256) (mainOff b h) S1x1x4096x256.size (mainOff_inb b h)) (fun _ => rfl)).squeeze S4096x256 squeezes_S1x1x4096x256_S4096x256
/-- The window of the 32 further key rows of batch entry `b`, all heads. -/
def kxslot (b : Fin 3) : Memref sig .tc .vmem S4x32x256 .i8 :=
  (kxM.slice (Rect.unit (s := S3x4x32x256) (extraOff b) S1x4x32x256.size (extraOff_inb b)) (fun _ => rfl)).squeeze S4x32x256 squeezes_S1x4x32x256_S4x32x256
/-- The window of the 32 further value rows of batch entry `b`, all heads. -/
def vxslot (b : Fin 3) : Memref sig .tc .vmem S4x32x256 .i8 :=
  (vxM.slice (Rect.unit (s := S3x4x32x256) (extraOff b) S1x4x32x256.size (extraOff_inb b)) (fun _ => rfl)).squeeze S4x32x256 squeezes_S1x4x32x256_S4x32x256
/-- The cell the key window of `(b, h)` is counted on. -/
def kcell (b : Fin 3) (h : Fin 4) : DmaSems sig S_ :=
  (cc0_scratch5.slice (Rect.unit (s := S3x4) (cellOff b h) S1x1.size (cellOff_inb b h))).squeeze S_ squeezes_S1x1_S_
/-- The cell the value window of `(b, h)` is counted on. -/
def vcell (b : Fin 3) (h : Fin 4) : DmaSems sig S_ :=
  (cc0_scratch6.slice (Rect.unit (s := S3x4) (cellOff b h) S1x1.size (cellOff_inb b h))).squeeze S_ squeezes_S1x1_S_
/-- The cells the further rows of `b` are counted on: 0 the key rows, 1 the value rows. -/
def xcell (b : Fin 3) (j : Fin 2) : DmaSems sig S_ :=
  (cc0_scratch7.slice (Rect.unit (s := S3x2) (xcellOff b j) S1x1.size (xcellOff_inb b j))).squeeze S_ squeezes_S1x1_S_

instance (k : Fin k0_t1_loop.trips) : ClosedOff (mainOff (bt k) 0) := ⟨![k.val, 0, 0, 0], rfl⟩
instance (k : Fin k0_t1_loop.trips) : ClosedOff (mainOff (bt k) 1) := ⟨![k.val, 1, 0, 0], rfl⟩
instance (k : Fin k0_t1_loop.trips) : ClosedOff (mainOff (bt k) 2) := ⟨![k.val, 2, 0, 0], rfl⟩
instance (k : Fin k0_t1_loop.trips) : ClosedOff (mainOff (bt k) 3) := ⟨![k.val, 3, 0, 0], rfl⟩
instance (k : Fin k0_t1_loop.trips) : ClosedOff (extraOff (bt k)) := ⟨![k.val, 0, 0, 0], rfl⟩

/-! ### A slice at an offset equal to a window's offset is that window -/

theorem kslot_congr {off : Fin 4 → Nat} {b : Fin 3} {h : Fin 4} (e : off = mainOff b h) (hh hs) :
    (kM.slice (Rect.unit (s := S3x4x4096x256) off S1x1x4096x256.size hh) hs).squeeze S4096x256 squeezes_S1x1x4096x256_S4096x256 = kslot b h :=
  congrArg (fun M : Memref sig .tc .vmem S1x1x4096x256 .i8 => M.squeeze S4096x256 squeezes_S1x1x4096x256_S4096x256) (Memref.slice_unit_congr _ e _ _ _ _)
theorem vslot_congr {off : Fin 4 → Nat} {b : Fin 3} {h : Fin 4} (e : off = mainOff b h) (hh hs) :
    (vM.slice (Rect.unit (s := S3x4x4096x256) off S1x1x4096x256.size hh) hs).squeeze S4096x256 squeezes_S1x1x4096x256_S4096x256 = vslot b h :=
  congrArg (fun M : Memref sig .tc .vmem S1x1x4096x256 .i8 => M.squeeze S4096x256 squeezes_S1x1x4096x256_S4096x256) (Memref.slice_unit_congr _ e _ _ _ _)
theorem kxslot_congr {off : Fin 4 → Nat} {b : Fin 3} (e : off = extraOff b) (hh hs) :
    (kxM.slice (Rect.unit (s := S3x4x32x256) off S1x4x32x256.size hh) hs).squeeze S4x32x256 squeezes_S1x4x32x256_S4x32x256 = kxslot b :=
  congrArg (fun M : Memref sig .tc .vmem S1x4x32x256 .i8 => M.squeeze S4x32x256 squeezes_S1x4x32x256_S4x32x256) (Memref.slice_unit_congr _ e _ _ _ _)
theorem vxslot_congr {off : Fin 4 → Nat} {b : Fin 3} (e : off = extraOff b) (hh hs) :
    (vxM.slice (Rect.unit (s := S3x4x32x256) off S1x4x32x256.size hh) hs).squeeze S4x32x256 squeezes_S1x4x32x256_S4x32x256 = vxslot b :=
  congrArg (fun M : Memref sig .tc .vmem S1x4x32x256 .i8 => M.squeeze S4x32x256 squeezes_S1x4x32x256_S4x32x256) (Memref.slice_unit_congr _ e _ _ _ _)
theorem kcell_congr {off : Fin 2 → Nat} {b : Fin 3} {h : Fin 4} (e : off = cellOff b h) (hh) :
    (cc0_scratch5.slice (Rect.unit (s := S3x4) off S1x1.size hh)).squeeze S_ squeezes_S1x1_S_ = kcell b h :=
  congrArg (fun A : DmaSems sig S1x1 => A.squeeze S_ squeezes_S1x1_S_) (SemArray.slice_unit_congr _ e _ _)
theorem vcell_congr {off : Fin 2 → Nat} {b : Fin 3} {h : Fin 4} (e : off = cellOff b h) (hh) :
    (cc0_scratch6.slice (Rect.unit (s := S3x4) off S1x1.size hh)).squeeze S_ squeezes_S1x1_S_ = vcell b h :=
  congrArg (fun A : DmaSems sig S1x1 => A.squeeze S_ squeezes_S1x1_S_) (SemArray.slice_unit_congr _ e _ _)
theorem xcell_congr {off : Fin 2 → Nat} {b : Fin 3} {j : Fin 2} (e : off = xcellOff b j) (hh) :
    (cc0_scratch7.slice (Rect.unit (s := S3x2) off S1x1.size hh)).squeeze S_ squeezes_S1x1_S_ = xcell b j :=
  congrArg (fun A : DmaSems sig S1x1 => A.squeeze S_ squeezes_S1x1_S_) (SemArray.slice_unit_congr _ e _ _)

/-! ### The trip's windows and cells -/

section Canon
variable (k : Fin k0_t1_loop.trips)

@[sl_canon] theorem slot39 (hh hs) : (kxM.slice (Rect.unit (s := S3x4x32x256) (k0_off39 k) S1x4x32x256.size hh) hs).squeeze S4x32x256 squeezes_S1x4x32x256_S4x32x256 = kxslot (bt k) :=
  kxslot_congr (k0_off39_eq k) _ _
@[sl_canon] theorem slot43 (hh hs) : (kM.slice (Rect.unit (s := S3x4x4096x256) (k0_off43 k) S1x1x4096x256.size hh) hs).squeeze S4096x256 squeezes_S1x1x4096x256_S4096x256 = kslot (bt k) 0 :=
  kslot_congr (k0_off43_eq k) _ _
@[sl_canon] theorem slot53 (hh hs) : (kM.slice (Rect.unit (s := S3x4x4096x256) (k0_off53 k) S1x1x4096x256.size hh) hs).squeeze S4096x256 squeezes_S1x1x4096x256_S4096x256 = kslot (bt k) 1 :=
  kslot_congr (k0_off53_eq k) _ _
@[sl_canon] theorem slot63 (hh hs) : (kM.slice (Rect.unit (s := S3x4x4096x256) (k0_off63 k) S1x1x4096x256.size hh) hs).squeeze S4096x256 squeezes_S1x1x4096x256_S4096x256 = kslot (bt k) 2 :=
  kslot_congr (k0_off63_eq k) _ _
@[sl_canon] theorem slot73 (hh hs) : (kM.slice (Rect.unit (s := S3x4x4096x256) (k0_off73 k) S1x1x4096x256.size hh) hs).squeeze S4096x256 squeezes_S1x1x4096x256_S4096x256 = kslot (bt k) 3 :=
  kslot_congr (k0_off73_eq k) _ _
@[sl_canon] theorem slot83 (hh hs) : (vxM.slice (Rect.unit (s := S3x4x32x256) (k0_off83 k) S1x4x32x256.size hh) hs).squeeze S4x32x256 squeezes_S1x4x32x256_S4x32x256 = vxslot (bt k) :=
  vxslot_congr (k0_off83_eq k) _ _
@[sl_canon] theorem slot87 (hh hs) : (vM.slice (Rect.unit (s := S3x4x4096x256) (k0_off87 k) S1x1x4096x256.size hh) hs).squeeze S4096x256 squeezes_S1x1x4096x256_S4096x256 = vslot (bt k) 0 :=
  vslot_congr (k0_off87_eq k) _ _
@[sl_canon] theorem slot97 (hh hs) : (vM.slice (Rect.unit (s := S3x4x4096x256) (k0_off97 k) S1x1x4096x256.size hh) hs).squeeze S4096x256 squeezes_S1x1x4096x256_S4096x256 = vslot (bt k) 1 :=
  vslot_congr (k0_off97_eq k) _ _
@[sl_canon] theorem slot107 (hh hs) : (vM.slice (Rect.unit (s := S3x4x4096x256) (k0_off107 k) S1x1x4096x256.size hh) hs).squeeze S4096x256 squeezes_S1x1x4096x256_S4096x256 = vslot (bt k) 2 :=
  vslot_congr (k0_off107_eq k) _ _
@[sl_canon] theorem slot117 (hh hs) : (vM.slice (Rect.unit (s := S3x4x4096x256) (k0_off117 k) S1x1x4096x256.size hh) hs).squeeze S4096x256 squeezes_S1x1x4096x256_S4096x256 = vslot (bt k) 3 :=
  vslot_congr (k0_off117_eq k) _ _
@[sl_canon] theorem cell38 (hh) : (cc0_scratch7.slice (Rect.unit (s := S3x2) (k0_off38 k) S1x1.size hh)).squeeze S_ squeezes_S1x1_S_ = xcell (bt k) 0 := xcell_congr (k0_off38_eq k) _
@[sl_canon] theorem cell42 (hh) : (cc0_scratch5.slice (Rect.unit (s := S3x4) (k0_off42 k) S1x1.size hh)).squeeze S_ squeezes_S1x1_S_ = kcell (bt k) 0 := kcell_congr (k0_off42_eq k) _
@[sl_canon] theorem cell52 (hh) : (cc0_scratch5.slice (Rect.unit (s := S3x4) (k0_off52 k) S1x1.size hh)).squeeze S_ squeezes_S1x1_S_ = kcell (bt k) 1 := kcell_congr (k0_off52_eq k) _
@[sl_canon] theorem cell62 (hh) : (cc0_scratch5.slice (Rect.unit (s := S3x4) (k0_off62 k) S1x1.size hh)).squeeze S_ squeezes_S1x1_S_ = kcell (bt k) 2 := kcell_congr (k0_off62_eq k) _
@[sl_canon] theorem cell72 (hh) : (cc0_scratch5.slice (Rect.unit (s := S3x4) (k0_off72 k) S1x1.size hh)).squeeze S_ squeezes_S1x1_S_ = kcell (bt k) 3 := kcell_congr (k0_off72_eq k) _
@[sl_canon] theorem cell82 (hh) : (cc0_scratch7.slice (Rect.unit (s := S3x2) (k0_off82 k) S1x1.size hh)).squeeze S_ squeezes_S1x1_S_ = xcell (bt k) 1 := xcell_congr (k0_off82_eq k) _
@[sl_canon] theorem cell86 (hh) : (cc0_scratch6.slice (Rect.unit (s := S3x4) (k0_off86 k) S1x1.size hh)).squeeze S_ squeezes_S1x1_S_ = vcell (bt k) 0 := vcell_congr (k0_off86_eq k) _
@[sl_canon] theorem cell96 (hh) : (cc0_scratch6.slice (Rect.unit (s := S3x4) (k0_off96 k) S1x1.size hh)).squeeze S_ squeezes_S1x1_S_ = vcell (bt k) 1 := vcell_congr (k0_off96_eq k) _
@[sl_canon] theorem cell106 (hh) : (cc0_scratch6.slice (Rect.unit (s := S3x4) (k0_off106 k) S1x1.size hh)).squeeze S_ squeezes_S1x1_S_ = vcell (bt k) 2 := vcell_congr (k0_off106_eq k) _
@[sl_canon] theorem cell116 (hh) : (cc0_scratch6.slice (Rect.unit (s := S3x4) (k0_off116 k) S1x1.size hh)).squeeze S_ squeezes_S1x1_S_ = vcell (bt k) 3 := vcell_congr (k0_off116_eq k) _

end Canon

end Cert.Kernel.Hand

end
-- ==== Proof.Kernel.Trip.lean ====
/- One trip of the loop over the batch: from ten transfers in flight into the trip's windows, to the windows
   held again, the codes and the output of the trip's batch entry stored. -/
module

public import proofs.«01_k».proof.Proof.Kernel.Checks
public import proofs.«01_k».proof.Proof.Kernel.Slots

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The pieces -/

section Pieces
variable (c : Dev nD)

/-- A memref held whole on its own elements at contents `f`. -/
abbrev at_ {sp : Space} {s : Shape} {e : EltTy} (M : Memref sig .tc sp s e) (f : Buf (Elt F) (M.view.loc (c : Thread nD τ))) : sProp 𝕄 :=
  M.view.loc (c : Thread nD τ) ↦[M.view.set]{fullShare} f
/-- A transfer in flight on `cell`, which delivers window `M` at contents `g` and gives back the elements `S` of the
    array it reads, at the contents `A` and the share `q` they were lent at. -/
abbrev flight {s s' : Shape} (cell : DmaSems sig S_) (n : ℕ) (M : Memref sig .tc .vmem s .i8)
    (g : Buf (Elt F) (M.view.loc (c : Thread nD τ))) (src : Memref sig .tc .hbm s' .i8)
    (S : Finset (Idx (src.view.loc (c : Thread nD τ)))) (q : PosShare TreeShare) (A : Buf (Elt F) (src.view.loc (c : Thread nD τ))) : sProp 𝕄 :=
  Transfers.Flight (countersEmb (U := Pipeline.UD sig nD τ)) (c : Thread nD τ) (SemLoc.dma cell.sem) () n
    iprop(at_ c M g ∗ src.view.loc (c : Thread nD τ) ↦[S]{q} A)
/-- What the scratch windows of batch entry `b` hold once their transfers have landed. -/
structure Held (F : FTy → Type) [FloatOps F] (c : Dev nD) (b : Fin 3) where
  k (h : Fin 4) : Buf (Elt F) ((kslot b h).view.loc (c : Thread nD τ))
  v (h : Fin 4) : Buf (Elt F) ((vslot b h).view.loc (c : Thread nD τ))
  kx : Buf (Elt F) ((kxslot b).view.loc (c : Thread nD τ))
  vx : Buf (Elt F) ((vxslot b).view.loc (c : Thread nD τ))

/-- The elements of the two caches lent to the transfers of one batch entry, and the shares they are lent at. -/
structure Lent (c : Dev nD) where
  k : Fin 4 → Finset (Idx (ckM.view.loc (c : Thread nD τ)))
  v : Fin 4 → Finset (Idx (cvM.view.loc (c : Thread nD τ)))
  kx : Finset (Idx (ckM.view.loc (c : Thread nD τ)))
  vx : Finset (Idx (cvM.view.loc (c : Thread nD τ)))
  qk : Fin 4 → PosShare TreeShare
  qv : Fin 4 → PosShare TreeShare
  qkx : PosShare TreeShare
  qvx : PosShare TreeShare

variable (XK : Buf (Elt F) (ckM.view.loc (c : Thread nD τ))) (XV : Buf (Elt F) (cvM.view.loc (c : Thread nD τ)))

/-- The ten transfers of batch entry `b` in flight. -/
def inflight (b : Fin 3) (G : Held F c b) (T : Lent c) : sProp 𝕄 :=
  iprop(flight c (xcell b 0) 1024 (kxslot b) G.kx ckM T.kx T.qkx XK
    ∗ flight c (kcell b 0) 32768 (kslot b 0) (G.k 0) ckM (T.k 0) (T.qk 0) XK
    ∗ flight c (kcell b 1) 32768 (kslot b 1) (G.k 1) ckM (T.k 1) (T.qk 1) XK
    ∗ flight c (kcell b 2) 32768 (kslot b 2) (G.k 2) ckM (T.k 2) (T.qk 2) XK
    ∗ flight c (kcell b 3) 32768 (kslot b 3) (G.k 3) ckM (T.k 3) (T.qk 3) XK
    ∗ flight c (xcell b 1) 1024 (vxslot b) G.vx cvM T.vx T.qvx XV
    ∗ flight c (vcell b 0) 32768 (vslot b 0) (G.v 0) cvM (T.v 0) (T.qv 0) XV
    ∗ flight c (vcell b 1) 32768 (vslot b 1) (G.v 1) cvM (T.v 1) (T.qv 1) XV
    ∗ flight c (vcell b 2) 32768 (vslot b 2) (G.v 2) cvM (T.v 2) (T.qv 2) XV
    ∗ flight c (vcell b 3) 32768 (vslot b 3) (G.v 3) cvM (T.v 3) (T.qv 3) XV)

/-- A cell at zero, its window held at anything, and the elements its transfer read back at their share. -/
abbrev back {s s' : Shape} (cell : DmaSems sig S_) (M : Memref sig .tc .vmem s .i8) (src : Memref sig .tc .hbm s' .i8)
    (S : Finset (Idx (src.view.loc (c : Thread nD τ)))) (q : PosShare TreeShare) (A : Buf (Elt F) (src.view.loc (c : Thread nD τ))) : sProp 𝕄 :=
  iprop(semVal ((c : Thread nD τ), SemLoc.dma cell.sem) 0 ∗ (∃ g, at_ c M g) ∗ src.view.loc (c : Thread nD τ) ↦[S]{q} A)

/-- The ten transfers of batch entry `b` done. -/
def landed (b : Fin 3) (T : Lent c) : sProp 𝕄 :=
  iprop(back c (xcell b 0) (kxslot b) ckM T.kx T.qkx XK
    ∗ back c (kcell b 0) (kslot b 0) ckM (T.k 0) (T.qk 0) XK
    ∗ back c (kcell b 1) (kslot b 1) ckM (T.k 1) (T.qk 1) XK
    ∗ back c (kcell b 2) (kslot b 2) ckM (T.k 2) (T.qk 2) XK
    ∗ back c (kcell b 3) (kslot b 3) ckM (T.k 3) (T.qk 3) XK
    ∗ back c (xcell b 1) (vxslot b) cvM T.vx T.qvx XV
    ∗ back c (vcell b 0) (vslot b 0) cvM (T.v 0) (T.qv 0) XV
    ∗ back c (vcell b 1) (vslot b 1) cvM (T.v 1) (T.qv 1) XV
    ∗ back c (vcell b 2) (vslot b 2) cvM (T.v 2) (T.qv 2) XV
    ∗ back c (vcell b 3) (vslot b 3) cvM (T.v 3) (T.qv 3) XV)

end Pieces

section Trip
variable (c : Dev nD)
  (arg0 : Memref sig .tc .smem S3 .i32) (harg0 : arg0.IsWhole) (arg1 : Memref sig .tc .vmem S3x1x2048 .bf16) (harg1 : arg1.IsWhole)
  (arg2 : Memref sig .tc .vmem S3x4x1x256 .bf16) (harg2 : arg2.IsWhole) (arg3 : Memref sig .tc .vmem S3x4x1x256 .bf16) (harg3 : arg3.IsWhole)
  (arg4 : Memref sig .tc .vmem S4x256 .f32) (harg4 : arg4.IsWhole) (arg5 : Memref sig .tc .smem S4 .f32) (harg5 : arg5.IsWhole)
  (arg8 : Memref sig .tc .vmem S3x1x2048 .bf16) (harg8 : arg8.IsWhole) (arg9 : Memref sig .tc .vmem S3x4x1x256 .i8) (harg9 : arg9.IsWhole)
  (arg10 : Memref sig .tc .vmem S3x4x1x256 .i8) (harg10 : arg10.IsWhole)
  (v859 : FVec F S4x256 .bf16) (v860 : IVec S8x1 32) (v948 : FVec F S8x1 .f32) (v950 : IVec S8x1 32) (v969 : IVec S8x1 1) (v970 : IVec S8x1 32) (v975 : Elt F .f32)
  (f0 : Buf (Elt F) (arg0.view.loc (c : Thread nD τ))) (f1 : Buf (Elt F) (arg1.view.loc (c : Thread nD τ)))
  (f2 : Buf (Elt F) (arg2.view.loc (c : Thread nD τ))) (f3 : Buf (Elt F) (arg3.view.loc (c : Thread nD τ)))
  (f4 : Buf (Elt F) (arg4.view.loc (c : Thread nD τ))) (f5 : Buf (Elt F) (arg5.view.loc (c : Thread nD τ)))
  (hlen : ∀ (r : LoadRect S3) j, InRange (arg0.view.readAt (Elt F) r f0 j))
  (XK : Buf (Elt F) (ckM.view.loc (c : Thread nD τ))) (XV : Buf (Elt F) (cvM.view.loc (c : Thread nD τ)))

/-- The trip's program. -/
abbrev tripG (k : Fin k0_t1_loop.trips) : Prog (TpuEff nD τ sig (Elt F) Λ₀ .tc) Unit :=
  k0_t1_body (F := F) arg0 harg0 arg1 harg1 arg2 harg2 arg3 harg3 arg4 harg4 arg5 harg5 ckM (Memref.isWhole_whole _) cvM (Memref.isWhole_whole _)
    arg8 harg8 arg9 harg9 arg10 harg10 kM (Memref.isWhole_whole _) vM (Memref.isWhole_whole _) kxM (Memref.isWhole_whole _) vxM (Memref.isWhole_whole _)
    sM (Memref.isWhole_whole _) cc0_scratch5 cc0_scratch6 cc0_scratch7 v859 v860 v948 v950 v969 v970 v975 k ()

/-- The six inputs held by the body. -/
abbrev inputs : sProp 𝕄 := iprop(at_ c arg0 f0 ∗ at_ c arg1 f1 ∗ at_ c arg2 f2 ∗ at_ c arg3 f3 ∗ at_ c arg4 f4 ∗ at_ c arg5 f5)

/-- ONE TRIP, at a symbolic trip number: the pieces it stores into the three results are found by the run, as functions of
    the inputs' contents and of what the trip's windows hold. -/
def tripRun (k : Fin k0_t1_loop.trips) (G : Held F c (bt k)) :
    Σ' (L8 : List (View.Piece (Elt F) S3x1x2048 .bf16)) (L9 : List (View.Piece (Elt F) S3x4x1x256 .i8)),
      { L10 : List (View.Piece (Elt F) S3x4x1x256 .i8) //
      ∀ (W : Waits sig Unit) (f8 : Buf (Elt F) (arg8.view.loc (c : Thread nD τ))) (f9 : Buf (Elt F) (arg9.view.loc (c : Thread nD τ)))
        (f10 : Buf (Elt F) (arg10.view.loc (c : Thread nD τ))) (fs : Buf (Elt F) (sM.view.loc (c : Thread nD τ))) (T : Lent c),
    iprop(inputs c arg0 arg1 arg2 arg3 arg4 arg5 f0 f1 f2 f3 f4 f5
        ∗ at_ c arg8 f8 ∗ at_ c arg9 f9 ∗ at_ c arg10 f10 ∗ at_ c sM fs
        ∗ inflight c XK XV (bt k) G T ∗ owes (c : Thread nD τ) 0 W)
      ⊢ wp frame (wpE (defs₀ (F := F)) Variants.none (c : Thread nD τ) none) Set.univ
          (tripG arg0 harg0 arg1 harg1 arg2 harg2 arg3 harg3 arg4 harg4 arg5 harg5 arg8 harg8 arg9 harg9 arg10 harg10 v859 v860 v948 v950 v969 v970 v975 k)
          (fun _ => iprop(inputs c arg0 arg1 arg2 arg3 arg4 arg5 f0 f1 f2 f3 f4 f5
            ∗ at_ c arg8 (arg8.view.writes (Elt F) f8 L8) ∗ at_ c arg9 (arg9.view.writes (Elt F) f9 L9)
            ∗ at_ c arg10 (arg10.view.writes (Elt F) f10 L10) ∗ (∃ fs', at_ c sM fs')
            ∗ landed c XK XV (bt k) T ∗ ∃ W', owes (c : Thread nD τ) 0 W')) } := by
  refine ⟨?_, ?_, ?_, fun W f8 f9 f10 fs T => ?run⟩
  case run =>
    unfold inflight
    iintro ⟨⟨H0, H1, H2, H3, H4, H5⟩, H8, H9, H10, HS, ⟨HKX, HK0, HK1, HK2, HK3, HVX, HV0, HV1, HV2, HV3⟩, HW⟩
    dsimp only [tripG]
    sl_unfold [k0_t1_body]
    sl_exec_parts (disch := first | exact chk31 (hlen _ _) | exact chk32 (hlen _ _) k | exact chk33 (hlen _ _) k | exact chk34 (hlen _ _) k | exact chk35 (hlen _ _) k | exact chk36 (hlen _ _) k | exact chk37 (hlen _ _) k | exact chk38 (hlen _ _) k | exact chk39 (hlen _ _) k | exact chk40 (hlen _ _) k | exact chk41 (hlen _ _) k)
    sl_step
    unfold landed
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H8]; · iexact H8
    isplitl [H9]; · iexact H9
    isplitl [H10]; · iexact H10
    isplitl [HS]; · iexists _; iexact HS
    isplitr [HW]
    · isplitl [HKX HKX_dst HKX_src]
      · isplitl [HKX]; · iexact HKX
        isplitl [HKX_dst]; · iexists _; iexact HKX_dst
        iexact HKX_src
      isplitl [HK0 HK0_dst HK0_src]
      · isplitl [HK0]; · iexact HK0
        isplitl [HK0_dst]; · iexists _; iexact HK0_dst
        iexact HK0_src
      isplitl [HK1 HK1_dst HK1_src]
      · isplitl [HK1]; · iexact HK1
        isplitl [HK1_dst]; · iexists _; iexact HK1_dst
        iexact HK1_src
      isplitl [HK2 HK2_dst HK2_src]
      · isplitl [HK2]; · iexact HK2
        isplitl [HK2_dst]; · iexists _; iexact HK2_dst
        iexact HK2_src
      isplitl [HK3 HK3_dst HK3_src]
      · isplitl [HK3]; · iexact HK3
        isplitl [HK3_dst]; · iexists _; iexact HK3_dst
        iexact HK3_src
      isplitl [HVX HVX_dst HVX_src]
      · isplitl [HVX]; · iexact HVX
        isplitl [HVX_dst]; · iexists _; iexact HVX_dst
        iexact HVX_src
      isplitl [HV0 HV0_dst HV0_src]
      · isplitl [HV0]; · iexact HV0
        isplitl [HV0_dst]; · iexists _; iexact HV0_dst
        iexact HV0_src
      isplitl [HV1 HV1_dst HV1_src]
      · isplitl [HV1]; · iexact HV1
        isplitl [HV1_dst]; · iexists _; iexact HV1_dst
        iexact HV1_src
      isplitl [HV2 HV2_dst HV2_src]
      · isplitl [HV2]; · iexact HV2
        isplitl [HV2_dst]; · iexists _; iexact HV2_dst
        iexact HV2_src
      isplitl [HV3]; · iexact HV3
      isplitl [HV3_dst]; · iexists _; iexact HV3_dst
      iexact HV3_src
    iexists _; iexact HW

end Trip

end Cert.Kernel.Hand

end
-- ==== Proof.Kernel.Prelude.lean ====
/- The kernel before its loop: from all thirty windows held, every cell at zero and the two caches held at one share
   per transfer, thirty transfers are started, each lent the rows its window is to receive. -/
module

public import proofs.«01_k».proof.Proof.Kernel.Trip

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The rows a transfer reads -/

section Rows
variable (c : Dev nD) (arg0 : Memref sig .tc .smem S3 .i32) (f0 : Buf (Elt F) (arg0.view.loc (c : Thread nD τ)))
  (hlen : ∀ (r : LoadRect S3) j, InRange (arg0.view.readAt (Elt F) r f0 j))

theorem lenInb (b : Fin 3) : ∀ a, (![b.val] : Fin 1 → Nat) a + S1.size a ≤ S3.size a := by
  have := b.isLt; intro a; fin_cases a; show b.val + 1 ≤ 3; omega
/-- The number of rows in the cache of batch entry `b`, as the kernel reads it. -/
abbrev lenW (b : Fin 3) : BitVec 32 :=
  arg0.view.readAt (Elt F) (Rect.unit (s := S3) ![b.val] S1.size (lenInb b)).toLoadRect f0 (Shape.Idx.first (numel1_S1 ▸ Nat.one_pos))

theorem rowsInb {v : BitVec 32} (hv : InRange v) (b : Fin 3) (h : Fin 4) :
    ∀ a, (![b.val, h.val, (baseW v).toNat, 0] : Fin 4 → Nat) a + S1x1x4096x256.size a ≤ S3x4x65536x256.size a := by
  have hb := b.isLt; have hh := h.isLt; have h1 := base_eq hv; have h2 := len_le hv; intro a; fin_cases a
  · show b.val + 1 ≤ 3; omega
  · show h.val + 1 ≤ 4; omega
  · show (baseW v).toNat + 4096 ≤ 65536; omega
  · show 0 + 256 ≤ 256; omega
theorem xrowsInb {v : BitVec 32} (hv : InRange v) (b : Fin 3) :
    ∀ a, (![b.val, 0, (extraW v).toNat, 0] : Fin 4 → Nat) a + S1x4x32x256.size a ≤ S3x4x65536x256.size a := by
  have hb := b.isLt; have h1 := extra_eq hv; intro a; fin_cases a
  · show b.val + 1 ≤ 3; omega
  · show 0 + 4 ≤ 4; omega
  · show (extraW v).toNat + 32 ≤ 65536; omega
  · show 0 + 256 ≤ 256; omega
/-- The 4096 rows of one batch entry and head from the first one read on. -/
abbrev rows (M : Memref sig .tc .hbm S3x4x65536x256 .i8) {v : BitVec 32} (hv : InRange v) (b : Fin 3) (h : Fin 4) : Memref sig .tc .hbm S4096x256 .i8 :=
  (M.slice (Rect.unit (s := S3x4x65536x256) ![b.val, h.val, (baseW v).toNat, 0] S1x1x4096x256.size (rowsInb hv b h)) (fun _ => rfl)).squeeze
    S4096x256 squeezes_S1x1x4096x256_S4096x256
/-- The 32 rows after them (or the cache's last 32) of all heads of one batch entry. -/
abbrev xrows (M : Memref sig .tc .hbm S3x4x65536x256 .i8) {v : BitVec 32} (hv : InRange v) (b : Fin 3) : Memref sig .tc .hbm S4x32x256 .i8 :=
  (M.slice (Rect.unit (s := S3x4x65536x256) ![b.val, 0, (extraW v).toNat, 0] S1x4x32x256.size (xrowsInb hv b)) (fun _ => rfl)).squeeze
    S4x32x256 squeezes_S1x4x32x256_S4x32x256

include hlen in
theorem lenOk (b : Fin 3) : InRange (lenW c arg0 f0 b) := hlen _ _

/-- What batch entry `b`'s transfers are lent: the rows they read, at the share named by each transfer's cell. -/
abbrev lent (b : Fin 3) : Lent c where
  k h := (rows ckM (lenOk c arg0 f0 hlen b) b h : Memref sig .tc .hbm S4096x256 .i8).view.set
  v h := (rows cvM (lenOk c arg0 f0 hlen b) b h : Memref sig .tc .hbm S4096x256 .i8).view.set
  kx := (xrows ckM (lenOk c arg0 f0 hlen b) b : Memref sig .tc .hbm S4x32x256 .i8).view.set
  vx := (xrows cvM (lenOk c arg0 f0 hlen b) b : Memref sig .tc .hbm S4x32x256 .i8).view.set
  qk h := Transfers.shareTokN fullShare (9 + 4 * b.val + h.val)
  qv h := Transfers.shareTokN fullShare (21 + 4 * b.val + h.val)
  qkx := Transfers.shareTokN fullShare (33 + 2 * b.val)
  qvx := Transfers.shareTokN fullShare (34 + 2 * b.val)

variable (XK : Buf (Elt F) (ckM.view.loc (c : Thread nD τ))) (XV : Buf (Elt F) (cvM.view.loc (c : Thread nD τ)))

/-- What batch entry `b`'s windows hold when the rows have landed over contents `D`. -/
abbrev landing (b : Fin 3) (D : Held F c b) : Held F c b where
  k h := (kslot b h).view.writes (Elt F) (D.k h) [⟨Rect.whole S4096x256, ReadAs.same.apply ((rows ckM (lenOk c arg0 f0 hlen b) b h).view.read (Elt F) XK)⟩]
  v h := (vslot b h).view.writes (Elt F) (D.v h) [⟨Rect.whole S4096x256, ReadAs.same.apply ((rows cvM (lenOk c arg0 f0 hlen b) b h).view.read (Elt F) XV)⟩]
  kx := (kxslot b).view.writes (Elt F) D.kx [⟨Rect.whole S4x32x256, ReadAs.same.apply ((xrows ckM (lenOk c arg0 f0 hlen b) b).view.read (Elt F) XK)⟩]
  vx := (vxslot b).view.writes (Elt F) D.vx [⟨Rect.whole S4x32x256, ReadAs.same.apply ((xrows cvM (lenOk c arg0 f0 hlen b) b).view.read (Elt F) XV)⟩]

/-- An array held whole at a share. -/
abbrev tokAt {s' : Shape} {e : EltTy} (src : Memref sig .tc .hbm s' e) (q : PosShare TreeShare) (A : Buf (Elt F) (src.view.loc (c : Thread nD τ))) : sProp 𝕄 :=
  src.view.loc (c : Thread nD τ) ↦{q} A
/-- A window held, its cell at zero, and the array its transfer is to read held whole at the transfer's share. -/
abbrev idle {s s' : Shape} (cell : DmaSems sig S_) (M : Memref sig .tc .vmem s .i8) (g : Buf (Elt F) (M.view.loc (c : Thread nD τ)))
    (src : Memref sig .tc .hbm s' .i8) (q : PosShare TreeShare) (A : Buf (Elt F) (src.view.loc (c : Thread nD τ))) : sProp 𝕄 :=
  iprop(at_ c M g ∗ semVal ((c : Thread nD τ), SemLoc.dma cell.sem) 0 ∗ tokAt c src q A)
/-- The ten transfers of batch entry `b` not started yet. -/
def waiting (b : Fin 3) (D : Held F c b) (T : Lent c) : sProp 𝕄 :=
  iprop(idle c (xcell b 0) (kxslot b) D.kx ckM T.qkx XK
    ∗ idle c (kcell b 0) (kslot b 0) (D.k 0) ckM (T.qk 0) XK
    ∗ idle c (kcell b 1) (kslot b 1) (D.k 1) ckM (T.qk 1) XK
    ∗ idle c (kcell b 2) (kslot b 2) (D.k 2) ckM (T.qk 2) XK
    ∗ idle c (kcell b 3) (kslot b 3) (D.k 3) ckM (T.qk 3) XK
    ∗ idle c (xcell b 1) (vxslot b) D.vx cvM T.qvx XV
    ∗ idle c (vcell b 0) (vslot b 0) (D.v 0) cvM (T.qv 0) XV
    ∗ idle c (vcell b 1) (vslot b 1) (D.v 1) cvM (T.qv 1) XV
    ∗ idle c (vcell b 2) (vslot b 2) (D.v 2) cvM (T.qv 2) XV
    ∗ idle c (vcell b 3) (vslot b 3) (D.v 3) cvM (T.qv 3) XV)
/-- An array less the elements `S` lent. -/
abbrev rest {s' : Shape} (src : Memref sig .tc .hbm s' .i8) (S : Finset (Idx (src.view.loc (c : Thread nD τ)))) (q : PosShare TreeShare)
    (A : Buf (Elt F) (src.view.loc (c : Thread nD τ))) : sProp 𝕄 :=
  src.view.loc (c : Thread nD τ) ↦[Finset.univ \ S]{q} A
/-- What is not lent of the two caches while the ten transfers of batch entry `b` run. -/
def rests (T : Lent c) : sProp 𝕄 :=
  iprop(rest c ckM T.kx T.qkx XK
    ∗ rest c ckM (T.k 0) (T.qk 0) XK
    ∗ rest c ckM (T.k 1) (T.qk 1) XK
    ∗ rest c ckM (T.k 2) (T.qk 2) XK
    ∗ rest c ckM (T.k 3) (T.qk 3) XK
    ∗ rest c cvM T.vx T.qvx XV
    ∗ rest c cvM (T.v 0) (T.qv 0) XV
    ∗ rest c cvM (T.v 1) (T.qv 1) XV
    ∗ rest c cvM (T.v 2) (T.qv 2) XV
    ∗ rest c cvM (T.v 3) (T.qv 3) XV)

end Rows

section Prelude
variable (c : Dev nD)
  (arg0 : Memref sig .tc .smem S3 .i32) (harg0 : arg0.IsWhole) (arg1 : Memref sig .tc .vmem S3x1x2048 .bf16) (harg1 : arg1.IsWhole)
  (arg2 : Memref sig .tc .vmem S3x4x1x256 .bf16) (harg2 : arg2.IsWhole) (arg3 : Memref sig .tc .vmem S3x4x1x256 .bf16) (harg3 : arg3.IsWhole)
  (arg4 : Memref sig .tc .vmem S4x256 .f32) (harg4 : arg4.IsWhole) (arg5 : Memref sig .tc .smem S4 .f32) (harg5 : arg5.IsWhole)
  (arg8 : Memref sig .tc .vmem S3x1x2048 .bf16) (harg8 : arg8.IsWhole) (arg9 : Memref sig .tc .vmem S3x4x1x256 .i8) (harg9 : arg9.IsWhole)
  (arg10 : Memref sig .tc .vmem S3x4x1x256 .i8) (harg10 : arg10.IsWhole)
  (f0 : Buf (Elt F) (arg0.view.loc (c : Thread nD τ))) (f1 : Buf (Elt F) (arg1.view.loc (c : Thread nD τ)))
  (f2 : Buf (Elt F) (arg2.view.loc (c : Thread nD τ))) (f3 : Buf (Elt F) (arg3.view.loc (c : Thread nD τ)))
  (f4 : Buf (Elt F) (arg4.view.loc (c : Thread nD τ))) (f5 : Buf (Elt F) (arg5.view.loc (c : Thread nD τ)))
  (hlen : ∀ (r : LoadRect S3) j, InRange (arg0.view.readAt (Elt F) r f0 j))
  (XK : Buf (Elt F) (ckM.view.loc (c : Thread nD τ))) (XV : Buf (Elt F) (cvM.view.loc (c : Thread nD τ)))

/-! ## What the kernel computes before its loop -/

/-- The sublane numbers of the eight query rows. -/
abbrev pre860 : IVec S8x1 32 := iota .tc S8x1 32 [0] iota_S8x1_d0_w32
/-- The key scales, rounded. -/
abbrev pre859 : FVec F S4x256 .bf16 := k0_pay136 (arg4.view.readAt (Elt F) (Rect.unit (s := S4x256) ![0, 0] S4x256.size inb_S4x256_S4x256_0_0).toLoadRect f4)
/-- Value scale `i`. -/
abbrev vsc (i : Fin 1 → Nat) (hi : ∀ a, i a + S1.size a ≤ S4.size a) : Elt F .f32 :=
  arg5.view.readAt (Elt F) (Rect.unit (s := S4) i S1.size hi).toLoadRect f5 (Shape.Idx.first (numel1_S1 ▸ Nat.one_pos))
/-- The value scales of the eight query rows, the last head's not filled in yet. -/
abbrev pre948 : FVec F S8x1 .f32 :=
  k0_pay144 pre860 (k0_pay141 pre860 (k0_pay137 (F := F)) k0_pay138 k0_pay139 k0_pay140 (vsc c arg5 f5 ![0] inb_S4_S1_0) (vsc c arg5 f5 ![1] inb_S4_S1_1)) 2#32
    (k0_pay142 pre860) (k0_pay143 pre860) (vsc c arg5 f5 ![2] inb_S4_S1_2)

/-- The kernel's program. -/
abbrev bodyG : Prog (TpuEff nD τ sig (Elt F) Λ₀ .tc) PUnit :=
  cc0_window_decode (F := F) arg0 harg0 arg1 harg1 arg2 harg2 arg3 harg3 arg4 harg4 arg5 harg5 ckM (Memref.isWhole_whole _) cvM (Memref.isWhole_whole _)
    arg8 harg8 arg9 harg9 arg10 harg10 kM (Memref.isWhole_whole _) vM (Memref.isWhole_whole _) kxM (Memref.isWhole_whole _) vxM (Memref.isWhole_whole _)
    sM (Memref.isWhole_whole _) cc0_scratch5 cc0_scratch6 cc0_scratch7
/-- Its loop, at the values computed before it. -/
abbrev loopG : Prog (TpuEff nD τ sig (Elt F) Λ₀ .tc) PUnit := do
  Scf.Loop.for k0_t1_loop k0_t1_ok ⟨⟩
    (fun k _ => tripG arg0 harg0 arg1 harg1 arg2 harg2 arg3 harg3 arg4 harg4 arg5 harg5 arg8 harg8 arg9 harg9 arg10 harg10
      (pre859 c arg4 f4) pre860 (pre948 c arg5 f5) (k0_pay145 pre860) (k0_pay146 pre860) k0_pay147 (vsc c arg5 f5 ![3] inb_S4_S1_3) k)
  pure ⟨⟩

set_option maxHeartbeats 1000000 in
/-- THE KERNEL BEFORE ITS LOOP: all thirty transfers are started, and the loop is left to run. -/
theorem preRun (D : ∀ b, Held F c b) (W : Waits sig Unit) (fs : Buf (Elt F) (sM.view.loc (c : Thread nD τ)))
    (f8 : Buf (Elt F) (arg8.view.loc (c : Thread nD τ))) (f9 : Buf (Elt F) (arg9.view.loc (c : Thread nD τ)))
    (f10 : Buf (Elt F) (arg10.view.loc (c : Thread nD τ))) (Q : PUnit → sProp 𝕄) :
    iprop(inputs c arg0 arg1 arg2 arg3 arg4 arg5 f0 f1 f2 f3 f4 f5
        ∗ at_ c arg8 f8 ∗ at_ c arg9 f9 ∗ at_ c arg10 f10 ∗ at_ c sM fs
        ∗ waiting c XK XV 0 (D 0) (lent c arg0 f0 hlen 0) ∗ waiting c XK XV 1 (D 1) (lent c arg0 f0 hlen 1) ∗ waiting c XK XV 2 (D 2) (lent c arg0 f0 hlen 2)
        ∗ owes (c : Thread nD τ) 0 W
        ∗ (iprop(inputs c arg0 arg1 arg2 arg3 arg4 arg5 f0 f1 f2 f3 f4 f5
            ∗ at_ c arg8 f8 ∗ at_ c arg9 f9 ∗ at_ c arg10 f10 ∗ at_ c sM fs
            ∗ inflight c XK XV 0 (landing c arg0 f0 hlen XK XV 0 (D 0)) (lent c arg0 f0 hlen 0) ∗ rests c XK XV (lent c arg0 f0 hlen 0)
            ∗ inflight c XK XV 1 (landing c arg0 f0 hlen XK XV 1 (D 1)) (lent c arg0 f0 hlen 1) ∗ rests c XK XV (lent c arg0 f0 hlen 1)
            ∗ inflight c XK XV 2 (landing c arg0 f0 hlen XK XV 2 (D 2)) (lent c arg0 f0 hlen 2) ∗ rests c XK XV (lent c arg0 f0 hlen 2)
            ∗ owes (c : Thread nD τ) 0 W) -∗
          wp frame (wpE (defs₀ (F := F)) Variants.none (c : Thread nD τ) none) Set.univ
            (loopG c arg0 harg0 arg1 harg1 arg2 harg2 arg3 harg3 arg4 harg4 arg5 harg5 arg8 harg8 arg9 harg9 arg10 harg10 f4 f5) Q))
      ⊢ wp frame (wpE (defs₀ (F := F)) Variants.none (c : Thread nD τ) none) Set.univ
          (bodyG arg0 harg0 arg1 harg1 arg2 harg2 arg3 harg3 arg4 harg4 arg5 harg5 arg8 harg8 arg9 harg9 arg10 harg10) Q := by
    unfold waiting
    dsimp only [lent, Fin.coe_ofNat_eq_mod, Nat.reduceMod, Nat.reduceMul, Nat.reduceAdd, Fin.isValue, Nat.zero_mod]
    iintro ⟨⟨H0, H1, H2, H3, H4, H5⟩, H8, H9, H10, HS, ⟨⟨HwKX0, HcKX0, HtKX0⟩, ⟨HwK00, HcK00, HtK00⟩, ⟨HwK01, HcK01, HtK01⟩, ⟨HwK02, HcK02, HtK02⟩, ⟨HwK03, HcK03, HtK03⟩, ⟨HwVX0, HcVX0, HtVX0⟩, ⟨HwV00, HcV00, HtV00⟩, ⟨HwV01, HcV01, HtV01⟩, ⟨HwV02, HcV02, HtV02⟩, ⟨HwV03, HcV03, HtV03⟩⟩, ⟨⟨HwKX1, HcKX1, HtKX1⟩, ⟨HwK10, HcK10, HtK10⟩, ⟨HwK11, HcK11, HtK11⟩, ⟨HwK12, HcK12, HtK12⟩, ⟨HwK13, HcK13, HtK13⟩, ⟨HwVX1, HcVX1, HtVX1⟩, ⟨HwV10, HcV10, HtV10⟩, ⟨HwV11, HcV11, HtV11⟩, ⟨HwV12, HcV12, HtV12⟩, ⟨HwV13, HcV13, HtV13⟩⟩, ⟨⟨HwKX2, HcKX2, HtKX2⟩, ⟨HwK20, HcK20, HtK20⟩, ⟨HwK21, HcK21, HtK21⟩, ⟨HwK22, HcK22, HtK22⟩, ⟨HwK23, HcK23, HtK23⟩, ⟨HwVX2, HcVX2, HtVX2⟩, ⟨HwV20, HcV20, HtV20⟩, ⟨HwV21, HcV21, HtV21⟩, ⟨HwV22, HcV22, HtV22⟩, ⟨HwV23, HcV23, HtV23⟩⟩, HW, Hk⟩
    dsimp only [bodyG]
    unfold kslot vslot kxslot vxslot kcell vcell xcell
    simp only [cc0_window_decode_eq_skeleton]; unfold cc0_window_decode_skel
    sl_exec_parts (disch := first | exact chk1 (hlen _ _) | exact chk2 (hlen _ _) | exact chk3 (hlen _ _) | exact chk4 (hlen _ _) | exact chk5 (hlen _ _) | exact chk6 (hlen _ _) | exact chk7 (hlen _ _) | exact chk8 (hlen _ _) | exact chk9 (hlen _ _) | exact chk10 (hlen _ _) | exact chk11 (hlen _ _) | exact chk12 (hlen _ _) | exact chk13 (hlen _ _) | exact chk14 (hlen _ _) | exact chk15 (hlen _ _) | exact chk16 (hlen _ _) | exact chk17 (hlen _ _) | exact chk18 (hlen _ _) | exact chk19 (hlen _ _) | exact chk20 (hlen _ _) | exact chk21 (hlen _ _) | exact chk22 (hlen _ _) | exact chk23 (hlen _ _) | exact chk24 (hlen _ _) | exact chk25 (hlen _ _) | exact chk26 (hlen _ _) | exact chk27 (hlen _ _) | exact chk28 (hlen _ _) | exact chk29 (hlen _ _) | exact chk30 (hlen _ _))
    iapply Hk
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H8]; · iexact H8
    isplitl [H9]; · iexact H9
    isplitl [H10]; · iexact H10
    isplitl [HS]; · iexact HS
    isplitl [HcKX0 HcK00 HcK01 HcK02 HcK03 HcVX0 HcV00 HcV01 HcV02 HcV03]
    · unfold inflight; dsimp only [lent, landing]
      isplitl [HcKX0]; · iexact HcKX0
      isplitl [HcK00]; · iexact HcK00
      isplitl [HcK01]; · iexact HcK01
      isplitl [HcK02]; · iexact HcK02
      isplitl [HcK03]; · iexact HcK03
      isplitl [HcVX0]; · iexact HcVX0
      isplitl [HcV00]; · iexact HcV00
      isplitl [HcV01]; · iexact HcV01
      isplitl [HcV02]; · iexact HcV02
      iexact HcV03
    isplitl [HtKX0 HtK00 HtK01 HtK02 HtK03 HtVX0 HtV00 HtV01 HtV02 HtV03]
    · unfold rests; dsimp only [lent]
      isplitl [HtKX0]; · iexact HtKX0
      isplitl [HtK00]; · iexact HtK00
      isplitl [HtK01]; · iexact HtK01
      isplitl [HtK02]; · iexact HtK02
      isplitl [HtK03]; · iexact HtK03
      isplitl [HtVX0]; · iexact HtVX0
      isplitl [HtV00]; · iexact HtV00
      isplitl [HtV01]; · iexact HtV01
      isplitl [HtV02]; · iexact HtV02
      iexact HtV03
    isplitl [HcKX1 HcK10 HcK11 HcK12 HcK13 HcVX1 HcV10 HcV11 HcV12 HcV13]
    · unfold inflight; dsimp only [lent, landing]
      isplitl [HcKX1]; · iexact HcKX1
      isplitl [HcK10]; · iexact HcK10
      isplitl [HcK11]; · iexact HcK11
      isplitl [HcK12]; · iexact HcK12
      isplitl [HcK13]; · iexact HcK13
      isplitl [HcVX1]; · iexact HcVX1
      isplitl [HcV10]; · iexact HcV10
      isplitl [HcV11]; · iexact HcV11
      isplitl [HcV12]; · iexact HcV12
      iexact HcV13
    isplitl [HtKX1 HtK10 HtK11 HtK12 HtK13 HtVX1 HtV10 HtV11 HtV12 HtV13]
    · unfold rests; dsimp only [lent]
      isplitl [HtKX1]; · iexact HtKX1
      isplitl [HtK10]; · iexact HtK10
      isplitl [HtK11]; · iexact HtK11
      isplitl [HtK12]; · iexact HtK12
      isplitl [HtK13]; · iexact HtK13
      isplitl [HtVX1]; · iexact HtVX1
      isplitl [HtV10]; · iexact HtV10
      isplitl [HtV11]; · iexact HtV11
      isplitl [HtV12]; · iexact HtV12
      iexact HtV13
    isplitl [HcKX2 HcK20 HcK21 HcK22 HcK23 HcVX2 HcV20 HcV21 HcV22 HcV23]
    · unfold inflight; dsimp only [lent, landing]
      isplitl [HcKX2]; · iexact HcKX2
      isplitl [HcK20]; · iexact HcK20
      isplitl [HcK21]; · iexact HcK21
      isplitl [HcK22]; · iexact HcK22
      isplitl [HcK23]; · iexact HcK23
      isplitl [HcVX2]; · iexact HcVX2
      isplitl [HcV20]; · iexact HcV20
      isplitl [HcV21]; · iexact HcV21
      isplitl [HcV22]; · iexact HcV22
      iexact HcV23
    isplitl [HtKX2 HtK20 HtK21 HtK22 HtK23 HtVX2 HtV20 HtV21 HtV22 HtV23]
    · unfold rests; dsimp only [lent]
      isplitl [HtKX2]; · iexact HtKX2
      isplitl [HtK20]; · iexact HtK20
      isplitl [HtK21]; · iexact HtK21
      isplitl [HtK22]; · iexact HtK22
      isplitl [HtK23]; · iexact HtK23
      isplitl [HtVX2]; · iexact HtVX2
      isplitl [HtV20]; · iexact HtV20
      isplitl [HtV21]; · iexact HtV21
      isplitl [HtV22]; · iexact HtV22
      iexact HtV23
    iexact HW

end Prelude

end Cert.Kernel.Hand

end
-- ==== Proof.Kernel.Body.lean ====
/- The whole kernel body: the transfers started, the loop's three trips, each finding its own batch entry's transfers in
   flight, and what is held at the end: the three results written with the pieces the trips store. -/
module

public import proofs.«01_k».proof.Proof.Kernel.Prelude

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## What the windows receive, whatever they held before -/

section Rebase
variable (c : Dev nD)

theorem at_rebase {s : Shape} (M : Memref sig .tc .vmem s .i8) (f g : Buf (Elt F) (M.view.loc (c : Thread nD τ))) (p : s.Idx → Elt F .i8) :
    (at_ c M (M.view.writes (Elt F) f [⟨Rect.whole s, p⟩]) : sProp 𝕄) = at_ c M (M.view.writes (Elt F) g [⟨Rect.whole s, p⟩]) :=
  Ring.pointsTo_whole_rebase (c := (c : Thread nD τ)) M f g p fullShare

theorem inflight_congr (XK : Buf (Elt F) (ckM.view.loc (c : Thread nD τ))) (XV : Buf (Elt F) (cvM.view.loc (c : Thread nD τ)))
    (b : Fin 3) (G G' : Held F c b) (T : Lent c)
    (hk : ∀ h, (at_ c (kslot b h) (G.k h) : sProp 𝕄) = at_ c (kslot b h) (G'.k h))
    (hv : ∀ h, (at_ c (vslot b h) (G.v h) : sProp 𝕄) = at_ c (vslot b h) (G'.v h))
    (hkx : (at_ c (kxslot b) G.kx : sProp 𝕄) = at_ c (kxslot b) G'.kx)
    (hvx : (at_ c (vxslot b) G.vx : sProp 𝕄) = at_ c (vxslot b) G'.vx) :
    (inflight c XK XV b G T : sProp 𝕄) = inflight c XK XV b G' T := by
  unfold inflight flight
  rw [hk 0, hk 1, hk 2, hk 3, hv 0, hv 1, hv 2, hv 3, hkx, hvx]

variable (arg0 : Memref sig .tc .smem S3 .i32) (f0 : Buf (Elt F) (arg0.view.loc (c : Thread nD τ)))
  (hlen : ∀ (r : LoadRect S3) j, InRange (arg0.view.readAt (Elt F) r f0 j))
  (XK : Buf (Elt F) (ckM.view.loc (c : Thread nD τ))) (XV : Buf (Elt F) (cvM.view.loc (c : Thread nD τ)))

theorem inflight_rebase (b : Fin 3) (D D' : Held F c b) (T : Lent c) :
    (inflight c XK XV b (landing c arg0 f0 hlen XK XV b D) T : sProp 𝕄) = inflight c XK XV b (landing c arg0 f0 hlen XK XV b D') T := by
  refine inflight_congr c XK XV b _ _ T (fun h => ?_) (fun h => ?_) ?_ ?_
  · dsimp only [landing]; exact at_rebase ..
  · dsimp only [landing]; exact at_rebase ..
  · dsimp only [landing]; exact at_rebase ..
  · dsimp only [landing]; exact at_rebase ..

/-- Contents of the windows nothing names. -/
abbrev anyHeld (b : Fin 3) : Held F c b where
  k h := (kslot b h).view.junk
  v h := (vslot b h).view.junk
  kx := (kxslot b).view.junk
  vx := (vxslot b).view.junk
/-- What batch entry `b`'s windows hold when its loop trip reads them. -/
abbrev got (b : Fin 3) : Held F c b := landing c arg0 f0 hlen XK XV b (anyHeld c b)

end Rebase

section Body
variable (c : Dev nD)
  (arg0 : Memref sig .tc .smem S3 .i32) (harg0 : arg0.IsWhole) (arg1 : Memref sig .tc .vmem S3x1x2048 .bf16) (harg1 : arg1.IsWhole)
  (arg2 : Memref sig .tc .vmem S3x4x1x256 .bf16) (harg2 : arg2.IsWhole) (arg3 : Memref sig .tc .vmem S3x4x1x256 .bf16) (harg3 : arg3.IsWhole)
  (arg4 : Memref sig .tc .vmem S4x256 .f32) (harg4 : arg4.IsWhole) (arg5 : Memref sig .tc .smem S4 .f32) (harg5 : arg5.IsWhole)
  (arg8 : Memref sig .tc .vmem S3x1x2048 .bf16) (harg8 : arg8.IsWhole) (arg9 : Memref sig .tc .vmem S3x4x1x256 .i8) (harg9 : arg9.IsWhole)
  (arg10 : Memref sig .tc .vmem S3x4x1x256 .i8) (harg10 : arg10.IsWhole)
  (f0 : Buf (Elt F) (arg0.view.loc (c : Thread nD τ))) (f1 : Buf (Elt F) (arg1.view.loc (c : Thread nD τ)))
  (f2 : Buf (Elt F) (arg2.view.loc (c : Thread nD τ))) (f3 : Buf (Elt F) (arg3.view.loc (c : Thread nD τ)))
  (f4 : Buf (Elt F) (arg4.view.loc (c : Thread nD τ))) (f5 : Buf (Elt F) (arg5.view.loc (c : Thread nD τ)))
  (hlen : ∀ (r : LoadRect S3) j, InRange (arg0.view.readAt (Elt F) r f0 j))
  (XK : Buf (Elt F) (ckM.view.loc (c : Thread nD τ))) (XV : Buf (Elt F) (cvM.view.loc (c : Thread nD τ)))

/-- One trip, at what the kernel computed before its loop and at what the trip's windows receive. -/
abbrev trip (k : Fin k0_t1_loop.trips) :=
  tripRun c arg0 harg0 arg1 harg1 arg2 harg2 arg3 harg3 arg4 harg4 arg5 harg5 arg8 harg8 arg9 harg9 arg10 harg10
    (pre859 c arg4 f4) pre860 (pre948 c arg5 f5) (k0_pay145 pre860) (k0_pay146 pre860) k0_pay147 (vsc c arg5 f5 ![3] inb_S4_S1_3)
    f0 f1 f2 f3 f4 f5 hlen XK XV k (got c arg0 f0 hlen XK XV (bt k))

/-- The pieces the first `n` trips store into the three results, the last one first. -/
def outL : ℕ → List (View.Piece (Elt F) S3x1x2048 .bf16)
  | 0 => []
  | n + 1 => if h : n < k0_t1_loop.trips then (trip c arg0 harg0 arg1 harg1 arg2 harg2 arg3 harg3 arg4 harg4 arg5 harg5 arg8 harg8 arg9 harg9 arg10 harg10 f0 f1 f2 f3 f4 f5 hlen XK XV ⟨n, h⟩).1 ++ outL n else outL n
def kcodeL : ℕ → List (View.Piece (Elt F) S3x4x1x256 .i8)
  | 0 => []
  | n + 1 => if h : n < k0_t1_loop.trips then (trip c arg0 harg0 arg1 harg1 arg2 harg2 arg3 harg3 arg4 harg4 arg5 harg5 arg8 harg8 arg9 harg9 arg10 harg10 f0 f1 f2 f3 f4 f5 hlen XK XV ⟨n, h⟩).2.1 ++ kcodeL n else kcodeL n
def vcodeL : ℕ → List (View.Piece (Elt F) S3x4x1x256 .i8)
  | 0 => []
  | n + 1 => if h : n < k0_t1_loop.trips then (trip c arg0 harg0 arg1 harg1 arg2 harg2 arg3 harg3 arg4 harg4 arg5 harg5 arg8 harg8 arg9 harg9 arg10 harg10 f0 f1 f2 f3 f4 f5 hlen XK XV ⟨n, h⟩).2.2.1 ++ vcodeL n else vcodeL n

/-- Batch entry `b` before trip `n`: its transfers in flight until its own trip, done after it. -/
def stage (n : ℕ) (b : Fin 3) : sProp 𝕄 :=
  if b.val < n then landed c XK XV b (lent c arg0 f0 hlen b) else inflight c XK XV b (got c arg0 f0 hlen XK XV b) (lent c arg0 f0 hlen b)

section Contents
variable (f8 : Buf (Elt F) (arg8.view.loc (c : Thread nD τ))) (f9 : Buf (Elt F) (arg9.view.loc (c : Thread nD τ)))
  (f10 : Buf (Elt F) (arg10.view.loc (c : Thread nD τ)))

/-- What is held before trip `n`. -/
def inv (n : ℕ) : sProp 𝕄 :=
  iprop(inputs c arg0 arg1 arg2 arg3 arg4 arg5 f0 f1 f2 f3 f4 f5
    ∗ at_ c arg8 (arg8.view.writes (Elt F) f8 (outL c arg0 harg0 arg1 harg1 arg2 harg2 arg3 harg3 arg4 harg4 arg5 harg5 arg8 harg8 arg9 harg9 arg10 harg10 f0 f1 f2 f3 f4 f5 hlen XK XV n)) ∗ at_ c arg9 (arg9.view.writes (Elt F) f9 (kcodeL c arg0 harg0 arg1 harg1 arg2 harg2 arg3 harg3 arg4 harg4 arg5 harg5 arg8 harg8 arg9 harg9 arg10 harg10 f0 f1 f2 f3 f4 f5 hlen XK XV n))
    ∗ at_ c arg10 (arg10.view.writes (Elt F) f10 (vcodeL c arg0 harg0 arg1 harg1 arg2 harg2 arg3 harg3 arg4 harg4 arg5 harg5 arg8 harg8 arg9 harg9 arg10 harg10 f0 f1 f2 f3 f4 f5 hlen XK XV n)) ∗ (∃ fs, at_ c sM fs)
    ∗ stage c arg0 f0 hlen XK XV n 0 ∗ stage c arg0 f0 hlen XK XV n 1 ∗ stage c arg0 f0 hlen XK XV n 2
    ∗ ∃ W, owes (c : Thread nD τ) 0 W)

/-- The trip's program at what the kernel computed before its loop. -/
abbrev tripP (k : Fin k0_t1_loop.trips) : Prog (TpuEff nD τ sig (Elt F) Λ₀ .tc) Unit :=
  tripG arg0 harg0 arg1 harg1 arg2 harg2 arg3 harg3 arg4 harg4 arg5 harg5 arg8 harg8 arg9 harg9 arg10 harg10
    (pre859 c arg4 f4) pre860 (pre948 c arg5 f5) (k0_pay145 pre860) (k0_pay146 pre860) k0_pay147 (vsc c arg5 f5 ![3] inb_S4_S1_3) k

/-- One trip beside what it does not touch. -/
theorem step_frame (k : Fin k0_t1_loop.trips) (R : sProp 𝕄) :
    iprop(inputs c arg0 arg1 arg2 arg3 arg4 arg5 f0 f1 f2 f3 f4 f5
        ∗ at_ c arg8 (arg8.view.writes (Elt F) f8 (outL c arg0 harg0 arg1 harg1 arg2 harg2 arg3 harg3 arg4 harg4 arg5 harg5 arg8 harg8 arg9 harg9 arg10 harg10 f0 f1 f2 f3 f4 f5 hlen XK XV k.val)) ∗ at_ c arg9 (arg9.view.writes (Elt F) f9 (kcodeL c arg0 harg0 arg1 harg1 arg2 harg2 arg3 harg3 arg4 harg4 arg5 harg5 arg8 harg8 arg9 harg9 arg10 harg10 f0 f1 f2 f3 f4 f5 hlen XK XV k.val))
        ∗ at_ c arg10 (arg10.view.writes (Elt F) f10 (vcodeL c arg0 harg0 arg1 harg1 arg2 harg2 arg3 harg3 arg4 harg4 arg5 harg5 arg8 harg8 arg9 harg9 arg10 harg10 f0 f1 f2 f3 f4 f5 hlen XK XV k.val)) ∗ (∃ fs, at_ c sM fs)
        ∗ inflight c XK XV (bt k) (got c arg0 f0 hlen XK XV (bt k)) (lent c arg0 f0 hlen (bt k)) ∗ R
        ∗ ∃ W, owes (c : Thread nD τ) 0 W)
      ⊢ wp frame (wpE (defs₀ (F := F)) Variants.none (c : Thread nD τ) none) Set.univ
          (tripP c arg0 harg0 arg1 harg1 arg2 harg2 arg3 harg3 arg4 harg4 arg5 harg5 arg8 harg8 arg9 harg9 arg10 harg10 f4 f5 k)
          (fun _ => iprop(inputs c arg0 arg1 arg2 arg3 arg4 arg5 f0 f1 f2 f3 f4 f5
            ∗ at_ c arg8 (arg8.view.writes (Elt F) f8 (outL c arg0 harg0 arg1 harg1 arg2 harg2 arg3 harg3 arg4 harg4 arg5 harg5 arg8 harg8 arg9 harg9 arg10 harg10 f0 f1 f2 f3 f4 f5 hlen XK XV (k.val + 1))) ∗ at_ c arg9 (arg9.view.writes (Elt F) f9 (kcodeL c arg0 harg0 arg1 harg1 arg2 harg2 arg3 harg3 arg4 harg4 arg5 harg5 arg8 harg8 arg9 harg9 arg10 harg10 f0 f1 f2 f3 f4 f5 hlen XK XV (k.val + 1)))
            ∗ at_ c arg10 (arg10.view.writes (Elt F) f10 (vcodeL c arg0 harg0 arg1 harg1 arg2 harg2 arg3 harg3 arg4 harg4 arg5 harg5 arg8 harg8 arg9 harg9 arg10 harg10 f0 f1 f2 f3 f4 f5 hlen XK XV (k.val + 1))) ∗ (∃ fs, at_ c sM fs)
            ∗ landed c XK XV (bt k) (lent c arg0 f0 hlen (bt k)) ∗ R
            ∗ ∃ W, owes (c : Thread nD τ) 0 W)) := by
  rw [show outL c arg0 harg0 arg1 harg1 arg2 harg2 arg3 harg3 arg4 harg4 arg5 harg5 arg8 harg8 arg9 harg9 arg10 harg10 f0 f1 f2 f3 f4 f5 hlen XK XV (k.val + 1) = (trip c arg0 harg0 arg1 harg1 arg2 harg2 arg3 harg3 arg4 harg4 arg5 harg5 arg8 harg8 arg9 harg9 arg10 harg10 f0 f1 f2 f3 f4 f5 hlen XK XV k).1 ++ outL c arg0 harg0 arg1 harg1 arg2 harg2 arg3 harg3 arg4 harg4 arg5 harg5 arg8 harg8 arg9 harg9 arg10 harg10 f0 f1 f2 f3 f4 f5 hlen XK XV k.val from dif_pos k.isLt,
    show kcodeL c arg0 harg0 arg1 harg1 arg2 harg2 arg3 harg3 arg4 harg4 arg5 harg5 arg8 harg8 arg9 harg9 arg10 harg10 f0 f1 f2 f3 f4 f5 hlen XK XV (k.val + 1) = (trip c arg0 harg0 arg1 harg1 arg2 harg2 arg3 harg3 arg4 harg4 arg5 harg5 arg8 harg8 arg9 harg9 arg10 harg10 f0 f1 f2 f3 f4 f5 hlen XK XV k).2.1 ++ kcodeL c arg0 harg0 arg1 harg1 arg2 harg2 arg3 harg3 arg4 harg4 arg5 harg5 arg8 harg8 arg9 harg9 arg10 harg10 f0 f1 f2 f3 f4 f5 hlen XK XV k.val from dif_pos k.isLt,
    show vcodeL c arg0 harg0 arg1 harg1 arg2 harg2 arg3 harg3 arg4 harg4 arg5 harg5 arg8 harg8 arg9 harg9 arg10 harg10 f0 f1 f2 f3 f4 f5 hlen XK XV (k.val + 1) = (trip c arg0 harg0 arg1 harg1 arg2 harg2 arg3 harg3 arg4 harg4 arg5 harg5 arg8 harg8 arg9 harg9 arg10 harg10 f0 f1 f2 f3 f4 f5 hlen XK XV k).2.2.1 ++ vcodeL c arg0 harg0 arg1 harg1 arg2 harg2 arg3 harg3 arg4 harg4 arg5 harg5 arg8 harg8 arg9 harg9 arg10 harg10 f0 f1 f2 f3 f4 f5 hlen XK XV k.val from dif_pos k.isLt,
    View.writes_append, View.writes_append, View.writes_append]
  iintro ⟨HI, H8, H9, H10, ⟨%fs, HS⟩, HF, HR, ⟨%W, HW⟩⟩
  ihave Hwp := ((trip c arg0 harg0 arg1 harg1 arg2 harg2 arg3 harg3 arg4 harg4 arg5 harg5 arg8 harg8 arg9 harg9 arg10 harg10 f0 f1 f2 f3 f4 f5 hlen XK XV k).2.2.2 W _ _ _ fs (lent c arg0 f0 hlen (bt k))) $$ [HI H8 H9 H10 HS HF HW]
  · isplitl [HI]; · iexact HI
    isplitl [H8]; · iexact H8
    isplitl [H9]; · iexact H9
    isplitl [H10]; · iexact H10
    isplitl [HS]; · iexact HS
    isplitl [HF]; · iexact HF
    iexact HW
  iapply (wp_wand_r frame (wpE (defs₀ (F := F)) Variants.none (c : Thread nD τ) none) Set.univ)
  isplitl [Hwp]; · iexact Hwp
  iintro %_ ⟨HI, H8, H9, H10, HS, HF, HW⟩
  isplitl [HI]; · iexact HI
  isplitl [H8]; · iexact H8
  isplitl [H9]; · iexact H9
  isplitl [H10]; · iexact H10
  isplitl [HS]; · iexact HS
  isplitl [HF]; · iexact HF
  isplitl [HR]; · iexact HR
  iexact HW

theorem stage_done {n : ℕ} {b : Fin 3} (h : b.val < n) : (stage c arg0 f0 hlen XK XV n b : sProp 𝕄) = landed c XK XV b (lent c arg0 f0 hlen b) := if_pos h
theorem stage_open {n : ℕ} {b : Fin 3} (h : ¬ b.val < n) :
    (stage c arg0 f0 hlen XK XV n b : sProp 𝕄) = inflight c XK XV b (got c arg0 f0 hlen XK XV b) (lent c arg0 f0 hlen b) := if_neg h
/-- A trip changes only its own batch entry's stage. -/
theorem stage_other (k : Fin k0_t1_loop.trips) {b : Fin 3} (h : b ≠ bt k) :
    (stage c arg0 f0 hlen XK XV (k.val + 1) b : sProp 𝕄) = stage c arg0 f0 hlen XK XV k.val b := by
  have h' : b.val ≠ k.val := fun e => h (Fin.ext e)
  unfold stage
  by_cases hb : b.val < k.val
  · rw [if_pos hb, if_pos (by omega)]
  · rw [if_neg hb, if_neg (by omega)]

/-- The three stages, one batch entry's apart. -/
theorem stages_apart (X : Fin 3 → sProp 𝕄) (b : Fin 3) :
    ∃ b' b'' : Fin 3, b' ≠ b ∧ b'' ≠ b ∧ ∀ Y : Fin 3 → sProp 𝕄, iprop(Y 0 ∗ Y 1 ∗ Y 2) ⊣⊢ iprop(Y b ∗ Y b' ∗ Y b'') := by
  obtain rfl | rfl | rfl : b = 0 ∨ b = 1 ∨ b = 2 := by fin_cases b <;> simp
  · exact ⟨1, 2, by decide, by decide, fun Y => .rfl⟩
  · refine ⟨0, 2, by decide, by decide, fun Y => ⟨?_, ?_⟩⟩
    · iintro ⟨A, B, C⟩
      isplitl [B]; · iexact B
      isplitl [A]; · iexact A
      iexact C
    · iintro ⟨B, A, C⟩
      isplitl [A]; · iexact A
      isplitl [B]; · iexact B
      iexact C
  · refine ⟨0, 1, by decide, by decide, fun Y => ⟨?_, ?_⟩⟩
    · iintro ⟨A, B, C⟩
      isplitl [C]; · iexact C
      isplitl [A]; · iexact A
      iexact B
    · iintro ⟨C, A, B⟩
      isplitl [A]; · iexact A
      isplitl [B]; · iexact B
      iexact C

/-- ONE TRIP keeps what is held, one trip further. -/
theorem step (k : Fin k0_t1_loop.trips) (u : Unit) :
    inv c arg0 harg0 arg1 harg1 arg2 harg2 arg3 harg3 arg4 harg4 arg5 harg5 arg8 harg8 arg9 harg9 arg10 harg10 f0 f1 f2 f3 f4 f5 hlen XK XV f8 f9 f10 k.val ⊢ wp frame (wpE (defs₀ (F := F)) Variants.none (c : Thread nD τ) none) Set.univ (tripP c arg0 harg0 arg1 harg1 arg2 harg2 arg3 harg3 arg4 harg4 arg5 harg5 arg8 harg8 arg9 harg9 arg10 harg10 f4 f5 k)
      (fun _ => inv c arg0 harg0 arg1 harg1 arg2 harg2 arg3 harg3 arg4 harg4 arg5 harg5 arg8 harg8 arg9 harg9 arg10 harg10 f0 f1 f2 f3 f4 f5 hlen XK XV f8 f9 f10 (k.val + 1)) := by
  obtain ⟨b', b'', h', h'', e⟩ := stages_apart (fun _ => (iprop(emp) : sProp 𝕄)) (bt k)
  unfold inv
  iintro ⟨HI, H8, H9, H10, HS, H0, H1, H2, HW⟩
  ihave HT := ((e (stage c arg0 f0 hlen XK XV k.val)).1) $$ [H0 H1 H2]
  · isplitl [H0]; · iexact H0
    isplitl [H1]; · iexact H1
    iexact H2
  rw [stage_open c arg0 f0 hlen XK XV (n := k.val) (b := bt k) (by exact Nat.lt_irrefl _)]
  icases HT with ⟨HF, HR⟩
  ihave Hwp := (step_frame c arg0 harg0 arg1 harg1 arg2 harg2 arg3 harg3 arg4 harg4 arg5 harg5 arg8 harg8 arg9 harg9 arg10 harg10 f0 f1 f2 f3 f4 f5 hlen XK XV f8 f9 f10 k iprop(stage c arg0 f0 hlen XK XV k.val b' ∗ stage c arg0 f0 hlen XK XV k.val b'')) $$ [HI H8 H9 H10 HS HF HR HW]
  · isplitl [HI]; · iexact HI
    isplitl [H8]; · iexact H8
    isplitl [H9]; · iexact H9
    isplitl [H10]; · iexact H10
    isplitl [HS]; · iexact HS
    isplitl [HF]; · iexact HF
    isplitl [HR]; · iexact HR
    iexact HW
  iapply (wp_wand_r frame (wpE (defs₀ (F := F)) Variants.none (c : Thread nD τ) none) Set.univ)
  isplitl [Hwp]; · iexact Hwp
  iintro %_ ⟨HI, H8, H9, H10, HS, HF, HR, HW⟩
  isplitl [HI]; · iexact HI
  isplitl [H8]; · iexact H8
  isplitl [H9]; · iexact H9
  isplitl [H10]; · iexact H10
  isplitl [HS]; · iexact HS
  ihave HT := ((e (stage c arg0 f0 hlen XK XV (k.val + 1))).2) $$ [HF HR]
  · rw [stage_done c arg0 f0 hlen XK XV (n := k.val + 1) (b := bt k) (by exact Nat.lt_succ_self _),
      stage_other c arg0 f0 hlen XK XV k h', stage_other c arg0 f0 hlen XK XV k h'']
    isplitl [HF]; · iexact HF
    iexact HR
  icases HT with ⟨H0, H1, H2⟩
  isplitl [H0]; · iexact H0
  isplitl [H1]; · iexact H1
  isplitl [H2]; · iexact H2
  iexact HW

/-- THE WHOLE BODY: from the inputs, the results at anything and everything the transfers need, to the results written with
    the trips' pieces and everything back. -/
theorem bodyRun (D : ∀ b, Held F c b) (W : Waits sig Unit) (fs : Buf (Elt F) (sM.view.loc (c : Thread nD τ))) (Q : PUnit → sProp 𝕄) :
    iprop(inputs c arg0 arg1 arg2 arg3 arg4 arg5 f0 f1 f2 f3 f4 f5
        ∗ at_ c arg8 f8 ∗ at_ c arg9 f9 ∗ at_ c arg10 f10 ∗ at_ c sM fs
        ∗ waiting c XK XV 0 (D 0) (lent c arg0 f0 hlen 0) ∗ waiting c XK XV 1 (D 1) (lent c arg0 f0 hlen 1) ∗ waiting c XK XV 2 (D 2) (lent c arg0 f0 hlen 2)
        ∗ owes (c : Thread nD τ) 0 W
        ∗ (iprop(inputs c arg0 arg1 arg2 arg3 arg4 arg5 f0 f1 f2 f3 f4 f5
            ∗ at_ c arg8 (arg8.view.writes (Elt F) f8 (outL c arg0 harg0 arg1 harg1 arg2 harg2 arg3 harg3 arg4 harg4 arg5 harg5 arg8 harg8 arg9 harg9 arg10 harg10 f0 f1 f2 f3 f4 f5 hlen XK XV 3)) ∗ at_ c arg9 (arg9.view.writes (Elt F) f9 (kcodeL c arg0 harg0 arg1 harg1 arg2 harg2 arg3 harg3 arg4 harg4 arg5 harg5 arg8 harg8 arg9 harg9 arg10 harg10 f0 f1 f2 f3 f4 f5 hlen XK XV 3))
            ∗ at_ c arg10 (arg10.view.writes (Elt F) f10 (vcodeL c arg0 harg0 arg1 harg1 arg2 harg2 arg3 harg3 arg4 harg4 arg5 harg5 arg8 harg8 arg9 harg9 arg10 harg10 f0 f1 f2 f3 f4 f5 hlen XK XV 3)) ∗ (∃ fs, at_ c sM fs)
            ∗ (landed c XK XV 0 (lent c arg0 f0 hlen 0) ∗ rests c XK XV (lent c arg0 f0 hlen 0))
            ∗ (landed c XK XV 1 (lent c arg0 f0 hlen 1) ∗ rests c XK XV (lent c arg0 f0 hlen 1))
            ∗ (landed c XK XV 2 (lent c arg0 f0 hlen 2) ∗ rests c XK XV (lent c arg0 f0 hlen 2))
            ∗ ∃ W, owes (c : Thread nD τ) 0 W) -∗ Q ⟨⟩))
      ⊢ wp frame (wpE (defs₀ (F := F)) Variants.none (c : Thread nD τ) none) Set.univ
          (bodyG arg0 harg0 arg1 harg1 arg2 harg2 arg3 harg3 arg4 harg4 arg5 harg5 arg8 harg8 arg9 harg9 arg10 harg10) Q := by
  iintro ⟨HI, H8, H9, H10, HS, HA0, HA1, HA2, HW, Hk⟩
  iapply (preRun c arg0 harg0 arg1 harg1 arg2 harg2 arg3 harg3 arg4 harg4 arg5 harg5 arg8 harg8 arg9 harg9 arg10 harg10 f0 f1 f2 f3 f4 f5 hlen XK XV D W fs f8 f9 f10 Q)
  isplitl [HI]; · iexact HI
  isplitl [H8]; · iexact H8
  isplitl [H9]; · iexact H9
  isplitl [H10]; · iexact H10
  isplitl [HS]; · iexact HS
  isplitl [HA0]; · iexact HA0
  isplitl [HA1]; · iexact HA1
  isplitl [HA2]; · iexact HA2
  isplitl [HW]; · iexact HW
  rw [inflight_rebase c arg0 f0 hlen XK XV 0 (D 0) (anyHeld c 0), inflight_rebase c arg0 f0 hlen XK XV 1 (D 1) (anyHeld c 1),
    inflight_rebase c arg0 f0 hlen XK XV 2 (D 2) (anyHeld c 2)]
  iintro ⟨HI, H8, H9, H10, HS, HF0, HR0, HF1, HR1, HF2, HR2, HW⟩
  dsimp only [loopG]
  ihave HL := (Scf.wp_for_bind frame (wpE (defs₀ (F := F)) Variants.none (c : Thread nD τ) none) Set.univ k0_t1_loop.lb k0_t1_loop.ub k0_t1_loop.st k0_t1_ok ()
    (fun k _ => tripP c arg0 harg0 arg1 harg1 arg2 harg2 arg3 harg3 arg4 harg4 arg5 harg5 arg8 harg8 arg9 harg9 arg10 harg10 f4 f5 k) (fun n _ => inv c arg0 harg0 arg1 harg1 arg2 harg2 arg3 harg3 arg4 harg4 arg5 harg5 arg8 harg8 arg9 harg9 arg10 harg10 f0 f1 f2 f3 f4 f5 hlen XK XV f8 f9 f10 n)
    (fun k u => step c arg0 harg0 arg1 harg1 arg2 harg2 arg3 harg3 arg4 harg4 arg5 harg5 arg8 harg8 arg9 harg9 arg10 harg10 f0 f1 f2 f3 f4 f5 hlen XK XV f8 f9 f10 k u)
    (kk := fun _ => (pure ⟨⟩ : Prog (TpuEff nD τ sig (Elt F) Λ₀ .tc) PUnit)) (Q := Q)) $$ [HI H8 H9 H10 HS HF0 HF1 HF2 HW]
  · unfold inv
    rw [stage_open c arg0 f0 hlen XK XV (n := 0) (b := 0) (by decide), stage_open c arg0 f0 hlen XK XV (n := 0) (b := 1) (by decide),
      stage_open c arg0 f0 hlen XK XV (n := 0) (b := 2) (by decide)]
    isplitl [HI]; · iexact HI
    isplitl [H8]; · iexact H8
    isplitl [H9]; · iexact H9
    isplitl [H10]; · iexact H10
    isplitl [HS]; · iexists fs; iexact HS
    isplitl [HF0]; · iexact HF0
    isplitl [HF1]; · iexact HF1
    isplitl [HF2]; · iexact HF2
    iexists W; iexact HW
  iapply HL
  iintro %_ HV
  iapply (BIBase.Entails.of_eq (wp_ret ..).symm)
  imodintro
  iapply Hk
  ihave HV' := (show inv c arg0 harg0 arg1 harg1 arg2 harg2 arg3 harg3 arg4 harg4 arg5 harg5 arg8 harg8 arg9 harg9 arg10 harg10 f0 f1 f2 f3 f4 f5 hlen XK XV f8 f9 f10 (Scf.trips k0_t1_loop.lb k0_t1_loop.ub k0_t1_loop.st) ⊢ inv c arg0 harg0 arg1 harg1 arg2 harg2 arg3 harg3 arg4 harg4 arg5 harg5 arg8 harg8 arg9 harg9 arg10 harg10 f0 f1 f2 f3 f4 f5 hlen XK XV f8 f9 f10 3
    from Entails.of_eq (congrArg (inv c arg0 harg0 arg1 harg1 arg2 harg2 arg3 harg3 arg4 harg4 arg5 harg5 arg8 harg8 arg9 harg9 arg10 harg10 f0 f1 f2 f3 f4 f5 hlen XK XV f8 f9 f10) (by decide +kernel))) $$ HV
  unfold inv
  rw [stage_done c arg0 f0 hlen XK XV (n := 3) (b := 0) (by decide), stage_done c arg0 f0 hlen XK XV (n := 3) (b := 1) (by decide),
    stage_done c arg0 f0 hlen XK XV (n := 3) (b := 2) (by decide)]
  icases HV' with ⟨HI, H8, H9, H10, HS, HF0, HF1, HF2, HW⟩
  isplitl [HI]; · iexact HI
  isplitl [H8]; · iexact H8
  isplitl [H9]; · iexact H9
  isplitl [H10]; · iexact H10
  isplitl [HS]; · iexact HS
  isplitl [HF0 HR0]
  · isplitl [HF0]; · iexact HF0
    iexact HR0
  isplitl [HF1 HR1]
  · isplitl [HF1]; · iexact HF1
    iexact HR1
  isplitl [HF2 HR2]
  · isplitl [HF2]; · iexact HF2
    iexact HR2
  iexact HW

end Contents

end Body

end Cert.Kernel.Hand

end
-- ==== Proof.Kernel.Split.lean ====
/- What the kernel holds before its body and after it, against what its transfers hold: the four scratch buffers are
   their windows, and the two caches one share per transfer and a remainder. -/
module

public import proofs.«01_k».proof.Proof.Kernel.Body

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## Windows of a scratch buffer -/

/-- The elements of the window of batch entry `b`, head `h`, and of the further rows of batch entry `b`. -/
abbrev mainSet (p : Fin 3 × Fin 4) : Finset S3x4x4096x256.Idx := (Rect.unit (s := S3x4x4096x256) (mainOff p.1 p.2) S1x1x4096x256.size (mainOff_inb p.1 p.2)).set
abbrev extraSet (b : Fin 3) : Finset S3x4x32x256.Idx := (Rect.unit (s := S3x4x32x256) (extraOff b) S1x4x32x256.size (extraOff_inb b)).set

theorem mem_mainSet (p : Fin 3 × Fin 4) (i : S3x4x4096x256.Idx) : i ∈ mainSet p ↔ (i 0).val = p.1.val ∧ (i 1).val = p.2.val := by
  rw [Rect.mem_set_unit]
  have h2 : (i 2).val < 4096 := (i 2).isLt
  have h3 : (i 3).val < 256 := (i 3).isLt
  constructor
  · intro h
    have h0 : p.1.val ≤ (i 0).val ∧ (i 0).val < p.1.val + 1 := h 0
    have h1 : p.2.val ≤ (i 1).val ∧ (i 1).val < p.2.val + 1 := h 1
    omega
  · rintro ⟨e0, e1⟩ a
    fin_cases a
    · show p.1.val ≤ (i 0).val ∧ (i 0).val < p.1.val + 1; omega
    · show p.2.val ≤ (i 1).val ∧ (i 1).val < p.2.val + 1; omega
    · show 0 ≤ (i 2).val ∧ (i 2).val < 0 + 4096; omega
    · show 0 ≤ (i 3).val ∧ (i 3).val < 0 + 256; omega
theorem mem_extraSet (b : Fin 3) (i : S3x4x32x256.Idx) : i ∈ extraSet b ↔ (i 0).val = b.val := by
  rw [Rect.mem_set_unit]
  have h1 : (i 1).val < 4 := (i 1).isLt
  have h2 : (i 2).val < 32 := (i 2).isLt
  have h3 : (i 3).val < 256 := (i 3).isLt
  constructor
  · intro h
    have h0 : b.val ≤ (i 0).val ∧ (i 0).val < b.val + 1 := h 0
    omega
  · rintro e0 a
    fin_cases a
    · show b.val ≤ (i 0).val ∧ (i 0).val < b.val + 1; omega
    · show 0 ≤ (i 1).val ∧ (i 1).val < 0 + 4; omega
    · show 0 ≤ (i 2).val ∧ (i 2).val < 0 + 32; omega
    · show 0 ≤ (i 3).val ∧ (i 3).val < 0 + 256; omega

theorem main_apart : ∀ p p', p ≠ p' → Disjoint (mainSet p) (mainSet p') := fun p p' hne =>
  Finset.disjoint_left.mpr fun i h h' => hne <| by
    rw [mem_mainSet] at h h'
    exact Prod.ext (Fin.ext (h.1.symm.trans h'.1)) (Fin.ext (h.2.symm.trans h'.2))
theorem main_all : (Finset.univ : Finset (Fin 3 × Fin 4)).biUnion mainSet = Finset.univ :=
  Finset.eq_univ_iff_forall.mpr fun i => Finset.mem_biUnion.mpr ⟨(i 0, i 1), Finset.mem_univ _, (mem_mainSet _ _).mpr ⟨rfl, rfl⟩⟩
theorem extra_apart : ∀ b b', b ≠ b' → Disjoint (extraSet b) (extraSet b') := fun b b' hne =>
  Finset.disjoint_left.mpr fun i h h' => hne <| by
    rw [mem_extraSet] at h h'
    exact Fin.ext (h.symm.trans h')
theorem extra_all : (Finset.univ : Finset (Fin 3)).biUnion extraSet = Finset.univ :=
  Finset.eq_univ_iff_forall.mpr fun i => Finset.mem_biUnion.mpr ⟨i 0, Finset.mem_univ _, (mem_extraSet _ _).mpr rfl⟩

theorem kslot_set (p : Fin 3 × Fin 4) : (kslot p.1 p.2).view.set = mainSet p := (View.set_reshape _ _).trans (View.set_slice_whole _ _)
theorem vslot_set (p : Fin 3 × Fin 4) : (vslot p.1 p.2).view.set = mainSet p := (View.set_reshape _ _).trans (View.set_slice_whole _ _)
theorem kxslot_set (b : Fin 3) : (kxslot b).view.set = extraSet b := (View.set_reshape _ _).trans (View.set_slice_whole _ _)
theorem vxslot_set (b : Fin 3) : (vxslot b).view.set = extraSet b := (View.set_reshape _ _).trans (View.set_slice_whole _ _)

variable (c : Dev nD)

/-- The batch entries and heads, listed. -/
abbrev pairs : List (Fin 3 × Fin 4) := [(0, 0), (0, 1), (0, 2), (0, 3), (1, 0), (1, 1), (1, 2), (1, 3), (2, 0), (2, 1), (2, 2), (2, 3)]

/-- The key buffer is its windows, listed. -/
theorem k_open (f : Buf (Elt F) (kM.view.loc (c : Thread nD τ))) :
    (kM.view.loc (c : Thread nD τ) ↦{fullShare} f : sProp 𝕄) = iprop(at_ c (kslot 0 0) f ∗ at_ c (kslot 0 1) f ∗ at_ c (kslot 0 2) f ∗ at_ c (kslot 0 3) f ∗ at_ c (kslot 1 0) f ∗ at_ c (kslot 1 1) f ∗ at_ c (kslot 1 2) f ∗ at_ c (kslot 1 3) f ∗ at_ c (kslot 2 0) f ∗ at_ c (kslot 2 1) f ∗ at_ c (kslot 2 2) f ∗ at_ c (kslot 2 3) f) := by
  rw [Ring.pointsTo_blocks mainSet main_apart main_all f, BI.bigSep_univ_eq_bigSepL pairs (by decide) (by decide)]
  exact congrArg (bigSepL pairs) (funext fun p : Fin 3 × Fin 4 => congrArg (fun S => (kM.view.loc (c : Thread nD τ) ↦[S]{fullShare} f : sProp 𝕄)) (kslot_set p).symm)
theorem k_close : iprop((∃ g, at_ c (kslot 0 0) g) ∗ (∃ g, at_ c (kslot 0 1) g) ∗ (∃ g, at_ c (kslot 0 2) g) ∗ (∃ g, at_ c (kslot 0 3) g) ∗ (∃ g, at_ c (kslot 1 0) g) ∗ (∃ g, at_ c (kslot 1 1) g) ∗ (∃ g, at_ c (kslot 1 2) g) ∗ (∃ g, at_ c (kslot 1 3) g) ∗ (∃ g, at_ c (kslot 2 0) g) ∗ (∃ g, at_ c (kslot 2 1) g) ∗ (∃ g, at_ c (kslot 2 2) g) ∗ (∃ g, at_ c (kslot 2 3) g))
    ⊢ (∃ f, kM.view.loc (c : Thread nD τ) ↦{fullShare} f : sProp 𝕄) := by
  refine .trans (Entails.of_eq ?_) (Ring.pointsTo_blocks_join_exists (ℓ := kM.view.loc (c : Thread nD τ)) mainSet main_apart main_all (fun _ => default))
  rw [BI.bigSep_univ_eq_bigSepL pairs (by decide) (by decide)]
  exact congrArg (bigSepL pairs) (funext fun p : Fin 3 × Fin 4 => congrArg (fun S => (iprop(∃ g, kM.view.loc (c : Thread nD τ) ↦[S]{fullShare} g) : sProp 𝕄)) (kslot_set p))

/-- The value buffer is its windows, listed. -/
theorem v_open (f : Buf (Elt F) (vM.view.loc (c : Thread nD τ))) :
    (vM.view.loc (c : Thread nD τ) ↦{fullShare} f : sProp 𝕄) = iprop(at_ c (vslot 0 0) f ∗ at_ c (vslot 0 1) f ∗ at_ c (vslot 0 2) f ∗ at_ c (vslot 0 3) f ∗ at_ c (vslot 1 0) f ∗ at_ c (vslot 1 1) f ∗ at_ c (vslot 1 2) f ∗ at_ c (vslot 1 3) f ∗ at_ c (vslot 2 0) f ∗ at_ c (vslot 2 1) f ∗ at_ c (vslot 2 2) f ∗ at_ c (vslot 2 3) f) := by
  rw [Ring.pointsTo_blocks mainSet main_apart main_all f, BI.bigSep_univ_eq_bigSepL pairs (by decide) (by decide)]
  exact congrArg (bigSepL pairs) (funext fun p : Fin 3 × Fin 4 => congrArg (fun S => (vM.view.loc (c : Thread nD τ) ↦[S]{fullShare} f : sProp 𝕄)) (vslot_set p).symm)
theorem v_close : iprop((∃ g, at_ c (vslot 0 0) g) ∗ (∃ g, at_ c (vslot 0 1) g) ∗ (∃ g, at_ c (vslot 0 2) g) ∗ (∃ g, at_ c (vslot 0 3) g) ∗ (∃ g, at_ c (vslot 1 0) g) ∗ (∃ g, at_ c (vslot 1 1) g) ∗ (∃ g, at_ c (vslot 1 2) g) ∗ (∃ g, at_ c (vslot 1 3) g) ∗ (∃ g, at_ c (vslot 2 0) g) ∗ (∃ g, at_ c (vslot 2 1) g) ∗ (∃ g, at_ c (vslot 2 2) g) ∗ (∃ g, at_ c (vslot 2 3) g))
    ⊢ (∃ f, vM.view.loc (c : Thread nD τ) ↦{fullShare} f : sProp 𝕄) := by
  refine .trans (Entails.of_eq ?_) (Ring.pointsTo_blocks_join_exists (ℓ := vM.view.loc (c : Thread nD τ)) mainSet main_apart main_all (fun _ => default))
  rw [BI.bigSep_univ_eq_bigSepL pairs (by decide) (by decide)]
  exact congrArg (bigSepL pairs) (funext fun p : Fin 3 × Fin 4 => congrArg (fun S => (iprop(∃ g, vM.view.loc (c : Thread nD τ) ↦[S]{fullShare} g) : sProp 𝕄)) (vslot_set p))

/-- The further key buffer is its windows, listed. -/
theorem kx_open (f : Buf (Elt F) (kxM.view.loc (c : Thread nD τ))) :
    (kxM.view.loc (c : Thread nD τ) ↦{fullShare} f : sProp 𝕄) = iprop(at_ c (kxslot 0) f ∗ at_ c (kxslot 1) f ∗ at_ c (kxslot 2) f) := by
  rw [Ring.pointsTo_blocks extraSet extra_apart extra_all f, BI.bigSep_univ_eq_bigSepL [0, 1, 2] (by decide) (by decide)]
  exact congrArg (bigSepL [0, 1, 2]) (funext fun p : Fin 3 => congrArg (fun S => (kxM.view.loc (c : Thread nD τ) ↦[S]{fullShare} f : sProp 𝕄)) (kxslot_set p).symm)
theorem kx_close : iprop((∃ g, at_ c (kxslot 0) g) ∗ (∃ g, at_ c (kxslot 1) g) ∗ (∃ g, at_ c (kxslot 2) g))
    ⊢ (∃ f, kxM.view.loc (c : Thread nD τ) ↦{fullShare} f : sProp 𝕄) := by
  refine .trans (Entails.of_eq ?_) (Ring.pointsTo_blocks_join_exists (ℓ := kxM.view.loc (c : Thread nD τ)) extraSet extra_apart extra_all (fun _ => default))
  rw [BI.bigSep_univ_eq_bigSepL [0, 1, 2] (by decide) (by decide)]
  exact congrArg (bigSepL [0, 1, 2]) (funext fun p : Fin 3 => congrArg (fun S => (iprop(∃ g, kxM.view.loc (c : Thread nD τ) ↦[S]{fullShare} g) : sProp 𝕄)) (kxslot_set p))

/-- The further value buffer is its windows, listed. -/
theorem vx_open (f : Buf (Elt F) (vxM.view.loc (c : Thread nD τ))) :
    (vxM.view.loc (c : Thread nD τ) ↦{fullShare} f : sProp 𝕄) = iprop(at_ c (vxslot 0) f ∗ at_ c (vxslot 1) f ∗ at_ c (vxslot 2) f) := by
  rw [Ring.pointsTo_blocks extraSet extra_apart extra_all f, BI.bigSep_univ_eq_bigSepL [0, 1, 2] (by decide) (by decide)]
  exact congrArg (bigSepL [0, 1, 2]) (funext fun p : Fin 3 => congrArg (fun S => (vxM.view.loc (c : Thread nD τ) ↦[S]{fullShare} f : sProp 𝕄)) (vxslot_set p).symm)
theorem vx_close : iprop((∃ g, at_ c (vxslot 0) g) ∗ (∃ g, at_ c (vxslot 1) g) ∗ (∃ g, at_ c (vxslot 2) g))
    ⊢ (∃ f, vxM.view.loc (c : Thread nD τ) ↦{fullShare} f : sProp 𝕄) := by
  refine .trans (Entails.of_eq ?_) (Ring.pointsTo_blocks_join_exists (ℓ := vxM.view.loc (c : Thread nD τ)) extraSet extra_apart extra_all (fun _ => default))
  rw [BI.bigSep_univ_eq_bigSepL [0, 1, 2] (by decide) (by decide)]
  exact congrArg (bigSepL [0, 1, 2]) (funext fun p : Fin 3 => congrArg (fun S => (iprop(∃ g, vxM.view.loc (c : Thread nD τ) ↦[S]{fullShare} g) : sProp 𝕄)) (vxslot_set p))

/-! ## Shares of a cache -/

/-- The numbers of the cells the key transfers and the value transfers are counted on. -/
abbrev kNums : List (Fin 39) := [9, 10, 11, 12, 13, 14, 15, 16, 17, 18, 19, 20, 33, 35, 37]
abbrev vNums : List (Fin 39) := [21, 22, 23, 24, 25, 26, 27, 28, 29, 30, 31, 32, 34, 36, 38]

/-- What of an array no transfer counted on the cells `l` is lent. -/
def kept {s' : Shape} (src : Memref sig .tc .hbm s' .i8) (l : List (Fin 39)) (A : Buf (Elt F) (src.view.loc (c : Thread nD τ))) : sProp 𝕄 :=
  iprop((src.view.loc (c : Thread nD τ) ↦{Transfers.shareDrop fullShare 39} A)
    ∗ bigSep (Finset.univ \ l.toFinset) fun i : Fin 39 => tokAt c src (Transfers.shareTok fullShare 39 i) A)

theorem shares_listed {s' : Shape} (src : Memref sig .tc .hbm s' .i8) (l : List (Fin 39)) (hl : l.Nodup) (A : Buf (Elt F) (src.view.loc (c : Thread nD τ))) :
    (bigSep Finset.univ fun i : Fin 39 => tokAt c src (Transfers.shareTok fullShare 39 i) A : sProp 𝕄)
      = iprop((bigSepL l fun i : Fin 39 => tokAt c src (Transfers.shareTok fullShare 39 i) A)
        ∗ bigSep (Finset.univ \ l.toFinset) fun i : Fin 39 => tokAt c src (Transfers.shareTok fullShare 39 i) A) := by
  rw [BI.bigSep_sdiff_split (Finset.subset_univ l.toFinset), BI.bigSep_eq_bigSepL_of_eq l rfl hl]; rfl
theorem shares_open {s' : Shape} (src : Memref sig .tc .hbm s' .i8) (l : List (Fin 39)) (hl : l.Nodup) (A : Buf (Elt F) (src.view.loc (c : Thread nD τ))) :
    tokAt c src fullShare A ⊢ iprop(kept c src l A ∗ (bigSepL l fun i : Fin 39 => tokAt c src (Transfers.shareTok fullShare 39 i) A)) := by
  refine .trans (Transfers.pointsTo_toks_split fullShare 39) ?_
  refine .trans (BIClass.sep_mono .rfl (Entails.of_eq (shares_listed c src l hl A))) ?_
  unfold kept
  iintro ⟨Ha, Hb, Hc⟩
  isplitl [Ha Hc]
  · isplitl [Ha]; · iexact Ha
    iexact Hc
  · iexact Hb
theorem shares_close {s' : Shape} (src : Memref sig .tc .hbm s' .i8) (l : List (Fin 39)) (hl : l.Nodup) (A : Buf (Elt F) (src.view.loc (c : Thread nD τ))) :
    iprop(kept c src l A ∗ (bigSepL l fun i : Fin 39 => tokAt c src (Transfers.shareTok fullShare 39 i) A)) ⊢ tokAt c src fullShare A := by
  refine .trans ?_ (Transfers.pointsTo_toks_join fullShare 39)
  refine .trans ?_ (BIClass.sep_mono .rfl (Entails.of_eq (shares_listed c src l hl A).symm))
  unfold kept
  iintro ⟨⟨Ha, Hc⟩, Hb⟩
  isplitl [Ha]; · iexact Ha
  isplitl [Hb]; · iexact Hb
  iexact Hc

/-- A lent part and what was not lent of it make the array whole again. -/
theorem tok_close {s' : Shape} (src : Memref sig .tc .hbm s' .i8) (S : Finset (Idx (src.view.loc (c : Thread nD τ)))) (q : PosShare TreeShare)
    (A : Buf (Elt F) (src.view.loc (c : Thread nD τ))) :
    iprop((src.view.loc (c : Thread nD τ) ↦[S]{q} A) ∗ rest c src S q A) ⊢ tokAt c src q A :=
  (pointsTo_split_subset (Finset.subset_univ S)).2

/-! ## The thirty cells -/

/-- The kernel's cells, in the order of their numbers. -/
abbrev osem0 : Fin 30 → SemLoc sig := ![SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26, SemLoc.dma 27, SemLoc.dma 28, SemLoc.dma 29, SemLoc.dma 30, SemLoc.dma 31, SemLoc.dma 32, SemLoc.dma 33, SemLoc.dma 34, SemLoc.dma 35, SemLoc.dma 36, SemLoc.dma 37, SemLoc.dma 38]
theorem ownSemFacts0 : Pipeline.OwnSemFacts spec0 osem0 := by decide

/-- Every cell of the kernel's at zero. -/
def cells : sProp 𝕄 :=
  iprop(semVal ((c : Thread nD τ), SemLoc.dma (kcell 0 0).sem) 0
    ∗ semVal ((c : Thread nD τ), SemLoc.dma (kcell 0 1).sem) 0
    ∗ semVal ((c : Thread nD τ), SemLoc.dma (kcell 0 2).sem) 0
    ∗ semVal ((c : Thread nD τ), SemLoc.dma (kcell 0 3).sem) 0
    ∗ semVal ((c : Thread nD τ), SemLoc.dma (kcell 1 0).sem) 0
    ∗ semVal ((c : Thread nD τ), SemLoc.dma (kcell 1 1).sem) 0
    ∗ semVal ((c : Thread nD τ), SemLoc.dma (kcell 1 2).sem) 0
    ∗ semVal ((c : Thread nD τ), SemLoc.dma (kcell 1 3).sem) 0
    ∗ semVal ((c : Thread nD τ), SemLoc.dma (kcell 2 0).sem) 0
    ∗ semVal ((c : Thread nD τ), SemLoc.dma (kcell 2 1).sem) 0
    ∗ semVal ((c : Thread nD τ), SemLoc.dma (kcell 2 2).sem) 0
    ∗ semVal ((c : Thread nD τ), SemLoc.dma (kcell 2 3).sem) 0
    ∗ semVal ((c : Thread nD τ), SemLoc.dma (vcell 0 0).sem) 0
    ∗ semVal ((c : Thread nD τ), SemLoc.dma (vcell 0 1).sem) 0
    ∗ semVal ((c : Thread nD τ), SemLoc.dma (vcell 0 2).sem) 0
    ∗ semVal ((c : Thread nD τ), SemLoc.dma (vcell 0 3).sem) 0
    ∗ semVal ((c : Thread nD τ), SemLoc.dma (vcell 1 0).sem) 0
    ∗ semVal ((c : Thread nD τ), SemLoc.dma (vcell 1 1).sem) 0
    ∗ semVal ((c : Thread nD τ), SemLoc.dma (vcell 1 2).sem) 0
    ∗ semVal ((c : Thread nD τ), SemLoc.dma (vcell 1 3).sem) 0
    ∗ semVal ((c : Thread nD τ), SemLoc.dma (vcell 2 0).sem) 0
    ∗ semVal ((c : Thread nD τ), SemLoc.dma (vcell 2 1).sem) 0
    ∗ semVal ((c : Thread nD τ), SemLoc.dma (vcell 2 2).sem) 0
    ∗ semVal ((c : Thread nD τ), SemLoc.dma (vcell 2 3).sem) 0
    ∗ semVal ((c : Thread nD τ), SemLoc.dma (xcell 0 0).sem) 0
    ∗ semVal ((c : Thread nD τ), SemLoc.dma (xcell 0 1).sem) 0
    ∗ semVal ((c : Thread nD τ), SemLoc.dma (xcell 1 0).sem) 0
    ∗ semVal ((c : Thread nD τ), SemLoc.dma (xcell 1 1).sem) 0
    ∗ semVal ((c : Thread nD τ), SemLoc.dma (xcell 2 0).sem) 0
    ∗ semVal ((c : Thread nD τ), SemLoc.dma (xcell 2 1).sem) 0)
theorem ownSems00_eq :
    (Pipeline.ownSems0 (Ix := Unit) (Name := ℕ) (U := Pipeline.UD sig nD τ) (Lvl := ℕ) (Val := Elt F) (τ := τ) osem0 c : sProp 𝕄) = cells c := by
  rw [Pipeline.ownSems0_eq_of_list c osem0 [0, 1, 2, 3, 4, 5, 6, 7, 8, 9, 10, 11, 12, 13, 14, 15, 16, 17, 18, 19, 20, 21, 22, 23, 24, 25, 26, 27, 28, 29] (by decide) (by decide)]; rfl

theorem k_shares (A : Buf (Elt F) (ckM.view.loc (c : Thread nD τ))) :
    tokAt c ckM fullShare A ⊢ iprop(kept c ckM kNums A ∗ tokAt c ckM (Transfers.shareTokN fullShare 9) A ∗ tokAt c ckM (Transfers.shareTokN fullShare 10) A ∗ tokAt c ckM (Transfers.shareTokN fullShare 11) A ∗ tokAt c ckM (Transfers.shareTokN fullShare 12) A ∗ tokAt c ckM (Transfers.shareTokN fullShare 13) A ∗ tokAt c ckM (Transfers.shareTokN fullShare 14) A ∗ tokAt c ckM (Transfers.shareTokN fullShare 15) A ∗ tokAt c ckM (Transfers.shareTokN fullShare 16) A ∗ tokAt c ckM (Transfers.shareTokN fullShare 17) A ∗ tokAt c ckM (Transfers.shareTokN fullShare 18) A ∗ tokAt c ckM (Transfers.shareTokN fullShare 19) A ∗ tokAt c ckM (Transfers.shareTokN fullShare 20) A ∗ tokAt c ckM (Transfers.shareTokN fullShare 33) A ∗ tokAt c ckM (Transfers.shareTokN fullShare 35) A ∗ tokAt c ckM (Transfers.shareTokN fullShare 37) A) :=
  shares_open c ckM kNums (by decide) A
theorem k_whole (A : Buf (Elt F) (ckM.view.loc (c : Thread nD τ))) :
    iprop(kept c ckM kNums A ∗ tokAt c ckM (Transfers.shareTokN fullShare 9) A ∗ tokAt c ckM (Transfers.shareTokN fullShare 10) A ∗ tokAt c ckM (Transfers.shareTokN fullShare 11) A ∗ tokAt c ckM (Transfers.shareTokN fullShare 12) A ∗ tokAt c ckM (Transfers.shareTokN fullShare 13) A ∗ tokAt c ckM (Transfers.shareTokN fullShare 14) A ∗ tokAt c ckM (Transfers.shareTokN fullShare 15) A ∗ tokAt c ckM (Transfers.shareTokN fullShare 16) A ∗ tokAt c ckM (Transfers.shareTokN fullShare 17) A ∗ tokAt c ckM (Transfers.shareTokN fullShare 18) A ∗ tokAt c ckM (Transfers.shareTokN fullShare 19) A ∗ tokAt c ckM (Transfers.shareTokN fullShare 20) A ∗ tokAt c ckM (Transfers.shareTokN fullShare 33) A ∗ tokAt c ckM (Transfers.shareTokN fullShare 35) A ∗ tokAt c ckM (Transfers.shareTokN fullShare 37) A) ⊢ tokAt c ckM fullShare A :=
  shares_close c ckM kNums (by decide) A

theorem v_shares (A : Buf (Elt F) (cvM.view.loc (c : Thread nD τ))) :
    tokAt c cvM fullShare A ⊢ iprop(kept c cvM vNums A ∗ tokAt c cvM (Transfers.shareTokN fullShare 21) A ∗ tokAt c cvM (Transfers.shareTokN fullShare 22) A ∗ tokAt c cvM (Transfers.shareTokN fullShare 23) A ∗ tokAt c cvM (Transfers.shareTokN fullShare 24) A ∗ tokAt c cvM (Transfers.shareTokN fullShare 25) A ∗ tokAt c cvM (Transfers.shareTokN fullShare 26) A ∗ tokAt c cvM (Transfers.shareTokN fullShare 27) A ∗ tokAt c cvM (Transfers.shareTokN fullShare 28) A ∗ tokAt c cvM (Transfers.shareTokN fullShare 29) A ∗ tokAt c cvM (Transfers.shareTokN fullShare 30) A ∗ tokAt c cvM (Transfers.shareTokN fullShare 31) A ∗ tokAt c cvM (Transfers.shareTokN fullShare 32) A ∗ tokAt c cvM (Transfers.shareTokN fullShare 34) A ∗ tokAt c cvM (Transfers.shareTokN fullShare 36) A ∗ tokAt c cvM (Transfers.shareTokN fullShare 38) A) :=
  shares_open c cvM vNums (by decide) A
theorem v_whole (A : Buf (Elt F) (cvM.view.loc (c : Thread nD τ))) :
    iprop(kept c cvM vNums A ∗ tokAt c cvM (Transfers.shareTokN fullShare 21) A ∗ tokAt c cvM (Transfers.shareTokN fullShare 22) A ∗ tokAt c cvM (Transfers.shareTokN fullShare 23) A ∗ tokAt c cvM (Transfers.shareTokN fullShare 24) A ∗ tokAt c cvM (Transfers.shareTokN fullShare 25) A ∗ tokAt c cvM (Transfers.shareTokN fullShare 26) A ∗ tokAt c cvM (Transfers.shareTokN fullShare 27) A ∗ tokAt c cvM (Transfers.shareTokN fullShare 28) A ∗ tokAt c cvM (Transfers.shareTokN fullShare 29) A ∗ tokAt c cvM (Transfers.shareTokN fullShare 30) A ∗ tokAt c cvM (Transfers.shareTokN fullShare 31) A ∗ tokAt c cvM (Transfers.shareTokN fullShare 32) A ∗ tokAt c cvM (Transfers.shareTokN fullShare 34) A ∗ tokAt c cvM (Transfers.shareTokN fullShare 36) A ∗ tokAt c cvM (Transfers.shareTokN fullShare 38) A) ⊢ tokAt c cvM fullShare A :=
  shares_close c cvM vNums (by decide) A

/-! ## All of it, before the body and after -/

section All
variable (arg0 : Memref sig .tc .smem S3 .i32) (f0 : Buf (Elt F) (arg0.view.loc (c : Thread nD τ)))
  (hlen : ∀ (r : LoadRect S3) j, InRange (arg0.view.readAt (Elt F) r f0 j))
  (XK : Buf (Elt F) (ckM.view.loc (c : Thread nD τ))) (XV : Buf (Elt F) (cvM.view.loc (c : Thread nD τ)))

/-- The scratch buffers the transfers fill, at anything. -/
def scratch : sProp 𝕄 :=
  iprop((∃ f, kM.view.loc (c : Thread nD τ) ↦{fullShare} f) ∗ (∃ f, vM.view.loc (c : Thread nD τ) ↦{fullShare} f)
    ∗ (∃ f, kxM.view.loc (c : Thread nD τ) ↦{fullShare} f) ∗ (∃ f, vxM.view.loc (c : Thread nD τ) ↦{fullShare} f))

/-- Every window at the contents of one valuation of its buffer. -/
abbrev heldAt (fk : Buf (Elt F) (kM.view.loc (c : Thread nD τ))) (fv : Buf (Elt F) (vM.view.loc (c : Thread nD τ)))
    (fkx : Buf (Elt F) (kxM.view.loc (c : Thread nD τ))) (fvx : Buf (Elt F) (vxM.view.loc (c : Thread nD τ))) (b : Fin 3) : Held F c b where
  k _ := fk
  v _ := fv
  kx := fkx
  vx := fvx

set_option maxHeartbeats 2000000 in
/-- Before the body: the scratch buffers, the cells at zero and the two caches are the thirty transfers not started. -/
theorem ready : iprop(scratch c ∗ cells c ∗ tokAt c ckM fullShare XK ∗ tokAt c cvM fullShare XV)
    ⊢ (iprop(∃ D : ∀ b, Held F c b, waiting c XK XV 0 (D 0) (lent c arg0 f0 hlen 0) ∗ waiting c XK XV 1 (D 1) (lent c arg0 f0 hlen 1)
        ∗ waiting c XK XV 2 (D 2) (lent c arg0 f0 hlen 2) ∗ kept c ckM kNums XK ∗ kept c cvM vNums XV) : sProp 𝕄) := by
  refine .trans (BIClass.sep_mono .rfl (BIClass.sep_mono .rfl (BIClass.sep_mono (k_shares c XK) (v_shares c XV)))) ?_
  unfold scratch cells waiting
  dsimp only [lent, Fin.coe_ofNat_eq_mod, Nat.reduceMod, Nat.reduceMul, Nat.reduceAdd, Fin.isValue, Nat.zero_mod]
  iintro ⟨⟨⟨%fk, Hk⟩, ⟨%fv, Hv⟩, ⟨%fkx, Hkx⟩, ⟨%fvx, Hvx⟩⟩, ⟨Ck00, Ck01, Ck02, Ck03, Ck10, Ck11, Ck12, Ck13, Ck20, Ck21, Ck22, Ck23, Cv00, Cv01, Cv02, Cv03, Cv10, Cv11, Cv12, Cv13, Cv20, Cv21, Cv22, Cv23, Ckx0, Cvx0, Ckx1, Cvx1, Ckx2, Cvx2⟩, ⟨Hkk, Tk00, Tk01, Tk02, Tk03, Tk10, Tk11, Tk12, Tk13, Tk20, Tk21, Tk22, Tk23, Tkx0, Tkx1, Tkx2⟩, ⟨Hvk, Tv00, Tv01, Tv02, Tv03, Tv10, Tv11, Tv12, Tv13, Tv20, Tv21, Tv22, Tv23, Tvx0, Tvx1, Tvx2⟩⟩
  iexists (heldAt c fk fv fkx fvx)
  dsimp only [heldAt]
  ihave Hk := (Entails.of_eq (k_open c fk)) $$ Hk
  ihave Hv := (Entails.of_eq (v_open c fv)) $$ Hv
  ihave Hkx := (Entails.of_eq (kx_open c fkx)) $$ Hkx
  ihave Hvx := (Entails.of_eq (vx_open c fvx)) $$ Hvx
  icases Hk with ⟨Wk00, Wk01, Wk02, Wk03, Wk10, Wk11, Wk12, Wk13, Wk20, Wk21, Wk22, Wk23⟩
  icases Hv with ⟨Wv00, Wv01, Wv02, Wv03, Wv10, Wv11, Wv12, Wv13, Wv20, Wv21, Wv22, Wv23⟩
  icases Hkx with ⟨Wkx0, Wkx1, Wkx2⟩
  icases Hvx with ⟨Wvx0, Wvx1, Wvx2⟩
  isplitl [Wkx0 Ckx0 Tkx0 Wk00 Ck00 Tk00 Wk01 Ck01 Tk01 Wk02 Ck02 Tk02 Wk03 Ck03 Tk03 Wvx0 Cvx0 Tvx0 Wv00 Cv00 Tv00 Wv01 Cv01 Tv01 Wv02 Cv02 Tv02 Wv03 Cv03 Tv03]
  · isplitl [Wkx0 Ckx0 Tkx0]
    · isplitl [Wkx0]; · iexact Wkx0
      isplitl [Ckx0]; · iexact Ckx0
      iexact Tkx0
    isplitl [Wk00 Ck00 Tk00]
    · isplitl [Wk00]; · iexact Wk00
      isplitl [Ck00]; · iexact Ck00
      iexact Tk00
    isplitl [Wk01 Ck01 Tk01]
    · isplitl [Wk01]; · iexact Wk01
      isplitl [Ck01]; · iexact Ck01
      iexact Tk01
    isplitl [Wk02 Ck02 Tk02]
    · isplitl [Wk02]; · iexact Wk02
      isplitl [Ck02]; · iexact Ck02
      iexact Tk02
    isplitl [Wk03 Ck03 Tk03]
    · isplitl [Wk03]; · iexact Wk03
      isplitl [Ck03]; · iexact Ck03
      iexact Tk03
    isplitl [Wvx0 Cvx0 Tvx0]
    · isplitl [Wvx0]; · iexact Wvx0
      isplitl [Cvx0]; · iexact Cvx0
      iexact Tvx0
    isplitl [Wv00 Cv00 Tv00]
    · isplitl [Wv00]; · iexact Wv00
      isplitl [Cv00]; · iexact Cv00
      iexact Tv00
    isplitl [Wv01 Cv01 Tv01]
    · isplitl [Wv01]; · iexact Wv01
      isplitl [Cv01]; · iexact Cv01
      iexact Tv01
    isplitl [Wv02 Cv02 Tv02]
    · isplitl [Wv02]; · iexact Wv02
      isplitl [Cv02]; · iexact Cv02
      iexact Tv02
    isplitl [Wv03]; · iexact Wv03
    isplitl [Cv03]; · iexact Cv03
    iexact Tv03
  isplitl [Wkx1 Ckx1 Tkx1 Wk10 Ck10 Tk10 Wk11 Ck11 Tk11 Wk12 Ck12 Tk12 Wk13 Ck13 Tk13 Wvx1 Cvx1 Tvx1 Wv10 Cv10 Tv10 Wv11 Cv11 Tv11 Wv12 Cv12 Tv12 Wv13 Cv13 Tv13]
  · isplitl [Wkx1 Ckx1 Tkx1]
    · isplitl [Wkx1]; · iexact Wkx1
      isplitl [Ckx1]; · iexact Ckx1
      iexact Tkx1
    isplitl [Wk10 Ck10 Tk10]
    · isplitl [Wk10]; · iexact Wk10
      isplitl [Ck10]; · iexact Ck10
      iexact Tk10
    isplitl [Wk11 Ck11 Tk11]
    · isplitl [Wk11]; · iexact Wk11
      isplitl [Ck11]; · iexact Ck11
      iexact Tk11
    isplitl [Wk12 Ck12 Tk12]
    · isplitl [Wk12]; · iexact Wk12
      isplitl [Ck12]; · iexact Ck12
      iexact Tk12
    isplitl [Wk13 Ck13 Tk13]
    · isplitl [Wk13]; · iexact Wk13
      isplitl [Ck13]; · iexact Ck13
      iexact Tk13
    isplitl [Wvx1 Cvx1 Tvx1]
    · isplitl [Wvx1]; · iexact Wvx1
      isplitl [Cvx1]; · iexact Cvx1
      iexact Tvx1
    isplitl [Wv10 Cv10 Tv10]
    · isplitl [Wv10]; · iexact Wv10
      isplitl [Cv10]; · iexact Cv10
      iexact Tv10
    isplitl [Wv11 Cv11 Tv11]
    · isplitl [Wv11]; · iexact Wv11
      isplitl [Cv11]; · iexact Cv11
      iexact Tv11
    isplitl [Wv12 Cv12 Tv12]
    · isplitl [Wv12]; · iexact Wv12
      isplitl [Cv12]; · iexact Cv12
      iexact Tv12
    isplitl [Wv13]; · iexact Wv13
    isplitl [Cv13]; · iexact Cv13
    iexact Tv13
  isplitl [Wkx2 Ckx2 Tkx2 Wk20 Ck20 Tk20 Wk21 Ck21 Tk21 Wk22 Ck22 Tk22 Wk23 Ck23 Tk23 Wvx2 Cvx2 Tvx2 Wv20 Cv20 Tv20 Wv21 Cv21 Tv21 Wv22 Cv22 Tv22 Wv23 Cv23 Tv23]
  · isplitl [Wkx2 Ckx2 Tkx2]
    · isplitl [Wkx2]; · iexact Wkx2
      isplitl [Ckx2]; · iexact Ckx2
      iexact Tkx2
    isplitl [Wk20 Ck20 Tk20]
    · isplitl [Wk20]; · iexact Wk20
      isplitl [Ck20]; · iexact Ck20
      iexact Tk20
    isplitl [Wk21 Ck21 Tk21]
    · isplitl [Wk21]; · iexact Wk21
      isplitl [Ck21]; · iexact Ck21
      iexact Tk21
    isplitl [Wk22 Ck22 Tk22]
    · isplitl [Wk22]; · iexact Wk22
      isplitl [Ck22]; · iexact Ck22
      iexact Tk22
    isplitl [Wk23 Ck23 Tk23]
    · isplitl [Wk23]; · iexact Wk23
      isplitl [Ck23]; · iexact Ck23
      iexact Tk23
    isplitl [Wvx2 Cvx2 Tvx2]
    · isplitl [Wvx2]; · iexact Wvx2
      isplitl [Cvx2]; · iexact Cvx2
      iexact Tvx2
    isplitl [Wv20 Cv20 Tv20]
    · isplitl [Wv20]; · iexact Wv20
      isplitl [Cv20]; · iexact Cv20
      iexact Tv20
    isplitl [Wv21 Cv21 Tv21]
    · isplitl [Wv21]; · iexact Wv21
      isplitl [Cv21]; · iexact Cv21
      iexact Tv21
    isplitl [Wv22 Cv22 Tv22]
    · isplitl [Wv22]; · iexact Wv22
      isplitl [Cv22]; · iexact Cv22
      iexact Tv22
    isplitl [Wv23]; · iexact Wv23
    isplitl [Cv23]; · iexact Cv23
    iexact Tv23
  isplitl [Hkk]; · iexact Hkk
  iexact Hvk
set_option maxHeartbeats 4000000 in
/-- After the body: the thirty transfers done, with what was not lent of the caches, are the scratch buffers at anything,
    the cells at zero and the two caches whole, as they were. -/
theorem done : iprop((landed c XK XV 0 (lent c arg0 f0 hlen 0) ∗ rests c XK XV (lent c arg0 f0 hlen 0))
      ∗ (landed c XK XV 1 (lent c arg0 f0 hlen 1) ∗ rests c XK XV (lent c arg0 f0 hlen 1))
      ∗ (landed c XK XV 2 (lent c arg0 f0 hlen 2) ∗ rests c XK XV (lent c arg0 f0 hlen 2)) ∗ kept c ckM kNums XK ∗ kept c cvM vNums XV)
    ⊢ (iprop(scratch c ∗ cells c ∗ tokAt c ckM fullShare XK ∗ tokAt c cvM fullShare XV) : sProp 𝕄) := by
  refine .trans ?_ (BIClass.sep_mono .rfl (BIClass.sep_mono .rfl (BIClass.sep_mono (k_whole c XK) (v_whole c XV))))
  refine .trans ?_ (BIClass.sep_mono (BIClass.sep_mono (k_close c) (BIClass.sep_mono (v_close c) (BIClass.sep_mono (kx_close c) (vx_close c)))) .rfl)
  unfold cells landed rests
  dsimp only [lent, Fin.coe_ofNat_eq_mod, Nat.reduceMod, Nat.reduceMul, Nat.reduceAdd, Fin.isValue, Nat.zero_mod]
  iintro ⟨⟨⟨⟨Ckx0, Wkx0, Skx0⟩, ⟨Ck00, Wk00, Sk00⟩, ⟨Ck01, Wk01, Sk01⟩, ⟨Ck02, Wk02, Sk02⟩, ⟨Ck03, Wk03, Sk03⟩, ⟨Cvx0, Wvx0, Svx0⟩, ⟨Cv00, Wv00, Sv00⟩, ⟨Cv01, Wv01, Sv01⟩, ⟨Cv02, Wv02, Sv02⟩, ⟨Cv03, Wv03, Sv03⟩⟩, ⟨Rkx0, Rk00, Rk01, Rk02, Rk03, Rvx0, Rv00, Rv01, Rv02, Rv03⟩⟩, ⟨⟨⟨Ckx1, Wkx1, Skx1⟩, ⟨Ck10, Wk10, Sk10⟩, ⟨Ck11, Wk11, Sk11⟩, ⟨Ck12, Wk12, Sk12⟩, ⟨Ck13, Wk13, Sk13⟩, ⟨Cvx1, Wvx1, Svx1⟩, ⟨Cv10, Wv10, Sv10⟩, ⟨Cv11, Wv11, Sv11⟩, ⟨Cv12, Wv12, Sv12⟩, ⟨Cv13, Wv13, Sv13⟩⟩, ⟨Rkx1, Rk10, Rk11, Rk12, Rk13, Rvx1, Rv10, Rv11, Rv12, Rv13⟩⟩, ⟨⟨⟨Ckx2, Wkx2, Skx2⟩, ⟨Ck20, Wk20, Sk20⟩, ⟨Ck21, Wk21, Sk21⟩, ⟨Ck22, Wk22, Sk22⟩, ⟨Ck23, Wk23, Sk23⟩, ⟨Cvx2, Wvx2, Svx2⟩, ⟨Cv20, Wv20, Sv20⟩, ⟨Cv21, Wv21, Sv21⟩, ⟨Cv22, Wv22, Sv22⟩, ⟨Cv23, Wv23, Sv23⟩⟩, ⟨Rkx2, Rk20, Rk21, Rk22, Rk23, Rvx2, Rv20, Rv21, Rv22, Rv23⟩⟩, Hkk, Hvk⟩
  isplitl [Wkx0 Wk00 Wk01 Wk02 Wk03 Wvx0 Wv00 Wv01 Wv02 Wv03 Wkx1 Wk10 Wk11 Wk12 Wk13 Wvx1 Wv10 Wv11 Wv12 Wv13 Wkx2 Wk20 Wk21 Wk22 Wk23 Wvx2 Wv20 Wv21 Wv22 Wv23]
  · isplitl [Wk00 Wk01 Wk02 Wk03 Wk10 Wk11 Wk12 Wk13 Wk20 Wk21 Wk22 Wk23]
    · isplitl [Wk00]; · iexact Wk00
      isplitl [Wk01]; · iexact Wk01
      isplitl [Wk02]; · iexact Wk02
      isplitl [Wk03]; · iexact Wk03
      isplitl [Wk10]; · iexact Wk10
      isplitl [Wk11]; · iexact Wk11
      isplitl [Wk12]; · iexact Wk12
      isplitl [Wk13]; · iexact Wk13
      isplitl [Wk20]; · iexact Wk20
      isplitl [Wk21]; · iexact Wk21
      isplitl [Wk22]; · iexact Wk22
      iexact Wk23
    isplitl [Wv00 Wv01 Wv02 Wv03 Wv10 Wv11 Wv12 Wv13 Wv20 Wv21 Wv22 Wv23]
    · isplitl [Wv00]; · iexact Wv00
      isplitl [Wv01]; · iexact Wv01
      isplitl [Wv02]; · iexact Wv02
      isplitl [Wv03]; · iexact Wv03
      isplitl [Wv10]; · iexact Wv10
      isplitl [Wv11]; · iexact Wv11
      isplitl [Wv12]; · iexact Wv12
      isplitl [Wv13]; · iexact Wv13
      isplitl [Wv20]; · iexact Wv20
      isplitl [Wv21]; · iexact Wv21
      isplitl [Wv22]; · iexact Wv22
      iexact Wv23
    isplitl [Wkx0 Wkx1 Wkx2]
    · isplitl [Wkx0]; · iexact Wkx0
      isplitl [Wkx1]; · iexact Wkx1
      iexact Wkx2
    isplitl [Wvx0]; · iexact Wvx0
    isplitl [Wvx1]; · iexact Wvx1
    iexact Wvx2
  isplitl [Ck00 Ck01 Ck02 Ck03 Ck10 Ck11 Ck12 Ck13 Ck20 Ck21 Ck22 Ck23 Cv00 Cv01 Cv02 Cv03 Cv10 Cv11 Cv12 Cv13 Cv20 Cv21 Cv22 Cv23 Ckx0 Cvx0 Ckx1 Cvx1 Ckx2 Cvx2]
  · isplitl [Ck00]; · iexact Ck00
    isplitl [Ck01]; · iexact Ck01
    isplitl [Ck02]; · iexact Ck02
    isplitl [Ck03]; · iexact Ck03
    isplitl [Ck10]; · iexact Ck10
    isplitl [Ck11]; · iexact Ck11
    isplitl [Ck12]; · iexact Ck12
    isplitl [Ck13]; · iexact Ck13
    isplitl [Ck20]; · iexact Ck20
    isplitl [Ck21]; · iexact Ck21
    isplitl [Ck22]; · iexact Ck22
    isplitl [Ck23]; · iexact Ck23
    isplitl [Cv00]; · iexact Cv00
    isplitl [Cv01]; · iexact Cv01
    isplitl [Cv02]; · iexact Cv02
    isplitl [Cv03]; · iexact Cv03
    isplitl [Cv10]; · iexact Cv10
    isplitl [Cv11]; · iexact Cv11
    isplitl [Cv12]; · iexact Cv12
    isplitl [Cv13]; · iexact Cv13
    isplitl [Cv20]; · iexact Cv20
    isplitl [Cv21]; · iexact Cv21
    isplitl [Cv22]; · iexact Cv22
    isplitl [Cv23]; · iexact Cv23
    isplitl [Ckx0]; · iexact Ckx0
    isplitl [Cvx0]; · iexact Cvx0
    isplitl [Ckx1]; · iexact Ckx1
    isplitl [Cvx1]; · iexact Cvx1
    isplitl [Ckx2]; · iexact Ckx2
    iexact Cvx2
  isplitl [Hkk Sk00 Rk00 Sk01 Rk01 Sk02 Rk02 Sk03 Rk03 Sk10 Rk10 Sk11 Rk11 Sk12 Rk12 Sk13 Rk13 Sk20 Rk20 Sk21 Rk21 Sk22 Rk22 Sk23 Rk23 Skx0 Rkx0 Skx1 Rkx1 Skx2 Rkx2]
  · isplitl [Hkk]; · iexact Hkk
    isplitl [Sk00 Rk00]
    · iapply (tok_close c ckM _ _ _)
      isplitl [Sk00]; · iexact Sk00
      iexact Rk00
    isplitl [Sk01 Rk01]
    · iapply (tok_close c ckM _ _ _)
      isplitl [Sk01]; · iexact Sk01
      iexact Rk01
    isplitl [Sk02 Rk02]
    · iapply (tok_close c ckM _ _ _)
      isplitl [Sk02]; · iexact Sk02
      iexact Rk02
    isplitl [Sk03 Rk03]
    · iapply (tok_close c ckM _ _ _)
      isplitl [Sk03]; · iexact Sk03
      iexact Rk03
    isplitl [Sk10 Rk10]
    · iapply (tok_close c ckM _ _ _)
      isplitl [Sk10]; · iexact Sk10
      iexact Rk10
    isplitl [Sk11 Rk11]
    · iapply (tok_close c ckM _ _ _)
      isplitl [Sk11]; · iexact Sk11
      iexact Rk11
    isplitl [Sk12 Rk12]
    · iapply (tok_close c ckM _ _ _)
      isplitl [Sk12]; · iexact Sk12
      iexact Rk12
    isplitl [Sk13 Rk13]
    · iapply (tok_close c ckM _ _ _)
      isplitl [Sk13]; · iexact Sk13
      iexact Rk13
    isplitl [Sk20 Rk20]
    · iapply (tok_close c ckM _ _ _)
      isplitl [Sk20]; · iexact Sk20
      iexact Rk20
    isplitl [Sk21 Rk21]
    · iapply (tok_close c ckM _ _ _)
      isplitl [Sk21]; · iexact Sk21
      iexact Rk21
    isplitl [Sk22 Rk22]
    · iapply (tok_close c ckM _ _ _)
      isplitl [Sk22]; · iexact Sk22
      iexact Rk22
    isplitl [Sk23 Rk23]
    · iapply (tok_close c ckM _ _ _)
      isplitl [Sk23]; · iexact Sk23
      iexact Rk23
    isplitl [Skx0 Rkx0]
    · iapply (tok_close c ckM _ _ _)
      isplitl [Skx0]; · iexact Skx0
      iexact Rkx0
    isplitl [Skx1 Rkx1]
    · iapply (tok_close c ckM _ _ _)
      isplitl [Skx1]; · iexact Skx1
      iexact Rkx1
    iapply (tok_close c ckM _ _ _)
    isplitl [Skx2]; · iexact Skx2
    iexact Rkx2
  isplitl [Hvk]; · iexact Hvk
  isplitl [Sv00 Rv00]
  · iapply (tok_close c cvM _ _ _)
    isplitl [Sv00]; · iexact Sv00
    iexact Rv00
  isplitl [Sv01 Rv01]
  · iapply (tok_close c cvM _ _ _)
    isplitl [Sv01]; · iexact Sv01
    iexact Rv01
  isplitl [Sv02 Rv02]
  · iapply (tok_close c cvM _ _ _)
    isplitl [Sv02]; · iexact Sv02
    iexact Rv02
  isplitl [Sv03 Rv03]
  · iapply (tok_close c cvM _ _ _)
    isplitl [Sv03]; · iexact Sv03
    iexact Rv03
  isplitl [Sv10 Rv10]
  · iapply (tok_close c cvM _ _ _)
    isplitl [Sv10]; · iexact Sv10
    iexact Rv10
  isplitl [Sv11 Rv11]
  · iapply (tok_close c cvM _ _ _)
    isplitl [Sv11]; · iexact Sv11
    iexact Rv11
  isplitl [Sv12 Rv12]
  · iapply (tok_close c cvM _ _ _)
    isplitl [Sv12]; · iexact Sv12
    iexact Rv12
  isplitl [Sv13 Rv13]
  · iapply (tok_close c cvM _ _ _)
    isplitl [Sv13]; · iexact Sv13
    iexact Rv13
  isplitl [Sv20 Rv20]
  · iapply (tok_close c cvM _ _ _)
    isplitl [Sv20]; · iexact Sv20
    iexact Rv20
  isplitl [Sv21 Rv21]
  · iapply (tok_close c cvM _ _ _)
    isplitl [Sv21]; · iexact Sv21
    iexact Rv21
  isplitl [Sv22 Rv22]
  · iapply (tok_close c cvM _ _ _)
    isplitl [Sv22]; · iexact Sv22
    iexact Rv22
  isplitl [Sv23 Rv23]
  · iapply (tok_close c cvM _ _ _)
    isplitl [Sv23]; · iexact Sv23
    iexact Rv23
  isplitl [Svx0 Rvx0]
  · iapply (tok_close c cvM _ _ _)
    isplitl [Svx0]; · iexact Svx0
    iexact Rvx0
  isplitl [Svx1 Rvx1]
  · iapply (tok_close c cvM _ _ _)
    isplitl [Svx1]; · iexact Svx1
    iexact Rvx1
  iapply (tok_close c cvM _ _ _)
  isplitl [Svx2]; · iexact Svx2
  iexact Rvx2

end All

end Cert.Kernel.Hand

end
-- ==== Proof.Kernel.Frame.lean ====
/- The kernel's run: from any memory whose cache lengths are in range it runs to the end, leaves its arguments as they
   were and every semaphore at zero, and writes each result with the pieces its three trips store. -/
module

public import proofs.«01_k».proof.Proof.Kernel.Split
public import proofs.«01_k».proof.Proof.Gen.Kernel.Points
public import proofs.«01_k».proof.Proof.Gen.Kernel.Frame

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## Whole memrefs at given contents -/

/-- The contents through which a memref that reads `d` is stated. -/
abbrev canon {sp : Space} {s : Shape} {e : EltTy} (M : Memref sig .tc sp s e) (d : s.Idx → Elt F e) : M.view.ty.Contents (Elt F) :=
  M.view.write (Elt F) M.view.junk d Finset.univ
theorem read_canon {sp : Space} {s : Shape} {e : EltTy} (M : Memref sig .tc sp s e) (d : s.Idx → Elt F e) :
    M.view.read (Elt F) (canon M d) = d := View.read_write_univ _ _
/-- A memref held at contents that read `d` is held at `canon M d`. -/
theorem at_canon (c : Dev nD) {sp : Space} {s : Shape} {e : EltTy} (M : Memref sig .tc sp s e) (f : Buf (Elt F) (M.view.loc (c : Thread nD τ))) :
    (at_ c M f : sProp 𝕄) = at_ c M (canon M (M.view.read (Elt F) f)) :=
  pointsTo_congr fun i hi => by
    rw [canon, View.write_read_eq_piecewise]
    exact (Finset.piecewise_eq_of_mem _ _ _ hi).symm
theorem owns_canon (c : Dev nD) {sp : Space} {s : Shape} {e : EltTy} (M : Memref sig .tc sp s e) (d : s.Idx → Elt F e) :
    (owns (c : Thread nD τ) M fullShare d : sProp 𝕄) ⊢ at_ c M (canon M d) := by
  unfold owns
  iintro ⟨%f, %hf, H⟩
  subst hf
  rw [← at_canon c M f]
  iexact H
theorem canon_owns (c : Dev nD) {sp : Space} {s : Shape} {e : EltTy} (M : Memref sig .tc sp s e) (d : s.Idx → Elt F e) :
    (at_ c M (canon M d) : sProp 𝕄) ⊢ owns (c : Thread nD τ) M fullShare d := by
  unfold owns
  iintro H
  iexists _; isplitr
  swap; · iexact H
  ipureintro; exact read_canon M d

/-! ## The body's operands -/

abbrev ms0_0 (t : Fin cfg0.N) : Memref sig .tc .smem S3 .i32 := win0_0.stage (cfg0.slots t 0)
abbrev hs0_0 (t : Fin cfg0.N) : (ms0_0 t).IsWhole := hstage0_0 0
abbrev ms0_1 (t : Fin cfg0.N) : Memref sig .tc .vmem S3x1x2048 .bf16 := win0_1.stage (cfg0.slots t 1)
abbrev hs0_1 (t : Fin cfg0.N) : (ms0_1 t).IsWhole := hstage0_1 0
abbrev ms0_2 (t : Fin cfg0.N) : Memref sig .tc .vmem S3x4x1x256 .bf16 := win0_2.stage (cfg0.slots t 2)
abbrev hs0_2 (t : Fin cfg0.N) : (ms0_2 t).IsWhole := hstage0_2 0
abbrev ms0_3 (t : Fin cfg0.N) : Memref sig .tc .vmem S3x4x1x256 .bf16 := win0_3.stage (cfg0.slots t 3)
abbrev hs0_3 (t : Fin cfg0.N) : (ms0_3 t).IsWhole := hstage0_3 0
abbrev ms0_4 (t : Fin cfg0.N) : Memref sig .tc .vmem S4x256 .f32 := win0_4.stage (cfg0.slots t 4)
abbrev hs0_4 (t : Fin cfg0.N) : (ms0_4 t).IsWhole := hstage0_4 0
abbrev ms0_5 (t : Fin cfg0.N) : Memref sig .tc .smem S4 .f32 := win0_5.stage (cfg0.slots t 5)
abbrev hs0_5 (t : Fin cfg0.N) : (ms0_5 t).IsWhole := hstage0_5 0
abbrev ms0_6 (t : Fin cfg0.N) : Memref sig .tc .vmem S3x1x2048 .bf16 := win0_6.stage (cfg0.slots t 6)
abbrev hs0_6 (t : Fin cfg0.N) : (ms0_6 t).IsWhole := hstage0_6 0
abbrev ms0_7 (t : Fin cfg0.N) : Memref sig .tc .vmem S3x4x1x256 .i8 := win0_7.stage (cfg0.slots t 7)
abbrev hs0_7 (t : Fin cfg0.N) : (ms0_7 t).IsWhole := hstage0_7 0
abbrev ms0_8 (t : Fin cfg0.N) : Memref sig .tc .vmem S3x4x1x256 .i8 := win0_8.stage (cfg0.slots t 8)
abbrev hs0_8 (t : Fin cfg0.N) : (ms0_8 t).IsWhole := hstage0_8 0
/-- What each input's staging buffer holds at the point. -/
abbrev fin0 (c : Dev nD) (t : Fin cfg0.N) : Buf (Elt F) ((ms0_0 t).view.loc (c : Thread nD τ)) := canon (ms0_0 t) (iblk m c 0 t)
abbrev fin1 (c : Dev nD) (t : Fin cfg0.N) : Buf (Elt F) ((ms0_1 t).view.loc (c : Thread nD τ)) := canon (ms0_1 t) (iblk m c 1 t)
abbrev fin2 (c : Dev nD) (t : Fin cfg0.N) : Buf (Elt F) ((ms0_2 t).view.loc (c : Thread nD τ)) := canon (ms0_2 t) (iblk m c 2 t)
abbrev fin3 (c : Dev nD) (t : Fin cfg0.N) : Buf (Elt F) ((ms0_3 t).view.loc (c : Thread nD τ)) := canon (ms0_3 t) (iblk m c 3 t)
abbrev fin4 (c : Dev nD) (t : Fin cfg0.N) : Buf (Elt F) ((ms0_4 t).view.loc (c : Thread nD τ)) := canon (ms0_4 t) (iblk m c 4 t)
abbrev fin5 (c : Dev nD) (t : Fin cfg0.N) : Buf (Elt F) ((ms0_5 t).view.loc (c : Thread nD τ)) := canon (ms0_5 t) (iblk m c 5 t)

/-- Every cache length of the memory is in range. -/
def LensOk : Prop := ∀ (c : Dev nD) i, InRange (V m c main_arg7 i)

variable {m}
theorem lens (hm : LensOk m) (c : Dev nD) (t : Fin cfg0.N) (r : LoadRect S3) (j) : InRange ((ms0_0 t).view.readAt (Elt F) r (fin0 m c t) j) := by
  rw [View.readAt_apply, read_canon]
  exact hm c _
variable (m) (hm : LensOk m)

/-- The pieces the body stores into each result. -/
abbrev outP (c : Dev nD) (t : Fin cfg0.N) : List (View.Piece (Elt F) S3x1x2048 .bf16) :=
  outL c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fin0 m c t) (fin1 m c t) (fin2 m c t) (fin3 m c t) (fin4 m c t) (fin5 m c t) (lens hm c t) (V m c main_arg3) (V m c main_arg4) 3
abbrev kcodeP (c : Dev nD) (t : Fin cfg0.N) : List (View.Piece (Elt F) S3x4x1x256 .i8) :=
  kcodeL c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fin0 m c t) (fin1 m c t) (fin2 m c t) (fin3 m c t) (fin4 m c t) (fin5 m c t) (lens hm c t) (V m c main_arg3) (V m c main_arg4) 3
abbrev vcodeP (c : Dev nD) (t : Fin cfg0.N) : List (View.Piece (Elt F) S3x4x1x256 .i8) :=
  vcodeL c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fin0 m c t) (fin1 m c t) (fin2 m c t) (fin3 m c t) (fin4 m c t) (fin5 m c t) (lens hm c t) (V m c main_arg3) (V m c main_arg4) 3
/-- What each result holds after the body: its pieces over anything. -/
def outAt (c : Dev nD) (t : Fin cfg0.N) : S3x1x2048.Idx → Elt F .bf16 :=
  (ms0_6 t).view.read (Elt F) ((ms0_6 t).view.writes (Elt F) (ms0_6 t).view.junk (outP m hm c t))
def kcodeAt (c : Dev nD) (t : Fin cfg0.N) : S3x4x1x256.Idx → Elt F .i8 :=
  (ms0_7 t).view.read (Elt F) ((ms0_7 t).view.writes (Elt F) (ms0_7 t).view.junk (kcodeP m hm c t))
def vcodeAt (c : Dev nD) (t : Fin cfg0.N) : S3x4x1x256.Idx → Elt F .i8 :=
  (ms0_8 t).view.read (Elt F) ((ms0_8 t).view.writes (Elt F) (ms0_8 t).view.junk (vcodeP m hm c t))
/-- The pieces cover the result. -/
theorem out_cover (c : Dev nD) (t : Fin cfg0.N) (y : S3x1x2048.Idx) : ∃ pc ∈ outP m hm c t, y ∈ pc.1.set :=
  View.cover_of_tiledL (outP m hm c t) (![1, 1, 256] : Fin 3 → ℕ) (by sl_kernel_rfl) y
theorem kcode_cover (c : Dev nD) (t : Fin cfg0.N) (y : S3x4x1x256.Idx) : ∃ pc ∈ kcodeP m hm c t, y ∈ pc.1.set :=
  View.cover_of_tiledL (kcodeP m hm c t) (![1, 1, 1, 256] : Fin 4 → ℕ) (by sl_kernel_rfl) y
theorem vcode_cover (c : Dev nD) (t : Fin cfg0.N) (y : S3x4x1x256.Idx) : ∃ pc ∈ vcodeP m hm c t, y ∈ pc.1.set :=
  View.cover_of_tiledL (vcodeP m hm c t) (![1, 1, 1, 256] : Fin 4 → ℕ) (by sl_kernel_rfl) y

/-! ## What the body holds beside its operands -/

/-- The arrays the kernel's transfers read. -/
def H0 : Finset (Ref sig .tc) := {main_arg3, main_arg4}
theorem H0_sub : H0 ⊆ Pipeline.restRefs sig spec0 := by decide
theorem hbmPts0_eq (c : Dev nD) :
    (bigSep H0 (fun b => ((c : Thread nD τ).loc b) ↦{fullShare} V m c b) : sProp 𝕄)
      = iprop(tokAt c ckM fullShare (V m c main_arg3) ∗ tokAt c cvM fullShare (V m c main_arg4)) := by
  rw [BI.bigSep_eq_bigSepL_of_eq [main_arg3, main_arg4] (by decide) (by decide)]; rfl
theorem at_sM (c : Dev nD) (f : Buf (Elt F) (sM.view.loc (c : Thread nD τ))) : (at_ c sM f : sProp 𝕄) = (sM.view.loc (c : Thread nD τ) ↦{fullShare} f) := by
  unfold at_; rw [View.set_whole]
theorem PhiD0_eq (c : Dev nD) :
    (Pipeline.ΦD osem0 spec0 H0 (V m) c : sProp 𝕄)
      = iprop(iprop((∃ f, kM.view.loc (c : Thread nD τ) ↦{fullShare} f) ∗ (∃ f, vM.view.loc (c : Thread nD τ) ↦{fullShare} f)
                ∗ (∃ f, kxM.view.loc (c : Thread nD τ) ↦{fullShare} f) ∗ (∃ f, vxM.view.loc (c : Thread nD τ) ↦{fullShare} f)
                ∗ (∃ f, at_ c sM f))
          ∗ (∃ r, prngReg c r) ∗ cells c
          ∗ iprop(tokAt c ckM fullShare (V m c main_arg3) ∗ tokAt c cvM fullShare (V m c main_arg4))) := by
  rw [Pipeline.ΦD_eq, scopedRest0_eq, ownSems00_eq, hbmPts0_eq]; simp only [at_sM]

/-! ## The proof data and the body's obligation -/

/-- The proof data: the arrays as launched, each input left in place, each result at its pieces. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m hm c t
    | ⟨7, _⟩ => kcodeAt m hm c t
    | ⟨8, _⟩ => vcodeAt m hm c t
  Φ _ := Pipeline.ΦD osem0 spec0 H0 (V m) c
  q _ := fullShare
  owed _ := 0

theorem A_eq (c : Dev nD) (w : Fin cfg0.W) : (dats m hm 0 c).A w = V m c (Pipeline.arrRef spec0 w) := by
  dsimp only [dats]
theorem after0_0 (c : Dev nD) (t : Fin cfg0.N) : (dats m hm 0 c).after 0 t = iblk m c 0 t := by dsimp only [dats]
theorem after0_1 (c : Dev nD) (t : Fin cfg0.N) : (dats m hm 0 c).after 1 t = iblk m c 1 t := by dsimp only [dats]
theorem after0_2 (c : Dev nD) (t : Fin cfg0.N) : (dats m hm 0 c).after 2 t = iblk m c 2 t := by dsimp only [dats]
theorem after0_3 (c : Dev nD) (t : Fin cfg0.N) : (dats m hm 0 c).after 3 t = iblk m c 3 t := by dsimp only [dats]
theorem after0_4 (c : Dev nD) (t : Fin cfg0.N) : (dats m hm 0 c).after 4 t = iblk m c 4 t := by dsimp only [dats]
theorem after0_5 (c : Dev nD) (t : Fin cfg0.N) : (dats m hm 0 c).after 5 t = iblk m c 5 t := by dsimp only [dats]
theorem after0_6 (c : Dev nD) (t : Fin cfg0.N) : (dats m hm 0 c).after 6 t = outAt m hm c t := by dsimp only [dats]
theorem after0_7 (c : Dev nD) (t : Fin cfg0.N) : (dats m hm 0 c).after 7 t = kcodeAt m hm c t := by dsimp only [dats]
theorem after0_8 (c : Dev nD) (t : Fin cfg0.N) : (dats m hm 0 c).after 8 t = vcodeAt m hm c t := by dsimp only [dats]
/-- An input's staging buffer holds its block. -/
theorem before0_0 (c : Dev nD) (t : Fin cfg0.N) (d) : (dats m hm 0 c).before 0 t d = iblk m c 0 t :=
  ((dats m hm 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m hm 0 c).before 1 t d = iblk m c 1 t :=
  ((dats m hm 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m hm 0 c).before 2 t d = iblk m c 2 t :=
  ((dats m hm 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m hm 0 c).before 3 t d = iblk m c 3 t :=
  ((dats m hm 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m hm 0 c).before 4 t d = iblk m c 4 t :=
  ((dats m hm 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m hm 0 c).before 5 t d = iblk m c 5 t :=
  ((dats m hm 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m hm 0 c).Φ t.castSucc ∗ (dats m hm 0 c).owesAt () t.castSucc
    ∗ (∃ d, owns (c : Thread nD τ) (ms0_0 t) fullShare ((dats m hm 0 c).before 0 t d))
    ∗ (∃ d, owns (c : Thread nD τ) (ms0_1 t) fullShare ((dats m hm 0 c).before 1 t d))
    ∗ (∃ d, owns (c : Thread nD τ) (ms0_2 t) fullShare ((dats m hm 0 c).before 2 t d))
    ∗ (∃ d, owns (c : Thread nD τ) (ms0_3 t) fullShare ((dats m hm 0 c).before 3 t d))
    ∗ (∃ d, owns (c : Thread nD τ) (ms0_4 t) fullShare ((dats m hm 0 c).before 4 t d))
    ∗ (∃ d, owns (c : Thread nD τ) (ms0_5 t) fullShare ((dats m hm 0 c).before 5 t d))
    ∗ (∃ d, owns (c : Thread nD τ) (ms0_6 t) fullShare ((dats m hm 0 c).before 6 t d))
    ∗ (∃ d, owns (c : Thread nD τ) (ms0_7 t) fullShare ((dats m hm 0 c).before 7 t d))
    ∗ (∃ d, owns (c : Thread nD τ) (ms0_8 t) fullShare ((dats m hm 0 c).before 8 t d)))
def bodyPost (c : Dev nD) (t : Fin cfg0.N) : sProp 𝕄 :=
  iprop((dats m hm 0 c).Φ t.succ ∗ (dats m hm 0 c).owesAt () t.succ
    ∗ owns (c : Thread nD τ) (ms0_0 t) fullShare ((dats m hm 0 c).after 0 t)
    ∗ owns (c : Thread nD τ) (ms0_1 t) fullShare ((dats m hm 0 c).after 1 t)
    ∗ owns (c : Thread nD τ) (ms0_2 t) fullShare ((dats m hm 0 c).after 2 t)
    ∗ owns (c : Thread nD τ) (ms0_3 t) fullShare ((dats m hm 0 c).after 3 t)
    ∗ owns (c : Thread nD τ) (ms0_4 t) fullShare ((dats m hm 0 c).after 4 t)
    ∗ owns (c : Thread nD τ) (ms0_5 t) fullShare ((dats m hm 0 c).after 5 t)
    ∗ owns (c : Thread nD τ) (ms0_6 t) fullShare ((dats m hm 0 c).after 6 t)
    ∗ owns (c : Thread nD τ) (ms0_7 t) fullShare ((dats m hm 0 c).after 7 t)
    ∗ owns (c : Thread nD τ) (ms0_8 t) fullShare ((dats m hm 0 c).after 8 t))

set_option maxHeartbeats 2000000 in
theorem sound_body (c : Dev nD) (t : Fin cfg0.N) :
    bodyPre m hm c t ⊢ wp frame (wpE (defs₀ (F := F)) Variants.none c none) Set.univ (bodyAt0 t) (fun _ => bodyPost m hm c t) := by
  unfold bodyPre bodyPost bodyAt0
  rw [show (dats m hm 0 c).Φ t.succ = (dats m hm 0 c).Φ t.castSucc from rfl, after0_0, after0_1, after0_2, after0_3, after0_4, after0_5, after0_6, after0_7, after0_8]
  simp only [before0_0, before0_1, before0_2, before0_3, before0_4, before0_5]
  rw [show (dats m hm 0 c).Φ t.castSucc = Pipeline.ΦD osem0 spec0 H0 (V m) c from rfl, PhiD0_eq]
  unfold Dat.owesAt Pipeline.owesWithin
  rw [show (dats m hm 0 c).owed t.castSucc = 0 from rfl, show (dats m hm 0 c).owed t.succ = 0 from rfl]
  iintro ⟨⟨⟨Hk, Hv, Hkx, Hvx, ⟨%fs, HS⟩⟩, Hg, Hc, HK, HV⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  ihave H0 := (owns_canon c (ms0_0 t) (iblk m c 0 t)) $$ H0
  ihave H1 := (owns_canon c (ms0_1 t) (iblk m c 1 t)) $$ H1
  ihave H2 := (owns_canon c (ms0_2 t) (iblk m c 2 t)) $$ H2
  ihave H3 := (owns_canon c (ms0_3 t) (iblk m c 3 t)) $$ H3
  ihave H4 := (owns_canon c (ms0_4 t) (iblk m c 4 t)) $$ H4
  ihave H5 := (owns_canon c (ms0_5 t) (iblk m c 5 t)) $$ H5
  ihave H6 := (owns_canon c (ms0_6 t) _) $$ H6
  ihave H7 := (owns_canon c (ms0_7 t) _) $$ H7
  ihave H8 := (owns_canon c (ms0_8 t) _) $$ H8
  ihave HR := (ready c (ms0_0 t) (fin0 m c t) (lens hm c t) (V m c main_arg3) (V m c main_arg4)) $$ [Hk Hv Hkx Hvx Hc HK HV]
  · isplitl [Hk Hv Hkx Hvx]
    · unfold scratch
      isplitl [Hk]; · iexact Hk
      isplitl [Hv]; · iexact Hv
      isplitl [Hkx]; · iexact Hkx
      iexact Hvx
    isplitl [Hc]; · iexact Hc
    isplitl [HK]; · iexact HK
    iexact HV
  icases HR with ⟨%D, HA0, HA1, HA2, HkK, HkV⟩
  iapply (bodyRun c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fin0 m c t) (fin1 m c t) (fin2 m c t) (fin3 m c t) (fin4 m c t) (fin5 m c t) (lens hm c t) (V m c main_arg3) (V m c main_arg4) _ _ _ D W fs _)
  unfold inputs
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H6]; · iexact H6
  isplitl [H7]; · iexact H7
  isplitl [H8]; · iexact H8
  isplitl [HS]; · iexact HS
  isplitl [HA0]; · iexact HA0
  isplitl [HA1]; · iexact HA1
  isplitl [HA2]; · iexact HA2
  isplitl [HW]; · iexact HW
  iintro ⟨⟨H0, H1, H2, H3, H4, H5⟩, H6, H7, H8, HS, HL0, HL1, HL2, ⟨%W', HW'⟩⟩
  ihave HR := (done c (ms0_0 t) (fin0 m c t) (lens hm c t) (V m c main_arg3) (V m c main_arg4)) $$ [HL0 HL1 HL2 HkK HkV]
  · isplitl [HL0]; · iexact HL0
    isplitl [HL1]; · iexact HL1
    isplitl [HL2]; · iexact HL2
    isplitl [HkK]; · iexact HkK
    iexact HkV
  icases HR with ⟨Hb, Hc, HK, HV⟩
  unfold scratch
  icases Hb with ⟨Hk, Hv, Hkx, Hvx⟩
  isplitl [Hk Hv Hkx Hvx HS Hg Hc HK HV]
  · isplitl [Hk Hv Hkx Hvx HS]
    · isplitl [Hk]; · iexact Hk
      isplitl [Hv]; · iexact Hv
      isplitl [Hkx]; · iexact Hkx
      isplitl [Hvx]; · iexact Hvx
      iexact HS
    isplitl [Hg]; · iexact Hg
    isplitl [Hc]; · iexact Hc
    isplitl [HK]; · iexact HK
    iexact HV
  isplitl [HW']
  · iexists W'; isplitr; · ipureintro; exact fun _ _ => Or.inl trivial
    iexact HW'
  isplitl [H0]; · iapply (canon_owns c (ms0_0 t) (iblk m c 0 t)); iexact H0
  isplitl [H1]; · iapply (canon_owns c (ms0_1 t) (iblk m c 1 t)); iexact H1
  isplitl [H2]; · iapply (canon_owns c (ms0_2 t) (iblk m c 2 t)); iexact H2
  isplitl [H3]; · iapply (canon_owns c (ms0_3 t) (iblk m c 3 t)); iexact H3
  isplitl [H4]; · iapply (canon_owns c (ms0_4 t) (iblk m c 4 t)); iexact H4
  isplitl [H5]; · iapply (canon_owns c (ms0_5 t) (iblk m c 5 t)); iexact H5
  isplitl [H6]
  · unfold owns outAt; iexists _; isplitr
    swap; · iexact H6
    ipureintro; exact View.read_writes_of_cover _ _ _ _ _ (out_cover m hm c t)
  isplitl [H7]
  · unfold owns kcodeAt; iexists _; isplitr
    swap; · iexact H7
    ipureintro; exact View.read_writes_of_cover _ _ _ _ _ (kcode_cover m hm c t)
  unfold owns vcodeAt; iexists _; isplitr
  swap; · iexact H8
  ipureintro; exact View.read_writes_of_cover _ _ _ _ _ (vcode_cover m hm c t)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats m hm 0 c) (defs₀ (F := F)) Variants.none () Set.univ := fun t => by
  rw [bigSep_W0, bigSep_W0, defs₀_row]
  exact triple_restated (sound_body m hm c t) rfl .rfl fun _ => .rfl

/-! ## The run -/

theorem hmainD (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

set_option backward.isDefEq.respectTransparency.types false in
/-- The kernel's run, with what each array holds at its end. -/
theorem run_main : θ_run defs (onTc (τ := τ) (main (F := F))) (s₀ m ρ) (fun r => Pipeline.FramePost cfgs (dats m hm) 0 (V m) r ∧ r.2.sem = fun _ => 0) :=
  Pipeline.θ_run_frame_dma (Q' := _) cfgs (dats m hm) (0 : Fin 1) launch0 osem0 defs₀ Variants.none ownSemFacts0 H0 H0_sub m ρ main
    (hbody := fun c => (body_obligation m hm c).loose) (hshare := fun c => (dats m hm 0 c).share_full fun _ => rfl)
    (howed := fun _ _ => rfl) (V := V m) (hmain := hmainD m Variants.none) (hA := A_eq m hm)
    (hin := fun _ => .rfl) (hout := fun _ => .rfl)

/-- What the run's end says of the memory: the arguments as launched, each result at the trips' pieces. -/
theorem ends (r : PUnit × MemSt nD τ sig (Elt F)) (h : Pipeline.FramePost cfgs (dats m hm) 0 (V m) r) (c : Dev nD) :
    (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  ⟨((h c).1 1).trans (((dats m hm 0 c).arrAt_in 1 rfl _).trans (A_eq m hm c 1)),
    ((h c).1 2).trans (((dats m hm 0 c).arrAt_in 2 rfl _).trans (A_eq m hm c 2)),
    ((h c).1 3).trans (((dats m hm 0 c).arrAt_in 3 rfl _).trans (A_eq m hm c 3)),
    (h c).2 main_arg3 (Pipeline.mem_restRefs_of main_arg3 (by decide) (by decide)),
    (h c).2 main_arg4 (Pipeline.mem_restRefs_of main_arg4 (by decide) (by decide)),
    ((h c).1 4).trans (((dats m hm 0 c).arrAt_in 4 rfl _).trans (A_eq m hm c 4)),
    ((h c).1 5).trans (((dats m hm 0 c).arrAt_in 5 rfl _).trans (A_eq m hm c 5)),
    ((h c).1 0).trans (((dats m hm 0 c).arrAt_in 0 rfl _).trans (A_eq m hm c 0))⟩

end Cert.Kernel.Hand

end
-- ==== Proof.KernelIdeal.Checks.lean ====
/- The first row of a window, and the side conditions the body assumes of the words it reads: each of them
   holds for a length between 0 and 65536. -/
module

public import proofs.«01_k».proof.Proof.Gen.KernelIdeal
public import Idealize.ShloMosaic.Lib.Affine

@[expose] public section

namespace Cert.KernelIdeal.Hand

open Cert.KernelIdeal Cert.KernelIdeal.Gen
open Idealize.ShloMosaic
open Idealize.ShloMosaic.Affine (IsInt)

/-- A length the kernel is called with: between 0 and 65536. -/
def InRange (v : BitVec 32) : Prop := 0 ≤ v.toInt ∧ v.toInt ≤ 65536

/-- The first row of the window of 4096 rows the kernel fetches, as the kernel computes it. -/
def baseW (v : BitVec 32) : BitVec 32 := k0_mult1 v
/-- The first of the 32 further rows it fetches, as the kernel computes it. -/
def extraW (v : BitVec 32) : BitVec 32 := k0_mult2 v

/-- `max(len - 4095, 0)` rounded down to a multiple of 32. -/
theorem isInt_base {v : BitVec 32} (hv : InRange v) : IsInt (baseW v) (max (v.toInt - 4095) 0 / 32 * 32) := by
  obtain ⟨h0, h1⟩ := hv
  have hw := Affine.word v
  have h4095 : IsInt 4095#32 4095 := Affine.ofNat 4095 (by omega)
  have hz : IsInt 0#32 0 := Affine.ofNat 0 (by omega)
  have hone : IsInt 1#32 1 := Affine.ofNat 1 (by omega)
  have h32 : IsInt 32#32 32 := Affine.ofNat 32 (by omega)
  have hm : IsInt (Scalar.maxsi (Scalar.subi v 4095#32) 0#32) (max (v.toInt - 4095) 0) :=
    Affine.maxsi (Affine.subi hw h4095 (e := v.toInt - 4095) (by omega)) hz rfl
  have hq : IsInt (Scalar.divsi (Scalar.maxsi (Scalar.subi v 4095#32) 0#32) 32#32) (max (v.toInt - 4095) 0 / 32) :=
    Affine.divsi hm h32 (by omega)
  have hr : IsInt (Scalar.remsi (Scalar.maxsi (Scalar.subi v 4095#32) 0#32) 32#32) (max (v.toInt - 4095) 0 % 32) :=
    Affine.remsi hm h32 (by omega)
  unfold baseW k0_mult1
  refine Affine.muli (ea := max (v.toInt - 4095) 0 / 32) (Affine.select_fails ?_
    (Affine.subi hq hone (e := max (v.toInt - 4095) 0 / 32 - 1) (by omega)) hq rfl) h32 (by omega)
  by_cases hs : v.toInt ≤ 4095
  · exact Affine.andi_fails_right trivial (Affine.ne_fails hr hz (by omega))
  · refine Affine.andi_fails_left (Affine.ne_fails (ea := 1) (eb := 1) ?_ ?_ rfl) trivial
    · exact Affine.subi (Affine.extui_holds (Affine.sgt_holds hm hz (by omega)) rfl)
        (Affine.extui_fails (Affine.slt_fails hm hz (by omega)) rfl) (by omega)
    · exact Affine.subi (Affine.extui_holds (Affine.sgt_holds h32 hz (by omega)) rfl)
        (Affine.extui_fails (Affine.slt_fails h32 hz (by omega)) rfl) (by omega)

/-- The further rows start where the window ends, but not past row 65504. -/
theorem isInt_extra {v : BitVec 32} (hv : InRange v) :
    IsInt (extraW v) (min (max (v.toInt - 4095) 0 / 32 * 32 + 4096) 65504) := by
  have hb := isInt_base hv
  obtain ⟨h0, h1⟩ := hv
  exact Affine.minsi (Affine.addi hb (Affine.ofNat (e := 4096) 4096 (by omega)) (e := max (v.toInt - 4095) 0 / 32 * 32 + 4096) (by omega)) (Affine.ofNat (e := 65504) 65504 (by omega)) rfl

/-- The length as a natural number. -/
theorem toInt_eq {v : BitVec 32} (hv : InRange v) : v.toInt = (v.toNat : Int) := by
  obtain ⟨h0, h1⟩ := hv
  have := Affine.toNat_of (Affine.word v) h0
  omega

theorem len_le {v : BitVec 32} (hv : InRange v) : v.toNat ≤ 65536 := by
  have := toInt_eq hv; obtain ⟨h0, h1⟩ := hv; omega

theorem base_eq {v : BitVec 32} (hv : InRange v) : (baseW v).toNat = (v.toNat - 4095) / 32 * 32 := by
  have h := Affine.toNat_of (isInt_base hv) (by omega)
  have := toInt_eq hv
  omega

theorem extra_eq {v : BitVec 32} (hv : InRange v) : (extraW v).toNat = min ((baseW v).toNat + 4096) 65504 := by
  have h := Affine.toNat_of (isInt_extra hv) (by omega)
  have := toInt_eq hv
  have := base_eq hv
  omega

/-- What a fetch of one head's 4096 rows asks of its place. -/
theorem chk_main {v : BitVec 32} (hv : InRange v) {off : Fin 4 → Nat} (b h : Nat) (hb : b < 3) (hh : h < 4)
    (e : off = ![b, h, (baseW v).toNat, 0]) :
    (32 ∣ (baseW v).toNat) ∧ (∀ a, off a + S1x1x4096x256.size a ≤ S3x4x65536x256.size a) ∧
    (∀ (hinb : ∀ a, off a + S1x1x4096x256.size a ≤ S3x4x65536x256.size a),
      (Rect.unit (s := S3x4x65536x256) off S1x1x4096x256.size hinb).WholeWords (EltTy.packing .i8)) := by
  have hbe := base_eq hv
  have hl := len_le hv
  have hd : 32 ∣ (baseW v).toNat := by omega
  subst e
  refine ⟨hd, ?_, fun hinb => Affine.words_of_packed (Affine.packed_dvd (by decide) ?_ ?_)⟩
  · intro a; fin_cases a <;> simp [S1x1x4096x256, S3x4x65536x256] <;> omega
  · exact Dvd.dvd.trans (by decide : (4:Nat) ∣ 32) hd
  · decide

/-- What a fetch of the further rows asks of its place. -/
theorem chk_extra {v : BitVec 32} (hv : InRange v) {off : Fin 4 → Nat} (b : Nat) (hb : b < 3)
    (e : off = ![b, 0, (extraW v).toNat, 0]) :
    (32 ∣ (baseW v).toNat) ∧ (32 ∣ (extraW v).toNat) ∧ (∀ a, off a + S1x4x32x256.size a ≤ S3x4x65536x256.size a) ∧
    (∀ (hinb : ∀ a, off a + S1x4x32x256.size a ≤ S3x4x65536x256.size a),
      (Rect.unit (s := S3x4x65536x256) off S1x4x32x256.size hinb).WholeWords (EltTy.packing .i8)) := by
  have hbe := base_eq hv
  have hxe := extra_eq hv
  have hl := len_le hv
  have hd : 32 ∣ (extraW v).toNat := by omega
  subst e
  refine ⟨by omega, hd, ?_, fun hinb => Affine.words_of_packed (Affine.packed_dvd (by decide) ?_ ?_)⟩
  · intro a; fin_cases a <;> simp [S1x4x32x256, S3x4x65536x256] <;> omega
  · exact Dvd.dvd.trans (by decide : (4:Nat) ∣ 32) hd
  · decide

variable {v : BitVec 32} (hv : InRange v) (k : Fin k0_t1_loop.trips)
include hv

theorem chk1 : k0_chk1 v := chk_extra hv 0 (by decide) rfl
theorem chk2 : k0_chk2 v := chk_extra hv 0 (by decide) rfl
theorem chk3 : k0_chk3 v := chk_main hv 0 0 (by decide) (by decide) rfl
theorem chk4 : k0_chk4 v := chk_main hv 0 1 (by decide) (by decide) rfl
theorem chk5 : k0_chk5 v := chk_main hv 0 2 (by decide) (by decide) rfl
theorem chk6 : k0_chk6 v := chk_main hv 0 3 (by decide) (by decide) rfl
theorem chk7 : k0_chk7 v := chk_main hv 0 0 (by decide) (by decide) rfl
theorem chk8 : k0_chk8 v := chk_main hv 0 1 (by decide) (by decide) rfl
theorem chk9 : k0_chk9 v := chk_main hv 0 2 (by decide) (by decide) rfl
theorem chk10 : k0_chk10 v := chk_main hv 0 3 (by decide) (by decide) rfl
theorem chk11 : k0_chk11 v := chk_extra hv 1 (by decide) rfl
theorem chk12 : k0_chk12 v := chk_extra hv 1 (by decide) rfl
theorem chk13 : k0_chk13 v := chk_main hv 1 0 (by decide) (by decide) rfl
theorem chk14 : k0_chk14 v := chk_main hv 1 1 (by decide) (by decide) rfl
theorem chk15 : k0_chk15 v := chk_main hv 1 2 (by decide) (by decide) rfl
theorem chk16 : k0_chk16 v := chk_main hv 1 3 (by decide) (by decide) rfl
theorem chk17 : k0_chk17 v := chk_main hv 1 0 (by decide) (by decide) rfl
theorem chk18 : k0_chk18 v := chk_main hv 1 1 (by decide) (by decide) rfl
theorem chk19 : k0_chk19 v := chk_main hv 1 2 (by decide) (by decide) rfl
theorem chk20 : k0_chk20 v := chk_main hv 1 3 (by decide) (by decide) rfl
theorem chk21 : k0_chk21 v := chk_extra hv 2 (by decide) rfl
theorem chk22 : k0_chk22 v := chk_extra hv 2 (by decide) rfl
theorem chk23 : k0_chk23 v := chk_main hv 2 0 (by decide) (by decide) rfl
theorem chk24 : k0_chk24 v := chk_main hv 2 1 (by decide) (by decide) rfl
theorem chk25 : k0_chk25 v := chk_main hv 2 2 (by decide) (by decide) rfl
theorem chk26 : k0_chk26 v := chk_main hv 2 3 (by decide) (by decide) rfl
theorem chk27 : k0_chk27 v := chk_main hv 2 0 (by decide) (by decide) rfl
theorem chk28 : k0_chk28 v := chk_main hv 2 1 (by decide) (by decide) rfl
theorem chk29 : k0_chk29 v := chk_main hv 2 2 (by decide) (by decide) rfl
theorem chk30 : k0_chk30 v := chk_main hv 2 3 (by decide) (by decide) rfl
theorem chk31 : k0_chk31 v := (chk_main hv 0 0 (by decide) (by decide) rfl).1

omit hv in
/-- The trip counter of a loop of three trips, as the word the body computes it by, is the trip. -/
theorem trip_word : ∀ k : Fin k0_t1_loop.trips, k.val < 3 ∧
    (Scalar.indexCast (Scalar.addi 0#32 (Scalar.muli (Scf.iv 0#32 1#32 k) 1#32))).toNat = k.val := by decide
theorem chk32 : k0_chk32 k v := chk_extra hv k.val (trip_word k).1 (congrArg (fun n => ![n, 0, (extraW v).toNat, 0]) (trip_word k).2)
theorem chk33 : k0_chk33 k v := chk_main hv k.val 0 (trip_word k).1 (by decide) (congrArg (fun n => ![n, 0, (baseW v).toNat, 0]) (trip_word k).2)
theorem chk34 : k0_chk34 k v := chk_main hv k.val 1 (trip_word k).1 (by decide) (congrArg (fun n => ![n, 1, (baseW v).toNat, 0]) (trip_word k).2)
theorem chk35 : k0_chk35 k v := chk_main hv k.val 2 (trip_word k).1 (by decide) (congrArg (fun n => ![n, 2, (baseW v).toNat, 0]) (trip_word k).2)
theorem chk36 : k0_chk36 k v := chk_main hv k.val 3 (trip_word k).1 (by decide) (congrArg (fun n => ![n, 3, (baseW v).toNat, 0]) (trip_word k).2)
theorem chk37 : k0_chk37 k v := chk_extra hv k.val (trip_word k).1 (congrArg (fun n => ![n, 0, (extraW v).toNat, 0]) (trip_word k).2)
theorem chk38 : k0_chk38 k v := chk_main hv k.val 0 (trip_word k).1 (by decide) (congrArg (fun n => ![n, 0, (baseW v).toNat, 0]) (trip_word k).2)
theorem chk39 : k0_chk39 k v := chk_main hv k.val 1 (trip_word k).1 (by decide) (congrArg (fun n => ![n, 1, (baseW v).toNat, 0]) (trip_word k).2)
theorem chk40 : k0_chk40 k v := chk_main hv k.val 2 (trip_word k).1 (by decide) (congrArg (fun n => ![n, 2, (baseW v).toNat, 0]) (trip_word k).2)
theorem chk41 : k0_chk41 k v := chk_main hv k.val 3 (trip_word k).1 (by decide) (congrArg (fun n => ![n, 3, (baseW v).toNat, 0]) (trip_word k).2)

end Cert.KernelIdeal.Hand

end
-- ==== Proof.KernelIdeal.Slots.lean ====
/- The windows of the scratch buffers and the semaphore cells the kernel's transfers use, under one name each:
   a window of 4096 cached rows per batch entry and head, a window of 32 further rows of all heads per batch
   entry, and the cell each transfer is counted on. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Ring
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic

/-- A trip of the loop over the batch, as a number below 3. -/
abbrev bt (k : Fin k0_t1_loop.trips) : Fin 3 := ⟨k.val, Nat.lt_of_lt_of_eq k.isLt (by decide +kernel)⟩

/-- The four scratch buffers the transfers fill, and the two caches they read. -/
abbrev kM : Memref sig .tc .vmem S3x4x4096x256 .i8 := Memref.whole cc0_scratch0
abbrev vM : Memref sig .tc .vmem S3x4x4096x256 .i8 := Memref.whole cc0_scratch1
abbrev kxM : Memref sig .tc .vmem S3x4x32x256 .i8 := Memref.whole cc0_scratch2
abbrev vxM : Memref sig .tc .vmem S3x4x32x256 .i8 := Memref.whole cc0_scratch3
abbrev sM : Memref sig .tc .vmem S8x4096 .f32 := Memref.whole cc0_scratch4
abbrev ckM : Memref sig .tc .hbm S3x4x65536x256 .i8 := Memref.whole main_arg3
abbrev cvM : Memref sig .tc .hbm S3x4x65536x256 .i8 := Memref.whole main_arg4

abbrev mainOff (b : Fin 3) (h : Fin 4) : Fin 4 → Nat := ![b.val, h.val, 0, 0]
theorem mainOff_inb (b : Fin 3) (h : Fin 4) : ∀ a, mainOff b h a + S1x1x4096x256.size a ≤ S3x4x4096x256.size a := by
  have := b.isLt; have := h.isLt; intro a; fin_cases a
  · show b.val + 1 ≤ 3; omega
  · show h.val + 1 ≤ 4; omega
  · show 0 + 4096 ≤ 4096; omega
  · show 0 + 256 ≤ 256; omega
abbrev extraOff (b : Fin 3) : Fin 4 → Nat := ![b.val, 0, 0, 0]
theorem extraOff_inb (b : Fin 3) : ∀ a, extraOff b a + S1x4x32x256.size a ≤ S3x4x32x256.size a := by
  have := b.isLt; intro a; fin_cases a
  · show b.val + 1 ≤ 3; omega
  · show 0 + 4 ≤ 4; omega
  · show 0 + 32 ≤ 32; omega
  · show 0 + 256 ≤ 256; omega
abbrev cellOff (b : Fin 3) (h : Fin 4) : Fin 2 → Nat := ![b.val, h.val]
theorem cellOff_inb (b : Fin 3) (h : Fin 4) : ∀ a, cellOff b h a + S1x1.size a ≤ S3x4.size a := by
  have := b.isLt; have := h.isLt; intro a; fin_cases a
  · show b.val + 1 ≤ 3; omega
  · show h.val + 1 ≤ 4; omega
abbrev xcellOff (b : Fin 3) (j : Fin 2) : Fin 2 → Nat := ![b.val, j.val]
theorem xcellOff_inb (b : Fin 3) (j : Fin 2) : ∀ a, xcellOff b j a + S1x1.size a ≤ S3x2.size a := by
  have := b.isLt; have := j.isLt; intro a; fin_cases a
  · show b.val + 1 ≤ 3; omega
  · show j.val + 1 ≤ 2; omega

/-- The window of 4096 key rows of batch entry `b`, head `h`. -/
def kslot (b : Fin 3) (h : Fin 4) : Memref sig .tc .vmem S4096x256 .i8 :=
  (kM.slice (Rect.unit (s := S3x4x4096x256) (mainOff b h) S1x1x4096x256.size (mainOff_inb b h)) (fun _ => rfl)).squeeze S4096x256 squeezes_S1x1x4096x256_S4096x256
/-- The window of 4096 value rows of batch entry `b`, head `h`. -/
def vslot (b : Fin 3) (h : Fin 4) : Memref sig .tc .vmem S4096x256 .i8 :=
  (vM.slice (Rect.unit (s := S3x4x4096x256) (mainOff b h) S1x1x4096x256.size (mainOff_inb b h)) (fun _ => rfl)).squeeze S4096x256 squeezes_S1x1x4096x256_S4096x256
/-- The window of the 32 further key rows of batch entry `b`, all heads. -/
def kxslot (b : Fin 3) : Memref sig .tc .vmem S4x32x256 .i8 :=
  (kxM.slice (Rect.unit (s := S3x4x32x256) (extraOff b) S1x4x32x256.size (extraOff_inb b)) (fun _ => rfl)).squeeze S4x32x256 squeezes_S1x4x32x256_S4x32x256
/-- The window of the 32 further value rows of batch entry `b`, all heads. -/
def vxslot (b : Fin 3) : Memref sig .tc .vmem S4x32x256 .i8 :=
  (vxM.slice (Rect.unit (s := S3x4x32x256) (extraOff b) S1x4x32x256.size (extraOff_inb b)) (fun _ => rfl)).squeeze S4x32x256 squeezes_S1x4x32x256_S4x32x256
/-- The cell the key window of `(b, h)` is counted on. -/
def kcell (b : Fin 3) (h : Fin 4) : DmaSems sig S_ :=
  (cc0_scratch5.slice (Rect.unit (s := S3x4) (cellOff b h) S1x1.size (cellOff_inb b h))).squeeze S_ squeezes_S1x1_S_
/-- The cell the value window of `(b, h)` is counted on. -/
def vcell (b : Fin 3) (h : Fin 4) : DmaSems sig S_ :=
  (cc0_scratch6.slice (Rect.unit (s := S3x4) (cellOff b h) S1x1.size (cellOff_inb b h))).squeeze S_ squeezes_S1x1_S_
/-- The cells the further rows of `b` are counted on: 0 the key rows, 1 the value rows. -/
def xcell (b : Fin 3) (j : Fin 2) : DmaSems sig S_ :=
  (cc0_scratch7.slice (Rect.unit (s := S3x2) (xcellOff b j) S1x1.size (xcellOff_inb b j))).squeeze S_ squeezes_S1x1_S_

instance (k : Fin k0_t1_loop.trips) : ClosedOff (mainOff (bt k) 0) := ⟨![k.val, 0, 0, 0], rfl⟩
instance (k : Fin k0_t1_loop.trips) : ClosedOff (mainOff (bt k) 1) := ⟨![k.val, 1, 0, 0], rfl⟩
instance (k : Fin k0_t1_loop.trips) : ClosedOff (mainOff (bt k) 2) := ⟨![k.val, 2, 0, 0], rfl⟩
instance (k : Fin k0_t1_loop.trips) : ClosedOff (mainOff (bt k) 3) := ⟨![k.val, 3, 0, 0], rfl⟩
instance (k : Fin k0_t1_loop.trips) : ClosedOff (extraOff (bt k)) := ⟨![k.val, 0, 0, 0], rfl⟩

/-! ### A slice at an offset equal to a window's offset is that window -/

theorem kslot_congr {off : Fin 4 → Nat} {b : Fin 3} {h : Fin 4} (e : off = mainOff b h) (hh hs) :
    (kM.slice (Rect.unit (s := S3x4x4096x256) off S1x1x4096x256.size hh) hs).squeeze S4096x256 squeezes_S1x1x4096x256_S4096x256 = kslot b h :=
  congrArg (fun M : Memref sig .tc .vmem S1x1x4096x256 .i8 => M.squeeze S4096x256 squeezes_S1x1x4096x256_S4096x256) (Memref.slice_unit_congr _ e _ _ _ _)
theorem vslot_congr {off : Fin 4 → Nat} {b : Fin 3} {h : Fin 4} (e : off = mainOff b h) (hh hs) :
    (vM.slice (Rect.unit (s := S3x4x4096x256) off S1x1x4096x256.size hh) hs).squeeze S4096x256 squeezes_S1x1x4096x256_S4096x256 = vslot b h :=
  congrArg (fun M : Memref sig .tc .vmem S1x1x4096x256 .i8 => M.squeeze S4096x256 squeezes_S1x1x4096x256_S4096x256) (Memref.slice_unit_congr _ e _ _ _ _)
theorem kxslot_congr {off : Fin 4 → Nat} {b : Fin 3} (e : off = extraOff b) (hh hs) :
    (kxM.slice (Rect.unit (s := S3x4x32x256) off S1x4x32x256.size hh) hs).squeeze S4x32x256 squeezes_S1x4x32x256_S4x32x256 = kxslot b :=
  congrArg (fun M : Memref sig .tc .vmem S1x4x32x256 .i8 => M.squeeze S4x32x256 squeezes_S1x4x32x256_S4x32x256) (Memref.slice_unit_congr _ e _ _ _ _)
theorem vxslot_congr {off : Fin 4 → Nat} {b : Fin 3} (e : off = extraOff b) (hh hs) :
    (vxM.slice (Rect.unit (s := S3x4x32x256) off S1x4x32x256.size hh) hs).squeeze S4x32x256 squeezes_S1x4x32x256_S4x32x256 = vxslot b :=
  congrArg (fun M : Memref sig .tc .vmem S1x4x32x256 .i8 => M.squeeze S4x32x256 squeezes_S1x4x32x256_S4x32x256) (Memref.slice_unit_congr _ e _ _ _ _)
theorem kcell_congr {off : Fin 2 → Nat} {b : Fin 3} {h : Fin 4} (e : off = cellOff b h) (hh) :
    (cc0_scratch5.slice (Rect.unit (s := S3x4) off S1x1.size hh)).squeeze S_ squeezes_S1x1_S_ = kcell b h :=
  congrArg (fun A : DmaSems sig S1x1 => A.squeeze S_ squeezes_S1x1_S_) (SemArray.slice_unit_congr _ e _ _)
theorem vcell_congr {off : Fin 2 → Nat} {b : Fin 3} {h : Fin 4} (e : off = cellOff b h) (hh) :
    (cc0_scratch6.slice (Rect.unit (s := S3x4) off S1x1.size hh)).squeeze S_ squeezes_S1x1_S_ = vcell b h :=
  congrArg (fun A : DmaSems sig S1x1 => A.squeeze S_ squeezes_S1x1_S_) (SemArray.slice_unit_congr _ e _ _)
theorem xcell_congr {off : Fin 2 → Nat} {b : Fin 3} {j : Fin 2} (e : off = xcellOff b j) (hh) :
    (cc0_scratch7.slice (Rect.unit (s := S3x2) off S1x1.size hh)).squeeze S_ squeezes_S1x1_S_ = xcell b j :=
  congrArg (fun A : DmaSems sig S1x1 => A.squeeze S_ squeezes_S1x1_S_) (SemArray.slice_unit_congr _ e _ _)

/-! ### The trip's windows and cells -/

section Canon
variable (k : Fin k0_t1_loop.trips)

@[sl_canon] theorem slot39 (hh hs) : (kxM.slice (Rect.unit (s := S3x4x32x256) (k0_off39 k) S1x4x32x256.size hh) hs).squeeze S4x32x256 squeezes_S1x4x32x256_S4x32x256 = kxslot (bt k) :=
  kxslot_congr (k0_off39_eq k) _ _
@[sl_canon] theorem slot43 (hh hs) : (kM.slice (Rect.unit (s := S3x4x4096x256) (k0_off43 k) S1x1x4096x256.size hh) hs).squeeze S4096x256 squeezes_S1x1x4096x256_S4096x256 = kslot (bt k) 0 :=
  kslot_congr (k0_off43_eq k) _ _
@[sl_canon] theorem slot53 (hh hs) : (kM.slice (Rect.unit (s := S3x4x4096x256) (k0_off53 k) S1x1x4096x256.size hh) hs).squeeze S4096x256 squeezes_S1x1x4096x256_S4096x256 = kslot (bt k) 1 :=
  kslot_congr (k0_off53_eq k) _ _
@[sl_canon] theorem slot63 (hh hs) : (kM.slice (Rect.unit (s := S3x4x4096x256) (k0_off63 k) S1x1x4096x256.size hh) hs).squeeze S4096x256 squeezes_S1x1x4096x256_S4096x256 = kslot (bt k) 2 :=
  kslot_congr (k0_off63_eq k) _ _
@[sl_canon] theorem slot73 (hh hs) : (kM.slice (Rect.unit (s := S3x4x4096x256) (k0_off73 k) S1x1x4096x256.size hh) hs).squeeze S4096x256 squeezes_S1x1x4096x256_S4096x256 = kslot (bt k) 3 :=
  kslot_congr (k0_off73_eq k) _ _
@[sl_canon] theorem slot83 (hh hs) : (vxM.slice (Rect.unit (s := S3x4x32x256) (k0_off83 k) S1x4x32x256.size hh) hs).squeeze S4x32x256 squeezes_S1x4x32x256_S4x32x256 = vxslot (bt k) :=
  vxslot_congr (k0_off83_eq k) _ _
@[sl_canon] theorem slot87 (hh hs) : (vM.slice (Rect.unit (s := S3x4x4096x256) (k0_off87 k) S1x1x4096x256.size hh) hs).squeeze S4096x256 squeezes_S1x1x4096x256_S4096x256 = vslot (bt k) 0 :=
  vslot_congr (k0_off87_eq k) _ _
@[sl_canon] theorem slot97 (hh hs) : (vM.slice (Rect.unit (s := S3x4x4096x256) (k0_off97 k) S1x1x4096x256.size hh) hs).squeeze S4096x256 squeezes_S1x1x4096x256_S4096x256 = vslot (bt k) 1 :=
  vslot_congr (k0_off97_eq k) _ _
@[sl_canon] theorem slot107 (hh hs) : (vM.slice (Rect.unit (s := S3x4x4096x256) (k0_off107 k) S1x1x4096x256.size hh) hs).squeeze S4096x256 squeezes_S1x1x4096x256_S4096x256 = vslot (bt k) 2 :=
  vslot_congr (k0_off107_eq k) _ _
@[sl_canon] theorem slot117 (hh hs) : (vM.slice (Rect.unit (s := S3x4x4096x256) (k0_off117 k) S1x1x4096x256.size hh) hs).squeeze S4096x256 squeezes_S1x1x4096x256_S4096x256 = vslot (bt k) 3 :=
  vslot_congr (k0_off117_eq k) _ _
@[sl_canon] theorem cell38 (hh) : (cc0_scratch7.slice (Rect.unit (s := S3x2) (k0_off38 k) S1x1.size hh)).squeeze S_ squeezes_S1x1_S_ = xcell (bt k) 0 := xcell_congr (k0_off38_eq k) _
@[sl_canon] theorem cell42 (hh) : (cc0_scratch5.slice (Rect.unit (s := S3x4) (k0_off42 k) S1x1.size hh)).squeeze S_ squeezes_S1x1_S_ = kcell (bt k) 0 := kcell_congr (k0_off42_eq k) _
@[sl_canon] theorem cell52 (hh) : (cc0_scratch5.slice (Rect.unit (s := S3x4) (k0_off52 k) S1x1.size hh)).squeeze S_ squeezes_S1x1_S_ = kcell (bt k) 1 := kcell_congr (k0_off52_eq k) _
@[sl_canon] theorem cell62 (hh) : (cc0_scratch5.slice (Rect.unit (s := S3x4) (k0_off62 k) S1x1.size hh)).squeeze S_ squeezes_S1x1_S_ = kcell (bt k) 2 := kcell_congr (k0_off62_eq k) _
@[sl_canon] theorem cell72 (hh) : (cc0_scratch5.slice (Rect.unit (s := S3x4) (k0_off72 k) S1x1.size hh)).squeeze S_ squeezes_S1x1_S_ = kcell (bt k) 3 := kcell_congr (k0_off72_eq k) _
@[sl_canon] theorem cell82 (hh) : (cc0_scratch7.slice (Rect.unit (s := S3x2) (k0_off82 k) S1x1.size hh)).squeeze S_ squeezes_S1x1_S_ = xcell (bt k) 1 := xcell_congr (k0_off82_eq k) _
@[sl_canon] theorem cell86 (hh) : (cc0_scratch6.slice (Rect.unit (s := S3x4) (k0_off86 k) S1x1.size hh)).squeeze S_ squeezes_S1x1_S_ = vcell (bt k) 0 := vcell_congr (k0_off86_eq k) _
@[sl_canon] theorem cell96 (hh) : (cc0_scratch6.slice (Rect.unit (s := S3x4) (k0_off96 k) S1x1.size hh)).squeeze S_ squeezes_S1x1_S_ = vcell (bt k) 1 := vcell_congr (k0_off96_eq k) _
@[sl_canon] theorem cell106 (hh) : (cc0_scratch6.slice (Rect.unit (s := S3x4) (k0_off106 k) S1x1.size hh)).squeeze S_ squeezes_S1x1_S_ = vcell (bt k) 2 := vcell_congr (k0_off106_eq k) _
@[sl_canon] theorem cell116 (hh) : (cc0_scratch6.slice (Rect.unit (s := S3x4) (k0_off116 k) S1x1.size hh)).squeeze S_ squeezes_S1x1_S_ = vcell (bt k) 3 := vcell_congr (k0_off116_eq k) _

end Canon

end Cert.KernelIdeal.Hand

end
-- ==== Proof.KernelIdeal.Trip.lean ====
/- One trip of the loop over the batch: from ten transfers in flight into the trip's windows, to the windows
   held again, the codes and the output of the trip's batch entry stored. -/
module

public import proofs.«01_k».proof.Proof.KernelIdeal.Checks
public import proofs.«01_k».proof.Proof.KernelIdeal.Slots

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The pieces -/

section Pieces
variable (c : Dev nD)

/-- A memref held whole on its own elements at contents `f`. -/
abbrev at_ {sp : Space} {s : Shape} {e : EltTy} (M : Memref sig .tc sp s e) (f : Buf (Elt F) (M.view.loc (c : Thread nD τ))) : sProp 𝕄 :=
  M.view.loc (c : Thread nD τ) ↦[M.view.set]{fullShare} f
/-- A transfer in flight on `cell`, which delivers window `M` at contents `g` and gives back the elements `S` of the
    array it reads, at the contents `A` and the share `q` they were lent at. -/
abbrev flight {s s' : Shape} (cell : DmaSems sig S_) (n : ℕ) (M : Memref sig .tc .vmem s .i8)
    (g : Buf (Elt F) (M.view.loc (c : Thread nD τ))) (src : Memref sig .tc .hbm s' .i8)
    (S : Finset (Idx (src.view.loc (c : Thread nD τ)))) (q : PosShare TreeShare) (A : Buf (Elt F) (src.view.loc (c : Thread nD τ))) : sProp 𝕄 :=
  Transfers.Flight (countersEmb (U := Pipeline.UD sig nD τ)) (c : Thread nD τ) (SemLoc.dma cell.sem) () n
    iprop(at_ c M g ∗ src.view.loc (c : Thread nD τ) ↦[S]{q} A)
/-- What the scratch windows of batch entry `b` hold once their transfers have landed. -/
structure Held (F : FTy → Type) [FloatOps F] (c : Dev nD) (b : Fin 3) where
  k (h : Fin 4) : Buf (Elt F) ((kslot b h).view.loc (c : Thread nD τ))
  v (h : Fin 4) : Buf (Elt F) ((vslot b h).view.loc (c : Thread nD τ))
  kx : Buf (Elt F) ((kxslot b).view.loc (c : Thread nD τ))
  vx : Buf (Elt F) ((vxslot b).view.loc (c : Thread nD τ))

/-- The elements of the two caches lent to the transfers of one batch entry, and the shares they are lent at. -/
structure Lent (c : Dev nD) where
  k : Fin 4 → Finset (Idx (ckM.view.loc (c : Thread nD τ)))
  v : Fin 4 → Finset (Idx (cvM.view.loc (c : Thread nD τ)))
  kx : Finset (Idx (ckM.view.loc (c : Thread nD τ)))
  vx : Finset (Idx (cvM.view.loc (c : Thread nD τ)))
  qk : Fin 4 → PosShare TreeShare
  qv : Fin 4 → PosShare TreeShare
  qkx : PosShare TreeShare
  qvx : PosShare TreeShare

variable (XK : Buf (Elt F) (ckM.view.loc (c : Thread nD τ))) (XV : Buf (Elt F) (cvM.view.loc (c : Thread nD τ)))

/-- The ten transfers of batch entry `b` in flight. -/
def inflight (b : Fin 3) (G : Held F c b) (T : Lent c) : sProp 𝕄 :=
  iprop(flight c (xcell b 0) 1024 (kxslot b) G.kx ckM T.kx T.qkx XK
    ∗ flight c (kcell b 0) 32768 (kslot b 0) (G.k 0) ckM (T.k 0) (T.qk 0) XK
    ∗ flight c (kcell b 1) 32768 (kslot b 1) (G.k 1) ckM (T.k 1) (T.qk 1) XK
    ∗ flight c (kcell b 2) 32768 (kslot b 2) (G.k 2) ckM (T.k 2) (T.qk 2) XK
    ∗ flight c (kcell b 3) 32768 (kslot b 3) (G.k 3) ckM (T.k 3) (T.qk 3) XK
    ∗ flight c (xcell b 1) 1024 (vxslot b) G.vx cvM T.vx T.qvx XV
    ∗ flight c (vcell b 0) 32768 (vslot b 0) (G.v 0) cvM (T.v 0) (T.qv 0) XV
    ∗ flight c (vcell b 1) 32768 (vslot b 1) (G.v 1) cvM (T.v 1) (T.qv 1) XV
    ∗ flight c (vcell b 2) 32768 (vslot b 2) (G.v 2) cvM (T.v 2) (T.qv 2) XV
    ∗ flight c (vcell b 3) 32768 (vslot b 3) (G.v 3) cvM (T.v 3) (T.qv 3) XV)

/-- A cell at zero, its window held at anything, and the elements its transfer read back at their share. -/
abbrev back {s s' : Shape} (cell : DmaSems sig S_) (M : Memref sig .tc .vmem s .i8) (src : Memref sig .tc .hbm s' .i8)
    (S : Finset (Idx (src.view.loc (c : Thread nD τ)))) (q : PosShare TreeShare) (A : Buf (Elt F) (src.view.loc (c : Thread nD τ))) : sProp 𝕄 :=
  iprop(semVal ((c : Thread nD τ), SemLoc.dma cell.sem) 0 ∗ (∃ g, at_ c M g) ∗ src.view.loc (c : Thread nD τ) ↦[S]{q} A)

/-- The ten transfers of batch entry `b` done. -/
def landed (b : Fin 3) (T : Lent c) : sProp 𝕄 :=
  iprop(back c (xcell b 0) (kxslot b) ckM T.kx T.qkx XK
    ∗ back c (kcell b 0) (kslot b 0) ckM (T.k 0) (T.qk 0) XK
    ∗ back c (kcell b 1) (kslot b 1) ckM (T.k 1) (T.qk 1) XK
    ∗ back c (kcell b 2) (kslot b 2) ckM (T.k 2) (T.qk 2) XK
    ∗ back c (kcell b 3) (kslot b 3) ckM (T.k 3) (T.qk 3) XK
    ∗ back c (xcell b 1) (vxslot b) cvM T.vx T.qvx XV
    ∗ back c (vcell b 0) (vslot b 0) cvM (T.v 0) (T.qv 0) XV
    ∗ back c (vcell b 1) (vslot b 1) cvM (T.v 1) (T.qv 1) XV
    ∗ back c (vcell b 2) (vslot b 2) cvM (T.v 2) (T.qv 2) XV
    ∗ back c (vcell b 3) (vslot b 3) cvM (T.v 3) (T.qv 3) XV)

end Pieces

section Trip
variable (c : Dev nD)
  (arg0 : Memref sig .tc .smem S3 .i32) (harg0 : arg0.IsWhole) (arg1 : Memref sig .tc .vmem S3x1x2048 .bf16) (harg1 : arg1.IsWhole)
  (arg2 : Memref sig .tc .vmem S3x4x1x256 .bf16) (harg2 : arg2.IsWhole) (arg3 : Memref sig .tc .vmem S3x4x1x256 .bf16) (harg3 : arg3.IsWhole)
  (arg4 : Memref sig .tc .vmem S4x256 .f32) (harg4 : arg4.IsWhole) (arg5 : Memref sig .tc .smem S4 .f32) (harg5 : arg5.IsWhole)
  (arg8 : Memref sig .tc .vmem S3x1x2048 .bf16) (harg8 : arg8.IsWhole) (arg9 : Memref sig .tc .vmem S3x4x1x256 .i8) (harg9 : arg9.IsWhole)
  (arg10 : Memref sig .tc .vmem S3x4x1x256 .i8) (harg10 : arg10.IsWhole)
  (v859 : FVec F S4x256 .bf16) (v860 : IVec S8x1 32) (v948 : FVec F S8x1 .f32) (v950 : IVec S8x1 32) (v969 : IVec S8x1 1) (v970 : IVec S8x1 32) (v975 : Elt F .f32)
  (f0 : Buf (Elt F) (arg0.view.loc (c : Thread nD τ))) (f1 : Buf (Elt F) (arg1.view.loc (c : Thread nD τ)))
  (f2 : Buf (Elt F) (arg2.view.loc (c : Thread nD τ))) (f3 : Buf (Elt F) (arg3.view.loc (c : Thread nD τ)))
  (f4 : Buf (Elt F) (arg4.view.loc (c : Thread nD τ))) (f5 : Buf (Elt F) (arg5.view.loc (c : Thread nD τ)))
  (hlen : ∀ (r : LoadRect S3) j, InRange (arg0.view.readAt (Elt F) r f0 j))
  (XK : Buf (Elt F) (ckM.view.loc (c : Thread nD τ))) (XV : Buf (Elt F) (cvM.view.loc (c : Thread nD τ)))

/-- The trip's program. -/
abbrev tripG (k : Fin k0_t1_loop.trips) : Prog (TpuEff nD τ sig (Elt F) Λ₀ .tc) Unit :=
  k0_t1_body (F := F) arg0 harg0 arg1 harg1 arg2 harg2 arg3 harg3 arg4 harg4 arg5 harg5 ckM (Memref.isWhole_whole _) cvM (Memref.isWhole_whole _)
    arg8 harg8 arg9 harg9 arg10 harg10 kM (Memref.isWhole_whole _) vM (Memref.isWhole_whole _) kxM (Memref.isWhole_whole _) vxM (Memref.isWhole_whole _)
    sM (Memref.isWhole_whole _) cc0_scratch5 cc0_scratch6 cc0_scratch7 v859 v860 v948 v950 v969 v970 v975 k ()

/-- The six inputs held by the body. -/
abbrev inputs : sProp 𝕄 := iprop(at_ c arg0 f0 ∗ at_ c arg1 f1 ∗ at_ c arg2 f2 ∗ at_ c arg3 f3 ∗ at_ c arg4 f4 ∗ at_ c arg5 f5)

/-- ONE TRIP, at a symbolic trip number: the pieces it stores into the three results are found by the run, as functions of
    the inputs' contents and of what the trip's windows hold. -/
def tripRun (k : Fin k0_t1_loop.trips) (G : Held F c (bt k)) :
    Σ' (L8 : List (View.Piece (Elt F) S3x1x2048 .bf16)) (L9 : List (View.Piece (Elt F) S3x4x1x256 .i8)),
      { L10 : List (View.Piece (Elt F) S3x4x1x256 .i8) //
      ∀ (W : Waits sig Unit) (f8 : Buf (Elt F) (arg8.view.loc (c : Thread nD τ))) (f9 : Buf (Elt F) (arg9.view.loc (c : Thread nD τ)))
        (f10 : Buf (Elt F) (arg10.view.loc (c : Thread nD τ))) (fs : Buf (Elt F) (sM.view.loc (c : Thread nD τ))) (T : Lent c),
    iprop(inputs c arg0 arg1 arg2 arg3 arg4 arg5 f0 f1 f2 f3 f4 f5
        ∗ at_ c arg8 f8 ∗ at_ c arg9 f9 ∗ at_ c arg10 f10 ∗ at_ c sM fs
        ∗ inflight c XK XV (bt k) G T ∗ owes (c : Thread nD τ) 0 W)
      ⊢ wp frame (wpE (defs₀ (F := F)) Variants.none (c : Thread nD τ) none) Set.univ
          (tripG arg0 harg0 arg1 harg1 arg2 harg2 arg3 harg3 arg4 harg4 arg5 harg5 arg8 harg8 arg9 harg9 arg10 harg10 v859 v860 v948 v950 v969 v970 v975 k)
          (fun _ => iprop(inputs c arg0 arg1 arg2 arg3 arg4 arg5 f0 f1 f2 f3 f4 f5
            ∗ at_ c arg8 (arg8.view.writes (Elt F) f8 L8) ∗ at_ c arg9 (arg9.view.writes (Elt F) f9 L9)
            ∗ at_ c arg10 (arg10.view.writes (Elt F) f10 L10) ∗ (∃ fs', at_ c sM fs')
            ∗ landed c XK XV (bt k) T ∗ ∃ W', owes (c : Thread nD τ) 0 W')) } := by
  refine ⟨?_, ?_, ?_, fun W f8 f9 f10 fs T => ?run⟩
  case run =>
    unfold inflight
    iintro ⟨⟨H0, H1, H2, H3, H4, H5⟩, H8, H9, H10, HS, ⟨HKX, HK0, HK1, HK2, HK3, HVX, HV0, HV1, HV2, HV3⟩, HW⟩
    dsimp only [tripG]
    sl_unfold [k0_t1_body]
    sl_exec_parts (disch := first | exact chk31 (hlen _ _) | exact chk32 (hlen _ _) k | exact chk33 (hlen _ _) k | exact chk34 (hlen _ _) k | exact chk35 (hlen _ _) k | exact chk36 (hlen _ _) k | exact chk37 (hlen _ _) k | exact chk38 (hlen _ _) k | exact chk39 (hlen _ _) k | exact chk40 (hlen _ _) k | exact chk41 (hlen _ _) k)
    sl_step
    unfold landed
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H8]; · iexact H8
    isplitl [H9]; · iexact H9
    isplitl [H10]; · iexact H10
    isplitl [HS]; · iexists _; iexact HS
    isplitr [HW]
    · isplitl [HKX HKX_dst HKX_src]
      · isplitl [HKX]; · iexact HKX
        isplitl [HKX_dst]; · iexists _; iexact HKX_dst
        iexact HKX_src
      isplitl [HK0 HK0_dst HK0_src]
      · isplitl [HK0]; · iexact HK0
        isplitl [HK0_dst]; · iexists _; iexact HK0_dst
        iexact HK0_src
      isplitl [HK1 HK1_dst HK1_src]
      · isplitl [HK1]; · iexact HK1
        isplitl [HK1_dst]; · iexists _; iexact HK1_dst
        iexact HK1_src
      isplitl [HK2 HK2_dst HK2_src]
      · isplitl [HK2]; · iexact HK2
        isplitl [HK2_dst]; · iexists _; iexact HK2_dst
        iexact HK2_src
      isplitl [HK3 HK3_dst HK3_src]
      · isplitl [HK3]; · iexact HK3
        isplitl [HK3_dst]; · iexists _; iexact HK3_dst
        iexact HK3_src
      isplitl [HVX HVX_dst HVX_src]
      · isplitl [HVX]; · iexact HVX
        isplitl [HVX_dst]; · iexists _; iexact HVX_dst
        iexact HVX_src
      isplitl [HV0 HV0_dst HV0_src]
      · isplitl [HV0]; · iexact HV0
        isplitl [HV0_dst]; · iexists _; iexact HV0_dst
        iexact HV0_src
      isplitl [HV1 HV1_dst HV1_src]
      · isplitl [HV1]; · iexact HV1
        isplitl [HV1_dst]; · iexists _; iexact HV1_dst
        iexact HV1_src
      isplitl [HV2 HV2_dst HV2_src]
      · isplitl [HV2]; · iexact HV2
        isplitl [HV2_dst]; · iexists _; iexact HV2_dst
        iexact HV2_src
      isplitl [HV3]; · iexact HV3
      isplitl [HV3_dst]; · iexists _; iexact HV3_dst
      iexact HV3_src
    iexists _; iexact HW

end Trip

end Cert.KernelIdeal.Hand

end
-- ==== Proof.KernelIdeal.Prelude.lean ====
/- The kernel before its loop: from all thirty windows held, every cell at zero and the two caches held at one share
   per transfer, thirty transfers are started, each lent the rows its window is to receive. -/
module

public import proofs.«01_k».proof.Proof.KernelIdeal.Trip

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The rows a transfer reads -/

section Rows
variable (c : Dev nD) (arg0 : Memref sig .tc .smem S3 .i32) (f0 : Buf (Elt F) (arg0.view.loc (c : Thread nD τ)))
  (hlen : ∀ (r : LoadRect S3) j, InRange (arg0.view.readAt (Elt F) r f0 j))

theorem lenInb (b : Fin 3) : ∀ a, (![b.val] : Fin 1 → Nat) a + S1.size a ≤ S3.size a := by
  have := b.isLt; intro a; fin_cases a; show b.val + 1 ≤ 3; omega
/-- The number of rows in the cache of batch entry `b`, as the kernel reads it. -/
abbrev lenW (b : Fin 3) : BitVec 32 :=
  arg0.view.readAt (Elt F) (Rect.unit (s := S3) ![b.val] S1.size (lenInb b)).toLoadRect f0 (Shape.Idx.first (numel1_S1 ▸ Nat.one_pos))

theorem rowsInb {v : BitVec 32} (hv : InRange v) (b : Fin 3) (h : Fin 4) :
    ∀ a, (![b.val, h.val, (baseW v).toNat, 0] : Fin 4 → Nat) a + S1x1x4096x256.size a ≤ S3x4x65536x256.size a := by
  have hb := b.isLt; have hh := h.isLt; have h1 := base_eq hv; have h2 := len_le hv; intro a; fin_cases a
  · show b.val + 1 ≤ 3; omega
  · show h.val + 1 ≤ 4; omega
  · show (baseW v).toNat + 4096 ≤ 65536; omega
  · show 0 + 256 ≤ 256; omega
theorem xrowsInb {v : BitVec 32} (hv : InRange v) (b : Fin 3) :
    ∀ a, (![b.val, 0, (extraW v).toNat, 0] : Fin 4 → Nat) a + S1x4x32x256.size a ≤ S3x4x65536x256.size a := by
  have hb := b.isLt; have h1 := extra_eq hv; intro a; fin_cases a
  · show b.val + 1 ≤ 3; omega
  · show 0 + 4 ≤ 4; omega
  · show (extraW v).toNat + 32 ≤ 65536; omega
  · show 0 + 256 ≤ 256; omega
/-- The 4096 rows of one batch entry and head from the first one read on. -/
abbrev rows (M : Memref sig .tc .hbm S3x4x65536x256 .i8) {v : BitVec 32} (hv : InRange v) (b : Fin 3) (h : Fin 4) : Memref sig .tc .hbm S4096x256 .i8 :=
  (M.slice (Rect.unit (s := S3x4x65536x256) ![b.val, h.val, (baseW v).toNat, 0] S1x1x4096x256.size (rowsInb hv b h)) (fun _ => rfl)).squeeze
    S4096x256 squeezes_S1x1x4096x256_S4096x256
/-- The 32 rows after them (or the cache's last 32) of all heads of one batch entry. -/
abbrev xrows (M : Memref sig .tc .hbm S3x4x65536x256 .i8) {v : BitVec 32} (hv : InRange v) (b : Fin 3) : Memref sig .tc .hbm S4x32x256 .i8 :=
  (M.slice (Rect.unit (s := S3x4x65536x256) ![b.val, 0, (extraW v).toNat, 0] S1x4x32x256.size (xrowsInb hv b)) (fun _ => rfl)).squeeze
    S4x32x256 squeezes_S1x4x32x256_S4x32x256

include hlen in
theorem lenOk (b : Fin 3) : InRange (lenW c arg0 f0 b) := hlen _ _

/-- What batch entry `b`'s transfers are lent: the rows they read, at the share named by each transfer's cell. -/
abbrev lent (b : Fin 3) : Lent c where
  k h := (rows ckM (lenOk c arg0 f0 hlen b) b h : Memref sig .tc .hbm S4096x256 .i8).view.set
  v h := (rows cvM (lenOk c arg0 f0 hlen b) b h : Memref sig .tc .hbm S4096x256 .i8).view.set
  kx := (xrows ckM (lenOk c arg0 f0 hlen b) b : Memref sig .tc .hbm S4x32x256 .i8).view.set
  vx := (xrows cvM (lenOk c arg0 f0 hlen b) b : Memref sig .tc .hbm S4x32x256 .i8).view.set
  qk h := Transfers.shareTokN fullShare (9 + 4 * b.val + h.val)
  qv h := Transfers.shareTokN fullShare (21 + 4 * b.val + h.val)
  qkx := Transfers.shareTokN fullShare (33 + 2 * b.val)
  qvx := Transfers.shareTokN fullShare (34 + 2 * b.val)

variable (XK : Buf (Elt F) (ckM.view.loc (c : Thread nD τ))) (XV : Buf (Elt F) (cvM.view.loc (c : Thread nD τ)))

/-- What batch entry `b`'s windows hold when the rows have landed over contents `D`. -/
abbrev landing (b : Fin 3) (D : Held F c b) : Held F c b where
  k h := (kslot b h).view.writes (Elt F) (D.k h) [⟨Rect.whole S4096x256, ReadAs.same.apply ((rows ckM (lenOk c arg0 f0 hlen b) b h).view.read (Elt F) XK)⟩]
  v h := (vslot b h).view.writes (Elt F) (D.v h) [⟨Rect.whole S4096x256, ReadAs.same.apply ((rows cvM (lenOk c arg0 f0 hlen b) b h).view.read (Elt F) XV)⟩]
  kx := (kxslot b).view.writes (Elt F) D.kx [⟨Rect.whole S4x32x256, ReadAs.same.apply ((xrows ckM (lenOk c arg0 f0 hlen b) b).view.read (Elt F) XK)⟩]
  vx := (vxslot b).view.writes (Elt F) D.vx [⟨Rect.whole S4x32x256, ReadAs.same.apply ((xrows cvM (lenOk c arg0 f0 hlen b) b).view.read (Elt F) XV)⟩]

/-- An array held whole at a share. -/
abbrev tokAt {s' : Shape} {e : EltTy} (src : Memref sig .tc .hbm s' e) (q : PosShare TreeShare) (A : Buf (Elt F) (src.view.loc (c : Thread nD τ))) : sProp 𝕄 :=
  src.view.loc (c : Thread nD τ) ↦{q} A
/-- A window held, its cell at zero, and the array its transfer is to read held whole at the transfer's share. -/
abbrev idle {s s' : Shape} (cell : DmaSems sig S_) (M : Memref sig .tc .vmem s .i8) (g : Buf (Elt F) (M.view.loc (c : Thread nD τ)))
    (src : Memref sig .tc .hbm s' .i8) (q : PosShare TreeShare) (A : Buf (Elt F) (src.view.loc (c : Thread nD τ))) : sProp 𝕄 :=
  iprop(at_ c M g ∗ semVal ((c : Thread nD τ), SemLoc.dma cell.sem) 0 ∗ tokAt c src q A)
/-- The ten transfers of batch entry `b` not started yet. -/
def waiting (b : Fin 3) (D : Held F c b) (T : Lent c) : sProp 𝕄 :=
  iprop(idle c (xcell b 0) (kxslot b) D.kx ckM T.qkx XK
    ∗ idle c (kcell b 0) (kslot b 0) (D.k 0) ckM (T.qk 0) XK
    ∗ idle c (kcell b 1) (kslot b 1) (D.k 1) ckM (T.qk 1) XK
    ∗ idle c (kcell b 2) (kslot b 2) (D.k 2) ckM (T.qk 2) XK
    ∗ idle c (kcell b 3) (kslot b 3) (D.k 3) ckM (T.qk 3) XK
    ∗ idle c (xcell b 1) (vxslot b) D.vx cvM T.qvx XV
    ∗ idle c (vcell b 0) (vslot b 0) (D.v 0) cvM (T.qv 0) XV
    ∗ idle c (vcell b 1) (vslot b 1) (D.v 1) cvM (T.qv 1) XV
    ∗ idle c (vcell b 2) (vslot b 2) (D.v 2) cvM (T.qv 2) XV
    ∗ idle c (vcell b 3) (vslot b 3) (D.v 3) cvM (T.qv 3) XV)
/-- An array less the elements `S` lent. -/
abbrev rest {s' : Shape} (src : Memref sig .tc .hbm s' .i8) (S : Finset (Idx (src.view.loc (c : Thread nD τ)))) (q : PosShare TreeShare)
    (A : Buf (Elt F) (src.view.loc (c : Thread nD τ))) : sProp 𝕄 :=
  src.view.loc (c : Thread nD τ) ↦[Finset.univ \ S]{q} A
/-- What is not lent of the two caches while the ten transfers of batch entry `b` run. -/
def rests (T : Lent c) : sProp 𝕄 :=
  iprop(rest c ckM T.kx T.qkx XK
    ∗ rest c ckM (T.k 0) (T.qk 0) XK
    ∗ rest c ckM (T.k 1) (T.qk 1) XK
    ∗ rest c ckM (T.k 2) (T.qk 2) XK
    ∗ rest c ckM (T.k 3) (T.qk 3) XK
    ∗ rest c cvM T.vx T.qvx XV
    ∗ rest c cvM (T.v 0) (T.qv 0) XV
    ∗ rest c cvM (T.v 1) (T.qv 1) XV
    ∗ rest c cvM (T.v 2) (T.qv 2) XV
    ∗ rest c cvM (T.v 3) (T.qv 3) XV)

end Rows

section Prelude
variable (c : Dev nD)
  (arg0 : Memref sig .tc .smem S3 .i32) (harg0 : arg0.IsWhole) (arg1 : Memref sig .tc .vmem S3x1x2048 .bf16) (harg1 : arg1.IsWhole)
  (arg2 : Memref sig .tc .vmem S3x4x1x256 .bf16) (harg2 : arg2.IsWhole) (arg3 : Memref sig .tc .vmem S3x4x1x256 .bf16) (harg3 : arg3.IsWhole)
  (arg4 : Memref sig .tc .vmem S4x256 .f32) (harg4 : arg4.IsWhole) (arg5 : Memref sig .tc .smem S4 .f32) (harg5 : arg5.IsWhole)
  (arg8 : Memref sig .tc .vmem S3x1x2048 .bf16) (harg8 : arg8.IsWhole) (arg9 : Memref sig .tc .vmem S3x4x1x256 .i8) (harg9 : arg9.IsWhole)
  (arg10 : Memref sig .tc .vmem S3x4x1x256 .i8) (harg10 : arg10.IsWhole)
  (f0 : Buf (Elt F) (arg0.view.loc (c : Thread nD τ))) (f1 : Buf (Elt F) (arg1.view.loc (c : Thread nD τ)))
  (f2 : Buf (Elt F) (arg2.view.loc (c : Thread nD τ))) (f3 : Buf (Elt F) (arg3.view.loc (c : Thread nD τ)))
  (f4 : Buf (Elt F) (arg4.view.loc (c : Thread nD τ))) (f5 : Buf (Elt F) (arg5.view.loc (c : Thread nD τ)))
  (hlen : ∀ (r : LoadRect S3) j, InRange (arg0.view.readAt (Elt F) r f0 j))
  (XK : Buf (Elt F) (ckM.view.loc (c : Thread nD τ))) (XV : Buf (Elt F) (cvM.view.loc (c : Thread nD τ)))

/-! ## What the kernel computes before its loop -/

/-- The sublane numbers of the eight query rows. -/
abbrev pre860 : IVec S8x1 32 := iota .tc S8x1 32 [0] iota_S8x1_d0_w32
/-- The key scales, rounded. -/
abbrev pre859 : FVec F S4x256 .bf16 := k0_pay136 (arg4.view.readAt (Elt F) (Rect.unit (s := S4x256) ![0, 0] S4x256.size inb_S4x256_S4x256_0_0).toLoadRect f4)
/-- Value scale `i`. -/
abbrev vsc (i : Fin 1 → Nat) (hi : ∀ a, i a + S1.size a ≤ S4.size a) : Elt F .f32 :=
  arg5.view.readAt (Elt F) (Rect.unit (s := S4) i S1.size hi).toLoadRect f5 (Shape.Idx.first (numel1_S1 ▸ Nat.one_pos))
/-- The value scales of the eight query rows, the last head's not filled in yet. -/
abbrev pre948 : FVec F S8x1 .f32 :=
  k0_pay144 pre860 (k0_pay141 pre860 (k0_pay137 (F := F)) k0_pay138 k0_pay139 k0_pay140 (vsc c arg5 f5 ![0] inb_S4_S1_0) (vsc c arg5 f5 ![1] inb_S4_S1_1)) 2#32
    (k0_pay142 pre860) (k0_pay143 pre860) (vsc c arg5 f5 ![2] inb_S4_S1_2)

/-- The kernel's program. -/
abbrev bodyG : Prog (TpuEff nD τ sig (Elt F) Λ₀ .tc) PUnit :=
  cc0_window_decode (F := F) arg0 harg0 arg1 harg1 arg2 harg2 arg3 harg3 arg4 harg4 arg5 harg5 ckM (Memref.isWhole_whole _) cvM (Memref.isWhole_whole _)
    arg8 harg8 arg9 harg9 arg10 harg10 kM (Memref.isWhole_whole _) vM (Memref.isWhole_whole _) kxM (Memref.isWhole_whole _) vxM (Memref.isWhole_whole _)
    sM (Memref.isWhole_whole _) cc0_scratch5 cc0_scratch6 cc0_scratch7
/-- Its loop, at the values computed before it. -/
abbrev loopG : Prog (TpuEff nD τ sig (Elt F) Λ₀ .tc) PUnit := do
  Scf.Loop.for k0_t1_loop k0_t1_ok ⟨⟩
    (fun k _ => tripG arg0 harg0 arg1 harg1 arg2 harg2 arg3 harg3 arg4 harg4 arg5 harg5 arg8 harg8 arg9 harg9 arg10 harg10
      (pre859 c arg4 f4) pre860 (pre948 c arg5 f5) (k0_pay145 pre860) (k0_pay146 pre860) k0_pay147 (vsc c arg5 f5 ![3] inb_S4_S1_3) k)
  pure ⟨⟩

set_option maxHeartbeats 1000000 in
/-- THE KERNEL BEFORE ITS LOOP: all thirty transfers are started, and the loop is left to run. -/
theorem preRun (D : ∀ b, Held F c b) (W : Waits sig Unit) (fs : Buf (Elt F) (sM.view.loc (c : Thread nD τ)))
    (f8 : Buf (Elt F) (arg8.view.loc (c : Thread nD τ))) (f9 : Buf (Elt F) (arg9.view.loc (c : Thread nD τ)))
    (f10 : Buf (Elt F) (arg10.view.loc (c : Thread nD τ))) (Q : PUnit → sProp 𝕄) :
    iprop(inputs c arg0 arg1 arg2 arg3 arg4 arg5 f0 f1 f2 f3 f4 f5
        ∗ at_ c arg8 f8 ∗ at_ c arg9 f9 ∗ at_ c arg10 f10 ∗ at_ c sM fs
        ∗ waiting c XK XV 0 (D 0) (lent c arg0 f0 hlen 0) ∗ waiting c XK XV 1 (D 1) (lent c arg0 f0 hlen 1) ∗ waiting c XK XV 2 (D 2) (lent c arg0 f0 hlen 2)
        ∗ owes (c : Thread nD τ) 0 W
        ∗ (iprop(inputs c arg0 arg1 arg2 arg3 arg4 arg5 f0 f1 f2 f3 f4 f5
            ∗ at_ c arg8 f8 ∗ at_ c arg9 f9 ∗ at_ c arg10 f10 ∗ at_ c sM fs
            ∗ inflight c XK XV 0 (landing c arg0 f0 hlen XK XV 0 (D 0)) (lent c arg0 f0 hlen 0) ∗ rests c XK XV (lent c arg0 f0 hlen 0)
            ∗ inflight c XK XV 1 (landing c arg0 f0 hlen XK XV 1 (D 1)) (lent c arg0 f0 hlen 1) ∗ rests c XK XV (lent c arg0 f0 hlen 1)
            ∗ inflight c XK XV 2 (landing c arg0 f0 hlen XK XV 2 (D 2)) (lent c arg0 f0 hlen 2) ∗ rests c XK XV (lent c arg0 f0 hlen 2)
            ∗ owes (c : Thread nD τ) 0 W) -∗
          wp frame (wpE (defs₀ (F := F)) Variants.none (c : Thread nD τ) none) Set.univ
            (loopG c arg0 harg0 arg1 harg1 arg2 harg2 arg3 harg3 arg4 harg4 arg5 harg5 arg8 harg8 arg9 harg9 arg10 harg10 f4 f5) Q))
      ⊢ wp frame (wpE (defs₀ (F := F)) Variants.none (c : Thread nD τ) none) Set.univ
          (bodyG arg0 harg0 arg1 harg1 arg2 harg2 arg3 harg3 arg4 harg4 arg5 harg5 arg8 harg8 arg9 harg9 arg10 harg10) Q := by
    unfold waiting
    dsimp only [lent, Fin.coe_ofNat_eq_mod, Nat.reduceMod, Nat.reduceMul, Nat.reduceAdd, Fin.isValue, Nat.zero_mod]
    iintro ⟨⟨H0, H1, H2, H3, H4, H5⟩, H8, H9, H10, HS, ⟨⟨HwKX0, HcKX0, HtKX0⟩, ⟨HwK00, HcK00, HtK00⟩, ⟨HwK01, HcK01, HtK01⟩, ⟨HwK02, HcK02, HtK02⟩, ⟨HwK03, HcK03, HtK03⟩, ⟨HwVX0, HcVX0, HtVX0⟩, ⟨HwV00, HcV00, HtV00⟩, ⟨HwV01, HcV01, HtV01⟩, ⟨HwV02, HcV02, HtV02⟩, ⟨HwV03, HcV03, HtV03⟩⟩, ⟨⟨HwKX1, HcKX1, HtKX1⟩, ⟨HwK10, HcK10, HtK10⟩, ⟨HwK11, HcK11, HtK11⟩, ⟨HwK12, HcK12, HtK12⟩, ⟨HwK13, HcK13, HtK13⟩, ⟨HwVX1, HcVX1, HtVX1⟩, ⟨HwV10, HcV10, HtV10⟩, ⟨HwV11, HcV11, HtV11⟩, ⟨HwV12, HcV12, HtV12⟩, ⟨HwV13, HcV13, HtV13⟩⟩, ⟨⟨HwKX2, HcKX2, HtKX2⟩, ⟨HwK20, HcK20, HtK20⟩, ⟨HwK21, HcK21, HtK21⟩, ⟨HwK22, HcK22, HtK22⟩, ⟨HwK23, HcK23, HtK23⟩, ⟨HwVX2, HcVX2, HtVX2⟩, ⟨HwV20, HcV20, HtV20⟩, ⟨HwV21, HcV21, HtV21⟩, ⟨HwV22, HcV22, HtV22⟩, ⟨HwV23, HcV23, HtV23⟩⟩, HW, Hk⟩
    dsimp only [bodyG]
    unfold kslot vslot kxslot vxslot kcell vcell xcell
    simp only [cc0_window_decode_eq_skeleton]; unfold cc0_window_decode_skel
    sl_exec_parts (disch := first | exact chk1 (hlen _ _) | exact chk2 (hlen _ _) | exact chk3 (hlen _ _) | exact chk4 (hlen _ _) | exact chk5 (hlen _ _) | exact chk6 (hlen _ _) | exact chk7 (hlen _ _) | exact chk8 (hlen _ _) | exact chk9 (hlen _ _) | exact chk10 (hlen _ _) | exact chk11 (hlen _ _) | exact chk12 (hlen _ _) | exact chk13 (hlen _ _) | exact chk14 (hlen _ _) | exact chk15 (hlen _ _) | exact chk16 (hlen _ _) | exact chk17 (hlen _ _) | exact chk18 (hlen _ _) | exact chk19 (hlen _ _) | exact chk20 (hlen _ _) | exact chk21 (hlen _ _) | exact chk22 (hlen _ _) | exact chk23 (hlen _ _) | exact chk24 (hlen _ _) | exact chk25 (hlen _ _) | exact chk26 (hlen _ _) | exact chk27 (hlen _ _) | exact chk28 (hlen _ _) | exact chk29 (hlen _ _) | exact chk30 (hlen _ _))
    iapply Hk
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H8]; · iexact H8
    isplitl [H9]; · iexact H9
    isplitl [H10]; · iexact H10
    isplitl [HS]; · iexact HS
    isplitl [HcKX0 HcK00 HcK01 HcK02 HcK03 HcVX0 HcV00 HcV01 HcV02 HcV03]
    · unfold inflight; dsimp only [lent, landing]
      isplitl [HcKX0]; · iexact HcKX0
      isplitl [HcK00]; · iexact HcK00
      isplitl [HcK01]; · iexact HcK01
      isplitl [HcK02]; · iexact HcK02
      isplitl [HcK03]; · iexact HcK03
      isplitl [HcVX0]; · iexact HcVX0
      isplitl [HcV00]; · iexact HcV00
      isplitl [HcV01]; · iexact HcV01
      isplitl [HcV02]; · iexact HcV02
      iexact HcV03
    isplitl [HtKX0 HtK00 HtK01 HtK02 HtK03 HtVX0 HtV00 HtV01 HtV02 HtV03]
    · unfold rests; dsimp only [lent]
      isplitl [HtKX0]; · iexact HtKX0
      isplitl [HtK00]; · iexact HtK00
      isplitl [HtK01]; · iexact HtK01
      isplitl [HtK02]; · iexact HtK02
      isplitl [HtK03]; · iexact HtK03
      isplitl [HtVX0]; · iexact HtVX0
      isplitl [HtV00]; · iexact HtV00
      isplitl [HtV01]; · iexact HtV01
      isplitl [HtV02]; · iexact HtV02
      iexact HtV03
    isplitl [HcKX1 HcK10 HcK11 HcK12 HcK13 HcVX1 HcV10 HcV11 HcV12 HcV13]
    · unfold inflight; dsimp only [lent, landing]
      isplitl [HcKX1]; · iexact HcKX1
      isplitl [HcK10]; · iexact HcK10
      isplitl [HcK11]; · iexact HcK11
      isplitl [HcK12]; · iexact HcK12
      isplitl [HcK13]; · iexact HcK13
      isplitl [HcVX1]; · iexact HcVX1
      isplitl [HcV10]; · iexact HcV10
      isplitl [HcV11]; · iexact HcV11
      isplitl [HcV12]; · iexact HcV12
      iexact HcV13
    isplitl [HtKX1 HtK10 HtK11 HtK12 HtK13 HtVX1 HtV10 HtV11 HtV12 HtV13]
    · unfold rests; dsimp only [lent]
      isplitl [HtKX1]; · iexact HtKX1
      isplitl [HtK10]; · iexact HtK10
      isplitl [HtK11]; · iexact HtK11
      isplitl [HtK12]; · iexact HtK12
      isplitl [HtK13]; · iexact HtK13
      isplitl [HtVX1]; · iexact HtVX1
      isplitl [HtV10]; · iexact HtV10
      isplitl [HtV11]; · iexact HtV11
      isplitl [HtV12]; · iexact HtV12
      iexact HtV13
    isplitl [HcKX2 HcK20 HcK21 HcK22 HcK23 HcVX2 HcV20 HcV21 HcV22 HcV23]
    · unfold inflight; dsimp only [lent, landing]
      isplitl [HcKX2]; · iexact HcKX2
      isplitl [HcK20]; · iexact HcK20
      isplitl [HcK21]; · iexact HcK21
      isplitl [HcK22]; · iexact HcK22
      isplitl [HcK23]; · iexact HcK23
      isplitl [HcVX2]; · iexact HcVX2
      isplitl [HcV20]; · iexact HcV20
      isplitl [HcV21]; · iexact HcV21
      isplitl [HcV22]; · iexact HcV22
      iexact HcV23
    isplitl [HtKX2 HtK20 HtK21 HtK22 HtK23 HtVX2 HtV20 HtV21 HtV22 HtV23]
    · unfold rests; dsimp only [lent]
      isplitl [HtKX2]; · iexact HtKX2
      isplitl [HtK20]; · iexact HtK20
      isplitl [HtK21]; · iexact HtK21
      isplitl [HtK22]; · iexact HtK22
      isplitl [HtK23]; · iexact HtK23
      isplitl [HtVX2]; · iexact HtVX2
      isplitl [HtV20]; · iexact HtV20
      isplitl [HtV21]; · iexact HtV21
      isplitl [HtV22]; · iexact HtV22
      iexact HtV23
    iexact HW

end Prelude

end Cert.KernelIdeal.Hand

end
-- ==== Proof.KernelIdeal.Body.lean ====
/- The whole kernel body: the transfers started, the loop's three trips, each finding its own batch entry's transfers in
   flight, and what is held at the end: the three results written with the pieces the trips store. -/
module

public import proofs.«01_k».proof.Proof.KernelIdeal.Prelude

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## What the windows receive, whatever they held before -/

section Rebase
variable (c : Dev nD)

theorem at_rebase {s : Shape} (M : Memref sig .tc .vmem s .i8) (f g : Buf (Elt F) (M.view.loc (c : Thread nD τ))) (p : s.Idx → Elt F .i8) :
    (at_ c M (M.view.writes (Elt F) f [⟨Rect.whole s, p⟩]) : sProp 𝕄) = at_ c M (M.view.writes (Elt F) g [⟨Rect.whole s, p⟩]) :=
  Ring.pointsTo_whole_rebase (c := (c : Thread nD τ)) M f g p fullShare

theorem inflight_congr (XK : Buf (Elt F) (ckM.view.loc (c : Thread nD τ))) (XV : Buf (Elt F) (cvM.view.loc (c : Thread nD τ)))
    (b : Fin 3) (G G' : Held F c b) (T : Lent c)
    (hk : ∀ h, (at_ c (kslot b h) (G.k h) : sProp 𝕄) = at_ c (kslot b h) (G'.k h))
    (hv : ∀ h, (at_ c (vslot b h) (G.v h) : sProp 𝕄) = at_ c (vslot b h) (G'.v h))
    (hkx : (at_ c (kxslot b) G.kx : sProp 𝕄) = at_ c (kxslot b) G'.kx)
    (hvx : (at_ c (vxslot b) G.vx : sProp 𝕄) = at_ c (vxslot b) G'.vx) :
    (inflight c XK XV b G T : sProp 𝕄) = inflight c XK XV b G' T := by
  unfold inflight flight
  rw [hk 0, hk 1, hk 2, hk 3, hv 0, hv 1, hv 2, hv 3, hkx, hvx]

variable (arg0 : Memref sig .tc .smem S3 .i32) (f0 : Buf (Elt F) (arg0.view.loc (c : Thread nD τ)))
  (hlen : ∀ (r : LoadRect S3) j, InRange (arg0.view.readAt (Elt F) r f0 j))
  (XK : Buf (Elt F) (ckM.view.loc (c : Thread nD τ))) (XV : Buf (Elt F) (cvM.view.loc (c : Thread nD τ)))

theorem inflight_rebase (b : Fin 3) (D D' : Held F c b) (T : Lent c) :
    (inflight c XK XV b (landing c arg0 f0 hlen XK XV b D) T : sProp 𝕄) = inflight c XK XV b (landing c arg0 f0 hlen XK XV b D') T := by
  refine inflight_congr c XK XV b _ _ T (fun h => ?_) (fun h => ?_) ?_ ?_
  · dsimp only [landing]; exact at_rebase ..
  · dsimp only [landing]; exact at_rebase ..
  · dsimp only [landing]; exact at_rebase ..
  · dsimp only [landing]; exact at_rebase ..

/-- Contents of the windows nothing names. -/
abbrev anyHeld (b : Fin 3) : Held F c b where
  k h := (kslot b h).view.junk
  v h := (vslot b h).view.junk
  kx := (kxslot b).view.junk
  vx := (vxslot b).view.junk
/-- What batch entry `b`'s windows hold when its loop trip reads them. -/
abbrev got (b : Fin 3) : Held F c b := landing c arg0 f0 hlen XK XV b (anyHeld c b)

end Rebase

section Body
variable (c : Dev nD)
  (arg0 : Memref sig .tc .smem S3 .i32) (harg0 : arg0.IsWhole) (arg1 : Memref sig .tc .vmem S3x1x2048 .bf16) (harg1 : arg1.IsWhole)
  (arg2 : Memref sig .tc .vmem S3x4x1x256 .bf16) (harg2 : arg2.IsWhole) (arg3 : Memref sig .tc .vmem S3x4x1x256 .bf16) (harg3 : arg3.IsWhole)
  (arg4 : Memref sig .tc .vmem S4x256 .f32) (harg4 : arg4.IsWhole) (arg5 : Memref sig .tc .smem S4 .f32) (harg5 : arg5.IsWhole)
  (arg8 : Memref sig .tc .vmem S3x1x2048 .bf16) (harg8 : arg8.IsWhole) (arg9 : Memref sig .tc .vmem S3x4x1x256 .i8) (harg9 : arg9.IsWhole)
  (arg10 : Memref sig .tc .vmem S3x4x1x256 .i8) (harg10 : arg10.IsWhole)
  (f0 : Buf (Elt F) (arg0.view.loc (c : Thread nD τ))) (f1 : Buf (Elt F) (arg1.view.loc (c : Thread nD τ)))
  (f2 : Buf (Elt F) (arg2.view.loc (c : Thread nD τ))) (f3 : Buf (Elt F) (arg3.view.loc (c : Thread nD τ)))
  (f4 : Buf (Elt F) (arg4.view.loc (c : Thread nD τ))) (f5 : Buf (Elt F) (arg5.view.loc (c : Thread nD τ)))
  (hlen : ∀ (r : LoadRect S3) j, InRange (arg0.view.readAt (Elt F) r f0 j))
  (XK : Buf (Elt F) (ckM.view.loc (c : Thread nD τ))) (XV : Buf (Elt F) (cvM.view.loc (c : Thread nD τ)))

/-- One trip, at what the kernel computed before its loop and at what the trip's windows receive. -/
abbrev trip (k : Fin k0_t1_loop.trips) :=
  tripRun c arg0 harg0 arg1 harg1 arg2 harg2 arg3 harg3 arg4 harg4 arg5 harg5 arg8 harg8 arg9 harg9 arg10 harg10
    (pre859 c arg4 f4) pre860 (pre948 c arg5 f5) (k0_pay145 pre860) (k0_pay146 pre860) k0_pay147 (vsc c arg5 f5 ![3] inb_S4_S1_3)
    f0 f1 f2 f3 f4 f5 hlen XK XV k (got c arg0 f0 hlen XK XV (bt k))

/-- The pieces the first `n` trips store into the three results, the last one first. -/
def outL : ℕ → List (View.Piece (Elt F) S3x1x2048 .bf16)
  | 0 => []
  | n + 1 => if h : n < k0_t1_loop.trips then (trip c arg0 harg0 arg1 harg1 arg2 harg2 arg3 harg3 arg4 harg4 arg5 harg5 arg8 harg8 arg9 harg9 arg10 harg10 f0 f1 f2 f3 f4 f5 hlen XK XV ⟨n, h⟩).1 ++ outL n else outL n
def kcodeL : ℕ → List (View.Piece (Elt F) S3x4x1x256 .i8)
  | 0 => []
  | n + 1 => if h : n < k0_t1_loop.trips then (trip c arg0 harg0 arg1 harg1 arg2 harg2 arg3 harg3 arg4 harg4 arg5 harg5 arg8 harg8 arg9 harg9 arg10 harg10 f0 f1 f2 f3 f4 f5 hlen XK XV ⟨n, h⟩).2.1 ++ kcodeL n else kcodeL n
def vcodeL : ℕ → List (View.Piece (Elt F) S3x4x1x256 .i8)
  | 0 => []
  | n + 1 => if h : n < k0_t1_loop.trips then (trip c arg0 harg0 arg1 harg1 arg2 harg2 arg3 harg3 arg4 harg4 arg5 harg5 arg8 harg8 arg9 harg9 arg10 harg10 f0 f1 f2 f3 f4 f5 hlen XK XV ⟨n, h⟩).2.2.1 ++ vcodeL n else vcodeL n

/-- Batch entry `b` before trip `n`: its transfers in flight until its own trip, done after it. -/
def stage (n : ℕ) (b : Fin 3) : sProp 𝕄 :=
  if b.val < n then landed c XK XV b (lent c arg0 f0 hlen b) else inflight c XK XV b (got c arg0 f0 hlen XK XV b) (lent c arg0 f0 hlen b)

section Contents
variable (f8 : Buf (Elt F) (arg8.view.loc (c : Thread nD τ))) (f9 : Buf (Elt F) (arg9.view.loc (c : Thread nD τ)))
  (f10 : Buf (Elt F) (arg10.view.loc (c : Thread nD τ)))

/-- What is held before trip `n`. -/
def inv (n : ℕ) : sProp 𝕄 :=
  iprop(inputs c arg0 arg1 arg2 arg3 arg4 arg5 f0 f1 f2 f3 f4 f5
    ∗ at_ c arg8 (arg8.view.writes (Elt F) f8 (outL c arg0 harg0 arg1 harg1 arg2 harg2 arg3 harg3 arg4 harg4 arg5 harg5 arg8 harg8 arg9 harg9 arg10 harg10 f0 f1 f2 f3 f4 f5 hlen XK XV n)) ∗ at_ c arg9 (arg9.view.writes (Elt F) f9 (kcodeL c arg0 harg0 arg1 harg1 arg2 harg2 arg3 harg3 arg4 harg4 arg5 harg5 arg8 harg8 arg9 harg9 arg10 harg10 f0 f1 f2 f3 f4 f5 hlen XK XV n))
    ∗ at_ c arg10 (arg10.view.writes (Elt F) f10 (vcodeL c arg0 harg0 arg1 harg1 arg2 harg2 arg3 harg3 arg4 harg4 arg5 harg5 arg8 harg8 arg9 harg9 arg10 harg10 f0 f1 f2 f3 f4 f5 hlen XK XV n)) ∗ (∃ fs, at_ c sM fs)
    ∗ stage c arg0 f0 hlen XK XV n 0 ∗ stage c arg0 f0 hlen XK XV n 1 ∗ stage c arg0 f0 hlen XK XV n 2
    ∗ ∃ W, owes (c : Thread nD τ) 0 W)

/-- The trip's program at what the kernel computed before its loop. -/
abbrev tripP (k : Fin k0_t1_loop.trips) : Prog (TpuEff nD τ sig (Elt F) Λ₀ .tc) Unit :=
  tripG arg0 harg0 arg1 harg1 arg2 harg2 arg3 harg3 arg4 harg4 arg5 harg5 arg8 harg8 arg9 harg9 arg10 harg10
    (pre859 c arg4 f4) pre860 (pre948 c arg5 f5) (k0_pay145 pre860) (k0_pay146 pre860) k0_pay147 (vsc c arg5 f5 ![3] inb_S4_S1_3) k

/-- One trip beside what it does not touch. -/
theorem step_frame (k : Fin k0_t1_loop.trips) (R : sProp 𝕄) :
    iprop(inputs c arg0 arg1 arg2 arg3 arg4 arg5 f0 f1 f2 f3 f4 f5
        ∗ at_ c arg8 (arg8.view.writes (Elt F) f8 (outL c arg0 harg0 arg1 harg1 arg2 harg2 arg3 harg3 arg4 harg4 arg5 harg5 arg8 harg8 arg9 harg9 arg10 harg10 f0 f1 f2 f3 f4 f5 hlen XK XV k.val)) ∗ at_ c arg9 (arg9.view.writes (Elt F) f9 (kcodeL c arg0 harg0 arg1 harg1 arg2 harg2 arg3 harg3 arg4 harg4 arg5 harg5 arg8 harg8 arg9 harg9 arg10 harg10 f0 f1 f2 f3 f4 f5 hlen XK XV k.val))
        ∗ at_ c arg10 (arg10.view.writes (Elt F) f10 (vcodeL c arg0 harg0 arg1 harg1 arg2 harg2 arg3 harg3 arg4 harg4 arg5 harg5 arg8 harg8 arg9 harg9 arg10 harg10 f0 f1 f2 f3 f4 f5 hlen XK XV k.val)) ∗ (∃ fs, at_ c sM fs)
        ∗ inflight c XK XV (bt k) (got c arg0 f0 hlen XK XV (bt k)) (lent c arg0 f0 hlen (bt k)) ∗ R
        ∗ ∃ W, owes (c : Thread nD τ) 0 W)
      ⊢ wp frame (wpE (defs₀ (F := F)) Variants.none (c : Thread nD τ) none) Set.univ
          (tripP c arg0 harg0 arg1 harg1 arg2 harg2 arg3 harg3 arg4 harg4 arg5 harg5 arg8 harg8 arg9 harg9 arg10 harg10 f4 f5 k)
          (fun _ => iprop(inputs c arg0 arg1 arg2 arg3 arg4 arg5 f0 f1 f2 f3 f4 f5
            ∗ at_ c arg8 (arg8.view.writes (Elt F) f8 (outL c arg0 harg0 arg1 harg1 arg2 harg2 arg3 harg3 arg4 harg4 arg5 harg5 arg8 harg8 arg9 harg9 arg10 harg10 f0 f1 f2 f3 f4 f5 hlen XK XV (k.val + 1))) ∗ at_ c arg9 (arg9.view.writes (Elt F) f9 (kcodeL c arg0 harg0 arg1 harg1 arg2 harg2 arg3 harg3 arg4 harg4 arg5 harg5 arg8 harg8 arg9 harg9 arg10 harg10 f0 f1 f2 f3 f4 f5 hlen XK XV (k.val + 1)))
            ∗ at_ c arg10 (arg10.view.writes (Elt F) f10 (vcodeL c arg0 harg0 arg1 harg1 arg2 harg2 arg3 harg3 arg4 harg4 arg5 harg5 arg8 harg8 arg9 harg9 arg10 harg10 f0 f1 f2 f3 f4 f5 hlen XK XV (k.val + 1))) ∗ (∃ fs, at_ c sM fs)
            ∗ landed c XK XV (bt k) (lent c arg0 f0 hlen (bt k)) ∗ R
            ∗ ∃ W, owes (c : Thread nD τ) 0 W)) := by
  rw [show outL c arg0 harg0 arg1 harg1 arg2 harg2 arg3 harg3 arg4 harg4 arg5 harg5 arg8 harg8 arg9 harg9 arg10 harg10 f0 f1 f2 f3 f4 f5 hlen XK XV (k.val + 1) = (trip c arg0 harg0 arg1 harg1 arg2 harg2 arg3 harg3 arg4 harg4 arg5 harg5 arg8 harg8 arg9 harg9 arg10 harg10 f0 f1 f2 f3 f4 f5 hlen XK XV k).1 ++ outL c arg0 harg0 arg1 harg1 arg2 harg2 arg3 harg3 arg4 harg4 arg5 harg5 arg8 harg8 arg9 harg9 arg10 harg10 f0 f1 f2 f3 f4 f5 hlen XK XV k.val from dif_pos k.isLt,
    show kcodeL c arg0 harg0 arg1 harg1 arg2 harg2 arg3 harg3 arg4 harg4 arg5 harg5 arg8 harg8 arg9 harg9 arg10 harg10 f0 f1 f2 f3 f4 f5 hlen XK XV (k.val + 1) = (trip c arg0 harg0 arg1 harg1 arg2 harg2 arg3 harg3 arg4 harg4 arg5 harg5 arg8 harg8 arg9 harg9 arg10 harg10 f0 f1 f2 f3 f4 f5 hlen XK XV k).2.1 ++ kcodeL c arg0 harg0 arg1 harg1 arg2 harg2 arg3 harg3 arg4 harg4 arg5 harg5 arg8 harg8 arg9 harg9 arg10 harg10 f0 f1 f2 f3 f4 f5 hlen XK XV k.val from dif_pos k.isLt,
    show vcodeL c arg0 harg0 arg1 harg1 arg2 harg2 arg3 harg3 arg4 harg4 arg5 harg5 arg8 harg8 arg9 harg9 arg10 harg10 f0 f1 f2 f3 f4 f5 hlen XK XV (k.val + 1) = (trip c arg0 harg0 arg1 harg1 arg2 harg2 arg3 harg3 arg4 harg4 arg5 harg5 arg8 harg8 arg9 harg9 arg10 harg10 f0 f1 f2 f3 f4 f5 hlen XK XV k).2.2.1 ++ vcodeL c arg0 harg0 arg1 harg1 arg2 harg2 arg3 harg3 arg4 harg4 arg5 harg5 arg8 harg8 arg9 harg9 arg10 harg10 f0 f1 f2 f3 f4 f5 hlen XK XV k.val from dif_pos k.isLt,
    View.writes_append, View.writes_append, View.writes_append]
  iintro ⟨HI, H8, H9, H10, ⟨%fs, HS⟩, HF, HR, ⟨%W, HW⟩⟩
  ihave Hwp := ((trip c arg0 harg0 arg1 harg1 arg2 harg2 arg3 harg3 arg4 harg4 arg5 harg5 arg8 harg8 arg9 harg9 arg10 harg10 f0 f1 f2 f3 f4 f5 hlen XK XV k).2.2.2 W _ _ _ fs (lent c arg0 f0 hlen (bt k))) $$ [HI H8 H9 H10 HS HF HW]
  · isplitl [HI]; · iexact HI
    isplitl [H8]; · iexact H8
    isplitl [H9]; · iexact H9
    isplitl [H10]; · iexact H10
    isplitl [HS]; · iexact HS
    isplitl [HF]; · iexact HF
    iexact HW
  iapply (wp_wand_r frame (wpE (defs₀ (F := F)) Variants.none (c : Thread nD τ) none) Set.univ)
  isplitl [Hwp]; · iexact Hwp
  iintro %_ ⟨HI, H8, H9, H10, HS, HF, HW⟩
  isplitl [HI]; · iexact HI
  isplitl [H8]; · iexact H8
  isplitl [H9]; · iexact H9
  isplitl [H10]; · iexact H10
  isplitl [HS]; · iexact HS
  isplitl [HF]; · iexact HF
  isplitl [HR]; · iexact HR
  iexact HW

theorem stage_done {n : ℕ} {b : Fin 3} (h : b.val < n) : (stage c arg0 f0 hlen XK XV n b : sProp 𝕄) = landed c XK XV b (lent c arg0 f0 hlen b) := if_pos h
theorem stage_open {n : ℕ} {b : Fin 3} (h : ¬ b.val < n) :
    (stage c arg0 f0 hlen XK XV n b : sProp 𝕄) = inflight c XK XV b (got c arg0 f0 hlen XK XV b) (lent c arg0 f0 hlen b) := if_neg h
/-- A trip changes only its own batch entry's stage. -/
theorem stage_other (k : Fin k0_t1_loop.trips) {b : Fin 3} (h : b ≠ bt k) :
    (stage c arg0 f0 hlen XK XV (k.val + 1) b : sProp 𝕄) = stage c arg0 f0 hlen XK XV k.val b := by
  have h' : b.val ≠ k.val := fun e => h (Fin.ext e)
  unfold stage
  by_cases hb : b.val < k.val
  · rw [if_pos hb, if_pos (by omega)]
  · rw [if_neg hb, if_neg (by omega)]

/-- The three stages, one batch entry's apart. -/
theorem stages_apart (X : Fin 3 → sProp 𝕄) (b : Fin 3) :
    ∃ b' b'' : Fin 3, b' ≠ b ∧ b'' ≠ b ∧ ∀ Y : Fin 3 → sProp 𝕄, iprop(Y 0 ∗ Y 1 ∗ Y 2) ⊣⊢ iprop(Y b ∗ Y b' ∗ Y b'') := by
  obtain rfl | rfl | rfl : b = 0 ∨ b = 1 ∨ b = 2 := by fin_cases b <;> simp
  · exact ⟨1, 2, by decide, by decide, fun Y => .rfl⟩
  · refine ⟨0, 2, by decide, by decide, fun Y => ⟨?_, ?_⟩⟩
    · iintro ⟨A, B, C⟩
      isplitl [B]; · iexact B
      isplitl [A]; · iexact A
      iexact C
    · iintro ⟨B, A, C⟩
      isplitl [A]; · iexact A
      isplitl [B]; · iexact B
      iexact C
  · refine ⟨0, 1, by decide, by decide, fun Y => ⟨?_, ?_⟩⟩
    · iintro ⟨A, B, C⟩
      isplitl [C]; · iexact C
      isplitl [A]; · iexact A
      iexact B
    · iintro ⟨C, A, B⟩
      isplitl [A]; · iexact A
      isplitl [B]; · iexact B
      iexact C

/-- ONE TRIP keeps what is held, one trip further. -/
theorem step (k : Fin k0_t1_loop.trips) (u : Unit) :
    inv c arg0 harg0 arg1 harg1 arg2 harg2 arg3 harg3 arg4 harg4 arg5 harg5 arg8 harg8 arg9 harg9 arg10 harg10 f0 f1 f2 f3 f4 f5 hlen XK XV f8 f9 f10 k.val ⊢ wp frame (wpE (defs₀ (F := F)) Variants.none (c : Thread nD τ) none) Set.univ (tripP c arg0 harg0 arg1 harg1 arg2 harg2 arg3 harg3 arg4 harg4 arg5 harg5 arg8 harg8 arg9 harg9 arg10 harg10 f4 f5 k)
      (fun _ => inv c arg0 harg0 arg1 harg1 arg2 harg2 arg3 harg3 arg4 harg4 arg5 harg5 arg8 harg8 arg9 harg9 arg10 harg10 f0 f1 f2 f3 f4 f5 hlen XK XV f8 f9 f10 (k.val + 1)) := by
  obtain ⟨b', b'', h', h'', e⟩ := stages_apart (fun _ => (iprop(emp) : sProp 𝕄)) (bt k)
  unfold inv
  iintro ⟨HI, H8, H9, H10, HS, H0, H1, H2, HW⟩
  ihave HT := ((e (stage c arg0 f0 hlen XK XV k.val)).1) $$ [H0 H1 H2]
  · isplitl [H0]; · iexact H0
    isplitl [H1]; · iexact H1
    iexact H2
  rw [stage_open c arg0 f0 hlen XK XV (n := k.val) (b := bt k) (by exact Nat.lt_irrefl _)]
  icases HT with ⟨HF, HR⟩
  ihave Hwp := (step_frame c arg0 harg0 arg1 harg1 arg2 harg2 arg3 harg3 arg4 harg4 arg5 harg5 arg8 harg8 arg9 harg9 arg10 harg10 f0 f1 f2 f3 f4 f5 hlen XK XV f8 f9 f10 k iprop(stage c arg0 f0 hlen XK XV k.val b' ∗ stage c arg0 f0 hlen XK XV k.val b'')) $$ [HI H8 H9 H10 HS HF HR HW]
  · isplitl [HI]; · iexact HI
    isplitl [H8]; · iexact H8
    isplitl [H9]; · iexact H9
    isplitl [H10]; · iexact H10
    isplitl [HS]; · iexact HS
    isplitl [HF]; · iexact HF
    isplitl [HR]; · iexact HR
    iexact HW
  iapply (wp_wand_r frame (wpE (defs₀ (F := F)) Variants.none (c : Thread nD τ) none) Set.univ)
  isplitl [Hwp]; · iexact Hwp
  iintro %_ ⟨HI, H8, H9, H10, HS, HF, HR, HW⟩
  isplitl [HI]; · iexact HI
  isplitl [H8]; · iexact H8
  isplitl [H9]; · iexact H9
  isplitl [H10]; · iexact H10
  isplitl [HS]; · iexact HS
  ihave HT := ((e (stage c arg0 f0 hlen XK XV (k.val + 1))).2) $$ [HF HR]
  · rw [stage_done c arg0 f0 hlen XK XV (n := k.val + 1) (b := bt k) (by exact Nat.lt_succ_self _),
      stage_other c arg0 f0 hlen XK XV k h', stage_other c arg0 f0 hlen XK XV k h'']
    isplitl [HF]; · iexact HF
    iexact HR
  icases HT with ⟨H0, H1, H2⟩
  isplitl [H0]; · iexact H0
  isplitl [H1]; · iexact H1
  isplitl [H2]; · iexact H2
  iexact HW

/-- THE WHOLE BODY: from the inputs, the results at anything and everything the transfers need, to the results written with
    the trips' pieces and everything back. -/
theorem bodyRun (D : ∀ b, Held F c b) (W : Waits sig Unit) (fs : Buf (Elt F) (sM.view.loc (c : Thread nD τ))) (Q : PUnit → sProp 𝕄) :
    iprop(inputs c arg0 arg1 arg2 arg3 arg4 arg5 f0 f1 f2 f3 f4 f5
        ∗ at_ c arg8 f8 ∗ at_ c arg9 f9 ∗ at_ c arg10 f10 ∗ at_ c sM fs
        ∗ waiting c XK XV 0 (D 0) (lent c arg0 f0 hlen 0) ∗ waiting c XK XV 1 (D 1) (lent c arg0 f0 hlen 1) ∗ waiting c XK XV 2 (D 2) (lent c arg0 f0 hlen 2)
        ∗ owes (c : Thread nD τ) 0 W
        ∗ (iprop(inputs c arg0 arg1 arg2 arg3 arg4 arg5 f0 f1 f2 f3 f4 f5
            ∗ at_ c arg8 (arg8.view.writes (Elt F) f8 (outL c arg0 harg0 arg1 harg1 arg2 harg2 arg3 harg3 arg4 harg4 arg5 harg5 arg8 harg8 arg9 harg9 arg10 harg10 f0 f1 f2 f3 f4 f5 hlen XK XV 3)) ∗ at_ c arg9 (arg9.view.writes (Elt F) f9 (kcodeL c arg0 harg0 arg1 harg1 arg2 harg2 arg3 harg3 arg4 harg4 arg5 harg5 arg8 harg8 arg9 harg9 arg10 harg10 f0 f1 f2 f3 f4 f5 hlen XK XV 3))
            ∗ at_ c arg10 (arg10.view.writes (Elt F) f10 (vcodeL c arg0 harg0 arg1 harg1 arg2 harg2 arg3 harg3 arg4 harg4 arg5 harg5 arg8 harg8 arg9 harg9 arg10 harg10 f0 f1 f2 f3 f4 f5 hlen XK XV 3)) ∗ (∃ fs, at_ c sM fs)
            ∗ (landed c XK XV 0 (lent c arg0 f0 hlen 0) ∗ rests c XK XV (lent c arg0 f0 hlen 0))
            ∗ (landed c XK XV 1 (lent c arg0 f0 hlen 1) ∗ rests c XK XV (lent c arg0 f0 hlen 1))
            ∗ (landed c XK XV 2 (lent c arg0 f0 hlen 2) ∗ rests c XK XV (lent c arg0 f0 hlen 2))
            ∗ ∃ W, owes (c : Thread nD τ) 0 W) -∗ Q ⟨⟩))
      ⊢ wp frame (wpE (defs₀ (F := F)) Variants.none (c : Thread nD τ) none) Set.univ
          (bodyG arg0 harg0 arg1 harg1 arg2 harg2 arg3 harg3 arg4 harg4 arg5 harg5 arg8 harg8 arg9 harg9 arg10 harg10) Q := by
  iintro ⟨HI, H8, H9, H10, HS, HA0, HA1, HA2, HW, Hk⟩
  iapply (preRun c arg0 harg0 arg1 harg1 arg2 harg2 arg3 harg3 arg4 harg4 arg5 harg5 arg8 harg8 arg9 harg9 arg10 harg10 f0 f1 f2 f3 f4 f5 hlen XK XV D W fs f8 f9 f10 Q)
  isplitl [HI]; · iexact HI
  isplitl [H8]; · iexact H8
  isplitl [H9]; · iexact H9
  isplitl [H10]; · iexact H10
  isplitl [HS]; · iexact HS
  isplitl [HA0]; · iexact HA0
  isplitl [HA1]; · iexact HA1
  isplitl [HA2]; · iexact HA2
  isplitl [HW]; · iexact HW
  rw [inflight_rebase c arg0 f0 hlen XK XV 0 (D 0) (anyHeld c 0), inflight_rebase c arg0 f0 hlen XK XV 1 (D 1) (anyHeld c 1),
    inflight_rebase c arg0 f0 hlen XK XV 2 (D 2) (anyHeld c 2)]
  iintro ⟨HI, H8, H9, H10, HS, HF0, HR0, HF1, HR1, HF2, HR2, HW⟩
  dsimp only [loopG]
  ihave HL := (Scf.wp_for_bind frame (wpE (defs₀ (F := F)) Variants.none (c : Thread nD τ) none) Set.univ k0_t1_loop.lb k0_t1_loop.ub k0_t1_loop.st k0_t1_ok ()
    (fun k _ => tripP c arg0 harg0 arg1 harg1 arg2 harg2 arg3 harg3 arg4 harg4 arg5 harg5 arg8 harg8 arg9 harg9 arg10 harg10 f4 f5 k) (fun n _ => inv c arg0 harg0 arg1 harg1 arg2 harg2 arg3 harg3 arg4 harg4 arg5 harg5 arg8 harg8 arg9 harg9 arg10 harg10 f0 f1 f2 f3 f4 f5 hlen XK XV f8 f9 f10 n)
    (fun k u => step c arg0 harg0 arg1 harg1 arg2 harg2 arg3 harg3 arg4 harg4 arg5 harg5 arg8 harg8 arg9 harg9 arg10 harg10 f0 f1 f2 f3 f4 f5 hlen XK XV f8 f9 f10 k u)
    (kk := fun _ => (pure ⟨⟩ : Prog (TpuEff nD τ sig (Elt F) Λ₀ .tc) PUnit)) (Q := Q)) $$ [HI H8 H9 H10 HS HF0 HF1 HF2 HW]
  · unfold inv
    rw [stage_open c arg0 f0 hlen XK XV (n := 0) (b := 0) (by decide), stage_open c arg0 f0 hlen XK XV (n := 0) (b := 1) (by decide),
      stage_open c arg0 f0 hlen XK XV (n := 0) (b := 2) (by decide)]
    isplitl [HI]; · iexact HI
    isplitl [H8]; · iexact H8
    isplitl [H9]; · iexact H9
    isplitl [H10]; · iexact H10
    isplitl [HS]; · iexists fs; iexact HS
    isplitl [HF0]; · iexact HF0
    isplitl [HF1]; · iexact HF1
    isplitl [HF2]; · iexact HF2
    iexists W; iexact HW
  iapply HL
  iintro %_ HV
  iapply (BIBase.Entails.of_eq (wp_ret ..).symm)
  imodintro
  iapply Hk
  ihave HV' := (show inv c arg0 harg0 arg1 harg1 arg2 harg2 arg3 harg3 arg4 harg4 arg5 harg5 arg8 harg8 arg9 harg9 arg10 harg10 f0 f1 f2 f3 f4 f5 hlen XK XV f8 f9 f10 (Scf.trips k0_t1_loop.lb k0_t1_loop.ub k0_t1_loop.st) ⊢ inv c arg0 harg0 arg1 harg1 arg2 harg2 arg3 harg3 arg4 harg4 arg5 harg5 arg8 harg8 arg9 harg9 arg10 harg10 f0 f1 f2 f3 f4 f5 hlen XK XV f8 f9 f10 3
    from Entails.of_eq (congrArg (inv c arg0 harg0 arg1 harg1 arg2 harg2 arg3 harg3 arg4 harg4 arg5 harg5 arg8 harg8 arg9 harg9 arg10 harg10 f0 f1 f2 f3 f4 f5 hlen XK XV f8 f9 f10) (by decide +kernel))) $$ HV
  unfold inv
  rw [stage_done c arg0 f0 hlen XK XV (n := 3) (b := 0) (by decide), stage_done c arg0 f0 hlen XK XV (n := 3) (b := 1) (by decide),
    stage_done c arg0 f0 hlen XK XV (n := 3) (b := 2) (by decide)]
  icases HV' with ⟨HI, H8, H9, H10, HS, HF0, HF1, HF2, HW⟩
  isplitl [HI]; · iexact HI
  isplitl [H8]; · iexact H8
  isplitl [H9]; · iexact H9
  isplitl [H10]; · iexact H10
  isplitl [HS]; · iexact HS
  isplitl [HF0 HR0]
  · isplitl [HF0]; · iexact HF0
    iexact HR0
  isplitl [HF1 HR1]
  · isplitl [HF1]; · iexact HF1
    iexact HR1
  isplitl [HF2 HR2]
  · isplitl [HF2]; · iexact HF2
    iexact HR2
  iexact HW

end Contents

end Body

end Cert.KernelIdeal.Hand

end
-- ==== Proof.KernelIdeal.Split.lean ====
/- What the kernel holds before its body and after it, against what its transfers hold: the four scratch buffers are
   their windows, and the two caches one share per transfer and a remainder. -/
module

public import proofs.«01_k».proof.Proof.KernelIdeal.Body

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## Windows of a scratch buffer -/

/-- The elements of the window of batch entry `b`, head `h`, and of the further rows of batch entry `b`. -/
abbrev mainSet (p : Fin 3 × Fin 4) : Finset S3x4x4096x256.Idx := (Rect.unit (s := S3x4x4096x256) (mainOff p.1 p.2) S1x1x4096x256.size (mainOff_inb p.1 p.2)).set
abbrev extraSet (b : Fin 3) : Finset S3x4x32x256.Idx := (Rect.unit (s := S3x4x32x256) (extraOff b) S1x4x32x256.size (extraOff_inb b)).set

theorem mem_mainSet (p : Fin 3 × Fin 4) (i : S3x4x4096x256.Idx) : i ∈ mainSet p ↔ (i 0).val = p.1.val ∧ (i 1).val = p.2.val := by
  rw [Rect.mem_set_unit]
  have h2 : (i 2).val < 4096 := (i 2).isLt
  have h3 : (i 3).val < 256 := (i 3).isLt
  constructor
  · intro h
    have h0 : p.1.val ≤ (i 0).val ∧ (i 0).val < p.1.val + 1 := h 0
    have h1 : p.2.val ≤ (i 1).val ∧ (i 1).val < p.2.val + 1 := h 1
    omega
  · rintro ⟨e0, e1⟩ a
    fin_cases a
    · show p.1.val ≤ (i 0).val ∧ (i 0).val < p.1.val + 1; omega
    · show p.2.val ≤ (i 1).val ∧ (i 1).val < p.2.val + 1; omega
    · show 0 ≤ (i 2).val ∧ (i 2).val < 0 + 4096; omega
    · show 0 ≤ (i 3).val ∧ (i 3).val < 0 + 256; omega
theorem mem_extraSet (b : Fin 3) (i : S3x4x32x256.Idx) : i ∈ extraSet b ↔ (i 0).val = b.val := by
  rw [Rect.mem_set_unit]
  have h1 : (i 1).val < 4 := (i 1).isLt
  have h2 : (i 2).val < 32 := (i 2).isLt
  have h3 : (i 3).val < 256 := (i 3).isLt
  constructor
  · intro h
    have h0 : b.val ≤ (i 0).val ∧ (i 0).val < b.val + 1 := h 0
    omega
  · rintro e0 a
    fin_cases a
    · show b.val ≤ (i 0).val ∧ (i 0).val < b.val + 1; omega
    · show 0 ≤ (i 1).val ∧ (i 1).val < 0 + 4; omega
    · show 0 ≤ (i 2).val ∧ (i 2).val < 0 + 32; omega
    · show 0 ≤ (i 3).val ∧ (i 3).val < 0 + 256; omega

theorem main_apart : ∀ p p', p ≠ p' → Disjoint (mainSet p) (mainSet p') := fun p p' hne =>
  Finset.disjoint_left.mpr fun i h h' => hne <| by
    rw [mem_mainSet] at h h'
    exact Prod.ext (Fin.ext (h.1.symm.trans h'.1)) (Fin.ext (h.2.symm.trans h'.2))
theorem main_all : (Finset.univ : Finset (Fin 3 × Fin 4)).biUnion mainSet = Finset.univ :=
  Finset.eq_univ_iff_forall.mpr fun i => Finset.mem_biUnion.mpr ⟨(i 0, i 1), Finset.mem_univ _, (mem_mainSet _ _).mpr ⟨rfl, rfl⟩⟩
theorem extra_apart : ∀ b b', b ≠ b' → Disjoint (extraSet b) (extraSet b') := fun b b' hne =>
  Finset.disjoint_left.mpr fun i h h' => hne <| by
    rw [mem_extraSet] at h h'
    exact Fin.ext (h.symm.trans h')
theorem extra_all : (Finset.univ : Finset (Fin 3)).biUnion extraSet = Finset.univ :=
  Finset.eq_univ_iff_forall.mpr fun i => Finset.mem_biUnion.mpr ⟨i 0, Finset.mem_univ _, (mem_extraSet _ _).mpr rfl⟩

theorem kslot_set (p : Fin 3 × Fin 4) : (kslot p.1 p.2).view.set = mainSet p := (View.set_reshape _ _).trans (View.set_slice_whole _ _)
theorem vslot_set (p : Fin 3 × Fin 4) : (vslot p.1 p.2).view.set = mainSet p := (View.set_reshape _ _).trans (View.set_slice_whole _ _)
theorem kxslot_set (b : Fin 3) : (kxslot b).view.set = extraSet b := (View.set_reshape _ _).trans (View.set_slice_whole _ _)
theorem vxslot_set (b : Fin 3) : (vxslot b).view.set = extraSet b := (View.set_reshape _ _).trans (View.set_slice_whole _ _)

variable (c : Dev nD)

/-- The batch entries and heads, listed. -/
abbrev pairs : List (Fin 3 × Fin 4) := [(0, 0), (0, 1), (0, 2), (0, 3), (1, 0), (1, 1), (1, 2), (1, 3), (2, 0), (2, 1), (2, 2), (2, 3)]

/-- The key buffer is its windows, listed. -/
theorem k_open (f : Buf (Elt F) (kM.view.loc (c : Thread nD τ))) :
    (kM.view.loc (c : Thread nD τ) ↦{fullShare} f : sProp 𝕄) = iprop(at_ c (kslot 0 0) f ∗ at_ c (kslot 0 1) f ∗ at_ c (kslot 0 2) f ∗ at_ c (kslot 0 3) f ∗ at_ c (kslot 1 0) f ∗ at_ c (kslot 1 1) f ∗ at_ c (kslot 1 2) f ∗ at_ c (kslot 1 3) f ∗ at_ c (kslot 2 0) f ∗ at_ c (kslot 2 1) f ∗ at_ c (kslot 2 2) f ∗ at_ c (kslot 2 3) f) := by
  rw [Ring.pointsTo_blocks mainSet main_apart main_all f, BI.bigSep_univ_eq_bigSepL pairs (by decide) (by decide)]
  exact congrArg (bigSepL pairs) (funext fun p : Fin 3 × Fin 4 => congrArg (fun S => (kM.view.loc (c : Thread nD τ) ↦[S]{fullShare} f : sProp 𝕄)) (kslot_set p).symm)
theorem k_close : iprop((∃ g, at_ c (kslot 0 0) g) ∗ (∃ g, at_ c (kslot 0 1) g) ∗ (∃ g, at_ c (kslot 0 2) g) ∗ (∃ g, at_ c (kslot 0 3) g) ∗ (∃ g, at_ c (kslot 1 0) g) ∗ (∃ g, at_ c (kslot 1 1) g) ∗ (∃ g, at_ c (kslot 1 2) g) ∗ (∃ g, at_ c (kslot 1 3) g) ∗ (∃ g, at_ c (kslot 2 0) g) ∗ (∃ g, at_ c (kslot 2 1) g) ∗ (∃ g, at_ c (kslot 2 2) g) ∗ (∃ g, at_ c (kslot 2 3) g))
    ⊢ (∃ f, kM.view.loc (c : Thread nD τ) ↦{fullShare} f : sProp 𝕄) := by
  refine .trans (Entails.of_eq ?_) (Ring.pointsTo_blocks_join_exists (ℓ := kM.view.loc (c : Thread nD τ)) mainSet main_apart main_all (fun _ => default))
  rw [BI.bigSep_univ_eq_bigSepL pairs (by decide) (by decide)]
  exact congrArg (bigSepL pairs) (funext fun p : Fin 3 × Fin 4 => congrArg (fun S => (iprop(∃ g, kM.view.loc (c : Thread nD τ) ↦[S]{fullShare} g) : sProp 𝕄)) (kslot_set p))

/-- The value buffer is its windows, listed. -/
theorem v_open (f : Buf (Elt F) (vM.view.loc (c : Thread nD τ))) :
    (vM.view.loc (c : Thread nD τ) ↦{fullShare} f : sProp 𝕄) = iprop(at_ c (vslot 0 0) f ∗ at_ c (vslot 0 1) f ∗ at_ c (vslot 0 2) f ∗ at_ c (vslot 0 3) f ∗ at_ c (vslot 1 0) f ∗ at_ c (vslot 1 1) f ∗ at_ c (vslot 1 2) f ∗ at_ c (vslot 1 3) f ∗ at_ c (vslot 2 0) f ∗ at_ c (vslot 2 1) f ∗ at_ c (vslot 2 2) f ∗ at_ c (vslot 2 3) f) := by
  rw [Ring.pointsTo_blocks mainSet main_apart main_all f, BI.bigSep_univ_eq_bigSepL pairs (by decide) (by decide)]
  exact congrArg (bigSepL pairs) (funext fun p : Fin 3 × Fin 4 => congrArg (fun S => (vM.view.loc (c : Thread nD τ) ↦[S]{fullShare} f : sProp 𝕄)) (vslot_set p).symm)
theorem v_close : iprop((∃ g, at_ c (vslot 0 0) g) ∗ (∃ g, at_ c (vslot 0 1) g) ∗ (∃ g, at_ c (vslot 0 2) g) ∗ (∃ g, at_ c (vslot 0 3) g) ∗ (∃ g, at_ c (vslot 1 0) g) ∗ (∃ g, at_ c (vslot 1 1) g) ∗ (∃ g, at_ c (vslot 1 2) g) ∗ (∃ g, at_ c (vslot 1 3) g) ∗ (∃ g, at_ c (vslot 2 0) g) ∗ (∃ g, at_ c (vslot 2 1) g) ∗ (∃ g, at_ c (vslot 2 2) g) ∗ (∃ g, at_ c (vslot 2 3) g))
    ⊢ (∃ f, vM.view.loc (c : Thread nD τ) ↦{fullShare} f : sProp 𝕄) := by
  refine .trans (Entails.of_eq ?_) (Ring.pointsTo_blocks_join_exists (ℓ := vM.view.loc (c : Thread nD τ)) mainSet main_apart main_all (fun _ => default))
  rw [BI.bigSep_univ_eq_bigSepL pairs (by decide) (by decide)]
  exact congrArg (bigSepL pairs) (funext fun p : Fin 3 × Fin 4 => congrArg (fun S => (iprop(∃ g, vM.view.loc (c : Thread nD τ) ↦[S]{fullShare} g) : sProp 𝕄)) (vslot_set p))

/-- The further key buffer is its windows, listed. -/
theorem kx_open (f : Buf (Elt F) (kxM.view.loc (c : Thread nD τ))) :
    (kxM.view.loc (c : Thread nD τ) ↦{fullShare} f : sProp 𝕄) = iprop(at_ c (kxslot 0) f ∗ at_ c (kxslot 1) f ∗ at_ c (kxslot 2) f) := by
  rw [Ring.pointsTo_blocks extraSet extra_apart extra_all f, BI.bigSep_univ_eq_bigSepL [0, 1, 2] (by decide) (by decide)]
  exact congrArg (bigSepL [0, 1, 2]) (funext fun p : Fin 3 => congrArg (fun S => (kxM.view.loc (c : Thread nD τ) ↦[S]{fullShare} f : sProp 𝕄)) (kxslot_set p).symm)
theorem kx_close : iprop((∃ g, at_ c (kxslot 0) g) ∗ (∃ g, at_ c (kxslot 1) g) ∗ (∃ g, at_ c (kxslot 2) g))
    ⊢ (∃ f, kxM.view.loc (c : Thread nD τ) ↦{fullShare} f : sProp 𝕄) := by
  refine .trans (Entails.of_eq ?_) (Ring.pointsTo_blocks_join_exists (ℓ := kxM.view.loc (c : Thread nD τ)) extraSet extra_apart extra_all (fun _ => default))
  rw [BI.bigSep_univ_eq_bigSepL [0, 1, 2] (by decide) (by decide)]
  exact congrArg (bigSepL [0, 1, 2]) (funext fun p : Fin 3 => congrArg (fun S => (iprop(∃ g, kxM.view.loc (c : Thread nD τ) ↦[S]{fullShare} g) : sProp 𝕄)) (kxslot_set p))

/-- The further value buffer is its windows, listed. -/
theorem vx_open (f : Buf (Elt F) (vxM.view.loc (c : Thread nD τ))) :
    (vxM.view.loc (c : Thread nD τ) ↦{fullShare} f : sProp 𝕄) = iprop(at_ c (vxslot 0) f ∗ at_ c (vxslot 1) f ∗ at_ c (vxslot 2) f) := by
  rw [Ring.pointsTo_blocks extraSet extra_apart extra_all f, BI.bigSep_univ_eq_bigSepL [0, 1, 2] (by decide) (by decide)]
  exact congrArg (bigSepL [0, 1, 2]) (funext fun p : Fin 3 => congrArg (fun S => (vxM.view.loc (c : Thread nD τ) ↦[S]{fullShare} f : sProp 𝕄)) (vxslot_set p).symm)
theorem vx_close : iprop((∃ g, at_ c (vxslot 0) g) ∗ (∃ g, at_ c (vxslot 1) g) ∗ (∃ g, at_ c (vxslot 2) g))
    ⊢ (∃ f, vxM.view.loc (c : Thread nD τ) ↦{fullShare} f : sProp 𝕄) := by
  refine .trans (Entails.of_eq ?_) (Ring.pointsTo_blocks_join_exists (ℓ := vxM.view.loc (c : Thread nD τ)) extraSet extra_apart extra_all (fun _ => default))
  rw [BI.bigSep_univ_eq_bigSepL [0, 1, 2] (by decide) (by decide)]
  exact congrArg (bigSepL [0, 1, 2]) (funext fun p : Fin 3 => congrArg (fun S => (iprop(∃ g, vxM.view.loc (c : Thread nD τ) ↦[S]{fullShare} g) : sProp 𝕄)) (vxslot_set p))

/-! ## Shares of a cache -/

/-- The numbers of the cells the key transfers and the value transfers are counted on. -/
abbrev kNums : List (Fin 39) := [9, 10, 11, 12, 13, 14, 15, 16, 17, 18, 19, 20, 33, 35, 37]
abbrev vNums : List (Fin 39) := [21, 22, 23, 24, 25, 26, 27, 28, 29, 30, 31, 32, 34, 36, 38]

/-- What of an array no transfer counted on the cells `l` is lent. -/
def kept {s' : Shape} (src : Memref sig .tc .hbm s' .i8) (l : List (Fin 39)) (A : Buf (Elt F) (src.view.loc (c : Thread nD τ))) : sProp 𝕄 :=
  iprop((src.view.loc (c : Thread nD τ) ↦{Transfers.shareDrop fullShare 39} A)
    ∗ bigSep (Finset.univ \ l.toFinset) fun i : Fin 39 => tokAt c src (Transfers.shareTok fullShare 39 i) A)

theorem shares_listed {s' : Shape} (src : Memref sig .tc .hbm s' .i8) (l : List (Fin 39)) (hl : l.Nodup) (A : Buf (Elt F) (src.view.loc (c : Thread nD τ))) :
    (bigSep Finset.univ fun i : Fin 39 => tokAt c src (Transfers.shareTok fullShare 39 i) A : sProp 𝕄)
      = iprop((bigSepL l fun i : Fin 39 => tokAt c src (Transfers.shareTok fullShare 39 i) A)
        ∗ bigSep (Finset.univ \ l.toFinset) fun i : Fin 39 => tokAt c src (Transfers.shareTok fullShare 39 i) A) := by
  rw [BI.bigSep_sdiff_split (Finset.subset_univ l.toFinset), BI.bigSep_eq_bigSepL_of_eq l rfl hl]; rfl
theorem shares_open {s' : Shape} (src : Memref sig .tc .hbm s' .i8) (l : List (Fin 39)) (hl : l.Nodup) (A : Buf (Elt F) (src.view.loc (c : Thread nD τ))) :
    tokAt c src fullShare A ⊢ iprop(kept c src l A ∗ (bigSepL l fun i : Fin 39 => tokAt c src (Transfers.shareTok fullShare 39 i) A)) := by
  refine .trans (Transfers.pointsTo_toks_split fullShare 39) ?_
  refine .trans (BIClass.sep_mono .rfl (Entails.of_eq (shares_listed c src l hl A))) ?_
  unfold kept
  iintro ⟨Ha, Hb, Hc⟩
  isplitl [Ha Hc]
  · isplitl [Ha]; · iexact Ha
    iexact Hc
  · iexact Hb
theorem shares_close {s' : Shape} (src : Memref sig .tc .hbm s' .i8) (l : List (Fin 39)) (hl : l.Nodup) (A : Buf (Elt F) (src.view.loc (c : Thread nD τ))) :
    iprop(kept c src l A ∗ (bigSepL l fun i : Fin 39 => tokAt c src (Transfers.shareTok fullShare 39 i) A)) ⊢ tokAt c src fullShare A := by
  refine .trans ?_ (Transfers.pointsTo_toks_join fullShare 39)
  refine .trans ?_ (BIClass.sep_mono .rfl (Entails.of_eq (shares_listed c src l hl A).symm))
  unfold kept
  iintro ⟨⟨Ha, Hc⟩, Hb⟩
  isplitl [Ha]; · iexact Ha
  isplitl [Hb]; · iexact Hb
  iexact Hc

/-- A lent part and what was not lent of it make the array whole again. -/
theorem tok_close {s' : Shape} (src : Memref sig .tc .hbm s' .i8) (S : Finset (Idx (src.view.loc (c : Thread nD τ)))) (q : PosShare TreeShare)
    (A : Buf (Elt F) (src.view.loc (c : Thread nD τ))) :
    iprop((src.view.loc (c : Thread nD τ) ↦[S]{q} A) ∗ rest c src S q A) ⊢ tokAt c src q A :=
  (pointsTo_split_subset (Finset.subset_univ S)).2

/-! ## The thirty cells -/

/-- The kernel's cells, in the order of their numbers. -/
abbrev osem0 : Fin 30 → SemLoc sig := ![SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26, SemLoc.dma 27, SemLoc.dma 28, SemLoc.dma 29, SemLoc.dma 30, SemLoc.dma 31, SemLoc.dma 32, SemLoc.dma 33, SemLoc.dma 34, SemLoc.dma 35, SemLoc.dma 36, SemLoc.dma 37, SemLoc.dma 38]
theorem ownSemFacts0 : Pipeline.OwnSemFacts spec0 osem0 := by decide

/-- Every cell of the kernel's at zero. -/
def cells : sProp 𝕄 :=
  iprop(semVal ((c : Thread nD τ), SemLoc.dma (kcell 0 0).sem) 0
    ∗ semVal ((c : Thread nD τ), SemLoc.dma (kcell 0 1).sem) 0
    ∗ semVal ((c : Thread nD τ), SemLoc.dma (kcell 0 2).sem) 0
    ∗ semVal ((c : Thread nD τ), SemLoc.dma (kcell 0 3).sem) 0
    ∗ semVal ((c : Thread nD τ), SemLoc.dma (kcell 1 0).sem) 0
    ∗ semVal ((c : Thread nD τ), SemLoc.dma (kcell 1 1).sem) 0
    ∗ semVal ((c : Thread nD τ), SemLoc.dma (kcell 1 2).sem) 0
    ∗ semVal ((c : Thread nD τ), SemLoc.dma (kcell 1 3).sem) 0
    ∗ semVal ((c : Thread nD τ), SemLoc.dma (kcell 2 0).sem) 0
    ∗ semVal ((c : Thread nD τ), SemLoc.dma (kcell 2 1).sem) 0
    ∗ semVal ((c : Thread nD τ), SemLoc.dma (kcell 2 2).sem) 0
    ∗ semVal ((c : Thread nD τ), SemLoc.dma (kcell 2 3).sem) 0
    ∗ semVal ((c : Thread nD τ), SemLoc.dma (vcell 0 0).sem) 0
    ∗ semVal ((c : Thread nD τ), SemLoc.dma (vcell 0 1).sem) 0
    ∗ semVal ((c : Thread nD τ), SemLoc.dma (vcell 0 2).sem) 0
    ∗ semVal ((c : Thread nD τ), SemLoc.dma (vcell 0 3).sem) 0
    ∗ semVal ((c : Thread nD τ), SemLoc.dma (vcell 1 0).sem) 0
    ∗ semVal ((c : Thread nD τ), SemLoc.dma (vcell 1 1).sem) 0
    ∗ semVal ((c : Thread nD τ), SemLoc.dma (vcell 1 2).sem) 0
    ∗ semVal ((c : Thread nD τ), SemLoc.dma (vcell 1 3).sem) 0
    ∗ semVal ((c : Thread nD τ), SemLoc.dma (vcell 2 0).sem) 0
    ∗ semVal ((c : Thread nD τ), SemLoc.dma (vcell 2 1).sem) 0
    ∗ semVal ((c : Thread nD τ), SemLoc.dma (vcell 2 2).sem) 0
    ∗ semVal ((c : Thread nD τ), SemLoc.dma (vcell 2 3).sem) 0
    ∗ semVal ((c : Thread nD τ), SemLoc.dma (xcell 0 0).sem) 0
    ∗ semVal ((c : Thread nD τ), SemLoc.dma (xcell 0 1).sem) 0
    ∗ semVal ((c : Thread nD τ), SemLoc.dma (xcell 1 0).sem) 0
    ∗ semVal ((c : Thread nD τ), SemLoc.dma (xcell 1 1).sem) 0
    ∗ semVal ((c : Thread nD τ), SemLoc.dma (xcell 2 0).sem) 0
    ∗ semVal ((c : Thread nD τ), SemLoc.dma (xcell 2 1).sem) 0)
theorem ownSems00_eq :
    (Pipeline.ownSems0 (Ix := Unit) (Name := ℕ) (U := Pipeline.UD sig nD τ) (Lvl := ℕ) (Val := Elt F) (τ := τ) osem0 c : sProp 𝕄) = cells c := by
  rw [Pipeline.ownSems0_eq_of_list c osem0 [0, 1, 2, 3, 4, 5, 6, 7, 8, 9, 10, 11, 12, 13, 14, 15, 16, 17, 18, 19, 20, 21, 22, 23, 24, 25, 26, 27, 28, 29] (by decide) (by decide)]; rfl

theorem k_shares (A : Buf (Elt F) (ckM.view.loc (c : Thread nD τ))) :
    tokAt c ckM fullShare A ⊢ iprop(kept c ckM kNums A ∗ tokAt c ckM (Transfers.shareTokN fullShare 9) A ∗ tokAt c ckM (Transfers.shareTokN fullShare 10) A ∗ tokAt c ckM (Transfers.shareTokN fullShare 11) A ∗ tokAt c ckM (Transfers.shareTokN fullShare 12) A ∗ tokAt c ckM (Transfers.shareTokN fullShare 13) A ∗ tokAt c ckM (Transfers.shareTokN fullShare 14) A ∗ tokAt c ckM (Transfers.shareTokN fullShare 15) A ∗ tokAt c ckM (Transfers.shareTokN fullShare 16) A ∗ tokAt c ckM (Transfers.shareTokN fullShare 17) A ∗ tokAt c ckM (Transfers.shareTokN fullShare 18) A ∗ tokAt c ckM (Transfers.shareTokN fullShare 19) A ∗ tokAt c ckM (Transfers.shareTokN fullShare 20) A ∗ tokAt c ckM (Transfers.shareTokN fullShare 33) A ∗ tokAt c ckM (Transfers.shareTokN fullShare 35) A ∗ tokAt c ckM (Transfers.shareTokN fullShare 37) A) :=
  shares_open c ckM kNums (by decide) A
theorem k_whole (A : Buf (Elt F) (ckM.view.loc (c : Thread nD τ))) :
    iprop(kept c ckM kNums A ∗ tokAt c ckM (Transfers.shareTokN fullShare 9) A ∗ tokAt c ckM (Transfers.shareTokN fullShare 10) A ∗ tokAt c ckM (Transfers.shareTokN fullShare 11) A ∗ tokAt c ckM (Transfers.shareTokN fullShare 12) A ∗ tokAt c ckM (Transfers.shareTokN fullShare 13) A ∗ tokAt c ckM (Transfers.shareTokN fullShare 14) A ∗ tokAt c ckM (Transfers.shareTokN fullShare 15) A ∗ tokAt c ckM (Transfers.shareTokN fullShare 16) A ∗ tokAt c ckM (Transfers.shareTokN fullShare 17) A ∗ tokAt c ckM (Transfers.shareTokN fullShare 18) A ∗ tokAt c ckM (Transfers.shareTokN fullShare 19) A ∗ tokAt c ckM (Transfers.shareTokN fullShare 20) A ∗ tokAt c ckM (Transfers.shareTokN fullShare 33) A ∗ tokAt c ckM (Transfers.shareTokN fullShare 35) A ∗ tokAt c ckM (Transfers.shareTokN fullShare 37) A) ⊢ tokAt c ckM fullShare A :=
  shares_close c ckM kNums (by decide) A

theorem v_shares (A : Buf (Elt F) (cvM.view.loc (c : Thread nD τ))) :
    tokAt c cvM fullShare A ⊢ iprop(kept c cvM vNums A ∗ tokAt c cvM (Transfers.shareTokN fullShare 21) A ∗ tokAt c cvM (Transfers.shareTokN fullShare 22) A ∗ tokAt c cvM (Transfers.shareTokN fullShare 23) A ∗ tokAt c cvM (Transfers.shareTokN fullShare 24) A ∗ tokAt c cvM (Transfers.shareTokN fullShare 25) A ∗ tokAt c cvM (Transfers.shareTokN fullShare 26) A ∗ tokAt c cvM (Transfers.shareTokN fullShare 27) A ∗ tokAt c cvM (Transfers.shareTokN fullShare 28) A ∗ tokAt c cvM (Transfers.shareTokN fullShare 29) A ∗ tokAt c cvM (Transfers.shareTokN fullShare 30) A ∗ tokAt c cvM (Transfers.shareTokN fullShare 31) A ∗ tokAt c cvM (Transfers.shareTokN fullShare 32) A ∗ tokAt c cvM (Transfers.shareTokN fullShare 34) A ∗ tokAt c cvM (Transfers.shareTokN fullShare 36) A ∗ tokAt c cvM (Transfers.shareTokN fullShare 38) A) :=
  shares_open c cvM vNums (by decide) A
theorem v_whole (A : Buf (Elt F) (cvM.view.loc (c : Thread nD τ))) :
    iprop(kept c cvM vNums A ∗ tokAt c cvM (Transfers.shareTokN fullShare 21) A ∗ tokAt c cvM (Transfers.shareTokN fullShare 22) A ∗ tokAt c cvM (Transfers.shareTokN fullShare 23) A ∗ tokAt c cvM (Transfers.shareTokN fullShare 24) A ∗ tokAt c cvM (Transfers.shareTokN fullShare 25) A ∗ tokAt c cvM (Transfers.shareTokN fullShare 26) A ∗ tokAt c cvM (Transfers.shareTokN fullShare 27) A ∗ tokAt c cvM (Transfers.shareTokN fullShare 28) A ∗ tokAt c cvM (Transfers.shareTokN fullShare 29) A ∗ tokAt c cvM (Transfers.shareTokN fullShare 30) A ∗ tokAt c cvM (Transfers.shareTokN fullShare 31) A ∗ tokAt c cvM (Transfers.shareTokN fullShare 32) A ∗ tokAt c cvM (Transfers.shareTokN fullShare 34) A ∗ tokAt c cvM (Transfers.shareTokN fullShare 36) A ∗ tokAt c cvM (Transfers.shareTokN fullShare 38) A) ⊢ tokAt c cvM fullShare A :=
  shares_close c cvM vNums (by decide) A

/-! ## All of it, before the body and after -/

section All
variable (arg0 : Memref sig .tc .smem S3 .i32) (f0 : Buf (Elt F) (arg0.view.loc (c : Thread nD τ)))
  (hlen : ∀ (r : LoadRect S3) j, InRange (arg0.view.readAt (Elt F) r f0 j))
  (XK : Buf (Elt F) (ckM.view.loc (c : Thread nD τ))) (XV : Buf (Elt F) (cvM.view.loc (c : Thread nD τ)))

/-- The scratch buffers the transfers fill, at anything. -/
def scratch : sProp 𝕄 :=
  iprop((∃ f, kM.view.loc (c : Thread nD τ) ↦{fullShare} f) ∗ (∃ f, vM.view.loc (c : Thread nD τ) ↦{fullShare} f)
    ∗ (∃ f, kxM.view.loc (c : Thread nD τ) ↦{fullShare} f) ∗ (∃ f, vxM.view.loc (c : Thread nD τ) ↦{fullShare} f))

/-- Every window at the contents of one valuation of its buffer. -/
abbrev heldAt (fk : Buf (Elt F) (kM.view.loc (c : Thread nD τ))) (fv : Buf (Elt F) (vM.view.loc (c : Thread nD τ)))
    (fkx : Buf (Elt F) (kxM.view.loc (c : Thread nD τ))) (fvx : Buf (Elt F) (vxM.view.loc (c : Thread nD τ))) (b : Fin 3) : Held F c b where
  k _ := fk
  v _ := fv
  kx := fkx
  vx := fvx

set_option maxHeartbeats 2000000 in
/-- Before the body: the scratch buffers, the cells at zero and the two caches are the thirty transfers not started. -/
theorem ready : iprop(scratch c ∗ cells c ∗ tokAt c ckM fullShare XK ∗ tokAt c cvM fullShare XV)
    ⊢ (iprop(∃ D : ∀ b, Held F c b, waiting c XK XV 0 (D 0) (lent c arg0 f0 hlen 0) ∗ waiting c XK XV 1 (D 1) (lent c arg0 f0 hlen 1)
        ∗ waiting c XK XV 2 (D 2) (lent c arg0 f0 hlen 2) ∗ kept c ckM kNums XK ∗ kept c cvM vNums XV) : sProp 𝕄) := by
  refine .trans (BIClass.sep_mono .rfl (BIClass.sep_mono .rfl (BIClass.sep_mono (k_shares c XK) (v_shares c XV)))) ?_
  unfold scratch cells waiting
  dsimp only [lent, Fin.coe_ofNat_eq_mod, Nat.reduceMod, Nat.reduceMul, Nat.reduceAdd, Fin.isValue, Nat.zero_mod]
  iintro ⟨⟨⟨%fk, Hk⟩, ⟨%fv, Hv⟩, ⟨%fkx, Hkx⟩, ⟨%fvx, Hvx⟩⟩, ⟨Ck00, Ck01, Ck02, Ck03, Ck10, Ck11, Ck12, Ck13, Ck20, Ck21, Ck22, Ck23, Cv00, Cv01, Cv02, Cv03, Cv10, Cv11, Cv12, Cv13, Cv20, Cv21, Cv22, Cv23, Ckx0, Cvx0, Ckx1, Cvx1, Ckx2, Cvx2⟩, ⟨Hkk, Tk00, Tk01, Tk02, Tk03, Tk10, Tk11, Tk12, Tk13, Tk20, Tk21, Tk22, Tk23, Tkx0, Tkx1, Tkx2⟩, ⟨Hvk, Tv00, Tv01, Tv02, Tv03, Tv10, Tv11, Tv12, Tv13, Tv20, Tv21, Tv22, Tv23, Tvx0, Tvx1, Tvx2⟩⟩
  iexists (heldAt c fk fv fkx fvx)
  dsimp only [heldAt]
  ihave Hk := (Entails.of_eq (k_open c fk)) $$ Hk
  ihave Hv := (Entails.of_eq (v_open c fv)) $$ Hv
  ihave Hkx := (Entails.of_eq (kx_open c fkx)) $$ Hkx
  ihave Hvx := (Entails.of_eq (vx_open c fvx)) $$ Hvx
  icases Hk with ⟨Wk00, Wk01, Wk02, Wk03, Wk10, Wk11, Wk12, Wk13, Wk20, Wk21, Wk22, Wk23⟩
  icases Hv with ⟨Wv00, Wv01, Wv02, Wv03, Wv10, Wv11, Wv12, Wv13, Wv20, Wv21, Wv22, Wv23⟩
  icases Hkx with ⟨Wkx0, Wkx1, Wkx2⟩
  icases Hvx with ⟨Wvx0, Wvx1, Wvx2⟩
  isplitl [Wkx0 Ckx0 Tkx0 Wk00 Ck00 Tk00 Wk01 Ck01 Tk01 Wk02 Ck02 Tk02 Wk03 Ck03 Tk03 Wvx0 Cvx0 Tvx0 Wv00 Cv00 Tv00 Wv01 Cv01 Tv01 Wv02 Cv02 Tv02 Wv03 Cv03 Tv03]
  · isplitl [Wkx0 Ckx0 Tkx0]
    · isplitl [Wkx0]; · iexact Wkx0
      isplitl [Ckx0]; · iexact Ckx0
      iexact Tkx0
    isplitl [Wk00 Ck00 Tk00]
    · isplitl [Wk00]; · iexact Wk00
      isplitl [Ck00]; · iexact Ck00
      iexact Tk00
    isplitl [Wk01 Ck01 Tk01]
    · isplitl [Wk01]; · iexact Wk01
      isplitl [Ck01]; · iexact Ck01
      iexact Tk01
    isplitl [Wk02 Ck02 Tk02]
    · isplitl [Wk02]; · iexact Wk02
      isplitl [Ck02]; · iexact Ck02
      iexact Tk02
    isplitl [Wk03 Ck03 Tk03]
    · isplitl [Wk03]; · iexact Wk03
      isplitl [Ck03]; · iexact Ck03
      iexact Tk03
    isplitl [Wvx0 Cvx0 Tvx0]
    · isplitl [Wvx0]; · iexact Wvx0
      isplitl [Cvx0]; · iexact Cvx0
      iexact Tvx0
    isplitl [Wv00 Cv00 Tv00]
    · isplitl [Wv00]; · iexact Wv00
      isplitl [Cv00]; · iexact Cv00
      iexact Tv00
    isplitl [Wv01 Cv01 Tv01]
    · isplitl [Wv01]; · iexact Wv01
      isplitl [Cv01]; · iexact Cv01
      iexact Tv01
    isplitl [Wv02 Cv02 Tv02]
    · isplitl [Wv02]; · iexact Wv02
      isplitl [Cv02]; · iexact Cv02
      iexact Tv02
    isplitl [Wv03]; · iexact Wv03
    isplitl [Cv03]; · iexact Cv03
    iexact Tv03
  isplitl [Wkx1 Ckx1 Tkx1 Wk10 Ck10 Tk10 Wk11 Ck11 Tk11 Wk12 Ck12 Tk12 Wk13 Ck13 Tk13 Wvx1 Cvx1 Tvx1 Wv10 Cv10 Tv10 Wv11 Cv11 Tv11 Wv12 Cv12 Tv12 Wv13 Cv13 Tv13]
  · isplitl [Wkx1 Ckx1 Tkx1]
    · isplitl [Wkx1]; · iexact Wkx1
      isplitl [Ckx1]; · iexact Ckx1
      iexact Tkx1
    isplitl [Wk10 Ck10 Tk10]
    · isplitl [Wk10]; · iexact Wk10
      isplitl [Ck10]; · iexact Ck10
      iexact Tk10
    isplitl [Wk11 Ck11 Tk11]
    · isplitl [Wk11]; · iexact Wk11
      isplitl [Ck11]; · iexact Ck11
      iexact Tk11
    isplitl [Wk12 Ck12 Tk12]
    · isplitl [Wk12]; · iexact Wk12
      isplitl [Ck12]; · iexact Ck12
      iexact Tk12
    isplitl [Wk13 Ck13 Tk13]
    · isplitl [Wk13]; · iexact Wk13
      isplitl [Ck13]; · iexact Ck13
      iexact Tk13
    isplitl [Wvx1 Cvx1 Tvx1]
    · isplitl [Wvx1]; · iexact Wvx1
      isplitl [Cvx1]; · iexact Cvx1
      iexact Tvx1
    isplitl [Wv10 Cv10 Tv10]
    · isplitl [Wv10]; · iexact Wv10
      isplitl [Cv10]; · iexact Cv10
      iexact Tv10
    isplitl [Wv11 Cv11 Tv11]
    · isplitl [Wv11]; · iexact Wv11
      isplitl [Cv11]; · iexact Cv11
      iexact Tv11
    isplitl [Wv12 Cv12 Tv12]
    · isplitl [Wv12]; · iexact Wv12
      isplitl [Cv12]; · iexact Cv12
      iexact Tv12
    isplitl [Wv13]; · iexact Wv13
    isplitl [Cv13]; · iexact Cv13
    iexact Tv13
  isplitl [Wkx2 Ckx2 Tkx2 Wk20 Ck20 Tk20 Wk21 Ck21 Tk21 Wk22 Ck22 Tk22 Wk23 Ck23 Tk23 Wvx2 Cvx2 Tvx2 Wv20 Cv20 Tv20 Wv21 Cv21 Tv21 Wv22 Cv22 Tv22 Wv23 Cv23 Tv23]
  · isplitl [Wkx2 Ckx2 Tkx2]
    · isplitl [Wkx2]; · iexact Wkx2
      isplitl [Ckx2]; · iexact Ckx2
      iexact Tkx2
    isplitl [Wk20 Ck20 Tk20]
    · isplitl [Wk20]; · iexact Wk20
      isplitl [Ck20]; · iexact Ck20
      iexact Tk20
    isplitl [Wk21 Ck21 Tk21]
    · isplitl [Wk21]; · iexact Wk21
      isplitl [Ck21]; · iexact Ck21
      iexact Tk21
    isplitl [Wk22 Ck22 Tk22]
    · isplitl [Wk22]; · iexact Wk22
      isplitl [Ck22]; · iexact Ck22
      iexact Tk22
    isplitl [Wk23 Ck23 Tk23]
    · isplitl [Wk23]; · iexact Wk23
      isplitl [Ck23]; · iexact Ck23
      iexact Tk23
    isplitl [Wvx2 Cvx2 Tvx2]
    · isplitl [Wvx2]; · iexact Wvx2
      isplitl [Cvx2]; · iexact Cvx2
      iexact Tvx2
    isplitl [Wv20 Cv20 Tv20]
    · isplitl [Wv20]; · iexact Wv20
      isplitl [Cv20]; · iexact Cv20
      iexact Tv20
    isplitl [Wv21 Cv21 Tv21]
    · isplitl [Wv21]; · iexact Wv21
      isplitl [Cv21]; · iexact Cv21
      iexact Tv21
    isplitl [Wv22 Cv22 Tv22]
    · isplitl [Wv22]; · iexact Wv22
      isplitl [Cv22]; · iexact Cv22
      iexact Tv22
    isplitl [Wv23]; · iexact Wv23
    isplitl [Cv23]; · iexact Cv23
    iexact Tv23
  isplitl [Hkk]; · iexact Hkk
  iexact Hvk
set_option maxHeartbeats 4000000 in
/-- After the body: the thirty transfers done, with what was not lent of the caches, are the scratch buffers at anything,
    the cells at zero and the two caches whole, as they were. -/
theorem done : iprop((landed c XK XV 0 (lent c arg0 f0 hlen 0) ∗ rests c XK XV (lent c arg0 f0 hlen 0))
      ∗ (landed c XK XV 1 (lent c arg0 f0 hlen 1) ∗ rests c XK XV (lent c arg0 f0 hlen 1))
      ∗ (landed c XK XV 2 (lent c arg0 f0 hlen 2) ∗ rests c XK XV (lent c arg0 f0 hlen 2)) ∗ kept c ckM kNums XK ∗ kept c cvM vNums XV)
    ⊢ (iprop(scratch c ∗ cells c ∗ tokAt c ckM fullShare XK ∗ tokAt c cvM fullShare XV) : sProp 𝕄) := by
  refine .trans ?_ (BIClass.sep_mono .rfl (BIClass.sep_mono .rfl (BIClass.sep_mono (k_whole c XK) (v_whole c XV))))
  refine .trans ?_ (BIClass.sep_mono (BIClass.sep_mono (k_close c) (BIClass.sep_mono (v_close c) (BIClass.sep_mono (kx_close c) (vx_close c)))) .rfl)
  unfold cells landed rests
  dsimp only [lent, Fin.coe_ofNat_eq_mod, Nat.reduceMod, Nat.reduceMul, Nat.reduceAdd, Fin.isValue, Nat.zero_mod]
  iintro ⟨⟨⟨⟨Ckx0, Wkx0, Skx0⟩, ⟨Ck00, Wk00, Sk00⟩, ⟨Ck01, Wk01, Sk01⟩, ⟨Ck02, Wk02, Sk02⟩, ⟨Ck03, Wk03, Sk03⟩, ⟨Cvx0, Wvx0, Svx0⟩, ⟨Cv00, Wv00, Sv00⟩, ⟨Cv01, Wv01, Sv01⟩, ⟨Cv02, Wv02, Sv02⟩, ⟨Cv03, Wv03, Sv03⟩⟩, ⟨Rkx0, Rk00, Rk01, Rk02, Rk03, Rvx0, Rv00, Rv01, Rv02, Rv03⟩⟩, ⟨⟨⟨Ckx1, Wkx1, Skx1⟩, ⟨Ck10, Wk10, Sk10⟩, ⟨Ck11, Wk11, Sk11⟩, ⟨Ck12, Wk12, Sk12⟩, ⟨Ck13, Wk13, Sk13⟩, ⟨Cvx1, Wvx1, Svx1⟩, ⟨Cv10, Wv10, Sv10⟩, ⟨Cv11, Wv11, Sv11⟩, ⟨Cv12, Wv12, Sv12⟩, ⟨Cv13, Wv13, Sv13⟩⟩, ⟨Rkx1, Rk10, Rk11, Rk12, Rk13, Rvx1, Rv10, Rv11, Rv12, Rv13⟩⟩, ⟨⟨⟨Ckx2, Wkx2, Skx2⟩, ⟨Ck20, Wk20, Sk20⟩, ⟨Ck21, Wk21, Sk21⟩, ⟨Ck22, Wk22, Sk22⟩, ⟨Ck23, Wk23, Sk23⟩, ⟨Cvx2, Wvx2, Svx2⟩, ⟨Cv20, Wv20, Sv20⟩, ⟨Cv21, Wv21, Sv21⟩, ⟨Cv22, Wv22, Sv22⟩, ⟨Cv23, Wv23, Sv23⟩⟩, ⟨Rkx2, Rk20, Rk21, Rk22, Rk23, Rvx2, Rv20, Rv21, Rv22, Rv23⟩⟩, Hkk, Hvk⟩
  isplitl [Wkx0 Wk00 Wk01 Wk02 Wk03 Wvx0 Wv00 Wv01 Wv02 Wv03 Wkx1 Wk10 Wk11 Wk12 Wk13 Wvx1 Wv10 Wv11 Wv12 Wv13 Wkx2 Wk20 Wk21 Wk22 Wk23 Wvx2 Wv20 Wv21 Wv22 Wv23]
  · isplitl [Wk00 Wk01 Wk02 Wk03 Wk10 Wk11 Wk12 Wk13 Wk20 Wk21 Wk22 Wk23]
    · isplitl [Wk00]; · iexact Wk00
      isplitl [Wk01]; · iexact Wk01
      isplitl [Wk02]; · iexact Wk02
      isplitl [Wk03]; · iexact Wk03
      isplitl [Wk10]; · iexact Wk10
      isplitl [Wk11]; · iexact Wk11
      isplitl [Wk12]; · iexact Wk12
      isplitl [Wk13]; · iexact Wk13
      isplitl [Wk20]; · iexact Wk20
      isplitl [Wk21]; · iexact Wk21
      isplitl [Wk22]; · iexact Wk22
      iexact Wk23
    isplitl [Wv00 Wv01 Wv02 Wv03 Wv10 Wv11 Wv12 Wv13 Wv20 Wv21 Wv22 Wv23]
    · isplitl [Wv00]; · iexact Wv00
      isplitl [Wv01]; · iexact Wv01
      isplitl [Wv02]; · iexact Wv02
      isplitl [Wv03]; · iexact Wv03
      isplitl [Wv10]; · iexact Wv10
      isplitl [Wv11]; · iexact Wv11
      isplitl [Wv12]; · iexact Wv12
      isplitl [Wv13]; · iexact Wv13
      isplitl [Wv20]; · iexact Wv20
      isplitl [Wv21]; · iexact Wv21
      isplitl [Wv22]; · iexact Wv22
      iexact Wv23
    isplitl [Wkx0 Wkx1 Wkx2]
    · isplitl [Wkx0]; · iexact Wkx0
      isplitl [Wkx1]; · iexact Wkx1
      iexact Wkx2
    isplitl [Wvx0]; · iexact Wvx0
    isplitl [Wvx1]; · iexact Wvx1
    iexact Wvx2
  isplitl [Ck00 Ck01 Ck02 Ck03 Ck10 Ck11 Ck12 Ck13 Ck20 Ck21 Ck22 Ck23 Cv00 Cv01 Cv02 Cv03 Cv10 Cv11 Cv12 Cv13 Cv20 Cv21 Cv22 Cv23 Ckx0 Cvx0 Ckx1 Cvx1 Ckx2 Cvx2]
  · isplitl [Ck00]; · iexact Ck00
    isplitl [Ck01]; · iexact Ck01
    isplitl [Ck02]; · iexact Ck02
    isplitl [Ck03]; · iexact Ck03
    isplitl [Ck10]; · iexact Ck10
    isplitl [Ck11]; · iexact Ck11
    isplitl [Ck12]; · iexact Ck12
    isplitl [Ck13]; · iexact Ck13
    isplitl [Ck20]; · iexact Ck20
    isplitl [Ck21]; · iexact Ck21
    isplitl [Ck22]; · iexact Ck22
    isplitl [Ck23]; · iexact Ck23
    isplitl [Cv00]; · iexact Cv00
    isplitl [Cv01]; · iexact Cv01
    isplitl [Cv02]; · iexact Cv02
    isplitl [Cv03]; · iexact Cv03
    isplitl [Cv10]; · iexact Cv10
    isplitl [Cv11]; · iexact Cv11
    isplitl [Cv12]; · iexact Cv12
    isplitl [Cv13]; · iexact Cv13
    isplitl [Cv20]; · iexact Cv20
    isplitl [Cv21]; · iexact Cv21
    isplitl [Cv22]; · iexact Cv22
    isplitl [Cv23]; · iexact Cv23
    isplitl [Ckx0]; · iexact Ckx0
    isplitl [Cvx0]; · iexact Cvx0
    isplitl [Ckx1]; · iexact Ckx1
    isplitl [Cvx1]; · iexact Cvx1
    isplitl [Ckx2]; · iexact Ckx2
    iexact Cvx2
  isplitl [Hkk Sk00 Rk00 Sk01 Rk01 Sk02 Rk02 Sk03 Rk03 Sk10 Rk10 Sk11 Rk11 Sk12 Rk12 Sk13 Rk13 Sk20 Rk20 Sk21 Rk21 Sk22 Rk22 Sk23 Rk23 Skx0 Rkx0 Skx1 Rkx1 Skx2 Rkx2]
  · isplitl [Hkk]; · iexact Hkk
    isplitl [Sk00 Rk00]
    · iapply (tok_close c ckM _ _ _)
      isplitl [Sk00]; · iexact Sk00
      iexact Rk00
    isplitl [Sk01 Rk01]
    · iapply (tok_close c ckM _ _ _)
      isplitl [Sk01]; · iexact Sk01
      iexact Rk01
    isplitl [Sk02 Rk02]
    · iapply (tok_close c ckM _ _ _)
      isplitl [Sk02]; · iexact Sk02
      iexact Rk02
    isplitl [Sk03 Rk03]
    · iapply (tok_close c ckM _ _ _)
      isplitl [Sk03]; · iexact Sk03
      iexact Rk03
    isplitl [Sk10 Rk10]
    · iapply (tok_close c ckM _ _ _)
      isplitl [Sk10]; · iexact Sk10
      iexact Rk10
    isplitl [Sk11 Rk11]
    · iapply (tok_close c ckM _ _ _)
      isplitl [Sk11]; · iexact Sk11
      iexact Rk11
    isplitl [Sk12 Rk12]
    · iapply (tok_close c ckM _ _ _)
      isplitl [Sk12]; · iexact Sk12
      iexact Rk12
    isplitl [Sk13 Rk13]
    · iapply (tok_close c ckM _ _ _)
      isplitl [Sk13]; · iexact Sk13
      iexact Rk13
    isplitl [Sk20 Rk20]
    · iapply (tok_close c ckM _ _ _)
      isplitl [Sk20]; · iexact Sk20
      iexact Rk20
    isplitl [Sk21 Rk21]
    · iapply (tok_close c ckM _ _ _)
      isplitl [Sk21]; · iexact Sk21
      iexact Rk21
    isplitl [Sk22 Rk22]
    · iapply (tok_close c ckM _ _ _)
      isplitl [Sk22]; · iexact Sk22
      iexact Rk22
    isplitl [Sk23 Rk23]
    · iapply (tok_close c ckM _ _ _)
      isplitl [Sk23]; · iexact Sk23
      iexact Rk23
    isplitl [Skx0 Rkx0]
    · iapply (tok_close c ckM _ _ _)
      isplitl [Skx0]; · iexact Skx0
      iexact Rkx0
    isplitl [Skx1 Rkx1]
    · iapply (tok_close c ckM _ _ _)
      isplitl [Skx1]; · iexact Skx1
      iexact Rkx1
    iapply (tok_close c ckM _ _ _)
    isplitl [Skx2]; · iexact Skx2
    iexact Rkx2
  isplitl [Hvk]; · iexact Hvk
  isplitl [Sv00 Rv00]
  · iapply (tok_close c cvM _ _ _)
    isplitl [Sv00]; · iexact Sv00
    iexact Rv00
  isplitl [Sv01 Rv01]
  · iapply (tok_close c cvM _ _ _)
    isplitl [Sv01]; · iexact Sv01
    iexact Rv01
  isplitl [Sv02 Rv02]
  · iapply (tok_close c cvM _ _ _)
    isplitl [Sv02]; · iexact Sv02
    iexact Rv02
  isplitl [Sv03 Rv03]
  · iapply (tok_close c cvM _ _ _)
    isplitl [Sv03]; · iexact Sv03
    iexact Rv03
  isplitl [Sv10 Rv10]
  · iapply (tok_close c cvM _ _ _)
    isplitl [Sv10]; · iexact Sv10
    iexact Rv10
  isplitl [Sv11 Rv11]
  · iapply (tok_close c cvM _ _ _)
    isplitl [Sv11]; · iexact Sv11
    iexact Rv11
  isplitl [Sv12 Rv12]
  · iapply (tok_close c cvM _ _ _)
    isplitl [Sv12]; · iexact Sv12
    iexact Rv12
  isplitl [Sv13 Rv13]
  · iapply (tok_close c cvM _ _ _)
    isplitl [Sv13]; · iexact Sv13
    iexact Rv13
  isplitl [Sv20 Rv20]
  · iapply (tok_close c cvM _ _ _)
    isplitl [Sv20]; · iexact Sv20
    iexact Rv20
  isplitl [Sv21 Rv21]
  · iapply (tok_close c cvM _ _ _)
    isplitl [Sv21]; · iexact Sv21
    iexact Rv21
  isplitl [Sv22 Rv22]
  · iapply (tok_close c cvM _ _ _)
    isplitl [Sv22]; · iexact Sv22
    iexact Rv22
  isplitl [Sv23 Rv23]
  · iapply (tok_close c cvM _ _ _)
    isplitl [Sv23]; · iexact Sv23
    iexact Rv23
  isplitl [Svx0 Rvx0]
  · iapply (tok_close c cvM _ _ _)
    isplitl [Svx0]; · iexact Svx0
    iexact Rvx0
  isplitl [Svx1 Rvx1]
  · iapply (tok_close c cvM _ _ _)
    isplitl [Svx1]; · iexact Svx1
    iexact Rvx1
  iapply (tok_close c cvM _ _ _)
  isplitl [Svx2]; · iexact Svx2
  iexact Rvx2

end All

end Cert.KernelIdeal.Hand

end
-- ==== Proof.KernelIdeal.Frame.lean ====
/- The kernel's run: from any memory whose cache lengths are in range it runs to the end, leaves its arguments as they
   were and every semaphore at zero, and writes each result with the pieces its three trips store. -/
module

public import proofs.«01_k».proof.Proof.KernelIdeal.Split
public import proofs.«01_k».proof.Proof.Gen.KernelIdeal.Points
public import proofs.«01_k».proof.Proof.Gen.KernelIdeal.Frame

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## Whole memrefs at given contents -/

/-- The contents through which a memref that reads `d` is stated. -/
abbrev canon {sp : Space} {s : Shape} {e : EltTy} (M : Memref sig .tc sp s e) (d : s.Idx → Elt F e) : M.view.ty.Contents (Elt F) :=
  M.view.write (Elt F) M.view.junk d Finset.univ
theorem read_canon {sp : Space} {s : Shape} {e : EltTy} (M : Memref sig .tc sp s e) (d : s.Idx → Elt F e) :
    M.view.read (Elt F) (canon M d) = d := View.read_write_univ _ _
/-- A memref held at contents that read `d` is held at `canon M d`. -/
theorem at_canon (c : Dev nD) {sp : Space} {s : Shape} {e : EltTy} (M : Memref sig .tc sp s e) (f : Buf (Elt F) (M.view.loc (c : Thread nD τ))) :
    (at_ c M f : sProp 𝕄) = at_ c M (canon M (M.view.read (Elt F) f)) :=
  pointsTo_congr fun i hi => by
    rw [canon, View.write_read_eq_piecewise]
    exact (Finset.piecewise_eq_of_mem _ _ _ hi).symm
theorem owns_canon (c : Dev nD) {sp : Space} {s : Shape} {e : EltTy} (M : Memref sig .tc sp s e) (d : s.Idx → Elt F e) :
    (owns (c : Thread nD τ) M fullShare d : sProp 𝕄) ⊢ at_ c M (canon M d) := by
  unfold owns
  iintro ⟨%f, %hf, H⟩
  subst hf
  rw [← at_canon c M f]
  iexact H
theorem canon_owns (c : Dev nD) {sp : Space} {s : Shape} {e : EltTy} (M : Memref sig .tc sp s e) (d : s.Idx → Elt F e) :
    (at_ c M (canon M d) : sProp 𝕄) ⊢ owns (c : Thread nD τ) M fullShare d := by
  unfold owns
  iintro H
  iexists _; isplitr
  swap; · iexact H
  ipureintro; exact read_canon M d

/-! ## The body's operands -/

abbrev ms0_0 (t : Fin cfg0.N) : Memref sig .tc .smem S3 .i32 := win0_0.stage (cfg0.slots t 0)
abbrev hs0_0 (t : Fin cfg0.N) : (ms0_0 t).IsWhole := hstage0_0 0
abbrev ms0_1 (t : Fin cfg0.N) : Memref sig .tc .vmem S3x1x2048 .bf16 := win0_1.stage (cfg0.slots t 1)
abbrev hs0_1 (t : Fin cfg0.N) : (ms0_1 t).IsWhole := hstage0_1 0
abbrev ms0_2 (t : Fin cfg0.N) : Memref sig .tc .vmem S3x4x1x256 .bf16 := win0_2.stage (cfg0.slots t 2)
abbrev hs0_2 (t : Fin cfg0.N) : (ms0_2 t).IsWhole := hstage0_2 0
abbrev ms0_3 (t : Fin cfg0.N) : Memref sig .tc .vmem S3x4x1x256 .bf16 := win0_3.stage (cfg0.slots t 3)
abbrev hs0_3 (t : Fin cfg0.N) : (ms0_3 t).IsWhole := hstage0_3 0
abbrev ms0_4 (t : Fin cfg0.N) : Memref sig .tc .vmem S4x256 .f32 := win0_4.stage (cfg0.slots t 4)
abbrev hs0_4 (t : Fin cfg0.N) : (ms0_4 t).IsWhole := hstage0_4 0
abbrev ms0_5 (t : Fin cfg0.N) : Memref sig .tc .smem S4 .f32 := win0_5.stage (cfg0.slots t 5)
abbrev hs0_5 (t : Fin cfg0.N) : (ms0_5 t).IsWhole := hstage0_5 0
abbrev ms0_6 (t : Fin cfg0.N) : Memref sig .tc .vmem S3x1x2048 .bf16 := win0_6.stage (cfg0.slots t 6)
abbrev hs0_6 (t : Fin cfg0.N) : (ms0_6 t).IsWhole := hstage0_6 0
abbrev ms0_7 (t : Fin cfg0.N) : Memref sig .tc .vmem S3x4x1x256 .i8 := win0_7.stage (cfg0.slots t 7)
abbrev hs0_7 (t : Fin cfg0.N) : (ms0_7 t).IsWhole := hstage0_7 0
abbrev ms0_8 (t : Fin cfg0.N) : Memref sig .tc .vmem S3x4x1x256 .i8 := win0_8.stage (cfg0.slots t 8)
abbrev hs0_8 (t : Fin cfg0.N) : (ms0_8 t).IsWhole := hstage0_8 0
/-- What each input's staging buffer holds at the point. -/
abbrev fin0 (c : Dev nD) (t : Fin cfg0.N) : Buf (Elt F) ((ms0_0 t).view.loc (c : Thread nD τ)) := canon (ms0_0 t) (iblk m c 0 t)
abbrev fin1 (c : Dev nD) (t : Fin cfg0.N) : Buf (Elt F) ((ms0_1 t).view.loc (c : Thread nD τ)) := canon (ms0_1 t) (iblk m c 1 t)
abbrev fin2 (c : Dev nD) (t : Fin cfg0.N) : Buf (Elt F) ((ms0_2 t).view.loc (c : Thread nD τ)) := canon (ms0_2 t) (iblk m c 2 t)
abbrev fin3 (c : Dev nD) (t : Fin cfg0.N) : Buf (Elt F) ((ms0_3 t).view.loc (c : Thread nD τ)) := canon (ms0_3 t) (iblk m c 3 t)
abbrev fin4 (c : Dev nD) (t : Fin cfg0.N) : Buf (Elt F) ((ms0_4 t).view.loc (c : Thread nD τ)) := canon (ms0_4 t) (iblk m c 4 t)
abbrev fin5 (c : Dev nD) (t : Fin cfg0.N) : Buf (Elt F) ((ms0_5 t).view.loc (c : Thread nD τ)) := canon (ms0_5 t) (iblk m c 5 t)

/-- Every cache length of the memory is in range. -/
def LensOk : Prop := ∀ (c : Dev nD) i, InRange (V m c main_arg7 i)

variable {m}
theorem lens (hm : LensOk m) (c : Dev nD) (t : Fin cfg0.N) (r : LoadRect S3) (j) : InRange ((ms0_0 t).view.readAt (Elt F) r (fin0 m c t) j) := by
  rw [View.readAt_apply, read_canon]
  exact hm c _
variable (m) (hm : LensOk m)

/-- The pieces the body stores into each result. -/
abbrev outP (c : Dev nD) (t : Fin cfg0.N) : List (View.Piece (Elt F) S3x1x2048 .bf16) :=
  outL c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fin0 m c t) (fin1 m c t) (fin2 m c t) (fin3 m c t) (fin4 m c t) (fin5 m c t) (lens hm c t) (V m c main_arg3) (V m c main_arg4) 3
abbrev kcodeP (c : Dev nD) (t : Fin cfg0.N) : List (View.Piece (Elt F) S3x4x1x256 .i8) :=
  kcodeL c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fin0 m c t) (fin1 m c t) (fin2 m c t) (fin3 m c t) (fin4 m c t) (fin5 m c t) (lens hm c t) (V m c main_arg3) (V m c main_arg4) 3
abbrev vcodeP (c : Dev nD) (t : Fin cfg0.N) : List (View.Piece (Elt F) S3x4x1x256 .i8) :=
  vcodeL c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fin0 m c t) (fin1 m c t) (fin2 m c t) (fin3 m c t) (fin4 m c t) (fin5 m c t) (lens hm c t) (V m c main_arg3) (V m c main_arg4) 3
/-- What each result holds after the body: its pieces over anything. -/
def outAt (c : Dev nD) (t : Fin cfg0.N) : S3x1x2048.Idx → Elt F .bf16 :=
  (ms0_6 t).view.read (Elt F) ((ms0_6 t).view.writes (Elt F) (ms0_6 t).view.junk (outP m hm c t))
def kcodeAt (c : Dev nD) (t : Fin cfg0.N) : S3x4x1x256.Idx → Elt F .i8 :=
  (ms0_7 t).view.read (Elt F) ((ms0_7 t).view.writes (Elt F) (ms0_7 t).view.junk (kcodeP m hm c t))
def vcodeAt (c : Dev nD) (t : Fin cfg0.N) : S3x4x1x256.Idx → Elt F .i8 :=
  (ms0_8 t).view.read (Elt F) ((ms0_8 t).view.writes (Elt F) (ms0_8 t).view.junk (vcodeP m hm c t))
/-- The pieces cover the result. -/
theorem out_cover (c : Dev nD) (t : Fin cfg0.N) (y : S3x1x2048.Idx) : ∃ pc ∈ outP m hm c t, y ∈ pc.1.set :=
  View.cover_of_tiledL (outP m hm c t) (![1, 1, 256] : Fin 3 → ℕ) (by sl_kernel_rfl) y
theorem kcode_cover (c : Dev nD) (t : Fin cfg0.N) (y : S3x4x1x256.Idx) : ∃ pc ∈ kcodeP m hm c t, y ∈ pc.1.set :=
  View.cover_of_tiledL (kcodeP m hm c t) (![1, 1, 1, 256] : Fin 4 → ℕ) (by sl_kernel_rfl) y
theorem vcode_cover (c : Dev nD) (t : Fin cfg0.N) (y : S3x4x1x256.Idx) : ∃ pc ∈ vcodeP m hm c t, y ∈ pc.1.set :=
  View.cover_of_tiledL (vcodeP m hm c t) (![1, 1, 1, 256] : Fin 4 → ℕ) (by sl_kernel_rfl) y

/-! ## What the body holds beside its operands -/

/-- The arrays the kernel's transfers read. -/
def H0 : Finset (Ref sig .tc) := {main_arg3, main_arg4}
theorem H0_sub : H0 ⊆ Pipeline.restRefs sig spec0 := by decide
theorem hbmPts0_eq (c : Dev nD) :
    (bigSep H0 (fun b => ((c : Thread nD τ).loc b) ↦{fullShare} V m c b) : sProp 𝕄)
      = iprop(tokAt c ckM fullShare (V m c main_arg3) ∗ tokAt c cvM fullShare (V m c main_arg4)) := by
  rw [BI.bigSep_eq_bigSepL_of_eq [main_arg3, main_arg4] (by decide) (by decide)]; rfl
theorem at_sM (c : Dev nD) (f : Buf (Elt F) (sM.view.loc (c : Thread nD τ))) : (at_ c sM f : sProp 𝕄) = (sM.view.loc (c : Thread nD τ) ↦{fullShare} f) := by
  unfold at_; rw [View.set_whole]
theorem PhiD0_eq (c : Dev nD) :
    (Pipeline.ΦD osem0 spec0 H0 (V m) c : sProp 𝕄)
      = iprop(iprop((∃ f, kM.view.loc (c : Thread nD τ) ↦{fullShare} f) ∗ (∃ f, vM.view.loc (c : Thread nD τ) ↦{fullShare} f)
                ∗ (∃ f, kxM.view.loc (c : Thread nD τ) ↦{fullShare} f) ∗ (∃ f, vxM.view.loc (c : Thread nD τ) ↦{fullShare} f)
                ∗ (∃ f, at_ c sM f))
          ∗ (∃ r, prngReg c r) ∗ cells c
          ∗ iprop(tokAt c ckM fullShare (V m c main_arg3) ∗ tokAt c cvM fullShare (V m c main_arg4))) := by
  rw [Pipeline.ΦD_eq, scopedRest0_eq, ownSems00_eq, hbmPts0_eq]; simp only [at_sM]

/-! ## The proof data and the body's obligation -/

/-- The proof data: the arrays as launched, each input left in place, each result at its pieces. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m hm c t
    | ⟨7, _⟩ => kcodeAt m hm c t
    | ⟨8, _⟩ => vcodeAt m hm c t
  Φ _ := Pipeline.ΦD osem0 spec0 H0 (V m) c
  q _ := fullShare
  owed _ := 0

theorem A_eq (c : Dev nD) (w : Fin cfg0.W) : (dats m hm 0 c).A w = V m c (Pipeline.arrRef spec0 w) := by
  dsimp only [dats]
theorem after0_0 (c : Dev nD) (t : Fin cfg0.N) : (dats m hm 0 c).after 0 t = iblk m c 0 t := by dsimp only [dats]
theorem after0_1 (c : Dev nD) (t : Fin cfg0.N) : (dats m hm 0 c).after 1 t = iblk m c 1 t := by dsimp only [dats]
theorem after0_2 (c : Dev nD) (t : Fin cfg0.N) : (dats m hm 0 c).after 2 t = iblk m c 2 t := by dsimp only [dats]
theorem after0_3 (c : Dev nD) (t : Fin cfg0.N) : (dats m hm 0 c).after 3 t = iblk m c 3 t := by dsimp only [dats]
theorem after0_4 (c : Dev nD) (t : Fin cfg0.N) : (dats m hm 0 c).after 4 t = iblk m c 4 t := by dsimp only [dats]
theorem after0_5 (c : Dev nD) (t : Fin cfg0.N) : (dats m hm 0 c).after 5 t = iblk m c 5 t := by dsimp only [dats]
theorem after0_6 (c : Dev nD) (t : Fin cfg0.N) : (dats m hm 0 c).after 6 t = outAt m hm c t := by dsimp only [dats]
theorem after0_7 (c : Dev nD) (t : Fin cfg0.N) : (dats m hm 0 c).after 7 t = kcodeAt m hm c t := by dsimp only [dats]
theorem after0_8 (c : Dev nD) (t : Fin cfg0.N) : (dats m hm 0 c).after 8 t = vcodeAt m hm c t := by dsimp only [dats]
/-- An input's staging buffer holds its block. -/
theorem before0_0 (c : Dev nD) (t : Fin cfg0.N) (d) : (dats m hm 0 c).before 0 t d = iblk m c 0 t :=
  ((dats m hm 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m hm 0 c).before 1 t d = iblk m c 1 t :=
  ((dats m hm 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m hm 0 c).before 2 t d = iblk m c 2 t :=
  ((dats m hm 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m hm 0 c).before 3 t d = iblk m c 3 t :=
  ((dats m hm 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m hm 0 c).before 4 t d = iblk m c 4 t :=
  ((dats m hm 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m hm 0 c).before 5 t d = iblk m c 5 t :=
  ((dats m hm 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m hm 0 c).Φ t.castSucc ∗ (dats m hm 0 c).owesAt () t.castSucc
    ∗ (∃ d, owns (c : Thread nD τ) (ms0_0 t) fullShare ((dats m hm 0 c).before 0 t d))
    ∗ (∃ d, owns (c : Thread nD τ) (ms0_1 t) fullShare ((dats m hm 0 c).before 1 t d))
    ∗ (∃ d, owns (c : Thread nD τ) (ms0_2 t) fullShare ((dats m hm 0 c).before 2 t d))
    ∗ (∃ d, owns (c : Thread nD τ) (ms0_3 t) fullShare ((dats m hm 0 c).before 3 t d))
    ∗ (∃ d, owns (c : Thread nD τ) (ms0_4 t) fullShare ((dats m hm 0 c).before 4 t d))
    ∗ (∃ d, owns (c : Thread nD τ) (ms0_5 t) fullShare ((dats m hm 0 c).before 5 t d))
    ∗ (∃ d, owns (c : Thread nD τ) (ms0_6 t) fullShare ((dats m hm 0 c).before 6 t d))
    ∗ (∃ d, owns (c : Thread nD τ) (ms0_7 t) fullShare ((dats m hm 0 c).before 7 t d))
    ∗ (∃ d, owns (c : Thread nD τ) (ms0_8 t) fullShare ((dats m hm 0 c).before 8 t d)))
def bodyPost (c : Dev nD) (t : Fin cfg0.N) : sProp 𝕄 :=
  iprop((dats m hm 0 c).Φ t.succ ∗ (dats m hm 0 c).owesAt () t.succ
    ∗ owns (c : Thread nD τ) (ms0_0 t) fullShare ((dats m hm 0 c).after 0 t)
    ∗ owns (c : Thread nD τ) (ms0_1 t) fullShare ((dats m hm 0 c).after 1 t)
    ∗ owns (c : Thread nD τ) (ms0_2 t) fullShare ((dats m hm 0 c).after 2 t)
    ∗ owns (c : Thread nD τ) (ms0_3 t) fullShare ((dats m hm 0 c).after 3 t)
    ∗ owns (c : Thread nD τ) (ms0_4 t) fullShare ((dats m hm 0 c).after 4 t)
    ∗ owns (c : Thread nD τ) (ms0_5 t) fullShare ((dats m hm 0 c).after 5 t)
    ∗ owns (c : Thread nD τ) (ms0_6 t) fullShare ((dats m hm 0 c).after 6 t)
    ∗ owns (c : Thread nD τ) (ms0_7 t) fullShare ((dats m hm 0 c).after 7 t)
    ∗ owns (c : Thread nD τ) (ms0_8 t) fullShare ((dats m hm 0 c).after 8 t))

set_option maxHeartbeats 2000000 in
theorem sound_body (c : Dev nD) (t : Fin cfg0.N) :
    bodyPre m hm c t ⊢ wp frame (wpE (defs₀ (F := F)) Variants.none c none) Set.univ (bodyAt0 t) (fun _ => bodyPost m hm c t) := by
  unfold bodyPre bodyPost bodyAt0
  rw [show (dats m hm 0 c).Φ t.succ = (dats m hm 0 c).Φ t.castSucc from rfl, after0_0, after0_1, after0_2, after0_3, after0_4, after0_5, after0_6, after0_7, after0_8]
  simp only [before0_0, before0_1, before0_2, before0_3, before0_4, before0_5]
  rw [show (dats m hm 0 c).Φ t.castSucc = Pipeline.ΦD osem0 spec0 H0 (V m) c from rfl, PhiD0_eq]
  unfold Dat.owesAt Pipeline.owesWithin
  rw [show (dats m hm 0 c).owed t.castSucc = 0 from rfl, show (dats m hm 0 c).owed t.succ = 0 from rfl]
  iintro ⟨⟨⟨Hk, Hv, Hkx, Hvx, ⟨%fs, HS⟩⟩, Hg, Hc, HK, HV⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  ihave H0 := (owns_canon c (ms0_0 t) (iblk m c 0 t)) $$ H0
  ihave H1 := (owns_canon c (ms0_1 t) (iblk m c 1 t)) $$ H1
  ihave H2 := (owns_canon c (ms0_2 t) (iblk m c 2 t)) $$ H2
  ihave H3 := (owns_canon c (ms0_3 t) (iblk m c 3 t)) $$ H3
  ihave H4 := (owns_canon c (ms0_4 t) (iblk m c 4 t)) $$ H4
  ihave H5 := (owns_canon c (ms0_5 t) (iblk m c 5 t)) $$ H5
  ihave H6 := (owns_canon c (ms0_6 t) _) $$ H6
  ihave H7 := (owns_canon c (ms0_7 t) _) $$ H7
  ihave H8 := (owns_canon c (ms0_8 t) _) $$ H8
  ihave HR := (ready c (ms0_0 t) (fin0 m c t) (lens hm c t) (V m c main_arg3) (V m c main_arg4)) $$ [Hk Hv Hkx Hvx Hc HK HV]
  · isplitl [Hk Hv Hkx Hvx]
    · unfold scratch
      isplitl [Hk]; · iexact Hk
      isplitl [Hv]; · iexact Hv
      isplitl [Hkx]; · iexact Hkx
      iexact Hvx
    isplitl [Hc]; · iexact Hc
    isplitl [HK]; · iexact HK
    iexact HV
  icases HR with ⟨%D, HA0, HA1, HA2, HkK, HkV⟩
  iapply (bodyRun c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fin0 m c t) (fin1 m c t) (fin2 m c t) (fin3 m c t) (fin4 m c t) (fin5 m c t) (lens hm c t) (V m c main_arg3) (V m c main_arg4) _ _ _ D W fs _)
  unfold inputs
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H6]; · iexact H6
  isplitl [H7]; · iexact H7
  isplitl [H8]; · iexact H8
  isplitl [HS]; · iexact HS
  isplitl [HA0]; · iexact HA0
  isplitl [HA1]; · iexact HA1
  isplitl [HA2]; · iexact HA2
  isplitl [HW]; · iexact HW
  iintro ⟨⟨H0, H1, H2, H3, H4, H5⟩, H6, H7, H8, HS, HL0, HL1, HL2, ⟨%W', HW'⟩⟩
  ihave HR := (done c (ms0_0 t) (fin0 m c t) (lens hm c t) (V m c main_arg3) (V m c main_arg4)) $$ [HL0 HL1 HL2 HkK HkV]
  · isplitl [HL0]; · iexact HL0
    isplitl [HL1]; · iexact HL1
    isplitl [HL2]; · iexact HL2
    isplitl [HkK]; · iexact HkK
    iexact HkV
  icases HR with ⟨Hb, Hc, HK, HV⟩
  unfold scratch
  icases Hb with ⟨Hk, Hv, Hkx, Hvx⟩
  isplitl [Hk Hv Hkx Hvx HS Hg Hc HK HV]
  · isplitl [Hk Hv Hkx Hvx HS]
    · isplitl [Hk]; · iexact Hk
      isplitl [Hv]; · iexact Hv
      isplitl [Hkx]; · iexact Hkx
      isplitl [Hvx]; · iexact Hvx
      iexact HS
    isplitl [Hg]; · iexact Hg
    isplitl [Hc]; · iexact Hc
    isplitl [HK]; · iexact HK
    iexact HV
  isplitl [HW']
  · iexists W'; isplitr; · ipureintro; exact fun _ _ => Or.inl trivial
    iexact HW'
  isplitl [H0]; · iapply (canon_owns c (ms0_0 t) (iblk m c 0 t)); iexact H0
  isplitl [H1]; · iapply (canon_owns c (ms0_1 t) (iblk m c 1 t)); iexact H1
  isplitl [H2]; · iapply (canon_owns c (ms0_2 t) (iblk m c 2 t)); iexact H2
  isplitl [H3]; · iapply (canon_owns c (ms0_3 t) (iblk m c 3 t)); iexact H3
  isplitl [H4]; · iapply (canon_owns c (ms0_4 t) (iblk m c 4 t)); iexact H4
  isplitl [H5]; · iapply (canon_owns c (ms0_5 t) (iblk m c 5 t)); iexact H5
  isplitl [H6]
  · unfold owns outAt; iexists _; isplitr
    swap; · iexact H6
    ipureintro; exact View.read_writes_of_cover _ _ _ _ _ (out_cover m hm c t)
  isplitl [H7]
  · unfold owns kcodeAt; iexists _; isplitr
    swap; · iexact H7
    ipureintro; exact View.read_writes_of_cover _ _ _ _ _ (kcode_cover m hm c t)
  unfold owns vcodeAt; iexists _; isplitr
  swap; · iexact H8
  ipureintro; exact View.read_writes_of_cover _ _ _ _ _ (vcode_cover m hm c t)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats m hm 0 c) (defs₀ (F := F)) Variants.none () Set.univ := fun t => by
  rw [bigSep_W0, bigSep_W0, defs₀_row]
  exact triple_restated (sound_body m hm c t) rfl .rfl fun _ => .rfl

/-! ## The run -/

theorem hmainD (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

set_option backward.isDefEq.respectTransparency.types false in
/-- The kernel's run, with what each array holds at its end. -/
theorem run_main : θ_run defs (onTc (τ := τ) (main (F := F))) (s₀ m ρ) (fun r => Pipeline.FramePost cfgs (dats m hm) 0 (V m) r ∧ r.2.sem = fun _ => 0) :=
  Pipeline.θ_run_frame_dma (Q' := _) cfgs (dats m hm) (0 : Fin 1) launch0 osem0 defs₀ Variants.none ownSemFacts0 H0 H0_sub m ρ main
    (hbody := fun c => (body_obligation m hm c).loose) (hshare := fun c => (dats m hm 0 c).share_full fun _ => rfl)
    (howed := fun _ _ => rfl) (V := V m) (hmain := hmainD m Variants.none) (hA := A_eq m hm)
    (hin := fun _ => .rfl) (hout := fun _ => .rfl)

/-- What the run's end says of the memory: the arguments as launched, each result at the trips' pieces. -/
theorem ends (r : PUnit × MemSt nD τ sig (Elt F)) (h : Pipeline.FramePost cfgs (dats m hm) 0 (V m) r) (c : Dev nD) :
    (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  ⟨((h c).1 1).trans (((dats m hm 0 c).arrAt_in 1 rfl _).trans (A_eq m hm c 1)),
    ((h c).1 2).trans (((dats m hm 0 c).arrAt_in 2 rfl _).trans (A_eq m hm c 2)),
    ((h c).1 3).trans (((dats m hm 0 c).arrAt_in 3 rfl _).trans (A_eq m hm c 3)),
    (h c).2 main_arg3 (Pipeline.mem_restRefs_of main_arg3 (by decide) (by decide)),
    (h c).2 main_arg4 (Pipeline.mem_restRefs_of main_arg4 (by decide) (by decide)),
    ((h c).1 4).trans (((dats m hm 0 c).arrAt_in 4 rfl _).trans (A_eq m hm c 4)),
    ((h c).1 5).trans (((dats m hm 0 c).arrAt_in 5 rfl _).trans (A_eq m hm c 5)),
    ((h c).1 0).trans (((dats m hm 0 c).arrAt_in 0 rfl _).trans (A_eq m hm c 0))⟩

end Cert.KernelIdeal.Hand

end
-- ==== Proof.Claims.Lengths.lean ====
/- The precondition, decoded: every row has from 0 to 65536 tokens in its caches. -/
module

public import proofs.«01_k».proof.Defs
public import proofs.«01_k».proof.Proof.Kernel.Frame
public import proofs.«01_k».proof.Proof.KernelIdeal.Frame

@[expose] public section

namespace Cert.Claims

open Idealize.ShloMosaic Idealize.ShloMosaic.TcCoe Idealize.SL.Sem

/-- The shape fact the precondition takes: a scalar spreads over three entries. -/
theorem preFacts : Cert.Pre_lengths_fit.Facts := ⟨by decide⟩

/-- Where the precondition is true of an entry, that entry is between 0 and 65536. -/
theorem bounds [Cert.Pre_lengths_fit.Facts] {F : FTy → Type} [FloatOps F]
    (a0 : FVec F Cert.Pre_lengths_fit.S3x1x2048 .bf16) (a1 a2 : FVec F Cert.Pre_lengths_fit.S3x4x1x256 .bf16)
    (a3 a4 : IVec Cert.Pre_lengths_fit.S3x4x65536x256 8) (a5 : FVec F Cert.Pre_lengths_fit.S4x256 .f32)
    (a6 : FVec F Cert.Pre_lengths_fit.S4 .f32) (a7 : IVec Cert.Pre_lengths_fit.S3 32)
    (h : Cert.Pre_lengths_fit.fn a0 a1 a2 a3 a4 a5 a6 a7 = fun _ => 1#1) (i : Cert.Pre_lengths_fit.S3.Idx) :
    0 ≤ (a7 i).toInt ∧ (a7 i).toInt ≤ 65536 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have e := congrFun h i
  simp only [Cert.Pre_lengths_fit.fn, andi, cmpi, broadcastInDim, constantI, IntOp.cmpi, andi_ofBool, ofBool_eq_one,
    Bool.and_eq_true] at e
  obtain ⟨hge, hle⟩ := e
  simp only [BitVec.sle, decide_eq_true_eq] at hge hle
  exact ⟨by simpa using hge, by simpa using hle⟩

/-- So the kernel's lengths are in range. -/
theorem lens_kernel [Cert.Pre_lengths_fit.Facts] [Cert.Kernel.Facts] (m : (ℓ : Loc Cert.Kernel.nD Cert.Kernel.τ Cert.Kernel.sig) → Buf (Elt Bits) ℓ)
    (h : Cert.Pre_Kernel m) : Cert.Kernel.Hand.LensOk m := fun c i => bounds _ _ _ _ _ _ _ _ (h c) i

/-- And the lengths of the kernel over the extended reals. -/
theorem lens_ideal [Cert.Pre_lengths_fit.Facts] [Cert.KernelIdeal.Facts] (m : (ℓ : Loc Cert.KernelIdeal.nD Cert.KernelIdeal.τ Cert.KernelIdeal.sig) → Buf (Elt Ideal) ℓ)
    (h : Cert.Pre_KernelIdeal m) : Cert.KernelIdeal.Hand.LensOk m := fun c i => bounds _ _ _ _ _ _ _ _ (h c) i

end Cert.Claims

end
-- ==== Proof.Claims.Spec.lean ====
/- The decode step's mathematics, row by row over the extended reals: the quantiser's code, the soft cap, the row of
   scores, and the softmax with the value rows' combination; and that a window which holds every row with a finite score
   gives the same combination as all the rows. -/
module

public import Idealize.ShloMosaic.Lib.Pointwise

@[expose] public section

noncomputable section

namespace Cert.Claims

open Idealize.ShloMosaic

/-! ## The quantiser -/

/-- The code of `x` at the scale `s`: the quotient rounded to an integer and clipped, still as a number. -/
def code (x s : EReal) : EReal :=
  min (Ideal.ofBits .f32 0x42FE0000#32) (max (Ideal.ofBits .f32 0xC2FE0000#32) (Ideal.liftRound Ideal.roundHalfEven (Ideal.div x s)))

theorem ofBits_127 : Ideal.ofBits .f32 0x42FE0000#32 = ((127 : ℝ) : EReal) := by
  simp [Ideal.ofBits, Ideal.ieee]
  rw [← EReal.coe_mul]
  norm_num
theorem ofBits_neg127 : Ideal.ofBits .f32 0xC2FE0000#32 = ((-127 : ℝ) : EReal) := by
  simp [Ideal.ofBits, Ideal.ieee]
  rw [← EReal.coe_mul]
  norm_num
theorem ofBits_50 : Ideal.ofBits .f32 0x42480000#32 = ((50 : ℝ) : EReal) := by
  simp [Ideal.ofBits, Ideal.ieee]
  rw [← EReal.coe_mul]
  norm_num
theorem ofBits_neg_inf : Ideal.ofBits .f32 0xFF800000#32 = ⊥ := by
  simp [Ideal.ofBits, Ideal.ieee]

/-- A code is an integer between -127 and 127. -/
theorem code_int (x s : EReal) : ∃ n : ℤ, -127 ≤ n ∧ n ≤ 127 ∧ code x s = ((n : ℝ) : EReal) := by
  unfold code
  rw [ofBits_127, ofBits_neg127]
  generalize hy : Ideal.div x s = y
  induction y with
  | bot => exact ⟨-127, by omega, by omega, by
      show min ((127 : ℝ) : EReal) (max ((-127 : ℝ) : EReal) ⊥) = _
      rw [max_eq_left bot_le, min_eq_right (EReal.coe_le_coe_iff.2 (by norm_num))]
      norm_num⟩
  | top => exact ⟨127, by omega, by omega, by
      show min ((127 : ℝ) : EReal) (max ((-127 : ℝ) : EReal) ⊤) = _
      rw [max_eq_right le_top, min_eq_left le_top]
      norm_num⟩
  | coe r =>
    refine ⟨min 127 (max (-127) (Ideal.roundHalfEven r)), by omega, by omega, ?_⟩
    show min ((127 : ℝ) : EReal) (max ((-127 : ℝ) : EReal) ((Ideal.roundHalfEven r : ℝ) : EReal)) = _
    rw [show ((-127 : ℝ)) = ((-127 : ℤ) : ℝ) by norm_num, show ((127 : ℝ)) = ((127 : ℤ) : ℝ) by norm_num, Int.cast_min, Int.cast_max]
    rw [EReal.coe_strictMono.monotone.map_min, EReal.coe_strictMono.monotone.map_max]

/-- The stored code of a number that is an integer between -127 and 127 reads back as the number. -/
theorem sitofp_fptosi_code {φ ψ : FTy} (x s : EReal) :
    (FloatOps.sitofp (F := Ideal) φ (FloatOps.fptosi (F := Ideal) (φ := ψ) 8 (code x s)) : EReal) = code x s := by
  obtain ⟨n, h0, h1, e⟩ := code_int x s
  rw [e]
  show (((Ideal.fptosi 8 ((n : ℝ) : EReal)).toInt : ℝ) : EReal) = _
  have : Ideal.toIntClamped (-(2 ^ (8 - 1) : Nat)) ((2 ^ (8 - 1) : Nat) - 1) ((n : ℝ) : EReal) = n := by
    show max _ (min _ (if (0 : ℝ) ≤ (n : ℝ) then ⌊(n : ℝ)⌋ else ⌈(n : ℝ)⌉)) = n
    rw [Int.floor_intCast, Int.ceil_intCast, ite_self]
    norm_num; omega
  unfold Ideal.fptosi
  rw [this, BitVec.toInt_ofInt, Int.bmod_def]
  norm_cast
  norm_num
  split <;> omega

/-! ## The scores -/

/-- The soft cap at 50 of a score scaled by 1/16. -/
def cap (z : EReal) : EReal :=
  Ideal.ofBits .f32 0x42480000#32 * Ideal.tanh (Ideal.div (z * Ideal.ofBits .f32 0x3D800000#32) (Ideal.ofBits .f32 0x42480000#32))

/-- The score `z` of the cached row `p`, where `n` rows are cached: kept for the last 4095 of them, else minus infinity. -/
def score (n p : BitVec 32) (z : EReal) : EReal :=
  Scalar.select (IntOp.andi (IntOp.cmpi .slt p n) (IntOp.cmpi .sgt p (IntOp.subi n 4096#32))) z (Ideal.ofBits .f32 0xFF800000#32)

/-- A capped score is a real number. -/
theorem cap_real (z : EReal) : ∃ r : ℝ, cap z = (r : EReal) := by
  unfold cap
  rw [ofBits_50]
  generalize Ideal.div (z * Ideal.ofBits .f32 0x3D800000#32) ((50 : ℝ) : EReal) = y
  induction y with
  | bot => exact ⟨50 * (-1), by rw [Ideal.tanh_bot, EReal.coe_mul]; norm_num⟩
  | top => exact ⟨50 * 1, by rw [Ideal.tanh_top, EReal.coe_mul]; norm_num⟩
  | coe r => exact ⟨50 * Real.tanh r, by rw [Ideal.tanh_coe]; norm_cast⟩

/-- A query row against a row of codes at the scales `s`. -/
def dot {n : ℕ} (q k s : Fin n → EReal) : EReal := ∑ x, q x * (k x * s x)

/-! ## The softmax over the cached rows and the new one -/

section Rows
variable {n : ℕ} (S V : Fin n → EReal) (sn vn : EReal)

/-- The greatest score. -/
def top : EReal := max (Finset.univ.fold max (Ideal.ofBits .f32 0xFF800000#32) S) sn
/-- The softmax's denominator. -/
def den : EReal := ∑ x, Ideal.exp (S x - top S sn) + Ideal.exp (sn - top S sn)
/-- The combination of the value rows. -/
def mix : EReal :=
  ∑ x, Ideal.div (Ideal.exp (S x - top S sn)) (den S sn) * V x + Ideal.div (Ideal.exp (sn - top S sn)) (den S sn) * vn
end Rows

/-- The rows a window shows: those with a score, each held once, score and value alike. -/
structure Shows {n m : ℕ} (S V : Fin n → EReal) (S' V' : Fin m → EReal) (e : Fin m → Fin n) (seen : Fin m → Prop) : Prop where
  inj : ∀ x y, seen x → seen y → e x = e y → x = y
  onto : ∀ y, S y ≠ ⊥ → ∃ x, seen x ∧ e x = y
  dark : ∀ x, ¬ seen x → S' x = ⊥
  score : ∀ x, seen x → S' x = S (e x)
  value : ∀ x, seen x → V' x = V (e x)

section Shows
variable {n m : ℕ} {S V : Fin n → EReal} {S' V' : Fin m → EReal} {e : Fin m → Fin n} {seen : Fin m → Prop}

theorem fold_eq_sup {n : ℕ} (S : Fin n → EReal) : Finset.univ.fold max (Ideal.ofBits .f32 0xFF800000#32) S = Finset.univ.sup S := by
  rw [ofBits_neg_inf]; rfl

/-- A sum whose terms vanish where there is no score is the same over the window as over all the rows. -/
theorem Shows.sum (h : Shows S V S' V' e seen) (f : EReal → EReal → EReal) (hf : ∀ v, f ⊥ v = 0) :
    ∑ x, f (S' x) (V' x) = ∑ y, f (S y) (V y) := by
  classical
  refine Finset.sum_bij_ne_zero (fun x _ _ => e x) (fun _ _ _ => Finset.mem_univ _) ?_ ?_ ?_
  · intro x _ hx y _ hy exy
    exact h.inj x y (by_contra fun c => hx (by rw [h.dark x c, hf])) (by_contra fun c => hy (by rw [h.dark y c, hf])) exy
  · intro y _ hy
    obtain ⟨x, hx, rfl⟩ := h.onto y (fun c => hy (by rw [c, hf]))
    exact ⟨x, Finset.mem_univ _, by rw [h.score x hx, h.value x hx]; exact hy, rfl⟩
  · intro x _ hx
    have hs : seen x := by_contra fun c => hx (by rw [h.dark x c, hf])
    rw [h.score x hs, h.value x hs]

theorem Shows.top (h : Shows S V S' V' e seen) (sn : EReal) : top S' sn = top S sn := by
  unfold Cert.Claims.top
  rw [fold_eq_sup, fold_eq_sup]
  congr 1
  refine le_antisymm (Finset.sup_le fun x _ => ?_) (Finset.sup_le fun y _ => ?_)
  · by_cases hs : seen x
    · rw [h.score x hs]; exact Finset.le_sup (f := S) (Finset.mem_univ _)
    · rw [h.dark x hs]; exact bot_le
  · by_cases hb : S y = ⊥
    · rw [hb]; exact bot_le
    · obtain ⟨x, hx, rfl⟩ := h.onto y hb
      rw [← h.score x hx]; exact Finset.le_sup (f := S') (Finset.mem_univ _)

/-- The greatest score is a real number where the new row's is and no score is infinite. -/
theorem top_real {n : ℕ} (S : Fin n → EReal) (hS : ∀ x, S x ≠ ⊤) (r : ℝ) : ∃ t : ℝ, top S (r : EReal) = (t : EReal) := by
  have hb : top S (r : EReal) ≠ ⊥ := by
    intro h
    have : (r : EReal) ≤ ⊥ := h ▸ le_max_right _ _
    exact EReal.coe_ne_bot r (le_bot_iff.1 this)
  have ht : top S (r : EReal) ≠ ⊤ := by
    unfold Cert.Claims.top
    rw [fold_eq_sup]
    refine (max_lt ((Finset.sup_lt_iff bot_lt_top).2 fun x _ => lt_of_le_of_ne le_top (hS x)) (EReal.coe_lt_top r)).ne
  exact ⟨_, (EReal.coe_toReal ht hb).symm⟩

theorem exp_nonneg (x : EReal) : 0 ≤ Ideal.exp x := by
  induction x with
  | bot => exact le_rfl
  | top => exact le_top
  | coe r => rw [Ideal.exp_coe]; exact_mod_cast (Real.exp_pos r).le

theorem den_ne_zero {n : ℕ} (S : Fin n → EReal) (hS : ∀ x, S x ≠ ⊤) (r : ℝ) : den S (r : EReal) ≠ 0 := by
  obtain ⟨t, ht⟩ := top_real S hS r
  have h1 : (0 : EReal) < Ideal.exp ((r : EReal) - top S (r : EReal)) := by
    rw [ht, ← EReal.coe_sub, Ideal.exp_coe]; exact_mod_cast Real.exp_pos _
  have h2 : (0 : EReal) ≤ ∑ x, Ideal.exp (S x - top S (r : EReal)) := Finset.sum_nonneg fun x _ => exp_nonneg _
  unfold den
  exact (lt_of_lt_of_le h1 (le_add_of_nonneg_left h2)).ne'

/-- THE WINDOW'S COMBINATION IS THE WHOLE CACHE'S. -/
theorem Shows.mix (h : Shows S V S' V' e seen) (hS : ∀ x, S x ≠ ⊤) (r : ℝ) (vn : EReal) :
    mix S' V' (r : EReal) vn = mix S V (r : EReal) vn := by
  obtain ⟨t, ht⟩ := top_real S hS r
  have hd : den S' (r : EReal) = den S (r : EReal) := by
    unfold den
    rw [h.top]
    refine congrArg (· + _) (h.sum (fun s _ => Ideal.exp (s - Cert.Claims.top S (r : EReal))) fun v => ?_)
    rw [ht, EReal.bot_sub, Ideal.exp_bot]
  unfold Cert.Claims.mix
  rw [hd, h.top]
  refine congrArg (· + _) (h.sum (fun s v => Ideal.div (Ideal.exp (s - Cert.Claims.top S (r : EReal))) (den S (r : EReal)) * v) fun v => ?_)
  rw [ht, EReal.bot_sub, Ideal.exp_bot]
  unfold Ideal.div
  rw [if_neg (den_ne_zero S hS r), zero_mul, zero_mul]

end Shows

end Cert.Claims

end
-- ==== Proof.KernelIdeal.Rows.lean ====
/- What one trip computes of the small inputs, row by row: its queries stacked by head, the new keys and values coded, and
   the scales. -/
module
public import proofs.«01_k».proof.Proof.KernelIdeal.Frame
public import proofs.«01_k».proof.Proof.Claims.Spec
public import Idealize.ShloMosaic.Lib.Pointwise
@[expose] public section
set_option maxRecDepth 65536
set_option maxHeartbeats 4000000
noncomputable section
namespace Cert.KernelIdeal.Hand
open Cert.KernelIdeal Cert.KernelIdeal.Gen
open Idealize.ShloMosaic Idealize.ShloMosaic.TcCoe Idealize.ShloMosaic.Tactic
open Idealize.SL.RA
variable (c : Dev nD)
  (arg0 : Memref sig .tc .smem S3 .i32) (arg1 : Memref sig .tc .vmem S3x1x2048 .bf16)
  (arg2 : Memref sig .tc .vmem S3x4x1x256 .bf16) (arg3 : Memref sig .tc .vmem S3x4x1x256 .bf16)
  (arg4 : Memref sig .tc .vmem S4x256 .f32) (arg5 : Memref sig .tc .smem S4 .f32)
  (f0 : Buf (Elt Ideal) (arg0.view.loc (c : Thread nD τ))) (f1 : Buf (Elt Ideal) (arg1.view.loc (c : Thread nD τ)))
  (f2 : Buf (Elt Ideal) (arg2.view.loc (c : Thread nD τ))) (f3 : Buf (Elt Ideal) (arg3.view.loc (c : Thread nD τ)))
  (f4 : Buf (Elt Ideal) (arg4.view.loc (c : Thread nD τ))) (f5 : Buf (Elt Ideal) (arg5.view.loc (c : Thread nD τ)))

/-! ## Reading a block -/

/-- A load of a block at unit strides reads the array at the offset plus the place in the block. -/
theorem readAt_at {sp : Space} {s : Shape} {e : EltTy} (v : View sig .tc sp s e) {off sz : Fin s.rank → ℕ}
    (hp : ∀ a, off a + sz a ≤ s.size a) (f : v.ty.Contents (Elt Ideal)) (j : (⟨s.rank, sz⟩ : Shape).Idx) (i : s.Idx)
    (hi : ∀ a, (i a).val = off a + (j a).val) :
    View.readAt (Elt Ideal) v (Rect.unit off sz hp).toLoadRect f j = v.read (Elt Ideal) f i := by
  rw [View.readAt_apply]
  refine congrArg (v.read (Elt Ideal) f) (funext fun a => Fin.ext ?_)
  rw [hi]
  show off a + 1 * (j a).val = _
  rw [Nat.one_mul]

/-- A selection whose mask holds. -/
theorem sel_pos {α : Type} {m : BitVec 1} (h : m = 1#1) (a b : α) : Scalar.select m a b = a := by subst h; rfl
/-- A selection whose mask fails. -/
theorem sel_neg {α : Type} {m : BitVec 1} (h : m = 0#1) (a b : α) : Scalar.select m a b = b := by subst h; rfl

/-- Row `i` of the stacked queries is the `i`-th 256 of the batch entry's query. -/
theorem q_row (k : Fin k0_t1_loop.trips) (i : Fin 8) (d : Fin 256) :
    tripRun.sl.v1473 c arg1 pre860 f1 k (ix2 i d) = arg1.view.read (Elt Ideal) f1 (ix3 (bt k) 0 ⟨256 * i.val + d.val, by omega⟩) := by
  fin_cases i <;>
  · pointwise [tripRun.sl.v1473, tripRun.sl.v1465, tripRun.sl.v1457, tripRun.sl.v1449, tripRun.sl.v1441, tripRun.sl.v1433, tripRun.sl.v1425, tripRun.sl.v1417, tripRun.sl.v1416, tripRun.sl.v1415, tripRun.sl.v1412, tripRun.sl.r_1, tripRun.sl.v1414, tripRun.sl.v1413, tripRun.sl.v1411, tripRun.sl.v1056, tripRun.sl.v1424, tripRun.sl.v1423, tripRun.sl.v1420, tripRun.sl.v1422, tripRun.sl.v1421, tripRun.sl.v1419, tripRun.sl.v1065, tripRun.sl.v1432, tripRun.sl.v1431, tripRun.sl.v1428, tripRun.sl.v1430, tripRun.sl.v1429, tripRun.sl.v1427, tripRun.sl.v1067, tripRun.sl.v1440, tripRun.sl.v1439, tripRun.sl.v1436, tripRun.sl.v1438, tripRun.sl.v1437, tripRun.sl.v1435, tripRun.sl.v1372, tripRun.sl.v1448, tripRun.sl.v1447, tripRun.sl.v1444, tripRun.sl.v1446, tripRun.sl.v1445, tripRun.sl.v1443, tripRun.sl.v1442, tripRun.sl.v1456, tripRun.sl.v1455, tripRun.sl.v1452, tripRun.sl.v1454, tripRun.sl.v1453, tripRun.sl.v1451, tripRun.sl.v1450, tripRun.sl.v1464, tripRun.sl.v1463, tripRun.sl.v1460, tripRun.sl.v1462, tripRun.sl.v1461, tripRun.sl.v1459, tripRun.sl.v1458, tripRun.sl.v1472, tripRun.sl.v1471, tripRun.sl.v1468, tripRun.sl.v1470, tripRun.sl.v1469, tripRun.sl.v1467, tripRun.sl.v1466, k0_pay5]
    repeat first
      | refine (sel_neg (by decide) _ _).trans ?_
      | refine (sel_pos (by decide) _ _).trans ?_
    refine readAt_at _ _ _ _ _ (Fin.forall_fin_succ.2 ⟨?_, Fin.forall_fin_two.2 ⟨?_, ?_⟩⟩)
    · rw [k0_off32_eq]; rfl
    · rw [k0_off32_eq]; rfl
    · rw [k0_off32_eq]; simp

/-- A head's row of the new keys or values. -/
theorem read4 {s : Shape} (arg : Memref sig .tc .vmem S3x4x1x256 .bf16) (f : Buf (Elt Ideal) (arg.view.loc (c : Thread nD τ))) (k : Fin k0_t1_loop.trips) (h : Fin 4) (d : Fin 256)
    {off : Fin 4 → ℕ} (ho : off = ![k.val, h.val, 0, 0]) (hp) :
    View.readAt (Elt Ideal) arg.view (Rect.unit (s := S3x4x1x256) off ![1, 1, 1, 256] hp).toLoadRect f (ix4 0 0 0 d) = arg.view.read (Elt Ideal) f (ix4 (bt k) h 0 d) := by
  refine readAt_at _ _ _ _ _ fun a => ?_
  rw [ho]
  fin_cases a <;> simp [ix4]
/-- A head's row of the key scales. -/
theorem readk (f : Buf (Elt Ideal) (arg4.view.loc (c : Thread nD τ))) (h : Fin 4) (d : Fin 256) (hp) :
    View.readAt (Elt Ideal) arg4.view (Rect.unit (s := S4x256) ![h.val, 0] ![1, 256] hp).toLoadRect f (ix2 0 d) = arg4.view.read (Elt Ideal) f (ix2 h d) := by
  refine readAt_at _ _ _ _ _ fun a => ?_
  fin_cases a <;> simp [ix2]
/-- The key scales read whole. -/
theorem readkk (f : Buf (Elt Ideal) (arg4.view.loc (c : Thread nD τ))) (h : Fin 4) (d : Fin 256) (hp) :
    View.readAt (Elt Ideal) arg4.view (Rect.unit (s := S4x256) ![0, 0] ![4, 256] hp).toLoadRect f (ix2 h d) = arg4.view.read (Elt Ideal) f (ix2 h d) := by
  refine readAt_at _ _ _ _ _ fun a => ?_
  fin_cases a <;> simp [ix2]
/-- A head's value scale. -/
theorem readv (f : Buf (Elt Ideal) (arg5.view.loc (c : Thread nD τ))) (h : Fin 4) (hp) (j) :
    View.readAt (Elt Ideal) arg5.view (Rect.unit (s := S4) ![h.val] ![1] hp).toLoadRect f j = arg5.view.read (Elt Ideal) f (ix1 h) := by
  refine readAt_at _ _ _ _ _ fun a => ?_
  fin_cases a
  have : (j 0).val < 1 := (j 0).isLt
  simp [ix1]; omega
/-- Row `i` of the stacked new keys: head `i / 2`'s codes at their scales. -/
theorem knew_row (k : Fin k0_t1_loop.trips) (i : Fin 8) (d : Fin 256) :
    tripRun.sl.v1378 c arg2 arg4 (pre859 c arg4 f4) pre860 f2 f4 k (ix2 i d)
      = Cert.Claims.code (arg2.view.read (Elt Ideal) f2 (ix4 (bt k) ⟨i.val / 2, by omega⟩ 0 d)) (arg4.view.read (Elt Ideal) f4 (ix2 ⟨i.val / 2, by omega⟩ d))
        * arg4.view.read (Elt Ideal) f4 (ix2 ⟨i.val / 2, by omega⟩ d) := by
  fin_cases i <;>
  · pointwise [tripRun.sl.v1378, tripRun.sl.r_18, tripRun.sl.r_17, tripRun.sl.r_14, tripRun.sl.r_11, tripRun.sl.r_8, tripRun.sl.v1081, tripRun.sl.v1080, tripRun.sl.v1079, tripRun.sl.r_5, tripRun.sl.r_2, tripRun.sl.v1078, tripRun.sl.v1077, tripRun.sl.v1076, tripRun.sl.v1056, tripRun.sl.v1074, tripRun.sl.v1073, tripRun.sl.v1065, tripRun.sl.v1071, tripRun.sl.v1070, tripRun.sl.v1068, tripRun.sl.v1067, tripRun.sl.v1066, tripRun.sl.v1059, tripRun.sl.v1058, tripRun.sl.v1057, tripRun.sl.v1377, tripRun.sl.v1376, tripRun.sl.r_23, tripRun.sl.r_20, tripRun.sl.v1375, tripRun.sl.v1374, tripRun.sl.v1373, tripRun.sl.v1372, tripRun.sl.v1371, tripRun.sl.v1370, tripRun.sl.v1368, tripRun.sl.v1363, k0_pay14, k0_pay15, k0_pay16, k0_pay22, k0_pay27, k0_pay31, k0_pay36, k0_pay37, k0_pay38, k0_pay40, k0_pay44, k0_pay45, k0_pay46, k0_pay47, k0_pay7, k0_pay9, k0_pay10, k0_pay136]
    repeat first
      | refine (sel_neg (by decide) _ _).trans ?_
      | refine (sel_pos (by decide) _ _).trans ?_
    unfold Cert.Claims.code
    refine congrArg₂ (· * ·) (congrArg (fun z => min _ (max _ (Ideal.liftRound Ideal.roundHalfEven z))) (congrArg₂ Ideal.div ?_ ?_)) ?_
    · exact read4 c (s := S4) arg2 f2 k ⟨_, _⟩ d (by first | exact k0_off33_eq k | exact k0_off34_eq k | exact k0_off35_eq k | exact k0_off36_eq k) _
    · exact readk c arg4 f4 ⟨_, _⟩ d _
    · exact readkk c arg4 f4 ⟨_, _⟩ d _
/-- Row `i` of the stacked new values: head `i / 2`'s codes. -/
theorem vnew_row (k : Fin k0_t1_loop.trips) (i : Fin 8) (d : Fin 256) :
    tripRun.sl.v1409 c arg3 arg5 pre860 f3 f5 k (ix2 i d)
      = Cert.Claims.code (arg3.view.read (Elt Ideal) f3 (ix4 (bt k) ⟨i.val / 2, by omega⟩ 0 d)) (arg5.view.read (Elt Ideal) f5 (ix1 ⟨i.val / 2, by omega⟩)) := by
  fin_cases i <;>
  · pointwise [tripRun.sl.v1409, tripRun.sl.r_19, tripRun.sl.r_16, tripRun.sl.r_15, tripRun.sl.r_12, tripRun.sl.cst_741, tripRun.sl.r_13, tripRun.sl.r_9, tripRun.sl.r_6, tripRun.sl.r_7, tripRun.sl.v1065, tripRun.sl.v1102, tripRun.sl.v1070, tripRun.sl.v1056, tripRun.sl.v1068, tripRun.sl.v1067, tripRun.sl.v1097, tripRun.sl.v1090, tripRun.sl.v1058, tripRun.sl.v1057, tripRun.sl.v1086, tripRun.sl.v1085, tripRun.sl.v1083, tripRun.sl.r_4, tripRun.sl.r_3, tripRun.sl.v1408, tripRun.sl.v1407, tripRun.sl.r_22, tripRun.sl.r_21, tripRun.sl.v1406, tripRun.sl.v1405, tripRun.sl.v1404, tripRun.sl.v1372, tripRun.sl.v1402, tripRun.sl.v1401, k0_pay11, k0_pay21, k0_pay23, k0_pay28, k0_pay29, k0_pay30, k0_pay32, k0_pay33, k0_pay39, k0_pay41, k0_pay8]
    repeat first
      | refine (sel_neg (by decide) _ _).trans ?_
      | refine (sel_pos (by decide) _ _).trans ?_
    unfold Cert.Claims.code
    refine congrArg (fun z => min _ (max _ (Ideal.liftRound Ideal.roundHalfEven z))) (congrArg₂ Ideal.div ?_ ?_)
    · exact read4 c (s := S4) arg3 f3 k ⟨_, _⟩ d (by first | exact k0_off33_eq k | exact k0_off34_eq k | exact k0_off35_eq k | exact k0_off36_eq k) _
    · exact readv c arg5 f5 ⟨_, _⟩ _ _
/-- Row `i` of the column of value scales is head `i / 2`'s. -/
theorem vscale_row (i : Fin 8) :
    k0_pay1 (pre948 c arg5 f5) (k0_pay145 pre860) (k0_pay146 pre860) k0_pay147 (vsc c arg5 f5 ![3] inb_S4_S1_3) (ix2 i 0)
      = arg5.view.read (Elt Ideal) f5 (ix1 ⟨i.val / 2, by omega⟩) := by
  fin_cases i <;>
  · pointwise [k0_pay1, k0_pay145, k0_pay146, k0_pay147, k0_pay137, k0_pay138, k0_pay139, k0_pay140, k0_pay141, k0_pay142, k0_pay143, k0_pay144]
    repeat first
      | refine (sel_neg (by decide) _ _).trans ?_
      | refine (sel_pos (by decide) _ _).trans ?_
    exact readv c arg5 f5 ⟨_, _⟩ _ _

end Cert.KernelIdeal.Hand

end
-- ==== Proof.Claims.Merge.lean ====
/- Joining two blocks of 32 rows of bytes word by word: under the mask of the first `r` rows the result's rows are the one
   block's below `r` and the other's from there on. -/
module
public import Idealize.ShloMosaic.Lib.BitcastFour
public import Idealize.ShloMosaic.Lib.Pointwise
@[expose] public section
set_option maxRecDepth 65536
noncomputable section
namespace Cert.Claims
open Idealize.ShloMosaic

/-- Words read as bytes: row `w` of the bytes is byte `w % 4` of the word in row `w / 4`. -/
theorem byte_of_word (x : (⟨2, ![8, 256]⟩ : Shape).Idx → BitVec 32) (h : (⟨2, ![8, 256]⟩ : Shape).Bitcasts 32 ⟨2, ![32, 256]⟩ 8)
    (w : Fin 32) (d : Fin 256) (q : ℕ) (hq : q < 8) :
    (bitcast ⟨2, ![32, 256]⟩ 8 x h (ix2 w d)).getLsbD q = (x (ix2 ⟨w.val / 4, by omega⟩ d)).getLsbD (8 * (w.val % 4) + q) := by
  rw [bitcast_getLsbD x h _ q hq (by decide)]
  have hr : (⟨2, ![32, 256]⟩ : Shape).row (ix2 w d) = w.val := rfl
  have e1 : ((⟨2, ![32, 256]⟩ : Shape).row (ix2 w d) * 8 + q) / 32 = w.val / 4 := by rw [hr]; omega
  have e2 : ((⟨2, ![32, 256]⟩ : Shape).row (ix2 w d) * 8 + q) % 32 = 8 * (w.val % 4) + q := by rw [hr]; omega
  rw [e2, h.srcIdx_congr _ e1]
  · congr 2
    funext c
    match c with
    | ⟨0, _⟩ => exact Fin.ext (h.srcIdx_row _ _ _ ⟨0, Nat.zero_lt_two⟩ rfl)
    | ⟨1, _⟩ => exact Fin.ext (h.srcIdx_other _ _ _ ⟨1, Nat.one_lt_two⟩ (by show ¬ 1 + 2 = 2; omega))
  · intro a ha
    match a with
    | ⟨0, _⟩ => show w.val / 4 < 8; omega
    | ⟨1, _⟩ => exact absurd (show 1 + 2 = 2 from ha) (by omega)

/-- Bytes read as words: byte `w % 4` of the word in row `w / 4` is row `w`. -/
theorem word_of_byte (x : (⟨2, ![32, 256]⟩ : Shape).Idx → BitVec 8) (h : (⟨2, ![32, 256]⟩ : Shape).Bitcasts 8 ⟨2, ![8, 256]⟩ 32)
    (w : Fin 32) (d : Fin 256) (q : ℕ) (hq : q < 8) :
    (bitcast ⟨2, ![8, 256]⟩ 32 x h (ix2 ⟨w.val / 4, by omega⟩ d)).getLsbD (8 * (w.val % 4) + q) = (x (ix2 w d)).getLsbD q := by
  have e := bitcast_8_32_getLsbD_ix2 x h ⟨w.val / 4, by omega⟩ d (8 * (w.val % 4) + q) (by omega) w (by show w.val = 4 * (w.val / 4) + _; omega)
  rw [show (8 * (w.val % 4) + q) % 8 = q by omega] at e
  exact e

/-- The mask word of row `i` where the first `r` byte rows are taken. -/
def maskW (r : BitVec 32) (i : BitVec 32) : BitVec 32 :=
  Scalar.select (IntOp.cmpi .sge (IntOp.minsi 4#32 (IntOp.maxsi 0#32 (IntOp.subi r (IntOp.muli 4#32 i)))) 4#32) 4294967295#32
    (IntOp.subi (IntOp.shli .vector 1#32 (IntOp.muli 8#32 (IntOp.minsi 4#32 (IntOp.maxsi 0#32 (IntOp.subi r (IntOp.muli 4#32 i)))))) 1#32)

theorem maskW_bit : ∀ (r : Fin 32) (i : Fin 8) (b : Fin 4) (q : Fin 8),
    (maskW (BitVec.ofNat 32 r.val) (BitVec.ofNat 32 i.val)).getLsbD (8 * b.val + q.val) = decide (4 * i.val + b.val < r.val) := by
  decide +kernel

/-- THE MERGE of two blocks, row by row. -/
theorem merge_at (m m' : (⟨2, ![8, 256]⟩ : Shape).Idx → BitVec 32) (new cur : (⟨2, ![32, 256]⟩ : Shape).Idx → BitVec 8)
    (r : ℕ) (hr : r < 32) (hm : ∀ i d, m (ix2 i d) = maskW (BitVec.ofNat 32 r) (BitVec.ofNat 32 i.val)) (hm' : ∀ i d, m' (ix2 i d) = IntOp.xori (m (ix2 i d)) 4294967295#32)
    (h h' h'' w d) :
    bitcast ⟨2, ![32, 256]⟩ 8 (ori (andi (bitcast ⟨2, ![8, 256]⟩ 32 new h) m) (andi (bitcast ⟨2, ![8, 256]⟩ 32 cur h') m')) h'' (ix2 w d)
      = if w.val < r then new (ix2 w d) else cur (ix2 w d) := by
  apply BitVec.eq_of_getLsbD_eq
  intro q hq
  rw [byte_of_word _ _ w d q hq]
  show (IntOp.ori (IntOp.andi (bitcast ⟨2, ![8, 256]⟩ 32 new h (ix2 _ d)) (m (ix2 _ d))) (IntOp.andi (bitcast ⟨2, ![8, 256]⟩ 32 cur h' (ix2 _ d)) (m' (ix2 _ d)))).getLsbD _ = _
  rw [hm', hm]
  have hb := maskW_bit ⟨r, hr⟩ ⟨w.val / 4, by omega⟩ ⟨w.val % 4, by omega⟩ ⟨q, hq⟩
  have hw : 4 * (w.val / 4) + w.val % 4 = w.val := by omega
  simp only [hw] at hb
  have hall : (4294967295#32 : BitVec 32).getLsbD (8 * (w.val % 4) + q) = true :=
    (by decide +kernel : ∀ (b : Fin 4) (q : Fin 8), (4294967295#32 : BitVec 32).getLsbD (8 * b.val + q.val) = true) ⟨w.val % 4, by omega⟩ ⟨q, hq⟩
  simp only [IntOp.ori, IntOp.andi, IntOp.xori, BitVec.getLsbD_or, BitVec.getLsbD_and, BitVec.getLsbD_xor, hb, hall]
  rw [word_of_byte new h w d q hq, word_of_byte cur h' w d q hq]
  by_cases hc : w.val < r <;> simp [hc]

end Cert.Claims
end
-- ==== Proof.KernelIdeal.Window.lean ====
/- What a trip's scratch windows hold when they are read: the cache rows the transfers brought, with the first rows replaced
   by the rows past the window's end where those are wanted. -/
module
public import proofs.«01_k».proof.Proof.KernelIdeal.Rows
public import proofs.«01_k».proof.Proof.Claims.Merge
@[expose] public section
set_option maxRecDepth 65536
noncomputable section
namespace Cert.KernelIdeal.Hand
open Cert.KernelIdeal Cert.KernelIdeal.Gen
open Idealize.ShloMosaic Idealize.ShloMosaic.TcCoe Idealize.ShloMosaic.Tactic
open Idealize.SL.RA
open Cert.Claims

/-- The merge as the kernel writes it: the first `r` of 32 rows are the new ones. -/
theorem merged_at (m m' : IVec S8x256 32) (cur new : Vec Ideal S1x1x32x256 .i8) (r : ℕ) (hr : r < 32)
    (hm : ∀ i d, m (ix2 i d) = maskW (BitVec.ofNat 32 r) (BitVec.ofNat 32 i.val)) (hm' : ∀ i d, m' (ix2 i d) = IntOp.xori (m (ix2 i d)) 4294967295#32)
    (w : Fin 32) (d : Fin 256) :
    shapeCast S1x1x32x256 (bitcast S32x256 8 (ori (andi (bitcast S8x256 32 (shapeCast S32x256 new shapeCasts_S1x1x32x256_S32x256) bitcasts_S32x256_w8_S8x256_w32) m)
        (andi (bitcast S8x256 32 (shapeCast S32x256 cur shapeCasts_S1x1x32x256_S32x256) bitcasts_S32x256_w8_S8x256_w32) m')) bitcasts_S8x256_w32_S32x256_w8)
        shapeCasts_S32x256_S1x1x32x256 (ix4 0 0 w d)
      = if w.val < r then new (ix4 0 0 w d) else cur (ix4 0 0 w d) := by
  have e : ∀ x : Vec Ideal S1x1x32x256 .i8, shapeCast S32x256 x shapeCasts_S1x1x32x256_S32x256 (ix2 w d) = x (ix4 0 0 w d) := fun x =>
    shapeCast_apply _ _ _ _ (by simp [Shape.rowMajor_val_two, Shape.rowMajor_val_four, ix2, ix4])
  refine (shapeCast_apply _ _ _ (ix2 w d) (by simp [Shape.rowMajor_val_two, Shape.rowMajor_val_four, ix2, ix4])).trans ?_
  refine (merge_at m m' _ _ r hr hm hm' _ _ _ w d).trans ?_
  rw [e, e]

/-- A window of 4096 rows whose first 32 are stored merged. -/
theorem merge_read (M : Memref sig .tc .vmem S3x4x4096x256 .i8) (b : Fin 3) (h : Fin 4) (g : M.view.ty.Contents (Elt Ideal)) (pay : Vec Ideal S1x1x32x256 .i8)
    {off : Fin 4 → ℕ} (ho : off = ![b.val, h.val, 0, 0]) (hp : ∀ a, off a + S1x1x32x256.size a ≤ S3x4x4096x256.size a) (r : ℕ) (hr : r < 32)
    (A B : ℕ → Fin 256 → BitVec 8) (hg : ∀ (w : Fin 4096) d, M.view.read (Elt Ideal) g (ix4 b h w d) = A w.val d)
    (hpay : ∀ (w : Fin 32) d, pay (ix4 0 0 w d) = if w.val < r then B w.val d else A w.val d) (w : Fin 4096) (d : Fin 256) :
    M.view.read (Elt Ideal) (View.write (Elt Ideal) (M.access (Rect.unit (s := S3x4x4096x256) off S1x1x32x256.size hp)) g pay Finset.univ) (ix4 b h w d)
      = if w.val < r then B w.val d else A w.val d := by
  subst ho
  show M.view.read (Elt Ideal) (M.view.writes (Elt Ideal) g [⟨Rect.unit (s := S3x4x4096x256) ![b.val, h.val, 0, 0] S1x1x32x256.size hp, pay⟩]) (ix4 b h w d) = _
  by_cases hw : w.val < 32
  · refine (View.read_writes_cons_hit_of_coords M.view g (Rect.unit (s := S3x4x4096x256) ![b.val, h.val, 0, 0] S1x1x32x256.size hp) pay [] (ix4 (0 : Fin 1) (0 : Fin 1) (⟨w.val, hw⟩ : Fin 32) d) (ix4 b h w d) ?_).trans (hpay ⟨w.val, hw⟩ d)
    intro a; fin_cases a <;> simp [ix4, Rect.unit]
  · refine (View.read_writes_cons_miss_of_axis M.view g (⟨Rect.unit (s := S3x4x4096x256) ![b.val, h.val, 0, 0] S1x1x32x256.size hp, pay⟩ : View.Piece (Elt Ideal) S3x4x4096x256 .i8) [] (ix4 b h w d) 2 0 32 rfl rfl rfl (Or.inr ?_)).trans ?_
    · show 0 + 32 ≤ w.val; omega
    · rw [if_neg (by omega)]; exact hg w d

theorem casts_main : S1x1x4096x256.ShapeCasts S4096x256 := by decide
theorem casts_extra : S1x4x32x256.ShapeCasts S4x32x256 := by decide
theorem pos_main {w : Fin 4096} {d : Fin 256} : (S1x1x4096x256.rowMajor (ix4 (0 : Fin 1) (0 : Fin 1) w d)).val = (S4096x256.rowMajor (ix2 w d)).val := by
  simp [Shape.rowMajor_val_two, Shape.rowMajor_val_four, ix2, ix4]
theorem pos_extra {h : Fin 4} {w : Fin 32} {d : Fin 256} : (S1x4x32x256.rowMajor (ix4 (0 : Fin 1) h w d)).val = (S4x32x256.rowMajor (ix3 h w d)).val := by
  simp [Shape.rowMajor_val_three, Shape.rowMajor_val_four, ix3, ix4]

/-- A head's 4096 rows read through their window of an array. -/
theorem sq_read {sp : Space} {n : Fin 4 → ℕ} (M : Memref sig .tc sp ⟨4, n⟩ .i8) (off : Fin 4 → ℕ) (hp : ∀ a, off a + S1x1x4096x256.size a ≤ n a)
    (hr) (f : M.view.ty.Contents (Elt Ideal)) (w : Fin 4096) (d : Fin 256) (i : (⟨4, n⟩ : Shape).Idx)
    (h0 : (i 0).val = off 0) (h1 : (i 1).val = off 1) (h2 : (i 2).val = off 2 + w.val) (h3 : (i 3).val = off 3 + d.val) :
    ((M.slice (Rect.unit (s := ⟨4, n⟩) off S1x1x4096x256.size hp) hr).squeeze S4096x256 squeezes_S1x1x4096x256_S4096x256).view.read (Elt Ideal) f (ix2 w d)
      = M.view.read (Elt Ideal) f i := by
  refine (congrFun (Memref.read_squeeze_slice M (Rect.unit (s := ⟨4, n⟩) off S1x1x4096x256.size hp) hr squeezes_S1x1x4096x256_S4096x256 casts_main f) (ix2 w d)).trans ?_
  refine (shapeCast_apply _ casts_main _ (ix4 (0 : Fin 1) (0 : Fin 1) w d) pos_main).trans ?_
  refine readAt_at _ _ _ _ _ fun a => ?_
  fin_cases a
  · exact h0
  · exact h1
  · exact h2
  · exact h3
/-- Every head's 32 rows read through their window of an array. -/
theorem sqx_read {sp : Space} {n : Fin 4 → ℕ} (M : Memref sig .tc sp ⟨4, n⟩ .i8) (off : Fin 4 → ℕ) (hp : ∀ a, off a + S1x4x32x256.size a ≤ n a)
    (hr) (f : M.view.ty.Contents (Elt Ideal)) (h : Fin 4) (w : Fin 32) (d : Fin 256) (i : (⟨4, n⟩ : Shape).Idx)
    (h0 : (i 0).val = off 0) (h1 : (i 1).val = off 1 + h.val) (h2 : (i 2).val = off 2 + w.val) (h3 : (i 3).val = off 3 + d.val) :
    ((M.slice (Rect.unit (s := ⟨4, n⟩) off S1x4x32x256.size hp) hr).squeeze S4x32x256 squeezes_S1x4x32x256_S4x32x256).view.read (Elt Ideal) f (ix3 h w d)
      = M.view.read (Elt Ideal) f i := by
  refine (congrFun (Memref.read_squeeze_slice M (Rect.unit (s := ⟨4, n⟩) off S1x4x32x256.size hp) hr squeezes_S1x4x32x256_S4x32x256 casts_extra f) (ix3 h w d)).trans ?_
  refine (shapeCast_apply _ casts_extra _ (ix4 (0 : Fin 1) h w d) pos_extra).trans ?_
  refine readAt_at _ _ _ _ _ fun a => ?_
  fin_cases a
  · exact h0
  · exact h1
  · exact h2
  · exact h3

/-- A window stored whole reads back as what was stored. -/
theorem whole_read {s : Shape} {sp : Space} (v : View sig .tc sp s .i8) (D : v.ty.Contents (Elt Ideal)) (X : s.Idx → BitVec 8) (x : s.Idx) :
    v.read (Elt Ideal) (v.writes (Elt Ideal) D [(⟨Rect.whole s, X⟩ : View.Piece (Elt Ideal) s .i8)]) x = X x :=
  View.read_writes_cons_hit_of_coords v D (Rect.whole s) X [] x x (by intro a; simp [Rect.whole, Rect.unit])

section Got
variable (c : Dev nD) (arg0 : Memref sig .tc .smem S3 .i32) (f0 : Buf (Elt Ideal) (arg0.view.loc (c : Thread nD τ)))
  (hlen : ∀ (r : LoadRect S3) j, InRange (arg0.view.readAt (Elt Ideal) r f0 j))
  (XK : Buf (Elt Ideal) (ckM.view.loc (c : Thread nD τ))) (XV : Buf (Elt Ideal) (cvM.view.loc (c : Thread nD τ))) (b : Fin 3) (D : Held Ideal c b)

/-- Row `p` of a cache. -/
abbrev crow (X : S3x4x65536x256.Idx → BitVec 8) (b : Fin 3) (h : Fin 4) (p : ℕ) (d : Fin 256) : BitVec 8 := X (ix4 b h (⟨p % 65536, by omega⟩ : Fin 65536) d)

theorem got_k (G : Held Ideal c b) (h : Fin 4) (hG : G.k h = (kslot b h).view.writes (Elt Ideal) (D.k h) [(⟨Rect.whole S4096x256, ReadAs.same.apply ((rows ckM (lenOk c arg0 f0 hlen b) b h).view.read (Elt Ideal) XK)⟩ : View.Piece (Elt Ideal) S4096x256 .i8)])
    (w : Fin 4096) (d : Fin 256) :
    kM.view.read (Elt Ideal) (G.k h) (ix4 b h w d) = crow (ckM.view.read (Elt Ideal) XK) b h ((baseW (lenW c arg0 f0 b)).toNat + w.val) d := by
  have hb := base_eq (lenOk c arg0 f0 hlen b); have hl := len_le (lenOk c arg0 f0 hlen b)
  refine (sq_read kM (mainOff b h) (mainOff_inb b h) (fun _ => rfl) _ w d (ix4 b h w d) rfl rfl (by simp [ix4]) (by simp [ix4])).symm.trans ?_
  rw [hG]
  refine (whole_read (kslot b h).view _ _ (ix2 w d)).trans ?_
  refine sq_read ckM _ (rowsInb (lenOk c arg0 f0 hlen b) b h) (fun _ => rfl) _ w d _ rfl rfl ?_ (by simp [ix4])
  show ((baseW (lenW c arg0 f0 b)).toNat + w.val) % 65536 = (baseW (lenW c arg0 f0 b)).toNat + w.val
  rw [Nat.mod_eq_of_lt (by omega)]
theorem landing_k (h : Fin 4) : (landing c arg0 f0 hlen XK XV b D).k h = (kslot b h).view.writes (Elt Ideal) (D.k h) [(⟨Rect.whole S4096x256, ReadAs.same.apply ((rows ckM (lenOk c arg0 f0 hlen b) b h).view.read (Elt Ideal) XK)⟩ : View.Piece (Elt Ideal) S4096x256 .i8)] := by
  with_reducible rfl

theorem got_v (G : Held Ideal c b) (h : Fin 4) (hG : G.v h = (vslot b h).view.writes (Elt Ideal) (D.v h) [(⟨Rect.whole S4096x256, ReadAs.same.apply ((rows cvM (lenOk c arg0 f0 hlen b) b h).view.read (Elt Ideal) XV)⟩ : View.Piece (Elt Ideal) S4096x256 .i8)])
    (w : Fin 4096) (d : Fin 256) :
    vM.view.read (Elt Ideal) (G.v h) (ix4 b h w d) = crow (cvM.view.read (Elt Ideal) XV) b h ((baseW (lenW c arg0 f0 b)).toNat + w.val) d := by
  have hb := base_eq (lenOk c arg0 f0 hlen b); have hl := len_le (lenOk c arg0 f0 hlen b)
  refine (sq_read vM (mainOff b h) (mainOff_inb b h) (fun _ => rfl) _ w d (ix4 b h w d) rfl rfl (by simp [ix4]) (by simp [ix4])).symm.trans ?_
  rw [hG]
  refine (whole_read (vslot b h).view _ _ (ix2 w d)).trans ?_
  refine sq_read cvM _ (rowsInb (lenOk c arg0 f0 hlen b) b h) (fun _ => rfl) _ w d _ rfl rfl ?_ (by simp [ix4])
  show ((baseW (lenW c arg0 f0 b)).toNat + w.val) % 65536 = (baseW (lenW c arg0 f0 b)).toNat + w.val
  rw [Nat.mod_eq_of_lt (by omega)]
theorem landing_v (h : Fin 4) : (landing c arg0 f0 hlen XK XV b D).v h = (vslot b h).view.writes (Elt Ideal) (D.v h) [(⟨Rect.whole S4096x256, ReadAs.same.apply ((rows cvM (lenOk c arg0 f0 hlen b) b h).view.read (Elt Ideal) XV)⟩ : View.Piece (Elt Ideal) S4096x256 .i8)] := by
  with_reducible rfl
theorem got_kx (h : Fin 4) (w : Fin 32) (d : Fin 256) :
    kxM.view.read (Elt Ideal) (landing c arg0 f0 hlen XK XV b D).kx (ix4 b h w d) = crow (ckM.view.read (Elt Ideal) XK) b h ((extraW (lenW c arg0 f0 b)).toNat + w.val) d := by
  have hb := extra_eq (lenOk c arg0 f0 hlen b)
  refine (sqx_read kxM (extraOff b) (extraOff_inb b) (fun _ => rfl) _ h w d (ix4 b h w d) rfl (by simp [ix4]) (by simp [ix4]) (by simp [ix4])).symm.trans ?_
  refine (whole_read (kxslot b).view _ _ (ix3 h w d)).trans ?_
  refine sqx_read ckM _ (xrowsInb (lenOk c arg0 f0 hlen b) b) (fun _ => rfl) _ h w d _ rfl (by simp [ix4]) ?_ (by simp [ix4])
  show ((extraW (lenW c arg0 f0 b)).toNat + w.val) % 65536 = (extraW (lenW c arg0 f0 b)).toNat + w.val
  rw [Nat.mod_eq_of_lt (by omega)]
theorem got_vx (h : Fin 4) (w : Fin 32) (d : Fin 256) :
    vxM.view.read (Elt Ideal) (landing c arg0 f0 hlen XK XV b D).vx (ix4 b h w d) = crow (cvM.view.read (Elt Ideal) XV) b h ((extraW (lenW c arg0 f0 b)).toNat + w.val) d := by
  have hb := extra_eq (lenOk c arg0 f0 hlen b)
  refine (sqx_read vxM (extraOff b) (extraOff_inb b) (fun _ => rfl) _ h w d (ix4 b h w d) rfl (by simp [ix4]) (by simp [ix4]) (by simp [ix4])).symm.trans ?_
  refine (whole_read (vxslot b).view _ _ (ix3 h w d)).trans ?_
  refine sqx_read cvM _ (xrowsInb (lenOk c arg0 f0 hlen b) b) (fun _ => rfl) _ h w d _ rfl (by simp [ix4]) ?_ (by simp [ix4])
  show ((extraW (lenW c arg0 f0 b)).toNat + w.val) % 65536 = (extraW (lenW c arg0 f0 b)).toNat + w.val
  rw [Nat.mod_eq_of_lt (by omega)]
end Got

end Cert.KernelIdeal.Hand
end
-- ==== Proof.KernelIdeal.Merged.lean ====
/- The eight windows of one trip after their first rows are stored merged. -/
module
public import proofs.«01_k».proof.Proof.KernelIdeal.Window
@[expose] public section
set_option maxRecDepth 65536
noncomputable section
namespace Cert.KernelIdeal.Hand
open Cert.KernelIdeal Cert.KernelIdeal.Gen
open Idealize.ShloMosaic Idealize.ShloMosaic.TcCoe Idealize.ShloMosaic.Tactic
open Idealize.SL.RA
open Cert.Claims

/-- A load of rows of one head's window. -/
theorem rows_at {sp : Space} {N n : ℕ} (M : Memref sig .tc sp ⟨4, ![3, 4, N, 256]⟩ .i8) (b : Fin 3) (h : Fin 4) (o : ℕ) {off : Fin 4 → ℕ} (ho : off = ![b.val, h.val, o, 0])
    (hp : ∀ a, off a + (![1, 1, n, 256] : Fin 4 → ℕ) a ≤ (![3, 4, N, 256] : Fin 4 → ℕ) a) (f : M.view.ty.Contents (Elt Ideal)) (w : Fin n) (d : Fin 256) (w' : Fin N) (hw : w'.val = o + w.val) :
    View.readAt (Elt Ideal) M.view (Rect.unit (s := ⟨4, ![3, 4, N, 256]⟩) off ![1, 1, n, 256] hp).toLoadRect f (ix4 0 0 w d) = M.view.read (Elt Ideal) f (ix4 b h w' d) := by
  subst ho
  refine readAt_at _ _ _ _ _ fun a => ?_
  fin_cases a
  · rfl
  · rfl
  · exact hw
  · simp [ix4]

section Trip
variable (c : Dev nD) (arg0 : Memref sig .tc .smem S3 .i32) (f0 : Buf (Elt Ideal) (arg0.view.loc (c : Thread nD τ)))
  (k : Fin k0_t1_loop.trips) (G : Held Ideal c (bt k)) (r : ℕ) (hr : r < 32) (hw : tripRun.sl.v1006 c arg0 f0 k = BitVec.ofNat 32 r)
  (A B : Fin 4 → ℕ → Fin 256 → BitVec 8)

include hw in
theorem mask_at (i : Fin 8) (d : Fin 256) : tripRun.sl.v1553 c arg0 f0 k (ix2 i d) = maskW (BitVec.ofNat 32 r) (BitVec.ofNat 32 i.val) := by
  rw [← hw]
  pointwise [tripRun.sl.v1553, tripRun.sl.v1552, tripRun.sl.v1551, tripRun.sl.v1549, tripRun.sl.v1548, tripRun.sl.v1547, tripRun.sl.v1546, tripRun.sl.v1545, tripRun.sl.v1543, tripRun.sl.v1541, tripRun.sl.v1540, tripRun.sl.v1539, tripRun.sl.v1538, tripRun.sl.v1536, tripRun.sl.v1535]
  rfl
include hr hw in
theorem HK0_at (hA : ∀ h (w : Fin 4096) d, kM.view.read (Elt Ideal) (G.k h) (ix4 (bt k) h w d) = A h w.val d)
    (hB : ∀ h (w : Fin 32) d, kxM.view.read (Elt Ideal) G.kx (ix4 (bt k) h w d) = B h w.val d) (w : Fin 4096) (d : Fin 256) :
    kM.view.read (Elt Ideal) (tripRun.sl.HK0_dst_w1 c arg0 f0 k G) (ix4 (bt k) 0 w d) = if w.val < r then B 0 w.val d else A 0 w.val d :=
  merge_read kM (bt k) 0 (G.k 0) _ (k0_off45_eq k) _ r hr (A 0) (B 0) (hA 0) (fun w d =>
    (merged_at (tripRun.sl.v1553 c arg0 f0 k) (tripRun.sl.v1563 c arg0 f0 k) _ _ r hr (mask_at c arg0 f0 k r hw) (fun _ _ => rfl) w d).trans
         (if_congr Iff.rfl ((rows_at kxM (bt k) 0 0 (k0_off46_eq k) _ _ w d w (Nat.zero_add _).symm).trans (hB 0 w d)) ((rows_at kM (bt k) 0 0 (k0_off45_eq k) _ _ w d ⟨w.val, by omega⟩ (Nat.zero_add _).symm).trans (hA 0 ⟨w.val, by omega⟩ d)))) w d
include hr hw in
theorem HK1_at (hA : ∀ h (w : Fin 4096) d, kM.view.read (Elt Ideal) (G.k h) (ix4 (bt k) h w d) = A h w.val d)
    (hB : ∀ h (w : Fin 32) d, kxM.view.read (Elt Ideal) G.kx (ix4 (bt k) h w d) = B h w.val d) (w : Fin 4096) (d : Fin 256) :
    kM.view.read (Elt Ideal) (tripRun.sl.HK1_dst_w2 c arg0 f0 k G) (ix4 (bt k) 1 w d) = if w.val < r then B 1 w.val d else A 1 w.val d :=
  merge_read kM (bt k) 1 (G.k 1) _ (k0_off55_eq k) _ r hr (A 1) (B 1) (hA 1) (fun w d =>
    (merged_at (tripRun.sl.v1553 c arg0 f0 k) (tripRun.sl.v1563 c arg0 f0 k) _ _ r hr (mask_at c arg0 f0 k r hw) (fun _ _ => rfl) w d).trans
         (if_congr Iff.rfl ((rows_at kxM (bt k) 1 0 (k0_off56_eq k) _ _ w d w (Nat.zero_add _).symm).trans (hB 1 w d)) ((rows_at kM (bt k) 1 0 (k0_off55_eq k) _ _ w d ⟨w.val, by omega⟩ (Nat.zero_add _).symm).trans (hA 1 ⟨w.val, by omega⟩ d)))) w d
include hr hw in
theorem HK2_at (hA : ∀ h (w : Fin 4096) d, kM.view.read (Elt Ideal) (G.k h) (ix4 (bt k) h w d) = A h w.val d)
    (hB : ∀ h (w : Fin 32) d, kxM.view.read (Elt Ideal) G.kx (ix4 (bt k) h w d) = B h w.val d) (w : Fin 4096) (d : Fin 256) :
    kM.view.read (Elt Ideal) (tripRun.sl.HK2_dst_w3 c arg0 f0 k G) (ix4 (bt k) 2 w d) = if w.val < r then B 2 w.val d else A 2 w.val d :=
  merge_read kM (bt k) 2 (G.k 2) _ (k0_off65_eq k) _ r hr (A 2) (B 2) (hA 2) (fun w d => by
      unfold k0_pay75 tripRun.sl.v1854 tripRun.sl.v1853 tripRun.sl.v1852 tripRun.sl.v1850 tripRun.sl.v1849 tripRun.sl.v1848 tripRun.sl.v1845 tripRun.sl.v1844
      exact (merged_at (tripRun.sl.v1553 c arg0 f0 k) (tripRun.sl.v1563 c arg0 f0 k) _ _ r hr (mask_at c arg0 f0 k r hw) (fun _ _ => rfl) w d).trans
         (if_congr Iff.rfl ((rows_at kxM (bt k) 2 0 (k0_off66_eq k) _ _ w d w (Nat.zero_add _).symm).trans (hB 2 w d)) ((rows_at kM (bt k) 2 0 (k0_off65_eq k) _ _ w d ⟨w.val, by omega⟩ (Nat.zero_add _).symm).trans (hA 2 ⟨w.val, by omega⟩ d)))) w d
include hr hw in
theorem HK3_at (hA : ∀ h (w : Fin 4096) d, kM.view.read (Elt Ideal) (G.k h) (ix4 (bt k) h w d) = A h w.val d)
    (hB : ∀ h (w : Fin 32) d, kxM.view.read (Elt Ideal) G.kx (ix4 (bt k) h w d) = B h w.val d) (w : Fin 4096) (d : Fin 256) :
    kM.view.read (Elt Ideal) (tripRun.sl.HK3_dst_w4 c arg0 f0 k G) (ix4 (bt k) 3 w d) = if w.val < r then B 3 w.val d else A 3 w.val d :=
  merge_read kM (bt k) 3 (G.k 3) _ (k0_off75_eq k) _ r hr (A 3) (B 3) (hA 3) (fun w d =>
    (merged_at (tripRun.sl.v1553 c arg0 f0 k) (tripRun.sl.v1563 c arg0 f0 k) _ _ r hr (mask_at c arg0 f0 k r hw) (fun _ _ => rfl) w d).trans
         (if_congr Iff.rfl ((rows_at kxM (bt k) 3 0 (k0_off76_eq k) _ _ w d w (Nat.zero_add _).symm).trans (hB 3 w d)) ((rows_at kM (bt k) 3 0 (k0_off75_eq k) _ _ w d ⟨w.val, by omega⟩ (Nat.zero_add _).symm).trans (hA 3 ⟨w.val, by omega⟩ d)))) w d
include hr hw in
theorem HV0_at (hA : ∀ h (w : Fin 4096) d, vM.view.read (Elt Ideal) (G.v h) (ix4 (bt k) h w d) = A h w.val d)
    (hB : ∀ h (w : Fin 32) d, vxM.view.read (Elt Ideal) G.vx (ix4 (bt k) h w d) = B h w.val d) (w : Fin 4096) (d : Fin 256) :
    vM.view.read (Elt Ideal) (tripRun.sl.HV0_dst_w5 c arg0 f0 k G) (ix4 (bt k) 0 w d) = if w.val < r then B 0 w.val d else A 0 w.val d :=
  merge_read vM (bt k) 0 (G.v 0) _ (k0_off89_eq k) _ r hr (A 0) (B 0) (hA 0) (fun w d =>
    (merged_at (tripRun.sl.v1553 c arg0 f0 k) (tripRun.sl.v1563 c arg0 f0 k) _ _ r hr (mask_at c arg0 f0 k r hw) (fun _ _ => rfl) w d).trans
         (if_congr Iff.rfl ((rows_at vxM (bt k) 0 0 (k0_off90_eq k) _ _ w d w (Nat.zero_add _).symm).trans (hB 0 w d)) ((rows_at vM (bt k) 0 0 (k0_off89_eq k) _ _ w d ⟨w.val, by omega⟩ (Nat.zero_add _).symm).trans (hA 0 ⟨w.val, by omega⟩ d)))) w d
include hr hw in
theorem HV1_at (hA : ∀ h (w : Fin 4096) d, vM.view.read (Elt Ideal) (G.v h) (ix4 (bt k) h w d) = A h w.val d)
    (hB : ∀ h (w : Fin 32) d, vxM.view.read (Elt Ideal) G.vx (ix4 (bt k) h w d) = B h w.val d) (w : Fin 4096) (d : Fin 256) :
    vM.view.read (Elt Ideal) (tripRun.sl.HV1_dst_w6 c arg0 f0 k G) (ix4 (bt k) 1 w d) = if w.val < r then B 1 w.val d else A 1 w.val d :=
  merge_read vM (bt k) 1 (G.v 1) _ (k0_off99_eq k) _ r hr (A 1) (B 1) (hA 1) (fun w d =>
    (merged_at (tripRun.sl.v1553 c arg0 f0 k) (tripRun.sl.v1563 c arg0 f0 k) _ _ r hr (mask_at c arg0 f0 k r hw) (fun _ _ => rfl) w d).trans
         (if_congr Iff.rfl ((rows_at vxM (bt k) 1 0 (k0_off100_eq k) _ _ w d w (Nat.zero_add _).symm).trans (hB 1 w d)) ((rows_at vM (bt k) 1 0 (k0_off99_eq k) _ _ w d ⟨w.val, by omega⟩ (Nat.zero_add _).symm).trans (hA 1 ⟨w.val, by omega⟩ d)))) w d
include hr hw in
theorem HV2_at (hA : ∀ h (w : Fin 4096) d, vM.view.read (Elt Ideal) (G.v h) (ix4 (bt k) h w d) = A h w.val d)
    (hB : ∀ h (w : Fin 32) d, vxM.view.read (Elt Ideal) G.vx (ix4 (bt k) h w d) = B h w.val d) (w : Fin 4096) (d : Fin 256) :
    vM.view.read (Elt Ideal) (tripRun.sl.HV2_dst_w7 c arg0 f0 k G) (ix4 (bt k) 2 w d) = if w.val < r then B 2 w.val d else A 2 w.val d :=
  merge_read vM (bt k) 2 (G.v 2) _ (k0_off109_eq k) _ r hr (A 2) (B 2) (hA 2) (fun w d =>
    (merged_at (tripRun.sl.v1553 c arg0 f0 k) (tripRun.sl.v1563 c arg0 f0 k) _ _ r hr (mask_at c arg0 f0 k r hw) (fun _ _ => rfl) w d).trans
         (if_congr Iff.rfl ((rows_at vxM (bt k) 2 0 (k0_off110_eq k) _ _ w d w (Nat.zero_add _).symm).trans (hB 2 w d)) ((rows_at vM (bt k) 2 0 (k0_off109_eq k) _ _ w d ⟨w.val, by omega⟩ (Nat.zero_add _).symm).trans (hA 2 ⟨w.val, by omega⟩ d)))) w d
include hr hw in
theorem HV3_at (hA : ∀ h (w : Fin 4096) d, vM.view.read (Elt Ideal) (G.v h) (ix4 (bt k) h w d) = A h w.val d)
    (hB : ∀ h (w : Fin 32) d, vxM.view.read (Elt Ideal) G.vx (ix4 (bt k) h w d) = B h w.val d) (w : Fin 4096) (d : Fin 256) :
    vM.view.read (Elt Ideal) (tripRun.sl.HV3_dst_w8 c arg0 f0 k G) (ix4 (bt k) 3 w d) = if w.val < r then B 3 w.val d else A 3 w.val d :=
  merge_read vM (bt k) 3 (G.v 3) _ (k0_off119_eq k) _ r hr (A 3) (B 3) (hA 3) (fun w d => by
      unfold k0_pay124 tripRun.sl.v2608 tripRun.sl.v2607 tripRun.sl.v2606 tripRun.sl.v2604 tripRun.sl.v2603 tripRun.sl.v2602 tripRun.sl.v2599 tripRun.sl.v2598
      exact (merged_at (tripRun.sl.v1553 c arg0 f0 k) (tripRun.sl.v1563 c arg0 f0 k) _ _ r hr (mask_at c arg0 f0 k r hw) (fun _ _ => rfl) w d).trans
         (if_congr Iff.rfl ((rows_at vxM (bt k) 3 0 (k0_off120_eq k) _ _ w d w (Nat.zero_add _).symm).trans (hB 3 w d)) ((rows_at vM (bt k) 3 0 (k0_off119_eq k) _ _ w d ⟨w.val, by omega⟩ (Nat.zero_add _).symm).trans (hA 3 ⟨w.val, by omega⟩ d)))) w d
end Trip
end Cert.KernelIdeal.Hand
end
-- ==== Proof.Claims.Attn.lean ====
/- One entry of the decode step's result, as the mathematics states it. -/
module
public import proofs.«01_k».proof.Proof.Claims.Spec
@[expose] public section
noncomputable section
namespace Cert.Claims
open Idealize.ShloMosaic

/-- A cached code as a number. -/
abbrev num (w : BitVec 8) : EReal := FloatOps.sitofp (F := Ideal) FTy.bf16 w

/-- One entry of the attention's result: the query row `q` against the key codes `kc` at the scales `ks` and the new key
    `kn`, where `n` rows are cached; combined over a column of value codes `vc` at the scale `vs` and the new value `vn`. -/
def attn (n : BitVec 32) (q : Fin 256 → EReal) (kc : Fin 65536 → Fin 256 → BitVec 8) (ks kn : Fin 256 → EReal)
    (vc : Fin 65536 → BitVec 8) (vs vn : EReal) : EReal :=
  mix (fun p => score n (BitVec.ofNat 32 p.val) (cap (∑ x, q x * (num (kc p x) * ks x)))) (fun p => num (vc p))
    (cap (∑ x, q x * (code (kn x) (ks x) * ks x))) (code vn vs) * vs

end Cert.Claims
end
-- ==== Proof.KernelIdeal.Scores.lean ====
/- The row of scores a trip accumulates, head by head: each head's queries against its merged window of keys. -/
module
public import proofs.«01_k».proof.Proof.KernelIdeal.Merged
public import proofs.«01_k».proof.Proof.Claims.Attn
@[expose] public section
set_option maxRecDepth 65536
noncomputable section
namespace Cert.KernelIdeal.Hand
open Cert.KernelIdeal Cert.KernelIdeal.Gen
open Idealize.ShloMosaic Idealize.ShloMosaic.TcCoe Idealize.ShloMosaic.Tactic
open Idealize.SL.RA
open Cert.Claims

/-! ## The buffer of scores, by its stores -/

/-- What the scores' buffer holds at a place after the stores `L`. -/
def sread (L : List (View.Piece (Elt Ideal) S8x4096 .f32)) (i : Fin 8) (y : Fin 4096) : EReal :=
  sM.view.read (Elt Ideal) (sM.view.writes (Elt Ideal) sM.view.junk L) (ix2 i y)

section Stores
variable (L : List (View.Piece (Elt Ideal) S8x4096 .f32)) (w : Vec Ideal S8x1024 .f32) (o : ℕ)
  (hp : ∀ a, (![0, o] : Fin 2 → ℕ) a + S8x1024.size a ≤ S8x4096.size a) (i : Fin 8)

theorem sread_hit (x : Fin 1024) (y : Fin 4096) (hy : y.val = o + x.val) :
    sread (⟨Rect.unit (s := S8x4096) ![0, o] S8x1024.size hp, w⟩ :: L) i y = w (ix2 i x) := by
  unfold sread
  refine View.read_writes_cons_hit_of_coords sM.view _ (Rect.unit (s := S8x4096) ![0, o] S8x1024.size hp) w L (ix2 i x) (ix2 i y) fun a => ?_
  fin_cases a
  · simp [ix2, Rect.unit]
  · simp [ix2, Rect.unit, hy]
theorem sread_miss (y : Fin 4096) (hy : y.val < o ∨ o + 1024 ≤ y.val) :
    sread (⟨Rect.unit (s := S8x4096) ![0, o] S8x1024.size hp, w⟩ :: L) i y = sread L i y := by
  unfold sread
  exact View.read_writes_cons_miss_of_axis sM.view _ (⟨Rect.unit (s := S8x4096) ![0, o] S8x1024.size hp, w⟩ : View.Piece (Elt Ideal) S8x4096 .f32) L (ix2 i y) 1 o 1024 rfl rfl rfl hy
theorem sread_load (x : Fin 1024) (y : Fin 4096) (hy : y.val = o + x.val) :
    sM.view.readCov L (Rect.unit (s := S8x4096) ![0, o] S8x1024.size hp).toLoadRect (ix2 i x) = sread L i y := by
  unfold sread View.readCov
  refine readAt_at _ _ _ _ _ fun a => ?_
  fin_cases a
  · simp [ix2]
  · simp [ix2, hy]
end Stores

/-- Four blocks stored one after the other hold one row. -/
theorem sread_four (L : List (View.Piece (Elt Ideal) S8x4096 .f32)) (w0 w1 w2 w3 : Vec Ideal S8x1024 .f32) (V : Fin 8 → ℕ → EReal) (i : Fin 8)
    (h0 : ∀ x : Fin 1024, w0 (ix2 i x) = V i (0 + x.val)) (h1 : ∀ x : Fin 1024, w1 (ix2 i x) = V i (1024 + x.val))
    (h2 : ∀ x : Fin 1024, w2 (ix2 i x) = V i (2048 + x.val)) (h3 : ∀ x : Fin 1024, w3 (ix2 i x) = V i (3072 + x.val)) (y : Fin 4096) :
    sread (⟨Rect.unit (s := S8x4096) ![0, 3072] S8x1024.size inb_S8x4096_S8x1024_0_3072, w3⟩ :: ⟨Rect.unit (s := S8x4096) ![0, 2048] S8x1024.size inb_S8x4096_S8x1024_0_2048, w2⟩
        :: ⟨Rect.unit (s := S8x4096) ![0, 1024] S8x1024.size inb_S8x4096_S8x1024_0_1024, w1⟩ :: ⟨Rect.unit (s := S8x4096) ![0, 0] S8x1024.size inb_S8x4096_S8x1024_0_0, w0⟩ :: L) i y = V i y.val := by
  have hy := y.isLt
  by_cases c3 : 3072 ≤ y.val
  · rw [sread_hit _ _ 3072 _ i ⟨y.val - 3072, by omega⟩ y (by show y.val = 3072 + (y.val - 3072); omega), h3]
    show V i (3072 + (y.val - 3072)) = _; congr 1; omega
  rw [sread_miss _ _ 3072 _ i y (by omega)]
  by_cases c2 : 2048 ≤ y.val
  · rw [sread_hit _ _ 2048 _ i ⟨y.val - 2048, by omega⟩ y (by show y.val = 2048 + (y.val - 2048); omega), h2]
    show V i (2048 + (y.val - 2048)) = _; congr 1; omega
  rw [sread_miss _ _ 2048 _ i y (by omega)]
  by_cases c1 : 1024 ≤ y.val
  · rw [sread_hit _ _ 1024 _ i ⟨y.val - 1024, by omega⟩ y (by show y.val = 1024 + (y.val - 1024); omega), h1]
    show V i (1024 + (y.val - 1024)) = _; congr 1; omega
  rw [sread_miss _ _ 1024 _ i y (by omega), sread_hit _ _ 0 _ i ⟨y.val, by omega⟩ y (by show y.val = 0 + y.val; omega), h0]
  show V i (0 + y.val) = _; congr 1; omega

/-! ## One head's term -/

/-- The queries of head `h`, zero on the other heads' rows. -/
def qm (q : FVec Ideal S8x256 .f32) (h : Fin 4) (i : Fin 8) (d : Fin 256) : EReal := if i.val / 2 = h.val then q (ix2 i d) else 0
/-- Head `h`'s term of the score of row `y` of the merged window `K`. -/
def term (q : FVec Ideal S8x256 .f32) (s : FVec Ideal S4x256 .bf16) (K : Fin 4 → ℕ → Fin 256 → BitVec 8) (h : Fin 4) (i : Fin 8) (y : ℕ) : EReal :=
  ∑ d, qm q h i d * (num (K h y d) * s (ix2 h d))

theorem term_sum (q : FVec Ideal S8x256 .f32) (s : FVec Ideal S4x256 .bf16) (K : Fin 4 → ℕ → Fin 256 → BitVec 8) (h : Fin 4) (i : Fin 8) (x : Fin 1024) (o : ℕ)
    (q' : FVec Ideal S8x256 .bf16) (kb : Vec Ideal S1x1x1024x256 .i8) (hq : ∀ d, q' (ix2 i d) = qm q h i d) (hk : ∀ d, kb (ix4 0 0 x d) = K h (o + x.val) d) :
    ∑ d, q' (ix2 i d) * (num (kb (ix4 0 0 x d)) * s (ix2 h d)) = term q s K h i (o + x.val) := by
  unfold term
  exact Finset.sum_congr rfl fun d _ => by rw [hq, hk]

theorem qm0 (q : FVec Ideal S8x256 .f32) (i : Fin 8) (d : Fin 256) :
    k0_pay60 pre860 q 2#32 (tripRun.sl.v1083 pre860) (tripRun.sl.v1090 pre860) 1#32 0#32 (ix2 i d) = qm q 0 i d := by
  unfold qm
  fin_cases i <;>
  · pointwise [k0_pay60, tripRun.sl.v1083, tripRun.sl.v1090, tripRun.sl.v1086, tripRun.sl.v1085, tripRun.sl.v1058, tripRun.sl.v1056, tripRun.sl.v1067]
    first
      | refine (sel_neg (by decide) _ _).trans ?_
      | refine (sel_pos (by decide) _ _).trans ?_
    first
      | rfl
      | simp [Ideal.ofBits, Ideal.ieee]
theorem qm1 (q : FVec Ideal S8x256 .f32) (i : Fin 8) (d : Fin 256) : k0_pay68 pre860 q (ix2 i d) = qm q 1 i d := by
  unfold qm
  fin_cases i <;>
  · pointwise [k0_pay68]
    first
      | refine (sel_neg (by decide) _ _).trans ?_
      | refine (sel_pos (by decide) _ _).trans ?_
    first
      | rfl
      | simp [Ideal.ofBits, Ideal.ieee]
theorem qm2 (q : FVec Ideal S8x256 .f32) (i : Fin 8) (d : Fin 256) : k0_pay76 pre860 q (ix2 i d) = qm q 2 i d := by
  unfold qm
  fin_cases i <;>
  · pointwise [k0_pay76]
    first
      | refine (sel_neg (by decide) _ _).trans ?_
      | refine (sel_pos (by decide) _ _).trans ?_
    first
      | rfl
      | simp [Ideal.ofBits, Ideal.ieee]
theorem qm3 (q : FVec Ideal S8x256 .f32) (i : Fin 8) (d : Fin 256) : k0_pay85 pre860 q 2#32 tripRun.sl.v1067 (ix2 i d) = qm q 3 i d := by
  unfold qm
  fin_cases i <;>
  · pointwise [k0_pay85, tripRun.sl.v1067]
    first
      | refine (sel_neg (by decide) _ _).trans ?_
      | refine (sel_pos (by decide) _ _).trans ?_
    first
      | rfl
      | simp [Ideal.ofBits, Ideal.ieee]

/-! ## The payloads -/

section Pays
variable (q : FVec Ideal S8x256 .bf16) (s : FVec Ideal S4x256 .bf16) (kb : Vec Ideal S1x1x1024x256 .i8) (prev : Vec Ideal S8x1024 .f32) (i : Fin 8) (x : Fin 1024)
variable (q0 : FVec Ideal S8x256 .f32) (a b : IVec S8x1 32)
theorem pay61_at : k0_pay61 s pre860 q0 2#32 a b 1#32 0#32 kb (ix2 i x) = ∑ d : Fin 256, k0_pay60 pre860 q0 2#32 a b 1#32 0#32 (ix2 i d) * (num (kb (ix4 0 0 x d)) * s (ix2 0 d)) := by
  generalize h : k0_pay60 pre860 q0 2#32 a b 1#32 0#32 = q'
  unfold k0_pay61
  rw [h]
  pointwise []
theorem pay62_at : k0_pay62 s pre860 q0 2#32 a b 1#32 0#32 kb (ix2 i x) = ∑ d : Fin 256, k0_pay60 pre860 q0 2#32 a b 1#32 0#32 (ix2 i d) * (num (kb (ix4 0 0 x d)) * s (ix2 0 d)) := by
  generalize h : k0_pay60 pre860 q0 2#32 a b 1#32 0#32 = q'
  unfold k0_pay62
  rw [h]
  pointwise []
theorem pay63_at : k0_pay63 s q kb (ix2 i x) = ∑ d : Fin 256, q (ix2 i d) * (num (kb (ix4 0 0 x d)) * s (ix2 0 d)) := by
  pointwise [k0_pay63]
theorem pay64_at : k0_pay64 s q kb (ix2 i x) = ∑ d : Fin 256, q (ix2 i d) * (num (kb (ix4 0 0 x d)) * s (ix2 0 d)) := by
  pointwise [k0_pay64]
theorem pay69_at : k0_pay69 s q kb prev (ix2 i x) = prev (ix2 i x) + ∑ d : Fin 256, q (ix2 i d) * (num (kb (ix4 0 0 x d)) * s (ix2 1 d)) := by
  pointwise [k0_pay69]
theorem pay70_at : k0_pay70 s q kb prev (ix2 i x) = prev (ix2 i x) + ∑ d : Fin 256, q (ix2 i d) * (num (kb (ix4 0 0 x d)) * s (ix2 1 d)) := by
  pointwise [k0_pay70]
theorem pay73_at : k0_pay73 s q kb prev (ix2 i x) = prev (ix2 i x) + ∑ d : Fin 256, q (ix2 i d) * (num (kb (ix4 0 0 x d)) * s (ix2 1 d)) := by
  pointwise [k0_pay73]
theorem pay72_at : k0_pay72 (k0_pay71 s q kb prev) (ix2 i x) = prev (ix2 i x) + ∑ d : Fin 256, q (ix2 i d) * (num (kb (ix4 0 0 x d)) * s (ix2 1 d)) := by
  pointwise [k0_pay72, k0_pay71]
theorem pay78_at : k0_pay78 (k0_pay77 s pre860 q0 kb) prev (ix2 i x) = prev (ix2 i x) + ∑ d : Fin 256, k0_pay76 pre860 q0 (ix2 i d) * (num (kb (ix4 0 0 x d)) * s (ix2 2 d)) := by
  generalize h : k0_pay76 pre860 q0 = q'
  unfold k0_pay78 k0_pay77
  rw [h]
  pointwise []
theorem pay79_at : k0_pay79 s q kb prev (ix2 i x) = prev (ix2 i x) + ∑ d : Fin 256, q (ix2 i d) * (num (kb (ix4 0 0 x d)) * s (ix2 2 d)) := by
  pointwise [k0_pay79]
theorem pay80_at : k0_pay80 s q kb prev (ix2 i x) = prev (ix2 i x) + ∑ d : Fin 256, q (ix2 i d) * (num (kb (ix4 0 0 x d)) * s (ix2 2 d)) := by
  pointwise [k0_pay80]
theorem pay82_at : k0_pay82 s q (k0_pay81 kb) prev (ix2 i x) = prev (ix2 i x) + ∑ d : Fin 256, q (ix2 i d) * (num (kb (ix4 0 0 x d)) * s (ix2 2 d)) := by
  pointwise [k0_pay82, k0_pay81]
theorem pay86_at : k0_pay86 s pre860 q0 2#32 a kb prev (ix2 i x) = prev (ix2 i x) + ∑ d : Fin 256, k0_pay85 pre860 q0 2#32 a (ix2 i d) * (num (kb (ix4 0 0 x d)) * s (ix2 3 d)) := by
  generalize h : k0_pay85 pre860 q0 2#32 a = q'
  unfold k0_pay86
  rw [h]
  pointwise []
theorem pay87_at : k0_pay87 s q kb prev (ix2 i x) = prev (ix2 i x) + ∑ d : Fin 256, q (ix2 i d) * (num (kb (ix4 0 0 x d)) * s (ix2 3 d)) := by
  pointwise [k0_pay87]
theorem pay88_at : k0_pay88 s q kb prev (ix2 i x) = prev (ix2 i x) + ∑ d : Fin 256, q (ix2 i d) * (num (kb (ix4 0 0 x d)) * s (ix2 3 d)) := by
  pointwise [k0_pay88]
theorem pay90_at : k0_pay90 (k0_pay89 s q kb prev) (ix2 i x) = prev (ix2 i x) + ∑ d : Fin 256, q (ix2 i d) * (num (kb (ix4 0 0 x d)) * s (ix2 3 d)) := by
  pointwise [k0_pay90, k0_pay89]
end Pays
end Cert.KernelIdeal.Hand
end
-- ==== Proof.KernelIdeal.Heads.lean ====
/- The scores of one trip, all four heads: row by row against the merged window of keys. -/
module
public import proofs.«01_k».proof.Proof.KernelIdeal.Scores
@[expose] public section
set_option maxRecDepth 65536
noncomputable section
namespace Cert.KernelIdeal.Hand
open Cert.KernelIdeal Cert.KernelIdeal.Gen
open Idealize.ShloMosaic Idealize.ShloMosaic.TcCoe Idealize.ShloMosaic.Tactic
open Idealize.SL.RA
open Cert.Claims

/-- Row `y` of a merged window. -/
def merged (r : ℕ) (A B : Fin 4 → ℕ → Fin 256 → BitVec 8) (h : Fin 4) (y : ℕ) (d : Fin 256) : BitVec 8 := if y < r then B h y d else A h y d

/-- The score of row `y` after the heads up to `n`. -/
def upto (q : FVec Ideal S8x256 .f32) (s : FVec Ideal S4x256 .bf16) (K : Fin 4 → ℕ → Fin 256 → BitVec 8) : ℕ → Fin 8 → ℕ → EReal
  | 0, i, y => term q s K 0 i y
  | 1, i, y => term q s K 0 i y + term q s K 1 i y
  | 2, i, y => term q s K 0 i y + term q s K 1 i y + term q s K 2 i y
  | _, i, y => term q s K 0 i y + term q s K 1 i y + term q s K 2 i y + term q s K 3 i y

section Trip
variable (c : Dev nD) (arg0 : Memref sig .tc .smem S3 .i32) (f0 : Buf (Elt Ideal) (arg0.view.loc (c : Thread nD τ)))
  (arg1 : Memref sig .tc .vmem S3x1x2048 .bf16) (f1 : Buf (Elt Ideal) (arg1.view.loc (c : Thread nD τ)))
  (s : FVec Ideal S4x256 .bf16)
  (k : Fin k0_t1_loop.trips) (G : Held Ideal c (bt k)) (r : ℕ) (hr : r < 32) (hw : tripRun.sl.v1006 c arg0 f0 k = BitVec.ofNat 32 r)
  (A B : Fin 4 → ℕ → Fin 256 → BitVec 8)
  (hA : ∀ h (w : Fin 4096) d, kM.view.read (Elt Ideal) (G.k h) (ix4 (bt k) h w d) = A h w.val d)
  (hB : ∀ h (w : Fin 32) d, kxM.view.read (Elt Ideal) G.kx (ix4 (bt k) h w d) = B h w.val d)

/-- A trip's scores buffer after a head. -/
abbrev qs : FVec Ideal S8x256 .f32 := tripRun.sl.v1473 c arg1 pre860 f1 k

include hr hw hA hB in
theorem scores0 (i : Fin 8) (y : Fin 4096) :
    sread (tripRun.sl.HS_4 c arg0 arg1 s pre860 f0 f1 k G) i y = upto (qs c arg1 f1 k) s (merged r A B) 0 i y.val := by
  have hk : ∀ (o : ℕ) (off : Fin 4 → ℕ) (ho : off = ![(bt k).val, 0, o, 0]) (hp) (x : Fin 1024) (hx : o + x.val < 4096) (d : Fin 256),
      View.readAt (Elt Ideal) kM.view (Rect.unit (s := S3x4x4096x256) off S1x1x1024x256.size hp).toLoadRect (tripRun.sl.HK0_dst_w1 c arg0 f0 k G) (ix4 0 0 x d)
        = merged r A B 0 (o + x.val) d := fun o off ho hp x hx d =>
    (rows_at kM (bt k) 0 o ho hp _ x d ⟨o + x.val, hx⟩ rfl).trans (HK0_at c arg0 f0 k G r hr hw A B hA hB ⟨o + x.val, hx⟩ d)
  refine sread_four [] _ _ _ _ (upto (qs c arg1 f1 k) s (merged r A B) 0) i (fun x => ?_) (fun x => ?_) (fun x => ?_) (fun x => ?_) y
  · have hx := x.isLt
    exact (pay61_at s _ i x _ _ _).trans (term_sum (qs c arg1 f1 k) s (merged r A B) 0 i x 0 _ _ (fun d => qm0 _ i d) (fun d => hk 0 _ (k0_off47_eq k) _ x (by omega) d))
  · have hx := x.isLt
    exact (pay62_at s _ i x _ _ _).trans (term_sum (qs c arg1 f1 k) s (merged r A B) 0 i x 1024 _ _ (fun d => qm0 _ i d) (fun d => hk 1024 _ (k0_off48_eq k) _ x (by omega) d))
  · have hx := x.isLt
    exact (pay63_at _ s _ i x).trans (term_sum (qs c arg1 f1 k) s (merged r A B) 0 i x 2048 _ _ (fun d => qm0 _ i d) (fun d => hk 2048 _ (k0_off49_eq k) _ x (by omega) d))
  · have hx := x.isLt
    exact (pay64_at _ s _ i x).trans (term_sum (qs c arg1 f1 k) s (merged r A B) 0 i x 3072 _ _ (fun d => qm0 _ i d) (fun d => hk 3072 _ (k0_off50_eq k) _ x (by omega) d))
include hr hw hA hB in
theorem scores1 (i : Fin 8) (y : Fin 4096) :
    sread (tripRun.sl.HS_8 c arg0 arg1 s pre860 f0 f1 k G) i y = upto (qs c arg1 f1 k) s (merged r A B) 1 i y.val := by
  have hk : ∀ (o : ℕ) (off : Fin 4 → ℕ) (ho : off = ![(bt k).val, 1, o, 0]) (hp) (x : Fin 1024) (hx : o + x.val < 4096) (d : Fin 256),
      View.readAt (Elt Ideal) kM.view (Rect.unit (s := S3x4x4096x256) off S1x1x1024x256.size hp).toLoadRect (tripRun.sl.HK1_dst_w2 c arg0 f0 k G) (ix4 0 0 x d)
        = merged r A B 1 (o + x.val) d := fun o off ho hp x hx d =>
    (rows_at kM (bt k) 1 o ho hp _ x d ⟨o + x.val, hx⟩ rfl).trans (HK1_at c arg0 f0 k G r hr hw A B hA hB ⟨o + x.val, hx⟩ d)
  have hl : ∀ y, sread (tripRun.sl.HS_4 c arg0 arg1 s pre860 f0 f1 k G) i y = upto (qs c arg1 f1 k) s (merged r A B) 0 i y.val := fun y => scores0 c arg0 f0 arg1 f1 s k G r hr hw A B hA hB i y
  have l0 : ∀ x : Fin 1024, tripRun.sl.v1750 c arg0 arg1 s pre860 f0 f1 k G (ix2 i x) = upto (qs c arg1 f1 k) s (merged r A B) 0 i (0 + x.val) := fun x => by
    have hx := x.isLt
    refine (sread_load _ 0 _ i x ⟨0 + x.val, by omega⟩ rfl).trans ?_
    exact hl ⟨0 + x.val, by omega⟩
  have l1 : ∀ x : Fin 1024, tripRun.sl.v1763 c arg0 arg1 s pre860 f0 f1 k G (ix2 i x) = upto (qs c arg1 f1 k) s (merged r A B) 0 i (1024 + x.val) := fun x => by
    have hx := x.isLt
    refine (sread_load _ 1024 _ i x ⟨1024 + x.val, by omega⟩ rfl).trans ?_
    refine (sread_miss _ _ 0 _ i ⟨1024 + x.val, by omega⟩ (by show 1024 + x.val < _ ∨ _ ≤ 1024 + x.val; omega)).trans ?_
    exact hl ⟨1024 + x.val, by omega⟩
  have l2 : ∀ x : Fin 1024, tripRun.sl.v1776 c arg0 arg1 s pre860 f0 f1 k G (ix2 i x) = upto (qs c arg1 f1 k) s (merged r A B) 0 i (2048 + x.val) := fun x => by
    have hx := x.isLt
    refine (sread_load _ 2048 _ i x ⟨2048 + x.val, by omega⟩ rfl).trans ?_
    refine (sread_miss _ _ 1024 _ i ⟨2048 + x.val, by omega⟩ (by show 2048 + x.val < _ ∨ _ ≤ 2048 + x.val; omega)).trans ?_
    refine (sread_miss _ _ 0 _ i ⟨2048 + x.val, by omega⟩ (by show 2048 + x.val < _ ∨ _ ≤ 2048 + x.val; omega)).trans ?_
    exact hl ⟨2048 + x.val, by omega⟩
  have l3 : ∀ x : Fin 1024, tripRun.sl.v1789 c arg0 arg1 s pre860 f0 f1 k G (ix2 i x) = upto (qs c arg1 f1 k) s (merged r A B) 0 i (3072 + x.val) := fun x => by
    have hx := x.isLt
    refine (sread_load _ 3072 _ i x ⟨3072 + x.val, by omega⟩ rfl).trans ?_
    refine (sread_miss _ _ 2048 _ i ⟨3072 + x.val, by omega⟩ (by show 3072 + x.val < _ ∨ _ ≤ 3072 + x.val; omega)).trans ?_
    refine (sread_miss _ _ 1024 _ i ⟨3072 + x.val, by omega⟩ (by show 3072 + x.val < _ ∨ _ ≤ 3072 + x.val; omega)).trans ?_
    refine (sread_miss _ _ 0 _ i ⟨3072 + x.val, by omega⟩ (by show 3072 + x.val < _ ∨ _ ≤ 3072 + x.val; omega)).trans ?_
    exact hl ⟨3072 + x.val, by omega⟩
  refine sread_four (tripRun.sl.HS_4 c arg0 arg1 s pre860 f0 f1 k G) _ _ _ _ (upto (qs c arg1 f1 k) s (merged r A B) 1) i (fun x => ?_) (fun x => ?_) (fun x => ?_) (fun x => ?_) y
  · have hx := x.isLt
    exact (pay69_at _ s _ _ i x).trans (congrArg₂ (fun a b : EReal => a + b) (l0 x) (term_sum (qs c arg1 f1 k) s (merged r A B) 1 i x 0 _ _ (fun d => qm1 _ i d) (fun d => hk 0 _ (k0_off57_eq k) _ x (by omega) d)))
  · have hx := x.isLt
    exact (pay70_at _ s _ _ i x).trans (congrArg₂ (fun a b : EReal => a + b) (l1 x) (term_sum (qs c arg1 f1 k) s (merged r A B) 1 i x 1024 _ _ (fun d => qm1 _ i d) (fun d => hk 1024 _ (k0_off58_eq k) _ x (by omega) d)))
  · have hx := x.isLt
    exact (pay72_at _ s _ _ i x).trans (congrArg₂ (fun a b : EReal => a + b) (l2 x) (term_sum (qs c arg1 f1 k) s (merged r A B) 1 i x 2048 _ _ (fun d => qm1 _ i d) (fun d => hk 2048 _ (k0_off59_eq k) _ x (by omega) d)))
  · have hx := x.isLt
    exact (pay73_at _ s _ _ i x).trans (congrArg₂ (fun a b : EReal => a + b) (l3 x) (term_sum (qs c arg1 f1 k) s (merged r A B) 1 i x 3072 _ _ (fun d => qm1 _ i d) (fun d => hk 3072 _ (k0_off60_eq k) _ x (by omega) d)))
include hr hw hA hB in
theorem scores2 (i : Fin 8) (y : Fin 4096) :
    sread (tripRun.sl.HS_12 c arg0 arg1 s pre860 f0 f1 k G) i y = upto (qs c arg1 f1 k) s (merged r A B) 2 i y.val := by
  have hk : ∀ (o : ℕ) (off : Fin 4 → ℕ) (ho : off = ![(bt k).val, 2, o, 0]) (hp) (x : Fin 1024) (hx : o + x.val < 4096) (d : Fin 256),
      View.readAt (Elt Ideal) kM.view (Rect.unit (s := S3x4x4096x256) off S1x1x1024x256.size hp).toLoadRect (tripRun.sl.HK2_dst_w3 c arg0 f0 k G) (ix4 0 0 x d)
        = merged r A B 2 (o + x.val) d := fun o off ho hp x hx d =>
    (rows_at kM (bt k) 2 o ho hp _ x d ⟨o + x.val, hx⟩ rfl).trans (HK2_at c arg0 f0 k G r hr hw A B hA hB ⟨o + x.val, hx⟩ d)
  have hl : ∀ y, sread (tripRun.sl.HS_8 c arg0 arg1 s pre860 f0 f1 k G) i y = upto (qs c arg1 f1 k) s (merged r A B) 1 i y.val := fun y => scores1 c arg0 f0 arg1 f1 s k G r hr hw A B hA hB i y
  have l0 : ∀ x : Fin 1024, tripRun.sl.v1898 c arg0 arg1 s pre860 f0 f1 k G (ix2 i x) = upto (qs c arg1 f1 k) s (merged r A B) 1 i (0 + x.val) := fun x => by
    have hx := x.isLt
    refine (sread_load _ 0 _ i x ⟨0 + x.val, by omega⟩ rfl).trans ?_
    exact hl ⟨0 + x.val, by omega⟩
  have l1 : ∀ x : Fin 1024, tripRun.sl.v1911 c arg0 arg1 s pre860 f0 f1 k G (ix2 i x) = upto (qs c arg1 f1 k) s (merged r A B) 1 i (1024 + x.val) := fun x => by
    have hx := x.isLt
    refine (sread_load _ 1024 _ i x ⟨1024 + x.val, by omega⟩ rfl).trans ?_
    refine (sread_miss _ _ 0 _ i ⟨1024 + x.val, by omega⟩ (by show 1024 + x.val < _ ∨ _ ≤ 1024 + x.val; omega)).trans ?_
    exact hl ⟨1024 + x.val, by omega⟩
  have l2 : ∀ x : Fin 1024, tripRun.sl.v1924 c arg0 arg1 s pre860 f0 f1 k G (ix2 i x) = upto (qs c arg1 f1 k) s (merged r A B) 1 i (2048 + x.val) := fun x => by
    have hx := x.isLt
    refine (sread_load _ 2048 _ i x ⟨2048 + x.val, by omega⟩ rfl).trans ?_
    refine (sread_miss _ _ 1024 _ i ⟨2048 + x.val, by omega⟩ (by show 2048 + x.val < _ ∨ _ ≤ 2048 + x.val; omega)).trans ?_
    refine (sread_miss _ _ 0 _ i ⟨2048 + x.val, by omega⟩ (by show 2048 + x.val < _ ∨ _ ≤ 2048 + x.val; omega)).trans ?_
    exact hl ⟨2048 + x.val, by omega⟩
  have l3 : ∀ x : Fin 1024, tripRun.sl.v1937 c arg0 arg1 s pre860 f0 f1 k G (ix2 i x) = upto (qs c arg1 f1 k) s (merged r A B) 1 i (3072 + x.val) := fun x => by
    have hx := x.isLt
    refine (sread_load _ 3072 _ i x ⟨3072 + x.val, by omega⟩ rfl).trans ?_
    refine (sread_miss _ _ 2048 _ i ⟨3072 + x.val, by omega⟩ (by show 3072 + x.val < _ ∨ _ ≤ 3072 + x.val; omega)).trans ?_
    refine (sread_miss _ _ 1024 _ i ⟨3072 + x.val, by omega⟩ (by show 3072 + x.val < _ ∨ _ ≤ 3072 + x.val; omega)).trans ?_
    refine (sread_miss _ _ 0 _ i ⟨3072 + x.val, by omega⟩ (by show 3072 + x.val < _ ∨ _ ≤ 3072 + x.val; omega)).trans ?_
    exact hl ⟨3072 + x.val, by omega⟩
  refine sread_four (tripRun.sl.HS_8 c arg0 arg1 s pre860 f0 f1 k G) _ _ _ _ (upto (qs c arg1 f1 k) s (merged r A B) 2) i (fun x => ?_) (fun x => ?_) (fun x => ?_) (fun x => ?_) y
  · have hx := x.isLt
    exact (pay78_at s _ _ i x _).trans (congrArg₂ (fun a b : EReal => a + b) (l0 x) (term_sum (qs c arg1 f1 k) s (merged r A B) 2 i x 0 _ _ (fun d => qm2 _ i d) (fun d => hk 0 _ (k0_off67_eq k) _ x (by omega) d)))
  · have hx := x.isLt
    exact (pay79_at _ s _ _ i x).trans (congrArg₂ (fun a b : EReal => a + b) (l1 x) (term_sum (qs c arg1 f1 k) s (merged r A B) 2 i x 1024 _ _ (fun d => qm2 _ i d) (fun d => hk 1024 _ (k0_off68_eq k) _ x (by omega) d)))
  · have hx := x.isLt
    exact (pay80_at _ s _ _ i x).trans (congrArg₂ (fun a b : EReal => a + b) (l2 x) (term_sum (qs c arg1 f1 k) s (merged r A B) 2 i x 2048 _ _ (fun d => qm2 _ i d) (fun d => hk 2048 _ (k0_off69_eq k) _ x (by omega) d)))
  · have hx := x.isLt
    exact (pay82_at _ s _ _ i x).trans (congrArg₂ (fun a b : EReal => a + b) (l3 x) (term_sum (qs c arg1 f1 k) s (merged r A B) 2 i x 3072 _ _ (fun d => qm2 _ i d) (fun d => hk 3072 _ (k0_off70_eq k) _ x (by omega) d)))
include hr hw hA hB in
theorem scores3 (i : Fin 8) (y : Fin 4096) :
    sread (tripRun.sl.HS_16 c arg0 arg1 s pre860 f0 f1 k G) i y = upto (qs c arg1 f1 k) s (merged r A B) 3 i y.val := by
  have hk : ∀ (o : ℕ) (off : Fin 4 → ℕ) (ho : off = ![(bt k).val, 3, o, 0]) (hp) (x : Fin 1024) (hx : o + x.val < 4096) (d : Fin 256),
      View.readAt (Elt Ideal) kM.view (Rect.unit (s := S3x4x4096x256) off S1x1x1024x256.size hp).toLoadRect (tripRun.sl.HK3_dst_w4 c arg0 f0 k G) (ix4 0 0 x d)
        = merged r A B 3 (o + x.val) d := fun o off ho hp x hx d =>
    (rows_at kM (bt k) 3 o ho hp _ x d ⟨o + x.val, hx⟩ rfl).trans (HK3_at c arg0 f0 k G r hr hw A B hA hB ⟨o + x.val, hx⟩ d)
  have hl : ∀ y, sread (tripRun.sl.HS_12 c arg0 arg1 s pre860 f0 f1 k G) i y = upto (qs c arg1 f1 k) s (merged r A B) 2 i y.val := fun y => scores2 c arg0 f0 arg1 f1 s k G r hr hw A B hA hB i y
  have l0 : ∀ x : Fin 1024, tripRun.sl.v2046 c arg0 arg1 s pre860 f0 f1 k G (ix2 i x) = upto (qs c arg1 f1 k) s (merged r A B) 2 i (0 + x.val) := fun x => by
    have hx := x.isLt
    refine (sread_load _ 0 _ i x ⟨0 + x.val, by omega⟩ rfl).trans ?_
    exact hl ⟨0 + x.val, by omega⟩
  have l1 : ∀ x : Fin 1024, tripRun.sl.v2059 c arg0 arg1 s pre860 f0 f1 k G (ix2 i x) = upto (qs c arg1 f1 k) s (merged r A B) 2 i (1024 + x.val) := fun x => by
    have hx := x.isLt
    refine (sread_load _ 1024 _ i x ⟨1024 + x.val, by omega⟩ rfl).trans ?_
    refine (sread_miss _ _ 0 _ i ⟨1024 + x.val, by omega⟩ (by show 1024 + x.val < _ ∨ _ ≤ 1024 + x.val; omega)).trans ?_
    exact hl ⟨1024 + x.val, by omega⟩
  have l2 : ∀ x : Fin 1024, tripRun.sl.v2072 c arg0 arg1 s pre860 f0 f1 k G (ix2 i x) = upto (qs c arg1 f1 k) s (merged r A B) 2 i (2048 + x.val) := fun x => by
    have hx := x.isLt
    refine (sread_load _ 2048 _ i x ⟨2048 + x.val, by omega⟩ rfl).trans ?_
    refine (sread_miss _ _ 1024 _ i ⟨2048 + x.val, by omega⟩ (by show 2048 + x.val < _ ∨ _ ≤ 2048 + x.val; omega)).trans ?_
    refine (sread_miss _ _ 0 _ i ⟨2048 + x.val, by omega⟩ (by show 2048 + x.val < _ ∨ _ ≤ 2048 + x.val; omega)).trans ?_
    exact hl ⟨2048 + x.val, by omega⟩
  have l3 : ∀ x : Fin 1024, tripRun.sl.v2085 c arg0 arg1 s pre860 f0 f1 k G (ix2 i x) = upto (qs c arg1 f1 k) s (merged r A B) 2 i (3072 + x.val) := fun x => by
    have hx := x.isLt
    refine (sread_load _ 3072 _ i x ⟨3072 + x.val, by omega⟩ rfl).trans ?_
    refine (sread_miss _ _ 2048 _ i ⟨3072 + x.val, by omega⟩ (by show 3072 + x.val < _ ∨ _ ≤ 3072 + x.val; omega)).trans ?_
    refine (sread_miss _ _ 1024 _ i ⟨3072 + x.val, by omega⟩ (by show 3072 + x.val < _ ∨ _ ≤ 3072 + x.val; omega)).trans ?_
    refine (sread_miss _ _ 0 _ i ⟨3072 + x.val, by omega⟩ (by show 3072 + x.val < _ ∨ _ ≤ 3072 + x.val; omega)).trans ?_
    exact hl ⟨3072 + x.val, by omega⟩
  refine sread_four (tripRun.sl.HS_12 c arg0 arg1 s pre860 f0 f1 k G) _ _ _ _ (upto (qs c arg1 f1 k) s (merged r A B) 3) i (fun x => ?_) (fun x => ?_) (fun x => ?_) (fun x => ?_) y
  · have hx := x.isLt
    exact (pay86_at s _ _ i x _ _).trans (congrArg₂ (fun a b : EReal => a + b) (l0 x) (term_sum (qs c arg1 f1 k) s (merged r A B) 3 i x 0 _ _ (fun d => qm3 _ i d) (fun d => hk 0 _ (k0_off77_eq k) _ x (by omega) d)))
  · have hx := x.isLt
    exact (pay87_at _ s _ _ i x).trans (congrArg₂ (fun a b : EReal => a + b) (l1 x) (term_sum (qs c arg1 f1 k) s (merged r A B) 3 i x 1024 _ _ (fun d => qm3 _ i d) (fun d => hk 1024 _ (k0_off78_eq k) _ x (by omega) d)))
  · have hx := x.isLt
    exact (pay88_at _ s _ _ i x).trans (congrArg₂ (fun a b : EReal => a + b) (l2 x) (term_sum (qs c arg1 f1 k) s (merged r A B) 3 i x 2048 _ _ (fun d => qm3 _ i d) (fun d => hk 2048 _ (k0_off79_eq k) _ x (by omega) d)))
  · have hx := x.isLt
    exact (pay90_at _ s _ _ i x).trans (congrArg₂ (fun a b : EReal => a + b) (l3 x) (term_sum (qs c arg1 f1 k) s (merged r A B) 3 i x 3072 _ _ (fun d => qm3 _ i d) (fun d => hk 3072 _ (k0_off80_eq k) _ x (by omega) d)))
end Trip
end Cert.KernelIdeal.Hand
end
-- ==== Proof.KernelIdeal.Soft.lean ====
/- The softmax of one trip and its combination of the values, entry by entry. -/
module
public import proofs.«01_k».proof.Proof.KernelIdeal.Heads
@[expose] public section
set_option maxRecDepth 65536
noncomputable section
namespace Cert.KernelIdeal.Hand
open Cert.KernelIdeal Cert.KernelIdeal.Gen
open Idealize.ShloMosaic Idealize.ShloMosaic.TcCoe Idealize.ShloMosaic.Tactic
open Idealize.SL.RA
open Cert.Claims

/-- The cached row that row `x` of a merged window is, where the window starts at row `b` and its first `r` rows are merged. -/
def slotW (b r : BitVec 32) (x : ℕ) : BitVec 32 :=
  IntOp.addi (IntOp.addi b (BitVec.ofNat 32 x)) (Scalar.select (IntOp.cmpi .slt (BitVec.ofNat 32 x) r) 4096#32 0#32)

section Soft
variable (n b r : BitVec 32) (z : Vec Ideal S8x4096 .f32) (kn q vn : FVec Ideal S8x256 .f32) (i : Fin 8)

/-- The scores of query row `i`, the new row's score last. -/
def S' (x : Fin 4096) : EReal := score n (slotW b r x.val) (cap (z (ix2 i x)))
def sn' : EReal := cap (∑ d : Fin 256, q (ix2 i d) * kn (ix2 i d))

theorem pay91_at (x : Fin 4096) : k0_pay91 (F := Ideal) n b r z (ix2 i x) = S' n b r z i x := by
  pointwise [k0_pay91]
  rfl
theorem pay92_at : k0_pay92 kn q (ix2 i 0) = sn' kn q i := by
  pointwise [k0_pay92]
  rfl
theorem pay93_at : k0_pay93 (F := Ideal) n b r kn q z (ix2 i 0) = top (S' n b r z i) (sn' kn q i) := by
  unfold k0_pay93
  rw [← pay92_at]
  unfold top
  simp only [← pay91_at]
  generalize k0_pay91 (F := Ideal) n b r z = s
  generalize k0_pay92 kn q = t
  pointwise []
theorem pay94_at (x : Fin 4096) : k0_pay94 (F := Ideal) n b r kn q z (ix2 i x) = S' n b r z i x - top (S' n b r z i) (sn' kn q i) := by
  unfold k0_pay94
  rw [← pay93_at, ← pay91_at]
  generalize k0_pay91 (F := Ideal) n b r z = s
  generalize k0_pay93 (F := Ideal) n b r kn q z = t
  pointwise []
theorem pay98_at (x : Fin 4096) : k0_pay98 (F := Ideal) (k0_pay92 kn q) (k0_pay93 n b r kn q z) (k0_pay94 n b r kn q z) (ix2 i x)
    = Ideal.div (Ideal.exp (S' n b r z i x - top (S' n b r z i) (sn' kn q i))) (den (S' n b r z i) (sn' kn q i)) := by
  unfold den
  simp only [← pay94_at]
  rw [← pay93_at, ← pay92_at]
  generalize k0_pay92 kn q = t
  generalize k0_pay93 (F := Ideal) n b r kn q z = t'
  generalize k0_pay94 (F := Ideal) n b r kn q z = t''
  pointwise [k0_pay98, k0_pay97, k0_pay96, k0_pay95]
theorem pay99_at (d : Fin 256) : k0_pay99 (F := Ideal) vn (k0_pay92 kn q) (k0_pay93 n b r kn q z) (k0_pay94 n b r kn q z) (ix2 i d)
    = Ideal.div (Ideal.exp (sn' kn q i - top (S' n b r z i) (sn' kn q i))) (den (S' n b r z i) (sn' kn q i)) * vn (ix2 i d) := by
  unfold den
  simp only [← pay94_at]
  rw [← pay93_at, ← pay92_at]
  generalize k0_pay92 kn q = t
  generalize k0_pay93 (F := Ideal) n b r kn q z = t'
  generalize k0_pay94 (F := Ideal) n b r kn q z = t''
  pointwise [k0_pay99, k0_pay97, k0_pay96, k0_pay95]
end Soft

/-- A sum over 4096 rows, a thousand and twenty-four at a time. -/
theorem sum_blocks (f : ℕ → EReal) :
    ∑ x : Fin 1024, f (0 + x.val) + ∑ x : Fin 1024, f (1024 + x.val) + ∑ x : Fin 1024, f (2048 + x.val) + ∑ x : Fin 1024, f (3072 + x.val)
      = ∑ y : Fin 4096, f y.val := by
  rw [Fin.sum_univ_eq_sum_range (fun x => f (0 + x)), Fin.sum_univ_eq_sum_range (fun x => f (1024 + x)), Fin.sum_univ_eq_sum_range (fun x => f (2048 + x)),
    Fin.sum_univ_eq_sum_range (fun x => f (3072 + x)), Fin.sum_univ_eq_sum_range f, show 4096 = 1024 + 1024 + 1024 + 1024 from rfl,
    Finset.sum_range_add, Finset.sum_range_add, Finset.sum_range_add]
  simp only [Nat.zero_add]

section Values
variable (p : FVec Ideal S8x4096 .bf16) (b0 b1 b2 b3 : Vec Ideal S1x1x1024x256 .i8) (i : Fin 8) (d : Fin 256) (W : ℕ → BitVec 8)
  (h0 : ∀ x : Fin 1024, b0 (ix4 0 0 x d) = W (0 + x.val)) (h1 : ∀ x : Fin 1024, b1 (ix4 0 0 x d) = W (1024 + x.val))
  (h2 : ∀ x : Fin 1024, b2 (ix4 0 0 x d) = W (2048 + x.val)) (h3 : ∀ x : Fin 1024, b3 (ix4 0 0 x d) = W (3072 + x.val))

include h0 h1 h2 h3 in
theorem four_blocks :
    ∑ x : Fin 1024, p (ix2 i ⟨x.val, by omega⟩) * num (b0 (ix4 0 0 x d)) + ∑ x : Fin 1024, p (ix2 i ⟨1024 + x.val, by omega⟩) * num (b1 (ix4 0 0 x d))
      + ∑ x : Fin 1024, p (ix2 i ⟨2048 + x.val, by omega⟩) * num (b2 (ix4 0 0 x d)) + ∑ x : Fin 1024, p (ix2 i ⟨3072 + x.val, by omega⟩) * num (b3 (ix4 0 0 x d))
      = ∑ y : Fin 4096, p (ix2 i y) * num (W y.val) := by
  have e := sum_blocks fun y => if h : y < 4096 then p (ix2 i ⟨y, h⟩) * num (W y) else 0
  refine Eq.trans ?_ (e.trans (Finset.sum_congr rfl fun y _ => dif_pos y.isLt))
  refine congrArg₂ (fun a b : EReal => a + b) (congrArg₂ (fun a b : EReal => a + b) (congrArg₂ (fun a b : EReal => a + b) ?_ ?_) ?_) ?_
  · refine Finset.sum_congr rfl fun x _ => ?_
    rw [dif_pos (by omega), h0]; simp only [Nat.zero_add]
  · refine Finset.sum_congr rfl fun x _ => ?_
    rw [dif_pos (by omega), h1]
  · refine Finset.sum_congr rfl fun x _ => ?_
    rw [dif_pos (by omega), h2]
  · refine Finset.sum_congr rfl fun x _ => ?_
    rw [dif_pos (by omega), h3]

include h0 h1 h2 h3 in
theorem pay105_at : k0_pay105 (F := Ideal) p k0_pay102 (k0_pay103 p) (k0_pay104 b0) (constant S8x256 FTy.f32 0#32) b1 b2 b3 (ix2 i d) = ∑ y : Fin 4096, p (ix2 i y) * num (W y.val) := by
  rw [← four_blocks p b0 b1 b2 b3 i d W h0 h1 h2 h3]
  pointwise [k0_pay102, k0_pay103, k0_pay104, k0_pay105]
include h0 h1 h2 h3 in
theorem pay114_at : k0_pay114 (F := Ideal) p k0_pay112 (k0_pay113 p) b0 b1 b2 b3 (ix2 i d) = ∑ y : Fin 4096, p (ix2 i y) * num (W y.val) := by
  rw [← four_blocks p b0 b1 b2 b3 i d W h0 h1 h2 h3]
  pointwise [k0_pay112, k0_pay113, k0_pay114]
include h0 h1 h2 h3 in
theorem pay119_at : k0_pay119 (F := Ideal) p b0 b1 b2 b3 (ix2 i d) = ∑ y : Fin 4096, p (ix2 i y) * num (W y.val) := by
  rw [← four_blocks p b0 b1 b2 b3 i d W h0 h1 h2 h3]
  pointwise [k0_pay119]
include h0 h1 h2 h3 in
theorem pay125_at : k0_pay125 (F := Ideal) p b0 b1 b2 b3 (ix2 i d) = ∑ y : Fin 4096, p (ix2 i y) * num (W y.val) := by
  rw [← four_blocks p b0 b1 b2 b3 i d W h0 h1 h2 h3]
  pointwise [k0_pay125]
end Values

/-- The combination a row stores: its head's, and the scale. -/
theorem pay128_at (vs : FVec Ideal S8x1 .f32) (a c0 c1 c2 c3 : FVec Ideal S8x256 .f32) (i : Fin 8) (d : Fin 256) :
    k0_pay128 pre860 vs
      (k0_pay122 pre860
        (k0_pay117 pre860 (k0_pay110 a c0 (k0_pay106 pre860) (k0_pay107 pre860) (k0_pay108 pre860) k0_pay109) c1 2#32 (k0_pay115 pre860) (k0_pay116 pre860) 1#32)
        c2 2#32 (k0_pay120 pre860) (k0_pay121 pre860) 0#32)
      c3 2#32 (k0_pay126 pre860) (k0_pay127 pre860) (ix2 i d)
      = (a (ix2 i d) + (![c0, c1, c2, c3] : Fin 4 → FVec Ideal S8x256 .f32) ⟨i.val / 2, by omega⟩ (ix2 i d)) * vs (ix2 i 0) := by
  fin_cases i <;>
  · pointwise [k0_pay128, k0_pay122, k0_pay117, k0_pay110, k0_pay106, k0_pay107, k0_pay108, k0_pay109, k0_pay115, k0_pay116, k0_pay120, k0_pay121, k0_pay126, k0_pay127]
    refine congrArg (fun y : EReal => y * _) ?_
    repeat first
      | refine (sel_neg (by decide) _ _).trans ?_
      | refine (sel_pos (by decide) _ _).trans ?_
    refine congrArg₂ (fun a b : EReal => a + b) ?_ ?_ <;>
    repeat first
      | rfl
      | refine (sel_neg (by decide) _ _).trans ?_
      | refine (sel_pos (by decide) _ _).trans ?_
end Cert.KernelIdeal.Hand
end
-- ==== Proof.KernelIdeal.Mix.lean ====
/- What a trip stores in its result, row by row: the combination over its merged windows. -/
module
public import proofs.«01_k».proof.Proof.KernelIdeal.Soft
@[expose] public section
set_option maxRecDepth 65536
noncomputable section
namespace Cert.KernelIdeal.Hand
open Cert.KernelIdeal Cert.KernelIdeal.Gen
open Idealize.ShloMosaic Idealize.ShloMosaic.TcCoe Idealize.ShloMosaic.Tactic
open Idealize.SL.RA
open Cert.Claims

/-- The four heads' terms of a row's score are its own head's. -/
theorem upto_all (q : FVec Ideal S8x256 .f32) (s : FVec Ideal S4x256 .bf16) (K : Fin 4 → ℕ → Fin 256 → BitVec 8) (i : Fin 8) (y : ℕ) :
    upto q s K 3 i y = ∑ d : Fin 256, q (ix2 i d) * (num (K ⟨i.val / 2, by omega⟩ y d) * s (ix2 ⟨i.val / 2, by omega⟩ d)) := by
  show term q s K 0 i y + term q s K 1 i y + term q s K 2 i y + term q s K 3 i y = _
  fin_cases i <;> simp [term, qm]

/-- The whole scores' buffer, loaded. -/
theorem sread_whole (L : List (View.Piece (Elt Ideal) S8x4096 .f32)) (hp : ∀ a, (![0, 0] : Fin 2 → ℕ) a + S8x4096.size a ≤ S8x4096.size a) (i : Fin 8) (y : Fin 4096) :
    sM.view.readCov L (Rect.unit (s := S8x4096) ![0, 0] S8x4096.size hp).toLoadRect (ix2 i y) = sread L i y := by
  unfold sread View.readCov
  refine readAt_at _ _ _ _ _ fun a => ?_
  fin_cases a
  · simp [ix2]
  · simp [ix2]

theorem pre859_at (c : Dev nD) (arg4 : Memref sig .tc .vmem S4x256 .f32) (f4 : Buf (Elt Ideal) (arg4.view.loc (c : Thread nD τ))) (h : Fin 4) (d : Fin 256) :
    pre859 c arg4 f4 (ix2 h d) = arg4.view.read (Elt Ideal) f4 (ix2 h d) := by
  pointwise [k0_pay136]
  exact readkk c arg4 f4 h d _

section Trip
variable (c : Dev nD) (arg0 : Memref sig .tc .smem S3 .i32) (arg1 : Memref sig .tc .vmem S3x1x2048 .bf16)
  (arg2 : Memref sig .tc .vmem S3x4x1x256 .bf16) (arg3 : Memref sig .tc .vmem S3x4x1x256 .bf16)
  (arg4 : Memref sig .tc .vmem S4x256 .f32) (arg5 : Memref sig .tc .smem S4 .f32)
  (f0 : Buf (Elt Ideal) (arg0.view.loc (c : Thread nD τ))) (f1 : Buf (Elt Ideal) (arg1.view.loc (c : Thread nD τ)))
  (f2 : Buf (Elt Ideal) (arg2.view.loc (c : Thread nD τ))) (f3 : Buf (Elt Ideal) (arg3.view.loc (c : Thread nD τ)))
  (f4 : Buf (Elt Ideal) (arg4.view.loc (c : Thread nD τ))) (f5 : Buf (Elt Ideal) (arg5.view.loc (c : Thread nD τ)))
  (k : Fin k0_t1_loop.trips) (G : Held Ideal c (bt k)) (r : ℕ) (hr : r < 32) (hw : tripRun.sl.v1006 c arg0 f0 k = BitVec.ofNat 32 r)
  (A B A' B' : Fin 4 → ℕ → Fin 256 → BitVec 8)
  (hA : ∀ h (w : Fin 4096) d, kM.view.read (Elt Ideal) (G.k h) (ix4 (bt k) h w d) = A h w.val d)
  (hB : ∀ h (w : Fin 32) d, kxM.view.read (Elt Ideal) G.kx (ix4 (bt k) h w d) = B h w.val d)
  (hA' : ∀ h (w : Fin 4096) d, vM.view.read (Elt Ideal) (G.v h) (ix4 (bt k) h w d) = A' h w.val d)
  (hB' : ∀ h (w : Fin 32) d, vxM.view.read (Elt Ideal) G.vx (ix4 (bt k) h w d) = B' h w.val d)

include hr hw hA hB in
theorem v2105_at (s : FVec Ideal S4x256 .bf16) (i : Fin 8) (y : Fin 4096) :
    tripRun.sl.v2105 c arg0 arg1 s pre860 f0 f1 k G (ix2 i y)
      = ∑ d : Fin 256, qs c arg1 f1 k (ix2 i d) * (num (merged r A B ⟨i.val / 2, by omega⟩ y.val d) * s (ix2 ⟨i.val / 2, by omega⟩ d)) := by
  refine Eq.trans ?_ ((scores3 c arg0 f0 arg1 f1 s k G r hr hw A B hA hB i y).trans (upto_all _ _ _ i y.val))
  unfold tripRun.sl.v2105
  exact sread_whole _ _ i y

/-- The softmax's row and the new row's, as the trip names them. -/
abbrev pr (s : FVec Ideal S4x256 .bf16) : FVec Ideal S8x4096 .bf16 := tripRun.sl.r_41 c arg0 arg1 arg2 arg4 s pre860 f0 f1 f2 f4 k G

include hr hw hA' hB' in
theorem vals_at (s : FVec Ideal S4x256 .bf16) (i : Fin 8) (h : Fin 4) (d : Fin 256) :
    (![tripRun.sl.r_46 c arg0 arg1 arg2 arg4 s pre860 f0 f1 f2 f4 k G, tripRun.sl.r_50 c arg0 arg1 arg2 arg4 s pre860 f0 f1 f2 f4 k G,
        tripRun.sl.r_53 c arg0 arg1 arg2 arg4 s pre860 f0 f1 f2 f4 k G, tripRun.sl.r_56 c arg0 arg1 arg2 arg4 s pre860 f0 f1 f2 f4 k G] : Fin 4 → FVec Ideal S8x256 .f32) h (ix2 i d)
      = ∑ y : Fin 4096, pr c arg0 arg1 arg2 arg4 f0 f1 f2 f4 k G s (ix2 i y) * num (merged r A' B' h y.val d) := by
  match h with
  | 0 =>
    have hk : ∀ (o : ℕ) (off : Fin 4 → ℕ) (ho : off = ![(bt k).val, 0, o, 0]) (hp) (x : Fin 1024) (hx : o + x.val < 4096),
        View.readAt (Elt Ideal) vM.view (Rect.unit (s := S3x4x4096x256) off S1x1x1024x256.size hp).toLoadRect (tripRun.sl.HV0_dst_w5 c arg0 f0 k G) (ix4 0 0 x d)
          = merged r A' B' 0 (o + x.val) d := fun o off ho hp x hx =>
      (rows_at vM (bt k) 0 o ho hp _ x d ⟨o + x.val, hx⟩ rfl).trans (HV0_at c arg0 f0 k G r hr hw A' B' hA' hB' ⟨o + x.val, hx⟩ d)
    exact pay105_at _ _ _ _ _ i d (fun y => merged r A' B' 0 y d) (fun x => hk 0 _ (k0_off91_eq k) _ x (by omega)) (fun x => hk 1024 _ (k0_off92_eq k) _ x (by omega))
      (fun x => hk 2048 _ (k0_off93_eq k) _ x (by omega)) (fun x => hk 3072 _ (k0_off94_eq k) _ x (by omega))
  | 1 =>
    have hk : ∀ (o : ℕ) (off : Fin 4 → ℕ) (ho : off = ![(bt k).val, 1, o, 0]) (hp) (x : Fin 1024) (hx : o + x.val < 4096),
        View.readAt (Elt Ideal) vM.view (Rect.unit (s := S3x4x4096x256) off S1x1x1024x256.size hp).toLoadRect (tripRun.sl.HV1_dst_w6 c arg0 f0 k G) (ix4 0 0 x d)
          = merged r A' B' 1 (o + x.val) d := fun o off ho hp x hx =>
      (rows_at vM (bt k) 1 o ho hp _ x d ⟨o + x.val, hx⟩ rfl).trans (HV1_at c arg0 f0 k G r hr hw A' B' hA' hB' ⟨o + x.val, hx⟩ d)
    exact pay114_at _ _ _ _ _ i d (fun y => merged r A' B' 1 y d) (fun x => hk 0 _ (k0_off101_eq k) _ x (by omega)) (fun x => hk 1024 _ (k0_off102_eq k) _ x (by omega))
      (fun x => hk 2048 _ (k0_off103_eq k) _ x (by omega)) (fun x => hk 3072 _ (k0_off104_eq k) _ x (by omega))
  | 2 =>
    have hk : ∀ (o : ℕ) (off : Fin 4 → ℕ) (ho : off = ![(bt k).val, 2, o, 0]) (hp) (x : Fin 1024) (hx : o + x.val < 4096),
        View.readAt (Elt Ideal) vM.view (Rect.unit (s := S3x4x4096x256) off S1x1x1024x256.size hp).toLoadRect (tripRun.sl.HV2_dst_w7 c arg0 f0 k G) (ix4 0 0 x d)
          = merged r A' B' 2 (o + x.val) d := fun o off ho hp x hx =>
      (rows_at vM (bt k) 2 o ho hp _ x d ⟨o + x.val, hx⟩ rfl).trans (HV2_at c arg0 f0 k G r hr hw A' B' hA' hB' ⟨o + x.val, hx⟩ d)
    exact pay119_at _ _ _ _ _ i d (fun y => merged r A' B' 2 y d) (fun x => hk 0 _ (k0_off111_eq k) _ x (by omega)) (fun x => hk 1024 _ (k0_off112_eq k) _ x (by omega))
      (fun x => hk 2048 _ (k0_off113_eq k) _ x (by omega)) (fun x => hk 3072 _ (k0_off114_eq k) _ x (by omega))
  | 3 =>
    have hk : ∀ (o : ℕ) (off : Fin 4 → ℕ) (ho : off = ![(bt k).val, 3, o, 0]) (hp) (x : Fin 1024) (hx : o + x.val < 4096),
        View.readAt (Elt Ideal) vM.view (Rect.unit (s := S3x4x4096x256) off S1x1x1024x256.size hp).toLoadRect (tripRun.sl.HV3_dst_w8 c arg0 f0 k G) (ix4 0 0 x d)
          = merged r A' B' 3 (o + x.val) d := fun o off ho hp x hx =>
      (rows_at vM (bt k) 3 o ho hp _ x d ⟨o + x.val, hx⟩ rfl).trans (HV3_at c arg0 f0 k G r hr hw A' B' hA' hB' ⟨o + x.val, hx⟩ d)
    exact pay125_at _ _ _ _ _ i d (fun y => merged r A' B' 3 y d) (fun x => hk 0 _ (k0_off121_eq k) _ x (by omega)) (fun x => hk 1024 _ (k0_off122_eq k) _ x (by omega))
      (fun x => hk 2048 _ (k0_off123_eq k) _ x (by omega)) (fun x => hk 3072 _ (k0_off124_eq k) _ x (by omega))

/-- All eight rows of a trip's result. -/
abbrev outRows : FVec Ideal S8x256 .bf16 :=
  tripRun.sl.r_57 c arg0 arg1 arg2 arg3 arg4 arg5 (pre859 c arg4 f4) pre860 (pre948 c arg5 f5) (k0_pay145 pre860) (k0_pay146 pre860) k0_pay147
    (vsc c arg5 f5 ![3] inb_S4_S1_3) f0 f1 f2 f3 f4 f5 k G

include hr hw hA hB hA' hB' in
theorem outRows_at (i : Fin 8) (d : Fin 256) :
    outRows c arg0 arg1 arg2 arg3 arg4 arg5 f0 f1 f2 f3 f4 f5 k G (ix2 i d)
      = mix (fun y : Fin 4096 => score (tripRun.sl.r c arg0 f0 k) (slotW (tripRun.sl.v1004 c arg0 f0 k) (BitVec.ofNat 32 r) y.val)
            (cap (∑ x : Fin 256, arg1.view.read (Elt Ideal) f1 (ix3 (bt k) 0 ⟨256 * i.val + x.val, by omega⟩)
              * (num (merged r A B ⟨i.val / 2, by omega⟩ y.val x) * arg4.view.read (Elt Ideal) f4 (ix2 ⟨i.val / 2, by omega⟩ x)))))
          (fun y => num (merged r A' B' ⟨i.val / 2, by omega⟩ y.val d))
          (cap (∑ x : Fin 256, arg1.view.read (Elt Ideal) f1 (ix3 (bt k) 0 ⟨256 * i.val + x.val, by omega⟩)
              * (code (arg2.view.read (Elt Ideal) f2 (ix4 (bt k) ⟨i.val / 2, by omega⟩ 0 x)) (arg4.view.read (Elt Ideal) f4 (ix2 ⟨i.val / 2, by omega⟩ x))
                * arg4.view.read (Elt Ideal) f4 (ix2 ⟨i.val / 2, by omega⟩ x))))
          (code (arg3.view.read (Elt Ideal) f3 (ix4 (bt k) ⟨i.val / 2, by omega⟩ 0 d)) (arg5.view.read (Elt Ideal) f5 (ix1 ⟨i.val / 2, by omega⟩)))
        * arg5.view.read (Elt Ideal) f5 (ix1 ⟨i.val / 2, by omega⟩) := by
  have hS : (S' (tripRun.sl.r c arg0 f0 k) (tripRun.sl.v1004 c arg0 f0 k) (tripRun.sl.v1006 c arg0 f0 k) (tripRun.sl.v2105 c arg0 arg1 (pre859 c arg4 f4) pre860 f0 f1 k G) i)
      = fun y : Fin 4096 => score (tripRun.sl.r c arg0 f0 k) (slotW (tripRun.sl.v1004 c arg0 f0 k) (BitVec.ofNat 32 r) y.val)
            (cap (∑ x : Fin 256, arg1.view.read (Elt Ideal) f1 (ix3 (bt k) 0 ⟨256 * i.val + x.val, by omega⟩)
              * (num (merged r A B ⟨i.val / 2, by omega⟩ y.val x) * arg4.view.read (Elt Ideal) f4 (ix2 ⟨i.val / 2, by omega⟩ x)))) := by
    funext y
    unfold S'
    rw [hw, v2105_at c arg0 arg1 f0 f1 k G r hr hw A B hA hB]
    simp only [q_row, pre859_at]
  have hn : sn' (tripRun.sl.v1378 c arg2 arg4 (pre859 c arg4 f4) pre860 f2 f4 k) (qs c arg1 f1 k) i
      = cap (∑ x : Fin 256, arg1.view.read (Elt Ideal) f1 (ix3 (bt k) 0 ⟨256 * i.val + x.val, by omega⟩)
              * (code (arg2.view.read (Elt Ideal) f2 (ix4 (bt k) ⟨i.val / 2, by omega⟩ 0 x)) (arg4.view.read (Elt Ideal) f4 (ix2 ⟨i.val / 2, by omega⟩ x))
                * arg4.view.read (Elt Ideal) f4 (ix2 ⟨i.val / 2, by omega⟩ x))) := by
    unfold sn'
    simp only [q_row, knew_row]
  have e1 := pay128_at (k0_pay1 (pre948 c arg5 f5) (k0_pay145 pre860) (k0_pay146 pre860) k0_pay147 (vsc c arg5 f5 ![3] inb_S4_S1_3))
    (tripRun.sl.r_42 c arg0 arg1 arg2 arg3 arg4 arg5 (pre859 c arg4 f4) pre860 f0 f1 f2 f3 f4 f5 k G) (tripRun.sl.r_46 c arg0 arg1 arg2 arg4 (pre859 c arg4 f4) pre860 f0 f1 f2 f4 k G)
    (tripRun.sl.r_50 c arg0 arg1 arg2 arg4 (pre859 c arg4 f4) pre860 f0 f1 f2 f4 k G) (tripRun.sl.r_53 c arg0 arg1 arg2 arg4 (pre859 c arg4 f4) pre860 f0 f1 f2 f4 k G)
    (tripRun.sl.r_56 c arg0 arg1 arg2 arg4 (pre859 c arg4 f4) pre860 f0 f1 f2 f4 k G) i d
  have e2 : tripRun.sl.r_42 c arg0 arg1 arg2 arg3 arg4 arg5 (pre859 c arg4 f4) pre860 f0 f1 f2 f3 f4 f5 k G (ix2 i d) = _ :=
    pay99_at (tripRun.sl.r c arg0 f0 k) (tripRun.sl.v1004 c arg0 f0 k) (tripRun.sl.v1006 c arg0 f0 k) (tripRun.sl.v2105 c arg0 arg1 (pre859 c arg4 f4) pre860 f0 f1 k G)
      (tripRun.sl.v1378 c arg2 arg4 (pre859 c arg4 f4) pre860 f2 f4 k) (qs c arg1 f1 k) (tripRun.sl.v1409 c arg3 arg5 pre860 f3 f5 k) i d
  have e3 : ∀ y, pr c arg0 arg1 arg2 arg4 f0 f1 f2 f4 k G (pre859 c arg4 f4) (ix2 i y) = _ := fun y =>
    pay98_at (tripRun.sl.r c arg0 f0 k) (tripRun.sl.v1004 c arg0 f0 k) (tripRun.sl.v1006 c arg0 f0 k) (tripRun.sl.v2105 c arg0 arg1 (pre859 c arg4 f4) pre860 f0 f1 k G)
      (tripRun.sl.v1378 c arg2 arg4 (pre859 c arg4 f4) pre860 f2 f4 k) (qs c arg1 f1 k) i y
  refine Eq.trans e1 ?_
  rw [vscale_row, vals_at c arg0 arg1 arg2 arg4 f0 f1 f2 f4 k G r hr hw A' B' hA' hB', e2]
  simp only [e3]
  rw [hS, hn, vnew_row, add_comm]
  rfl
end Trip
end Cert.KernelIdeal.Hand
end
-- ==== Proof.KernelIdeal.Shown.lean ====
/- The merged window shows every cached row that has a score, once. -/
module
public import proofs.«01_k».proof.Proof.KernelIdeal.Soft
@[expose] public section
noncomputable section
namespace Cert.KernelIdeal.Hand
open Cert.KernelIdeal Cert.KernelIdeal.Gen
open Idealize.ShloMosaic Idealize.ShloMosaic.TcCoe
open Cert.Claims
open Idealize.ShloMosaic.Affine (IsInt)

variable {v : BitVec 32} (hv : InRange v)

include hv in
/-- Where a row has a score: below the length, and among the last 4095 rows. -/
theorem score_eq {p : BitVec 32} {P : ℕ} (hp : IsInt p P) (hP : P < 2 ^ 20) (z : EReal) :
    score v p z = if P < v.toNat ∧ v.toNat < P + 4096 then z else ⊥ := by
  have h1 := toInt_eq hv; have h2 := len_le hv
  have hl : IsInt (Scalar.subi v 4096#32) (v.toInt - 4096) := Affine.subi (Affine.word v) (Affine.ofNat (e := 4096) 4096 (by omega)) (by omega)
  unfold score
  rw [ofBits_neg_inf]
  by_cases ha : P < v.toNat
  · by_cases hb : v.toNat < P + 4096
    · rw [if_pos ⟨ha, hb⟩]
      exact sel_pos (Affine.andi_holds (Affine.slt_holds hp (Affine.word v) (by omega)) (Affine.sgt_holds hp hl (by omega))) _ _
    · rw [if_neg (fun h => hb h.2)]
      exact if_neg (Affine.andi_fails_right trivial (Affine.sgt_fails hp hl (by omega)))
  · rw [if_neg (fun h => ha h.1)]
    exact if_neg (Affine.andi_fails_left (Affine.slt_fails hp (Affine.word v) (by omega)) trivial)

/-- The cached row that row `y` of the window is. -/
def slot (b r y : ℕ) : ℕ := b + y + if y < r then 4096 else 0

theorem slotW_int {b : BitVec 32} {n : ℕ} (hb : IsInt b n) (hn : n < 2 ^ 17) (r y : ℕ) (hr : r < 32) (hy : y < 4096) :
    IsInt (slotW b (BitVec.ofNat 32 r) y) (slot n r y : ℕ) := by
  have h1 : IsInt (BitVec.ofNat 32 y) y := Affine.ofNat y (by omega)
  have h2 : IsInt (BitVec.ofNat 32 r) r := Affine.ofNat r (by omega)
  have h3 : IsInt 4096#32 4096 := Affine.ofNat 4096 (by omega)
  have h4 : IsInt 0#32 0 := Affine.ofNat 0 (by omega)
  have h5 := Affine.addi hb h1 (e := (n : ℤ) + y) (by omega)
  unfold slotW slot
  by_cases h : y < r
  · rw [if_pos h]
    exact Affine.addi h5 (Affine.select_holds (Affine.slt_holds h1 h2 (by omega)) h3 h4 rfl) (by push_cast; omega)
  · rw [if_neg h]
    exact Affine.addi h5 (Affine.select_fails (Affine.slt_fails h1 h2 (by omega)) h3 h4 rfl) (by push_cast; omega)

variable (Z : (Fin 256 → BitVec 8) → EReal) (kc : ℕ → Fin 256 → BitVec 8) (vc : ℕ → EReal)

include hv in
/-- The merged window against the cache. -/
theorem shown (K : ℕ → Fin 256 → BitVec 8) (V : ℕ → EReal) (r : ℕ) (hr : r = (v.toNat - 4095) % 32)
    (hK : ∀ y, K y = if y < r then kc ((extraW v).toNat + y) else kc ((baseW v).toNat + y))
    (hV : ∀ y, V y = if y < r then vc ((extraW v).toNat + y) else vc ((baseW v).toNat + y)) :
    Shows (fun p : Fin 65536 => score v (BitVec.ofNat 32 p.val) (cap (Z (kc p.val)))) (fun p => vc p.val)
      (fun y : Fin 4096 => score v (slotW (baseW v) (BitVec.ofNat 32 r) y.val) (cap (Z (K y.val)))) (fun y => V y.val)
      (fun y => ⟨slot (baseW v).toNat r y.val % 65536, by omega⟩)
      (fun y => slot (baseW v).toNat r y.val < v.toNat ∧ v.toNat < slot (baseW v).toNat r y.val + 4096) := by
  have h1 := toInt_eq hv; have h2 := len_le hv; have h3 := base_eq hv; have h4 := extra_eq hv
  have hb : IsInt (baseW v) ((baseW v).toNat : ℕ) := by
    have h := isInt_base hv
    rw [← Affine.toNat_of h (by omega)] at h
    exact h
  have hs : ∀ y : Fin 4096, slot (baseW v).toNat r y.val < 2 ^ 20 := fun y => by have := y.isLt; unfold slot; split <;> omega
  have row : ∀ (y : Fin 4096), slot (baseW v).toNat r y.val < v.toNat → ∀ {α : Type} (f : ℕ → α),
      (if y.val < r then f ((extraW v).toNat + y.val) else f ((baseW v).toNat + y.val)) = f (slot (baseW v).toNat r y.val % 65536) := fun y hy α f => by
    unfold slot at hy ⊢
    split at hy
    · rename_i h
      rw [if_pos h, if_pos h]; exact congrArg f (by omega)
    · rename_i h
      rw [if_neg h, if_neg h]; exact congrArg f (by omega)
  refine ⟨fun x y hx hy e => ?_, fun p hp => ?_, fun y hy => ?_, fun y hy => ?_, fun y hy => ?_⟩
  · have e := congrArg Fin.val e
    dsimp only at e
    have := x.isLt; have := y.isLt
    apply Fin.ext
    unfold slot at hx hy e
    split_ifs at hx hy e <;> omega
  · have hpl := p.isLt
    rw [score_eq hv (P := p.val) (Affine.ofNat p.val (by omega)) (by omega)] at hp
    have hc : p.val < v.toNat ∧ v.toNat < p.val + 4096 := by_contra fun h => hp (if_neg h)
    by_cases hq : p.val < (baseW v).toNat + 4096
    · have e : slot (baseW v).toNat r (p.val - (baseW v).toNat) = p.val := by
        unfold slot; rw [if_neg (by omega)]; omega
      exact ⟨⟨p.val - (baseW v).toNat, by omega⟩, by dsimp only; rw [e]; exact hc, Fin.ext (by dsimp only; rw [e]; omega)⟩
    · have e : slot (baseW v).toNat r (p.val - (baseW v).toNat - 4096) = p.val := by
        unfold slot; rw [if_pos (by omega)]; omega
      exact ⟨⟨p.val - (baseW v).toNat - 4096, by omega⟩, by dsimp only; rw [e]; exact hc, Fin.ext (by dsimp only; rw [e]; omega)⟩
  · rw [score_eq hv (slotW_int hb (by omega) r y.val (by omega) y.isLt) (hs y), if_neg hy]
  · show _ = score v (BitVec.ofNat 32 (slot (baseW v).toNat r y.val % 65536)) (cap (Z (kc (slot (baseW v).toNat r y.val % 65536))))
    have hm : slot (baseW v).toNat r y.val % 65536 = slot (baseW v).toNat r y.val := by omega
    rw [score_eq hv (slotW_int hb (by omega) r y.val (by omega) y.isLt) (hs y), if_pos hy, hK, row y hy.1 kc,
      score_eq hv (P := slot (baseW v).toNat r y.val % 65536) (Affine.ofNat _ (by omega)) (by omega)]
    exact (if_pos (by rw [hm]; exact hy)).symm
  · show _ = _
    exact (hV y.val).trans (row y hy.1 vc)

end Cert.KernelIdeal.Hand
end
-- ==== Proof.KernelIdeal.Out.lean ====
/- The attention's result as the kernel stores it: each row is the specification's. -/
module
public import proofs.«01_k».proof.Proof.KernelIdeal.Mix
public import proofs.«01_k».proof.Proof.KernelIdeal.Shown
@[expose] public section
set_option maxRecDepth 65536
noncomputable section
namespace Cert.KernelIdeal.Hand
open Cert.KernelIdeal Cert.KernelIdeal.Gen
open Idealize.ShloMosaic Idealize.ShloMosaic.TcCoe Idealize.ShloMosaic.Tactic
open Idealize.SL.RA
open Cert.Claims
open Idealize.ShloMosaic.Affine (IsInt)

section Trip
variable (c : Dev nD) (arg0 : Memref sig .tc .smem S3 .i32) (arg1 : Memref sig .tc .vmem S3x1x2048 .bf16)
  (arg2 : Memref sig .tc .vmem S3x4x1x256 .bf16) (arg3 : Memref sig .tc .vmem S3x4x1x256 .bf16)
  (arg4 : Memref sig .tc .vmem S4x256 .f32) (arg5 : Memref sig .tc .smem S4 .f32)
  (f0 : Buf (Elt Ideal) (arg0.view.loc (c : Thread nD τ))) (f1 : Buf (Elt Ideal) (arg1.view.loc (c : Thread nD τ)))
  (f2 : Buf (Elt Ideal) (arg2.view.loc (c : Thread nD τ))) (f3 : Buf (Elt Ideal) (arg3.view.loc (c : Thread nD τ)))
  (f4 : Buf (Elt Ideal) (arg4.view.loc (c : Thread nD τ))) (f5 : Buf (Elt Ideal) (arg5.view.loc (c : Thread nD τ)))
  (k : Fin k0_t1_loop.trips)

/-- The trip's length is its batch entry's. -/
theorem len_load {off : Fin 1 → ℕ} (b : Fin 3) (ho : off = ![b.val]) (hp) (h) :
    arg0.view.readAt (Elt Ideal) (Rect.unit (s := S3) off S1.size hp).toLoadRect f0 (Shape.Idx.first h) = lenW c arg0 f0 b := by
  subst ho; rfl
theorem len_eq : tripRun.sl.r c arg0 f0 k = lenW c arg0 f0 (bt k) := len_load c arg0 f0 (bt k) (k0_off31_eq k) _ _
theorem base_word : tripRun.sl.v1004 c arg0 f0 k = baseW (lenW c arg0 f0 (bt k)) :=
  Eq.trans (by rfl) (congrArg baseW (len_eq c arg0 f0 k))
theorem merged_word (hv : InRange (lenW c arg0 f0 (bt k))) :
    tripRun.sl.v1006 c arg0 f0 k = BitVec.ofNat 32 (((lenW c arg0 f0 (bt k)).toNat - 4095) % 32) := by
  have e : tripRun.sl.v1006 c arg0 f0 k = Scalar.subi (Scalar.maxsi (Scalar.subi (tripRun.sl.r c arg0 f0 k) 4095#32) 0#32) (tripRun.sl.v1004 c arg0 f0 k) := rfl
  rw [e, base_word, len_eq]
  generalize lenW c arg0 f0 (bt k) = v at hv ⊢
  have h1 := toInt_eq hv; have h2 := len_le hv
  have hm : IsInt (Scalar.subi (Scalar.maxsi (Scalar.subi v 4095#32) 0#32) (baseW v)) (((v.toNat - 4095) % 32 : ℕ) : ℤ) :=
    Affine.subi (Affine.maxsi (ea := v.toInt - 4095) (Affine.subi (Affine.word v) (Affine.ofNat (e := 4095) 4095 (by omega)) (by omega)) (Affine.ofNat (e := 0) 0 (by omega)) rfl) (isInt_base hv)
      (by omega)
  have hn := Affine.toNat_of hm (by omega)
  refine BitVec.eq_of_toNat_eq ?_
  rw [BitVec.toNat_ofNat]
  omega

variable (hlen : ∀ (r : LoadRect S3) j, InRange (arg0.view.readAt (Elt Ideal) r f0 j)) (X Y : S3x4x65536x256.Idx → BitVec 8) (G : Held Ideal c (bt k))
  (hA : ∀ h (w : Fin 4096) d, kM.view.read (Elt Ideal) (G.k h) (ix4 (bt k) h w d) = crow X (bt k) h ((baseW (lenW c arg0 f0 (bt k))).toNat + w.val) d)
  (hB : ∀ h (w : Fin 32) d, kxM.view.read (Elt Ideal) G.kx (ix4 (bt k) h w d) = crow X (bt k) h ((extraW (lenW c arg0 f0 (bt k))).toNat + w.val) d)
  (hA' : ∀ h (w : Fin 4096) d, vM.view.read (Elt Ideal) (G.v h) (ix4 (bt k) h w d) = crow Y (bt k) h ((baseW (lenW c arg0 f0 (bt k))).toNat + w.val) d)
  (hB' : ∀ h (w : Fin 32) d, vxM.view.read (Elt Ideal) G.vx (ix4 (bt k) h w d) = crow Y (bt k) h ((extraW (lenW c arg0 f0 (bt k))).toNat + w.val) d)

theorem crow_at (X : S3x4x65536x256.Idx → BitVec 8) (b : Fin 3) (h : Fin 4) (p : Fin 65536) (d : Fin 256) : crow X b h p.val d = X (ix4 b h p d) := by
  show X (ix4 b h ⟨p.val % 65536, _⟩ d) = _
  congr
  exact Nat.mod_eq_of_lt p.isLt

theorem score_ne_top (n p : BitVec 32) (z : EReal) : score n p (cap z) ≠ ⊤ := by
  obtain ⟨r, e⟩ := cap_real z
  unfold score
  rw [e, ofBits_neg_inf]
  unfold Scalar.select
  split
  · exact EReal.coe_ne_top r
  · exact bot_ne_top

include hlen hA hB hA' hB' in
theorem outRows_attn (i : Fin 8) (d : Fin 256) :
    outRows c arg0 arg1 arg2 arg3 arg4 arg5 f0 f1 f2 f3 f4 f5 k G (ix2 i d)
      = attn (lenW c arg0 f0 (bt k)) (fun x => arg1.view.read (Elt Ideal) f1 (ix3 (bt k) 0 ⟨256 * i.val + x.val, by omega⟩))
          (fun p x => X (ix4 (bt k) ⟨i.val / 2, by omega⟩ p x)) (fun x => arg4.view.read (Elt Ideal) f4 (ix2 ⟨i.val / 2, by omega⟩ x))
          (fun x => arg2.view.read (Elt Ideal) f2 (ix4 (bt k) ⟨i.val / 2, by omega⟩ 0 x)) (fun p => Y (ix4 (bt k) ⟨i.val / 2, by omega⟩ p d))
          (arg5.view.read (Elt Ideal) f5 (ix1 ⟨i.val / 2, by omega⟩)) (arg3.view.read (Elt Ideal) f3 (ix4 (bt k) ⟨i.val / 2, by omega⟩ 0 d)) := by
  have hv := lenOk c arg0 f0 hlen (bt k)
  refine (outRows_at c arg0 arg1 arg2 arg3 arg4 arg5 f0 f1 f2 f3 f4 f5 k G _ (Nat.mod_lt _ (by omega)) (merged_word c arg0 f0 k hv)
    (fun h w d => crow X (bt k) h ((baseW (lenW c arg0 f0 (bt k))).toNat + w) d) (fun h w d => crow X (bt k) h ((extraW (lenW c arg0 f0 (bt k))).toNat + w) d)
    (fun h w d => crow Y (bt k) h ((baseW (lenW c arg0 f0 (bt k))).toNat + w) d) (fun h w d => crow Y (bt k) h ((extraW (lenW c arg0 f0 (bt k))).toNat + w) d)
    hA hB hA' hB' i d).trans ?_
  rw [len_eq, base_word]
  unfold attn
  refine congrArg (fun z : EReal => z * _) ?_
  generalize ha : (∑ x : Fin 256, _ : EReal) = a
  obtain ⟨t, e⟩ := cap_real a
  rw [e]
  have hs := shown hv (fun K => ∑ x : Fin 256, arg1.view.read (Elt Ideal) f1 (ix3 (bt k) 0 ⟨256 * i.val + x.val, by omega⟩) * (num (K x) * arg4.view.read (Elt Ideal) f4 (ix2 ⟨i.val / 2, by omega⟩ x)))
    (fun p x => crow X (bt k) ⟨i.val / 2, by omega⟩ p x) (fun p => num (crow Y (bt k) ⟨i.val / 2, by omega⟩ p d))
    (fun y x => merged (((lenW c arg0 f0 (bt k)).toNat - 4095) % 32) (fun h w d => crow X (bt k) h ((baseW (lenW c arg0 f0 (bt k))).toNat + w) d) (fun h w d => crow X (bt k) h ((extraW (lenW c arg0 f0 (bt k))).toNat + w) d) ⟨i.val / 2, by omega⟩ y x)
    (fun y => num (merged (((lenW c arg0 f0 (bt k)).toNat - 4095) % 32) (fun h w d => crow Y (bt k) h ((baseW (lenW c arg0 f0 (bt k))).toNat + w) d) (fun h w d => crow Y (bt k) h ((extraW (lenW c arg0 f0 (bt k))).toNat + w) d) ⟨i.val / 2, by omega⟩ y d))
    _ rfl (fun y => by funext x; unfold merged; split <;> rfl) (fun y => by unfold merged; split <;> rfl)
  refine (hs.mix (fun x => score_ne_top _ _ _) t _).trans ?_
  refine congrArg₂ (fun S V => mix S V (t : EReal) _) (funext fun p => ?_) (funext fun p => congrArg num (crow_at Y _ _ p d))
  exact congrArg (fun z => score _ _ (cap z)) (Finset.sum_congr rfl fun x _ => congrArg (fun w => _ * (num w * _)) (crow_at X _ _ p x))
end Trip
end Cert.KernelIdeal.Hand
end
-- ==== Proof.KernelIdeal.Ends.lean ====
/- The three results after the run: what the trips' stores leave, read by pieces. -/
module
public import proofs.«01_k».proof.Proof.KernelIdeal.Frame
public import proofs.«01_k».proof.Proof.Claims.Attn
@[expose] public section
set_option maxRecDepth 65536
noncomputable section
namespace Cert.KernelIdeal.Hand
open Cert.KernelIdeal Cert.KernelIdeal.Gen
open Idealize.ShloMosaic Idealize.ShloMosaic.TcCoe Idealize.ShloMosaic.Tactic
open Idealize.SL.RA
open Idealize.ShloMosaic.Pipeline (Dat)

variable {F : FTy → Type} [FloatOps F]

section Lists
variable (c : Dev nD)
  (arg0 : Memref sig .tc .smem S3 .i32) (harg0 : arg0.IsWhole) (arg1 : Memref sig .tc .vmem S3x1x2048 .bf16) (harg1 : arg1.IsWhole)
  (arg2 : Memref sig .tc .vmem S3x4x1x256 .bf16) (harg2 : arg2.IsWhole) (arg3 : Memref sig .tc .vmem S3x4x1x256 .bf16) (harg3 : arg3.IsWhole)
  (arg4 : Memref sig .tc .vmem S4x256 .f32) (harg4 : arg4.IsWhole) (arg5 : Memref sig .tc .smem S4 .f32) (harg5 : arg5.IsWhole)
  (arg8 : Memref sig .tc .vmem S3x1x2048 .bf16) (harg8 : arg8.IsWhole) (arg9 : Memref sig .tc .vmem S3x4x1x256 .i8) (harg9 : arg9.IsWhole)
  (arg10 : Memref sig .tc .vmem S3x4x1x256 .i8) (harg10 : arg10.IsWhole)
  (f0 : Buf (Elt F) (arg0.view.loc (c : Thread nD τ))) (f1 : Buf (Elt F) (arg1.view.loc (c : Thread nD τ)))
  (f2 : Buf (Elt F) (arg2.view.loc (c : Thread nD τ))) (f3 : Buf (Elt F) (arg3.view.loc (c : Thread nD τ)))
  (f4 : Buf (Elt F) (arg4.view.loc (c : Thread nD τ))) (f5 : Buf (Elt F) (arg5.view.loc (c : Thread nD τ)))
  (hlen : ∀ (r : LoadRect S3) j, InRange (arg0.view.readAt (Elt F) r f0 j))
  (XK : Buf (Elt F) (ckM.view.loc (c : Thread nD τ))) (XV : Buf (Elt F) (cvM.view.loc (c : Thread nD τ)))

/-- Every piece of the trips so far is one trip's. -/
theorem mem_outL (n : ℕ) (p) (hp : p ∈ outL c arg0 harg0 arg1 harg1 arg2 harg2 arg3 harg3 arg4 harg4 arg5 harg5 arg8 harg8 arg9 harg9 arg10 harg10 f0 f1 f2 f3 f4 f5 hlen XK XV n) :
    ∃ k, p ∈ (trip c arg0 harg0 arg1 harg1 arg2 harg2 arg3 harg3 arg4 harg4 arg5 harg5 arg8 harg8 arg9 harg9 arg10 harg10 f0 f1 f2 f3 f4 f5 hlen XK XV k).1 := by
  induction n with
  | zero => exact absurd hp List.not_mem_nil
  | succ n ih =>
    unfold outL at hp
    split at hp
    · exact (List.mem_append.1 hp).elim (fun h => ⟨_, h⟩) ih
    · exact ih hp
theorem mem_kcodeL (n : ℕ) (p) (hp : p ∈ kcodeL c arg0 harg0 arg1 harg1 arg2 harg2 arg3 harg3 arg4 harg4 arg5 harg5 arg8 harg8 arg9 harg9 arg10 harg10 f0 f1 f2 f3 f4 f5 hlen XK XV n) :
    ∃ k, p ∈ (trip c arg0 harg0 arg1 harg1 arg2 harg2 arg3 harg3 arg4 harg4 arg5 harg5 arg8 harg8 arg9 harg9 arg10 harg10 f0 f1 f2 f3 f4 f5 hlen XK XV k).2.1 := by
  induction n with
  | zero => exact absurd hp List.not_mem_nil
  | succ n ih =>
    unfold kcodeL at hp
    split at hp
    · exact (List.mem_append.1 hp).elim (fun h => ⟨_, h⟩) ih
    · exact ih hp
theorem mem_vcodeL (n : ℕ) (p) (hp : p ∈ vcodeL c arg0 harg0 arg1 harg1 arg2 harg2 arg3 harg3 arg4 harg4 arg5 harg5 arg8 harg8 arg9 harg9 arg10 harg10 f0 f1 f2 f3 f4 f5 hlen XK XV n) :
    ∃ k, p ∈ (trip c arg0 harg0 arg1 harg1 arg2 harg2 arg3 harg3 arg4 harg4 arg5 harg5 arg8 harg8 arg9 harg9 arg10 harg10 f0 f1 f2 f3 f4 f5 hlen XK XV k).2.2.1 := by
  induction n with
  | zero => exact absurd hp List.not_mem_nil
  | succ n ih =>
    unfold vcodeL at hp
    split at hp
    · exact (List.mem_append.1 hp).elim (fun h => ⟨_, h⟩) ih
    · exact ih hp
end Lists

/-! ## The arrays after the run -/

section Arrays
variable (m : (ℓ : Loc nD τ sig) → Buf (Elt F) ℓ) (hm : LensOk m) (c : Dev nD)

/-- The one point. -/
abbrev t0 : Fin cfg0.N := ⟨0, by decide⟩

theorem emb6 (t : Fin cfg0.N) (j : S3x1x2048.Idx) : ((cfg0.win 6).blk t).view.emb j = j := by
  obtain ⟨e0, e1, e2⟩ := (by decide +kernel : ∀ t : Fin grid0.N, win0_6.index t (0 : Fin 3) = 0 ∧ win0_6.index t (1 : Fin 3) = 0 ∧ win0_6.index t (2 : Fin 3) = 0) t
  funext a; apply Fin.ext
  match a with
  | ⟨0, _⟩ => show win0_6.index t (0 : Fin 3) * 3 + 1 * (j 0).val = (j 0).val; omega
  | ⟨1, _⟩ => show win0_6.index t (1 : Fin 3) * 1 + 1 * (j 1).val = (j 1).val; omega
  | ⟨2, _⟩ => show win0_6.index t (2 : Fin 3) * 2048 + 1 * (j 2).val = (j 2).val; omega
theorem emb7 (t : Fin cfg0.N) (j : S3x4x1x256.Idx) : ((cfg0.win 7).blk t).view.emb j = j := by
  obtain ⟨e0, e1, e2, e3⟩ := (by decide +kernel : ∀ t : Fin grid0.N, win0_7.index t (0 : Fin 4) = 0 ∧ win0_7.index t (1 : Fin 4) = 0 ∧ win0_7.index t (2 : Fin 4) = 0 ∧ win0_7.index t (3 : Fin 4) = 0) t
  funext a; apply Fin.ext
  match a with
  | ⟨0, _⟩ => show win0_7.index t (0 : Fin 4) * 3 + 1 * (j 0).val = (j 0).val; omega
  | ⟨1, _⟩ => show win0_7.index t (1 : Fin 4) * 4 + 1 * (j 1).val = (j 1).val; omega
  | ⟨2, _⟩ => show win0_7.index t (2 : Fin 4) * 1 + 1 * (j 2).val = (j 2).val; omega
  | ⟨3, _⟩ => show win0_7.index t (3 : Fin 4) * 256 + 1 * (j 3).val = (j 3).val; omega
theorem emb8 (t : Fin cfg0.N) (j : S3x4x1x256.Idx) : ((cfg0.win 8).blk t).view.emb j = j := by
  obtain ⟨e0, e1, e2, e3⟩ := (by decide +kernel : ∀ t : Fin grid0.N, win0_8.index t (0 : Fin 4) = 0 ∧ win0_8.index t (1 : Fin 4) = 0 ∧ win0_8.index t (2 : Fin 4) = 0 ∧ win0_8.index t (3 : Fin 4) = 0) t
  funext a; apply Fin.ext
  match a with
  | ⟨0, _⟩ => show win0_8.index t (0 : Fin 4) * 3 + 1 * (j 0).val = (j 0).val; omega
  | ⟨1, _⟩ => show win0_8.index t (1 : Fin 4) * 4 + 1 * (j 1).val = (j 1).val; omega
  | ⟨2, _⟩ => show win0_8.index t (2 : Fin 4) * 1 + 1 * (j 2).val = (j 2).val; omega
  | ⟨3, _⟩ => show win0_8.index t (3 : Fin 4) * 256 + 1 * (j 3).val = (j 3).val; omega

/-- A result's array is what the body leaves, whatever single function that is. -/
theorem final6 (G : S3x1x2048.Idx → Elt F .bf16) (hG : ∀ t, outAt m hm c t = G) : (dats m hm 0 c).arrAt 6 cfg0.N = G :=
  (dats m hm 0 c).arrAt_eq_of_cover 6 G
    (fun t _ => by
      show (cfg0.win 6).cut (grid0.coords t) ((dats m hm 0 c).after 6 t) = _
      rw [after0_6, hG]
      funext j
      show G j = G (((cfg0.win 6).blk t).view.emb j)
      rw [emb6])
    fun i => ⟨t0, flush0_6 _, by have h := ((cfg0.win 6).blk t0).view.emb_mem_set i; rwa [emb6] at h⟩
theorem final7 (G : S3x4x1x256.Idx → Elt F .i8) (hG : ∀ t, kcodeAt m hm c t = G) : (dats m hm 0 c).arrAt 7 cfg0.N = G :=
  (dats m hm 0 c).arrAt_eq_of_cover 7 G
    (fun t _ => by
      show (cfg0.win 7).cut (grid0.coords t) ((dats m hm 0 c).after 7 t) = _
      rw [after0_7, hG]
      funext j
      show G j = G (((cfg0.win 7).blk t).view.emb j)
      rw [emb7])
    fun i => ⟨t0, flush0_7 _, by have h := ((cfg0.win 7).blk t0).view.emb_mem_set i; rwa [emb7] at h⟩
theorem final8 (G : S3x4x1x256.Idx → Elt F .i8) (hG : ∀ t, vcodeAt m hm c t = G) : (dats m hm 0 c).arrAt 8 cfg0.N = G :=
  (dats m hm 0 c).arrAt_eq_of_cover 8 G
    (fun t _ => by
      show (cfg0.win 8).cut (grid0.coords t) ((dats m hm 0 c).after 8 t) = _
      rw [after0_8, hG]
      funext j
      show G j = G (((cfg0.win 8).blk t).view.emb j)
      rw [emb8])
    fun i => ⟨t0, flush0_8 _, by have h := ((cfg0.win 8).blk t0).view.emb_mem_set i; rwa [emb8] at h⟩
end Arrays

end Cert.KernelIdeal.Hand
end
-- ==== Proof.KernelIdeal.Codes.lean ====
/- The codes a trip stores. -/
module
public import proofs.«01_k».proof.Proof.KernelIdeal.Rows
public import proofs.«01_k».proof.Proof.KernelIdeal.Ends
@[expose] public section
set_option maxRecDepth 65536
set_option maxHeartbeats 4000000
noncomputable section
namespace Cert.KernelIdeal.Hand
open Cert.KernelIdeal Cert.KernelIdeal.Gen
open Idealize.ShloMosaic Idealize.ShloMosaic.TcCoe Idealize.ShloMosaic.Tactic
open Idealize.SL.RA
variable (c : Dev nD)
  (arg0 : Memref sig .tc .smem S3 .i32) (harg0 : arg0.IsWhole) (arg1 : Memref sig .tc .vmem S3x1x2048 .bf16) (harg1 : arg1.IsWhole)
  (arg2 : Memref sig .tc .vmem S3x4x1x256 .bf16) (harg2 : arg2.IsWhole) (arg3 : Memref sig .tc .vmem S3x4x1x256 .bf16) (harg3 : arg3.IsWhole)
  (arg4 : Memref sig .tc .vmem S4x256 .f32) (harg4 : arg4.IsWhole) (arg5 : Memref sig .tc .smem S4 .f32) (harg5 : arg5.IsWhole)
  (arg8 : Memref sig .tc .vmem S3x1x2048 .bf16) (harg8 : arg8.IsWhole) (arg9 : Memref sig .tc .vmem S3x4x1x256 .i8) (harg9 : arg9.IsWhole)
  (arg10 : Memref sig .tc .vmem S3x4x1x256 .i8) (harg10 : arg10.IsWhole)
  (f0 : Buf (Elt Ideal) (arg0.view.loc (c : Thread nD τ))) (f1 : Buf (Elt Ideal) (arg1.view.loc (c : Thread nD τ)))
  (f2 : Buf (Elt Ideal) (arg2.view.loc (c : Thread nD τ))) (f3 : Buf (Elt Ideal) (arg3.view.loc (c : Thread nD τ)))
  (f4 : Buf (Elt Ideal) (arg4.view.loc (c : Thread nD τ))) (f5 : Buf (Elt Ideal) (arg5.view.loc (c : Thread nD τ)))
  (hlen : ∀ (r : LoadRect S3) j, InRange (arg0.view.readAt (Elt Ideal) r f0 j))
  (XK : Buf (Elt Ideal) (ckM.view.loc (c : Thread nD τ))) (XV : Buf (Elt Ideal) (cvM.view.loc (c : Thread nD τ)))

theorem idx4 (x : S1x1x1x256.Idx) : x = ix4 0 0 0 (x 3) := by
  funext a
  match a with
  | ⟨0, _⟩ => exact Subsingleton.elim (α := Fin 1) _ _
  | ⟨1, _⟩ => exact Subsingleton.elim (α := Fin 1) _ _
  | ⟨2, _⟩ => exact Subsingleton.elim (α := Fin 1) _ _
  | ⟨3, _⟩ => rfl
/-- Where a head's row lies in its array. -/
theorem emb4 {off : Fin 4 → ℕ} {k : Fin k0_t1_loop.trips} {h : Fin 4} (d : Fin 256) (ho : off = ![k.val, h.val, 0, 0]) (hp) :
    (Rect.unit (s := S3x4x1x256) off S1x1x1x256.size hp).emb (ix4 0 0 0 d) = ix4 (bt k) h 0 d :=
  Rect.emb_eq_of_coords _ _ _ fun a => by
    subst ho
    match a with
    | ⟨0, _⟩ => show k.val = k.val + 1 * 0; omega
    | ⟨1, _⟩ => show h.val = h.val + 1 * 0; omega
    | ⟨2, _⟩ => rfl
    | ⟨3, _⟩ => show d.val = 0 + 1 * d.val; omega

/-- The new keys' codes. -/
def kcodeS (kn : S3x4x1x256.Idx → EReal) (ks : S4x256.Idx → EReal) (j : S3x4x1x256.Idx) : BitVec 8 :=
  FloatOps.fptosi (F := Ideal) (φ := .f32) 8 (Cert.Claims.code (kn j) (ks (ix2 (j 1) (j 3))))
/-- The new values' codes. -/
def vcodeS (vn : S3x4x1x256.Idx → EReal) (vs : S4.Idx → EReal) (j : S3x4x1x256.Idx) : BitVec 8 :=
  FloatOps.fptosi (F := Ideal) (φ := .f32) 8 (Cert.Claims.code (vn j) (vs (ix1 (j 1))))

/-- A head's row of the new keys or values, as a row of numbers. -/
theorem read4x {s : Shape} (arg : Memref sig .tc .vmem S3x4x1x256 .bf16) (f : Buf (Elt Ideal) (arg.view.loc (c : Thread nD τ))) (k : Fin k0_t1_loop.trips) (h : Fin 4) (d : Fin 256)
    {off : Fin 4 → ℕ} (ho : off = ![k.val, h.val, 0, 0]) (hp) (hb : FTy.bits .bf16 < FTy.bits .f32) (hs) :
    extf (F := Ideal) .f32 (shapeCast S1x256 (View.readAt (Elt Ideal) arg.view (Rect.unit (s := S3x4x1x256) off ![1, 1, 1, 256] hp).toLoadRect f) hs) hb (ix2 0 d)
      = arg.view.read (Elt Ideal) f (ix4 (bt k) h 0 d) := by
  refine Eq.trans ?_ (read4 c (s := s) arg f k h d ho hp)
  pointwise []

theorem kcode_piece (k : Fin k0_t1_loop.trips) (p)
    (hp : p ∈ (trip c arg0 harg0 arg1 harg1 arg2 harg2 arg3 harg3 arg4 harg4 arg5 harg5 arg8 harg8 arg9 harg9 arg10 harg10 f0 f1 f2 f3 f4 f5 hlen XK XV k).2.1) (x : p.1.shape.Idx) :
    p.2 x = kcodeS (arg2.view.read (Elt Ideal) f2) (arg4.view.read (Elt Ideal) f4) (p.1.emb x) := by
  change p ∈ [_, _, _, _] at hp
  simp only [List.mem_cons, List.not_mem_nil, or_false] at hp
  rcases hp with rfl | rfl | rfl | rfl
  all_goals
    rw [show x = ix4 0 0 0 (x 3) from idx4 x]
    generalize x 3 = d
    dsimp only
  · refine Eq.trans ?_ (congrArg _ (emb4 (h := 3) d (k0_off36_eq k) _).symm)
    pointwise [tripRun.sl.r_20, k0_pay42, k0_pay40, kcodeS]
    exact congrArg (FloatOps.fptosi (F := Ideal) (φ := .f32) 8) (congrArg₂ Cert.Claims.code (read4 c (s := S4) arg2 f2 k 3 d (k0_off36_eq k) _) (readk c arg4 f4 3 d _))
  · refine Eq.trans ?_ (congrArg _ (emb4 (h := 2) d (k0_off35_eq k) _).symm)
    pointwise [tripRun.sl.r_14, k0_pay34, k0_pay31, kcodeS]
    exact congrArg (FloatOps.fptosi (F := Ideal) (φ := .f32) 8) (congrArg₂ Cert.Claims.code (read4 c (s := S4) arg2 f2 k 2 d (k0_off35_eq k) _) (readk c arg4 f4 2 d _))
  · refine Eq.trans ?_ (congrArg _ (emb4 (h := 1) d (k0_off34_eq k) _).symm)
    pointwise [k0_pay24, kcodeS]
    exact congrArg (FloatOps.fptosi (F := Ideal) (φ := .f32) 8) (congrArg₂ Cert.Claims.code (read4x c (s := S4) arg2 f2 k 1 d (k0_off34_eq k) _ _ _) (readk c arg4 f4 1 d _))
  · refine Eq.trans ?_ (congrArg _ (emb4 (h := 0) d (k0_off33_eq k) _).symm)
    pointwise [tripRun.sl.r_2, k0_pay9, k0_pay12, kcodeS]
    exact congrArg (FloatOps.fptosi (F := Ideal) (φ := .f32) 8) (congrArg₂ Cert.Claims.code (read4x c (s := S4) arg2 f2 k 0 d (k0_off33_eq k) _ _ _) (readk c arg4 f4 0 d _))
theorem vcode_piece (k : Fin k0_t1_loop.trips) (p)
    (hp : p ∈ (trip c arg0 harg0 arg1 harg1 arg2 harg2 arg3 harg3 arg4 harg4 arg5 harg5 arg8 harg8 arg9 harg9 arg10 harg10 f0 f1 f2 f3 f4 f5 hlen XK XV k).2.2.1) (x : p.1.shape.Idx) :
    p.2 x = vcodeS (arg3.view.read (Elt Ideal) f3) (arg5.view.read (Elt Ideal) f5) (p.1.emb x) := by
  change p ∈ [_, _, _, _] at hp
  simp only [List.mem_cons, List.not_mem_nil, or_false] at hp
  rcases hp with rfl | rfl | rfl | rfl
  all_goals
    rw [show x = ix4 0 0 0 (x 3) from idx4 x]
    generalize x 3 = d
    dsimp only
  · refine Eq.trans ?_ (congrArg _ (emb4 (h := 3) d (k0_off36_eq k) _).symm)
    pointwise [tripRun.sl.r_21, k0_pay43, vcodeS]
    exact congrArg (FloatOps.fptosi (F := Ideal) (φ := .f32) 8) (congrArg₂ Cert.Claims.code (read4x c (s := S4) arg3 f3 k 3 d (k0_off36_eq k) _ _ _) (readv c arg5 f5 3 _ _))
  · refine Eq.trans ?_ (congrArg _ (emb4 (h := 2) d (k0_off35_eq k) _).symm)
    pointwise [tripRun.sl.cst_741, tripRun.sl.r_15, tripRun.sl.r_12, k0_pay35, k0_pay32, vcodeS]
    exact congrArg (FloatOps.fptosi (F := Ideal) (φ := .f32) 8) (congrArg₂ Cert.Claims.code (read4x c (s := S4) arg3 f3 k 2 d (k0_off35_eq k) _ _ _) (readv c arg5 f5 2 _ _))
  · refine Eq.trans ?_ (congrArg _ (emb4 (h := 1) d (k0_off34_eq k) _).symm)
    pointwise [tripRun.sl.r_10, tripRun.sl.r_6, k0_pay25, k0_pay26, vcodeS]
    exact congrArg (FloatOps.fptosi (F := Ideal) (φ := .f32) 8) (congrArg₂ Cert.Claims.code (read4x c (s := S4) arg3 f3 k 1 d (k0_off34_eq k) _ _ _) (readv c arg5 f5 1 _ _))
  · refine Eq.trans ?_ (congrArg _ (emb4 (h := 0) d (k0_off33_eq k) _).symm)
    pointwise [tripRun.sl.r_3, k0_pay13, vcodeS]
    exact congrArg (FloatOps.fptosi (F := Ideal) (φ := .f32) 8) (congrArg₂ Cert.Claims.code (read4x c (s := S4) arg3 f3 k 0 d (k0_off33_eq k) _ _ _) (readv c arg5 f5 0 _ _))

end Cert.KernelIdeal.Hand
end
-- ==== Proof.KernelIdeal.Values.lean ====
/- Each operand's block at the point is its whole array; and what the results' arrays hold after the run. -/
module
public import proofs.«01_k».proof.Proof.KernelIdeal.Codes
@[expose] public section
set_option maxRecDepth 65536
set_option maxHeartbeats 4000000
noncomputable section
namespace Cert.KernelIdeal.Hand
open Cert.KernelIdeal Cert.KernelIdeal.Gen
open Idealize.ShloMosaic Idealize.ShloMosaic.TcCoe Idealize.ShloMosaic.Tactic
open Idealize.SL.RA Idealize.SL.Sem
open Idealize.ShloMosaic.Pipeline (Dat)
variable (m : (ℓ : Loc nD τ sig) → Buf (Elt Ideal) ℓ) (hm : LensOk m) (c : Dev nD)

theorem iblk0_eq (t : Fin cfg0.N) : iblk m c 0 t = V m c main_arg7 := by
  have he := (by decide +kernel : ∀ t : Fin grid0.N, win0_0.index t (0 : Fin 1) = 0) t
  obtain e0 := he
  funext j
  show V m c main_arg7 (((cfg0.win 0).blk t).view.emb j) = V m c main_arg7 j
  refine congrArg (V m c main_arg7) (funext fun a => Fin.ext ?_)
  match a with
  | ⟨0, _⟩ => show win0_0.index t (0 : Fin 1) * 3 + 1 * (j 0).val = (j 0).val; omega
theorem iblk1_eq (t : Fin cfg0.N) : iblk m c 1 t = V m c main_arg0 := by
  have he := (by decide +kernel : ∀ t : Fin grid0.N, win0_1.index t (0 : Fin 3) = 0 ∧ win0_1.index t (1 : Fin 3) = 0 ∧ win0_1.index t (2 : Fin 3) = 0) t
  obtain ⟨e0, e1, e2⟩ := he
  funext j
  show V m c main_arg0 (((cfg0.win 1).blk t).view.emb j) = V m c main_arg0 j
  refine congrArg (V m c main_arg0) (funext fun a => Fin.ext ?_)
  match a with
  | ⟨0, _⟩ => show win0_1.index t (0 : Fin 3) * 3 + 1 * (j 0).val = (j 0).val; omega
  | ⟨1, _⟩ => show win0_1.index t (1 : Fin 3) * 1 + 1 * (j 1).val = (j 1).val; omega
  | ⟨2, _⟩ => show win0_1.index t (2 : Fin 3) * 2048 + 1 * (j 2).val = (j 2).val; omega
theorem iblk2_eq (t : Fin cfg0.N) : iblk m c 2 t = V m c main_arg1 := by
  have he := (by decide +kernel : ∀ t : Fin grid0.N, win0_2.index t (0 : Fin 4) = 0 ∧ win0_2.index t (1 : Fin 4) = 0 ∧ win0_2.index t (2 : Fin 4) = 0 ∧ win0_2.index t (3 : Fin 4) = 0) t
  obtain ⟨e0, e1, e2, e3⟩ := he
  funext j
  show V m c main_arg1 (((cfg0.win 2).blk t).view.emb j) = V m c main_arg1 j
  refine congrArg (V m c main_arg1) (funext fun a => Fin.ext ?_)
  match a with
  | ⟨0, _⟩ => show win0_2.index t (0 : Fin 4) * 3 + 1 * (j 0).val = (j 0).val; omega
  | ⟨1, _⟩ => show win0_2.index t (1 : Fin 4) * 4 + 1 * (j 1).val = (j 1).val; omega
  | ⟨2, _⟩ => show win0_2.index t (2 : Fin 4) * 1 + 1 * (j 2).val = (j 2).val; omega
  | ⟨3, _⟩ => show win0_2.index t (3 : Fin 4) * 256 + 1 * (j 3).val = (j 3).val; omega
theorem iblk3_eq (t : Fin cfg0.N) : iblk m c 3 t = V m c main_arg2 := by
  have he := (by decide +kernel : ∀ t : Fin grid0.N, win0_3.index t (0 : Fin 4) = 0 ∧ win0_3.index t (1 : Fin 4) = 0 ∧ win0_3.index t (2 : Fin 4) = 0 ∧ win0_3.index t (3 : Fin 4) = 0) t
  obtain ⟨e0, e1, e2, e3⟩ := he
  funext j
  show V m c main_arg2 (((cfg0.win 3).blk t).view.emb j) = V m c main_arg2 j
  refine congrArg (V m c main_arg2) (funext fun a => Fin.ext ?_)
  match a with
  | ⟨0, _⟩ => show win0_3.index t (0 : Fin 4) * 3 + 1 * (j 0).val = (j 0).val; omega
  | ⟨1, _⟩ => show win0_3.index t (1 : Fin 4) * 4 + 1 * (j 1).val = (j 1).val; omega
  | ⟨2, _⟩ => show win0_3.index t (2 : Fin 4) * 1 + 1 * (j 2).val = (j 2).val; omega
  | ⟨3, _⟩ => show win0_3.index t (3 : Fin 4) * 256 + 1 * (j 3).val = (j 3).val; omega
theorem iblk4_eq (t : Fin cfg0.N) : iblk m c 4 t = V m c main_arg5 := by
  have he := (by decide +kernel : ∀ t : Fin grid0.N, win0_4.index t (0 : Fin 2) = 0 ∧ win0_4.index t (1 : Fin 2) = 0) t
  obtain ⟨e0, e1⟩ := he
  funext j
  show V m c main_arg5 (((cfg0.win 4).blk t).view.emb j) = V m c main_arg5 j
  refine congrArg (V m c main_arg5) (funext fun a => Fin.ext ?_)
  match a with
  | ⟨0, _⟩ => show win0_4.index t (0 : Fin 2) * 4 + 1 * (j 0).val = (j 0).val; omega
  | ⟨1, _⟩ => show win0_4.index t (1 : Fin 2) * 256 + 1 * (j 1).val = (j 1).val; omega
theorem iblk5_eq (t : Fin cfg0.N) : iblk m c 5 t = V m c main_arg6 := by
  have he := (by decide +kernel : ∀ t : Fin grid0.N, win0_5.index t (0 : Fin 1) = 0) t
  obtain e0 := he
  funext j
  show V m c main_arg6 (((cfg0.win 5).blk t).view.emb j) = V m c main_arg6 j
  refine congrArg (V m c main_arg6) (funext fun a => Fin.ext ?_)
  match a with
  | ⟨0, _⟩ => show win0_5.index t (0 : Fin 1) * 4 + 1 * (j 0).val = (j 0).val; omega

/-- The stored key codes. -/
theorem kcodeAt_eq (t : Fin cfg0.N) : kcodeAt m hm c t = kcodeS (m ((c : Thread nD τ).loc main_arg1)) (m ((c : Thread nD τ).loc main_arg5)) := by
  funext y
  refine View.read_writes_apply_of_pieces _ _ _ _ (fun p hp x => ?_) y (kcode_cover m hm c t y)
  obtain ⟨k, hk⟩ := mem_kcodeL c _ _ _ _ _ _ _ _ _ _ _ _ _ _ _ _ _ _ _ _ _ _ _ _ _ _ _ 3 p hp
  refine (kcode_piece c _ _ _ _ _ _ _ _ _ _ _ _ _ _ _ _ _ _ _ _ _ _ _ _ _ _ _ k p hk x).trans ?_
  rw [read_canon, read_canon, iblk2_eq, iblk4_eq]
/-- The stored value codes. -/
theorem vcodeAt_eq (t : Fin cfg0.N) : vcodeAt m hm c t = vcodeS (m ((c : Thread nD τ).loc main_arg2)) (m ((c : Thread nD τ).loc main_arg6)) := by
  funext y
  refine View.read_writes_apply_of_pieces _ _ _ _ (fun p hp x => ?_) y (vcode_cover m hm c t y)
  obtain ⟨k, hk⟩ := mem_vcodeL c _ _ _ _ _ _ _ _ _ _ _ _ _ _ _ _ _ _ _ _ _ _ _ _ _ _ _ 3 p hp
  refine (vcode_piece c _ _ _ _ _ _ _ _ _ _ _ _ _ _ _ _ _ _ _ _ _ _ _ _ _ _ _ k p hk x).trans ?_
  rw [read_canon, read_canon, iblk3_eq, iblk5_eq]

/-- The codes after the run. -/
theorem ends_codes (r : PUnit × MemSt nD τ sig (Elt Ideal)) (h : Pipeline.FramePost cfgs (dats m hm) 0 (V m) r) (c : Dev nD) :
    r.2.mem ((c.tc : Thread nD τ).loc main_v0_1) = kcodeS (m ((c : Thread nD τ).loc main_arg1)) (m ((c : Thread nD τ).loc main_arg5))
      ∧ r.2.mem ((c.tc : Thread nD τ).loc main_v0_2) = vcodeS (m ((c : Thread nD τ).loc main_arg2)) (m ((c : Thread nD τ).loc main_arg6)) :=
  ⟨((h c).1 7).trans (final7 m hm c _ (kcodeAt_eq m hm c)), ((h c).1 8).trans (final8 m hm c _ (vcodeAt_eq m hm c))⟩

end Cert.KernelIdeal.Hand
end
-- ==== Proof.KernelIdeal.Stored.lean ====
/- The attention's result after the run: every piece a trip stores is the specification's. -/
module
public import proofs.«01_k».proof.Proof.KernelIdeal.Out
public import proofs.«01_k».proof.Proof.KernelIdeal.Values
@[expose] public section
set_option maxRecDepth 65536
set_option maxHeartbeats 4000000
noncomputable section
namespace Cert.KernelIdeal.Hand
open Cert.KernelIdeal Cert.KernelIdeal.Gen
open Idealize.ShloMosaic Idealize.ShloMosaic.TcCoe Idealize.ShloMosaic.Tactic
open Idealize.SL.RA
open Cert.Claims
open Idealize.ShloMosaic.Pipeline (Dat)

theorem idx3 (x : S1x1x256.Idx) : x = ix3 0 0 (x 2) := by
  funext a
  match a with
  | ⟨0, _⟩ => exact Subsingleton.elim (α := Fin 1) _ _
  | ⟨1, _⟩ => exact Subsingleton.elim (α := Fin 1) _ _
  | ⟨2, _⟩ => rfl
/-- Where a query row lies in the result. -/
theorem emb3 {off : Fin 3 → ℕ} {k : Fin k0_t1_loop.trips} (i : Fin 8) (d : Fin 256) (ho : off = ![k.val, 0, 256 * i.val]) (hp) :
    (Rect.unit (s := S3x1x2048) off S1x1x256.size hp).emb (ix3 0 0 d) = ix3 (bt k) 0 ⟨256 * i.val + d.val, by omega⟩ :=
  Rect.emb_eq_of_coords _ _ _ fun a => by
    subst ho
    match a with
    | ⟨0, _⟩ => show k.val = k.val + 1 * 0; omega
    | ⟨1, _⟩ => rfl
    | ⟨2, _⟩ => show 256 * i.val + d.val = 256 * i.val + 1 * d.val; omega

/-- The attention's result. -/
def outS (n : S3.Idx → BitVec 32) (q : S3x1x2048.Idx → EReal) (kn vn : S3x4x1x256.Idx → EReal) (kc vc : S3x4x65536x256.Idx → BitVec 8) (ks : S4x256.Idx → EReal) (vs : S4.Idx → EReal)
    (j : S3x1x2048.Idx) : EReal :=
  let b : Fin 3 := j 0
  let i : Fin 8 := ⟨(j 2).val / 256, by have h : (j 2).val < 2048 := (j 2).isLt; omega⟩
  let h : Fin 4 := ⟨i.val / 2, by omega⟩
  let d : Fin 256 := ⟨(j 2).val % 256, by omega⟩
  attn (n (ix1 b)) (fun x => q (ix3 b 0 ⟨256 * i.val + x.val, by omega⟩)) (fun p x => kc (ix4 b h p x)) (fun x => ks (ix2 h x))
    (fun x => kn (ix4 b h 0 x)) (fun p => vc (ix4 b h p d)) (vs (ix1 h)) (vn (ix4 b h 0 d))

theorem outS_at (n : S3.Idx → BitVec 32) (q : S3x1x2048.Idx → EReal) (kn vn : S3x4x1x256.Idx → EReal) (kc vc : S3x4x65536x256.Idx → BitVec 8) (ks : S4x256.Idx → EReal) (vs : S4.Idx → EReal)
    (b : Fin 3) (i : Fin 8) (d : Fin 256) :
    outS n q kn vn kc vc ks vs (ix3 b 0 ⟨256 * i.val + d.val, by omega⟩)
      = attn (n (ix1 b)) (fun x => q (ix3 b 0 ⟨256 * i.val + x.val, by omega⟩)) (fun p x => kc (ix4 b ⟨i.val / 2, by omega⟩ p x)) (fun x => ks (ix2 ⟨i.val / 2, by omega⟩ x))
          (fun x => kn (ix4 b ⟨i.val / 2, by omega⟩ 0 x)) (fun p => vc (ix4 b ⟨i.val / 2, by omega⟩ p d)) (vs (ix1 ⟨i.val / 2, by omega⟩)) (vn (ix4 b ⟨i.val / 2, by omega⟩ 0 d)) := by
  have e1 : (256 * i.val + d.val) / 256 = i.val := by omega
  have e2 : (256 * i.val + d.val) % 256 = d.val := by omega
  unfold outS
  simp only [ix3, e1, e2]

/-! ## A row of the eight, as the block it is stored as -/
theorem row0 (W : FVec Ideal S8x256 .bf16) (d : Fin 256) : (shapeCast S1x1x256 (extractStridedSlice S1x256 ![0, 0] W slices_S8x256_o0_0_S1x256) shapeCasts_S1x256_S1x1x256 : FVec Ideal S1x1x256 .bf16) (ix3 0 0 d) = W (ix2 0 d) := by
  pointwise []
theorem row1 (W : FVec Ideal S8x256 .bf16) (d : Fin 256) : (shapeCast S1x1x256 (extractStridedSlice S1x256 ![1, 0] W slices_S8x256_o1_0_S1x256) shapeCasts_S1x256_S1x1x256 : FVec Ideal S1x1x256 .bf16) (ix3 0 0 d) = W (ix2 1 d) := by
  pointwise []
theorem row2 (W : FVec Ideal S8x256 .bf16) (d : Fin 256) : (shapeCast S1x1x256 (extractStridedSlice S1x256 ![2, 0] W slices_S8x256_o2_0_S1x256) shapeCasts_S1x256_S1x1x256 : FVec Ideal S1x1x256 .bf16) (ix3 0 0 d) = W (ix2 2 d) := by
  pointwise []
theorem row3 (W : FVec Ideal S8x256 .bf16) (d : Fin 256) : (shapeCast S1x1x256 (extractStridedSlice S1x256 ![3, 0] W slices_S8x256_o3_0_S1x256) shapeCasts_S1x256_S1x1x256 : FVec Ideal S1x1x256 .bf16) (ix3 0 0 d) = W (ix2 3 d) := by
  pointwise []
theorem row4 (W : FVec Ideal S8x256 .bf16) (d : Fin 256) : (k0_pay134 W : FVec Ideal S1x1x256 .bf16) (ix3 0 0 d) = W (ix2 4 d) := by
  pointwise [k0_pay134]
theorem row5 (W : FVec Ideal S8x256 .bf16) (d : Fin 256) : (k0_pay2 (k0_pay135 W) : FVec Ideal S1x1x256 .bf16) (ix3 0 0 d) = W (ix2 5 d) := by
  pointwise [k0_pay2, k0_pay135]
theorem row6 (W : FVec Ideal S8x256 .bf16) (d : Fin 256) : (k0_pay3 W : FVec Ideal S1x1x256 .bf16) (ix3 0 0 d) = W (ix2 6 d) := by
  pointwise [k0_pay3]
theorem row7 (W : FVec Ideal S8x256 .bf16) (d : Fin 256) : (k0_pay4 W : FVec Ideal S1x1x256 .bf16) (ix3 0 0 d) = W (ix2 7 d) := by
  pointwise [k0_pay4]

section Pieces
variable (c : Dev nD)
  (arg0 : Memref sig .tc .smem S3 .i32) (harg0 : arg0.IsWhole) (arg1 : Memref sig .tc .vmem S3x1x2048 .bf16) (harg1 : arg1.IsWhole)
  (arg2 : Memref sig .tc .vmem S3x4x1x256 .bf16) (harg2 : arg2.IsWhole) (arg3 : Memref sig .tc .vmem S3x4x1x256 .bf16) (harg3 : arg3.IsWhole)
  (arg4 : Memref sig .tc .vmem S4x256 .f32) (harg4 : arg4.IsWhole) (arg5 : Memref sig .tc .smem S4 .f32) (harg5 : arg5.IsWhole)
  (arg8 : Memref sig .tc .vmem S3x1x2048 .bf16) (harg8 : arg8.IsWhole) (arg9 : Memref sig .tc .vmem S3x4x1x256 .i8) (harg9 : arg9.IsWhole)
  (arg10 : Memref sig .tc .vmem S3x4x1x256 .i8) (harg10 : arg10.IsWhole)
  (f0 : Buf (Elt Ideal) (arg0.view.loc (c : Thread nD τ))) (f1 : Buf (Elt Ideal) (arg1.view.loc (c : Thread nD τ)))
  (f2 : Buf (Elt Ideal) (arg2.view.loc (c : Thread nD τ))) (f3 : Buf (Elt Ideal) (arg3.view.loc (c : Thread nD τ)))
  (f4 : Buf (Elt Ideal) (arg4.view.loc (c : Thread nD τ))) (f5 : Buf (Elt Ideal) (arg5.view.loc (c : Thread nD τ)))
  (hlen : ∀ (r : LoadRect S3) j, InRange (arg0.view.readAt (Elt Ideal) r f0 j))
  (XK : Buf (Elt Ideal) (ckM.view.loc (c : Thread nD τ))) (XV : Buf (Elt Ideal) (cvM.view.loc (c : Thread nD τ)))

/-- A row as the specification has it, whatever the windows held before the trip's transfers. -/
theorem row_spec (k : Fin k0_t1_loop.trips) (i : Fin 8) (d : Fin 256) :
    outRows c arg0 arg1 arg2 arg3 arg4 arg5 f0 f1 f2 f3 f4 f5 k (got c arg0 f0 hlen XK XV (bt k)) (ix2 i d)
      = outS (arg0.view.read (Elt Ideal) f0) (arg1.view.read (Elt Ideal) f1) (arg2.view.read (Elt Ideal) f2) (arg3.view.read (Elt Ideal) f3)
          (ckM.view.read (Elt Ideal) XK) (cvM.view.read (Elt Ideal) XV) (arg4.view.read (Elt Ideal) f4) (arg5.view.read (Elt Ideal) f5)
          (ix3 (bt k) 0 ⟨256 * i.val + d.val, by omega⟩) := by
  have hl : lenW c arg0 f0 (bt k) = arg0.view.read (Elt Ideal) f0 (ix1 (bt k)) :=
    readAt_at _ _ _ _ _ fun a => by
      match a with
      | ⟨0, _⟩ => rfl
  rw [outS_at, ← hl]
  exact outRows_attn c arg0 arg1 arg2 arg3 arg4 arg5 f0 f1 f2 f3 f4 f5 k hlen _ _ _
    (fun h => got_k c arg0 f0 hlen XK (bt k) (anyHeld c (bt k)) _ h (landing_k c arg0 f0 hlen XK XV (bt k) (anyHeld c (bt k)) h))
    (got_kx c arg0 f0 hlen XK XV (bt k) (anyHeld c (bt k)))
    (fun h => got_v c arg0 f0 hlen XV (bt k) (anyHeld c (bt k)) _ h (landing_v c arg0 f0 hlen XK XV (bt k) (anyHeld c (bt k)) h))
    (got_vx c arg0 f0 hlen XK XV (bt k) (anyHeld c (bt k))) i d

theorem out_piece (k : Fin k0_t1_loop.trips) (p)
    (hp : p ∈ (trip c arg0 harg0 arg1 harg1 arg2 harg2 arg3 harg3 arg4 harg4 arg5 harg5 arg8 harg8 arg9 harg9 arg10 harg10 f0 f1 f2 f3 f4 f5 hlen XK XV k).1) (x : p.1.shape.Idx) :
    p.2 x = outS (arg0.view.read (Elt Ideal) f0) (arg1.view.read (Elt Ideal) f1) (arg2.view.read (Elt Ideal) f2) (arg3.view.read (Elt Ideal) f3)
          (ckM.view.read (Elt Ideal) XK) (cvM.view.read (Elt Ideal) XV) (arg4.view.read (Elt Ideal) f4) (arg5.view.read (Elt Ideal) f5) (p.1.emb x) := by
  change p ∈ [_, _, _, _, _, _, _, _] at hp
  simp only [List.mem_cons, List.not_mem_nil, or_false] at hp
  rcases hp with rfl | rfl | rfl | rfl | rfl | rfl | rfl | rfl
  all_goals
    rw [show x = ix3 0 0 (x 2) from idx3 x]
    generalize x 2 = d
    dsimp only
  · exact (row7 _ d).trans ((row_spec c arg0 arg1 arg2 arg3 arg4 arg5 f0 f1 f2 f3 f4 f5 hlen XK XV k 7 d).trans (congrArg _ (emb3 7 d (k0_off132_eq k) _).symm))
  · exact (row6 _ d).trans ((row_spec c arg0 arg1 arg2 arg3 arg4 arg5 f0 f1 f2 f3 f4 f5 hlen XK XV k 6 d).trans (congrArg _ (emb3 6 d (k0_off131_eq k) _).symm))
  · exact (row5 _ d).trans ((row_spec c arg0 arg1 arg2 arg3 arg4 arg5 f0 f1 f2 f3 f4 f5 hlen XK XV k 5 d).trans (congrArg _ (emb3 5 d (k0_off130_eq k) _).symm))
  · exact (row4 _ d).trans ((row_spec c arg0 arg1 arg2 arg3 arg4 arg5 f0 f1 f2 f3 f4 f5 hlen XK XV k 4 d).trans (congrArg _ (emb3 4 d (k0_off129_eq k) _).symm))
  · exact (row3 _ d).trans ((row_spec c arg0 arg1 arg2 arg3 arg4 arg5 f0 f1 f2 f3 f4 f5 hlen XK XV k 3 d).trans (congrArg _ (emb3 3 d (k0_off128_eq k) _).symm))
  · exact (row2 _ d).trans ((row_spec c arg0 arg1 arg2 arg3 arg4 arg5 f0 f1 f2 f3 f4 f5 hlen XK XV k 2 d).trans (congrArg _ (emb3 2 d (k0_off127_eq k) _).symm))
  · exact (row1 _ d).trans ((row_spec c arg0 arg1 arg2 arg3 arg4 arg5 f0 f1 f2 f3 f4 f5 hlen XK XV k 1 d).trans (congrArg _ (emb3 1 d (k0_off126_eq k) _).symm))
  · exact (row0 _ d).trans ((row_spec c arg0 arg1 arg2 arg3 arg4 arg5 f0 f1 f2 f3 f4 f5 hlen XK XV k 0 d).trans (congrArg _ (emb3 0 d (k0_off125_eq k) _).symm))
end Pieces

section Ends
variable (m : (ℓ : Loc nD τ sig) → Buf (Elt Ideal) ℓ) (hm : LensOk m) (c : Dev nD)

/-- The stored result. -/
theorem outAt_eq (t : Fin cfg0.N) : outAt m hm c t = outS (m ((c : Thread nD τ).loc main_arg7)) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) (m ((c : Thread nD τ).loc main_arg6)) := by
  funext y
  refine View.read_writes_apply_of_pieces _ _ _ _ (fun p hp x => ?_) y (out_cover m hm c t y)
  obtain ⟨k, hk⟩ := mem_outL c _ _ _ _ _ _ _ _ _ _ _ _ _ _ _ _ _ _ _ _ _ _ _ _ _ _ _ 3 p hp
  refine (out_piece c _ _ _ _ _ _ _ _ _ _ _ _ _ _ _ _ _ _ _ _ _ _ _ _ _ _ _ k p hk x).trans ?_
  rw [read_canon, read_canon, read_canon, read_canon, read_canon, read_canon, iblk0_eq, iblk1_eq, iblk2_eq, iblk3_eq, iblk4_eq, iblk5_eq]
  rfl

/-- The attention's result after the run. -/
theorem ends_out (r : PUnit × MemSt nD τ sig (Elt Ideal)) (h : Pipeline.FramePost cfgs (dats m hm) 0 (V m) r) (c : Dev nD) :
    r.2.mem ((c.tc : Thread nD τ).loc main_v0_0) = outS (m ((c : Thread nD τ).loc main_arg7)) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) (m ((c : Thread nD τ).loc main_arg6)) :=
  ((h c).1 6).trans (final6 m hm c _ (outAt_eq m hm c))
end Ends
end Cert.KernelIdeal.Hand
end
-- ==== Proof.Reference.Rows.lean ====
/- What the reference computes, row by row over the extended reals. -/
module
public import proofs.«01_k».proof.Proof.Gen.ReferenceIdeal.Value
public import proofs.«01_k».proof.Proof.Claims.Spec
public import Idealize.ShloMosaic.Lib.Pointwise
@[expose] public section
set_option maxRecDepth 65536
set_option maxHeartbeats 4000000
noncomputable section
namespace Cert.ReferenceIdeal.Hand
open Cert.ReferenceIdeal Cert.ReferenceIdeal.Gen Cert.ReferenceIdeal.Value
open Idealize.ShloMosaic Idealize.ShloMosaic.TcCoe Idealize.ShloMosaic.Tactic

variable (a0 : Vec Ideal S3x1x2048 .bf16) (a1 a2 : Vec Ideal S3x4x1x256 .bf16) (a3 a4 : Vec Ideal S3x4x65536x256 .i8)
  (a5 : Vec Ideal S4x256 .f32) (a6 : Vec Ideal S4 .f32) (a7 : Vec Ideal S3 .i32)

/-- A cached row's score: capped where the row is one of the last 4095 cached ones, minus infinity elsewhere. -/
theorem score_at (q : FVec Ideal S12x2x256 .bf16) (b : Fin 3) (h : Fin 4) (g : Fin 2) (p : Fin 65536) :
    k0_pay6 a5 a7 q a3 (ix4 b h g p)
      = Cert.Claims.score (a7 (ix1 b)) (BitVec.ofNat 32 p.val)
          (Cert.Claims.cap (∑ x, q (ix3 ⟨b.val * 4 + h.val, by omega⟩ g x) * (FloatOps.sitofp (F := Ideal) FTy.bf16 (a3 (ix4 b h p x)) * a5 (ix2 h x)))) := by
  pointwise [k0_pay6]
  rfl
/-- The new row's score. -/
theorem new_at (q : FVec Ideal S12x2x256 .bf16) (kc : IVec S3x4x1x256 8) (b : Fin 3) (h : Fin 4) (g : Fin 2) :
    k0_pay5 a5 kc q (ix4 b h g 0)
      = Cert.Claims.cap (∑ x, q (ix3 ⟨b.val * 4 + h.val, by omega⟩ g x) * (FloatOps.sitofp (F := Ideal) FTy.bf16 (kc (ix4 b h 0 x)) * a5 (ix2 h x))) := by
  pointwise [k0_pay5]
  rfl
/-- The greatest score. -/
theorem max_at (q : FVec Ideal S12x2x256 .bf16) (kc : IVec S3x4x1x256 8) (b : Fin 3) (h : Fin 4) (g : Fin 2) :
    k0_pay7 a5 a7 kc q a3 (ix4 b h g 0)
      = Cert.Claims.top (fun x => k0_pay6 a5 a7 q a3 (ix4 b h g x)) (k0_pay5 a5 kc q (ix4 b h g 0)) := by
  pointwise [k0_pay7]
  rfl
/-- A score less the greatest. -/
theorem less_at (q : FVec Ideal S12x2x256 .bf16) (kc : IVec S3x4x1x256 8) (b : Fin 3) (h : Fin 4) (g : Fin 2) (p : Fin 65536) :
    k0_pay8 a5 a7 kc q a3 (ix4 b h g p)
      = k0_pay6 a5 a7 q a3 (ix4 b h g p) - k0_pay7 a5 a7 kc q a3 (ix4 b h g 0) := by
  pointwise [k0_pay8]
/-- The queries, read by batch entry and head. -/
theorem query_at (b : Fin 3) (h : Fin 4) (g : Fin 2) (d : Fin 256) :
    k0_pay4 a0 (ix3 ⟨b.val * 4 + h.val, by omega⟩ g d) = a0 (ix3 b 0 ⟨256 * (2 * h.val + g.val) + d.val, by omega⟩) := by
  have e : (ix3 (⟨b.val * 4 + h.val, by omega⟩ : Fin 12) g d : S12x2x256.Idx) = ix3 ⟨b.val * 4 + h.val, by omega⟩ g d := rfl
  unfold k0_pay4
  refine (shapeCast_apply _ _ _ (ix3 b 0 ⟨256 * (2 * h.val + g.val) + d.val, by omega⟩) ?_)
  rw [Shape.rowMajor_val_three, Shape.rowMajor_val_three]
  show (b.val * 1 + 0) * 2048 + (256 * (2 * h.val + g.val) + d.val) = ((b.val * 4 + h.val) * 2 + g.val) * 256 + d.val
  omega
/-- The combination of the value rows, at the scores less the greatest. -/
theorem out_at (vc : IVec S3x4x1x256 8) (v59 v73 : FVec Ideal S3x4x2x1 .f32) (v75 : FVec Ideal S3x4x2x65536 .f32) (b : Fin 3) (h : Fin 4) (g : Fin 2) (d : Fin 256) :
    k0_pay1 a6 vc v59 v73 v75 a4 (ix3 b 0 ⟨256 * (2 * h.val + g.val) + d.val, by omega⟩)
      = ((∑ x, Ideal.div (Ideal.exp (v75 (ix4 b h g x))) (∑ x, Ideal.exp (v75 (ix4 b h g x)) + Ideal.exp (v59 (ix4 b h g 0) - v73 (ix4 b h g 0)))
              * FloatOps.sitofp (F := Ideal) FTy.bf16 (a4 (ix4 b h x d)))
          + Ideal.div (Ideal.exp (v59 (ix4 b h g 0) - v73 (ix4 b h g 0))) (∑ x, Ideal.exp (v75 (ix4 b h g x)) + Ideal.exp (v59 (ix4 b h g 0) - v73 (ix4 b h g 0)))
              * FloatOps.sitofp (F := Ideal) FTy.bf16 (vc (ix4 b h 0 d))) * a6 (ix1 h) := by
  pointwise [k0_pay1]
  rw [Fin.sum_univ_one]
/-- The new key's stored code. -/
theorem kcode_at (b : Fin 3) (h : Fin 4) (d : Fin 256) :
    k0_pay2 a5 a1 (ix4 b h 0 d) = FloatOps.fptosi (F := Ideal) (φ := .f32) 8 (Cert.Claims.code (a1 (ix4 b h 0 d)) (a5 (ix2 h d))) := by
  pointwise [k0_pay2]
  rfl
/-- The new value's stored code. -/
theorem vcode_at (b : Fin 3) (h : Fin 4) (d : Fin 256) :
    k0_pay3 a6 a2 (ix4 b h 0 d) = FloatOps.fptosi (F := Ideal) (φ := .f32) 8 (Cert.Claims.code (a2 (ix4 b h 0 d)) (a6 (ix1 h))) := by
  pointwise [k0_pay3]
  rfl

end Cert.ReferenceIdeal.Hand
end
-- ==== Proof.Reference.Out.lean ====
/- The reference's results, entry by entry. -/
module
public import proofs.«01_k».proof.Proof.Reference.Rows
public import proofs.«01_k».proof.Proof.Claims.Attn
@[expose] public section
set_option maxRecDepth 65536
set_option maxHeartbeats 4000000
noncomputable section
namespace Cert.ReferenceIdeal.Hand
open Cert.ReferenceIdeal Cert.ReferenceIdeal.Gen Cert.ReferenceIdeal.Value
open Idealize.ShloMosaic Idealize.ShloMosaic.TcCoe Idealize.ShloMosaic.Tactic

variable (a0 : Vec Ideal S3x1x2048 .bf16) (a1 a2 : Vec Ideal S3x4x1x256 .bf16) (a3 a4 : Vec Ideal S3x4x65536x256 .i8)
  (a5 : Vec Ideal S4x256 .f32) (a6 : Vec Ideal S4 .f32) (a7 : Vec Ideal S3 .i32)

theorem codes_eq : k0_pay9 a0 a1 a2 a3 a4 a5 a6 a7 = k0_pay2 a5 a1 := by
  unfold k0_pay9
  rw [View.ld_unit_zero hz5, View.ld_unit_zero hz1]
theorem queries_eq : k0_pay10 a0 a1 a2 a3 a4 a5 a6 a7 = k0_pay4 a0 := by
  unfold k0_pay10
  rw [View.ld_unit_zero hz0]

/-- The attention's result. -/
theorem attn_at (b : Fin 3) (h : Fin 4) (g : Fin 2) (d : Fin 256) :
    G8 a0 a1 a2 a3 a4 a5 a6 a7 (ix3 b 0 ⟨256 * (2 * h.val + g.val) + d.val, by omega⟩)
      = Cert.Claims.attn (a7 (ix1 b)) (fun x => a0 (ix3 b 0 ⟨256 * (2 * h.val + g.val) + x.val, by omega⟩)) (fun p x => a3 (ix4 b h p x))
          (fun x => a5 (ix2 h x)) (fun x => a1 (ix4 b h 0 x)) (fun p => a4 (ix4 b h p d)) (a6 (ix1 h)) (a2 (ix4 b h 0 d)) := by
  unfold G8
  rw [codes_eq, queries_eq, out_at]
  simp only [less_at, max_at, score_at, new_at, kcode_at, vcode_at, query_at, Cert.Claims.sitofp_fptosi_code]
  rfl

end Cert.ReferenceIdeal.Hand
end
-- ==== Proof.lean ====
/- The claims of proof/Defs.lean, from the kernel's run and the reference's. -/
module

public import proofs.«01_k».proof.Defs
public import proofs.«01_k».proof.Proof.Claims.Lengths
public import proofs.«01_k».proof.Proof.KernelIdeal.Stored
public import proofs.«01_k».proof.Proof.Reference.Out
public import proofs.«01_k».proof.Proof.Gen.Kernel

public import proofs.«01_k».proof.Proof.Gen.KernelIdeal
public import proofs.«01_k».proof.Proof.Gen.ReferenceIdeal
public import proofs.«01_k».proof.Proof.Gen.ReferenceIdeal.Value
public import Idealize.ShloMosaic.Adequacy
public import Idealize.ShloMosaic.Init

@[expose] public section

noncomputable section

namespace Cert.Proof

open Idealize.ShloMosaic Idealize.SL.Sem

/-- The reference's key codes are the kernel's. -/
theorem kcodes (a1 : Vec Ideal Cert.ReferenceIdeal.S3x4x1x256 .bf16) (a5 : Vec Ideal Cert.ReferenceIdeal.S4x256 .f32) :
    Cert.ReferenceIdeal.Gen.k0_pay2 a5 a1 = Cert.KernelIdeal.Hand.kcodeS a1 a5 := by
  funext j
  have e : j = ix4 (j 0) (j 1) 0 (j 3) := funext fun a => by
    match a with
    | ⟨0, _⟩ => rfl
    | ⟨1, _⟩ => rfl
    | ⟨2, _⟩ => exact Subsingleton.elim (α := Fin 1) _ _
    | ⟨3, _⟩ => rfl
  rw [e]
  exact Cert.ReferenceIdeal.Hand.kcode_at a1 a5 (j 0) (j 1) (j 3)
/-- The reference's value codes are the kernel's. -/
theorem vcodes (a2 : Vec Ideal Cert.ReferenceIdeal.S3x4x1x256 .bf16) (a6 : Vec Ideal Cert.ReferenceIdeal.S4 .f32) :
    Cert.ReferenceIdeal.Gen.k0_pay3 a6 a2 = Cert.KernelIdeal.Hand.vcodeS a2 a6 := by
  funext j
  have e : j = ix4 (j 0) (j 1) 0 (j 3) := funext fun a => by
    match a with
    | ⟨0, _⟩ => rfl
    | ⟨1, _⟩ => rfl
    | ⟨2, _⟩ => exact Subsingleton.elim (α := Fin 1) _ _
    | ⟨3, _⟩ => rfl
  rw [e]
  exact Cert.ReferenceIdeal.Hand.vcode_at a2 a6 (j 0) (j 1) (j 3)

/-- The reference's attention is the kernel's. -/
theorem outs (a0 : Vec Ideal Cert.ReferenceIdeal.S3x1x2048 .bf16) (a1 a2 : Vec Ideal Cert.ReferenceIdeal.S3x4x1x256 .bf16)
    (a3 a4 : Vec Ideal Cert.ReferenceIdeal.S3x4x65536x256 .i8) (a5 : Vec Ideal Cert.ReferenceIdeal.S4x256 .f32) (a6 : Vec Ideal Cert.ReferenceIdeal.S4 .f32)
    (a7 : Vec Ideal Cert.ReferenceIdeal.S3 .i32) :
    Cert.ReferenceIdeal.Value.G8 a0 a1 a2 a3 a4 a5 a6 a7 = Cert.KernelIdeal.Hand.outS a7 a0 a1 a2 a3 a4 a5 a6 := by
  funext j
  have hj : (j 2).val < 2048 := (j 2).isLt
  have e : j = ix3 (j 0) 0 ⟨256 * (2 * ((j 2).val / 512) + (j 2).val / 256 % 2) + (j 2).val % 256, by omega⟩ := funext fun a => by
    match a with
    | ⟨0, _⟩ => rfl
    | ⟨1, _⟩ => exact Subsingleton.elim (α := Fin 1) _ _
    | ⟨2, _⟩ => exact Fin.ext (by show (j 2).val = 256 * (2 * ((j 2).val / 512) + (j 2).val / 256 % 2) + (j 2).val % 256; omega)
  obtain ⟨b, h, g, d, e⟩ : ∃ (b : Fin 3) (h : Fin 4) (g : Fin 2) (d : Fin 256), j = ix3 b 0 ⟨256 * (2 * h.val + g.val) + d.val, by omega⟩ :=
    ⟨j 0, ⟨(j 2).val / 512, by omega⟩, ⟨(j 2).val / 256 % 2, by omega⟩, ⟨(j 2).val % 256, by omega⟩, e⟩
  rw [e]
  refine (Cert.ReferenceIdeal.Hand.attn_at a0 a1 a2 a3 a4 a5 a6 a7 b h g d).trans ?_
  refine Eq.trans ?_ (Cert.KernelIdeal.Hand.outS_at a7 a0 a1 a2 a3 a4 a5 a6 b ⟨2 * h.val + g.val, by omega⟩ d).symm
  have e : (⟨(2 * h.val + g.val) / 2, by omega⟩ : Fin 4) = h := Fin.ext (by show (2 * h.val + g.val) / 2 = h.val; omega)
  simp only [e]

/-- Everything claimed. -/
theorem claim : Cert.Claim := by
  letI := Cert.Claims.preFacts
  refine ⟨Cert.Kernel.Gen.facts, Cert.KernelIdeal.Gen.facts, Cert.ReferenceIdeal.Gen.facts, Cert.Claims.preFacts, ?_, ?_, ?_, trivial, ?_⟩
  · intro m g h
    have hm := Cert.Claims.lens_kernel m h
    exact (θ_run _ _ _).mono (fun r e => ⟨fun c => Cert.Kernel.Hand.ends m hm r e.1 c, e.2⟩) (Cert.Kernel.Hand.run_main m g hm)
  · intro m g h
    have hm := Cert.Claims.lens_ideal m h
    exact (θ_run _ _ _).mono (fun r e => ⟨fun c => Cert.KernelIdeal.Hand.ends m hm r e.1 c, e.2⟩) (Cert.KernelIdeal.Hand.run_main m g hm)
  · exact fun m g _ => Cert.ReferenceIdeal.Gen.frame m g
  · intro m g m' g' h ha
    have hm := Cert.Claims.lens_ideal m h
    refine ⟨fun c => _, fun c => _, fun c => _,
      (θ_run _ _ _).mono (fun r e c => ⟨Cert.KernelIdeal.Hand.ends_out m hm r e.1 c, (Cert.KernelIdeal.Hand.ends_codes m hm r e.1 c).1, (Cert.KernelIdeal.Hand.ends_codes m hm r e.1 c).2, Cert.KernelIdeal.Hand.ends m hm r e.1 c⟩) (Cert.KernelIdeal.Hand.run_main m g hm),
      (θ_run _ _ _).mono (fun r e c => ?_) (Cert.ReferenceIdeal.Value.run m' g')⟩
    obtain ⟨h0, h1, h2, h3, h4, h5, h6, h7⟩ := ha c
    obtain ⟨e8, e9, e10, e⟩ := e c
    refine ⟨?_, ?_, ?_, e⟩
    · exact e8.trans ((outs _ _ _ _ _ _ _ _).trans (by rw [h0, h1, h2, h3, h4, h5, h6, h7]))
    · exact e9.trans ((kcodes _ _).trans (by rw [h1, h5]))
    · exact e10.trans ((vcodes _ _).trans (by rw [h2, h6]))

end Cert.Proof

end
